-- ==== Defs.lean ====
def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem_attn [hPre_finite_mem_attn : Cert.Pre_finite_mem_attn.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem_attn.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).1 = (fun _ => 1#1)
    ∧ (Cert.Pre_finite_mem_attn.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).2.1 = (fun _ => 1#1)
    ∧ (Cert.Pre_finite_mem_attn.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).2.2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem_attn [hPre_finite_mem_attn : Cert.Pre_finite_mem_attn.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem_attn.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).1 = (fun _ => 1#1)
    ∧ (Cert.Pre_finite_mem_attn.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).2.1 = (fun _ => 1#1)
    ∧ (Cert.Pre_finite_mem_attn.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3))).2.2 = (fun _ => 1#1)

def Pre_DkvCombine (m : (ℓ : Loc Cert.DkvCombine.nD Cert.DkvCombine.τ Cert.DkvCombine.sig) → Buf (Elt Bits) ℓ) : Prop :=
  True

def Pre_DkvCombineIdeal (m : (ℓ : Loc Cert.DkvCombineIdeal.nD Cert.DkvCombineIdeal.τ Cert.DkvCombineIdeal.sig) → Buf (Elt Ideal) ℓ) : Prop :=
  True

def Pre_DkvCombineRefIdeal (m : (ℓ : Loc Cert.DkvCombineRefIdeal.nD Cert.DkvCombineRefIdeal.τ Cert.DkvCombineRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.2 = (fun _ => 1#1)

def Pre_Resid2 (m : (ℓ : Loc Cert.Resid2.nD Cert.Resid2.τ Cert.Resid2.sig) → Buf (Elt Bits) ℓ) : Prop :=
  True

def Pre_Resid2Ideal (m : (ℓ : Loc Cert.Resid2Ideal.nD Cert.Resid2Ideal.τ Cert.Resid2Ideal.sig) → Buf (Elt Ideal) ℓ) : Prop :=
  True

def Pre_Resid2Ideal_finite_resid2 [hPre_finite_resid2 : Cert.Pre_finite_resid2.Facts] (m : (ℓ : Loc Cert.Resid2Ideal.nD Cert.Resid2Ideal.τ Cert.Resid2Ideal.sig) → Buf (Elt Ideal) ℓ) : Prop :=
  ∀ c : Dev Cert.Resid2Ideal.nD,
    (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.2.2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.2.2.2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.2.2.2.2.1 = (fun _ => 1#1)
    ∧ (Cert.Pre_finite_resid2.fn (F := Ideal) (m ((c.tc : Thread Cert.Resid2Ideal.nD Cert.Resid2Ideal.τ).loc Cert.Resid2Ideal.main_arg0)) (m ((c.tc : Thread Cert.Resid2Ideal.nD Cert.Resid2Ideal.τ).loc Cert.Resid2Ideal.main_arg1)) (m ((c.tc : Thread Cert.Resid2Ideal.nD Cert.Resid2Ideal.τ).loc Cert.Resid2Ideal.main_arg2)) (m ((c.tc : Thread Cert.Resid2Ideal.nD Cert.Resid2Ideal.τ).loc Cert.Resid2Ideal.main_arg3)) (m ((c.tc : Thread Cert.Resid2Ideal.nD Cert.Resid2Ideal.τ).loc Cert.Resid2Ideal.main_arg4)) (m ((c.tc : Thread Cert.Resid2Ideal.nD Cert.Resid2Ideal.τ).loc Cert.Resid2Ideal.main_arg5)) (m ((c.tc : Thread Cert.Resid2Ideal.nD Cert.Resid2Ideal.τ).loc Cert.Resid2Ideal.main_arg6)) (m ((c.tc : Thread Cert.Resid2Ideal.nD Cert.Resid2Ideal.τ).loc Cert.Resid2Ideal.main_arg7))).2.2.2.2.2.2.2 = (fun _ => 1#1)

def Pre_Resid2RefIdeal (m : (ℓ : Loc Cert.Resid2RefIdeal.nD Cert.Resid2RefIdeal.τ Cert.Resid2RefIdeal.sig) → Buf (Elt Ideal) ℓ) : Prop :=
  True

def Pre_Resid2RefIdeal_finite_resid2 [hPre_finite_resid2 : Cert.Pre_finite_resid2.Facts] (m : (ℓ : Loc Cert.Resid2RefIdeal.nD Cert.Resid2RefIdeal.τ Cert.Resid2RefIdeal.sig) → Buf (Elt Ideal) ℓ) : Prop :=
  ∀ c : Dev Cert.Resid2RefIdeal.nD,
    (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.2.2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.2.2.2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.2.2.2.2.1 = (fun _ => 1#1)
    ∧ (Cert.Pre_finite_resid2.fn (F := Ideal) (m ((c.tc : Thread Cert.Resid2RefIdeal.nD Cert.Resid2RefIdeal.τ).loc Cert.Resid2RefIdeal.main_arg0)) (m ((c.tc : Thread Cert.Resid2RefIdeal.nD Cert.Resid2RefIdeal.τ).loc Cert.Resid2RefIdeal.main_arg1)) (m ((c.tc : Thread Cert.Resid2RefIdeal.nD Cert.Resid2RefIdeal.τ).loc Cert.Resid2RefIdeal.main_arg2)) (m ((c.tc : Thread Cert.Resid2RefIdeal.nD Cert.Resid2RefIdeal.τ).loc Cert.Resid2RefIdeal.main_arg3)) (m ((c.tc : Thread Cert.Resid2RefIdeal.nD Cert.Resid2RefIdeal.τ).loc Cert.Resid2RefIdeal.main_arg4)) (m ((c.tc : Thread Cert.Resid2RefIdeal.nD Cert.Resid2RefIdeal.τ).loc Cert.Resid2RefIdeal.main_arg5)) (m ((c.tc : Thread Cert.Resid2RefIdeal.nD Cert.Resid2RefIdeal.τ).loc Cert.Resid2RefIdeal.main_arg6)) (m ((c.tc : Thread Cert.Resid2RefIdeal.nD Cert.Resid2RefIdeal.τ).loc Cert.Resid2RefIdeal.main_arg7))).2.2.2.2.2.2.2 = (fun _ => 1#1)

def Pre_MixResid (m : (ℓ : Loc Cert.MixResid.nD Cert.MixResid.τ Cert.MixResid.sig) → Buf (Elt Bits) ℓ) : Prop :=
  True

def Pre_MixResidIdeal (m : (ℓ : Loc Cert.MixResidIdeal.nD Cert.MixResidIdeal.τ Cert.MixResidIdeal.sig) → Buf (Elt Ideal) ℓ) : Prop :=
  True

def Pre_MixResidIdeal_finite_mix_resid [hPre_finite_mix_resid : Cert.Pre_finite_mix_resid.Facts] (m : (ℓ : Loc Cert.MixResidIdeal.nD Cert.MixResidIdeal.τ Cert.MixResidIdeal.sig) → Buf (Elt Ideal) ℓ) : Prop :=
  ∀ c : Dev Cert.MixResidIdeal.nD,
    (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).1 = (fun _ => 1#1)
    ∧ (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).2.1 = (fun _ => 1#1)
    ∧ (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).2.2.1 = (fun _ => 1#1)
    ∧ (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).2.2.2.1 = (fun _ => 1#1)
    ∧ (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).2.2.2.2.1 = (fun _ => 1#1)
    ∧ (Cert.Pre_finite_mix_resid.fn (F := Ideal) (m ((c.tc : Thread Cert.MixResidIdeal.nD Cert.MixResidIdeal.τ).loc Cert.MixResidIdeal.main_arg0)) (m ((c.tc : Thread Cert.MixResidIdeal.nD Cert.MixResidIdeal.τ).loc Cert.MixResidIdeal.main_arg1)) (m ((c.tc : Thread Cert.MixResidIdeal.nD Cert.MixResidIdeal.τ).loc Cert.MixResidIdeal.main_arg2)) (m ((c.tc : Thread Cert.MixResidIdeal.nD Cert.MixResidIdeal.τ).loc Cert.MixResidIdeal.main_arg3)) (m ((c.tc : Thread Cert.MixResidIdeal.nD Cert.MixResidIdeal.τ).loc Cert.MixResidIdeal.main_arg4)) (m ((c.tc : Thread Cert.MixResidIdeal.nD Cert.MixResidIdeal.τ).loc Cert.MixResidIdeal.main_arg5))).2.2.2.2.2 = (fun _ => 1#1)

def Pre_MixResidRefIdeal (m : (ℓ : Loc Cert.MixResidRefIdeal.nD Cert.MixResidRefIdeal.τ Cert.MixResidRefIdeal.sig) → Buf (Elt Ideal) ℓ) : Prop :=
  True

def Pre_MixResidRefIdeal_finite_mix_resid [hPre_finite_mix_resid : Cert.Pre_finite_mix_resid.Facts] (m : (ℓ : Loc Cert.MixResidRefIdeal.nD Cert.MixResidRefIdeal.τ Cert.MixResidRefIdeal.sig) → Buf (Elt Ideal) ℓ) : Prop :=
  ∀ c : Dev Cert.MixResidRefIdeal.nD,
    (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).1 = (fun _ => 1#1)
    ∧ (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).2.1 = (fun _ => 1#1)
    ∧ (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).2.2.1 = (fun _ => 1#1)
    ∧ (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).2.2.2.1 = (fun _ => 1#1)
    ∧ (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).2.2.2.2.1 = (fun _ => 1#1)
    ∧ (Cert.Pre_finite_mix_resid.fn (F := Ideal) (m ((c.tc : Thread Cert.MixResidRefIdeal.nD Cert.MixResidRefIdeal.τ).loc Cert.MixResidRefIdeal.main_arg0)) (m ((c.tc : Thread Cert.MixResidRefIdeal.nD Cert.MixResidRefIdeal.τ).loc Cert.MixResidRefIdeal.main_arg1)) (m ((c.tc : Thread Cert.MixResidRefIdeal.nD Cert.MixResidRefIdeal.τ).loc Cert.MixResidRefIdeal.main_arg2)) (m ((c.tc : Thread Cert.MixResidRefIdeal.nD Cert.MixResidRefIdeal.τ).loc Cert.MixResidRefIdeal.main_arg3)) (m ((c.tc : Thread Cert.MixResidRefIdeal.nD Cert.MixResidRefIdeal.τ).loc Cert.MixResidRefIdeal.main_arg4)) (m ((c.tc : Thread Cert.MixResidRefIdeal.nD Cert.MixResidRefIdeal.τ).loc Cert.MixResidRefIdeal.main_arg5))).2.2.2.2.2 = (fun _ => 1#1)

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormIdeal_finite_in_norm [hPre_finite_in_norm : Cert.Pre_finite_in_norm.Facts] (m : (ℓ : Loc Cert.InNormIdeal.nD Cert.InNormIdeal.τ Cert.InNormIdeal.sig) → Buf (Elt Ideal) ℓ) : Prop :=
  ∀ c : Dev Cert.InNormIdeal.nD,
    (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3))).1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3))).2.1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3))).2.2.1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3))).2.2.2 = (fun _ => 1#1)

def Pre_InNormRefIdeal (m : (ℓ : Loc Cert.InNormRefIdeal.nD Cert.InNormRefIdeal.τ Cert.InNormRefIdeal.sig) → Buf (Elt Ideal) ℓ) : Prop :=
  True

def Pre_InNormRefIdeal_finite_in_norm [hPre_finite_in_norm : Cert.Pre_finite_in_norm.Facts] (m : (ℓ : Loc Cert.InNormRefIdeal.nD Cert.InNormRefIdeal.τ Cert.InNormRefIdeal.sig) → Buf (Elt Ideal) ℓ) : Prop :=
  ∀ c : Dev Cert.InNormRefIdeal.nD,
    (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3))).1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3))).2.1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3))).2.2.1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3))).2.2.2 = (fun _ => 1#1)

def Pre_MemAttnA (m : (ℓ : Loc Cert.MemAttnA.nD Cert.MemAttnA.τ Cert.MemAttnA.sig) → Buf (Elt Bits) ℓ) : Prop :=
  True

def Pre_MemAttnAIdeal (m : (ℓ : Loc Cert.MemAttnAIdeal.nD Cert.MemAttnAIdeal.τ Cert.MemAttnAIdeal.sig) → Buf (Elt Ideal) ℓ) : Prop :=
  True

def Pre_MemAttnAIdeal_finite_mem_attn_a [hPre_finite_mem_attn_a : Cert.Pre_finite_mem_attn_a.Facts] (m : (ℓ : Loc Cert.MemAttnAIdeal.nD Cert.MemAttnAIdeal.τ Cert.MemAttnAIdeal.sig) → Buf (Elt Ideal) ℓ) : Prop :=
  ∀ c : Dev Cert.MemAttnAIdeal.nD,
    (Cert.Pre_finite_mem_attn_a.fn (F := Ideal) (m ((c.tc : Thread Cert.MemAttnAIdeal.nD Cert.MemAttnAIdeal.τ).loc Cert.MemAttnAIdeal.main_arg0)) (m ((c.tc : Thread Cert.MemAttnAIdeal.nD Cert.MemAttnAIdeal.τ).loc Cert.MemAttnAIdeal.main_arg1)) (m ((c.tc : Thread Cert.MemAttnAIdeal.nD Cert.MemAttnAIdeal.τ).loc Cert.MemAttnAIdeal.main_arg2)) (m ((c.tc : Thread Cert.MemAttnAIdeal.nD Cert.MemAttnAIdeal.τ).loc Cert.MemAttnAIdeal.main_arg3))).1 = (fun _ => 1#1)
    ∧ (Cert.Pre_finite_mem_attn_a.fn (F := Ideal) (m ((c.tc : Thread Cert.MemAttnAIdeal.nD Cert.MemAttnAIdeal.τ).loc Cert.MemAttnAIdeal.main_arg0)) (m ((c.tc : Thread Cert.MemAttnAIdeal.nD Cert.MemAttnAIdeal.τ).loc Cert.MemAttnAIdeal.main_arg1)) (m ((c.tc : Thread Cert.MemAttnAIdeal.nD Cert.MemAttnAIdeal.τ).loc Cert.MemAttnAIdeal.main_arg2)) (m ((c.tc : Thread Cert.MemAttnAIdeal.nD Cert.MemAttnAIdeal.τ).loc Cert.MemAttnAIdeal.main_arg3))).2.1 = (fun _ => 1#1)
    ∧ (Cert.Pre_finite_mem_attn_a.fn (F := Ideal) (m ((c.tc : Thread Cert.MemAttnAIdeal.nD Cert.MemAttnAIdeal.τ).loc Cert.MemAttnAIdeal.main_arg0)) (m ((c.tc : Thread Cert.MemAttnAIdeal.nD Cert.MemAttnAIdeal.τ).loc Cert.MemAttnAIdeal.main_arg1)) (m ((c.tc : Thread Cert.MemAttnAIdeal.nD Cert.MemAttnAIdeal.τ).loc Cert.MemAttnAIdeal.main_arg2)) (m ((c.tc : Thread Cert.MemAttnAIdeal.nD Cert.MemAttnAIdeal.τ).loc Cert.MemAttnAIdeal.main_arg3))).2.2 = (fun _ => 1#1)

def Pre_MemAttnARefIdeal (m : (ℓ : Loc Cert.MemAttnARefIdeal.nD Cert.MemAttnARefIdeal.τ Cert.MemAttnARefIdeal.sig) → Buf (Elt Ideal) ℓ) : Prop :=
  True

def Pre_MemAttnARefIdeal_finite_mem_attn_a [hPre_finite_mem_attn_a : Cert.Pre_finite_mem_attn_a.Facts] (m : (ℓ : Loc Cert.MemAttnARefIdeal.nD Cert.MemAttnARefIdeal.τ Cert.MemAttnARefIdeal.sig) → Buf (Elt Ideal) ℓ) : Prop :=
  ∀ c : Dev Cert.MemAttnARefIdeal.nD,
    (Cert.Pre_finite_mem_attn_a.fn (F := Ideal) (m ((c.tc : Thread Cert.MemAttnARefIdeal.nD Cert.MemAttnARefIdeal.τ).loc Cert.MemAttnARefIdeal.main_arg0)) (m ((c.tc : Thread Cert.MemAttnARefIdeal.nD Cert.MemAttnARefIdeal.τ).loc Cert.MemAttnARefIdeal.main_arg1)) (m ((c.tc : Thread Cert.MemAttnARefIdeal.nD Cert.MemAttnARefIdeal.τ).loc Cert.MemAttnARefIdeal.main_arg2)) (m ((c.tc : Thread Cert.MemAttnARefIdeal.nD Cert.MemAttnARefIdeal.τ).loc Cert.MemAttnARefIdeal.main_arg3))).1 = (fun _ => 1#1)
    ∧ (Cert.Pre_finite_mem_attn_a.fn (F := Ideal) (m ((c.tc : Thread Cert.MemAttnARefIdeal.nD Cert.MemAttnARefIdeal.τ).loc Cert.MemAttnARefIdeal.main_arg0)) (m ((c.tc : Thread Cert.MemAttnARefIdeal.nD Cert.MemAttnARefIdeal.τ).loc Cert.MemAttnARefIdeal.main_arg1)) (m ((c.tc : Thread Cert.MemAttnARefIdeal.nD Cert.MemAttnARefIdeal.τ).loc Cert.MemAttnARefIdeal.main_arg2)) (m ((c.tc : Thread Cert.MemAttnARefIdeal.nD Cert.MemAttnARefIdeal.τ).loc Cert.MemAttnARefIdeal.main_arg3))).2.1 = (fun _ => 1#1)
    ∧ (Cert.Pre_finite_mem_attn_a.fn (F := Ideal) (m ((c.tc : Thread Cert.MemAttnARefIdeal.nD Cert.MemAttnARefIdeal.τ).loc Cert.MemAttnARefIdeal.main_arg0)) (m ((c.tc : Thread Cert.MemAttnARefIdeal.nD Cert.MemAttnARefIdeal.τ).loc Cert.MemAttnARefIdeal.main_arg1)) (m ((c.tc : Thread Cert.MemAttnARefIdeal.nD Cert.MemAttnARefIdeal.τ).loc Cert.MemAttnARefIdeal.main_arg2)) (m ((c.tc : Thread Cert.MemAttnARefIdeal.nD Cert.MemAttnARefIdeal.τ).loc Cert.MemAttnARefIdeal.main_arg3))).2.2 = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite_ffn_act [hPre_finite_ffn_act : Cert.Pre_finite_ffn_act.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.2.1 = (fun _ => 1#1)
    ∧ (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_finite_ffn_act [hPre_finite_ffn_act : Cert.Pre_finite_ffn_act.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.2.1 = (fun _ => 1#1)
    ∧ (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.2.2 = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_swa_fwd [hPre_finite_swa_fwd : Cert.Pre_finite_swa_fwd.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_swa_fwd.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).1 = (fun _ => 1#1)
    ∧ (Cert.Pre_finite_swa_fwd.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).2.1 = (fun _ => 1#1)
    ∧ (Cert.Pre_finite_swa_fwd.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))).2.2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_finite_swa_fwd [hPre_finite_swa_fwd : Cert.Pre_finite_swa_fwd.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_finite_swa_fwd.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).1 = (fun _ => 1#1)
    ∧ (Cert.Pre_finite_swa_fwd.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).2.1 = (fun _ => 1#1)
    ∧ (Cert.Pre_finite_swa_fwd.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))).2.2 = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_MemFwdA (m : (ℓ : Loc Cert.MemFwdA.nD Cert.MemFwdA.τ Cert.MemFwdA.sig) → Buf (Elt Bits) ℓ) : Prop :=
  True

def Pre_MemFwdAIdeal (m : (ℓ : Loc Cert.MemFwdAIdeal.nD Cert.MemFwdAIdeal.τ Cert.MemFwdAIdeal.sig) → Buf (Elt Ideal) ℓ) : Prop :=
  True

def Pre_MemFwdARefIdeal (m : (ℓ : Loc Cert.MemFwdARefIdeal.nD Cert.MemFwdARefIdeal.τ Cert.MemFwdARefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_Resid2Fwd (m : (ℓ : Loc Cert.Resid2Fwd.nD Cert.Resid2Fwd.τ Cert.Resid2Fwd.sig) → Buf (Elt Bits) ℓ) : Prop :=
  True

def Pre_Resid2FwdIdeal (m : (ℓ : Loc Cert.Resid2FwdIdeal.nD Cert.Resid2FwdIdeal.τ Cert.Resid2FwdIdeal.sig) → Buf (Elt Ideal) ℓ) : Prop :=
  True

def Pre_Resid2FwdRefIdeal (m : (ℓ : Loc Cert.Resid2FwdRefIdeal.nD Cert.Resid2FwdRefIdeal.τ Cert.Resid2FwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2))).1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2))).2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2))).2.2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2))).1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2))).2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2))).2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamLayer (m : (ℓ : Loc Cert.AdamLayer.nD Cert.AdamLayer.τ Cert.AdamLayer.sig) → Buf (Elt Bits) ℓ) : Prop :=
  True

def Pre_AdamLayerIdeal (m : (ℓ : Loc Cert.AdamLayerIdeal.nD Cert.AdamLayerIdeal.τ Cert.AdamLayerIdeal.sig) → Buf (Elt Ideal) ℓ) : Prop :=
  True

def Pre_AdamLayerRefIdeal (m : (ℓ : Loc Cert.AdamLayerRefIdeal.nD Cert.AdamLayerRefIdeal.τ Cert.AdamLayerRefIdeal.sig) → Buf (Elt Ideal) ℓ) : Prop :=
  True

def Pre_RsPair [hPre_at_origin : Cert.Pre_at_origin.Facts] (m : (ℓ : Loc Cert.RsPair.nD Cert.RsPair.τ Cert.RsPair.sig) → Buf (Elt Bits) ℓ) : Prop :=
  ∀ c : Dev Cert.RsPair.nD,
    (Cert.Pre_at_origin.fn (F := Bits) (m ((c.tc : Thread Cert.RsPair.nD Cert.RsPair.τ).loc Cert.RsPair.main_arg0)) (m ((c.tc : Thread Cert.RsPair.nD Cert.RsPair.τ).loc Cert.RsPair.main_arg1)) (m ((c.tc : Thread Cert.RsPair.nD Cert.RsPair.τ).loc Cert.RsPair.main_arg2))) = (fun _ => 1#1)

def Pre_RsPairIdeal [hPre_at_origin : Cert.Pre_at_origin.Facts] (m : (ℓ : Loc Cert.RsPairIdeal.nD Cert.RsPairIdeal.τ Cert.RsPairIdeal.sig) → Buf (Elt Ideal) ℓ) : Prop :=
  ∀ c : Dev Cert.RsPairIdeal.nD,
    (Cert.Pre_at_origin.fn (F := Ideal) (m ((c.tc : Thread Cert.RsPairIdeal.nD Cert.RsPairIdeal.τ).loc Cert.RsPairIdeal.main_arg0)) (m ((c.tc : Thread Cert.RsPairIdeal.nD Cert.RsPairIdeal.τ).loc Cert.RsPairIdeal.main_arg1)) (m ((c.tc : Thread Cert.RsPairIdeal.nD Cert.RsPairIdeal.τ).loc Cert.RsPairIdeal.main_arg2))) = (fun _ => 1#1)

def Pre_RsPairRefIdeal (m : (ℓ : Loc Cert.RsPairRefIdeal.nD Cert.RsPairRefIdeal.τ Cert.RsPairRefIdeal.sig) → Buf (Elt Ideal) ℓ) : Prop :=
  True

def Pre_RsPairRefIdeal_at_origin [hPre_at_origin : Cert.Pre_at_origin.Facts] (m : (ℓ : Loc Cert.RsPairRefIdeal.nD Cert.RsPairRefIdeal.τ Cert.RsPairRefIdeal.sig) → Buf (Elt Ideal) ℓ) : Prop :=
  ∀ c : Dev Cert.RsPairRefIdeal.nD,
    (Cert.Pre_at_origin.fn (F := Ideal) (m ((c.tc : Thread Cert.RsPairRefIdeal.nD Cert.RsPairRefIdeal.τ).loc Cert.RsPairRefIdeal.main_arg0)) (m ((c.tc : Thread Cert.RsPairRefIdeal.nD Cert.RsPairRefIdeal.τ).loc Cert.RsPairRefIdeal.main_arg1)) (m ((c.tc : Thread Cert.RsPairRefIdeal.nD Cert.RsPairRefIdeal.τ).loc Cert.RsPairRefIdeal.main_arg2))) = (fun _ => 1#1)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_mem_attn [hMemAttnIdeal : Cert.MemAttnIdeal.Facts] [hPre_finite_mem_attn : Cert.Pre_finite_mem_attn.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem_attn m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_MemAttnRefIdeal_pre_finite_mem_attn [hMemAttnRefIdeal : Cert.MemAttnRefIdeal.Facts] [hPre_finite_mem_attn : Cert.Pre_finite_mem_attn.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem_attn m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_DkvCombine [hDkvCombine : Cert.DkvCombine.Facts] : Prop :=
  ∀ (m : (ℓ : Loc Cert.DkvCombine.nD Cert.DkvCombine.τ Cert.DkvCombine.sig) → Buf (Elt Bits) ℓ) (g : Dev Cert.DkvCombine.nD → PrngReg), Pre_DkvCombine m →
    θ_run (Cert.DkvCombine.defs (F := Bits)) (onTc (τ := Cert.DkvCombine.τ) (Cert.DkvCombine.main (F := Bits))) ⟨m, fun _ => 0, g⟩ (fun r => (∀ c : Dev Cert.DkvCombine.nD,
      r.2.mem ((c.tc : Thread Cert.DkvCombine.nD Cert.DkvCombine.τ).loc Cert.DkvCombine.main_arg0) = m ((c.tc : Thread Cert.DkvCombine.nD Cert.DkvCombine.τ).loc Cert.DkvCombine.main_arg0)
      ∧ r.2.mem ((c.tc : Thread Cert.DkvCombine.nD Cert.DkvCombine.τ).loc Cert.DkvCombine.main_arg1) = m ((c.tc : Thread Cert.DkvCombine.nD Cert.DkvCombine.τ).loc Cert.DkvCombine.main_arg1)
      ∧ r.2.mem ((c.tc : Thread Cert.DkvCombine.nD Cert.DkvCombine.τ).loc Cert.DkvCombine.main_arg2) = m ((c.tc : Thread Cert.DkvCombine.nD Cert.DkvCombine.τ).loc Cert.DkvCombine.main_arg2)
      ∧ r.2.mem ((c.tc : Thread Cert.DkvCombine.nD Cert.DkvCombine.τ).loc Cert.DkvCombine.main_arg3) = m ((c.tc : Thread Cert.DkvCombine.nD Cert.DkvCombine.τ).loc Cert.DkvCombine.main_arg3))
      ∧ r.2.sem = fun _ => 0)

def quiescent_DkvCombineIdeal [hDkvCombineIdeal : Cert.DkvCombineIdeal.Facts] : Prop :=
  ∀ (m : (ℓ : Loc Cert.DkvCombineIdeal.nD Cert.DkvCombineIdeal.τ Cert.DkvCombineIdeal.sig) → Buf (Elt Ideal) ℓ) (g : Dev Cert.DkvCombineIdeal.nD → PrngReg), Pre_DkvCombineIdeal m →
    θ_run (Cert.DkvCombineIdeal.defs (F := Ideal)) (onTc (τ := Cert.DkvCombineIdeal.τ) (Cert.DkvCombineIdeal.main (F := Ideal))) ⟨m, fun _ => 0, g⟩ (fun r => (∀ c : Dev Cert.DkvCombineIdeal.nD,
      r.2.mem ((c.tc : Thread Cert.DkvCombineIdeal.nD Cert.DkvCombineIdeal.τ).loc Cert.DkvCombineIdeal.main_arg0) = m ((c.tc : Thread Cert.DkvCombineIdeal.nD Cert.DkvCombineIdeal.τ).loc Cert.DkvCombineIdeal.main_arg0)
      ∧ r.2.mem ((c.tc : Thread Cert.DkvCombineIdeal.nD Cert.DkvCombineIdeal.τ).loc Cert.DkvCombineIdeal.main_arg1) = m ((c.tc : Thread Cert.DkvCombineIdeal.nD Cert.DkvCombineIdeal.τ).loc Cert.DkvCombineIdeal.main_arg1)
      ∧ r.2.mem ((c.tc : Thread Cert.DkvCombineIdeal.nD Cert.DkvCombineIdeal.τ).loc Cert.DkvCombineIdeal.main_arg2) = m ((c.tc : Thread Cert.DkvCombineIdeal.nD Cert.DkvCombineIdeal.τ).loc Cert.DkvCombineIdeal.main_arg2)
      ∧ r.2.mem ((c.tc : Thread Cert.DkvCombineIdeal.nD Cert.DkvCombineIdeal.τ).loc Cert.DkvCombineIdeal.main_arg3) = m ((c.tc : Thread Cert.DkvCombineIdeal.nD Cert.DkvCombineIdeal.τ).loc Cert.DkvCombineIdeal.main_arg3))
      ∧ r.2.sem = fun _ => 0)

def quiescent_DkvCombineRefIdeal [hDkvCombineRefIdeal : Cert.DkvCombineRefIdeal.Facts] : Prop :=
  ∀ (m : (ℓ : Loc Cert.DkvCombineRefIdeal.nD Cert.DkvCombineRefIdeal.τ Cert.DkvCombineRefIdeal.sig) → Buf (Elt Ideal) ℓ) (g : Dev Cert.DkvCombineRefIdeal.nD → PrngReg), Pre_DkvCombineRefIdeal m →
    θ_run (Cert.DkvCombineRefIdeal.defs (F := Ideal)) (onTc (τ := Cert.DkvCombineRefIdeal.τ) (Cert.DkvCombineRefIdeal.main (F := Ideal))) ⟨m, fun _ => 0, g⟩ (fun r => (∀ c : Dev Cert.DkvCombineRefIdeal.nD,
      r.2.mem ((c.tc : Thread Cert.DkvCombineRefIdeal.nD Cert.DkvCombineRefIdeal.τ).loc Cert.DkvCombineRefIdeal.main_arg0) = m ((c.tc : Thread Cert.DkvCombineRefIdeal.nD Cert.DkvCombineRefIdeal.τ).loc Cert.DkvCombineRefIdeal.main_arg0)
      ∧ r.2.mem ((c.tc : Thread Cert.DkvCombineRefIdeal.nD Cert.DkvCombineRefIdeal.τ).loc Cert.DkvCombineRefIdeal.main_arg1) = m ((c.tc : Thread Cert.DkvCombineRefIdeal.nD Cert.DkvCombineRefIdeal.τ).loc Cert.DkvCombineRefIdeal.main_arg1)
      ∧ r.2.mem ((c.tc : Thread Cert.DkvCombineRefIdeal.nD Cert.DkvCombineRefIdeal.τ).loc Cert.DkvCombineRefIdeal.main_arg2) = m ((c.tc : Thread Cert.DkvCombineRefIdeal.nD Cert.DkvCombineRefIdeal.τ).loc Cert.DkvCombineRefIdeal.main_arg2)
      ∧ r.2.mem ((c.tc : Thread Cert.DkvCombineRefIdeal.nD Cert.DkvCombineRefIdeal.τ).loc Cert.DkvCombineRefIdeal.main_arg3) = m ((c.tc : Thread Cert.DkvCombineRefIdeal.nD Cert.DkvCombineRefIdeal.τ).loc Cert.DkvCombineRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Resid2 [hResid2 : Cert.Resid2.Facts] : Prop :=
  ∀ (m : (ℓ : Loc Cert.Resid2.nD Cert.Resid2.τ Cert.Resid2.sig) → Buf (Elt Bits) ℓ) (g : Dev Cert.Resid2.nD → PrngReg), Pre_Resid2 m →
    θ_run (Cert.Resid2.defs (F := Bits)) (onTc (τ := Cert.Resid2.τ) (Cert.Resid2.main (F := Bits))) ⟨m, fun _ => 0, g⟩ (fun r => (∀ c : Dev Cert.Resid2.nD,
      r.2.mem ((c.tc : Thread Cert.Resid2.nD Cert.Resid2.τ).loc Cert.Resid2.main_arg0) = m ((c.tc : Thread Cert.Resid2.nD Cert.Resid2.τ).loc Cert.Resid2.main_arg0)
      ∧ r.2.mem ((c.tc : Thread Cert.Resid2.nD Cert.Resid2.τ).loc Cert.Resid2.main_arg1) = m ((c.tc : Thread Cert.Resid2.nD Cert.Resid2.τ).loc Cert.Resid2.main_arg1)
      ∧ r.2.mem ((c.tc : Thread Cert.Resid2.nD Cert.Resid2.τ).loc Cert.Resid2.main_arg2) = m ((c.tc : Thread Cert.Resid2.nD Cert.Resid2.τ).loc Cert.Resid2.main_arg2)
      ∧ r.2.mem ((c.tc : Thread Cert.Resid2.nD Cert.Resid2.τ).loc Cert.Resid2.main_arg3) = m ((c.tc : Thread Cert.Resid2.nD Cert.Resid2.τ).loc Cert.Resid2.main_arg3)
      ∧ r.2.mem ((c.tc : Thread Cert.Resid2.nD Cert.Resid2.τ).loc Cert.Resid2.main_arg4) = m ((c.tc : Thread Cert.Resid2.nD Cert.Resid2.τ).loc Cert.Resid2.main_arg4)
      ∧ r.2.mem ((c.tc : Thread Cert.Resid2.nD Cert.Resid2.τ).loc Cert.Resid2.main_arg5) = m ((c.tc : Thread Cert.Resid2.nD Cert.Resid2.τ).loc Cert.Resid2.main_arg5)
      ∧ r.2.mem ((c.tc : Thread Cert.Resid2.nD Cert.Resid2.τ).loc Cert.Resid2.main_arg6) = m ((c.tc : Thread Cert.Resid2.nD Cert.Resid2.τ).loc Cert.Resid2.main_arg6)
      ∧ r.2.mem ((c.tc : Thread Cert.Resid2.nD Cert.Resid2.τ).loc Cert.Resid2.main_arg7) = m ((c.tc : Thread Cert.Resid2.nD Cert.Resid2.τ).loc Cert.Resid2.main_arg7))
      ∧ r.2.sem = fun _ => 0)

def quiescent_Resid2Ideal [hResid2Ideal : Cert.Resid2Ideal.Facts] : Prop :=
  ∀ (m : (ℓ : Loc Cert.Resid2Ideal.nD Cert.Resid2Ideal.τ Cert.Resid2Ideal.sig) → Buf (Elt Ideal) ℓ) (g : Dev Cert.Resid2Ideal.nD → PrngReg), Pre_Resid2Ideal m →
    θ_run (Cert.Resid2Ideal.defs (F := Ideal)) (onTc (τ := Cert.Resid2Ideal.τ) (Cert.Resid2Ideal.main (F := Ideal))) ⟨m, fun _ => 0, g⟩ (fun r => (∀ c : Dev Cert.Resid2Ideal.nD,
      r.2.mem ((c.tc : Thread Cert.Resid2Ideal.nD Cert.Resid2Ideal.τ).loc Cert.Resid2Ideal.main_arg0) = m ((c.tc : Thread Cert.Resid2Ideal.nD Cert.Resid2Ideal.τ).loc Cert.Resid2Ideal.main_arg0)
      ∧ r.2.mem ((c.tc : Thread Cert.Resid2Ideal.nD Cert.Resid2Ideal.τ).loc Cert.Resid2Ideal.main_arg1) = m ((c.tc : Thread Cert.Resid2Ideal.nD Cert.Resid2Ideal.τ).loc Cert.Resid2Ideal.main_arg1)
      ∧ r.2.mem ((c.tc : Thread Cert.Resid2Ideal.nD Cert.Resid2Ideal.τ).loc Cert.Resid2Ideal.main_arg2) = m ((c.tc : Thread Cert.Resid2Ideal.nD Cert.Resid2Ideal.τ).loc Cert.Resid2Ideal.main_arg2)
      ∧ r.2.mem ((c.tc : Thread Cert.Resid2Ideal.nD Cert.Resid2Ideal.τ).loc Cert.Resid2Ideal.main_arg3) = m ((c.tc : Thread Cert.Resid2Ideal.nD Cert.Resid2Ideal.τ).loc Cert.Resid2Ideal.main_arg3)
      ∧ r.2.mem ((c.tc : Thread Cert.Resid2Ideal.nD Cert.Resid2Ideal.τ).loc Cert.Resid2Ideal.main_arg4) = m ((c.tc : Thread Cert.Resid2Ideal.nD Cert.Resid2Ideal.τ).loc Cert.Resid2Ideal.main_arg4)
      ∧ r.2.mem ((c.tc : Thread Cert.Resid2Ideal.nD Cert.Resid2Ideal.τ).loc Cert.Resid2Ideal.main_arg5) = m ((c.tc : Thread Cert.Resid2Ideal.nD Cert.Resid2Ideal.τ).loc Cert.Resid2Ideal.main_arg5)
      ∧ r.2.mem ((c.tc : Thread Cert.Resid2Ideal.nD Cert.Resid2Ideal.τ).loc Cert.Resid2Ideal.main_arg6) = m ((c.tc : Thread Cert.Resid2Ideal.nD Cert.Resid2Ideal.τ).loc Cert.Resid2Ideal.main_arg6)
      ∧ r.2.mem ((c.tc : Thread Cert.Resid2Ideal.nD Cert.Resid2Ideal.τ).loc Cert.Resid2Ideal.main_arg7) = m ((c.tc : Thread Cert.Resid2Ideal.nD Cert.Resid2Ideal.τ).loc Cert.Resid2Ideal.main_arg7))
      ∧ r.2.sem = fun _ => 0)

def quiescent_Resid2Ideal_pre_finite_resid2 [hResid2Ideal : Cert.Resid2Ideal.Facts] [hPre_finite_resid2 : Cert.Pre_finite_resid2.Facts] : Prop :=
  ∀ (m : (ℓ : Loc Cert.Resid2Ideal.nD Cert.Resid2Ideal.τ Cert.Resid2Ideal.sig) → Buf (Elt Ideal) ℓ) (g : Dev Cert.Resid2Ideal.nD → PrngReg), Pre_Resid2Ideal_finite_resid2 m →
    θ_run (Cert.Resid2Ideal.defs (F := Ideal)) (onTc (τ := Cert.Resid2Ideal.τ) (Cert.Resid2Ideal.main (F := Ideal))) ⟨m, fun _ => 0, g⟩ (fun r => (∀ c : Dev Cert.Resid2Ideal.nD,
      r.2.mem ((c.tc : Thread Cert.Resid2Ideal.nD Cert.Resid2Ideal.τ).loc Cert.Resid2Ideal.main_arg0) = m ((c.tc : Thread Cert.Resid2Ideal.nD Cert.Resid2Ideal.τ).loc Cert.Resid2Ideal.main_arg0)
      ∧ r.2.mem ((c.tc : Thread Cert.Resid2Ideal.nD Cert.Resid2Ideal.τ).loc Cert.Resid2Ideal.main_arg1) = m ((c.tc : Thread Cert.Resid2Ideal.nD Cert.Resid2Ideal.τ).loc Cert.Resid2Ideal.main_arg1)
      ∧ r.2.mem ((c.tc : Thread Cert.Resid2Ideal.nD Cert.Resid2Ideal.τ).loc Cert.Resid2Ideal.main_arg2) = m ((c.tc : Thread Cert.Resid2Ideal.nD Cert.Resid2Ideal.τ).loc Cert.Resid2Ideal.main_arg2)
      ∧ r.2.mem ((c.tc : Thread Cert.Resid2Ideal.nD Cert.Resid2Ideal.τ).loc Cert.Resid2Ideal.main_arg3) = m ((c.tc : Thread Cert.Resid2Ideal.nD Cert.Resid2Ideal.τ).loc Cert.Resid2Ideal.main_arg3)
      ∧ r.2.mem ((c.tc : Thread Cert.Resid2Ideal.nD Cert.Resid2Ideal.τ).loc Cert.Resid2Ideal.main_arg4) = m ((c.tc : Thread Cert.Resid2Ideal.nD Cert.Resid2Ideal.τ).loc Cert.Resid2Ideal.main_arg4)
      ∧ r.2.mem ((c.tc : Thread Cert.Resid2Ideal.nD Cert.Resid2Ideal.τ).loc Cert.Resid2Ideal.main_arg5) = m ((c.tc : Thread Cert.Resid2Ideal.nD Cert.Resid2Ideal.τ).loc Cert.Resid2Ideal.main_arg5)
      ∧ r.2.mem ((c.tc : Thread Cert.Resid2Ideal.nD Cert.Resid2Ideal.τ).loc Cert.Resid2Ideal.main_arg6) = m ((c.tc : Thread Cert.Resid2Ideal.nD Cert.Resid2Ideal.τ).loc Cert.Resid2Ideal.main_arg6)
      ∧ r.2.mem ((c.tc : Thread Cert.Resid2Ideal.nD Cert.Resid2Ideal.τ).loc Cert.Resid2Ideal.main_arg7) = m ((c.tc : Thread Cert.Resid2Ideal.nD Cert.Resid2Ideal.τ).loc Cert.Resid2Ideal.main_arg7))
      ∧ r.2.sem = fun _ => 0)

def quiescent_Resid2RefIdeal [hResid2RefIdeal : Cert.Resid2RefIdeal.Facts] : Prop :=
  ∀ (m : (ℓ : Loc Cert.Resid2RefIdeal.nD Cert.Resid2RefIdeal.τ Cert.Resid2RefIdeal.sig) → Buf (Elt Ideal) ℓ) (g : Dev Cert.Resid2RefIdeal.nD → PrngReg), Pre_Resid2RefIdeal m →
    θ_run (Cert.Resid2RefIdeal.defs (F := Ideal)) (onTc (τ := Cert.Resid2RefIdeal.τ) (Cert.Resid2RefIdeal.main (F := Ideal))) ⟨m, fun _ => 0, g⟩ (fun r => (∀ c : Dev Cert.Resid2RefIdeal.nD,
      r.2.mem ((c.tc : Thread Cert.Resid2RefIdeal.nD Cert.Resid2RefIdeal.τ).loc Cert.Resid2RefIdeal.main_arg0) = m ((c.tc : Thread Cert.Resid2RefIdeal.nD Cert.Resid2RefIdeal.τ).loc Cert.Resid2RefIdeal.main_arg0)
      ∧ r.2.mem ((c.tc : Thread Cert.Resid2RefIdeal.nD Cert.Resid2RefIdeal.τ).loc Cert.Resid2RefIdeal.main_arg1) = m ((c.tc : Thread Cert.Resid2RefIdeal.nD Cert.Resid2RefIdeal.τ).loc Cert.Resid2RefIdeal.main_arg1)
      ∧ r.2.mem ((c.tc : Thread Cert.Resid2RefIdeal.nD Cert.Resid2RefIdeal.τ).loc Cert.Resid2RefIdeal.main_arg2) = m ((c.tc : Thread Cert.Resid2RefIdeal.nD Cert.Resid2RefIdeal.τ).loc Cert.Resid2RefIdeal.main_arg2)
      ∧ r.2.mem ((c.tc : Thread Cert.Resid2RefIdeal.nD Cert.Resid2RefIdeal.τ).loc Cert.Resid2RefIdeal.main_arg3) = m ((c.tc : Thread Cert.Resid2RefIdeal.nD Cert.Resid2RefIdeal.τ).loc Cert.Resid2RefIdeal.main_arg3)
      ∧ r.2.mem ((c.tc : Thread Cert.Resid2RefIdeal.nD Cert.Resid2RefIdeal.τ).loc Cert.Resid2RefIdeal.main_arg4) = m ((c.tc : Thread Cert.Resid2RefIdeal.nD Cert.Resid2RefIdeal.τ).loc Cert.Resid2RefIdeal.main_arg4)
      ∧ r.2.mem ((c.tc : Thread Cert.Resid2RefIdeal.nD Cert.Resid2RefIdeal.τ).loc Cert.Resid2RefIdeal.main_arg5) = m ((c.tc : Thread Cert.Resid2RefIdeal.nD Cert.Resid2RefIdeal.τ).loc Cert.Resid2RefIdeal.main_arg5)
      ∧ r.2.mem ((c.tc : Thread Cert.Resid2RefIdeal.nD Cert.Resid2RefIdeal.τ).loc Cert.Resid2RefIdeal.main_arg6) = m ((c.tc : Thread Cert.Resid2RefIdeal.nD Cert.Resid2RefIdeal.τ).loc Cert.Resid2RefIdeal.main_arg6)
      ∧ r.2.mem ((c.tc : Thread Cert.Resid2RefIdeal.nD Cert.Resid2RefIdeal.τ).loc Cert.Resid2RefIdeal.main_arg7) = m ((c.tc : Thread Cert.Resid2RefIdeal.nD Cert.Resid2RefIdeal.τ).loc Cert.Resid2RefIdeal.main_arg7))
      ∧ r.2.sem = fun _ => 0)

def quiescent_Resid2RefIdeal_pre_finite_resid2 [hResid2RefIdeal : Cert.Resid2RefIdeal.Facts] [hPre_finite_resid2 : Cert.Pre_finite_resid2.Facts] : Prop :=
  ∀ (m : (ℓ : Loc Cert.Resid2RefIdeal.nD Cert.Resid2RefIdeal.τ Cert.Resid2RefIdeal.sig) → Buf (Elt Ideal) ℓ) (g : Dev Cert.Resid2RefIdeal.nD → PrngReg), Pre_Resid2RefIdeal_finite_resid2 m →
    θ_run (Cert.Resid2RefIdeal.defs (F := Ideal)) (onTc (τ := Cert.Resid2RefIdeal.τ) (Cert.Resid2RefIdeal.main (F := Ideal))) ⟨m, fun _ => 0, g⟩ (fun r => (∀ c : Dev Cert.Resid2RefIdeal.nD,
      r.2.mem ((c.tc : Thread Cert.Resid2RefIdeal.nD Cert.Resid2RefIdeal.τ).loc Cert.Resid2RefIdeal.main_arg0) = m ((c.tc : Thread Cert.Resid2RefIdeal.nD Cert.Resid2RefIdeal.τ).loc Cert.Resid2RefIdeal.main_arg0)
      ∧ r.2.mem ((c.tc : Thread Cert.Resid2RefIdeal.nD Cert.Resid2RefIdeal.τ).loc Cert.Resid2RefIdeal.main_arg1) = m ((c.tc : Thread Cert.Resid2RefIdeal.nD Cert.Resid2RefIdeal.τ).loc Cert.Resid2RefIdeal.main_arg1)
      ∧ r.2.mem ((c.tc : Thread Cert.Resid2RefIdeal.nD Cert.Resid2RefIdeal.τ).loc Cert.Resid2RefIdeal.main_arg2) = m ((c.tc : Thread Cert.Resid2RefIdeal.nD Cert.Resid2RefIdeal.τ).loc Cert.Resid2RefIdeal.main_arg2)
      ∧ r.2.mem ((c.tc : Thread Cert.Resid2RefIdeal.nD Cert.Resid2RefIdeal.τ).loc Cert.Resid2RefIdeal.main_arg3) = m ((c.tc : Thread Cert.Resid2RefIdeal.nD Cert.Resid2RefIdeal.τ).loc Cert.Resid2RefIdeal.main_arg3)
      ∧ r.2.mem ((c.tc : Thread Cert.Resid2RefIdeal.nD Cert.Resid2RefIdeal.τ).loc Cert.Resid2RefIdeal.main_arg4) = m ((c.tc : Thread Cert.Resid2RefIdeal.nD Cert.Resid2RefIdeal.τ).loc Cert.Resid2RefIdeal.main_arg4)
      ∧ r.2.mem ((c.tc : Thread Cert.Resid2RefIdeal.nD Cert.Resid2RefIdeal.τ).loc Cert.Resid2RefIdeal.main_arg5) = m ((c.tc : Thread Cert.Resid2RefIdeal.nD Cert.Resid2RefIdeal.τ).loc Cert.Resid2RefIdeal.main_arg5)
      ∧ r.2.mem ((c.tc : Thread Cert.Resid2RefIdeal.nD Cert.Resid2RefIdeal.τ).loc Cert.Resid2RefIdeal.main_arg6) = m ((c.tc : Thread Cert.Resid2RefIdeal.nD Cert.Resid2RefIdeal.τ).loc Cert.Resid2RefIdeal.main_arg6)
      ∧ r.2.mem ((c.tc : Thread Cert.Resid2RefIdeal.nD Cert.Resid2RefIdeal.τ).loc Cert.Resid2RefIdeal.main_arg7) = m ((c.tc : Thread Cert.Resid2RefIdeal.nD Cert.Resid2RefIdeal.τ).loc Cert.Resid2RefIdeal.main_arg7))
      ∧ r.2.sem = fun _ => 0)

def quiescent_MixResid [hMixResid : Cert.MixResid.Facts] : Prop :=
  ∀ (m : (ℓ : Loc Cert.MixResid.nD Cert.MixResid.τ Cert.MixResid.sig) → Buf (Elt Bits) ℓ) (g : Dev Cert.MixResid.nD → PrngReg), Pre_MixResid m →
    θ_run (Cert.MixResid.defs (F := Bits)) (onTc (τ := Cert.MixResid.τ) (Cert.MixResid.main (F := Bits))) ⟨m, fun _ => 0, g⟩ (fun r => (∀ c : Dev Cert.MixResid.nD,
      r.2.mem ((c.tc : Thread Cert.MixResid.nD Cert.MixResid.τ).loc Cert.MixResid.main_arg0) = m ((c.tc : Thread Cert.MixResid.nD Cert.MixResid.τ).loc Cert.MixResid.main_arg0)
      ∧ r.2.mem ((c.tc : Thread Cert.MixResid.nD Cert.MixResid.τ).loc Cert.MixResid.main_arg1) = m ((c.tc : Thread Cert.MixResid.nD Cert.MixResid.τ).loc Cert.MixResid.main_arg1)
      ∧ r.2.mem ((c.tc : Thread Cert.MixResid.nD Cert.MixResid.τ).loc Cert.MixResid.main_arg2) = m ((c.tc : Thread Cert.MixResid.nD Cert.MixResid.τ).loc Cert.MixResid.main_arg2)
      ∧ r.2.mem ((c.tc : Thread Cert.MixResid.nD Cert.MixResid.τ).loc Cert.MixResid.main_arg3) = m ((c.tc : Thread Cert.MixResid.nD Cert.MixResid.τ).loc Cert.MixResid.main_arg3)
      ∧ r.2.mem ((c.tc : Thread Cert.MixResid.nD Cert.MixResid.τ).loc Cert.MixResid.main_arg4) = m ((c.tc : Thread Cert.MixResid.nD Cert.MixResid.τ).loc Cert.MixResid.main_arg4)
      ∧ r.2.mem ((c.tc : Thread Cert.MixResid.nD Cert.MixResid.τ).loc Cert.MixResid.main_arg5) = m ((c.tc : Thread Cert.MixResid.nD Cert.MixResid.τ).loc Cert.MixResid.main_arg5))
      ∧ r.2.sem = fun _ => 0)

def quiescent_MixResidIdeal [hMixResidIdeal : Cert.MixResidIdeal.Facts] : Prop :=
  ∀ (m : (ℓ : Loc Cert.MixResidIdeal.nD Cert.MixResidIdeal.τ Cert.MixResidIdeal.sig) → Buf (Elt Ideal) ℓ) (g : Dev Cert.MixResidIdeal.nD → PrngReg), Pre_MixResidIdeal m →
    θ_run (Cert.MixResidIdeal.defs (F := Ideal)) (onTc (τ := Cert.MixResidIdeal.τ) (Cert.MixResidIdeal.main (F := Ideal))) ⟨m, fun _ => 0, g⟩ (fun r => (∀ c : Dev Cert.MixResidIdeal.nD,
      r.2.mem ((c.tc : Thread Cert.MixResidIdeal.nD Cert.MixResidIdeal.τ).loc Cert.MixResidIdeal.main_arg0) = m ((c.tc : Thread Cert.MixResidIdeal.nD Cert.MixResidIdeal.τ).loc Cert.MixResidIdeal.main_arg0)
      ∧ r.2.mem ((c.tc : Thread Cert.MixResidIdeal.nD Cert.MixResidIdeal.τ).loc Cert.MixResidIdeal.main_arg1) = m ((c.tc : Thread Cert.MixResidIdeal.nD Cert.MixResidIdeal.τ).loc Cert.MixResidIdeal.main_arg1)
      ∧ r.2.mem ((c.tc : Thread Cert.MixResidIdeal.nD Cert.MixResidIdeal.τ).loc Cert.MixResidIdeal.main_arg2) = m ((c.tc : Thread Cert.MixResidIdeal.nD Cert.MixResidIdeal.τ).loc Cert.MixResidIdeal.main_arg2)
      ∧ r.2.mem ((c.tc : Thread Cert.MixResidIdeal.nD Cert.MixResidIdeal.τ).loc Cert.MixResidIdeal.main_arg3) = m ((c.tc : Thread Cert.MixResidIdeal.nD Cert.MixResidIdeal.τ).loc Cert.MixResidIdeal.main_arg3)
      ∧ r.2.mem ((c.tc : Thread Cert.MixResidIdeal.nD Cert.MixResidIdeal.τ).loc Cert.MixResidIdeal.main_arg4) = m ((c.tc : Thread Cert.MixResidIdeal.nD Cert.MixResidIdeal.τ).loc Cert.MixResidIdeal.main_arg4)
      ∧ r.2.mem ((c.tc : Thread Cert.MixResidIdeal.nD Cert.MixResidIdeal.τ).loc Cert.MixResidIdeal.main_arg5) = m ((c.tc : Thread Cert.MixResidIdeal.nD Cert.MixResidIdeal.τ).loc Cert.MixResidIdeal.main_arg5))
      ∧ r.2.sem = fun _ => 0)

def quiescent_MixResidIdeal_pre_finite_mix_resid [hMixResidIdeal : Cert.MixResidIdeal.Facts] [hPre_finite_mix_resid : Cert.Pre_finite_mix_resid.Facts] : Prop :=
  ∀ (m : (ℓ : Loc Cert.MixResidIdeal.nD Cert.MixResidIdeal.τ Cert.MixResidIdeal.sig) → Buf (Elt Ideal) ℓ) (g : Dev Cert.MixResidIdeal.nD → PrngReg), Pre_MixResidIdeal_finite_mix_resid m →
    θ_run (Cert.MixResidIdeal.defs (F := Ideal)) (onTc (τ := Cert.MixResidIdeal.τ) (Cert.MixResidIdeal.main (F := Ideal))) ⟨m, fun _ => 0, g⟩ (fun r => (∀ c : Dev Cert.MixResidIdeal.nD,
      r.2.mem ((c.tc : Thread Cert.MixResidIdeal.nD Cert.MixResidIdeal.τ).loc Cert.MixResidIdeal.main_arg0) = m ((c.tc : Thread Cert.MixResidIdeal.nD Cert.MixResidIdeal.τ).loc Cert.MixResidIdeal.main_arg0)
      ∧ r.2.mem ((c.tc : Thread Cert.MixResidIdeal.nD Cert.MixResidIdeal.τ).loc Cert.MixResidIdeal.main_arg1) = m ((c.tc : Thread Cert.MixResidIdeal.nD Cert.MixResidIdeal.τ).loc Cert.MixResidIdeal.main_arg1)
      ∧ r.2.mem ((c.tc : Thread Cert.MixResidIdeal.nD Cert.MixResidIdeal.τ).loc Cert.MixResidIdeal.main_arg2) = m ((c.tc : Thread Cert.MixResidIdeal.nD Cert.MixResidIdeal.τ).loc Cert.MixResidIdeal.main_arg2)
      ∧ r.2.mem ((c.tc : Thread Cert.MixResidIdeal.nD Cert.MixResidIdeal.τ).loc Cert.MixResidIdeal.main_arg3) = m ((c.tc : Thread Cert.MixResidIdeal.nD Cert.MixResidIdeal.τ).loc Cert.MixResidIdeal.main_arg3)
      ∧ r.2.mem ((c.tc : Thread Cert.MixResidIdeal.nD Cert.MixResidIdeal.τ).loc Cert.MixResidIdeal.main_arg4) = m ((c.tc : Thread Cert.MixResidIdeal.nD Cert.MixResidIdeal.τ).loc Cert.MixResidIdeal.main_arg4)
      ∧ r.2.mem ((c.tc : Thread Cert.MixResidIdeal.nD Cert.MixResidIdeal.τ).loc Cert.MixResidIdeal.main_arg5) = m ((c.tc : Thread Cert.MixResidIdeal.nD Cert.MixResidIdeal.τ).loc Cert.MixResidIdeal.main_arg5))
      ∧ r.2.sem = fun _ => 0)

def quiescent_MixResidRefIdeal [hMixResidRefIdeal : Cert.MixResidRefIdeal.Facts] : Prop :=
  ∀ (m : (ℓ : Loc Cert.MixResidRefIdeal.nD Cert.MixResidRefIdeal.τ Cert.MixResidRefIdeal.sig) → Buf (Elt Ideal) ℓ) (g : Dev Cert.MixResidRefIdeal.nD → PrngReg), Pre_MixResidRefIdeal m →
    θ_run (Cert.MixResidRefIdeal.defs (F := Ideal)) (onTc (τ := Cert.MixResidRefIdeal.τ) (Cert.MixResidRefIdeal.main (F := Ideal))) ⟨m, fun _ => 0, g⟩ (fun r => (∀ c : Dev Cert.MixResidRefIdeal.nD,
      r.2.mem ((c.tc : Thread Cert.MixResidRefIdeal.nD Cert.MixResidRefIdeal.τ).loc Cert.MixResidRefIdeal.main_arg0) = m ((c.tc : Thread Cert.MixResidRefIdeal.nD Cert.MixResidRefIdeal.τ).loc Cert.MixResidRefIdeal.main_arg0)
      ∧ r.2.mem ((c.tc : Thread Cert.MixResidRefIdeal.nD Cert.MixResidRefIdeal.τ).loc Cert.MixResidRefIdeal.main_arg1) = m ((c.tc : Thread Cert.MixResidRefIdeal.nD Cert.MixResidRefIdeal.τ).loc Cert.MixResidRefIdeal.main_arg1)
      ∧ r.2.mem ((c.tc : Thread Cert.MixResidRefIdeal.nD Cert.MixResidRefIdeal.τ).loc Cert.MixResidRefIdeal.main_arg2) = m ((c.tc : Thread Cert.MixResidRefIdeal.nD Cert.MixResidRefIdeal.τ).loc Cert.MixResidRefIdeal.main_arg2)
      ∧ r.2.mem ((c.tc : Thread Cert.MixResidRefIdeal.nD Cert.MixResidRefIdeal.τ).loc Cert.MixResidRefIdeal.main_arg3) = m ((c.tc : Thread Cert.MixResidRefIdeal.nD Cert.MixResidRefIdeal.τ).loc Cert.MixResidRefIdeal.main_arg3)
      ∧ r.2.mem ((c.tc : Thread Cert.MixResidRefIdeal.nD Cert.MixResidRefIdeal.τ).loc Cert.MixResidRefIdeal.main_arg4) = m ((c.tc : Thread Cert.MixResidRefIdeal.nD Cert.MixResidRefIdeal.τ).loc Cert.MixResidRefIdeal.main_arg4)
      ∧ r.2.mem ((c.tc : Thread Cert.MixResidRefIdeal.nD Cert.MixResidRefIdeal.τ).loc Cert.MixResidRefIdeal.main_arg5) = m ((c.tc : Thread Cert.MixResidRefIdeal.nD Cert.MixResidRefIdeal.τ).loc Cert.MixResidRefIdeal.main_arg5))
      ∧ r.2.sem = fun _ => 0)

def quiescent_MixResidRefIdeal_pre_finite_mix_resid [hMixResidRefIdeal : Cert.MixResidRefIdeal.Facts] [hPre_finite_mix_resid : Cert.Pre_finite_mix_resid.Facts] : Prop :=
  ∀ (m : (ℓ : Loc Cert.MixResidRefIdeal.nD Cert.MixResidRefIdeal.τ Cert.MixResidRefIdeal.sig) → Buf (Elt Ideal) ℓ) (g : Dev Cert.MixResidRefIdeal.nD → PrngReg), Pre_MixResidRefIdeal_finite_mix_resid m →
    θ_run (Cert.MixResidRefIdeal.defs (F := Ideal)) (onTc (τ := Cert.MixResidRefIdeal.τ) (Cert.MixResidRefIdeal.main (F := Ideal))) ⟨m, fun _ => 0, g⟩ (fun r => (∀ c : Dev Cert.MixResidRefIdeal.nD,
      r.2.mem ((c.tc : Thread Cert.MixResidRefIdeal.nD Cert.MixResidRefIdeal.τ).loc Cert.MixResidRefIdeal.main_arg0) = m ((c.tc : Thread Cert.MixResidRefIdeal.nD Cert.MixResidRefIdeal.τ).loc Cert.MixResidRefIdeal.main_arg0)
      ∧ r.2.mem ((c.tc : Thread Cert.MixResidRefIdeal.nD Cert.MixResidRefIdeal.τ).loc Cert.MixResidRefIdeal.main_arg1) = m ((c.tc : Thread Cert.MixResidRefIdeal.nD Cert.MixResidRefIdeal.τ).loc Cert.MixResidRefIdeal.main_arg1)
      ∧ r.2.mem ((c.tc : Thread Cert.MixResidRefIdeal.nD Cert.MixResidRefIdeal.τ).loc Cert.MixResidRefIdeal.main_arg2) = m ((c.tc : Thread Cert.MixResidRefIdeal.nD Cert.MixResidRefIdeal.τ).loc Cert.MixResidRefIdeal.main_arg2)
      ∧ r.2.mem ((c.tc : Thread Cert.MixResidRefIdeal.nD Cert.MixResidRefIdeal.τ).loc Cert.MixResidRefIdeal.main_arg3) = m ((c.tc : Thread Cert.MixResidRefIdeal.nD Cert.MixResidRefIdeal.τ).loc Cert.MixResidRefIdeal.main_arg3)
      ∧ r.2.mem ((c.tc : Thread Cert.MixResidRefIdeal.nD Cert.MixResidRefIdeal.τ).loc Cert.MixResidRefIdeal.main_arg4) = m ((c.tc : Thread Cert.MixResidRefIdeal.nD Cert.MixResidRefIdeal.τ).loc Cert.MixResidRefIdeal.main_arg4)
      ∧ r.2.mem ((c.tc : Thread Cert.MixResidRefIdeal.nD Cert.MixResidRefIdeal.τ).loc Cert.MixResidRefIdeal.main_arg5) = m ((c.tc : Thread Cert.MixResidRefIdeal.nD Cert.MixResidRefIdeal.τ).loc Cert.MixResidRefIdeal.main_arg5))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1)
      ∧ r.2.mem ((c.tc : Thread Cert.InNorm.nD Cert.InNorm.τ).loc Cert.InNorm.main_arg2) = m ((c.tc : Thread Cert.InNorm.nD Cert.InNorm.τ).loc Cert.InNorm.main_arg2)
      ∧ r.2.mem ((c.tc : Thread Cert.InNorm.nD Cert.InNorm.τ).loc Cert.InNorm.main_arg3) = m ((c.tc : Thread Cert.InNorm.nD Cert.InNorm.τ).loc Cert.InNorm.main_arg3))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3))
      ∧ r.2.sem = fun _ => 0)

def quiescent_InNormIdeal_pre_finite_in_norm [hInNormIdeal : Cert.InNormIdeal.Facts] [hPre_finite_in_norm : Cert.Pre_finite_in_norm.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal_finite_in_norm m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3))
      ∧ r.2.sem = fun _ => 0)

def quiescent_InNormRefIdeal_pre_finite_in_norm [hInNormRefIdeal : Cert.InNormRefIdeal.Facts] [hPre_finite_in_norm : Cert.Pre_finite_in_norm.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal_finite_in_norm m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3))
      ∧ r.2.sem = fun _ => 0)

def quiescent_MemAttnA [hMemAttnA : Cert.MemAttnA.Facts] : Prop :=
  ∀ (m : (ℓ : Loc Cert.MemAttnA.nD Cert.MemAttnA.τ Cert.MemAttnA.sig) → Buf (Elt Bits) ℓ) (g : Dev Cert.MemAttnA.nD → PrngReg), Pre_MemAttnA m →
    θ_run (Cert.MemAttnA.defs (F := Bits)) (onTc (τ := Cert.MemAttnA.τ) (Cert.MemAttnA.main (F := Bits))) ⟨m, fun _ => 0, g⟩ (fun r => (∀ c : Dev Cert.MemAttnA.nD,
      r.2.mem ((c.tc : Thread Cert.MemAttnA.nD Cert.MemAttnA.τ).loc Cert.MemAttnA.main_arg0) = m ((c.tc : Thread Cert.MemAttnA.nD Cert.MemAttnA.τ).loc Cert.MemAttnA.main_arg0)
      ∧ r.2.mem ((c.tc : Thread Cert.MemAttnA.nD Cert.MemAttnA.τ).loc Cert.MemAttnA.main_arg1) = m ((c.tc : Thread Cert.MemAttnA.nD Cert.MemAttnA.τ).loc Cert.MemAttnA.main_arg1)
      ∧ r.2.mem ((c.tc : Thread Cert.MemAttnA.nD Cert.MemAttnA.τ).loc Cert.MemAttnA.main_arg2) = m ((c.tc : Thread Cert.MemAttnA.nD Cert.MemAttnA.τ).loc Cert.MemAttnA.main_arg2)
      ∧ r.2.mem ((c.tc : Thread Cert.MemAttnA.nD Cert.MemAttnA.τ).loc Cert.MemAttnA.main_arg3) = m ((c.tc : Thread Cert.MemAttnA.nD Cert.MemAttnA.τ).loc Cert.MemAttnA.main_arg3))
      ∧ r.2.sem = fun _ => 0)

def quiescent_MemAttnAIdeal [hMemAttnAIdeal : Cert.MemAttnAIdeal.Facts] : Prop :=
  ∀ (m : (ℓ : Loc Cert.MemAttnAIdeal.nD Cert.MemAttnAIdeal.τ Cert.MemAttnAIdeal.sig) → Buf (Elt Ideal) ℓ) (g : Dev Cert.MemAttnAIdeal.nD → PrngReg), Pre_MemAttnAIdeal m →
    θ_run (Cert.MemAttnAIdeal.defs (F := Ideal)) (onTc (τ := Cert.MemAttnAIdeal.τ) (Cert.MemAttnAIdeal.main (F := Ideal))) ⟨m, fun _ => 0, g⟩ (fun r => (∀ c : Dev Cert.MemAttnAIdeal.nD,
      r.2.mem ((c.tc : Thread Cert.MemAttnAIdeal.nD Cert.MemAttnAIdeal.τ).loc Cert.MemAttnAIdeal.main_arg0) = m ((c.tc : Thread Cert.MemAttnAIdeal.nD Cert.MemAttnAIdeal.τ).loc Cert.MemAttnAIdeal.main_arg0)
      ∧ r.2.mem ((c.tc : Thread Cert.MemAttnAIdeal.nD Cert.MemAttnAIdeal.τ).loc Cert.MemAttnAIdeal.main_arg1) = m ((c.tc : Thread Cert.MemAttnAIdeal.nD Cert.MemAttnAIdeal.τ).loc Cert.MemAttnAIdeal.main_arg1)
      ∧ r.2.mem ((c.tc : Thread Cert.MemAttnAIdeal.nD Cert.MemAttnAIdeal.τ).loc Cert.MemAttnAIdeal.main_arg2) = m ((c.tc : Thread Cert.MemAttnAIdeal.nD Cert.MemAttnAIdeal.τ).loc Cert.MemAttnAIdeal.main_arg2)
      ∧ r.2.mem ((c.tc : Thread Cert.MemAttnAIdeal.nD Cert.MemAttnAIdeal.τ).loc Cert.MemAttnAIdeal.main_arg3) = m ((c.tc : Thread Cert.MemAttnAIdeal.nD Cert.MemAttnAIdeal.τ).loc Cert.MemAttnAIdeal.main_arg3))
      ∧ r.2.sem = fun _ => 0)

def quiescent_MemAttnAIdeal_pre_finite_mem_attn_a [hMemAttnAIdeal : Cert.MemAttnAIdeal.Facts] [hPre_finite_mem_attn_a : Cert.Pre_finite_mem_attn_a.Facts] : Prop :=
  ∀ (m : (ℓ : Loc Cert.MemAttnAIdeal.nD Cert.MemAttnAIdeal.τ Cert.MemAttnAIdeal.sig) → Buf (Elt Ideal) ℓ) (g : Dev Cert.MemAttnAIdeal.nD → PrngReg), Pre_MemAttnAIdeal_finite_mem_attn_a m →
    θ_run (Cert.MemAttnAIdeal.defs (F := Ideal)) (onTc (τ := Cert.MemAttnAIdeal.τ) (Cert.MemAttnAIdeal.main (F := Ideal))) ⟨m, fun _ => 0, g⟩ (fun r => (∀ c : Dev Cert.MemAttnAIdeal.nD,
      r.2.mem ((c.tc : Thread Cert.MemAttnAIdeal.nD Cert.MemAttnAIdeal.τ).loc Cert.MemAttnAIdeal.main_arg0) = m ((c.tc : Thread Cert.MemAttnAIdeal.nD Cert.MemAttnAIdeal.τ).loc Cert.MemAttnAIdeal.main_arg0)
      ∧ r.2.mem ((c.tc : Thread Cert.MemAttnAIdeal.nD Cert.MemAttnAIdeal.τ).loc Cert.MemAttnAIdeal.main_arg1) = m ((c.tc : Thread Cert.MemAttnAIdeal.nD Cert.MemAttnAIdeal.τ).loc Cert.MemAttnAIdeal.main_arg1)
      ∧ r.2.mem ((c.tc : Thread Cert.MemAttnAIdeal.nD Cert.MemAttnAIdeal.τ).loc Cert.MemAttnAIdeal.main_arg2) = m ((c.tc : Thread Cert.MemAttnAIdeal.nD Cert.MemAttnAIdeal.τ).loc Cert.MemAttnAIdeal.main_arg2)
      ∧ r.2.mem ((c.tc : Thread Cert.MemAttnAIdeal.nD Cert.MemAttnAIdeal.τ).loc Cert.MemAttnAIdeal.main_arg3) = m ((c.tc : Thread Cert.MemAttnAIdeal.nD Cert.MemAttnAIdeal.τ).loc Cert.MemAttnAIdeal.main_arg3))
      ∧ r.2.sem = fun _ => 0)

def quiescent_MemAttnARefIdeal [hMemAttnARefIdeal : Cert.MemAttnARefIdeal.Facts] : Prop :=
  ∀ (m : (ℓ : Loc Cert.MemAttnARefIdeal.nD Cert.MemAttnARefIdeal.τ Cert.MemAttnARefIdeal.sig) → Buf (Elt Ideal) ℓ) (g : Dev Cert.MemAttnARefIdeal.nD → PrngReg), Pre_MemAttnARefIdeal m →
    θ_run (Cert.MemAttnARefIdeal.defs (F := Ideal)) (onTc (τ := Cert.MemAttnARefIdeal.τ) (Cert.MemAttnARefIdeal.main (F := Ideal))) ⟨m, fun _ => 0, g⟩ (fun r => (∀ c : Dev Cert.MemAttnARefIdeal.nD,
      r.2.mem ((c.tc : Thread Cert.MemAttnARefIdeal.nD Cert.MemAttnARefIdeal.τ).loc Cert.MemAttnARefIdeal.main_arg0) = m ((c.tc : Thread Cert.MemAttnARefIdeal.nD Cert.MemAttnARefIdeal.τ).loc Cert.MemAttnARefIdeal.main_arg0)
      ∧ r.2.mem ((c.tc : Thread Cert.MemAttnARefIdeal.nD Cert.MemAttnARefIdeal.τ).loc Cert.MemAttnARefIdeal.main_arg1) = m ((c.tc : Thread Cert.MemAttnARefIdeal.nD Cert.MemAttnARefIdeal.τ).loc Cert.MemAttnARefIdeal.main_arg1)
      ∧ r.2.mem ((c.tc : Thread Cert.MemAttnARefIdeal.nD Cert.MemAttnARefIdeal.τ).loc Cert.MemAttnARefIdeal.main_arg2) = m ((c.tc : Thread Cert.MemAttnARefIdeal.nD Cert.MemAttnARefIdeal.τ).loc Cert.MemAttnARefIdeal.main_arg2)
      ∧ r.2.mem ((c.tc : Thread Cert.MemAttnARefIdeal.nD Cert.MemAttnARefIdeal.τ).loc Cert.MemAttnARefIdeal.main_arg3) = m ((c.tc : Thread Cert.MemAttnARefIdeal.nD Cert.MemAttnARefIdeal.τ).loc Cert.MemAttnARefIdeal.main_arg3))
      ∧ r.2.sem = fun _ => 0)

def quiescent_MemAttnARefIdeal_pre_finite_mem_attn_a [hMemAttnARefIdeal : Cert.MemAttnARefIdeal.Facts] [hPre_finite_mem_attn_a : Cert.Pre_finite_mem_attn_a.Facts] : Prop :=
  ∀ (m : (ℓ : Loc Cert.MemAttnARefIdeal.nD Cert.MemAttnARefIdeal.τ Cert.MemAttnARefIdeal.sig) → Buf (Elt Ideal) ℓ) (g : Dev Cert.MemAttnARefIdeal.nD → PrngReg), Pre_MemAttnARefIdeal_finite_mem_attn_a m →
    θ_run (Cert.MemAttnARefIdeal.defs (F := Ideal)) (onTc (τ := Cert.MemAttnARefIdeal.τ) (Cert.MemAttnARefIdeal.main (F := Ideal))) ⟨m, fun _ => 0, g⟩ (fun r => (∀ c : Dev Cert.MemAttnARefIdeal.nD,
      r.2.mem ((c.tc : Thread Cert.MemAttnARefIdeal.nD Cert.MemAttnARefIdeal.τ).loc Cert.MemAttnARefIdeal.main_arg0) = m ((c.tc : Thread Cert.MemAttnARefIdeal.nD Cert.MemAttnARefIdeal.τ).loc Cert.MemAttnARefIdeal.main_arg0)
      ∧ r.2.mem ((c.tc : Thread Cert.MemAttnARefIdeal.nD Cert.MemAttnARefIdeal.τ).loc Cert.MemAttnARefIdeal.main_arg1) = m ((c.tc : Thread Cert.MemAttnARefIdeal.nD Cert.MemAttnARefIdeal.τ).loc Cert.MemAttnARefIdeal.main_arg1)
      ∧ r.2.mem ((c.tc : Thread Cert.MemAttnARefIdeal.nD Cert.MemAttnARefIdeal.τ).loc Cert.MemAttnARefIdeal.main_arg2) = m ((c.tc : Thread Cert.MemAttnARefIdeal.nD Cert.MemAttnARefIdeal.τ).loc Cert.MemAttnARefIdeal.main_arg2)
      ∧ r.2.mem ((c.tc : Thread Cert.MemAttnARefIdeal.nD Cert.MemAttnARefIdeal.τ).loc Cert.MemAttnARefIdeal.main_arg3) = m ((c.tc : Thread Cert.MemAttnARefIdeal.nD Cert.MemAttnARefIdeal.τ).loc Cert.MemAttnARefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_finite_ffn_act [hFfnActIdeal : Cert.FfnActIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite_ffn_act m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_finite_ffn_act [hFfnActRefIdeal : Cert.FfnActRefIdeal.Facts] [hPre_finite_ffn_act : Cert.Pre_finite_ffn_act.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_finite_ffn_act m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_finite_swa_fwd [hSwaFwdIdeal : Cert.SwaFwdIdeal.Facts] [hPre_finite_swa_fwd : Cert.Pre_finite_swa_fwd.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_swa_fwd m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaFwdRefIdeal_pre_finite_swa_fwd [hSwaFwdRefIdeal : Cert.SwaFwdRefIdeal.Facts] [hPre_finite_swa_fwd : Cert.Pre_finite_swa_fwd.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_finite_swa_fwd m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_MemFwdA [hMemFwdA : Cert.MemFwdA.Facts] : Prop :=
  ∀ (m : (ℓ : Loc Cert.MemFwdA.nD Cert.MemFwdA.τ Cert.MemFwdA.sig) → Buf (Elt Bits) ℓ) (g : Dev Cert.MemFwdA.nD → PrngReg), Pre_MemFwdA m →
    θ_run (Cert.MemFwdA.defs (F := Bits)) (onTc (τ := Cert.MemFwdA.τ) (Cert.MemFwdA.main (F := Bits))) ⟨m, fun _ => 0, g⟩ (fun r => (∀ c : Dev Cert.MemFwdA.nD,
      r.2.mem ((c.tc : Thread Cert.MemFwdA.nD Cert.MemFwdA.τ).loc Cert.MemFwdA.main_arg0) = m ((c.tc : Thread Cert.MemFwdA.nD Cert.MemFwdA.τ).loc Cert.MemFwdA.main_arg0)
      ∧ r.2.mem ((c.tc : Thread Cert.MemFwdA.nD Cert.MemFwdA.τ).loc Cert.MemFwdA.main_arg1) = m ((c.tc : Thread Cert.MemFwdA.nD Cert.MemFwdA.τ).loc Cert.MemFwdA.main_arg1)
      ∧ r.2.mem ((c.tc : Thread Cert.MemFwdA.nD Cert.MemFwdA.τ).loc Cert.MemFwdA.main_arg2) = m ((c.tc : Thread Cert.MemFwdA.nD Cert.MemFwdA.τ).loc Cert.MemFwdA.main_arg2))
      ∧ r.2.sem = fun _ => 0)

def quiescent_MemFwdAIdeal [hMemFwdAIdeal : Cert.MemFwdAIdeal.Facts] : Prop :=
  ∀ (m : (ℓ : Loc Cert.MemFwdAIdeal.nD Cert.MemFwdAIdeal.τ Cert.MemFwdAIdeal.sig) → Buf (Elt Ideal) ℓ) (g : Dev Cert.MemFwdAIdeal.nD → PrngReg), Pre_MemFwdAIdeal m →
    θ_run (Cert.MemFwdAIdeal.defs (F := Ideal)) (onTc (τ := Cert.MemFwdAIdeal.τ) (Cert.MemFwdAIdeal.main (F := Ideal))) ⟨m, fun _ => 0, g⟩ (fun r => (∀ c : Dev Cert.MemFwdAIdeal.nD,
      r.2.mem ((c.tc : Thread Cert.MemFwdAIdeal.nD Cert.MemFwdAIdeal.τ).loc Cert.MemFwdAIdeal.main_arg0) = m ((c.tc : Thread Cert.MemFwdAIdeal.nD Cert.MemFwdAIdeal.τ).loc Cert.MemFwdAIdeal.main_arg0)
      ∧ r.2.mem ((c.tc : Thread Cert.MemFwdAIdeal.nD Cert.MemFwdAIdeal.τ).loc Cert.MemFwdAIdeal.main_arg1) = m ((c.tc : Thread Cert.MemFwdAIdeal.nD Cert.MemFwdAIdeal.τ).loc Cert.MemFwdAIdeal.main_arg1)
      ∧ r.2.mem ((c.tc : Thread Cert.MemFwdAIdeal.nD Cert.MemFwdAIdeal.τ).loc Cert.MemFwdAIdeal.main_arg2) = m ((c.tc : Thread Cert.MemFwdAIdeal.nD Cert.MemFwdAIdeal.τ).loc Cert.MemFwdAIdeal.main_arg2))
      ∧ r.2.sem = fun _ => 0)

def quiescent_MemFwdARefIdeal [hMemFwdARefIdeal : Cert.MemFwdARefIdeal.Facts] : Prop :=
  ∀ (m : (ℓ : Loc Cert.MemFwdARefIdeal.nD Cert.MemFwdARefIdeal.τ Cert.MemFwdARefIdeal.sig) → Buf (Elt Ideal) ℓ) (g : Dev Cert.MemFwdARefIdeal.nD → PrngReg), Pre_MemFwdARefIdeal m →
    θ_run (Cert.MemFwdARefIdeal.defs (F := Ideal)) (onTc (τ := Cert.MemFwdARefIdeal.τ) (Cert.MemFwdARefIdeal.main (F := Ideal))) ⟨m, fun _ => 0, g⟩ (fun r => (∀ c : Dev Cert.MemFwdARefIdeal.nD,
      r.2.mem ((c.tc : Thread Cert.MemFwdARefIdeal.nD Cert.MemFwdARefIdeal.τ).loc Cert.MemFwdARefIdeal.main_arg0) = m ((c.tc : Thread Cert.MemFwdARefIdeal.nD Cert.MemFwdARefIdeal.τ).loc Cert.MemFwdARefIdeal.main_arg0)
      ∧ r.2.mem ((c.tc : Thread Cert.MemFwdARefIdeal.nD Cert.MemFwdARefIdeal.τ).loc Cert.MemFwdARefIdeal.main_arg1) = m ((c.tc : Thread Cert.MemFwdARefIdeal.nD Cert.MemFwdARefIdeal.τ).loc Cert.MemFwdARefIdeal.main_arg1)
      ∧ r.2.mem ((c.tc : Thread Cert.MemFwdARefIdeal.nD Cert.MemFwdARefIdeal.τ).loc Cert.MemFwdARefIdeal.main_arg2) = m ((c.tc : Thread Cert.MemFwdARefIdeal.nD Cert.MemFwdARefIdeal.τ).loc Cert.MemFwdARefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3))
      ∧ r.2.sem = fun _ => 0)

def quiescent_Resid2Fwd [hResid2Fwd : Cert.Resid2Fwd.Facts] : Prop :=
  ∀ (m : (ℓ : Loc Cert.Resid2Fwd.nD Cert.Resid2Fwd.τ Cert.Resid2Fwd.sig) → Buf (Elt Bits) ℓ) (g : Dev Cert.Resid2Fwd.nD → PrngReg), Pre_Resid2Fwd m →
    θ_run (Cert.Resid2Fwd.defs (F := Bits)) (onTc (τ := Cert.Resid2Fwd.τ) (Cert.Resid2Fwd.main (F := Bits))) ⟨m, fun _ => 0, g⟩ (fun r => (∀ c : Dev Cert.Resid2Fwd.nD,
      r.2.mem ((c.tc : Thread Cert.Resid2Fwd.nD Cert.Resid2Fwd.τ).loc Cert.Resid2Fwd.main_arg0) = m ((c.tc : Thread Cert.Resid2Fwd.nD Cert.Resid2Fwd.τ).loc Cert.Resid2Fwd.main_arg0)
      ∧ r.2.mem ((c.tc : Thread Cert.Resid2Fwd.nD Cert.Resid2Fwd.τ).loc Cert.Resid2Fwd.main_arg1) = m ((c.tc : Thread Cert.Resid2Fwd.nD Cert.Resid2Fwd.τ).loc Cert.Resid2Fwd.main_arg1)
      ∧ r.2.mem ((c.tc : Thread Cert.Resid2Fwd.nD Cert.Resid2Fwd.τ).loc Cert.Resid2Fwd.main_arg2) = m ((c.tc : Thread Cert.Resid2Fwd.nD Cert.Resid2Fwd.τ).loc Cert.Resid2Fwd.main_arg2)
      ∧ r.2.mem ((c.tc : Thread Cert.Resid2Fwd.nD Cert.Resid2Fwd.τ).loc Cert.Resid2Fwd.main_arg3) = m ((c.tc : Thread Cert.Resid2Fwd.nD Cert.Resid2Fwd.τ).loc Cert.Resid2Fwd.main_arg3)
      ∧ r.2.mem ((c.tc : Thread Cert.Resid2Fwd.nD Cert.Resid2Fwd.τ).loc Cert.Resid2Fwd.main_arg4) = m ((c.tc : Thread Cert.Resid2Fwd.nD Cert.Resid2Fwd.τ).loc Cert.Resid2Fwd.main_arg4))
      ∧ r.2.sem = fun _ => 0)

def quiescent_Resid2FwdIdeal [hResid2FwdIdeal : Cert.Resid2FwdIdeal.Facts] : Prop :=
  ∀ (m : (ℓ : Loc Cert.Resid2FwdIdeal.nD Cert.Resid2FwdIdeal.τ Cert.Resid2FwdIdeal.sig) → Buf (Elt Ideal) ℓ) (g : Dev Cert.Resid2FwdIdeal.nD → PrngReg), Pre_Resid2FwdIdeal m →
    θ_run (Cert.Resid2FwdIdeal.defs (F := Ideal)) (onTc (τ := Cert.Resid2FwdIdeal.τ) (Cert.Resid2FwdIdeal.main (F := Ideal))) ⟨m, fun _ => 0, g⟩ (fun r => (∀ c : Dev Cert.Resid2FwdIdeal.nD,
      r.2.mem ((c.tc : Thread Cert.Resid2FwdIdeal.nD Cert.Resid2FwdIdeal.τ).loc Cert.Resid2FwdIdeal.main_arg0) = m ((c.tc : Thread Cert.Resid2FwdIdeal.nD Cert.Resid2FwdIdeal.τ).loc Cert.Resid2FwdIdeal.main_arg0)
      ∧ r.2.mem ((c.tc : Thread Cert.Resid2FwdIdeal.nD Cert.Resid2FwdIdeal.τ).loc Cert.Resid2FwdIdeal.main_arg1) = m ((c.tc : Thread Cert.Resid2FwdIdeal.nD Cert.Resid2FwdIdeal.τ).loc Cert.Resid2FwdIdeal.main_arg1)
      ∧ r.2.mem ((c.tc : Thread Cert.Resid2FwdIdeal.nD Cert.Resid2FwdIdeal.τ).loc Cert.Resid2FwdIdeal.main_arg2) = m ((c.tc : Thread Cert.Resid2FwdIdeal.nD Cert.Resid2FwdIdeal.τ).loc Cert.Resid2FwdIdeal.main_arg2)
      ∧ r.2.mem ((c.tc : Thread Cert.Resid2FwdIdeal.nD Cert.Resid2FwdIdeal.τ).loc Cert.Resid2FwdIdeal.main_arg3) = m ((c.tc : Thread Cert.Resid2FwdIdeal.nD Cert.Resid2FwdIdeal.τ).loc Cert.Resid2FwdIdeal.main_arg3)
      ∧ r.2.mem ((c.tc : Thread Cert.Resid2FwdIdeal.nD Cert.Resid2FwdIdeal.τ).loc Cert.Resid2FwdIdeal.main_arg4) = m ((c.tc : Thread Cert.Resid2FwdIdeal.nD Cert.Resid2FwdIdeal.τ).loc Cert.Resid2FwdIdeal.main_arg4))
      ∧ r.2.sem = fun _ => 0)

def quiescent_Resid2FwdRefIdeal [hResid2FwdRefIdeal : Cert.Resid2FwdRefIdeal.Facts] : Prop :=
  ∀ (m : (ℓ : Loc Cert.Resid2FwdRefIdeal.nD Cert.Resid2FwdRefIdeal.τ Cert.Resid2FwdRefIdeal.sig) → Buf (Elt Ideal) ℓ) (g : Dev Cert.Resid2FwdRefIdeal.nD → PrngReg), Pre_Resid2FwdRefIdeal m →
    θ_run (Cert.Resid2FwdRefIdeal.defs (F := Ideal)) (onTc (τ := Cert.Resid2FwdRefIdeal.τ) (Cert.Resid2FwdRefIdeal.main (F := Ideal))) ⟨m, fun _ => 0, g⟩ (fun r => (∀ c : Dev Cert.Resid2FwdRefIdeal.nD,
      r.2.mem ((c.tc : Thread Cert.Resid2FwdRefIdeal.nD Cert.Resid2FwdRefIdeal.τ).loc Cert.Resid2FwdRefIdeal.main_arg0) = m ((c.tc : Thread Cert.Resid2FwdRefIdeal.nD Cert.Resid2FwdRefIdeal.τ).loc Cert.Resid2FwdRefIdeal.main_arg0)
      ∧ r.2.mem ((c.tc : Thread Cert.Resid2FwdRefIdeal.nD Cert.Resid2FwdRefIdeal.τ).loc Cert.Resid2FwdRefIdeal.main_arg1) = m ((c.tc : Thread Cert.Resid2FwdRefIdeal.nD Cert.Resid2FwdRefIdeal.τ).loc Cert.Resid2FwdRefIdeal.main_arg1)
      ∧ r.2.mem ((c.tc : Thread Cert.Resid2FwdRefIdeal.nD Cert.Resid2FwdRefIdeal.τ).loc Cert.Resid2FwdRefIdeal.main_arg2) = m ((c.tc : Thread Cert.Resid2FwdRefIdeal.nD Cert.Resid2FwdRefIdeal.τ).loc Cert.Resid2FwdRefIdeal.main_arg2)
      ∧ r.2.mem ((c.tc : Thread Cert.Resid2FwdRefIdeal.nD Cert.Resid2FwdRefIdeal.τ).loc Cert.Resid2FwdRefIdeal.main_arg3) = m ((c.tc : Thread Cert.Resid2FwdRefIdeal.nD Cert.Resid2FwdRefIdeal.τ).loc Cert.Resid2FwdRefIdeal.main_arg3)
      ∧ r.2.mem ((c.tc : Thread Cert.Resid2FwdRefIdeal.nD Cert.Resid2FwdRefIdeal.τ).loc Cert.Resid2FwdRefIdeal.main_arg4) = m ((c.tc : Thread Cert.Resid2FwdRefIdeal.nD Cert.Resid2FwdRefIdeal.τ).loc Cert.Resid2FwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamLayer [hAdamLayer : Cert.AdamLayer.Facts] : Prop :=
  ∀ (m : (ℓ : Loc Cert.AdamLayer.nD Cert.AdamLayer.τ Cert.AdamLayer.sig) → Buf (Elt Bits) ℓ) (g : Dev Cert.AdamLayer.nD → PrngReg), Pre_AdamLayer m →
    θ_run (Cert.AdamLayer.defs (F := Bits)) (onTc (τ := Cert.AdamLayer.τ) (Cert.AdamLayer.main (F := Bits))) ⟨m, fun _ => 0, g⟩ (fun r => (∀ c : Dev Cert.AdamLayer.nD,
      r.2.mem ((c.tc : Thread Cert.AdamLayer.nD Cert.AdamLayer.τ).loc Cert.AdamLayer.main_arg0) = m ((c.tc : Thread Cert.AdamLayer.nD Cert.AdamLayer.τ).loc Cert.AdamLayer.main_arg0)
      ∧ r.2.mem ((c.tc : Thread Cert.AdamLayer.nD Cert.AdamLayer.τ).loc Cert.AdamLayer.main_arg1) = m ((c.tc : Thread Cert.AdamLayer.nD Cert.AdamLayer.τ).loc Cert.AdamLayer.main_arg1)
      ∧ r.2.mem ((c.tc : Thread Cert.AdamLayer.nD Cert.AdamLayer.τ).loc Cert.AdamLayer.main_arg2) = m ((c.tc : Thread Cert.AdamLayer.nD Cert.AdamLayer.τ).loc Cert.AdamLayer.main_arg2)
      ∧ r.2.mem ((c.tc : Thread Cert.AdamLayer.nD Cert.AdamLayer.τ).loc Cert.AdamLayer.main_arg3) = m ((c.tc : Thread Cert.AdamLayer.nD Cert.AdamLayer.τ).loc Cert.AdamLayer.main_arg3)
      ∧ r.2.mem ((c.tc : Thread Cert.AdamLayer.nD Cert.AdamLayer.τ).loc Cert.AdamLayer.main_arg4) = m ((c.tc : Thread Cert.AdamLayer.nD Cert.AdamLayer.τ).loc Cert.AdamLayer.main_arg4)
      ∧ r.2.mem ((c.tc : Thread Cert.AdamLayer.nD Cert.AdamLayer.τ).loc Cert.AdamLayer.main_arg5) = m ((c.tc : Thread Cert.AdamLayer.nD Cert.AdamLayer.τ).loc Cert.AdamLayer.main_arg5)
      ∧ r.2.mem ((c.tc : Thread Cert.AdamLayer.nD Cert.AdamLayer.τ).loc Cert.AdamLayer.main_arg6) = m ((c.tc : Thread Cert.AdamLayer.nD Cert.AdamLayer.τ).loc Cert.AdamLayer.main_arg6)
      ∧ r.2.mem ((c.tc : Thread Cert.AdamLayer.nD Cert.AdamLayer.τ).loc Cert.AdamLayer.main_arg7) = m ((c.tc : Thread Cert.AdamLayer.nD Cert.AdamLayer.τ).loc Cert.AdamLayer.main_arg7))
      ∧ r.2.sem = fun _ => 0)

def quiescent_AdamLayerIdeal [hAdamLayerIdeal : Cert.AdamLayerIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg), Pre_AdamLayerIdeal m →
    θ_run (Cert.AdamLayerIdeal.defs (F := Ideal)) (onTc (τ := Cert.AdamLayerIdeal.τ) (Cert.AdamLayerIdeal.main (F := Ideal))) ⟨m, fun _ => 0, g⟩ (fun r => (∀ c : Dev Cert.AdamLayerIdeal.nD,
      r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
      ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
      ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
      ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
      ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
      ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
      ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
      ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ r.2.sem = fun _ => 0)

def quiescent_AdamLayerRefIdeal [hAdamLayerRefIdeal : Cert.AdamLayerRefIdeal.Facts] : Prop :=
  ∀ (m : (ℓ : Loc Cert.AdamLayerRefIdeal.nD Cert.AdamLayerRefIdeal.τ Cert.AdamLayerRefIdeal.sig) → Buf (Elt Ideal) ℓ) (g : Dev Cert.AdamLayerRefIdeal.nD → PrngReg), Pre_AdamLayerRefIdeal m →
    θ_run (Cert.AdamLayerRefIdeal.defs (F := Ideal)) (onTc (τ := Cert.AdamLayerRefIdeal.τ) (Cert.AdamLayerRefIdeal.main (F := Ideal))) ⟨m, fun _ => 0, g⟩ (fun r => (∀ c : Dev Cert.AdamLayerRefIdeal.nD,
      r.2.mem ((c.tc : Thread Cert.AdamLayerRefIdeal.nD Cert.AdamLayerRefIdeal.τ).loc Cert.AdamLayerRefIdeal.main_arg0) = m ((c.tc : Thread Cert.AdamLayerRefIdeal.nD Cert.AdamLayerRefIdeal.τ).loc Cert.AdamLayerRefIdeal.main_arg0)
      ∧ r.2.mem ((c.tc : Thread Cert.AdamLayerRefIdeal.nD Cert.AdamLayerRefIdeal.τ).loc Cert.AdamLayerRefIdeal.main_arg1) = m ((c.tc : Thread Cert.AdamLayerRefIdeal.nD Cert.AdamLayerRefIdeal.τ).loc Cert.AdamLayerRefIdeal.main_arg1)
      ∧ r.2.mem ((c.tc : Thread Cert.AdamLayerRefIdeal.nD Cert.AdamLayerRefIdeal.τ).loc Cert.AdamLayerRefIdeal.main_arg2) = m ((c.tc : Thread Cert.AdamLayerRefIdeal.nD Cert.AdamLayerRefIdeal.τ).loc Cert.AdamLayerRefIdeal.main_arg2)
      ∧ r.2.mem ((c.tc : Thread Cert.AdamLayerRefIdeal.nD Cert.AdamLayerRefIdeal.τ).loc Cert.AdamLayerRefIdeal.main_arg3) = m ((c.tc : Thread Cert.AdamLayerRefIdeal.nD Cert.AdamLayerRefIdeal.τ).loc Cert.AdamLayerRefIdeal.main_arg3)
      ∧ r.2.mem ((c.tc : Thread Cert.AdamLayerRefIdeal.nD Cert.AdamLayerRefIdeal.τ).loc Cert.AdamLayerRefIdeal.main_arg4) = m ((c.tc : Thread Cert.AdamLayerRefIdeal.nD Cert.AdamLayerRefIdeal.τ).loc Cert.AdamLayerRefIdeal.main_arg4)
      ∧ r.2.mem ((c.tc : Thread Cert.AdamLayerRefIdeal.nD Cert.AdamLayerRefIdeal.τ).loc Cert.AdamLayerRefIdeal.main_arg5) = m ((c.tc : Thread Cert.AdamLayerRefIdeal.nD Cert.AdamLayerRefIdeal.τ).loc Cert.AdamLayerRefIdeal.main_arg5)
      ∧ r.2.mem ((c.tc : Thread Cert.AdamLayerRefIdeal.nD Cert.AdamLayerRefIdeal.τ).loc Cert.AdamLayerRefIdeal.main_arg6) = m ((c.tc : Thread Cert.AdamLayerRefIdeal.nD Cert.AdamLayerRefIdeal.τ).loc Cert.AdamLayerRefIdeal.main_arg6)
      ∧ r.2.mem ((c.tc : Thread Cert.AdamLayerRefIdeal.nD Cert.AdamLayerRefIdeal.τ).loc Cert.AdamLayerRefIdeal.main_arg7) = m ((c.tc : Thread Cert.AdamLayerRefIdeal.nD Cert.AdamLayerRefIdeal.τ).loc Cert.AdamLayerRefIdeal.main_arg7))
      ∧ r.2.sem = fun _ => 0)

def quiescent_RsPair [hRsPair : Cert.RsPair.Facts] [hPre_at_origin : Cert.Pre_at_origin.Facts] : Prop :=
  ∀ (m : (ℓ : Loc Cert.RsPair.nD Cert.RsPair.τ Cert.RsPair.sig) → Buf (Elt Bits) ℓ) (g : Dev Cert.RsPair.nD → PrngReg), Pre_RsPair m →
    θ_run (Cert.RsPair.defs (F := Bits)) (onTc (τ := Cert.RsPair.τ) (Cert.RsPair.main (F := Bits))) ⟨m, fun _ => 0, g⟩ (fun r => (∀ c : Dev Cert.RsPair.nD,
      r.2.mem ((c.tc : Thread Cert.RsPair.nD Cert.RsPair.τ).loc Cert.RsPair.main_arg0) = m ((c.tc : Thread Cert.RsPair.nD Cert.RsPair.τ).loc Cert.RsPair.main_arg0)
      ∧ r.2.mem ((c.tc : Thread Cert.RsPair.nD Cert.RsPair.τ).loc Cert.RsPair.main_arg1) = m ((c.tc : Thread Cert.RsPair.nD Cert.RsPair.τ).loc Cert.RsPair.main_arg1)
      ∧ r.2.mem ((c.tc : Thread Cert.RsPair.nD Cert.RsPair.τ).loc Cert.RsPair.main_arg2) = m ((c.tc : Thread Cert.RsPair.nD Cert.RsPair.τ).loc Cert.RsPair.main_arg2))
      ∧ r.2.sem = fun _ => 0)

def quiescent_RsPairIdeal [hRsPairIdeal : Cert.RsPairIdeal.Facts] [hPre_at_origin : Cert.Pre_at_origin.Facts] : Prop :=
  ∀ (m : (ℓ : Loc Cert.RsPairIdeal.nD Cert.RsPairIdeal.τ Cert.RsPairIdeal.sig) → Buf (Elt Ideal) ℓ) (g : Dev Cert.RsPairIdeal.nD → PrngReg), Pre_RsPairIdeal m →
    θ_run (Cert.RsPairIdeal.defs (F := Ideal)) (onTc (τ := Cert.RsPairIdeal.τ) (Cert.RsPairIdeal.main (F := Ideal))) ⟨m, fun _ => 0, g⟩ (fun r => (∀ c : Dev Cert.RsPairIdeal.nD,
      r.2.mem ((c.tc : Thread Cert.RsPairIdeal.nD Cert.RsPairIdeal.τ).loc Cert.RsPairIdeal.main_arg0) = m ((c.tc : Thread Cert.RsPairIdeal.nD Cert.RsPairIdeal.τ).loc Cert.RsPairIdeal.main_arg0)
      ∧ r.2.mem ((c.tc : Thread Cert.RsPairIdeal.nD Cert.RsPairIdeal.τ).loc Cert.RsPairIdeal.main_arg1) = m ((c.tc : Thread Cert.RsPairIdeal.nD Cert.RsPairIdeal.τ).loc Cert.RsPairIdeal.main_arg1)
      ∧ r.2.mem ((c.tc : Thread Cert.RsPairIdeal.nD Cert.RsPairIdeal.τ).loc Cert.RsPairIdeal.main_arg2) = m ((c.tc : Thread Cert.RsPairIdeal.nD Cert.RsPairIdeal.τ).loc Cert.RsPairIdeal.main_arg2))
      ∧ r.2.sem = fun _ => 0)

def quiescent_RsPairRefIdeal [hRsPairRefIdeal : Cert.RsPairRefIdeal.Facts] : Prop :=
  ∀ (m : (ℓ : Loc Cert.RsPairRefIdeal.nD Cert.RsPairRefIdeal.τ Cert.RsPairRefIdeal.sig) → Buf (Elt Ideal) ℓ) (g : Dev Cert.RsPairRefIdeal.nD → PrngReg), Pre_RsPairRefIdeal m →
    θ_run (Cert.RsPairRefIdeal.defs (F := Ideal)) (onTc (τ := Cert.RsPairRefIdeal.τ) (Cert.RsPairRefIdeal.main (F := Ideal))) ⟨m, fun _ => 0, g⟩ (fun r => (∀ c : Dev Cert.RsPairRefIdeal.nD,
      r.2.mem ((c.tc : Thread Cert.RsPairRefIdeal.nD Cert.RsPairRefIdeal.τ).loc Cert.RsPairRefIdeal.main_arg0) = m ((c.tc : Thread Cert.RsPairRefIdeal.nD Cert.RsPairRefIdeal.τ).loc Cert.RsPairRefIdeal.main_arg0)
      ∧ r.2.mem ((c.tc : Thread Cert.RsPairRefIdeal.nD Cert.RsPairRefIdeal.τ).loc Cert.RsPairRefIdeal.main_arg1) = m ((c.tc : Thread Cert.RsPairRefIdeal.nD Cert.RsPairRefIdeal.τ).loc Cert.RsPairRefIdeal.main_arg1)
      ∧ r.2.mem ((c.tc : Thread Cert.RsPairRefIdeal.nD Cert.RsPairRefIdeal.τ).loc Cert.RsPairRefIdeal.main_arg2) = m ((c.tc : Thread Cert.RsPairRefIdeal.nD Cert.RsPairRefIdeal.τ).loc Cert.RsPairRefIdeal.main_arg2))
      ∧ r.2.sem = fun _ => 0)

def quiescent_RsPairRefIdeal_pre_at_origin [hRsPairRefIdeal : Cert.RsPairRefIdeal.Facts] [hPre_at_origin : Cert.Pre_at_origin.Facts] : Prop :=
  ∀ (m : (ℓ : Loc Cert.RsPairRefIdeal.nD Cert.RsPairRefIdeal.τ Cert.RsPairRefIdeal.sig) → Buf (Elt Ideal) ℓ) (g : Dev Cert.RsPairRefIdeal.nD → PrngReg), Pre_RsPairRefIdeal_at_origin m →
    θ_run (Cert.RsPairRefIdeal.defs (F := Ideal)) (onTc (τ := Cert.RsPairRefIdeal.τ) (Cert.RsPairRefIdeal.main (F := Ideal))) ⟨m, fun _ => 0, g⟩ (fun r => (∀ c : Dev Cert.RsPairRefIdeal.nD,
      r.2.mem ((c.tc : Thread Cert.RsPairRefIdeal.nD Cert.RsPairRefIdeal.τ).loc Cert.RsPairRefIdeal.main_arg0) = m ((c.tc : Thread Cert.RsPairRefIdeal.nD Cert.RsPairRefIdeal.τ).loc Cert.RsPairRefIdeal.main_arg0)
      ∧ r.2.mem ((c.tc : Thread Cert.RsPairRefIdeal.nD Cert.RsPairRefIdeal.τ).loc Cert.RsPairRefIdeal.main_arg1) = m ((c.tc : Thread Cert.RsPairRefIdeal.nD Cert.RsPairRefIdeal.τ).loc Cert.RsPairRefIdeal.main_arg1)
      ∧ r.2.mem ((c.tc : Thread Cert.RsPairRefIdeal.nD Cert.RsPairRefIdeal.τ).loc Cert.RsPairRefIdeal.main_arg2) = m ((c.tc : Thread Cert.RsPairRefIdeal.nD Cert.RsPairRefIdeal.τ).loc Cert.RsPairRefIdeal.main_arg2))
      ∧ r.2.sem = fun _ => 0)

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v3)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v3) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v17) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_MemAttn_MemAttnIdeal : Prop :=
  True

def algebraic_MemAttnIdeal_MemAttnRefIdeal_pre_finite_mem_attn [hMemAttnIdeal : Cert.MemAttnIdeal.Facts] [hMemAttnRefIdeal : Cert.MemAttnRefIdeal.Facts] [hPre_finite_mem_attn : Cert.Pre_finite_mem_attn.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem_attn m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v0_0)) (v1 : (c : Dev Cert.MemAttnIdeal.nD) → Buf (Elt Ideal) ((c.tc : Thread Cert.MemAttnIdeal.nD Cert.MemAttnIdeal.τ).loc Cert.MemAttnIdeal.main_v0_1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0_0) = v0 c
          ∧ r.2.mem ((c.tc : Thread Cert.MemAttnIdeal.nD Cert.MemAttnIdeal.τ).loc Cert.MemAttnIdeal.main_v0_1) = v1 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v78) = v0 c
          ∧ r.2.mem ((c.tc : Thread Cert.MemAttnRefIdeal.nD Cert.MemAttnRefIdeal.τ).loc Cert.MemAttnRefIdeal.main_v74) = v1 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def preserves_DkvCombine_DkvCombineIdeal : Prop :=
  True

def algebraic_DkvCombineIdeal_DkvCombineRefIdeal [hDkvCombineIdeal : Cert.DkvCombineIdeal.Facts] [hDkvCombineRefIdeal : Cert.DkvCombineRefIdeal.Facts] : Prop :=
  ∀ (m : (ℓ : Loc Cert.DkvCombineIdeal.nD Cert.DkvCombineIdeal.τ Cert.DkvCombineIdeal.sig) → Buf (Elt Ideal) ℓ) (g : Dev Cert.DkvCombineIdeal.nD → PrngReg)
    (m' : (ℓ : Loc Cert.DkvCombineRefIdeal.nD Cert.DkvCombineRefIdeal.τ Cert.DkvCombineRefIdeal.sig) → Buf (Elt Ideal) ℓ) (g' : Dev Cert.DkvCombineRefIdeal.nD → PrngReg), Pre_DkvCombineIdeal m →
    (∀ c : Dev Cert.DkvCombineIdeal.nD,
      m' ((c.tc : Thread Cert.DkvCombineRefIdeal.nD Cert.DkvCombineRefIdeal.τ).loc Cert.DkvCombineRefIdeal.main_arg0) = m ((c.tc : Thread Cert.DkvCombineIdeal.nD Cert.DkvCombineIdeal.τ).loc Cert.DkvCombineIdeal.main_arg0)
      ∧ m' ((c.tc : Thread Cert.DkvCombineRefIdeal.nD Cert.DkvCombineRefIdeal.τ).loc Cert.DkvCombineRefIdeal.main_arg1) = m ((c.tc : Thread Cert.DkvCombineIdeal.nD Cert.DkvCombineIdeal.τ).loc Cert.DkvCombineIdeal.main_arg1)
      ∧ m' ((c.tc : Thread Cert.DkvCombineRefIdeal.nD Cert.DkvCombineRefIdeal.τ).loc Cert.DkvCombineRefIdeal.main_arg2) = m ((c.tc : Thread Cert.DkvCombineIdeal.nD Cert.DkvCombineIdeal.τ).loc Cert.DkvCombineIdeal.main_arg2)
      ∧ m' ((c.tc : Thread Cert.DkvCombineRefIdeal.nD Cert.DkvCombineRefIdeal.τ).loc Cert.DkvCombineRefIdeal.main_arg3) = m ((c.tc : Thread Cert.DkvCombineIdeal.nD Cert.DkvCombineIdeal.τ).loc Cert.DkvCombineIdeal.main_arg3)) →
    ∃ (v0 : (c : Dev Cert.DkvCombineIdeal.nD) → Buf (Elt Ideal) ((c.tc : Thread Cert.DkvCombineIdeal.nD Cert.DkvCombineIdeal.τ).loc Cert.DkvCombineIdeal.main_v0)),
      θ_run (Cert.DkvCombineIdeal.defs (F := Ideal)) (onTc (τ := Cert.DkvCombineIdeal.τ) (Cert.DkvCombineIdeal.main (F := Ideal))) ⟨m, fun _ => 0, g⟩ (fun r => ∀ c : Dev Cert.DkvCombineIdeal.nD,
          r.2.mem ((c.tc : Thread Cert.DkvCombineIdeal.nD Cert.DkvCombineIdeal.τ).loc Cert.DkvCombineIdeal.main_v0) = v0 c
          ∧ r.2.mem ((c.tc : Thread Cert.DkvCombineIdeal.nD Cert.DkvCombineIdeal.τ).loc Cert.DkvCombineIdeal.main_arg0) = m ((c.tc : Thread Cert.DkvCombineIdeal.nD Cert.DkvCombineIdeal.τ).loc Cert.DkvCombineIdeal.main_arg0)
          ∧ r.2.mem ((c.tc : Thread Cert.DkvCombineIdeal.nD Cert.DkvCombineIdeal.τ).loc Cert.DkvCombineIdeal.main_arg1) = m ((c.tc : Thread Cert.DkvCombineIdeal.nD Cert.DkvCombineIdeal.τ).loc Cert.DkvCombineIdeal.main_arg1)
          ∧ r.2.mem ((c.tc : Thread Cert.DkvCombineIdeal.nD Cert.DkvCombineIdeal.τ).loc Cert.DkvCombineIdeal.main_arg2) = m ((c.tc : Thread Cert.DkvCombineIdeal.nD Cert.DkvCombineIdeal.τ).loc Cert.DkvCombineIdeal.main_arg2)
          ∧ r.2.mem ((c.tc : Thread Cert.DkvCombineIdeal.nD Cert.DkvCombineIdeal.τ).loc Cert.DkvCombineIdeal.main_arg3) = m ((c.tc : Thread Cert.DkvCombineIdeal.nD Cert.DkvCombineIdeal.τ).loc Cert.DkvCombineIdeal.main_arg3))
      ∧ θ_run (Cert.DkvCombineRefIdeal.defs (F := Ideal)) (onTc (τ := Cert.DkvCombineRefIdeal.τ) (Cert.DkvCombineRefIdeal.main (F := Ideal))) ⟨m', fun _ => 0, g'⟩ (fun r => ∀ c : Dev Cert.DkvCombineRefIdeal.nD,
          r.2.mem ((c.tc : Thread Cert.DkvCombineRefIdeal.nD Cert.DkvCombineRefIdeal.τ).loc Cert.DkvCombineRefIdeal.main_v70) = v0 c
          ∧ r.2.mem ((c.tc : Thread Cert.DkvCombineRefIdeal.nD Cert.DkvCombineRefIdeal.τ).loc Cert.DkvCombineRefIdeal.main_arg0) = m' ((c.tc : Thread Cert.DkvCombineRefIdeal.nD Cert.DkvCombineRefIdeal.τ).loc Cert.DkvCombineRefIdeal.main_arg0)
          ∧ r.2.mem ((c.tc : Thread Cert.DkvCombineRefIdeal.nD Cert.DkvCombineRefIdeal.τ).loc Cert.DkvCombineRefIdeal.main_arg1) = m' ((c.tc : Thread Cert.DkvCombineRefIdeal.nD Cert.DkvCombineRefIdeal.τ).loc Cert.DkvCombineRefIdeal.main_arg1)
          ∧ r.2.mem ((c.tc : Thread Cert.DkvCombineRefIdeal.nD Cert.DkvCombineRefIdeal.τ).loc Cert.DkvCombineRefIdeal.main_arg2) = m' ((c.tc : Thread Cert.DkvCombineRefIdeal.nD Cert.DkvCombineRefIdeal.τ).loc Cert.DkvCombineRefIdeal.main_arg2)
          ∧ r.2.mem ((c.tc : Thread Cert.DkvCombineRefIdeal.nD Cert.DkvCombineRefIdeal.τ).loc Cert.DkvCombineRefIdeal.main_arg3) = m' ((c.tc : Thread Cert.DkvCombineRefIdeal.nD Cert.DkvCombineRefIdeal.τ).loc Cert.DkvCombineRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)) (v2 : (c : Dev Cert.LossIdeal.nD) → Buf (Elt Ideal) ((c.tc : Thread Cert.LossIdeal.nD Cert.LossIdeal.τ).loc Cert.LossIdeal.main_v4_2)) (v3 : (c : Dev Cert.LossIdeal.nD) → Buf (Elt Ideal) ((c.tc : Thread Cert.LossIdeal.nD Cert.LossIdeal.τ).loc Cert.LossIdeal.main_v4_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_v4_2) = v2 c
          ∧ r.2.mem ((c.tc : Thread Cert.LossIdeal.nD Cert.LossIdeal.τ).loc Cert.LossIdeal.main_v4_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_v58) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Swa_SwaIdeal : Prop :=
  True

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v1)) (v1 : (c : Dev Cert.SwaIdeal.nD) → Buf (Elt Ideal) ((c.tc : Thread Cert.SwaIdeal.nD Cert.SwaIdeal.τ).loc Cert.SwaIdeal.main_v0_1)) (v2 : (c : Dev Cert.SwaIdeal.nD) → Buf (Elt Ideal) ((c.tc : Thread Cert.SwaIdeal.nD Cert.SwaIdeal.τ).loc Cert.SwaIdeal.main_v0_2)) (v3 : (c : Dev Cert.SwaIdeal.nD) → Buf (Elt Ideal) ((c.tc : Thread Cert.SwaIdeal.nD Cert.SwaIdeal.τ).loc Cert.SwaIdeal.main_v3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v1) = v0 c
          ∧ r.2.mem ((c.tc : Thread Cert.SwaIdeal.nD Cert.SwaIdeal.τ).loc Cert.SwaIdeal.main_v0_1) = v1 c
          ∧ r.2.mem ((c.tc : Thread Cert.SwaIdeal.nD Cert.SwaIdeal.τ).loc Cert.SwaIdeal.main_v0_2) = v2 c
          ∧ r.2.mem ((c.tc : Thread Cert.SwaIdeal.nD Cert.SwaIdeal.τ).loc Cert.SwaIdeal.main_v3) = v3 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v161) = v0 c
          ∧ r.2.mem ((c.tc : Thread Cert.SwaRefIdeal.nD Cert.SwaRefIdeal.τ).loc Cert.SwaRefIdeal.main_v163) = v1 c
          ∧ r.2.mem ((c.tc : Thread Cert.SwaRefIdeal.nD Cert.SwaRefIdeal.τ).loc Cert.SwaRefIdeal.main_v165) = v2 c
          ∧ r.2.mem ((c.tc : Thread Cert.SwaRefIdeal.nD Cert.SwaRefIdeal.τ).loc Cert.SwaRefIdeal.main_v147) = v3 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Resid2_Resid2Ideal : Prop :=
  True

def algebraic_Resid2Ideal_Resid2RefIdeal_pre_finite_resid2 [hResid2Ideal : Cert.Resid2Ideal.Facts] [hResid2RefIdeal : Cert.Resid2RefIdeal.Facts] [hPre_finite_resid2 : Cert.Pre_finite_resid2.Facts] : Prop :=
  ∀ (m : (ℓ : Loc Cert.Resid2Ideal.nD Cert.Resid2Ideal.τ Cert.Resid2Ideal.sig) → Buf (Elt Ideal) ℓ) (g : Dev Cert.Resid2Ideal.nD → PrngReg)
    (m' : (ℓ : Loc Cert.Resid2RefIdeal.nD Cert.Resid2RefIdeal.τ Cert.Resid2RefIdeal.sig) → Buf (Elt Ideal) ℓ) (g' : Dev Cert.Resid2RefIdeal.nD → PrngReg), Pre_Resid2Ideal_finite_resid2 m →
    (∀ c : Dev Cert.Resid2Ideal.nD,
      m' ((c.tc : Thread Cert.Resid2RefIdeal.nD Cert.Resid2RefIdeal.τ).loc Cert.Resid2RefIdeal.main_arg0) = m ((c.tc : Thread Cert.Resid2Ideal.nD Cert.Resid2Ideal.τ).loc Cert.Resid2Ideal.main_arg0)
      ∧ m' ((c.tc : Thread Cert.Resid2RefIdeal.nD Cert.Resid2RefIdeal.τ).loc Cert.Resid2RefIdeal.main_arg1) = m ((c.tc : Thread Cert.Resid2Ideal.nD Cert.Resid2Ideal.τ).loc Cert.Resid2Ideal.main_arg1)
      ∧ m' ((c.tc : Thread Cert.Resid2RefIdeal.nD Cert.Resid2RefIdeal.τ).loc Cert.Resid2RefIdeal.main_arg2) = m ((c.tc : Thread Cert.Resid2Ideal.nD Cert.Resid2Ideal.τ).loc Cert.Resid2Ideal.main_arg2)
      ∧ m' ((c.tc : Thread Cert.Resid2RefIdeal.nD Cert.Resid2RefIdeal.τ).loc Cert.Resid2RefIdeal.main_arg3) = m ((c.tc : Thread Cert.Resid2Ideal.nD Cert.Resid2Ideal.τ).loc Cert.Resid2Ideal.main_arg3)
      ∧ m' ((c.tc : Thread Cert.Resid2RefIdeal.nD Cert.Resid2RefIdeal.τ).loc Cert.Resid2RefIdeal.main_arg4) = m ((c.tc : Thread Cert.Resid2Ideal.nD Cert.Resid2Ideal.τ).loc Cert.Resid2Ideal.main_arg4)
      ∧ m' ((c.tc : Thread Cert.Resid2RefIdeal.nD Cert.Resid2RefIdeal.τ).loc Cert.Resid2RefIdeal.main_arg5) = m ((c.tc : Thread Cert.Resid2Ideal.nD Cert.Resid2Ideal.τ).loc Cert.Resid2Ideal.main_arg5)
      ∧ m' ((c.tc : Thread Cert.Resid2RefIdeal.nD Cert.Resid2RefIdeal.τ).loc Cert.Resid2RefIdeal.main_arg6) = m ((c.tc : Thread Cert.Resid2Ideal.nD Cert.Resid2Ideal.τ).loc Cert.Resid2Ideal.main_arg6)
      ∧ m' ((c.tc : Thread Cert.Resid2RefIdeal.nD Cert.Resid2RefIdeal.τ).loc Cert.Resid2RefIdeal.main_arg7) = m ((c.tc : Thread Cert.Resid2Ideal.nD Cert.Resid2Ideal.τ).loc Cert.Resid2Ideal.main_arg7)) →
    ∃ (v0 : (c : Dev Cert.Resid2Ideal.nD) → Buf (Elt Ideal) ((c.tc : Thread Cert.Resid2Ideal.nD Cert.Resid2Ideal.τ).loc Cert.Resid2Ideal.main_v23_0)) (v1 : (c : Dev Cert.Resid2Ideal.nD) → Buf (Elt Ideal) ((c.tc : Thread Cert.Resid2Ideal.nD Cert.Resid2Ideal.τ).loc Cert.Resid2Ideal.main_v23_1)) (v2 : (c : Dev Cert.Resid2Ideal.nD) → Buf (Elt Ideal) ((c.tc : Thread Cert.Resid2Ideal.nD Cert.Resid2Ideal.τ).loc Cert.Resid2Ideal.main_v23_2)) (v3 : (c : Dev Cert.Resid2Ideal.nD) → Buf (Elt Ideal) ((c.tc : Thread Cert.Resid2Ideal.nD Cert.Resid2Ideal.τ).loc Cert.Resid2Ideal.main_v23_3)) (v4 : (c : Dev Cert.Resid2Ideal.nD) → Buf (Elt Ideal) ((c.tc : Thread Cert.Resid2Ideal.nD Cert.Resid2Ideal.τ).loc Cert.Resid2Ideal.main_v23_4)),
      θ_run (Cert.Resid2Ideal.defs (F := Ideal)) (onTc (τ := Cert.Resid2Ideal.τ) (Cert.Resid2Ideal.main (F := Ideal))) ⟨m, fun _ => 0, g⟩ (fun r => ∀ c : Dev Cert.Resid2Ideal.nD,
          r.2.mem ((c.tc : Thread Cert.Resid2Ideal.nD Cert.Resid2Ideal.τ).loc Cert.Resid2Ideal.main_v23_0) = v0 c
          ∧ r.2.mem ((c.tc : Thread Cert.Resid2Ideal.nD Cert.Resid2Ideal.τ).loc Cert.Resid2Ideal.main_v23_1) = v1 c
          ∧ r.2.mem ((c.tc : Thread Cert.Resid2Ideal.nD Cert.Resid2Ideal.τ).loc Cert.Resid2Ideal.main_v23_2) = v2 c
          ∧ r.2.mem ((c.tc : Thread Cert.Resid2Ideal.nD Cert.Resid2Ideal.τ).loc Cert.Resid2Ideal.main_v23_3) = v3 c
          ∧ r.2.mem ((c.tc : Thread Cert.Resid2Ideal.nD Cert.Resid2Ideal.τ).loc Cert.Resid2Ideal.main_v23_4) = v4 c
          ∧ r.2.mem ((c.tc : Thread Cert.Resid2Ideal.nD Cert.Resid2Ideal.τ).loc Cert.Resid2Ideal.main_arg0) = m ((c.tc : Thread Cert.Resid2Ideal.nD Cert.Resid2Ideal.τ).loc Cert.Resid2Ideal.main_arg0)
          ∧ r.2.mem ((c.tc : Thread Cert.Resid2Ideal.nD Cert.Resid2Ideal.τ).loc Cert.Resid2Ideal.main_arg1) = m ((c.tc : Thread Cert.Resid2Ideal.nD Cert.Resid2Ideal.τ).loc Cert.Resid2Ideal.main_arg1)
          ∧ r.2.mem ((c.tc : Thread Cert.Resid2Ideal.nD Cert.Resid2Ideal.τ).loc Cert.Resid2Ideal.main_arg2) = m ((c.tc : Thread Cert.Resid2Ideal.nD Cert.Resid2Ideal.τ).loc Cert.Resid2Ideal.main_arg2)
          ∧ r.2.mem ((c.tc : Thread Cert.Resid2Ideal.nD Cert.Resid2Ideal.τ).loc Cert.Resid2Ideal.main_arg3) = m ((c.tc : Thread Cert.Resid2Ideal.nD Cert.Resid2Ideal.τ).loc Cert.Resid2Ideal.main_arg3)
          ∧ r.2.mem ((c.tc : Thread Cert.Resid2Ideal.nD Cert.Resid2Ideal.τ).loc Cert.Resid2Ideal.main_arg4) = m ((c.tc : Thread Cert.Resid2Ideal.nD Cert.Resid2Ideal.τ).loc Cert.Resid2Ideal.main_arg4)
          ∧ r.2.mem ((c.tc : Thread Cert.Resid2Ideal.nD Cert.Resid2Ideal.τ).loc Cert.Resid2Ideal.main_arg5) = m ((c.tc : Thread Cert.Resid2Ideal.nD Cert.Resid2Ideal.τ).loc Cert.Resid2Ideal.main_arg5)
          ∧ r.2.mem ((c.tc : Thread Cert.Resid2Ideal.nD Cert.Resid2Ideal.τ).loc Cert.Resid2Ideal.main_arg6) = m ((c.tc : Thread Cert.Resid2Ideal.nD Cert.Resid2Ideal.τ).loc Cert.Resid2Ideal.main_arg6)
          ∧ r.2.mem ((c.tc : Thread Cert.Resid2Ideal.nD Cert.Resid2Ideal.τ).loc Cert.Resid2Ideal.main_arg7) = m ((c.tc : Thread Cert.Resid2Ideal.nD Cert.Resid2Ideal.τ).loc Cert.Resid2Ideal.main_arg7))
      ∧ θ_run (Cert.Resid2RefIdeal.defs (F := Ideal)) (onTc (τ := Cert.Resid2RefIdeal.τ) (Cert.Resid2RefIdeal.main (F := Ideal))) ⟨m', fun _ => 0, g'⟩ (fun r => ∀ c : Dev Cert.Resid2RefIdeal.nD,
          r.2.mem ((c.tc : Thread Cert.Resid2RefIdeal.nD Cert.Resid2RefIdeal.τ).loc Cert.Resid2RefIdeal.main_v115) = v0 c
          ∧ r.2.mem ((c.tc : Thread Cert.Resid2RefIdeal.nD Cert.Resid2RefIdeal.τ).loc Cert.Resid2RefIdeal.main_v117) = v1 c
          ∧ r.2.mem ((c.tc : Thread Cert.Resid2RefIdeal.nD Cert.Resid2RefIdeal.τ).loc Cert.Resid2RefIdeal.main_v118) = v2 c
          ∧ r.2.mem ((c.tc : Thread Cert.Resid2RefIdeal.nD Cert.Resid2RefIdeal.τ).loc Cert.Resid2RefIdeal.main_v119) = v3 c
          ∧ r.2.mem ((c.tc : Thread Cert.Resid2RefIdeal.nD Cert.Resid2RefIdeal.τ).loc Cert.Resid2RefIdeal.main_v120) = v4 c
          ∧ r.2.mem ((c.tc : Thread Cert.Resid2RefIdeal.nD Cert.Resid2RefIdeal.τ).loc Cert.Resid2RefIdeal.main_arg0) = m' ((c.tc : Thread Cert.Resid2RefIdeal.nD Cert.Resid2RefIdeal.τ).loc Cert.Resid2RefIdeal.main_arg0)
          ∧ r.2.mem ((c.tc : Thread Cert.Resid2RefIdeal.nD Cert.Resid2RefIdeal.τ).loc Cert.Resid2RefIdeal.main_arg1) = m' ((c.tc : Thread Cert.Resid2RefIdeal.nD Cert.Resid2RefIdeal.τ).loc Cert.Resid2RefIdeal.main_arg1)
          ∧ r.2.mem ((c.tc : Thread Cert.Resid2RefIdeal.nD Cert.Resid2RefIdeal.τ).loc Cert.Resid2RefIdeal.main_arg2) = m' ((c.tc : Thread Cert.Resid2RefIdeal.nD Cert.Resid2RefIdeal.τ).loc Cert.Resid2RefIdeal.main_arg2)
          ∧ r.2.mem ((c.tc : Thread Cert.Resid2RefIdeal.nD Cert.Resid2RefIdeal.τ).loc Cert.Resid2RefIdeal.main_arg3) = m' ((c.tc : Thread Cert.Resid2RefIdeal.nD Cert.Resid2RefIdeal.τ).loc Cert.Resid2RefIdeal.main_arg3)
          ∧ r.2.mem ((c.tc : Thread Cert.Resid2RefIdeal.nD Cert.Resid2RefIdeal.τ).loc Cert.Resid2RefIdeal.main_arg4) = m' ((c.tc : Thread Cert.Resid2RefIdeal.nD Cert.Resid2RefIdeal.τ).loc Cert.Resid2RefIdeal.main_arg4)
          ∧ r.2.mem ((c.tc : Thread Cert.Resid2RefIdeal.nD Cert.Resid2RefIdeal.τ).loc Cert.Resid2RefIdeal.main_arg5) = m' ((c.tc : Thread Cert.Resid2RefIdeal.nD Cert.Resid2RefIdeal.τ).loc Cert.Resid2RefIdeal.main_arg5)
          ∧ r.2.mem ((c.tc : Thread Cert.Resid2RefIdeal.nD Cert.Resid2RefIdeal.τ).loc Cert.Resid2RefIdeal.main_arg6) = m' ((c.tc : Thread Cert.Resid2RefIdeal.nD Cert.Resid2RefIdeal.τ).loc Cert.Resid2RefIdeal.main_arg6)
          ∧ r.2.mem ((c.tc : Thread Cert.Resid2RefIdeal.nD Cert.Resid2RefIdeal.τ).loc Cert.Resid2RefIdeal.main_arg7) = m' ((c.tc : Thread Cert.Resid2RefIdeal.nD Cert.Resid2RefIdeal.τ).loc Cert.Resid2RefIdeal.main_arg7))

def preserves_MixResid_MixResidIdeal : Prop :=
  True

def algebraic_MixResidIdeal_MixResidRefIdeal_pre_finite_mix_resid [hMixResidIdeal : Cert.MixResidIdeal.Facts] [hMixResidRefIdeal : Cert.MixResidRefIdeal.Facts] [hPre_finite_mix_resid : Cert.Pre_finite_mix_resid.Facts] : Prop :=
  ∀ (m : (ℓ : Loc Cert.MixResidIdeal.nD Cert.MixResidIdeal.τ Cert.MixResidIdeal.sig) → Buf (Elt Ideal) ℓ) (g : Dev Cert.MixResidIdeal.nD → PrngReg)
    (m' : (ℓ : Loc Cert.MixResidRefIdeal.nD Cert.MixResidRefIdeal.τ Cert.MixResidRefIdeal.sig) → Buf (Elt Ideal) ℓ) (g' : Dev Cert.MixResidRefIdeal.nD → PrngReg), Pre_MixResidIdeal_finite_mix_resid m →
    (∀ c : Dev Cert.MixResidIdeal.nD,
      m' ((c.tc : Thread Cert.MixResidRefIdeal.nD Cert.MixResidRefIdeal.τ).loc Cert.MixResidRefIdeal.main_arg0) = m ((c.tc : Thread Cert.MixResidIdeal.nD Cert.MixResidIdeal.τ).loc Cert.MixResidIdeal.main_arg0)
      ∧ m' ((c.tc : Thread Cert.MixResidRefIdeal.nD Cert.MixResidRefIdeal.τ).loc Cert.MixResidRefIdeal.main_arg1) = m ((c.tc : Thread Cert.MixResidIdeal.nD Cert.MixResidIdeal.τ).loc Cert.MixResidIdeal.main_arg1)
      ∧ m' ((c.tc : Thread Cert.MixResidRefIdeal.nD Cert.MixResidRefIdeal.τ).loc Cert.MixResidRefIdeal.main_arg2) = m ((c.tc : Thread Cert.MixResidIdeal.nD Cert.MixResidIdeal.τ).loc Cert.MixResidIdeal.main_arg2)
      ∧ m' ((c.tc : Thread Cert.MixResidRefIdeal.nD Cert.MixResidRefIdeal.τ).loc Cert.MixResidRefIdeal.main_arg3) = m ((c.tc : Thread Cert.MixResidIdeal.nD Cert.MixResidIdeal.τ).loc Cert.MixResidIdeal.main_arg3)
      ∧ m' ((c.tc : Thread Cert.MixResidRefIdeal.nD Cert.MixResidRefIdeal.τ).loc Cert.MixResidRefIdeal.main_arg4) = m ((c.tc : Thread Cert.MixResidIdeal.nD Cert.MixResidIdeal.τ).loc Cert.MixResidIdeal.main_arg4)
      ∧ m' ((c.tc : Thread Cert.MixResidRefIdeal.nD Cert.MixResidRefIdeal.τ).loc Cert.MixResidRefIdeal.main_arg5) = m ((c.tc : Thread Cert.MixResidIdeal.nD Cert.MixResidIdeal.τ).loc Cert.MixResidIdeal.main_arg5)) →
    ∃ (v0 : (c : Dev Cert.MixResidIdeal.nD) → Buf (Elt Ideal) ((c.tc : Thread Cert.MixResidIdeal.nD Cert.MixResidIdeal.τ).loc Cert.MixResidIdeal.main_v21_0)) (v1 : (c : Dev Cert.MixResidIdeal.nD) → Buf (Elt Ideal) ((c.tc : Thread Cert.MixResidIdeal.nD Cert.MixResidIdeal.τ).loc Cert.MixResidIdeal.main_v21_1)) (v2 : (c : Dev Cert.MixResidIdeal.nD) → Buf (Elt Ideal) ((c.tc : Thread Cert.MixResidIdeal.nD Cert.MixResidIdeal.τ).loc Cert.MixResidIdeal.main_v21_2)) (v3 : (c : Dev Cert.MixResidIdeal.nD) → Buf (Elt Ideal) ((c.tc : Thread Cert.MixResidIdeal.nD Cert.MixResidIdeal.τ).loc Cert.MixResidIdeal.main_v21_3)),
      θ_run (Cert.MixResidIdeal.defs (F := Ideal)) (onTc (τ := Cert.MixResidIdeal.τ) (Cert.MixResidIdeal.main (F := Ideal))) ⟨m, fun _ => 0, g⟩ (fun r => ∀ c : Dev Cert.MixResidIdeal.nD,
          r.2.mem ((c.tc : Thread Cert.MixResidIdeal.nD Cert.MixResidIdeal.τ).loc Cert.MixResidIdeal.main_v21_0) = v0 c
          ∧ r.2.mem ((c.tc : Thread Cert.MixResidIdeal.nD Cert.MixResidIdeal.τ).loc Cert.MixResidIdeal.main_v21_1) = v1 c
          ∧ r.2.mem ((c.tc : Thread Cert.MixResidIdeal.nD Cert.MixResidIdeal.τ).loc Cert.MixResidIdeal.main_v21_2) = v2 c
          ∧ r.2.mem ((c.tc : Thread Cert.MixResidIdeal.nD Cert.MixResidIdeal.τ).loc Cert.MixResidIdeal.main_v21_3) = v3 c
          ∧ r.2.mem ((c.tc : Thread Cert.MixResidIdeal.nD Cert.MixResidIdeal.τ).loc Cert.MixResidIdeal.main_arg0) = m ((c.tc : Thread Cert.MixResidIdeal.nD Cert.MixResidIdeal.τ).loc Cert.MixResidIdeal.main_arg0)
          ∧ r.2.mem ((c.tc : Thread Cert.MixResidIdeal.nD Cert.MixResidIdeal.τ).loc Cert.MixResidIdeal.main_arg1) = m ((c.tc : Thread Cert.MixResidIdeal.nD Cert.MixResidIdeal.τ).loc Cert.MixResidIdeal.main_arg1)
          ∧ r.2.mem ((c.tc : Thread Cert.MixResidIdeal.nD Cert.MixResidIdeal.τ).loc Cert.MixResidIdeal.main_arg2) = m ((c.tc : Thread Cert.MixResidIdeal.nD Cert.MixResidIdeal.τ).loc Cert.MixResidIdeal.main_arg2)
          ∧ r.2.mem ((c.tc : Thread Cert.MixResidIdeal.nD Cert.MixResidIdeal.τ).loc Cert.MixResidIdeal.main_arg3) = m ((c.tc : Thread Cert.MixResidIdeal.nD Cert.MixResidIdeal.τ).loc Cert.MixResidIdeal.main_arg3)
          ∧ r.2.mem ((c.tc : Thread Cert.MixResidIdeal.nD Cert.MixResidIdeal.τ).loc Cert.MixResidIdeal.main_arg4) = m ((c.tc : Thread Cert.MixResidIdeal.nD Cert.MixResidIdeal.τ).loc Cert.MixResidIdeal.main_arg4)
          ∧ r.2.mem ((c.tc : Thread Cert.MixResidIdeal.nD Cert.MixResidIdeal.τ).loc Cert.MixResidIdeal.main_arg5) = m ((c.tc : Thread Cert.MixResidIdeal.nD Cert.MixResidIdeal.τ).loc Cert.MixResidIdeal.main_arg5))
      ∧ θ_run (Cert.MixResidRefIdeal.defs (F := Ideal)) (onTc (τ := Cert.MixResidRefIdeal.τ) (Cert.MixResidRefIdeal.main (F := Ideal))) ⟨m', fun _ => 0, g'⟩ (fun r => ∀ c : Dev Cert.MixResidRefIdeal.nD,
          r.2.mem ((c.tc : Thread Cert.MixResidRefIdeal.nD Cert.MixResidRefIdeal.τ).loc Cert.MixResidRefIdeal.main_v77) = v0 c
          ∧ r.2.mem ((c.tc : Thread Cert.MixResidRefIdeal.nD Cert.MixResidRefIdeal.τ).loc Cert.MixResidRefIdeal.main_v79) = v1 c
          ∧ r.2.mem ((c.tc : Thread Cert.MixResidRefIdeal.nD Cert.MixResidRefIdeal.τ).loc Cert.MixResidRefIdeal.main_v80) = v2 c
          ∧ r.2.mem ((c.tc : Thread Cert.MixResidRefIdeal.nD Cert.MixResidRefIdeal.τ).loc Cert.MixResidRefIdeal.main_v81) = v3 c
          ∧ r.2.mem ((c.tc : Thread Cert.MixResidRefIdeal.nD Cert.MixResidRefIdeal.τ).loc Cert.MixResidRefIdeal.main_arg0) = m' ((c.tc : Thread Cert.MixResidRefIdeal.nD Cert.MixResidRefIdeal.τ).loc Cert.MixResidRefIdeal.main_arg0)
          ∧ r.2.mem ((c.tc : Thread Cert.MixResidRefIdeal.nD Cert.MixResidRefIdeal.τ).loc Cert.MixResidRefIdeal.main_arg1) = m' ((c.tc : Thread Cert.MixResidRefIdeal.nD Cert.MixResidRefIdeal.τ).loc Cert.MixResidRefIdeal.main_arg1)
          ∧ r.2.mem ((c.tc : Thread Cert.MixResidRefIdeal.nD Cert.MixResidRefIdeal.τ).loc Cert.MixResidRefIdeal.main_arg2) = m' ((c.tc : Thread Cert.MixResidRefIdeal.nD Cert.MixResidRefIdeal.τ).loc Cert.MixResidRefIdeal.main_arg2)
          ∧ r.2.mem ((c.tc : Thread Cert.MixResidRefIdeal.nD Cert.MixResidRefIdeal.τ).loc Cert.MixResidRefIdeal.main_arg3) = m' ((c.tc : Thread Cert.MixResidRefIdeal.nD Cert.MixResidRefIdeal.τ).loc Cert.MixResidRefIdeal.main_arg3)
          ∧ r.2.mem ((c.tc : Thread Cert.MixResidRefIdeal.nD Cert.MixResidRefIdeal.τ).loc Cert.MixResidRefIdeal.main_arg4) = m' ((c.tc : Thread Cert.MixResidRefIdeal.nD Cert.MixResidRefIdeal.τ).loc Cert.MixResidRefIdeal.main_arg4)
          ∧ r.2.mem ((c.tc : Thread Cert.MixResidRefIdeal.nD Cert.MixResidRefIdeal.τ).loc Cert.MixResidRefIdeal.main_arg5) = m' ((c.tc : Thread Cert.MixResidRefIdeal.nD Cert.MixResidRefIdeal.τ).loc Cert.MixResidRefIdeal.main_arg5))

def preserves_InNorm_InNormIdeal : Prop :=
  True

def algebraic_InNormIdeal_InNormRefIdeal_pre_finite_in_norm [hInNormIdeal : Cert.InNormIdeal.Facts] [hInNormRefIdeal : Cert.InNormRefIdeal.Facts] [hPre_finite_in_norm : Cert.Pre_finite_in_norm.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal_finite_in_norm m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)
      ∧ m' ((c.tc : Thread Cert.InNormRefIdeal.nD Cert.InNormRefIdeal.τ).loc Cert.InNormRefIdeal.main_arg2) = m ((c.tc : Thread Cert.InNormIdeal.nD Cert.InNormIdeal.τ).loc Cert.InNormIdeal.main_arg2)
      ∧ m' ((c.tc : Thread Cert.InNormRefIdeal.nD Cert.InNormRefIdeal.τ).loc Cert.InNormRefIdeal.main_arg3) = m ((c.tc : Thread Cert.InNormIdeal.nD Cert.InNormIdeal.τ).loc Cert.InNormIdeal.main_arg3)) →
    ∃ (v0 : (c : Dev Cert.InNormIdeal.nD) → Buf (Elt Ideal) ((c.tc : Thread Cert.InNormIdeal.nD Cert.InNormIdeal.τ).loc Cert.InNormIdeal.main_v4_0)) (v1 : (c : Dev Cert.InNormIdeal.nD) → Buf (Elt Ideal) ((c.tc : Thread Cert.InNormIdeal.nD Cert.InNormIdeal.τ).loc Cert.InNormIdeal.main_v4_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v4_0) = v0 c
          ∧ r.2.mem ((c.tc : Thread Cert.InNormIdeal.nD Cert.InNormIdeal.τ).loc Cert.InNormIdeal.main_v4_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
          ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
          ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v38) = v0 c
          ∧ r.2.mem ((c.tc : Thread Cert.InNormRefIdeal.nD Cert.InNormRefIdeal.τ).loc Cert.InNormRefIdeal.main_v39) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1)
          ∧ r.2.mem ((c.tc : Thread Cert.InNormRefIdeal.nD Cert.InNormRefIdeal.τ).loc Cert.InNormRefIdeal.main_arg2) = m' ((c.tc : Thread Cert.InNormRefIdeal.nD Cert.InNormRefIdeal.τ).loc Cert.InNormRefIdeal.main_arg2)
          ∧ r.2.mem ((c.tc : Thread Cert.InNormRefIdeal.nD Cert.InNormRefIdeal.τ).loc Cert.InNormRefIdeal.main_arg3) = m' ((c.tc : Thread Cert.InNormRefIdeal.nD Cert.InNormRefIdeal.τ).loc Cert.InNormRefIdeal.main_arg3))

def preserves_MemAttnA_MemAttnAIdeal : Prop :=
  True

def algebraic_MemAttnAIdeal_MemAttnARefIdeal_pre_finite_mem_attn_a [hMemAttnAIdeal : Cert.MemAttnAIdeal.Facts] [hMemAttnARefIdeal : Cert.MemAttnARefIdeal.Facts] [hPre_finite_mem_attn_a : Cert.Pre_finite_mem_attn_a.Facts] : Prop :=
  ∀ (m : (ℓ : Loc Cert.MemAttnAIdeal.nD Cert.MemAttnAIdeal.τ Cert.MemAttnAIdeal.sig) → Buf (Elt Ideal) ℓ) (g : Dev Cert.MemAttnAIdeal.nD → PrngReg)
    (m' : (ℓ : Loc Cert.MemAttnARefIdeal.nD Cert.MemAttnARefIdeal.τ Cert.MemAttnARefIdeal.sig) → Buf (Elt Ideal) ℓ) (g' : Dev Cert.MemAttnARefIdeal.nD → PrngReg), Pre_MemAttnAIdeal_finite_mem_attn_a m →
    (∀ c : Dev Cert.MemAttnAIdeal.nD,
      m' ((c.tc : Thread Cert.MemAttnARefIdeal.nD Cert.MemAttnARefIdeal.τ).loc Cert.MemAttnARefIdeal.main_arg0) = m ((c.tc : Thread Cert.MemAttnAIdeal.nD Cert.MemAttnAIdeal.τ).loc Cert.MemAttnAIdeal.main_arg0)
      ∧ m' ((c.tc : Thread Cert.MemAttnARefIdeal.nD Cert.MemAttnARefIdeal.τ).loc Cert.MemAttnARefIdeal.main_arg1) = m ((c.tc : Thread Cert.MemAttnAIdeal.nD Cert.MemAttnAIdeal.τ).loc Cert.MemAttnAIdeal.main_arg1)
      ∧ m' ((c.tc : Thread Cert.MemAttnARefIdeal.nD Cert.MemAttnARefIdeal.τ).loc Cert.MemAttnARefIdeal.main_arg2) = m ((c.tc : Thread Cert.MemAttnAIdeal.nD Cert.MemAttnAIdeal.τ).loc Cert.MemAttnAIdeal.main_arg2)
      ∧ m' ((c.tc : Thread Cert.MemAttnARefIdeal.nD Cert.MemAttnARefIdeal.τ).loc Cert.MemAttnARefIdeal.main_arg3) = m ((c.tc : Thread Cert.MemAttnAIdeal.nD Cert.MemAttnAIdeal.τ).loc Cert.MemAttnAIdeal.main_arg3)) →
    ∃ (v0 : (c : Dev Cert.MemAttnAIdeal.nD) → Buf (Elt Ideal) ((c.tc : Thread Cert.MemAttnAIdeal.nD Cert.MemAttnAIdeal.τ).loc Cert.MemAttnAIdeal.main_v0_0)) (v1 : (c : Dev Cert.MemAttnAIdeal.nD) → Buf (Elt Ideal) ((c.tc : Thread Cert.MemAttnAIdeal.nD Cert.MemAttnAIdeal.τ).loc Cert.MemAttnAIdeal.main_v0_1)),
      θ_run (Cert.MemAttnAIdeal.defs (F := Ideal)) (onTc (τ := Cert.MemAttnAIdeal.τ) (Cert.MemAttnAIdeal.main (F := Ideal))) ⟨m, fun _ => 0, g⟩ (fun r => ∀ c : Dev Cert.MemAttnAIdeal.nD,
          r.2.mem ((c.tc : Thread Cert.MemAttnAIdeal.nD Cert.MemAttnAIdeal.τ).loc Cert.MemAttnAIdeal.main_v0_0) = v0 c
          ∧ r.2.mem ((c.tc : Thread Cert.MemAttnAIdeal.nD Cert.MemAttnAIdeal.τ).loc Cert.MemAttnAIdeal.main_v0_1) = v1 c
          ∧ r.2.mem ((c.tc : Thread Cert.MemAttnAIdeal.nD Cert.MemAttnAIdeal.τ).loc Cert.MemAttnAIdeal.main_arg0) = m ((c.tc : Thread Cert.MemAttnAIdeal.nD Cert.MemAttnAIdeal.τ).loc Cert.MemAttnAIdeal.main_arg0)
          ∧ r.2.mem ((c.tc : Thread Cert.MemAttnAIdeal.nD Cert.MemAttnAIdeal.τ).loc Cert.MemAttnAIdeal.main_arg1) = m ((c.tc : Thread Cert.MemAttnAIdeal.nD Cert.MemAttnAIdeal.τ).loc Cert.MemAttnAIdeal.main_arg1)
          ∧ r.2.mem ((c.tc : Thread Cert.MemAttnAIdeal.nD Cert.MemAttnAIdeal.τ).loc Cert.MemAttnAIdeal.main_arg2) = m ((c.tc : Thread Cert.MemAttnAIdeal.nD Cert.MemAttnAIdeal.τ).loc Cert.MemAttnAIdeal.main_arg2)
          ∧ r.2.mem ((c.tc : Thread Cert.MemAttnAIdeal.nD Cert.MemAttnAIdeal.τ).loc Cert.MemAttnAIdeal.main_arg3) = m ((c.tc : Thread Cert.MemAttnAIdeal.nD Cert.MemAttnAIdeal.τ).loc Cert.MemAttnAIdeal.main_arg3))
      ∧ θ_run (Cert.MemAttnARefIdeal.defs (F := Ideal)) (onTc (τ := Cert.MemAttnARefIdeal.τ) (Cert.MemAttnARefIdeal.main (F := Ideal))) ⟨m', fun _ => 0, g'⟩ (fun r => ∀ c : Dev Cert.MemAttnARefIdeal.nD,
          r.2.mem ((c.tc : Thread Cert.MemAttnARefIdeal.nD Cert.MemAttnARefIdeal.τ).loc Cert.MemAttnARefIdeal.main_v78) = v0 c
          ∧ r.2.mem ((c.tc : Thread Cert.MemAttnARefIdeal.nD Cert.MemAttnARefIdeal.τ).loc Cert.MemAttnARefIdeal.main_v74) = v1 c
          ∧ r.2.mem ((c.tc : Thread Cert.MemAttnARefIdeal.nD Cert.MemAttnARefIdeal.τ).loc Cert.MemAttnARefIdeal.main_arg0) = m' ((c.tc : Thread Cert.MemAttnARefIdeal.nD Cert.MemAttnARefIdeal.τ).loc Cert.MemAttnARefIdeal.main_arg0)
          ∧ r.2.mem ((c.tc : Thread Cert.MemAttnARefIdeal.nD Cert.MemAttnARefIdeal.τ).loc Cert.MemAttnARefIdeal.main_arg1) = m' ((c.tc : Thread Cert.MemAttnARefIdeal.nD Cert.MemAttnARefIdeal.τ).loc Cert.MemAttnARefIdeal.main_arg1)
          ∧ r.2.mem ((c.tc : Thread Cert.MemAttnARefIdeal.nD Cert.MemAttnARefIdeal.τ).loc Cert.MemAttnARefIdeal.main_arg2) = m' ((c.tc : Thread Cert.MemAttnARefIdeal.nD Cert.MemAttnARefIdeal.τ).loc Cert.MemAttnARefIdeal.main_arg2)
          ∧ r.2.mem ((c.tc : Thread Cert.MemAttnARefIdeal.nD Cert.MemAttnARefIdeal.τ).loc Cert.MemAttnARefIdeal.main_arg3) = m' ((c.tc : Thread Cert.MemAttnARefIdeal.nD Cert.MemAttnARefIdeal.τ).loc Cert.MemAttnARefIdeal.main_arg3))

def preserves_FfnAct_FfnActIdeal : Prop :=
  IdealRules.named_const.Statement Cert.FfnActIdeal.κ "gelu_kc" .f32 0x3D122279#32 ((80338380498831 / 2251799813685248 : ℝ) : EReal)
  ∧ IdealRules.named_const.Statement Cert.FfnActIdeal.κ "gelu_6kc" .f32 0x3E5B33B6#32 ((241015141496493 / 1125899906842624 : ℝ) : EReal)

def algebraic_FfnActIdeal_FfnActRefIdeal_pre_finite_ffn_act [hFfnActIdeal : Cert.FfnActIdeal.Facts] [hFfnActRefIdeal : Cert.FfnActRefIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_finite_ffn_act m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v2_0)) (v1 : (c : Dev Cert.FfnActIdeal.nD) → Buf (Elt Ideal) ((c.tc : Thread Cert.FfnActIdeal.nD Cert.FfnActIdeal.τ).loc Cert.FfnActIdeal.main_v2_1)) (v2 : (c : Dev Cert.FfnActIdeal.nD) → Buf (Elt Ideal) ((c.tc : Thread Cert.FfnActIdeal.nD Cert.FfnActIdeal.τ).loc Cert.FfnActIdeal.main_v3)) (v3 : (c : Dev Cert.FfnActIdeal.nD) → Buf (Elt Ideal) ((c.tc : Thread Cert.FfnActIdeal.nD Cert.FfnActIdeal.τ).loc Cert.FfnActIdeal.main_v4)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2_0) = v0 c
          ∧ r.2.mem ((c.tc : Thread Cert.FfnActIdeal.nD Cert.FfnActIdeal.τ).loc Cert.FfnActIdeal.main_v2_1) = v1 c
          ∧ r.2.mem ((c.tc : Thread Cert.FfnActIdeal.nD Cert.FfnActIdeal.τ).loc Cert.FfnActIdeal.main_v3) = v2 c
          ∧ r.2.mem ((c.tc : Thread Cert.FfnActIdeal.nD Cert.FfnActIdeal.τ).loc Cert.FfnActIdeal.main_v4) = v3 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v109) = v0 c
          ∧ r.2.mem ((c.tc : Thread Cert.FfnActRefIdeal.nD Cert.FfnActRefIdeal.τ).loc Cert.FfnActRefIdeal.main_v110) = v1 c
          ∧ r.2.mem ((c.tc : Thread Cert.FfnActRefIdeal.nD Cert.FfnActRefIdeal.τ).loc Cert.FfnActRefIdeal.main_v104) = v2 c
          ∧ r.2.mem ((c.tc : Thread Cert.FfnActRefIdeal.nD Cert.FfnActRefIdeal.τ).loc Cert.FfnActRefIdeal.main_v111) = v3 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_SwaFwd_SwaFwdIdeal : Prop :=
  True

def algebraic_SwaFwdIdeal_SwaFwdRefIdeal_pre_finite_swa_fwd [hSwaFwdIdeal : Cert.SwaFwdIdeal.Facts] [hSwaFwdRefIdeal : Cert.SwaFwdRefIdeal.Facts] [hPre_finite_swa_fwd : Cert.Pre_finite_swa_fwd.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_finite_swa_fwd m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v1)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v1) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v84) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v27) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_MemFwdA_MemFwdAIdeal : Prop :=
  True

def algebraic_MemFwdAIdeal_MemFwdARefIdeal [hMemFwdAIdeal : Cert.MemFwdAIdeal.Facts] [hMemFwdARefIdeal : Cert.MemFwdARefIdeal.Facts] : Prop :=
  ∀ (m : (ℓ : Loc Cert.MemFwdAIdeal.nD Cert.MemFwdAIdeal.τ Cert.MemFwdAIdeal.sig) → Buf (Elt Ideal) ℓ) (g : Dev Cert.MemFwdAIdeal.nD → PrngReg)
    (m' : (ℓ : Loc Cert.MemFwdARefIdeal.nD Cert.MemFwdARefIdeal.τ Cert.MemFwdARefIdeal.sig) → Buf (Elt Ideal) ℓ) (g' : Dev Cert.MemFwdARefIdeal.nD → PrngReg), Pre_MemFwdAIdeal m →
    (∀ c : Dev Cert.MemFwdAIdeal.nD,
      m' ((c.tc : Thread Cert.MemFwdARefIdeal.nD Cert.MemFwdARefIdeal.τ).loc Cert.MemFwdARefIdeal.main_arg0) = m ((c.tc : Thread Cert.MemFwdAIdeal.nD Cert.MemFwdAIdeal.τ).loc Cert.MemFwdAIdeal.main_arg0)
      ∧ m' ((c.tc : Thread Cert.MemFwdARefIdeal.nD Cert.MemFwdARefIdeal.τ).loc Cert.MemFwdARefIdeal.main_arg1) = m ((c.tc : Thread Cert.MemFwdAIdeal.nD Cert.MemFwdAIdeal.τ).loc Cert.MemFwdAIdeal.main_arg1)
      ∧ m' ((c.tc : Thread Cert.MemFwdARefIdeal.nD Cert.MemFwdARefIdeal.τ).loc Cert.MemFwdARefIdeal.main_arg2) = m ((c.tc : Thread Cert.MemFwdAIdeal.nD Cert.MemFwdAIdeal.τ).loc Cert.MemFwdAIdeal.main_arg2)) →
    ∃ (v0 : (c : Dev Cert.MemFwdAIdeal.nD) → Buf (Elt Ideal) ((c.tc : Thread Cert.MemFwdAIdeal.nD Cert.MemFwdAIdeal.τ).loc Cert.MemFwdAIdeal.main_v0)),
      θ_run (Cert.MemFwdAIdeal.defs (F := Ideal)) (onTc (τ := Cert.MemFwdAIdeal.τ) (Cert.MemFwdAIdeal.main (F := Ideal))) ⟨m, fun _ => 0, g⟩ (fun r => ∀ c : Dev Cert.MemFwdAIdeal.nD,
          r.2.mem ((c.tc : Thread Cert.MemFwdAIdeal.nD Cert.MemFwdAIdeal.τ).loc Cert.MemFwdAIdeal.main_v0) = v0 c
          ∧ r.2.mem ((c.tc : Thread Cert.MemFwdAIdeal.nD Cert.MemFwdAIdeal.τ).loc Cert.MemFwdAIdeal.main_arg0) = m ((c.tc : Thread Cert.MemFwdAIdeal.nD Cert.MemFwdAIdeal.τ).loc Cert.MemFwdAIdeal.main_arg0)
          ∧ r.2.mem ((c.tc : Thread Cert.MemFwdAIdeal.nD Cert.MemFwdAIdeal.τ).loc Cert.MemFwdAIdeal.main_arg1) = m ((c.tc : Thread Cert.MemFwdAIdeal.nD Cert.MemFwdAIdeal.τ).loc Cert.MemFwdAIdeal.main_arg1)
          ∧ r.2.mem ((c.tc : Thread Cert.MemFwdAIdeal.nD Cert.MemFwdAIdeal.τ).loc Cert.MemFwdAIdeal.main_arg2) = m ((c.tc : Thread Cert.MemFwdAIdeal.nD Cert.MemFwdAIdeal.τ).loc Cert.MemFwdAIdeal.main_arg2))
      ∧ θ_run (Cert.MemFwdARefIdeal.defs (F := Ideal)) (onTc (τ := Cert.MemFwdARefIdeal.τ) (Cert.MemFwdARefIdeal.main (F := Ideal))) ⟨m', fun _ => 0, g'⟩ (fun r => ∀ c : Dev Cert.MemFwdARefIdeal.nD,
          r.2.mem ((c.tc : Thread Cert.MemFwdARefIdeal.nD Cert.MemFwdARefIdeal.τ).loc Cert.MemFwdARefIdeal.main_v27) = v0 c
          ∧ r.2.mem ((c.tc : Thread Cert.MemFwdARefIdeal.nD Cert.MemFwdARefIdeal.τ).loc Cert.MemFwdARefIdeal.main_arg0) = m' ((c.tc : Thread Cert.MemFwdARefIdeal.nD Cert.MemFwdARefIdeal.τ).loc Cert.MemFwdARefIdeal.main_arg0)
          ∧ r.2.mem ((c.tc : Thread Cert.MemFwdARefIdeal.nD Cert.MemFwdARefIdeal.τ).loc Cert.MemFwdARefIdeal.main_arg1) = m' ((c.tc : Thread Cert.MemFwdARefIdeal.nD Cert.MemFwdARefIdeal.τ).loc Cert.MemFwdARefIdeal.main_arg1)
          ∧ r.2.mem ((c.tc : Thread Cert.MemFwdARefIdeal.nD Cert.MemFwdARefIdeal.τ).loc Cert.MemFwdARefIdeal.main_arg2) = m' ((c.tc : Thread Cert.MemFwdARefIdeal.nD Cert.MemFwdARefIdeal.τ).loc Cert.MemFwdARefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)) →
    ∃ (v0 : (c : Dev Cert.ResidFwdIdeal.nD) → Buf (Elt Ideal) ((c.tc : Thread Cert.ResidFwdIdeal.nD Cert.ResidFwdIdeal.τ).loc Cert.ResidFwdIdeal.main_v4_0)) (v1 : (c : Dev Cert.ResidFwdIdeal.nD) → Buf (Elt Ideal) ((c.tc : Thread Cert.ResidFwdIdeal.nD Cert.ResidFwdIdeal.τ).loc Cert.ResidFwdIdeal.main_v4_1)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v4_0) = v0 c
          ∧ r.2.mem ((c.tc : Thread Cert.ResidFwdIdeal.nD Cert.ResidFwdIdeal.τ).loc Cert.ResidFwdIdeal.main_v4_1) = v1 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v15) = v0 c
          ∧ r.2.mem ((c.tc : Thread Cert.ResidFwdRefIdeal.nD Cert.ResidFwdRefIdeal.τ).loc Cert.ResidFwdRefIdeal.main_v30) = v1 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3))

def preserves_Resid2Fwd_Resid2FwdIdeal : Prop :=
  True

def algebraic_Resid2FwdIdeal_Resid2FwdRefIdeal [hResid2FwdIdeal : Cert.Resid2FwdIdeal.Facts] [hResid2FwdRefIdeal : Cert.Resid2FwdRefIdeal.Facts] : Prop :=
  ∀ (m : (ℓ : Loc Cert.Resid2FwdIdeal.nD Cert.Resid2FwdIdeal.τ Cert.Resid2FwdIdeal.sig) → Buf (Elt Ideal) ℓ) (g : Dev Cert.Resid2FwdIdeal.nD → PrngReg)
    (m' : (ℓ : Loc Cert.Resid2FwdRefIdeal.nD Cert.Resid2FwdRefIdeal.τ Cert.Resid2FwdRefIdeal.sig) → Buf (Elt Ideal) ℓ) (g' : Dev Cert.Resid2FwdRefIdeal.nD → PrngReg), Pre_Resid2FwdIdeal m →
    (∀ c : Dev Cert.Resid2FwdIdeal.nD,
      m' ((c.tc : Thread Cert.Resid2FwdRefIdeal.nD Cert.Resid2FwdRefIdeal.τ).loc Cert.Resid2FwdRefIdeal.main_arg0) = m ((c.tc : Thread Cert.Resid2FwdIdeal.nD Cert.Resid2FwdIdeal.τ).loc Cert.Resid2FwdIdeal.main_arg0)
      ∧ m' ((c.tc : Thread Cert.Resid2FwdRefIdeal.nD Cert.Resid2FwdRefIdeal.τ).loc Cert.Resid2FwdRefIdeal.main_arg1) = m ((c.tc : Thread Cert.Resid2FwdIdeal.nD Cert.Resid2FwdIdeal.τ).loc Cert.Resid2FwdIdeal.main_arg1)
      ∧ m' ((c.tc : Thread Cert.Resid2FwdRefIdeal.nD Cert.Resid2FwdRefIdeal.τ).loc Cert.Resid2FwdRefIdeal.main_arg2) = m ((c.tc : Thread Cert.Resid2FwdIdeal.nD Cert.Resid2FwdIdeal.τ).loc Cert.Resid2FwdIdeal.main_arg2)
      ∧ m' ((c.tc : Thread Cert.Resid2FwdRefIdeal.nD Cert.Resid2FwdRefIdeal.τ).loc Cert.Resid2FwdRefIdeal.main_arg3) = m ((c.tc : Thread Cert.Resid2FwdIdeal.nD Cert.Resid2FwdIdeal.τ).loc Cert.Resid2FwdIdeal.main_arg3)
      ∧ m' ((c.tc : Thread Cert.Resid2FwdRefIdeal.nD Cert.Resid2FwdRefIdeal.τ).loc Cert.Resid2FwdRefIdeal.main_arg4) = m ((c.tc : Thread Cert.Resid2FwdIdeal.nD Cert.Resid2FwdIdeal.τ).loc Cert.Resid2FwdIdeal.main_arg4)) →
    ∃ (v0 : (c : Dev Cert.Resid2FwdIdeal.nD) → Buf (Elt Ideal) ((c.tc : Thread Cert.Resid2FwdIdeal.nD Cert.Resid2FwdIdeal.τ).loc Cert.Resid2FwdIdeal.main_v5_0)) (v1 : (c : Dev Cert.Resid2FwdIdeal.nD) → Buf (Elt Ideal) ((c.tc : Thread Cert.Resid2FwdIdeal.nD Cert.Resid2FwdIdeal.τ).loc Cert.Resid2FwdIdeal.main_v5_1)) (v2 : (c : Dev Cert.Resid2FwdIdeal.nD) → Buf (Elt Ideal) ((c.tc : Thread Cert.Resid2FwdIdeal.nD Cert.Resid2FwdIdeal.τ).loc Cert.Resid2FwdIdeal.main_v5_2)),
      θ_run (Cert.Resid2FwdIdeal.defs (F := Ideal)) (onTc (τ := Cert.Resid2FwdIdeal.τ) (Cert.Resid2FwdIdeal.main (F := Ideal))) ⟨m, fun _ => 0, g⟩ (fun r => ∀ c : Dev Cert.Resid2FwdIdeal.nD,
          r.2.mem ((c.tc : Thread Cert.Resid2FwdIdeal.nD Cert.Resid2FwdIdeal.τ).loc Cert.Resid2FwdIdeal.main_v5_0) = v0 c
          ∧ r.2.mem ((c.tc : Thread Cert.Resid2FwdIdeal.nD Cert.Resid2FwdIdeal.τ).loc Cert.Resid2FwdIdeal.main_v5_1) = v1 c
          ∧ r.2.mem ((c.tc : Thread Cert.Resid2FwdIdeal.nD Cert.Resid2FwdIdeal.τ).loc Cert.Resid2FwdIdeal.main_v5_2) = v2 c
          ∧ r.2.mem ((c.tc : Thread Cert.Resid2FwdIdeal.nD Cert.Resid2FwdIdeal.τ).loc Cert.Resid2FwdIdeal.main_arg0) = m ((c.tc : Thread Cert.Resid2FwdIdeal.nD Cert.Resid2FwdIdeal.τ).loc Cert.Resid2FwdIdeal.main_arg0)
          ∧ r.2.mem ((c.tc : Thread Cert.Resid2FwdIdeal.nD Cert.Resid2FwdIdeal.τ).loc Cert.Resid2FwdIdeal.main_arg1) = m ((c.tc : Thread Cert.Resid2FwdIdeal.nD Cert.Resid2FwdIdeal.τ).loc Cert.Resid2FwdIdeal.main_arg1)
          ∧ r.2.mem ((c.tc : Thread Cert.Resid2FwdIdeal.nD Cert.Resid2FwdIdeal.τ).loc Cert.Resid2FwdIdeal.main_arg2) = m ((c.tc : Thread Cert.Resid2FwdIdeal.nD Cert.Resid2FwdIdeal.τ).loc Cert.Resid2FwdIdeal.main_arg2)
          ∧ r.2.mem ((c.tc : Thread Cert.Resid2FwdIdeal.nD Cert.Resid2FwdIdeal.τ).loc Cert.Resid2FwdIdeal.main_arg3) = m ((c.tc : Thread Cert.Resid2FwdIdeal.nD Cert.Resid2FwdIdeal.τ).loc Cert.Resid2FwdIdeal.main_arg3)
          ∧ r.2.mem ((c.tc : Thread Cert.Resid2FwdIdeal.nD Cert.Resid2FwdIdeal.τ).loc Cert.Resid2FwdIdeal.main_arg4) = m ((c.tc : Thread Cert.Resid2FwdIdeal.nD Cert.Resid2FwdIdeal.τ).loc Cert.Resid2FwdIdeal.main_arg4))
      ∧ θ_run (Cert.Resid2FwdRefIdeal.defs (F := Ideal)) (onTc (τ := Cert.Resid2FwdRefIdeal.τ) (Cert.Resid2FwdRefIdeal.main (F := Ideal))) ⟨m', fun _ => 0, g'⟩ (fun r => ∀ c : Dev Cert.Resid2FwdRefIdeal.nD,
          r.2.mem ((c.tc : Thread Cert.Resid2FwdRefIdeal.nD Cert.Resid2FwdRefIdeal.τ).loc Cert.Resid2FwdRefIdeal.main_v15) = v0 c
          ∧ r.2.mem ((c.tc : Thread Cert.Resid2FwdRefIdeal.nD Cert.Resid2FwdRefIdeal.τ).loc Cert.Resid2FwdRefIdeal.main_v30) = v1 c
          ∧ r.2.mem ((c.tc : Thread Cert.Resid2FwdRefIdeal.nD Cert.Resid2FwdRefIdeal.τ).loc Cert.Resid2FwdRefIdeal.main_v45) = v2 c
          ∧ r.2.mem ((c.tc : Thread Cert.Resid2FwdRefIdeal.nD Cert.Resid2FwdRefIdeal.τ).loc Cert.Resid2FwdRefIdeal.main_arg0) = m' ((c.tc : Thread Cert.Resid2FwdRefIdeal.nD Cert.Resid2FwdRefIdeal.τ).loc Cert.Resid2FwdRefIdeal.main_arg0)
          ∧ r.2.mem ((c.tc : Thread Cert.Resid2FwdRefIdeal.nD Cert.Resid2FwdRefIdeal.τ).loc Cert.Resid2FwdRefIdeal.main_arg1) = m' ((c.tc : Thread Cert.Resid2FwdRefIdeal.nD Cert.Resid2FwdRefIdeal.τ).loc Cert.Resid2FwdRefIdeal.main_arg1)
          ∧ r.2.mem ((c.tc : Thread Cert.Resid2FwdRefIdeal.nD Cert.Resid2FwdRefIdeal.τ).loc Cert.Resid2FwdRefIdeal.main_arg2) = m' ((c.tc : Thread Cert.Resid2FwdRefIdeal.nD Cert.Resid2FwdRefIdeal.τ).loc Cert.Resid2FwdRefIdeal.main_arg2)
          ∧ r.2.mem ((c.tc : Thread Cert.Resid2FwdRefIdeal.nD Cert.Resid2FwdRefIdeal.τ).loc Cert.Resid2FwdRefIdeal.main_arg3) = m' ((c.tc : Thread Cert.Resid2FwdRefIdeal.nD Cert.Resid2FwdRefIdeal.τ).loc Cert.Resid2FwdRefIdeal.main_arg3)
          ∧ r.2.mem ((c.tc : Thread Cert.Resid2FwdRefIdeal.nD Cert.Resid2FwdRefIdeal.τ).loc Cert.Resid2FwdRefIdeal.main_arg4) = m' ((c.tc : Thread Cert.Resid2FwdRefIdeal.nD Cert.Resid2FwdRefIdeal.τ).loc Cert.Resid2FwdRefIdeal.main_arg4))

def preserves_FfnFwd_FfnFwdIdeal : Prop :=
  IdealRules.named_const.Statement Cert.FfnFwdIdeal.κ "gelu_kc" .f32 0x3D122279#32 ((80338380498831 / 2251799813685248 : ℝ) : EReal)
  ∧ IdealRules.named_const.Statement Cert.FfnFwdIdeal.κ "gelu_6kc" .f32 0x3E5B33B6#32 ((241015141496493 / 1125899906842624 : ℝ) : EReal)

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v1_0)) (v1 : (c : Dev Cert.FfnFwdIdeal.nD) → Buf (Elt Ideal) ((c.tc : Thread Cert.FfnFwdIdeal.nD Cert.FfnFwdIdeal.τ).loc Cert.FfnFwdIdeal.main_v1_1)) (v2 : (c : Dev Cert.FfnFwdIdeal.nD) → Buf (Elt Ideal) ((c.tc : Thread Cert.FfnFwdIdeal.nD Cert.FfnFwdIdeal.τ).loc Cert.FfnFwdIdeal.main_v1_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v1_0) = v0 c
          ∧ r.2.mem ((c.tc : Thread Cert.FfnFwdIdeal.nD Cert.FfnFwdIdeal.τ).loc Cert.FfnFwdIdeal.main_v1_1) = v1 c
          ∧ r.2.mem ((c.tc : Thread Cert.FfnFwdIdeal.nD Cert.FfnFwdIdeal.τ).loc Cert.FfnFwdIdeal.main_v1_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v54) = v0 c
          ∧ r.2.mem ((c.tc : Thread Cert.FfnFwdRefIdeal.nD Cert.FfnFwdRefIdeal.τ).loc Cert.FfnFwdRefIdeal.main_v68) = v1 c
          ∧ r.2.mem ((c.tc : Thread Cert.FfnFwdRefIdeal.nD Cert.FfnFwdRefIdeal.τ).loc Cert.FfnFwdRefIdeal.main_v70) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v2)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v2) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)) →
    ∃ (v0 : (c : Dev Cert.DH2Ideal.nD) → Buf (Elt Ideal) ((c.tc : Thread Cert.DH2Ideal.nD Cert.DH2Ideal.τ).loc Cert.DH2Ideal.main_v4)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v4) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v5) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_AdamSmall_AdamSmallIdeal : Prop :=
  IdealRules.named_const.Statement Cert.AdamSmallIdeal.κ "one_over_1_minus_b1_pow" .f32 0x3FC48605#32 ((8388608 / 5463681 : ℝ) : EReal)
  ∧ IdealRules.named_const.Statement Cert.AdamSmallIdeal.κ "one_over_1_minus_b2_pow" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v8_0)) (v1 : (c : Dev Cert.AdamSmallIdeal.nD) → Buf (Elt Ideal) ((c.tc : Thread Cert.AdamSmallIdeal.nD Cert.AdamSmallIdeal.τ).loc Cert.AdamSmallIdeal.main_v8_1)) (v2 : (c : Dev Cert.AdamSmallIdeal.nD) → Buf (Elt Ideal) ((c.tc : Thread Cert.AdamSmallIdeal.nD Cert.AdamSmallIdeal.τ).loc Cert.AdamSmallIdeal.main_v8_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v8_0) = v0 c
          ∧ r.2.mem ((c.tc : Thread Cert.AdamSmallIdeal.nD Cert.AdamSmallIdeal.τ).loc Cert.AdamSmallIdeal.main_v8_1) = v1 c
          ∧ r.2.mem ((c.tc : Thread Cert.AdamSmallIdeal.nD Cert.AdamSmallIdeal.τ).loc Cert.AdamSmallIdeal.main_v8_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v24) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v26) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamLayer_AdamLayerIdeal : Prop :=
  IdealRules.named_const.Statement Cert.AdamLayerIdeal.κ "one_over_1_minus_b1_pow" .f32 0x3FC48605#32 ((8388608 / 5463681 : ℝ) : EReal)
  ∧ IdealRules.named_const.Statement Cert.AdamLayerIdeal.κ "one_over_1_minus_b2_pow" .f32 0x42C8E6D3#32 ((268435456 / 2672307 : ℝ) : EReal)

def algebraic_AdamLayerIdeal_AdamLayerRefIdeal [hAdamLayerIdeal : Cert.AdamLayerIdeal.Facts] [hAdamLayerRefIdeal : Cert.AdamLayerRefIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg)
    (m' : (ℓ : Loc Cert.AdamLayerRefIdeal.nD Cert.AdamLayerRefIdeal.τ Cert.AdamLayerRefIdeal.sig) → Buf (Elt Ideal) ℓ) (g' : Dev Cert.AdamLayerRefIdeal.nD → PrngReg), Pre_AdamLayerIdeal m →
    (∀ c : Dev Cert.AdamLayerIdeal.nD,
      m' ((c.tc : Thread Cert.AdamLayerRefIdeal.nD Cert.AdamLayerRefIdeal.τ).loc Cert.AdamLayerRefIdeal.main_arg0) = m ((c.tc : Thread Cert.AdamLayerIdeal.nD Cert.AdamLayerIdeal.τ).loc Cert.AdamLayerIdeal.main_arg0)
      ∧ m' ((c.tc : Thread Cert.AdamLayerRefIdeal.nD Cert.AdamLayerRefIdeal.τ).loc Cert.AdamLayerRefIdeal.main_arg1) = m ((c.tc : Thread Cert.AdamLayerIdeal.nD Cert.AdamLayerIdeal.τ).loc Cert.AdamLayerIdeal.main_arg1)
      ∧ m' ((c.tc : Thread Cert.AdamLayerRefIdeal.nD Cert.AdamLayerRefIdeal.τ).loc Cert.AdamLayerRefIdeal.main_arg2) = m ((c.tc : Thread Cert.AdamLayerIdeal.nD Cert.AdamLayerIdeal.τ).loc Cert.AdamLayerIdeal.main_arg2)
      ∧ m' ((c.tc : Thread Cert.AdamLayerRefIdeal.nD Cert.AdamLayerRefIdeal.τ).loc Cert.AdamLayerRefIdeal.main_arg3) = m ((c.tc : Thread Cert.AdamLayerIdeal.nD Cert.AdamLayerIdeal.τ).loc Cert.AdamLayerIdeal.main_arg3)
      ∧ m' ((c.tc : Thread Cert.AdamLayerRefIdeal.nD Cert.AdamLayerRefIdeal.τ).loc Cert.AdamLayerRefIdeal.main_arg4) = m ((c.tc : Thread Cert.AdamLayerIdeal.nD Cert.AdamLayerIdeal.τ).loc Cert.AdamLayerIdeal.main_arg4)
      ∧ m' ((c.tc : Thread Cert.AdamLayerRefIdeal.nD Cert.AdamLayerRefIdeal.τ).loc Cert.AdamLayerRefIdeal.main_arg5) = m ((c.tc : Thread Cert.AdamLayerIdeal.nD Cert.AdamLayerIdeal.τ).loc Cert.AdamLayerIdeal.main_arg5)
      ∧ m' ((c.tc : Thread Cert.AdamLayerRefIdeal.nD Cert.AdamLayerRefIdeal.τ).loc Cert.AdamLayerRefIdeal.main_arg6) = m ((c.tc : Thread Cert.AdamLayerIdeal.nD Cert.AdamLayerIdeal.τ).loc Cert.AdamLayerIdeal.main_arg6)
      ∧ m' ((c.tc : Thread Cert.AdamLayerRefIdeal.nD Cert.AdamLayerRefIdeal.τ).loc Cert.AdamLayerRefIdeal.main_arg7) = m ((c.tc : Thread Cert.AdamLayerIdeal.nD Cert.AdamLayerIdeal.τ).loc Cert.AdamLayerIdeal.main_arg7)) →
    ∃ (v0 : (c : Dev Cert.AdamLayerIdeal.nD) → Buf (Elt Ideal) ((c.tc : Thread Cert.AdamLayerIdeal.nD Cert.AdamLayerIdeal.τ).loc Cert.AdamLayerIdeal.main_v0_0)) (v1 : (c : Dev Cert.AdamLayerIdeal.nD) → Buf (Elt Ideal) ((c.tc : Thread Cert.AdamLayerIdeal.nD Cert.AdamLayerIdeal.τ).loc Cert.AdamLayerIdeal.main_v0_1)) (v2 : (c : Dev Cert.AdamLayerIdeal.nD) → Buf (Elt Ideal) ((c.tc : Thread Cert.AdamLayerIdeal.nD Cert.AdamLayerIdeal.τ).loc Cert.AdamLayerIdeal.main_v0_2)) (v3 : (c : Dev Cert.AdamLayerIdeal.nD) → Buf (Elt Ideal) ((c.tc : Thread Cert.AdamLayerIdeal.nD Cert.AdamLayerIdeal.τ).loc Cert.AdamLayerIdeal.main_v0_3)),
      θ_run (Cert.AdamLayerIdeal.defs (F := Ideal)) (onTc (τ := Cert.AdamLayerIdeal.τ) (Cert.AdamLayerIdeal.main (F := Ideal))) ⟨m, fun _ => 0, g⟩ (fun r => ∀ c : Dev Cert.AdamLayerIdeal.nD,
          r.2.mem ((c.tc : Thread Cert.AdamLayerIdeal.nD Cert.AdamLayerIdeal.τ).loc Cert.AdamLayerIdeal.main_v0_0) = v0 c
          ∧ r.2.mem ((c.tc : Thread Cert.AdamLayerIdeal.nD Cert.AdamLayerIdeal.τ).loc Cert.AdamLayerIdeal.main_v0_1) = v1 c
          ∧ r.2.mem ((c.tc : Thread Cert.AdamLayerIdeal.nD Cert.AdamLayerIdeal.τ).loc Cert.AdamLayerIdeal.main_v0_2) = v2 c
          ∧ r.2.mem ((c.tc : Thread Cert.AdamLayerIdeal.nD Cert.AdamLayerIdeal.τ).loc Cert.AdamLayerIdeal.main_v0_3) = v3 c
          ∧ r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
          ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
          ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
          ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
          ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
          ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
          ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
          ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ θ_run (Cert.AdamLayerRefIdeal.defs (F := Ideal)) (onTc (τ := Cert.AdamLayerRefIdeal.τ) (Cert.AdamLayerRefIdeal.main (F := Ideal))) ⟨m', fun _ => 0, g'⟩ (fun r => ∀ c : Dev Cert.AdamLayerRefIdeal.nD,
          r.2.mem ((c.tc : Thread Cert.AdamLayerRefIdeal.nD Cert.AdamLayerRefIdeal.τ).loc Cert.AdamLayerRefIdeal.main_v29) = v0 c
          ∧ r.2.mem ((c.tc : Thread Cert.AdamLayerRefIdeal.nD Cert.AdamLayerRefIdeal.τ).loc Cert.AdamLayerRefIdeal.main_v32) = v1 c
          ∧ r.2.mem ((c.tc : Thread Cert.AdamLayerRefIdeal.nD Cert.AdamLayerRefIdeal.τ).loc Cert.AdamLayerRefIdeal.main_v35) = v2 c
          ∧ r.2.mem ((c.tc : Thread Cert.AdamLayerRefIdeal.nD Cert.AdamLayerRefIdeal.τ).loc Cert.AdamLayerRefIdeal.main_v38) = v3 c
          ∧ r.2.mem ((c.tc : Thread Cert.AdamLayerRefIdeal.nD Cert.AdamLayerRefIdeal.τ).loc Cert.AdamLayerRefIdeal.main_arg0) = m' ((c.tc : Thread Cert.AdamLayerRefIdeal.nD Cert.AdamLayerRefIdeal.τ).loc Cert.AdamLayerRefIdeal.main_arg0)
          ∧ r.2.mem ((c.tc : Thread Cert.AdamLayerRefIdeal.nD Cert.AdamLayerRefIdeal.τ).loc Cert.AdamLayerRefIdeal.main_arg1) = m' ((c.tc : Thread Cert.AdamLayerRefIdeal.nD Cert.AdamLayerRefIdeal.τ).loc Cert.AdamLayerRefIdeal.main_arg1)
          ∧ r.2.mem ((c.tc : Thread Cert.AdamLayerRefIdeal.nD Cert.AdamLayerRefIdeal.τ).loc Cert.AdamLayerRefIdeal.main_arg2) = m' ((c.tc : Thread Cert.AdamLayerRefIdeal.nD Cert.AdamLayerRefIdeal.τ).loc Cert.AdamLayerRefIdeal.main_arg2)
          ∧ r.2.mem ((c.tc : Thread Cert.AdamLayerRefIdeal.nD Cert.AdamLayerRefIdeal.τ).loc Cert.AdamLayerRefIdeal.main_arg3) = m' ((c.tc : Thread Cert.AdamLayerRefIdeal.nD Cert.AdamLayerRefIdeal.τ).loc Cert.AdamLayerRefIdeal.main_arg3)
          ∧ r.2.mem ((c.tc : Thread Cert.AdamLayerRefIdeal.nD Cert.AdamLayerRefIdeal.τ).loc Cert.AdamLayerRefIdeal.main_arg4) = m' ((c.tc : Thread Cert.AdamLayerRefIdeal.nD Cert.AdamLayerRefIdeal.τ).loc Cert.AdamLayerRefIdeal.main_arg4)
          ∧ r.2.mem ((c.tc : Thread Cert.AdamLayerRefIdeal.nD Cert.AdamLayerRefIdeal.τ).loc Cert.AdamLayerRefIdeal.main_arg5) = m' ((c.tc : Thread Cert.AdamLayerRefIdeal.nD Cert.AdamLayerRefIdeal.τ).loc Cert.AdamLayerRefIdeal.main_arg5)
          ∧ r.2.mem ((c.tc : Thread Cert.AdamLayerRefIdeal.nD Cert.AdamLayerRefIdeal.τ).loc Cert.AdamLayerRefIdeal.main_arg6) = m' ((c.tc : Thread Cert.AdamLayerRefIdeal.nD Cert.AdamLayerRefIdeal.τ).loc Cert.AdamLayerRefIdeal.main_arg6)
          ∧ r.2.mem ((c.tc : Thread Cert.AdamLayerRefIdeal.nD Cert.AdamLayerRefIdeal.τ).loc Cert.AdamLayerRefIdeal.main_arg7) = m' ((c.tc : Thread Cert.AdamLayerRefIdeal.nD Cert.AdamLayerRefIdeal.τ).loc Cert.AdamLayerRefIdeal.main_arg7))

def preserves_RsPair_RsPairIdeal : Prop :=
  True

def algebraic_RsPairIdeal_RsPairRefIdeal [hRsPairIdeal : Cert.RsPairIdeal.Facts] [hRsPairRefIdeal : Cert.RsPairRefIdeal.Facts] [hPre_at_origin : Cert.Pre_at_origin.Facts] : Prop :=
  ∀ (m : (ℓ : Loc Cert.RsPairIdeal.nD Cert.RsPairIdeal.τ Cert.RsPairIdeal.sig) → Buf (Elt Ideal) ℓ) (g : Dev Cert.RsPairIdeal.nD → PrngReg)
    (m' : (ℓ : Loc Cert.RsPairRefIdeal.nD Cert.RsPairRefIdeal.τ Cert.RsPairRefIdeal.sig) → Buf (Elt Ideal) ℓ) (g' : Dev Cert.RsPairRefIdeal.nD → PrngReg), Pre_RsPairIdeal m →
    (∀ c : Dev Cert.RsPairIdeal.nD,
      m' ((c.tc : Thread Cert.RsPairRefIdeal.nD Cert.RsPairRefIdeal.τ).loc Cert.RsPairRefIdeal.main_arg0) = m ((c.tc : Thread Cert.RsPairIdeal.nD Cert.RsPairIdeal.τ).loc Cert.RsPairIdeal.main_arg0)
      ∧ m' ((c.tc : Thread Cert.RsPairRefIdeal.nD Cert.RsPairRefIdeal.τ).loc Cert.RsPairRefIdeal.main_arg1) = m ((c.tc : Thread Cert.RsPairIdeal.nD Cert.RsPairIdeal.τ).loc Cert.RsPairIdeal.main_arg1)
      ∧ m' ((c.tc : Thread Cert.RsPairRefIdeal.nD Cert.RsPairRefIdeal.τ).loc Cert.RsPairRefIdeal.main_arg2) = m ((c.tc : Thread Cert.RsPairIdeal.nD Cert.RsPairIdeal.τ).loc Cert.RsPairIdeal.main_arg2)) →
    ∃ (v0 : (c : Dev Cert.RsPairIdeal.nD) → Buf (Elt Ideal) ((c.tc : Thread Cert.RsPairIdeal.nD Cert.RsPairIdeal.τ).loc Cert.RsPairIdeal.main_v0_0)) (v1 : (c : Dev Cert.RsPairIdeal.nD) → Buf (Elt Ideal) ((c.tc : Thread Cert.RsPairIdeal.nD Cert.RsPairIdeal.τ).loc Cert.RsPairIdeal.main_v0_1)),
      θ_run (Cert.RsPairIdeal.defs (F := Ideal)) (onTc (τ := Cert.RsPairIdeal.τ) (Cert.RsPairIdeal.main (F := Ideal))) ⟨m, fun _ => 0, g⟩ (fun r => ∀ c : Dev Cert.RsPairIdeal.nD,
          r.2.mem ((c.tc : Thread Cert.RsPairIdeal.nD Cert.RsPairIdeal.τ).loc Cert.RsPairIdeal.main_v0_0) = v0 c
          ∧ r.2.mem ((c.tc : Thread Cert.RsPairIdeal.nD Cert.RsPairIdeal.τ).loc Cert.RsPairIdeal.main_v0_1) = v1 c
          ∧ r.2.mem ((c.tc : Thread Cert.RsPairIdeal.nD Cert.RsPairIdeal.τ).loc Cert.RsPairIdeal.main_arg0) = m ((c.tc : Thread Cert.RsPairIdeal.nD Cert.RsPairIdeal.τ).loc Cert.RsPairIdeal.main_arg0)
          ∧ r.2.mem ((c.tc : Thread Cert.RsPairIdeal.nD Cert.RsPairIdeal.τ).loc Cert.RsPairIdeal.main_arg1) = m ((c.tc : Thread Cert.RsPairIdeal.nD Cert.RsPairIdeal.τ).loc Cert.RsPairIdeal.main_arg1)
          ∧ r.2.mem ((c.tc : Thread Cert.RsPairIdeal.nD Cert.RsPairIdeal.τ).loc Cert.RsPairIdeal.main_arg2) = m ((c.tc : Thread Cert.RsPairIdeal.nD Cert.RsPairIdeal.τ).loc Cert.RsPairIdeal.main_arg2))
      ∧ θ_run (Cert.RsPairRefIdeal.defs (F := Ideal)) (onTc (τ := Cert.RsPairRefIdeal.τ) (Cert.RsPairRefIdeal.main (F := Ideal))) ⟨m', fun _ => 0, g'⟩ (fun r => ∀ c : Dev Cert.RsPairRefIdeal.nD,
          r.2.mem ((c.tc : Thread Cert.RsPairRefIdeal.nD Cert.RsPairRefIdeal.τ).loc Cert.RsPairRefIdeal.main_v26) = v0 c
          ∧ r.2.mem ((c.tc : Thread Cert.RsPairRefIdeal.nD Cert.RsPairRefIdeal.τ).loc Cert.RsPairRefIdeal.main_v27) = v1 c
          ∧ r.2.mem ((c.tc : Thread Cert.RsPairRefIdeal.nD Cert.RsPairRefIdeal.τ).loc Cert.RsPairRefIdeal.main_arg0) = m' ((c.tc : Thread Cert.RsPairRefIdeal.nD Cert.RsPairRefIdeal.τ).loc Cert.RsPairRefIdeal.main_arg0)
          ∧ r.2.mem ((c.tc : Thread Cert.RsPairRefIdeal.nD Cert.RsPairRefIdeal.τ).loc Cert.RsPairRefIdeal.main_arg1) = m' ((c.tc : Thread Cert.RsPairRefIdeal.nD Cert.RsPairRefIdeal.τ).loc Cert.RsPairRefIdeal.main_arg1)
          ∧ r.2.mem ((c.tc : Thread Cert.RsPairRefIdeal.nD Cert.RsPairRefIdeal.τ).loc Cert.RsPairRefIdeal.main_arg2) = m' ((c.tc : Thread Cert.RsPairRefIdeal.nD Cert.RsPairRefIdeal.τ).loc Cert.RsPairRefIdeal.main_arg2))

def Claim : Prop :=
  ∃ (hMemNorm : Cert.MemNorm.Facts) (hMemNormIdeal : Cert.MemNormIdeal.Facts) (hMemNormRefIdeal : Cert.MemNormRefIdeal.Facts) (hMemAttn : Cert.MemAttn.Facts) (hMemAttnIdeal : Cert.MemAttnIdeal.Facts) (hMemAttnRefIdeal : Cert.MemAttnRefIdeal.Facts) (hDkvCombine : Cert.DkvCombine.Facts) (hDkvCombineIdeal : Cert.DkvCombineIdeal.Facts) (hDkvCombineRefIdeal : Cert.DkvCombineRefIdeal.Facts) (hLoss : Cert.Loss.Facts) (hLossIdeal : Cert.LossIdeal.Facts) (hLossRefIdeal : Cert.LossRefIdeal.Facts) (hSwa : Cert.Swa.Facts) (hSwaIdeal : Cert.SwaIdeal.Facts) (hSwaRefIdeal : Cert.SwaRefIdeal.Facts) (hResid2 : Cert.Resid2.Facts) (hResid2Ideal : Cert.Resid2Ideal.Facts) (hResid2RefIdeal : Cert.Resid2RefIdeal.Facts) (hMixResid : Cert.MixResid.Facts) (hMixResidIdeal : Cert.MixResidIdeal.Facts) (hMixResidRefIdeal : Cert.MixResidRefIdeal.Facts) (hInNorm : Cert.InNorm.Facts) (hInNormIdeal : Cert.InNormIdeal.Facts) (hInNormRefIdeal : Cert.InNormRefIdeal.Facts) (hMemAttnA : Cert.MemAttnA.Facts) (hMemAttnAIdeal : Cert.MemAttnAIdeal.Facts) (hMemAttnARefIdeal : Cert.MemAttnARefIdeal.Facts) (hFfnAct : Cert.FfnAct.Facts) (hFfnActIdeal : Cert.FfnActIdeal.Facts) (hFfnActRefIdeal : Cert.FfnActRefIdeal.Facts) (hSwaFwd : Cert.SwaFwd.Facts) (hSwaFwdIdeal : Cert.SwaFwdIdeal.Facts) (hSwaFwdRefIdeal : Cert.SwaFwdRefIdeal.Facts) (hMemFwd : Cert.MemFwd.Facts) (hMemFwdIdeal : Cert.MemFwdIdeal.Facts) (hMemFwdRefIdeal : Cert.MemFwdRefIdeal.Facts) (hMemFwdA : Cert.MemFwdA.Facts) (hMemFwdAIdeal : Cert.MemFwdAIdeal.Facts) (hMemFwdARefIdeal : Cert.MemFwdARefIdeal.Facts) (hNormFwd : Cert.NormFwd.Facts) (hNormFwdIdeal : Cert.NormFwdIdeal.Facts) (hNormFwdRefIdeal : Cert.NormFwdRefIdeal.Facts) (hResidFwd : Cert.ResidFwd.Facts) (hResidFwdIdeal : Cert.ResidFwdIdeal.Facts) (hResidFwdRefIdeal : Cert.ResidFwdRefIdeal.Facts) (hResid2Fwd : Cert.Resid2Fwd.Facts) (hResid2FwdIdeal : Cert.Resid2FwdIdeal.Facts) (hResid2FwdRefIdeal : Cert.Resid2FwdRefIdeal.Facts) (hFfnFwd : Cert.FfnFwd.Facts) (hFfnFwdIdeal : Cert.FfnFwdIdeal.Facts) (hFfnFwdRefIdeal : Cert.FfnFwdRefIdeal.Facts) (hFfnDown : Cert.FfnDown.Facts) (hFfnDownIdeal : Cert.FfnDownIdeal.Facts) (hFfnDownRefIdeal : Cert.FfnDownRefIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hFfnUp : Cert.FfnUp.Facts) (hFfnUpIdeal : Cert.FfnUpIdeal.Facts) (hFfnUpRefIdeal : Cert.FfnUpRefIdeal.Facts) (hDH2 : Cert.DH2.Facts) (hDH2Ideal : Cert.DH2Ideal.Facts) (hDH2RefIdeal : Cert.DH2RefIdeal.Facts) (hDwUp : Cert.DwUp.Facts) (hDwUpIdeal : Cert.DwUpIdeal.Facts) (hDwUpRefIdeal : Cert.DwUpRefIdeal.Facts) (hAdamSmall : Cert.AdamSmall.Facts) (hAdamSmallIdeal : Cert.AdamSmallIdeal.Facts) (hAdamSmallRefIdeal : Cert.AdamSmallRefIdeal.Facts) (hAdamLayer : Cert.AdamLayer.Facts) (hAdamLayerIdeal : Cert.AdamLayerIdeal.Facts) (hAdamLayerRefIdeal : Cert.AdamLayerRefIdeal.Facts) (hRsPair : Cert.RsPair.Facts) (hRsPairIdeal : Cert.RsPairIdeal.Facts) (hRsPairRefIdeal : Cert.RsPairRefIdeal.Facts) (hPre_finite_mem_attn : Cert.Pre_finite_mem_attn.Facts) (hPre_finite_loss : Cert.Pre_finite_loss.Facts) (hPre_finite_swa : Cert.Pre_finite_swa.Facts) (hPre_finite_resid2 : Cert.Pre_finite_resid2.Facts) (hPre_finite_mix_resid : Cert.Pre_finite_mix_resid.Facts) (hPre_finite_in_norm : Cert.Pre_finite_in_norm.Facts) (hPre_finite_mem_attn_a : Cert.Pre_finite_mem_attn_a.Facts) (hPre_finite_ffn_act : Cert.Pre_finite_ffn_act.Facts) (hPre_finite_swa_fwd : Cert.Pre_finite_swa_fwd.Facts) (hPre_finite_ffn_fwd : Cert.Pre_finite_ffn_fwd.Facts) (hPre_at_origin : Cert.Pre_at_origin.Facts),
    quiescent_MemNorm (hMemNorm := hMemNorm)
    ∧ quiescent_MemNormIdeal (hMemNormIdeal := hMemNormIdeal)
    ∧ quiescent_MemNormRefIdeal (hMemNormRefIdeal := hMemNormRefIdeal)
    ∧ quiescent_MemAttn (hMemAttn := hMemAttn)
    ∧ quiescent_MemAttnIdeal (hMemAttnIdeal := hMemAttnIdeal)
    ∧ quiescent_MemAttnIdeal_pre_finite_mem_attn (hMemAttnIdeal := hMemAttnIdeal) (hPre_finite_mem_attn := hPre_finite_mem_attn)
    ∧ quiescent_MemAttnRefIdeal (hMemAttnRefIdeal := hMemAttnRefIdeal)
    ∧ quiescent_MemAttnRefIdeal_pre_finite_mem_attn (hMemAttnRefIdeal := hMemAttnRefIdeal) (hPre_finite_mem_attn := hPre_finite_mem_attn)
    ∧ quiescent_DkvCombine (hDkvCombine := hDkvCombine)
    ∧ quiescent_DkvCombineIdeal (hDkvCombineIdeal := hDkvCombineIdeal)
    ∧ quiescent_DkvCombineRefIdeal (hDkvCombineRefIdeal := hDkvCombineRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_Resid2 (hResid2 := hResid2)
    ∧ quiescent_Resid2Ideal (hResid2Ideal := hResid2Ideal)
    ∧ quiescent_Resid2Ideal_pre_finite_resid2 (hResid2Ideal := hResid2Ideal) (hPre_finite_resid2 := hPre_finite_resid2)
    ∧ quiescent_Resid2RefIdeal (hResid2RefIdeal := hResid2RefIdeal)
    ∧ quiescent_Resid2RefIdeal_pre_finite_resid2 (hResid2RefIdeal := hResid2RefIdeal) (hPre_finite_resid2 := hPre_finite_resid2)
    ∧ quiescent_MixResid (hMixResid := hMixResid)
    ∧ quiescent_MixResidIdeal (hMixResidIdeal := hMixResidIdeal)
    ∧ quiescent_MixResidIdeal_pre_finite_mix_resid (hMixResidIdeal := hMixResidIdeal) (hPre_finite_mix_resid := hPre_finite_mix_resid)
    ∧ quiescent_MixResidRefIdeal (hMixResidRefIdeal := hMixResidRefIdeal)
    ∧ quiescent_MixResidRefIdeal_pre_finite_mix_resid (hMixResidRefIdeal := hMixResidRefIdeal) (hPre_finite_mix_resid := hPre_finite_mix_resid)
    ∧ quiescent_InNorm (hInNorm := hInNorm)
    ∧ quiescent_InNormIdeal (hInNormIdeal := hInNormIdeal)
    ∧ quiescent_InNormIdeal_pre_finite_in_norm (hInNormIdeal := hInNormIdeal) (hPre_finite_in_norm := hPre_finite_in_norm)
    ∧ quiescent_InNormRefIdeal (hInNormRefIdeal := hInNormRefIdeal)
    ∧ quiescent_InNormRefIdeal_pre_finite_in_norm (hInNormRefIdeal := hInNormRefIdeal) (hPre_finite_in_norm := hPre_finite_in_norm)
    ∧ quiescent_MemAttnA (hMemAttnA := hMemAttnA)
    ∧ quiescent_MemAttnAIdeal (hMemAttnAIdeal := hMemAttnAIdeal)
    ∧ quiescent_MemAttnAIdeal_pre_finite_mem_attn_a (hMemAttnAIdeal := hMemAttnAIdeal) (hPre_finite_mem_attn_a := hPre_finite_mem_attn_a)
    ∧ quiescent_MemAttnARefIdeal (hMemAttnARefIdeal := hMemAttnARefIdeal)
    ∧ quiescent_MemAttnARefIdeal_pre_finite_mem_attn_a (hMemAttnARefIdeal := hMemAttnARefIdeal) (hPre_finite_mem_attn_a := hPre_finite_mem_attn_a)
    ∧ quiescent_FfnAct (hFfnAct := hFfnAct)
    ∧ quiescent_FfnActIdeal (hFfnActIdeal := hFfnActIdeal)
    ∧ quiescent_FfnActIdeal_pre_finite_ffn_act (hFfnActIdeal := hFfnActIdeal) (hPre_finite_ffn_act := hPre_finite_ffn_act)
    ∧ quiescent_FfnActRefIdeal (hFfnActRefIdeal := hFfnActRefIdeal)
    ∧ quiescent_FfnActRefIdeal_pre_finite_ffn_act (hFfnActRefIdeal := hFfnActRefIdeal) (hPre_finite_ffn_act := hPre_finite_ffn_act)
    ∧ quiescent_SwaFwd (hSwaFwd := hSwaFwd)
    ∧ quiescent_SwaFwdIdeal (hSwaFwdIdeal := hSwaFwdIdeal)
    ∧ quiescent_SwaFwdIdeal_pre_finite_swa_fwd (hSwaFwdIdeal := hSwaFwdIdeal) (hPre_finite_swa_fwd := hPre_finite_swa_fwd)
    ∧ quiescent_SwaFwdRefIdeal (hSwaFwdRefIdeal := hSwaFwdRefIdeal)
    ∧ quiescent_SwaFwdRefIdeal_pre_finite_swa_fwd (hSwaFwdRefIdeal := hSwaFwdRefIdeal) (hPre_finite_swa_fwd := hPre_finite_swa_fwd)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_MemFwdA (hMemFwdA := hMemFwdA)
    ∧ quiescent_MemFwdAIdeal (hMemFwdAIdeal := hMemFwdAIdeal)
    ∧ quiescent_MemFwdARefIdeal (hMemFwdARefIdeal := hMemFwdARefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_Resid2Fwd (hResid2Fwd := hResid2Fwd)
    ∧ quiescent_Resid2FwdIdeal (hResid2FwdIdeal := hResid2FwdIdeal)
    ∧ quiescent_Resid2FwdRefIdeal (hResid2FwdRefIdeal := hResid2FwdRefIdeal)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamLayer (hAdamLayer := hAdamLayer)
    ∧ quiescent_AdamLayerIdeal (hAdamLayerIdeal := hAdamLayerIdeal)
    ∧ quiescent_AdamLayerRefIdeal (hAdamLayerRefIdeal := hAdamLayerRefIdeal)
    ∧ quiescent_RsPair (hRsPair := hRsPair) (hPre_at_origin := hPre_at_origin)
    ∧ quiescent_RsPairIdeal (hRsPairIdeal := hRsPairIdeal) (hPre_at_origin := hPre_at_origin)
    ∧ quiescent_RsPairRefIdeal (hRsPairRefIdeal := hRsPairRefIdeal)
    ∧ quiescent_RsPairRefIdeal_pre_at_origin (hRsPairRefIdeal := hRsPairRefIdeal) (hPre_at_origin := hPre_at_origin)
    ∧ preserves_MemNorm_MemNormIdeal
    ∧ algebraic_MemNormIdeal_MemNormRefIdeal (hMemNormIdeal := hMemNormIdeal) (hMemNormRefIdeal := hMemNormRefIdeal)
    ∧ preserves_MemAttn_MemAttnIdeal
    ∧ algebraic_MemAttnIdeal_MemAttnRefIdeal_pre_finite_mem_attn (hMemAttnIdeal := hMemAttnIdeal) (hMemAttnRefIdeal := hMemAttnRefIdeal) (hPre_finite_mem_attn := hPre_finite_mem_attn)
    ∧ preserves_DkvCombine_DkvCombineIdeal
    ∧ algebraic_DkvCombineIdeal_DkvCombineRefIdeal (hDkvCombineIdeal := hDkvCombineIdeal) (hDkvCombineRefIdeal := hDkvCombineRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_Resid2_Resid2Ideal
    ∧ algebraic_Resid2Ideal_Resid2RefIdeal_pre_finite_resid2 (hResid2Ideal := hResid2Ideal) (hResid2RefIdeal := hResid2RefIdeal) (hPre_finite_resid2 := hPre_finite_resid2)
    ∧ preserves_MixResid_MixResidIdeal
    ∧ algebraic_MixResidIdeal_MixResidRefIdeal_pre_finite_mix_resid (hMixResidIdeal := hMixResidIdeal) (hMixResidRefIdeal := hMixResidRefIdeal) (hPre_finite_mix_resid := hPre_finite_mix_resid)
    ∧ preserves_InNorm_InNormIdeal
    ∧ algebraic_InNormIdeal_InNormRefIdeal_pre_finite_in_norm (hInNormIdeal := hInNormIdeal) (hInNormRefIdeal := hInNormRefIdeal) (hPre_finite_in_norm := hPre_finite_in_norm)
    ∧ preserves_MemAttnA_MemAttnAIdeal
    ∧ algebraic_MemAttnAIdeal_MemAttnARefIdeal_pre_finite_mem_attn_a (hMemAttnAIdeal := hMemAttnAIdeal) (hMemAttnARefIdeal := hMemAttnARefIdeal) (hPre_finite_mem_attn_a := hPre_finite_mem_attn_a)
    ∧ preserves_FfnAct_FfnActIdeal
    ∧ algebraic_FfnActIdeal_FfnActRefIdeal_pre_finite_ffn_act (hFfnActIdeal := hFfnActIdeal) (hFfnActRefIdeal := hFfnActRefIdeal) (hPre_finite_ffn_act := hPre_finite_ffn_act)
    ∧ preserves_SwaFwd_SwaFwdIdeal
    ∧ algebraic_SwaFwdIdeal_SwaFwdRefIdeal_pre_finite_swa_fwd (hSwaFwdIdeal := hSwaFwdIdeal) (hSwaFwdRefIdeal := hSwaFwdRefIdeal) (hPre_finite_swa_fwd := hPre_finite_swa_fwd)
    ∧ preserves_MemFwd_MemFwdIdeal
    ∧ algebraic_MemFwdIdeal_MemFwdRefIdeal (hMemFwdIdeal := hMemFwdIdeal) (hMemFwdRefIdeal := hMemFwdRefIdeal)
    ∧ preserves_MemFwdA_MemFwdAIdeal
    ∧ algebraic_MemFwdAIdeal_MemFwdARefIdeal (hMemFwdAIdeal := hMemFwdAIdeal) (hMemFwdARefIdeal := hMemFwdARefIdeal)
    ∧ preserves_NormFwd_NormFwdIdeal
    ∧ algebraic_NormFwdIdeal_NormFwdRefIdeal (hNormFwdIdeal := hNormFwdIdeal) (hNormFwdRefIdeal := hNormFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_Resid2Fwd_Resid2FwdIdeal
    ∧ algebraic_Resid2FwdIdeal_Resid2FwdRefIdeal (hResid2FwdIdeal := hResid2FwdIdeal) (hResid2FwdRefIdeal := hResid2FwdRefIdeal)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_FfnDown_FfnDownIdeal
    ∧ algebraic_FfnDownIdeal_FfnDownRefIdeal (hFfnDownIdeal := hFfnDownIdeal) (hFfnDownRefIdeal := hFfnDownRefIdeal)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_DH2_DH2Ideal
    ∧ algebraic_DH2Ideal_DH2RefIdeal (hDH2Ideal := hDH2Ideal) (hDH2RefIdeal := hDH2RefIdeal)
    ∧ preserves_DwUp_DwUpIdeal
    ∧ algebraic_DwUpIdeal_DwUpRefIdeal (hDwUpIdeal := hDwUpIdeal) (hDwUpRefIdeal := hDwUpRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamLayer_AdamLayerIdeal
    ∧ algebraic_AdamLayerIdeal_AdamLayerRefIdeal (hAdamLayerIdeal := hAdamLayerIdeal) (hAdamLayerRefIdeal := hAdamLayerRefIdeal)
    ∧ preserves_RsPair_RsPairIdeal
    ∧ algebraic_RsPairIdeal_RsPairRefIdeal (hRsPairIdeal := hRsPairIdeal) (hRsPairRefIdeal := hRsPairRefIdeal) (hPre_at_origin := hPre_at_origin)
-- ==== Pre_at_origin.lean ====
abbrev S2 : Shape := ⟨1, ![2]⟩
abbrev S4x1x1024x1408 : Shape := ⟨4, ![4, 1, 1024, 1408]⟩
abbrev S4x1x512x1408 : Shape := ⟨4, ![4, 1, 512, 1408]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S4x1x1024x1408 .f32) (main_arg2 : FVec F S4x1x512x1408 .f32) : IVec S2 1 :=
  let main_c : IVec S_ 32 := constantI S_ 32 0#32
  let main_v0 : IVec S2 32 := broadcastInDim S2 ![] bcast_S_S2 main_c
  let main_v1 : IVec S2 1 := cmpi .eq main_arg0 main_v0
  main_v1
-- ==== Pre_finite_ffn_act.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)
  bcast_S_S4096x2816 : S_.BroadcastsInDim S4096x2816 (![] : Fin 0 → Fin S4096x2816.rank)

variable [Facts]

def fn {F : FTy → Type} [FloatOps F] (main_arg0 : FVec F S4096x5632 .bf16) (main_arg1 : FVec F S3x5632 .f32) (main_arg2 : FVec F S5632 .f32) (main_arg3 : FVec F S4096x2816 .bf16) : IVec S4096x5632 1 × IVec S3x5632 1 × IVec S5632 1 × IVec S4096x2816 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_v7 : FVec F S5632 .f32 := Host.absf main_arg2
  let main_cst_1 : FVec F S_ .f32 := constant S_ .f32 0x7F800000#32
  let main_v8 : FVec F S5632 .f32 := broadcastInDim S5632 ![] bcast_S_S5632 main_cst_1
  let main_v9 : IVec S5632 1 := cmpf .olt main_v7 main_v8
  let main_v10 : FVec F S4096x2816 .f32 := (extf .f32 · bitsLt_bf16_f32) main_arg3
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  (main_v3, main_v6, main_v9, main_v13)
-- ==== Pre_finite_ffn_fwd.lean ====
abbrev S4096x5632 : Shape := ⟨2, ![4096, 5632]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S4096x5632 .bf16) (main_arg1 : FVec F S3x5632 .f32) (main_arg2 : FVec F S5632 .f32) : IVec S4096x5632 1 × IVec S3x5632 1 × IVec S5632 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_v7 : FVec F S5632 .f32 := Host.absf main_arg2
  let main_cst_1 : FVec F S_ .f32 := constant S_ .f32 0x7F800000#32
  let main_v8 : FVec F S5632 .f32 := broadcastInDim S5632 ![] bcast_S_S5632 main_cst_1
  let main_v9 : IVec S5632 1 := cmpf .olt main_v7 main_v8
  (main_v3, main_v6, main_v9)
-- ==== Pre_finite_in_norm.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bitsLt_bf16_f32 : FTy.bits .bf16 < FTy.bits .f32

variable [Facts]

def fn {F : FTy → Type} [FloatOps F] (main_arg0 : FVec F S2x2048x1024 .f32) (main_arg1 : FVec F S1024 .f32) (main_arg2 : FVec F S2x2048x1024 .f32) (main_arg3 : FVec F S2x2048x1024 .bf16) : IVec S2x2048x1024 1 × IVec S1024 1 × IVec S2x2048x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := (extf .f32 · bitsLt_bf16_f32) main_arg3
  let main_v10 : FVec F S2x2048x1024 .f32 := Host.absf main_v9
  let main_cst_2 : FVec F S_ .f32 := constant S_ .f32 0x7F800000#32
  let main_v11 : FVec F S2x2048x1024 .f32 := broadcastInDim S2x2048x1024 ![] bcast_S_S2x2048x1024 main_cst_2
  let main_v12 : IVec S2x2048x1024 1 := cmpf .olt main_v10 main_v11
  (main_v2, main_v5, main_v8, main_v12)
-- ==== Pre_finite_loss.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bitsLt_bf16_f32 : FTy.bits .bf16 < FTy.bits .f32
  bcast_S_S1024 : S_.BroadcastsInDim S1024 (![] : Fin 0 → Fin S1024.rank)

variable [Facts]

def fn {F : FTy → Type} [FloatOps F] (main_arg0 : FVec F S2x2048x1024 .f32) (main_arg1 : FVec F S2x2048x1024 .bf16) (main_arg2 : FVec F S1024 .f32) (main_arg3 : FVec F S2x2048x1024 .f32) : IVec S2x2048x1024 1 × IVec S2x2048x1024 1 × IVec S1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := (extf .f32 · bitsLt_bf16_f32) main_arg1
  let main_v4 : FVec F S2x2048x1024 .f32 := Host.absf main_v3
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S2x2048x1024 .f32 := Host.absf main_arg3
  let main_cst_2 : FVec F S_ .f32 := constant S_ .f32 0x7F800000#32
  let main_v11 : FVec F S2x2048x1024 .f32 := broadcastInDim S2x2048x1024 ![] bcast_S_S2x2048x1024 main_cst_2
  let main_v12 : IVec S2x2048x1024 1 := cmpf .olt main_v10 main_v11
  (main_v2, main_v6, main_v9, main_v12)
-- ==== Pre_finite_mem_attn.lean ====
abbrev S4096x1024 : Shape := ⟨2, ![4096, 1024]⟩
abbrev S512x512 : Shape := ⟨2, ![512, 512]⟩
abbrev S_ : Shape := ⟨0, ![]⟩

class Facts : Prop where
  bcast_S_S4096x1024 : S_.BroadcastsInDim S4096x1024 (![] : Fin 0 → Fin S4096x1024.rank)
  bcast_S_S512x512 : S_.BroadcastsInDim S512x512 (![] : Fin 0 → Fin S512x512.rank)
  bitsLt_bf16_f32 : FTy.bits .bf16 < FTy.bits .f32

variable [Facts]

def fn {F : FTy → Type} [FloatOps F] (main_arg0 : FVec F S4096x1024 .f32) (main_arg1 : FVec F S512x512 .f32) (main_arg2 : FVec F S4096x1024 .bf16) (main_arg3 : FVec F S4096x1024 .bf16) : IVec S4096x1024 1 × IVec S512x512 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S4096x1024 .f32 := (extf .f32 · bitsLt_bf16_f32) main_arg2
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v2, main_v5, main_v9)
-- ==== Pre_finite_mem_attn_a.lean ====
abbrev S4096x1792 : Shape := ⟨2, ![4096, 1792]⟩
abbrev S512x512 : Shape := ⟨2, ![512, 512]⟩
abbrev S4096x1024 : Shape := ⟨2, ![4096, 1024]⟩
abbrev S_ : Shape := ⟨0, ![]⟩

class Facts : Prop where
  bcast_S_S4096x1792 : S_.BroadcastsInDim S4096x1792 (![] : Fin 0 → Fin S4096x1792.rank)
  bcast_S_S512x512 : S_.BroadcastsInDim S512x512 (![] : Fin 0 → Fin S512x512.rank)
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1792 .f32) (main_arg1 : FVec F S512x512 .f32) (main_arg2 : FVec F S4096x1024 .bf16) (main_arg3 : FVec F S4096x1792 .bf16) : IVec S4096x1792 1 × IVec S512x512 1 × IVec S4096x1024 1 :=
  let main_v0 : FVec F S4096x1792 .f32 := Host.absf main_arg0
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S4096x1024 .f32 := (extf .f32 · bitsLt_bf16_f32) main_arg2
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v2, main_v5, main_v9)
-- ==== Pre_finite_mix_resid.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bitsLt_bf16_f32 : FTy.bits .bf16 < FTy.bits .f32
  bcast_S_S1024 : S_.BroadcastsInDim S1024 (![] : Fin 0 → Fin S1024.rank)

variable [Facts]

def fn_part1 {F : FTy → Type} [FloatOps F] (main_v2 : IVec S2x2048x1024 1) (main_v6 : IVec S2x2048x1024 1) (main_v9 : IVec S1024 1) (main_v12 : IVec S1024 1) (main_v15 : IVec S2x2048x1024 1) (main_v17 : FVec F S2x2048x1024 .f32) (main_cst_4 : FVec F S_ .f32) : IVec S2x2048x1024 1 × IVec S2x2048x1024 1 × IVec S1024 1 × IVec S1024 1 × IVec S2x2048x1024 1 × IVec S2x2048x1024 1 :=
  let main_v18 : FVec F S2x2048x1024 .f32 := broadcastInDim S2x2048x1024 ![] bcast_S_S2x2048x1024 main_cst_4
  let main_v19 : IVec S2x2048x1024 1 := cmpf .olt main_v17 main_v18
  (main_v2, main_v6, main_v9, main_v12, main_v15, main_v19)

def fn {F : FTy → Type} [FloatOps F] (main_arg0 : FVec F S2x2048x1024 .f32) (main_arg1 : FVec F S2x2048x1024 .bf16) (main_arg2 : FVec F S1024 .f32) (main_arg3 : FVec F S1024 .f32) (main_arg4 : FVec F S2x2048x1024 .f32) (main_arg5 : FVec F S2x2048x1024 .bf16) : IVec S2x2048x1024 1 × IVec S2x2048x1024 1 × IVec S1024 1 × IVec S1024 1 × IVec S2x2048x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := (extf .f32 · bitsLt_bf16_f32) main_arg1
  let main_v4 : FVec F S2x2048x1024 .f32 := Host.absf main_v3
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S2x2048x1024 .f32 := Host.absf main_arg4
  let main_cst_3 : FVec F S_ .f32 := constant S_ .f32 0x7F800000#32
  let main_v14 : FVec F S2x2048x1024 .f32 := broadcastInDim S2x2048x1024 ![] bcast_S_S2x2048x1024 main_cst_3
  let main_v15 : IVec S2x2048x1024 1 := cmpf .olt main_v13 main_v14
  let main_v16 : FVec F S2x2048x1024 .f32 := (extf .f32 · bitsLt_bf16_f32) main_arg5
  let main_v17 : FVec F S2x2048x1024 .f32 := Host.absf main_v16
  let main_cst_4 : FVec F S_ .f32 := constant S_ .f32 0x7F800000#32
  fn_part1 (F := F) main_v2 main_v6 main_v9 main_v12 main_v15 main_v17 main_cst_4
-- ==== Pre_finite_resid2.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bitsLt_bf16_f32 : FTy.bits .bf16 < FTy.bits .f32
  bcast_S_S1024 : S_.BroadcastsInDim S1024 (![] : Fin 0 → Fin S1024.rank)

variable [Facts]

def fn_part1 {F : FTy → Type} [FloatOps F] (main_arg6 : FVec F S2x2048x1024 .bf16) (main_arg7 : FVec F S2x2048x1024 .bf16) (main_v2 : IVec S2x2048x1024 1) (main_v6 : IVec S2x2048x1024 1) (main_v9 : IVec S1024 1) (main_v12 : IVec S1024 1) (main_v15 : IVec S1024 1) (main_v16 : FVec F S2x2048x1024 .f32) (main_v17 : FVec F S2x2048x1024 .f32) : IVec S2x2048x1024 1 × IVec S2x2048x1024 1 × IVec S1024 1 × IVec S1024 1 × IVec S1024 1 × IVec S2x2048x1024 1 × IVec S2x2048x1024 1 × IVec S2x2048x1024 1 :=
  let main_v18 : IVec S2x2048x1024 1 := cmpf .olt main_v16 main_v17
  let main_v19 : FVec F S2x2048x1024 .f32 := (extf .f32 · bitsLt_bf16_f32) main_arg6
  let main_v20 : FVec F S2x2048x1024 .f32 := Host.absf main_v19
  let main_cst_5 : FVec F S_ .f32 := constant S_ .f32 0x7F800000#32
  let main_v21 : FVec F S2x2048x1024 .f32 := broadcastInDim S2x2048x1024 ![] bcast_S_S2x2048x1024 main_cst_5
  let main_v22 : IVec S2x2048x1024 1 := cmpf .olt main_v20 main_v21
  let main_v23 : FVec F S2x2048x1024 .f32 := (extf .f32 · bitsLt_bf16_f32) main_arg7
  let main_v24 : FVec F S2x2048x1024 .f32 := Host.absf main_v23
  let main_cst_6 : FVec F S_ .f32 := constant S_ .f32 0x7F800000#32
  let main_v25 : FVec F S2x2048x1024 .f32 := broadcastInDim S2x2048x1024 ![] bcast_S_S2x2048x1024 main_cst_6
  let main_v26 : IVec S2x2048x1024 1 := cmpf .olt main_v24 main_v25
  (main_v2, main_v6, main_v9, main_v12, main_v15, main_v18, main_v22, main_v26)

def fn {F : FTy → Type} [FloatOps F] (main_arg0 : FVec F S2x2048x1024 .f32) (main_arg1 : FVec F S2x2048x1024 .bf16) (main_arg2 : FVec F S1024 .f32) (main_arg3 : FVec F S1024 .f32) (main_arg4 : FVec F S1024 .f32) (main_arg5 : FVec F S2x2048x1024 .f32) (main_arg6 : FVec F S2x2048x1024 .bf16) (main_arg7 : FVec F S2x2048x1024 .bf16) : IVec S2x2048x1024 1 × IVec S2x2048x1024 1 × IVec S1024 1 × IVec S1024 1 × IVec S1024 1 × IVec S2x2048x1024 1 × IVec S2x2048x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := (extf .f32 · bitsLt_bf16_f32) main_arg1
  let main_v4 : FVec F S2x2048x1024 .f32 := Host.absf main_v3
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S2x2048x1024 .f32 := Host.absf main_arg5
  let main_cst_4 : FVec F S_ .f32 := constant S_ .f32 0x7F800000#32
  let main_v17 : FVec F S2x2048x1024 .f32 := broadcastInDim S2x2048x1024 ![] bcast_S_S2x2048x1024 main_cst_4
  fn_part1 (F := F) main_arg6 main_arg7 main_v2 main_v6 main_v9 main_v12 main_v15 main_v16 main_v17
-- ==== Pre_finite_swa.lean ====
abbrev S4096x1024 : Shape := ⟨2, ![4096, 1024]⟩
abbrev S4096x512 : Shape := ⟨2, ![4096, 512]⟩
abbrev S12 : Shape := ⟨1, ![12]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S12 : S_.BroadcastsInDim S12 (![] : Fin 0 → Fin S12.rank)
  bitsLt_bf16_f32 : FTy.bits .bf16 < FTy.bits .f32

variable [Facts]

def fn {F : FTy → Type} [FloatOps F] (main_arg0 : FVec F S4096x1024 .f32) (main_arg1 : FVec F S4096x512 .f32) (main_arg2 : FVec F S12 .f32) (main_arg3 : FVec F S4096x1024 .bf16) : IVec S4096x1024 1 × IVec S4096x512 1 × IVec S12 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S12 .f32 := Host.absf main_arg2
  let main_cst_1 : FVec F S_ .f32 := constant S_ .f32 0x7F800000#32
  let main_v7 : FVec F S12 .f32 := broadcastInDim S12 ![] bcast_S_S12 main_cst_1
  let main_v8 : IVec S12 1 := cmpf .olt main_v6 main_v7
  let main_v9 : FVec F S4096x1024 .f32 := (extf .f32 · bitsLt_bf16_f32) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  (main_v2, main_v5, main_v8, main_v12)
-- ==== Pre_finite_swa_fwd.lean ====
abbrev S4096x1024 : Shape := ⟨2, ![4096, 1024]⟩
abbrev S4096x512 : Shape := ⟨2, ![4096, 512]⟩
abbrev S12 : Shape := ⟨1, ![12]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S12 : S_.BroadcastsInDim S12 (![] : Fin 0 → Fin S12.rank)

variable [Facts]

def fn {F : FTy → Type} [FloatOps F] (main_arg0 : FVec F S4096x1024 .f32) (main_arg1 : FVec F S4096x512 .f32) (main_arg2 : FVec F S12 .f32) : IVec S4096x1024 1 × IVec S4096x512 1 × IVec S12 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S12 .f32 := Host.absf main_arg2
  let main_cst_1 : FVec F S_ .f32 := constant S_ .f32 0x7F800000#32
  let main_v7 : FVec F S12 .f32 := broadcastInDim S12 ![] bcast_S_S12 main_cst_1
  let main_v8 : IVec S12 1 := cmpf .olt main_v6 main_v7
  (main_v2, main_v5, main_v8)
-- ==== MemNorm.lean ====
abbrev S2x256x1024 : Shape := ⟨3, ![2, 256, 1024]⟩
abbrev S1024 : Shape := ⟨1, ![1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x256x1024, .f32⟩
  | .hbm, ⟨3, _⟩ => ⟨S512x1024, .f32⟩
  | .hbm, ⟨4, _⟩ => ⟨S512x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormRefIdeal.lean ====
abbrev S2x256x1024 : Shape := ⟨3, ![2, 256, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S_, .f32⟩
  | .hbm, ⟨21, _⟩ => ⟨S1024, .f32⟩
  | .hbm, ⟨22, _⟩ => ⟨S1x1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MemAttn.lean ====
abbrev S4096x1024 : Shape := ⟨2, ![4096, 1024]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S512x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x512, .f32⟩
  | .local _ .vmem, ⟨9, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemAttnRefIdeal.lean ====
abbrev S4096x1024 : Shape := ⟨2, ![4096, 1024]⟩
abbrev S512x512 : Shape := ⟨2, ![512, 512]⟩
abbrev S4096x256 : Shape := ⟨2, ![4096, 256]⟩
abbrev S2x2048x256 : Shape := ⟨3, ![2, 2048, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x768 : Shape := ⟨2, ![4096, 768]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .hbm, ⟨4, _⟩ => ⟨S4096x256, .f32⟩
  | .hbm, ⟨5, _⟩ => ⟨S2x2048x256, .f32⟩
  | .hbm, ⟨6, _⟩ => ⟨S4096x256, .bf16⟩
  | .hbm, ⟨7, _⟩ => ⟨S4096x256, .f32⟩
  | .hbm, ⟨8, _⟩ => ⟨S2x2048x256, .f32⟩
  | .hbm, ⟨9, _⟩ => ⟨S2x256x2x4x64, .f32⟩
  | .hbm, ⟨10, _⟩ => ⟨S2x2048x4x64, .f32⟩
  | .hbm, ⟨11, _⟩ => ⟨S2x256x1x4x64, .f32⟩
  | .hbm, ⟨12, _⟩ => ⟨S2x256x4x64, .f32⟩
  | .hbm, ⟨13, _⟩ => ⟨S2x256x1x4x64, .f32⟩
  | .hbm, ⟨14, _⟩ => ⟨S2x256x4x64, .f32⟩
  | .hbm, ⟨15, _⟩ => ⟨S2x4x2048x256, .f32⟩
  | .hbm, ⟨16, _⟩ => ⟨S_, .f32⟩
  | .hbm, ⟨17, _⟩ => ⟨S2x4x2048x256, .f32⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S2x4x2048x1, .f32⟩
  | .hbm, ⟨22, _⟩ => ⟨S2x4x2048x256, .f32⟩
  | .hbm, ⟨23, _⟩ => ⟨S2x4x2048x256, .i1⟩
  | .hbm, ⟨24, _⟩ => ⟨S2x4x2048x256, .f32⟩
  | .hbm, ⟨25, _⟩ => ⟨S_, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S2x4x2048, .i1⟩
  | .hbm, ⟨33, _⟩ => ⟨S_, .f32⟩
  | .hbm, ⟨34, _⟩ => ⟨S2x4x2048, .f32⟩
  | .hbm, ⟨35, _⟩ => ⟨S2x4x2048, .i1⟩
  | .hbm, ⟨36, _⟩ => ⟨S_, .f32⟩
  | .hbm, ⟨37, _⟩ => ⟨S2x4x2048, .f32⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S2x4x2048, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x256, .f32⟩
  | .hbm, ⟨48, _⟩ => ⟨S_, .f32⟩
  | .hbm, ⟨49, _⟩ => ⟨S2x4x2048, .f32⟩
  | .hbm, ⟨50, _⟩ => ⟨S2x4x2048x1, .f32⟩
  | .hbm, ⟨51, _⟩ => ⟨S2x4x2048x256, .f32⟩
  | .hbm, ⟨52, _⟩ => ⟨S2x4x2048x256, .f32⟩
  | .hbm, ⟨53, _⟩ => ⟨S2x4x2048x1, .f32⟩
  | .hbm, ⟨54, _⟩ => ⟨S_, .f32⟩
  | .hbm, ⟨55, _⟩ => ⟨S2x4x2048x1, .f32⟩
  | .hbm, ⟨56, _⟩ => ⟨S2x4x2048x1, .f32⟩
  | .hbm, ⟨57, _⟩ => ⟨S2x4x64x2048, .f32⟩
  | .hbm, ⟨58, _⟩ => ⟨S2x2048x4x64, .f32⟩
  | .hbm, ⟨59, _⟩ => ⟨S2x2048x256, .f32⟩
  | .hbm, ⟨60, _⟩ => ⟨S2x2048x4x64, .f32⟩
  | .hbm, ⟨61, _⟩ => ⟨S2x4x64x2048, .f32⟩
  | .hbm, ⟨62, _⟩ => ⟨S2x4x2048x256, .f32⟩
  | .hbm, ⟨63, _⟩ => ⟨S2x4x64x256, .f32⟩
  | .hbm, ⟨64, _⟩ => ⟨S2x256x4x64, .f32⟩
  | .hbm, ⟨65, _⟩ => ⟨S2x4x2048x256, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048, .f32⟩
  | .hbm, ⟨76, _⟩ => ⟨S2x4x2048x256, .f32⟩
  | .hbm, ⟨77, _⟩ => ⟨S2x4x2048x256, .f32⟩
  | .hbm, ⟨78, _⟩ => ⟨S2x4x2048x256, .f32⟩
  | .hbm, ⟨79, _⟩ => ⟨S_, .f32⟩
  | .hbm, ⟨80, _⟩ => ⟨S2x4x2048x256, .f32⟩
  | .hbm, ⟨81, _⟩ => ⟨S2x4x2048x256, .f32⟩
  | .hbm, ⟨82, _⟩ => ⟨S2x4x256x64, .f32⟩
  | .hbm, ⟨83, _⟩ => ⟨S2x256x4x64, .f32⟩
  | .hbm, ⟨84, _⟩ => ⟨S2x4x2048x64, .f32⟩
  | .hbm, ⟨85, _⟩ => ⟨S2x2048x4x64, .f32⟩
  | .hbm, ⟨86, _⟩ => ⟨S2x256x1x4x64, .f32⟩
  | .hbm, ⟨87, _⟩ => ⟨S_, .f32⟩
  | .hbm, ⟨88, _⟩ => ⟨S2x256x2x4x64, .f32⟩
  | .hbm, ⟨89, _⟩ => ⟨S2x256x1x4x64, .f32⟩
  | .hbm, ⟨90, _⟩ => ⟨S_, .f32⟩
  | .hbm, ⟨91, _⟩ => ⟨S2x256x2x4x64, .f32⟩
  | .hbm, ⟨92, _⟩ => ⟨S2x256x2x4x64, .f32⟩
  | .hbm, ⟨93, _⟩ => ⟨S2x2048x256, .f32⟩
  | .hbm, ⟨94, _⟩ => ⟨S512x512, .f32⟩
  | .hbm, ⟨95, _⟩ => ⟨S4096x768, .bf16⟩
  | .hbm, ⟨96, _⟩ => ⟨S4096x256, .f32⟩
  | .hbm, ⟨97, _⟩ => ⟨S4096x256, .bf16⟩
  | .hbm, ⟨98, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== DkvCombine.lean ====
abbrev S4096x512 : Shape := ⟨2, ![4096, 512]⟩
abbrev S128x512 : Shape := ⟨2, ![128, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .bf16⟩
  | .local _ .vmem, ⟨9, _⟩ => ⟨S128x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DkvCombineRefIdeal.lean ====
abbrev S4096x512 : Shape := ⟨2, ![4096, 512]⟩
abbrev S2x16x128x2x4x64 : Shape := ⟨6, ![2, 16, 128, 2, 4, 64]⟩
abbrev S2x16x128x1x4x64 : Shape := ⟨6, ![2, 16, 128, 1, 4, 64]⟩
abbrev S2x16x128x4x64 : Shape := ⟨5, ![2, 16, 128, 4, 64]⟩
abbrev S2x16x256x4x64 : Shape := ⟨5, ![2, 16, 256, 4, 64]⟩
abbrev S_ : Shape := ⟨0, ![]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x1x128x4x64 : Shape := ⟨5, ![2, 1, 128, 4, 64]⟩
abbrev S2x15x128x4x64 : Shape := ⟨5, ![2, 15, 128, 4, 64]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S2x16x128x2x4x64, .f32⟩
  | .hbm, ⟨5, _⟩ => ⟨S2x16x128x1x4x64, .f32⟩
  | .hbm, ⟨6, _⟩ => ⟨S2x16x128x4x64, .f32⟩
  | .hbm, ⟨7, _⟩ => ⟨S2x16x128x2x4x64, .f32⟩
  | .hbm, ⟨8, _⟩ => ⟨S2x16x128x1x4x64, .f32⟩
  | .hbm, ⟨9, _⟩ => ⟨S2x16x128x4x64, .f32⟩
  | .hbm, ⟨10, _⟩ => ⟨S2x16x256x4x64, .f32⟩
  | .hbm, ⟨11, _⟩ => ⟨S2x16x128x2x4x64, .f32⟩
  | .hbm, ⟨12, _⟩ => ⟨S2x16x128x1x4x64, .f32⟩
  | .hbm, ⟨13, _⟩ => ⟨S2x16x128x4x64, .f32⟩
  | .hbm, ⟨14, _⟩ => ⟨S2x16x128x2x4x64, .f32⟩
  | .hbm, ⟨15, _⟩ => ⟨S2x16x128x1x4x64, .f32⟩
  | .hbm, ⟨16, _⟩ => ⟨S2x16x128x4x64, .f32⟩
  | .hbm, ⟨17, _⟩ => ⟨S2x16x256x4x64, .f32⟩
  | .hbm, ⟨18, _⟩ => ⟨S2x16x128x2x4x64, .f32⟩
  | .hbm, ⟨19, _⟩ => ⟨S2x16x128x1x4x64, .f32⟩
  | .hbm, ⟨20, _⟩ => ⟨S2x16x128x4x64, .f32⟩
  | .hbm, ⟨21, _⟩ => ⟨S2x16x128x2x4x64, .f32⟩
  | .hbm, ⟨22, _⟩ => ⟨S2x16x128x1x4x64, .f32⟩
  | .hbm, ⟨23, _⟩ => ⟨S2x16x128x4x64, .f32⟩
  | .hbm, ⟨24, _⟩ => ⟨S2x16x256x4x64, .f32⟩
  | .hbm, ⟨25, _⟩ => ⟨S2x16x128x2x4x64, .f32⟩
  | .hbm, ⟨26, _⟩ => ⟨S2x16x128x1x4x64, .f32⟩
  | .hbm, ⟨27, _⟩ => ⟨S2x16x128x4x64, .f32⟩
  | .hbm, ⟨28, _⟩ => ⟨S2x16x128x2x4x64, .f32⟩
  | .hbm, ⟨29, _⟩ => ⟨S2x16x128x1x4x64, .f32⟩
  | .hbm, ⟨30, _⟩ => ⟨S2x16x128x4x64, .f32⟩
  | .hbm, ⟨31, _⟩ => ⟨S2x16x256x4x64, .f32⟩
  | .hbm, ⟨32, _⟩ => ⟨S_, .f32⟩
  | .hbm, ⟨33, _⟩ => ⟨S4096x512, .f32⟩
  | .hbm, ⟨34, _⟩ => ⟨S2x2048x2x4x64, .f32⟩
  | .hbm, ⟨35, _⟩ => ⟨S2x2048x1x4x64, .f32⟩
  | .hbm, ⟨36, _⟩ => ⟨S2x2048x4x64, .f32⟩
  | .hbm, ⟨37, _⟩ => ⟨S2x16x128x4x64, .f32⟩
  | .hbm, ⟨38, _⟩ => ⟨S2x1x128x4x64, .f32⟩
  | .hbm, ⟨39, _⟩ => ⟨S_, .f32⟩
  | .hbm, ⟨40, _⟩ => ⟨S2x1x128x4x64, .f32⟩
  | .hbm, ⟨41, _⟩ => ⟨S2x15x128x4x64, .f32⟩
  | .hbm, ⟨42, _⟩ => ⟨S2x16x128x4x64, .f32⟩
  | .hbm, ⟨43, _⟩ => ⟨S_, .f32⟩
  | .hbm, ⟨44, _⟩ => ⟨S2x1x128x4x64, .f32⟩
  | .hbm, ⟨45, _⟩ => ⟨S2x16x256x4x64, .f32⟩
  | .hbm, ⟨46, _⟩ => ⟨S2x2048x1x4x64, .f32⟩
  | .hbm, ⟨47, _⟩ => ⟨S2x2048x4x64, .f32⟩
  | .hbm, ⟨48, _⟩ => ⟨S2x16x128x4x64, .f32⟩
  | .hbm, ⟨49, _⟩ => ⟨S2x1x128x4x64, .f32⟩
  | .hbm, ⟨50, _⟩ => ⟨S_, .f32⟩
  | .hbm, ⟨51, _⟩ => ⟨S2x1x128x4x64, .f32⟩
  | .hbm, ⟨52, _⟩ => ⟨S2x15x128x4x64, .f32⟩
  | .hbm, ⟨53, _⟩ => ⟨S2x16x128x4x64, .f32⟩
  | .hbm, ⟨54, _⟩ => ⟨S_, .f32⟩
  | .hbm, ⟨55, _⟩ => ⟨S2x1x128x4x64, .f32⟩
  | .hbm, ⟨56, _⟩ => ⟨S2x16x256x4x64, .f32⟩
  | .hbm, ⟨57, _⟩ => ⟨S2x16x256x4x64, .f32⟩
  | .hbm, ⟨58, _⟩ => ⟨S2x16x256x4x64, .f32⟩
  | .hbm, ⟨59, _⟩ => ⟨S2x16x128x4x64, .f32⟩
  | .hbm, ⟨60, _⟩ => ⟨S2x16x128x4x64, .f32⟩
  | .hbm, ⟨61, _⟩ => ⟨S2x1x128x4x64, .f32⟩
  | .hbm, ⟨62, _⟩ => ⟨S2x15x128x4x64, .f32⟩
  | .hbm, ⟨63, _⟩ => ⟨S_, .f32⟩
  | .hbm, ⟨64, _⟩ => ⟨S2x16x128x4x64, .f32⟩
  | .hbm, ⟨65, _⟩ => ⟨S2x16x128x4x64, .f32⟩
  | .hbm, ⟨66, _⟩ => ⟨S2x2048x4x64, .f32⟩
  | .hbm, ⟨67, _⟩ => ⟨S2x2048x1x4x64, .f32⟩
  | .hbm, ⟨68, _⟩ => ⟨S_, .f32⟩
  | .hbm, ⟨69, _⟩ => ⟨S2x2048x2x4x64, .f32⟩
  | .hbm, ⟨70, _⟩ => ⟨S2x16x128x4x64, .f32⟩
  | .hbm, ⟨71, _⟩ => ⟨S2x16x128x4x64, .f32⟩
  | .hbm, ⟨72, _⟩ => ⟨S2x1x128x4x64, .f32⟩
  | .hbm, ⟨73, _⟩ => ⟨S2x15x128x4x64, .f32⟩
  | .hbm, ⟨74, _⟩ => ⟨S_, .f32⟩
  | .hbm, ⟨75, _⟩ => ⟨S2x16x128x4x64, .f32⟩
  | .hbm, ⟨76, _⟩ => ⟨S2x16x128x4x64, .f32⟩
  | .hbm, ⟨77, _⟩ => ⟨S2x2048x4x64, .f32⟩
  | .hbm, ⟨78, _⟩ => ⟨S2x2048x1x4x64, .f32⟩
  | .hbm, ⟨79, _⟩ => ⟨S_, .f32⟩
  | .hbm, ⟨80, _⟩ => ⟨S2x2048x2x4x64, .f32⟩
  | .hbm, ⟨81, _⟩ => ⟨S2x2048x2x4x64, .f32⟩
  | .hbm, ⟨82, _⟩ => ⟨S4096x512, .f32⟩
  | .hbm, ⟨83, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Loss.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S2x2048x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S_, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S4096x1024, .f32⟩
  | .hbm, ⟨77, _⟩ => ⟨S1x1024, .f32⟩
  | .hbm, ⟨78, _⟩ => ⟨S2x2048x1024, .bf16⟩
  | .hbm, ⟨79, _⟩ => ⟨S4096x1024, .bf16⟩
  | .hbm, ⟨80, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Swa.lean ====
abbrev S4096x1024 : Shape := ⟨2, ![4096, 1024]⟩
abbrev S4096x512 : Shape := ⟨2, ![4096, 512]⟩
abbrev S12 : Shape := ⟨1, ![12]⟩
abbrev S8x128 : Shape := ⟨2, ![8, 128]⟩
abbrev S128x768 : Shape := ⟨2, ![128, 768]⟩
abbrev S128x512 : Shape := ⟨2, ![128, 512]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S1x1 : Shape := ⟨2, ![1, 1]⟩
abbrev S256x512 : Shape := ⟨2, ![256, 512]⟩
abbrev S4096x768 : Shape := ⟨2, ![4096, 768]⟩
abbrev S1x12 : Shape := ⟨2, ![1, 12]⟩

abbrev nBuf : Space → Nat
  | .hbm => 11
  | .vmem => 15
  | .smem => 1
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S12, .f32⟩
  | .hbm, ⟨3, _⟩ => ⟨S4096x1024, .bf16⟩
  | .hbm, ⟨4, _⟩ => ⟨S4096x1024, .bf16⟩
  | .hbm, ⟨5, _⟩ => ⟨S4096x512, .f32⟩
  | .hbm, ⟨6, _⟩ => ⟨S4096x512, .f32⟩
  | .hbm, ⟨7, _⟩ => ⟨S8x128, .f32⟩
  | .hbm, ⟨8, _⟩ => ⟨S4096x768, .bf16⟩
  | .hbm, ⟨9, _⟩ => ⟨S1x12, .f32⟩
  | .hbm, ⟨10, _⟩ => ⟨S12, .f32⟩
  | .local _ .vmem, ⟨0, _⟩ => ⟨S128x768, .f32⟩
  | .local _ .vmem, ⟨1, _⟩ => ⟨S128x768, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x768, .bf16⟩
  | .local _ .vmem, ⟨7, _⟩ => ⟨S128x768, .bf16⟩
  | .local _ .vmem, ⟨8, _⟩ => ⟨S128x768, .bf16⟩
  | .local _ .vmem, ⟨9, _⟩ => ⟨S128x768, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S8x128, .f32⟩
  | .local _ .smem, ⟨0, _⟩ => ⟨S12, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== SwaRefIdeal.lean ====
abbrev S4096x1024 : Shape := ⟨2, ![4096, 1024]⟩
abbrev S4096x512 : Shape := ⟨2, ![4096, 512]⟩
abbrev S12 : Shape := ⟨1, ![12]⟩
abbrev S4096x768 : Shape := ⟨2, ![4096, 768]⟩
abbrev S2x2048x12x64 : Shape := ⟨4, ![2, 2048, 12, 64]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x16x128x4x64 : Shape := ⟨5, ![2, 16, 128, 4, 64]⟩
abbrev S2x1x128x4x64 : Shape := ⟨5, ![2, 1, 128, 4, 64]⟩
abbrev S_ : Shape := ⟨0, ![]⟩
abbrev S2x15x128x4x64 : Shape := ⟨5, ![2, 15, 128, 4, 64]⟩
abbrev S2x16x256x4x64 : Shape := ⟨5, ![2, 16, 256, 4, 64]⟩
abbrev S2x2048x768 : Shape := ⟨3, ![2, 2048, 768]⟩
abbrev S2x16x128x4x3x64 : Shape := ⟨6, ![2, 16, 128, 4, 3, 64]⟩
abbrev S2x16x4x256x128x3 : Shape := ⟨6, ![2, 16, 4, 256, 128, 3]⟩
abbrev S2x16x4x3x128x256 : Shape := ⟨6, ![2, 16, 4, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x3x1x1 : Shape := ⟨4, ![4, 3, 1, 1]⟩
abbrev S1x1x128x256 : Shape := ⟨4, ![1, 1, 128, 256]⟩
abbrev S4x3x128x256 : Shape := ⟨4, ![4, 3, 128, 256]⟩
abbrev S1x16x1x1x128x256 : Shape := ⟨6, ![1, 16, 1, 1, 128, 256]⟩
abbrev S1x1x4x3x128x256 : Shape := ⟨6, ![1, 1, 4, 3, 128, 256]⟩
abbrev S1x1x4x3x1x1 : Shape := ⟨6, ![1, 1, 4, 3, 1, 1]⟩
abbrev S2x16x4x3x128 : Shape := ⟨5, ![2, 16, 4, 3, 128]⟩
abbrev S2x16x4x3x128x1 : Shape := ⟨6, ![2, 16, 4, 3, 128, 1]⟩
abbrev S2x16x4x64x3x128 : Shape := ⟨6, ![2, 16, 4, 64, 3, 128]⟩
abbrev S2x16x4x64x256 : Shape := ⟨5, ![2, 16, 4, 64, 256]⟩
abbrev S4x3x1 : Shape := ⟨3, ![4, 3, 1]⟩
abbrev S2x16x4x128x3x64 : Shape := ⟨6, ![2, 16, 4, 128, 3, 64]⟩
abbrev S2x16x4x256x64 : Shape := ⟨5, ![2, 16, 4, 256, 64]⟩
abbrev S2x16x256x256 : Shape := ⟨4, ![2, 16, 256, 256]⟩
abbrev S2x16x256x512 : Shape := ⟨4, ![2, 16, 256, 512]⟩
abbrev S2x16x128x512 : Shape := ⟨4, ![2, 16, 128, 512]⟩

abbrev nBuf : Space → Nat
  | .hbm => 204
  | .vmem => 0
  | .smem => 0
  | _ => 0

abbrev hbmTy0_0 (i : Nat) : BufTy := match i % 128 with
  | 0 => ⟨S4096x1024, .f32⟩
  | 1 => ⟨S4096x512, .f32⟩
  | 2 => ⟨S12, .f32⟩
  | 3 => ⟨S4096x1024, .bf16⟩
  | 4 => ⟨S12, .f32⟩
  | 5 => ⟨S4096x768, .f32⟩
  | 6 => ⟨S2x2048x12x64, .f32⟩
  | 7 => ⟨S2x2048x2x4x64, .f32⟩
  | 8 => ⟨S2x2048x1x4x64, .f32⟩
  | 9 => ⟨S2x2048x4x64, .f32⟩
  | 10 => ⟨S2x16x128x4x64, .f32⟩
  | 11 => ⟨S2x1x128x4x64, .f32⟩
  | 12 => ⟨S_, .f32⟩
  | 13 => ⟨S2x1x128x4x64, .f32⟩
  | 14 => ⟨S2x15x128x4x64, .f32⟩
  | 15 => ⟨S2x16x128x4x64, .f32⟩
  | 16 => ⟨S2x16x256x4x64, .f32⟩
  | 17 => ⟨S2x2048x1x4x64, .f32⟩
  | 18 => ⟨S2x2048x4x64, .f32⟩
  | 19 => ⟨S2x16x128x4x64, .f32⟩
  | 20 => ⟨S2x1x128x4x64, .f32⟩
  | 21 => ⟨S_, .f32⟩
  | 22 => ⟨S2x1x128x4x64, .f32⟩
  | 23 => ⟨S2x15x128x4x64, .f32⟩
  | 24 => ⟨S2x16x128x4x64, .f32⟩
  | 25 => ⟨S2x16x256x4x64, .f32⟩
  | 26 => ⟨S4096x768, .bf16⟩
  | 27 => ⟨S4096x768, .f32⟩
  | 28 => ⟨S2x2048x768, .f32⟩
  | 29 => ⟨S2x16x128x4x3x64, .f32⟩
  | 30 => ⟨S2x16x4x256x128x3, .f32⟩
  | 31 => ⟨S2x16x4x3x128x256, .f32⟩
  | 32 => ⟨S_, .f32⟩
  | 33 => ⟨S2x16x4x3x128x256, .f32⟩
  | 34 => ⟨S2x16x4x3x128x256, .f32⟩
  | 35 => ⟨S128, .i32⟩
  | 36 => ⟨S128x1, .i32⟩
  | 37 => ⟨S_, .i32⟩
  | 38 => ⟨S128x1, .i32⟩
  | 39 => ⟨S128x1, .i32⟩
  | 40 => ⟨S256, .i32⟩
  | 41 => ⟨S1x256, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S16, .i32⟩
  | 53 => ⟨S16x1x1, .i32⟩
  | 54 => ⟨S_, .i32⟩
  | 55 => ⟨S16x1x1, .i32⟩
  | 56 => ⟨S16x1x1, .i1⟩
  | 57 => ⟨S1x1x256, .i32⟩
  | 58 => ⟨S_, .i32⟩
  | 59 => ⟨S1x1x256, .i32⟩
  | 60 => ⟨S1x1x256, .i1⟩
  | 61 => ⟨S16x1x256, .i1⟩
  | 62 => ⟨S16x1x256, .i1⟩
  | 63 => ⟨S16x1x256, .i1⟩
  | 64 => ⟨S1x128x256, .i1⟩
  | 65 => ⟨S16x128x256, .i1⟩
  | 66 => ⟨S16x128x256, .i1⟩
  | 67 => ⟨S16x128x256, .i1⟩
  | 68 => ⟨S4x3x1x1, .f32⟩
  | 69 => ⟨S4x3x1x1, .f32⟩
  | 70 => ⟨S128x256, .f32⟩
  | 71 => ⟨S1x1x128x256, .f32⟩
  | 72 => ⟨S4x3x128x256, .f32⟩
  | 73 => ⟨S4x3x128x256, .f32⟩
  | 74 => ⟨S4x3x128x256, .f32⟩
  | 75 => ⟨S1x16x1x1x128x256, .i1⟩
  | 76 => ⟨S1x1x4x3x128x256, .f32⟩
  | 77 => ⟨S2x16x4x3x128x256, .f32⟩
  | 78 => ⟨S2x16x4x3x128x256, .f32⟩
  | 79 => ⟨S_, .f32⟩
  | 80 => ⟨S_, .f32⟩
  | 81 => ⟨S2x16x4x3x128x256, .i1⟩
  | 82 => ⟨S2x16x4x3x128x256, .f32⟩
  | 83 => ⟨S2x16x4x3x128x256, .f32⟩
  | 84 => ⟨S_, .f32⟩
  | 85 => ⟨S2x16x4x3x128x256, .f32⟩
  | 86 => ⟨S1x1x4x3x1x1, .f32⟩
  | 87 => ⟨S_, .f32⟩
  | 88 => ⟨S2x16x4x3x128, .f32⟩
  | 89 => ⟨S2x16x4x3x128x1, .f32⟩
  | 90 => ⟨S2x16x4x3x128x256, .f32⟩
  | 91 => ⟨S2x16x4x3x128x256, .i1⟩
  | 92 => ⟨S2x16x4x3x128x256, .f32⟩
  | 93 => ⟨S_, .f32⟩
  | 94 => ⟨S2x16x4x3x128, .f32⟩
  | 95 => ⟨S2x16x4x3x128x1, .f32⟩
  | 96 => ⟨S2x16x4x3x128x1, .f32⟩
  | 97 => ⟨S2x16x4x3x128x1, .f32⟩
  | 98 => ⟨S2x16x4x3x128x1, .f32⟩
  | 99 => ⟨S2x16x4x3x128x1, .i1⟩
  | 100 => ⟨S2x16x4x3x128x1, .f32⟩
  | 101 => ⟨S2x16x4x3x128x1, .i1⟩
  | 102 => ⟨S_, .f32⟩
  | 103 => ⟨S2x16x4x3x128x1, .f32⟩
  | 104 => ⟨S_, .f32⟩
  | 105 => ⟨S2x16x4x3x128x1, .f32⟩
  | 106 => ⟨S_, .f32⟩
  | 107 => ⟨S2x16x4x3x128x1, .f32⟩
  | 108 => ⟨S2x16x4x3x128x1, .f32⟩
  | 109 => ⟨S2x16x4x3x128x1, .f32⟩
  | 110 => ⟨S2x16x4x3x128x1, .f32⟩
  | 111 => ⟨S2x16x4x3x128x1, .i1⟩
  | 112 => ⟨S2x16x4x3x128x1, .f32⟩
  | 113 => ⟨S2x16x4x3x128x1, .i1⟩
  | 114 => ⟨S_, .f32⟩
  | 115 => ⟨S2x16x4x3x128x1, .f32⟩
  | 116 => ⟨S_, .f32⟩
  | 117 => ⟨S2x16x4x3x128x1, .f32⟩
  | 118 => ⟨S_, .f32⟩
  | 119 => ⟨S2x16x4x3x128x1, .f32⟩
  | 120 => ⟨S2x16x4x3x128x1, .f32⟩
  | 121 => ⟨S2x16x4x3x128x1, .f32⟩
  | 122 => ⟨S2x16x4x3x128x256, .f32⟩
  | 123 => ⟨S2x16x4x3x128x256, .f32⟩
  | 124 => ⟨S2x16x4x3x128x256, .f32⟩
  | 125 => ⟨S_, .f32⟩
  | 126 => ⟨S2x16x4x3x128, .f32⟩
  | 127 => ⟨S2x16x4x3x128x1, .f32⟩
  | _ => ⟨S4096x1024, .f32⟩

abbrev hbmTy0_1 (i : Nat) : BufTy := match i % 128 with
  | 0 => ⟨S2x16x4x3x128x1, .f32⟩
  | 1 => ⟨S2x16x4x3x128x1, .f32⟩
  | 2 => ⟨S2x16x4x3x128x1, .f32⟩
  | 3 => ⟨S2x16x4x3x128x1, .f32⟩
  | 4 => ⟨S2x16x4x3x128x256, .f32⟩
  | 5 => ⟨S2x16x4x3x128x256, .f32⟩
  | 6 => ⟨S2x16x4x3x128x1, .f32⟩
  | 7 => ⟨S_, .f32⟩
  | 8 => ⟨S2x16x4x3x128x1, .f32⟩
  | 9 => ⟨S2x16x4x3x128x1, .f32⟩
  | 10 => ⟨S2x16x4x64x3x128, .f32⟩
  | 11 => ⟨S2x16x128x4x3x64, .f32⟩
  | 12 => ⟨S2x2048x768, .f32⟩
  | 13 => ⟨S2x16x128x4x3x64, .f32⟩
  | 14 => ⟨S2x16x4x64x3x128, .f32⟩
  | 15 => ⟨S2x16x4x3x128x256, .f32⟩
  | 16 => ⟨S2x16x4x64x256, .f32⟩
  | 17 => ⟨S2x16x256x4x64, .f32⟩
  | 18 => ⟨S2x16x4x3x128x256, .f32⟩
  | 19 => ⟨S2x16x4x3x128x256, .f32⟩
  | 20 => ⟨S2x16x4x3x128x256, .f32⟩
  | 21 => ⟨S_, .f32⟩
  | 22 => ⟨S2x16x4x3x128, .f32⟩
  | 23 => ⟨S2x16x4x3x128x1, .f32⟩
  | 24 => ⟨S2x16x4x3x128x1, .f32⟩
  | 25 => ⟨S2x16x4x3x128x256, .f32⟩
  | 26 => ⟨S2x16x4x3x128x256, .f32⟩
  | 27 => ⟨S2x16x4x3x128x1, .f32⟩
  | 28 => ⟨S_, .f32⟩
  | 29 => ⟨S4x3x1, .f32⟩
  | 30 => ⟨S1x1x4x3x1x1, .f32⟩
  | 31 => ⟨S2x16x4x3x128x1, .f32⟩
  | 32 => ⟨S_, .f32⟩
  | 33 => ⟨S2x16x4x3x128, .f32⟩
  | 34 => ⟨S2x16x4x3x128x256, .f32⟩
  | 35 => ⟨S2x16x4x3x128x256, .f32⟩
  | 36 => ⟨S2x16x4x3x128x256, .f32⟩
  | 37 => ⟨S2x16x4x3x128x256, .f32⟩
  | 38 => ⟨S_, .f32⟩
  | 39 => ⟨S2x16x4x3x128, .f32⟩
  | 40 => ⟨S2x16x4x3x128x1, .f32⟩
  | 41 => ⟨S2x16x4x3x128x1, .f32⟩
  | 42 => ⟨S2x16x4x3x128x1, .f32⟩
  | 43 => ⟨S_, .f32⟩
  | 44 => ⟨S4x3x1, .f32⟩
  | 45 => ⟨S1x1x4x3x1x1, .f32⟩
  | 46 => ⟨S1x1x4x3x1x1, .f32⟩
  | 47 => ⟨S2x16x4x3x128x1, .f32⟩
  | 48 => ⟨S_, .f32⟩
  | 49 => ⟨S2x16x4x3x128, .f32⟩
  | 50 => ⟨S2x16x4x3x128, .f32⟩
  | 51 => ⟨S2x16x4x3x128x256, .f32⟩
  | 52 => ⟨S2x16x4x3x128x256, .f32⟩
  | 53 => ⟨S2x16x4x3x128x256, .f32⟩
  | 54 => ⟨S12, .f32⟩
  | 55 => ⟨S_, .f32⟩
  | 56 => ⟨S2x16x4x3x128x256, .f32⟩
  | 57 => ⟨S2x16x4x3x128x256, .f32⟩
  | 58 => ⟨S_, .f32⟩
  | 59 => ⟨S2x16x4x3x128x256, .f32⟩
  | 60 => ⟨S2x16x4x3x128x256, .f32⟩
  | 61 => ⟨S2x16x4x256x128x3, .f32⟩
  | 62 => ⟨S2x16x4x128x3x64, .f32⟩
  | 63 => ⟨S2x16x128x4x3x64, .f32⟩
  | 64 => ⟨S2x16x4x256x64, .f32⟩
  | 65 => ⟨S2x16x256x4x64, .f32⟩
  | 66 => ⟨S2x2048x12x64, .f32⟩
  | 67 => ⟨S2x16x256x256, .f32⟩
  | 68 => ⟨S2x16x256x256, .f32⟩
  | 69 => ⟨S2x16x256x512, .f32⟩
  | 70 => ⟨S4096x768, .f32⟩
  | 71 => ⟨S4096x768, .bf16⟩
  | 72 => ⟨S2x16x128x512, .f32⟩
  | 73 => ⟨S4096x512, .f32⟩
  | 74 => ⟨S2x16x128x512, .f32⟩
  | 75 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_call0_v0 : Ref sig .tc := ⟨.hbm, 80, rfl⟩
abbrev main_v66_1 : Ref sig .tc := ⟨.hbm, 81, rfl⟩
abbrev main_call0_v2 : Ref sig .tc := ⟨.hbm, 82, rfl⟩
abbrev main_v66_0 : Ref sig .tc := ⟨.hbm, 83, rfl⟩
abbrev main_call0_cst : Ref sig .tc := ⟨.hbm, 84, rfl⟩
abbrev main_v66_2 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_cst_11 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_13 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_17 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_19 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_20 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_21 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_22 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_23 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_call1_cst : Ref sig .tc := ⟨.hbm, 183, rfl⟩
abbrev main_call1_v0 : Ref sig .tc := ⟨.hbm, 184, rfl⟩
abbrev main_v148 : Ref sig .tc := ⟨.hbm, 185, rfl⟩
abbrev main_cst_24 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩

abbrev nD : Nat := 1
abbrev τ : Topo := Topo.v7x

variable {F : FTy → Type} [FloatOps F]
-- ==== Resid2.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 39
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x2048x1024, .f32⟩
  | .hbm, ⟨6, _⟩ => ⟨S2x2048x1024, .bf16⟩
  | .hbm, ⟨7, _⟩ => ⟨S2x2048x1024, .bf16⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S4096x1024, .bf16⟩
  | .hbm, ⟨33, _⟩ => ⟨S1x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Resid2RefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 156
  | .vmem => 0
  | .smem => 0
  | _ => 0

abbrev hbmTy0_0 (i : Nat) : BufTy := match i % 128 with
  | 0 => ⟨S2x2048x1024, .f32⟩
  | 1 => ⟨S2x2048x1024, .bf16⟩
  | 2 => ⟨S1024, .f32⟩
  | 3 => ⟨S1024, .f32⟩
  | 4 => ⟨S1024, .f32⟩
  | 5 => ⟨S2x2048x1024, .f32⟩
  | 6 => ⟨S2x2048x1024, .bf16⟩
  | 7 => ⟨S2x2048x1024, .bf16⟩
  | 8 => ⟨S2x2048x1024, .f32⟩
  | 9 => ⟨S2x2048x1024, .f32⟩
  | 10 => ⟨S2x2048x1024, .f32⟩
  | 11 => ⟨S2x2048x1024, .f32⟩
  | 12 => ⟨S_, .f32⟩
  | 13 => ⟨S2x2048, .f32⟩
  | 14 => ⟨S2x2048x1, .f32⟩
  | 15 => ⟨S_, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1, .f32⟩
  | 22 => ⟨S2x2048x1, .f32⟩
  | 23 => ⟨S_, .f32⟩
  | 24 => ⟨S2x2048x1, .f32⟩
  | 25 => ⟨S2x2048x1, .f32⟩
  | 26 => ⟨S2x2048x1024, .f32⟩
  | 27 => ⟨S2x2048x1024, .f32⟩
  | 28 => ⟨S1x1x1024, .f32⟩
  | 29 => ⟨S2x2048x1024, .f32⟩
  | 30 => ⟨S2x2048x1024, .f32⟩
  | 31 => ⟨S2x2048x1024, .f32⟩
  | 32 => ⟨S2x2048x1024, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1, .f32⟩
  | 43 => ⟨S2x2048x1, .f32⟩
  | 44 => ⟨S_, .f32⟩
  | 45 => ⟨S2x2048x1, .f32⟩
  | 46 => ⟨S2x2048x1, .f32⟩
  | 47 => ⟨S2x2048x1024, .f32⟩
  | 48 => ⟨S2x2048x1024, .f32⟩
  | 49 => ⟨S1x1x1024, .f32⟩
  | 50 => ⟨S2x2048x1024, .f32⟩
  | 51 => ⟨S2x2048x1024, .f32⟩
  | 52 => ⟨S2x2048x1024, .f32⟩
  | 53 => ⟨S_, .f32⟩
  | 54 => ⟨S2x2048, .f32⟩
  | 55 => ⟨S2x2048x1, .f32⟩
  | 56 => ⟨S_, .f32⟩
  | 57 => ⟨S2x2048x1, .f32⟩
  | 58 => ⟨S2x2048x1, .f32⟩
  | 59 => ⟨S_, .f32⟩
  | 60 => ⟨S2x2048x1, .f32⟩
  | 61 => ⟨S2x2048x1, .f32⟩
  | 62 => ⟨S2x2048x1, .f32⟩
  | 63 => ⟨S2x2048x1, .f32⟩
  | 64 => ⟨S_, .f32⟩
  | 65 => ⟨S2x2048x1, .f32⟩
  | 66 => ⟨S2x2048x1, .f32⟩
  | 67 => ⟨S2x2048x1024, .f32⟩
  | 68 => ⟨S2x2048x1024, .f32⟩
  | 69 => ⟨S1x1x1024, .f32⟩
  | 70 => ⟨S2x2048x1024, .f32⟩
  | 71 => ⟨S2x2048x1024, .f32⟩
  | 72 => ⟨S2x2048x1024, .f32⟩
  | 73 => ⟨S_, .f32⟩
  | 74 => ⟨S1024, .f32⟩
  | 75 => ⟨S1x1x1024, .f32⟩
  | 76 => ⟨S2x2048x1024, .f32⟩
  | 77 => ⟨S2x2048x1024, .f32⟩
  | 78 => ⟨S_, .f32⟩
  | 79 => ⟨S1024, .f32⟩
  | 80 => ⟨S2x2048x1024, .f32⟩
  | 81 => ⟨S_, .f32⟩
  | 82 => ⟨S2x2048, .f32⟩
  | 83 => ⟨S2x2048x1, .f32⟩
  | 84 => ⟨S2x2048x1024, .f32⟩
  | 85 => ⟨S2x2048x1024, .f32⟩
  | 86 => ⟨S2x2048x1024, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048, .f32⟩
  | 93 => ⟨S2x2048x1024, .f32⟩
  | 94 => ⟨S2x2048x1024, .f32⟩
  | 95 => ⟨S2x2048x1024, .f32⟩
  | 96 => ⟨S2x2048x1024, .f32⟩
  | 97 => ⟨S2x2048x1024, .f32⟩
  | 98 => ⟨S2x2048x1024, .f32⟩
  | 99 => ⟨S_, .f32⟩
  | 100 => ⟨S1024, .f32⟩
  | 101 => ⟨S1x1x1024, .f32⟩
  | 102 => ⟨S2x2048x1024, .f32⟩
  | 103 => ⟨S2x2048x1024, .f32⟩
  | 104 => ⟨S_, .f32⟩
  | 105 => ⟨S1024, .f32⟩
  | 106 => ⟨S2x2048x1024, .f32⟩
  | 107 => ⟨S_, .f32⟩
  | 108 => ⟨S2x2048, .f32⟩
  | 109 => ⟨S2x2048x1, .f32⟩
  | 110 => ⟨S2x2048x1024, .f32⟩
  | 111 => ⟨S2x2048x1024, .f32⟩
  | 112 => ⟨S2x2048x1024, .f32⟩
  | 113 => ⟨S2x2048x1, .f32⟩
  | 114 => ⟨S_, .f32⟩
  | 115 => ⟨S2x2048x1, .f32⟩
  | 116 => ⟨S2x2048x1, .f32⟩
  | 117 => ⟨S_, .f32⟩
  | 118 => ⟨S2x2048, .f32⟩
  | 119 => ⟨S2x2048x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S2x2048x1024, .f32⟩
  | 126 => ⟨S_, .f32⟩
  | 127 => ⟨S1024, .f32⟩
  | _ => ⟨S2x2048x1024, .f32⟩

abbrev hbmTy0_1 (i : Nat) : BufTy := match i % 128 with
  | 0 => ⟨S1x1x1024, .f32⟩
  | 1 => ⟨S2x2048x1024, .f32⟩
  | 2 => ⟨S2x2048x1024, .f32⟩
  | 3 => ⟨S_, .f32⟩
  | 4 => ⟨S1024, .f32⟩
  | 5 => ⟨S2x2048x1024, .f32⟩
  | 6 => ⟨S_, .f32⟩
  | 7 => ⟨S2x2048, .f32⟩
  | 8 => ⟨S2x2048x1, .f32⟩
  | 9 => ⟨S2x2048x1024, .f32⟩
  | 10 => ⟨S2x2048x1024, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S4096x1024, .f32⟩
  | 23 => ⟨S2x2048x1024, .bf16⟩
  | 24 => ⟨S4096x1024, .bf16⟩
  | 25 => ⟨S1x1024, .f32⟩
  | 26 => ⟨S1x1024, .f32⟩
  | 27 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_21 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_cst_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_cst_25 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩

abbrev nD : Nat := 1
abbrev τ : Topo := Topo.v7x

variable {F : FTy → Type} [FloatOps F]
-- ==== MixResid.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S2x2048x1024, .f32⟩
  | .hbm, ⟨5, _⟩ => ⟨S2x2048x1024, .bf16⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S1x1024, .f32⟩
  | .hbm, ⟨28, _⟩ => ⟨S4096x1024, .bf16⟩
  | .hbm, ⟨29, _⟩ => ⟨S1x1024, .f32⟩
  | .hbm, ⟨30, _⟩ => ⟨S4096x1024, .f32⟩
  | .hbm, ⟨31, _⟩ => ⟨S4096x1024, .bf16⟩
  | .hbm, ⟨32, _⟩ => ⟨S1x1024, .f32⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixResidRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S2x2048x1024, .f32⟩
  | .hbm, ⟨5, _⟩ => ⟨S2x2048x1024, .bf16⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S2x2048x1024, .f32⟩
  | .hbm, ⟨81, _⟩ => ⟨S2x2048x1024, .f32⟩
  | .hbm, ⟨82, _⟩ => ⟨S_, .f32⟩
  | .hbm, ⟨83, _⟩ => ⟨S1024, .f32⟩
  | .hbm, ⟨84, _⟩ => ⟨S2x2048x1024, .f32⟩
  | .hbm, ⟨85, _⟩ => ⟨S_, .f32⟩
  | .hbm, ⟨86, _⟩ => ⟨S2x2048, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S2x2048x1, .f32⟩
  | .hbm, ⟨91, _⟩ => ⟨S_, .f32⟩
  | .hbm, ⟨92, _⟩ => ⟨S2x2048x1, .f32⟩
  | .hbm, ⟨93, _⟩ => ⟨S2x2048x1, .f32⟩
  | .hbm, ⟨94, _⟩ => ⟨S_, .f32⟩
  | .hbm, ⟨95, _⟩ => ⟨S2x2048, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S4096x1024, .f32⟩
  | .hbm, ⟨102, _⟩ => ⟨S2x2048x1024, .bf16⟩
  | .hbm, ⟨103, _⟩ => ⟨S4096x1024, .bf16⟩
  | .hbm, ⟨104, _⟩ => ⟨S1x1024, .f32⟩
  | .hbm, ⟨105, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== InNorm.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InNormRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .bf16⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S1024, .f32⟩
  | .hbm, ⟨33, _⟩ => ⟨S2x2048x1024, .f32⟩
  | .hbm, ⟨34, _⟩ => ⟨S_, .f32⟩
  | .hbm, ⟨35, _⟩ => ⟨S2x2048, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S4096x1024, .f32⟩
  | .hbm, ⟨52, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MemAttnA.lean ====
abbrev S4096x1792 : Shape := ⟨2, ![4096, 1792]⟩
abbrev S512x512 : Shape := ⟨2, ![512, 512]⟩
abbrev S4096x1024 : Shape := ⟨2, ![4096, 1024]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1792, .bf16⟩
  | .hbm, ⟨4, _⟩ => ⟨S4096x1792, .bf16⟩
  | .hbm, ⟨5, _⟩ => ⟨S512x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x512, .f32⟩
  | .local _ .vmem, ⟨9, _⟩ => ⟨S256x512, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemAttnARefIdeal.lean ====
abbrev S4096x1792 : Shape := ⟨2, ![4096, 1792]⟩
abbrev S512x512 : Shape := ⟨2, ![512, 512]⟩
abbrev S4096x1024 : Shape := ⟨2, ![4096, 1024]⟩
abbrev S4096x256 : Shape := ⟨2, ![4096, 256]⟩
abbrev S2x2048x256 : Shape := ⟨3, ![2, 2048, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x1536 : Shape := ⟨2, ![4096, 1536]⟩

abbrev nBuf : Space → Nat
  | .hbm => 99
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1792, .bf16⟩
  | .hbm, ⟨4, _⟩ => ⟨S4096x256, .f32⟩
  | .hbm, ⟨5, _⟩ => ⟨S2x2048x256, .f32⟩
  | .hbm, ⟨6, _⟩ => ⟨S4096x256, .bf16⟩
  | .hbm, ⟨7, _⟩ => ⟨S4096x256, .f32⟩
  | .hbm, ⟨8, _⟩ => ⟨S2x2048x256, .f32⟩
  | .hbm, ⟨9, _⟩ => ⟨S2x256x2x4x64, .f32⟩
  | .hbm, ⟨10, _⟩ => ⟨S2x2048x4x64, .f32⟩
  | .hbm, ⟨11, _⟩ => ⟨S2x256x1x4x64, .f32⟩
  | .hbm, ⟨12, _⟩ => ⟨S2x256x4x64, .f32⟩
  | .hbm, ⟨13, _⟩ => ⟨S2x256x1x4x64, .f32⟩
  | .hbm, ⟨14, _⟩ => ⟨S2x256x4x64, .f32⟩
  | .hbm, ⟨15, _⟩ => ⟨S2x4x2048x256, .f32⟩
  | .hbm, ⟨16, _⟩ => ⟨S_, .f32⟩
  | .hbm, ⟨17, _⟩ => ⟨S2x4x2048x256, .f32⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S2x4x2048x1, .f32⟩
  | .hbm, ⟨22, _⟩ => ⟨S2x4x2048x256, .f32⟩
  | .hbm, ⟨23, _⟩ => ⟨S2x4x2048x256, .i1⟩
  | .hbm, ⟨24, _⟩ => ⟨S2x4x2048x256, .f32⟩
  | .hbm, ⟨25, _⟩ => ⟨S_, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S2x4x2048, .i1⟩
  | .hbm, ⟨33, _⟩ => ⟨S_, .f32⟩
  | .hbm, ⟨34, _⟩ => ⟨S2x4x2048, .f32⟩
  | .hbm, ⟨35, _⟩ => ⟨S2x4x2048, .i1⟩
  | .hbm, ⟨36, _⟩ => ⟨S_, .f32⟩
  | .hbm, ⟨37, _⟩ => ⟨S2x4x2048, .f32⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S2x4x2048, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x256, .f32⟩
  | .hbm, ⟨48, _⟩ => ⟨S_, .f32⟩
  | .hbm, ⟨49, _⟩ => ⟨S2x4x2048, .f32⟩
  | .hbm, ⟨50, _⟩ => ⟨S2x4x2048x1, .f32⟩
  | .hbm, ⟨51, _⟩ => ⟨S2x4x2048x256, .f32⟩
  | .hbm, ⟨52, _⟩ => ⟨S2x4x2048x256, .f32⟩
  | .hbm, ⟨53, _⟩ => ⟨S2x4x2048x1, .f32⟩
  | .hbm, ⟨54, _⟩ => ⟨S_, .f32⟩
  | .hbm, ⟨55, _⟩ => ⟨S2x4x2048x1, .f32⟩
  | .hbm, ⟨56, _⟩ => ⟨S2x4x2048x1, .f32⟩
  | .hbm, ⟨57, _⟩ => ⟨S2x4x64x2048, .f32⟩
  | .hbm, ⟨58, _⟩ => ⟨S2x2048x4x64, .f32⟩
  | .hbm, ⟨59, _⟩ => ⟨S2x2048x256, .f32⟩
  | .hbm, ⟨60, _⟩ => ⟨S2x2048x4x64, .f32⟩
  | .hbm, ⟨61, _⟩ => ⟨S2x4x64x2048, .f32⟩
  | .hbm, ⟨62, _⟩ => ⟨S2x4x2048x256, .f32⟩
  | .hbm, ⟨63, _⟩ => ⟨S2x4x64x256, .f32⟩
  | .hbm, ⟨64, _⟩ => ⟨S2x256x4x64, .f32⟩
  | .hbm, ⟨65, _⟩ => ⟨S2x4x2048x256, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048, .f32⟩
  | .hbm, ⟨76, _⟩ => ⟨S2x4x2048x256, .f32⟩
  | .hbm, ⟨77, _⟩ => ⟨S2x4x2048x256, .f32⟩
  | .hbm, ⟨78, _⟩ => ⟨S2x4x2048x256, .f32⟩
  | .hbm, ⟨79, _⟩ => ⟨S_, .f32⟩
  | .hbm, ⟨80, _⟩ => ⟨S2x4x2048x256, .f32⟩
  | .hbm, ⟨81, _⟩ => ⟨S2x4x2048x256, .f32⟩
  | .hbm, ⟨82, _⟩ => ⟨S2x4x256x64, .f32⟩
  | .hbm, ⟨83, _⟩ => ⟨S2x256x4x64, .f32⟩
  | .hbm, ⟨84, _⟩ => ⟨S2x4x2048x64, .f32⟩
  | .hbm, ⟨85, _⟩ => ⟨S2x2048x4x64, .f32⟩
  | .hbm, ⟨86, _⟩ => ⟨S2x256x1x4x64, .f32⟩
  | .hbm, ⟨87, _⟩ => ⟨S_, .f32⟩
  | .hbm, ⟨88, _⟩ => ⟨S2x256x2x4x64, .f32⟩
  | .hbm, ⟨89, _⟩ => ⟨S2x256x1x4x64, .f32⟩
  | .hbm, ⟨90, _⟩ => ⟨S_, .f32⟩
  | .hbm, ⟨91, _⟩ => ⟨S2x256x2x4x64, .f32⟩
  | .hbm, ⟨92, _⟩ => ⟨S2x256x2x4x64, .f32⟩
  | .hbm, ⟨93, _⟩ => ⟨S2x2048x256, .f32⟩
  | .hbm, ⟨94, _⟩ => ⟨S512x512, .f32⟩
  | .hbm, ⟨95, _⟩ => ⟨S4096x1536, .bf16⟩
  | .hbm, ⟨96, _⟩ => ⟨S4096x256, .f32⟩
  | .hbm, ⟨97, _⟩ => ⟨S4096x256, .bf16⟩
  | .hbm, ⟨98, _⟩ => ⟨S4096x1792, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== FfnAct.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩
abbrev S3x2816 : Shape := ⟨2, ![3, 2816]⟩
abbrev S1x2816 : Shape := ⟨2, ![1, 2816]⟩
abbrev S256 : Shape := ⟨1, ![256]⟩

abbrev nBuf : Space → Nat
  | .hbm => 16
  | .vmem => 44
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S5632, .f32⟩
  | .hbm, ⟨3, _⟩ => ⟨S4096x2816, .bf16⟩
  | .hbm, ⟨4, _⟩ => ⟨S1x5632, .f32⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S3x2816, .f32⟩
  | .hbm, ⟨11, _⟩ => ⟨S3x2816, .f32⟩
  | .hbm, ⟨12, _⟩ => ⟨S1x2816, .f32⟩
  | .hbm, ⟨13, _⟩ => ⟨S1x2816, .f32⟩
  | .hbm, ⟨14, _⟩ => ⟨S3x5632, .f32⟩
  | .hbm, ⟨15, _⟩ => ⟨S1x5632, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S3x256, .f32⟩
  | .local _ .vmem, ⟨29, _⟩ => ⟨S3x256, .f32⟩
  | .local _ .vmem, ⟨30, _⟩ => ⟨S3x256, .f32⟩
  | .local _ .vmem, ⟨31, _⟩ => ⟨S3x256, .f32⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S3x256, .f32⟩
  | .local _ .vmem, ⟨37, _⟩ => ⟨S3x256, .f32⟩
  | .local _ .vmem, ⟨38, _⟩ => ⟨S3x256, .f32⟩
  | .local _ .vmem, ⟨39, _⟩ => ⟨S3x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![11, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S3x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S3x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S3x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== FfnActIdeal.lean ====
variable {F : FTy → Type} [FloatOps F] [Named F]
def κ : String → Option EReal := fun
  | "gelu_6kc" => some ((241015141496493 / 1125899906842624 : ℝ) : EReal)
  | "gelu_kc" => some ((80338380498831 / 2251799813685248 : ℝ) : EReal)
  | _ => none
-- ==== FfnActRefIdeal.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩

abbrev nBuf : Space → Nat
  | .hbm => 143
  | .vmem => 0
  | .smem => 0
  | _ => 0

abbrev hbmTy0_0 (i : Nat) : BufTy := match i % 128 with
  | 0 => ⟨S4096x5632, .bf16⟩
  | 1 => ⟨S3x5632, .f32⟩
  | 2 => ⟨S5632, .f32⟩
  | 3 => ⟨S4096x2816, .bf16⟩
  | 4 => ⟨S4096x5632, .f32⟩
  | 5 => ⟨S2x2048x5632, .f32⟩
  | 6 => ⟨S_, .f32⟩
  | 7 => ⟨S2x2x5632, .f32⟩
  | 8 => ⟨S2x2050x5632, .f32⟩
  | 9 => ⟨S_, .f32⟩
  | 10 => ⟨S2x2x5632, .f32⟩
  | 11 => ⟨S1x5632, .f32⟩
  | 12 => ⟨S5632, .f32⟩
  | 13 => ⟨S2x2048x5632, .f32⟩
  | 14 => ⟨S1x1x5632, .f32⟩
  | 15 => ⟨S2x2048x5632, .f32⟩
  | 16 => ⟨S2x2048x5632, .f32⟩
  | 17 => ⟨S_, .f32⟩
  | 18 => ⟨S2x2048x5632, .f32⟩
  | 19 => ⟨S2x2048x5632, .f32⟩
  | 20 => ⟨S1x5632, .f32⟩
  | 21 => ⟨S5632, .f32⟩
  | 22 => ⟨S2x2048x5632, .f32⟩
  | 23 => ⟨S1x1x5632, .f32⟩
  | 24 => ⟨S2x2048x5632, .f32⟩
  | 25 => ⟨S2x2048x5632, .f32⟩
  | 26 => ⟨S2x2048x5632, .f32⟩
  | 27 => ⟨S1x5632, .f32⟩
  | 28 => ⟨S5632, .f32⟩
  | 29 => ⟨S2x2048x5632, .f32⟩
  | 30 => ⟨S1x1x5632, .f32⟩
  | 31 => ⟨S2x2048x5632, .f32⟩
  | 32 => ⟨S2x2048x5632, .f32⟩
  | 33 => ⟨S2x2048x5632, .f32⟩
  | 34 => ⟨S1x1x5632, .f32⟩
  | 35 => ⟨S2x2048x5632, .f32⟩
  | 36 => ⟨S2x2048x5632, .f32⟩
  | 37 => ⟨S2x2048x2816, .f32⟩
  | 38 => ⟨S2x2048x2816, .f32⟩
  | 39 => ⟨S2x2048x2816, .f32⟩
  | 40 => ⟨S2x2048x2816, .f32⟩
  | 41 => ⟨S2x2048x2816, .f32⟩
  | 42 => ⟨S_, .f32⟩
  | 43 => ⟨S2x2048x2816, .f32⟩
  | 44 => ⟨S2x2048x2816, .f32⟩
  | 45 => ⟨S_, .f32⟩
  | 46 => ⟨S2x2048x2816, .f32⟩
  | 47 => ⟨S2x2048x2816, .f32⟩
  | 48 => ⟨S2x2048x2816, .f32⟩
  | 49 => ⟨S_, .f32⟩
  | 50 => ⟨S2x2048x2816, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S_, .f32⟩
  | 57 => ⟨S2x2048x2816, .f32⟩
  | 58 => ⟨S2x2048x2816, .f32⟩
  | 59 => ⟨S2x2048x2816, .f32⟩
  | 60 => ⟨S_, .f32⟩
  | 61 => ⟨S2x2048x2816, .f32⟩
  | 62 => ⟨S2x2048x2816, .f32⟩
  | 63 => ⟨S_, .f32⟩
  | 64 => ⟨S2x2048x2816, .f32⟩
  | 65 => ⟨S2x2048x2816, .f32⟩
  | 66 => ⟨S2x2048x2816, .f32⟩
  | 67 => ⟨S2x2048x2816, .f32⟩
  | 68 => ⟨S4096x2816, .f32⟩
  | 69 => ⟨S2x2048x2816, .f32⟩
  | 70 => ⟨S2x2048x2816, .f32⟩
  | 71 => ⟨S2x2048x2816, .f32⟩
  | 72 => ⟨S2x2048x2816, .f32⟩
  | 73 => ⟨S2x2048x2816, .f32⟩
  | 74 => ⟨S_, .f32⟩
  | 75 => ⟨S2x2048x2816, .f32⟩
  | 76 => ⟨S2x2048x2816, .f32⟩
  | 77 => ⟨S2x2048x2816, .f32⟩
  | 78 => ⟨S_, .f32⟩
  | 79 => ⟨S2x2048x2816, .f32⟩
  | 80 => ⟨S2x2048x2816, .f32⟩
  | 81 => ⟨S2x2048x2816, .f32⟩
  | 82 => ⟨S_, .f32⟩
  | 83 => ⟨S2x2048x2816, .f32⟩
  | 84 => ⟨S2x2048x2816, .f32⟩
  | 85 => ⟨S2x2048x2816, .f32⟩
  | 86 => ⟨S2x2048x2816, .f32⟩
  | 87 => ⟨S2x2048x5632, .f32⟩
  | 88 => ⟨S_, .f32⟩
  | 89 => ⟨S5632, .f32⟩
  | 90 => ⟨S1x1x5632, .f32⟩
  | 91 => ⟨S_, .f32⟩
  | 92 => ⟨S5632, .f32⟩
  | 93 => ⟨S2x2048x5632, .f32⟩
  | 94 => ⟨S2x2048x5632, .f32⟩
  | 95 => ⟨S2x2048x5632, .f32⟩
  | 96 => ⟨S_, .f32⟩
  | 97 => ⟨S5632, .f32⟩
  | 98 => ⟨S1x1x5632, .f32⟩
  | 99 => ⟨S_, .f32⟩
  | 100 => ⟨S5632, .f32⟩
  | 101 => ⟨S_, .f32⟩
  | 102 => ⟨S2x2050x5632, .f32⟩
  | 103 => ⟨S1x5632, .f32⟩
  | 104 => ⟨S_, .f32⟩
  | 105 => ⟨S3x5632, .f32⟩
  | 106 => ⟨S2x2048x5632, .f32⟩
  | 107 => ⟨S2x2048x5632, .f32⟩
  | 108 => ⟨S2x2048x5632, .f32⟩
  | 109 => ⟨S_, .f32⟩
  | 110 => ⟨S5632, .f32⟩
  | 111 => ⟨S1x1x5632, .f32⟩
  | 112 => ⟨S_, .f32⟩
  | 113 => ⟨S5632, .f32⟩
  | 114 => ⟨S_, .f32⟩
  | 115 => ⟨S2x2050x5632, .f32⟩
  | 116 => ⟨S2x2050x5632, .f32⟩
  | 117 => ⟨S1x5632, .f32⟩
  | 118 => ⟨S_, .f32⟩
  | 119 => ⟨S3x5632, .f32⟩
  | 120 => ⟨S3x5632, .f32⟩
  | 121 => ⟨S2x2048x5632, .f32⟩
  | 122 => ⟨S2x2048x5632, .f32⟩
  | 123 => ⟨S2x2048x5632, .f32⟩
  | 124 => ⟨S_, .f32⟩
  | 125 => ⟨S5632, .f32⟩
  | 126 => ⟨S1x1x5632, .f32⟩
  | 127 => ⟨S_, .f32⟩
  | _ => ⟨S4096x5632, .bf16⟩

abbrev hbmTy0_1 (i : Nat) : BufTy := match i % 128 with
  | 0 => ⟨S5632, .f32⟩
  | 1 => ⟨S_, .f32⟩
  | 2 => ⟨S2x2050x5632, .f32⟩
  | 3 => ⟨S2x2050x5632, .f32⟩
  | 4 => ⟨S1x5632, .f32⟩
  | 5 => ⟨S_, .f32⟩
  | 6 => ⟨S3x5632, .f32⟩
  | 7 => ⟨S3x5632, .f32⟩
  | 8 => ⟨S2x2x5632, .f32⟩
  | 9 => ⟨S2x2048x5632, .f32⟩
  | 10 => ⟨S4096x5632, .f32⟩
  | 11 => ⟨S4096x5632, .bf16⟩
  | 12 => ⟨S4096x2816, .bf16⟩
  | 13 => ⟨S4096x2816, .bf16⟩
  | 14 => ⟨S1x5632, .f32⟩
  | _ => ⟨S4096x5632, .bf16⟩

abbrev hbmTy (i : Nat) : BufTy := match i / 128 with
  | 0 => hbmTy0_0 i
  | 1 => hbmTy0_1 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_12 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_14 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_cst_16 : Ref sig .tc := ⟨.hbm, 101, rfl⟩
abbrev main_v80 : Ref sig .tc := ⟨.hbm, 102, rfl⟩
abbrev main_v81 : Ref sig .tc := ⟨.hbm, 103, rfl⟩
abbrev main_cst_17 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_18 : Ref sig .tc := ⟨.hbm, 109, rfl⟩
abbrev main_v86 : Ref sig .tc := ⟨.hbm, 110, rfl⟩
abbrev main_v87 : Ref sig .tc := ⟨.hbm, 111, rfl⟩
abbrev main_cst_19 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_cst_24 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_25 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== SwaFwd.lean ====
abbrev S4096x1024 : Shape := ⟨2, ![4096, 1024]⟩
abbrev S4096x512 : Shape := ⟨2, ![4096, 512]⟩
abbrev S12 : Shape := ⟨1, ![12]⟩
abbrev S128x768 : Shape := ⟨2, ![128, 768]⟩
abbrev S128x512 : Shape := ⟨2, ![128, 512]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S4096x768 : Shape := ⟨2, ![4096, 768]⟩

abbrev nBuf : Space → Nat
  | .hbm => 5
  | .vmem => 8
  | .smem => 1
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S12, .f32⟩
  | .hbm, ⟨3, _⟩ => ⟨S4096x1024, .bf16⟩
  | .hbm, ⟨4, _⟩ => ⟨S4096x768, .bf16⟩
  | .local _ .vmem, ⟨0, _⟩ => ⟨S128x768, .f32⟩
  | .local _ .vmem, ⟨1, _⟩ => ⟨S128x768, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x768, .bf16⟩
  | .local _ .vmem, ⟨7, _⟩ => ⟨S128x768, .bf16⟩
  | .local _ .smem, ⟨0, _⟩ => ⟨S12, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwaFwdRefIdeal.lean ====
abbrev S4096x1024 : Shape := ⟨2, ![4096, 1024]⟩
abbrev S4096x512 : Shape := ⟨2, ![4096, 512]⟩
abbrev S12 : Shape := ⟨1, ![12]⟩
abbrev S4096x768 : Shape := ⟨2, ![4096, 768]⟩
abbrev S2x2048x12x64 : Shape := ⟨4, ![2, 2048, 12, 64]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x16x128x4x64 : Shape := ⟨5, ![2, 16, 128, 4, 64]⟩
abbrev S2x1x128x4x64 : Shape := ⟨5, ![2, 1, 128, 4, 64]⟩
abbrev S_ : Shape := ⟨0, ![]⟩
abbrev S2x15x128x4x64 : Shape := ⟨5, ![2, 15, 128, 4, 64]⟩
abbrev S2x16x256x4x64 : Shape := ⟨5, ![2, 16, 256, 4, 64]⟩
abbrev S2x16x128x4x3x64 : Shape := ⟨6, ![2, 16, 128, 4, 3, 64]⟩
abbrev S2x16x4x256x128x3 : Shape := ⟨6, ![2, 16, 4, 256, 128, 3]⟩
abbrev S2x16x4x3x128x256 : Shape := ⟨6, ![2, 16, 4, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x3x1x1 : Shape := ⟨4, ![4, 3, 1, 1]⟩
abbrev S1x1x128x256 : Shape := ⟨4, ![1, 1, 128, 256]⟩
abbrev S4x3x128x256 : Shape := ⟨4, ![4, 3, 128, 256]⟩
abbrev S1x16x1x1x128x256 : Shape := ⟨6, ![1, 16, 1, 1, 128, 256]⟩
abbrev S1x1x4x3x128x256 : Shape := ⟨6, ![1, 1, 4, 3, 128, 256]⟩
abbrev S1x1x4x3x1x1 : Shape := ⟨6, ![1, 1, 4, 3, 1, 1]⟩
abbrev S2x16x4x3x128 : Shape := ⟨5, ![2, 16, 4, 3, 128]⟩
abbrev S2x16x4x3x128x1 : Shape := ⟨6, ![2, 16, 4, 3, 128, 1]⟩
abbrev S2x16x4x64x3x128 : Shape := ⟨6, ![2, 16, 4, 64, 3, 128]⟩
abbrev S2x2048x768 : Shape := ⟨3, ![2, 2048, 768]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S12, .f32⟩
  | .hbm, ⟨3, _⟩ => ⟨S12, .f32⟩
  | .hbm, ⟨4, _⟩ => ⟨S4096x768, .f32⟩
  | .hbm, ⟨5, _⟩ => ⟨S2x2048x12x64, .f32⟩
  | .hbm, ⟨6, _⟩ => ⟨S2x2048x2x4x64, .f32⟩
  | .hbm, ⟨7, _⟩ => ⟨S2x2048x1x4x64, .f32⟩
  | .hbm, ⟨8, _⟩ => ⟨S2x2048x4x64, .f32⟩
  | .hbm, ⟨9, _⟩ => ⟨S2x16x128x4x64, .f32⟩
  | .hbm, ⟨10, _⟩ => ⟨S2x1x128x4x64, .f32⟩
  | .hbm, ⟨11, _⟩ => ⟨S_, .f32⟩
  | .hbm, ⟨12, _⟩ => ⟨S2x1x128x4x64, .f32⟩
  | .hbm, ⟨13, _⟩ => ⟨S2x15x128x4x64, .f32⟩
  | .hbm, ⟨14, _⟩ => ⟨S2x16x128x4x64, .f32⟩
  | .hbm, ⟨15, _⟩ => ⟨S2x16x256x4x64, .f32⟩
  | .hbm, ⟨16, _⟩ => ⟨S2x2048x1x4x64, .f32⟩
  | .hbm, ⟨17, _⟩ => ⟨S2x2048x4x64, .f32⟩
  | .hbm, ⟨18, _⟩ => ⟨S2x16x128x4x64, .f32⟩
  | .hbm, ⟨19, _⟩ => ⟨S2x1x128x4x64, .f32⟩
  | .hbm, ⟨20, _⟩ => ⟨S_, .f32⟩
  | .hbm, ⟨21, _⟩ => ⟨S2x1x128x4x64, .f32⟩
  | .hbm, ⟨22, _⟩ => ⟨S2x15x128x4x64, .f32⟩
  | .hbm, ⟨23, _⟩ => ⟨S2x16x128x4x64, .f32⟩
  | .hbm, ⟨24, _⟩ => ⟨S2x16x256x4x64, .f32⟩
  | .hbm, ⟨25, _⟩ => ⟨S2x16x128x4x3x64, .f32⟩
  | .hbm, ⟨26, _⟩ => ⟨S2x16x4x256x128x3, .f32⟩
  | .hbm, ⟨27, _⟩ => ⟨S2x16x4x3x128x256, .f32⟩
  | .hbm, ⟨28, _⟩ => ⟨S_, .f32⟩
  | .hbm, ⟨29, _⟩ => ⟨S2x16x4x3x128x256, .f32⟩
  | .hbm, ⟨30, _⟩ => ⟨S2x16x4x3x128x256, .f32⟩
  | .hbm, ⟨31, _⟩ => ⟨S128, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S16, .i32⟩
  | .hbm, ⟨49, _⟩ => ⟨S16x1x1, .i32⟩
  | .hbm, ⟨50, _⟩ => ⟨S_, .i32⟩
  | .hbm, ⟨51, _⟩ => ⟨S16x1x1, .i32⟩
  | .hbm, ⟨52, _⟩ => ⟨S16x1x1, .i1⟩
  | .hbm, ⟨53, _⟩ => ⟨S1x1x256, .i32⟩
  | .hbm, ⟨54, _⟩ => ⟨S_, .i32⟩
  | .hbm, ⟨55, _⟩ => ⟨S1x1x256, .i32⟩
  | .hbm, ⟨56, _⟩ => ⟨S1x1x256, .i1⟩
  | .hbm, ⟨57, _⟩ => ⟨S16x1x256, .i1⟩
  | .hbm, ⟨58, _⟩ => ⟨S16x1x256, .i1⟩
  | .hbm, ⟨59, _⟩ => ⟨S16x1x256, .i1⟩
  | .hbm, ⟨60, _⟩ => ⟨S1x128x256, .i1⟩
  | .hbm, ⟨61, _⟩ => ⟨S16x128x256, .i1⟩
  | .hbm, ⟨62, _⟩ => ⟨S16x128x256, .i1⟩
  | .hbm, ⟨63, _⟩ => ⟨S16x128x256, .i1⟩
  | .hbm, ⟨64, _⟩ => ⟨S4x3x1x1, .f32⟩
  | .hbm, ⟨65, _⟩ => ⟨S4x3x1x1, .f32⟩
  | .hbm, ⟨66, _⟩ => ⟨S128x256, .f32⟩
  | .hbm, ⟨67, _⟩ => ⟨S1x1x128x256, .f32⟩
  | .hbm, ⟨68, _⟩ => ⟨S4x3x128x256, .f32⟩
  | .hbm, ⟨69, _⟩ => ⟨S4x3x128x256, .f32⟩
  | .hbm, ⟨70, _⟩ => ⟨S4x3x128x256, .f32⟩
  | .hbm, ⟨71, _⟩ => ⟨S1x16x1x1x128x256, .i1⟩
  | .hbm, ⟨72, _⟩ => ⟨S1x1x4x3x128x256, .f32⟩
  | .hbm, ⟨73, _⟩ => ⟨S2x16x4x3x128x256, .f32⟩
  | .hbm, ⟨74, _⟩ => ⟨S2x16x4x3x128x256, .f32⟩
  | .hbm, ⟨75, _⟩ => ⟨S_, .f32⟩
  | .hbm, ⟨76, _⟩ => ⟨S_, .f32⟩
  | .hbm, ⟨77, _⟩ => ⟨S2x16x4x3x128x256, .i1⟩
  | .hbm, ⟨78, _⟩ => ⟨S2x16x4x3x128x256, .f32⟩
  | .hbm, ⟨79, _⟩ => ⟨S2x16x4x3x128x256, .f32⟩
  | .hbm, ⟨80, _⟩ => ⟨S1x1x4x3x1x1, .f32⟩
  | .hbm, ⟨81, _⟩ => ⟨S_, .f32⟩
  | .hbm, ⟨82, _⟩ => ⟨S2x16x4x3x128, .f32⟩
  | .hbm, ⟨83, _⟩ => ⟨S2x16x4x3x128x1, .f32⟩
  | .hbm, ⟨84, _⟩ => ⟨S2x16x4x3x128x1, .f32⟩
  | .hbm, ⟨85, _⟩ => ⟨S2x16x4x3x128x1, .f32⟩
  | .hbm, ⟨86, _⟩ => ⟨S2x16x4x3x128x256, .f32⟩
  | .hbm, ⟨87, _⟩ => ⟨S2x16x4x3x128x256, .f32⟩
  | .hbm, ⟨88, _⟩ => ⟨S2x16x4x3x128x256, .f32⟩
  | .hbm, ⟨89, _⟩ => ⟨S_, .f32⟩
  | .hbm, ⟨90, _⟩ => ⟨S2x16x4x3x128, .f32⟩
  | .hbm, ⟨91, _⟩ => ⟨S2x16x4x3x128x1, .f32⟩
  | .hbm, ⟨92, _⟩ => ⟨S2x16x4x3x128x1, .f32⟩
  | .hbm, ⟨93, _⟩ => ⟨S2x16x4x3x128x1, .f32⟩
  | .hbm, ⟨94, _⟩ => ⟨S2x16x4x3x128x1, .f32⟩
  | .hbm, ⟨95, _⟩ => ⟨S2x16x4x3x128x1, .f32⟩
  | .hbm, ⟨96, _⟩ => ⟨S2x16x4x3x128x256, .f32⟩
  | .hbm, ⟨97, _⟩ => ⟨S2x16x4x3x128x256, .f32⟩
  | .hbm, ⟨98, _⟩ => ⟨S2x16x4x64x3x128, .f32⟩
  | .hbm, ⟨99, _⟩ => ⟨S2x16x128x4x3x64, .f32⟩
  | .hbm, ⟨100, _⟩ => ⟨S2x2048x768, .f32⟩
  | .hbm, ⟨101, _⟩ => ⟨S4096x768, .f32⟩
  | .hbm, ⟨102, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== MemFwd.lean ====
abbrev S4096x1024 : Shape := ⟨2, ![4096, 1024]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFwdRefIdeal.lean ====
abbrev S4096x1024 : Shape := ⟨2, ![4096, 1024]⟩
abbrev S512x512 : Shape := ⟨2, ![512, 512]⟩
abbrev S4096x256 : Shape := ⟨2, ![4096, 256]⟩
abbrev S2x2048x4x64 : Shape := ⟨4, ![2, 2048, 4, 64]⟩
abbrev S2x256x2x4x64 : Shape := ⟨5, ![2, 256, 2, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S4096x768 : Shape := ⟨2, ![4096, 768]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x256, .f32⟩
  | .hbm, ⟨4, _⟩ => ⟨S2x2048x4x64, .f32⟩
  | .hbm, ⟨5, _⟩ => ⟨S2x256x2x4x64, .f32⟩
  | .hbm, ⟨6, _⟩ => ⟨S2x256x1x4x64, .f32⟩
  | .hbm, ⟨7, _⟩ => ⟨S2x256x4x64, .f32⟩
  | .hbm, ⟨8, _⟩ => ⟨S2x256x1x4x64, .f32⟩
  | .hbm, ⟨9, _⟩ => ⟨S2x256x4x64, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x64x2048, .f32⟩
  | .hbm, ⟨29, _⟩ => ⟨S2x2048x4x64, .f32⟩
  | .hbm, ⟨30, _⟩ => ⟨S2x2048x256, .f32⟩
  | .hbm, ⟨31, _⟩ => ⟨S4096x768, .bf16⟩
  | .hbm, ⟨32, _⟩ => ⟨S4096x256, .f32⟩
  | .hbm, ⟨33, _⟩ => ⟨S4096x256, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MemFwdA.lean ====
abbrev S4096x1792 : Shape := ⟨2, ![4096, 1792]⟩
abbrev S512x512 : Shape := ⟨2, ![512, 512]⟩
abbrev S4096x1024 : Shape := ⟨2, ![4096, 1024]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFwdARefIdeal.lean ====
abbrev S4096x1792 : Shape := ⟨2, ![4096, 1792]⟩
abbrev S512x512 : Shape := ⟨2, ![512, 512]⟩
abbrev S4096x1024 : Shape := ⟨2, ![4096, 1024]⟩
abbrev S4096x256 : Shape := ⟨2, ![4096, 256]⟩
abbrev S2x2048x4x64 : Shape := ⟨4, ![2, 2048, 4, 64]⟩
abbrev S2x256x2x4x64 : Shape := ⟨5, ![2, 256, 2, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S4096x768 : Shape := ⟨2, ![4096, 768]⟩

abbrev nBuf : Space → Nat
  | .hbm => 35
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x256, .f32⟩
  | .hbm, ⟨4, _⟩ => ⟨S2x2048x4x64, .f32⟩
  | .hbm, ⟨5, _⟩ => ⟨S2x256x2x4x64, .f32⟩
  | .hbm, ⟨6, _⟩ => ⟨S2x256x1x4x64, .f32⟩
  | .hbm, ⟨7, _⟩ => ⟨S2x256x4x64, .f32⟩
  | .hbm, ⟨8, _⟩ => ⟨S2x256x1x4x64, .f32⟩
  | .hbm, ⟨9, _⟩ => ⟨S2x256x4x64, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x64x2048, .f32⟩
  | .hbm, ⟨29, _⟩ => ⟨S2x2048x4x64, .f32⟩
  | .hbm, ⟨30, _⟩ => ⟨S2x2048x256, .f32⟩
  | .hbm, ⟨31, _⟩ => ⟨S4096x768, .bf16⟩
  | .hbm, ⟨32, _⟩ => ⟨S4096x256, .f32⟩
  | .hbm, ⟨33, _⟩ => ⟨S4096x256, .bf16⟩
  | .hbm, ⟨34, _⟩ => ⟨S4096x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== NormFwd.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S2x2048x1024, .bf16⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResidFwd.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidFwdRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S4096x1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .bf16⟩
  | .hbm, ⟨40, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Resid2Fwd.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Resid2FwdRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | .hbm, ⟨24, _⟩ => ⟨S2x2048x1024, .f32⟩
  | .hbm, ⟨25, _⟩ => ⟨S_, .f32⟩
  | .hbm, ⟨26, _⟩ => ⟨S2x2048, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S2x2048x1024, .bf16⟩
  | .hbm, ⟨41, _⟩ => ⟨S4096x1024, .bf16⟩
  | .hbm, ⟨42, _⟩ => ⟨S2x2048x1024, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S2x2048x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S2x2048x1024, .bf16⟩
  | .hbm, ⟨59, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== FfnFwd.lean ====
abbrev S4096x5632 : Shape := ⟨2, ![4096, 5632]⟩
abbrev S3x5632 : Shape := ⟨2, ![3, 5632]⟩
abbrev S5632 : Shape := ⟨1, ![5632]⟩
abbrev S1x5632 : Shape := ⟨2, ![1, 5632]⟩
abbrev S4096x2816 : Shape := ⟨2, ![4096, 2816]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S2040x256 : Shape := ⟨2, ![2040, 256]⟩

abbrev nBuf : Space → Nat
  | .hbm => 7
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdIdeal.lean ====
variable {F : FTy → Type} [FloatOps F] [Named F]
def κ : String → Option EReal := fun
  | "gelu_6kc" => some ((241015141496493 / 1125899906842624 : ℝ) : EReal)
  | "gelu_kc" => some ((80338380498831 / 2251799813685248 : ℝ) : EReal)
  | _ => none
-- ==== FfnFwdRefIdeal.lean ====
abbrev S4096x5632 : Shape := ⟨2, ![4096, 5632]⟩
abbrev S3x5632 : Shape := ⟨2, ![3, 5632]⟩
abbrev S5632 : Shape := ⟨1, ![5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 86
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S5632, .f32⟩
  | .hbm, ⟨3, _⟩ => ⟨S4096x5632, .f32⟩
  | .hbm, ⟨4, _⟩ => ⟨S2x2048x5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S1x5632, .f32⟩
  | .hbm, ⟨9, _⟩ => ⟨S5632, .f32⟩
  | .hbm, ⟨10, _⟩ => ⟨S2x2048x5632, .f32⟩
  | .hbm, ⟨11, _⟩ => ⟨S1x1x5632, .f32⟩
  | .hbm, ⟨12, _⟩ => ⟨S2x2048x5632, .f32⟩
  | .hbm, ⟨13, _⟩ => ⟨S2x2048x5632, .f32⟩
  | .hbm, ⟨14, _⟩ => ⟨S_, .f32⟩
  | .hbm, ⟨15, _⟩ => ⟨S2x2048x5632, .f32⟩
  | .hbm, ⟨16, _⟩ => ⟨S2x2048x5632, .f32⟩
  | .hbm, ⟨17, _⟩ => ⟨S1x5632, .f32⟩
  | .hbm, ⟨18, _⟩ => ⟨S5632, .f32⟩
  | .hbm, ⟨19, _⟩ => ⟨S2x2048x5632, .f32⟩
  | .hbm, ⟨20, _⟩ => ⟨S1x1x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S1x5632, .f32⟩
  | .hbm, ⟨25, _⟩ => ⟨S5632, .f32⟩
  | .hbm, ⟨26, _⟩ => ⟨S2x2048x5632, .f32⟩
  | .hbm, ⟨27, _⟩ => ⟨S1x1x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S1x1x5632, .f32⟩
  | .hbm, ⟨32, _⟩ => ⟨S2x2048x5632, .f32⟩
  | .hbm, ⟨33, _⟩ => ⟨S2x2048x5632, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S_, .f32⟩
  | .hbm, ⟨51, _⟩ => ⟨S2x2048x2816, .f32⟩
  | .hbm, ⟨52, _⟩ => ⟨S2x2048x2816, .f32⟩
  | .hbm, ⟨53, _⟩ => ⟨S_, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S_, .f32⟩
  | .hbm, ⟨58, _⟩ => ⟨S2x2048x2816, .f32⟩
  | .hbm, ⟨59, _⟩ => ⟨S2x2048x2816, .f32⟩
  | .hbm, ⟨60, _⟩ => ⟨S_, .f32⟩
  | .hbm, ⟨61, _⟩ => ⟨S2x2048x2816, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S4096x2816, .f32⟩
  | .hbm, ⟨66, _⟩ => ⟨S4096x2816, .bf16⟩
  | .hbm, ⟨67, _⟩ => ⟨S2x2048x2816, .f32⟩
  | .hbm, ⟨68, _⟩ => ⟨S2x2048x2816, .f32⟩
  | .hbm, ⟨69, _⟩ => ⟨S_, .f32⟩
  | .hbm, ⟨70, _⟩ => ⟨S2x2048x2816, .f32⟩
  | .hbm, ⟨71, _⟩ => ⟨S2x2048x2816, .f32⟩
  | .hbm, ⟨72, _⟩ => ⟨S2x2048x2816, .f32⟩
  | .hbm, ⟨73, _⟩ => ⟨S_, .f32⟩
  | .hbm, ⟨74, _⟩ => ⟨S2x2048x2816, .f32⟩
  | .hbm, ⟨75, _⟩ => ⟨S2x2048x2816, .f32⟩
  | .hbm, ⟨76, _⟩ => ⟨S2x2048x2816, .f32⟩
  | .hbm, ⟨77, _⟩ => ⟨S_, .f32⟩
  | .hbm, ⟨78, _⟩ => ⟨S2x2048x2816, .f32⟩
  | .hbm, ⟨79, _⟩ => ⟨S2x2048x2816, .f32⟩
  | .hbm, ⟨80, _⟩ => ⟨S2x2048x2816, .f32⟩
  | .hbm, ⟨81, _⟩ => ⟨S2x2048x2816, .f32⟩
  | .hbm, ⟨82, _⟩ => ⟨S4096x2816, .f32⟩
  | .hbm, ⟨83, _⟩ => ⟨S4096x2816, .bf16⟩
  | .hbm, ⟨84, _⟩ => ⟨S4096x2816, .f32⟩
  | .hbm, ⟨85, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S1x2816x1024 : Shape := ⟨3, ![1, 2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S1x2816x1024, .f32⟩
  | .hbm, ⟨3, _⟩ => ⟨S1x2816x1024, .bf16⟩
  | .hbm, ⟨4, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .bf16⟩
  | .local _ .vmem, ⟨4, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | .hbm, ⟨4, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DAct.lean ====
abbrev S2816x1024 : Shape := ⟨2, ![2816, 1024]⟩
abbrev S4096x1024 : Shape := ⟨2, ![4096, 1024]⟩
abbrev S1x2816x1024 : Shape := ⟨3, ![1, 2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S1x2816x1024, .f32⟩
  | .hbm, ⟨3, _⟩ => ⟨S1x2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x2816x1024, .bf16⟩
  | .local _ .vmem, ⟨3, _⟩ => ⟨S1024x2816, .bf16⟩
  | .local _ .vmem, ⟨4, _⟩ => ⟨S1024x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DActRefIdeal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S4096x5632 : Shape := ⟨2, ![4096, 5632]⟩
abbrev S2048x1024 : Shape := ⟨2, ![2048, 1024]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1x1024x1408, .f32⟩
  | .hbm, ⟨5, _⟩ => ⟨S4x1x1024x1408, .bf16⟩
  | .hbm, ⟨6, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH2.lean ====
abbrev S1024x5632 : Shape := ⟨2, ![1024, 5632]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S4096x1024 : Shape := ⟨2, ![4096, 1024]⟩
abbrev S512x2816 : Shape := ⟨2, ![512, 2816]⟩
abbrev S1x1x1024x1408 : Shape := ⟨4, ![1, 1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S1024x5632, .f32⟩
  | .hbm, ⟨1, _⟩ => ⟨S4096x2816, .bf16⟩
  | .hbm, ⟨2, _⟩ => ⟨S4096x2816, .bf16⟩
  | .hbm, ⟨3, _⟩ => ⟨S1024x4x1408, .f32⟩
  | .hbm, ⟨4, _⟩ => ⟨S4x1024x1408, .f32⟩
  | .hbm, ⟨5, _⟩ => ⟨S4x1x1024x1408, .f32⟩
  | .hbm, ⟨6, _⟩ => ⟨S4x1x1024x1408, .bf16⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S512x1024, .bf16⟩
  | .local _ .vmem, ⟨9, _⟩ => ⟨S512x1024, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DH2RefIdeal.lean ====
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwUp.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1x1024x1408, .f32⟩
  | .hbm, ⟨3, _⟩ => ⟨S4x1x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S2x1x1024x1408 : Shape := ⟨4, ![2, 1, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1x1024x1408, .f32⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2x1408, .f32⟩
  | .hbm, ⟨11, _⟩ => ⟨S2x1024x1408, .f32⟩
  | .hbm, ⟨12, _⟩ => ⟨S2x1x1024x1408, .f32⟩
  | .hbm, ⟨13, _⟩ => ⟨S2x1x1024x1408, .f32⟩
  | .hbm, ⟨14, _⟩ => ⟨S4x1x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamSmall.lean ====
abbrev S2x12x64x64 : Shape := ⟨4, ![2, 12, 64, 64]⟩
abbrev S1536x64 : Shape := ⟨2, ![1536, 64]⟩
abbrev S1x1536x64 : Shape := ⟨3, ![1, 1536, 64]⟩

abbrev nBuf : Space → Nat
  | .hbm => 15
  | .vmem => 7
  | .smem => 0
  | _ => 0

abbrev bufTy : (tb : Table) → Fin (tcTables nBuf tb) → BufTy
  | .hbm, ⟨0, _⟩ => ⟨S2x12x64x64, .f32⟩
  | .hbm, ⟨1, _⟩ => ⟨S2x12x64x64, .f32⟩
  | .hbm, ⟨2, _⟩ => ⟨S2x12x64x64, .f32⟩
  | .hbm, ⟨3, _⟩ => ⟨S2x12x64x64, .f32⟩
  | .hbm, ⟨4, _⟩ => ⟨S1536x64, .f32⟩
  | .hbm, ⟨5, _⟩ => ⟨S1536x64, .f32⟩
  | .hbm, ⟨6, _⟩ => ⟨S1536x64, .f32⟩
  | .hbm, ⟨7, _⟩ => ⟨S1536x64, .f32⟩
  | .hbm, ⟨8, _⟩ => ⟨S1x1536x64, .f32⟩
  | .hbm, ⟨9, _⟩ => ⟨S1x1536x64, .f32⟩
  | .hbm, ⟨10, _⟩ => ⟨S1x1536x64, .f32⟩
  | .hbm, ⟨11, _⟩ => ⟨S1x1536x64, .f32⟩
  | .hbm, ⟨12, _⟩ => ⟨S1x1536x64, .f32⟩
  | .hbm, ⟨13, _⟩ => ⟨S1x1536x64, .f32⟩
  | .hbm, ⟨14, _⟩ => ⟨S1x1536x64, .f32⟩
  | .local _ .vmem, ⟨0, _⟩ => ⟨S1x1536x64, .f32⟩
  | .local _ .vmem, ⟨1, _⟩ => ⟨S1x1536x64, .f32⟩
  | .local _ .vmem, ⟨2, _⟩ => ⟨S1x1536x64, .f32⟩
  | .local _ .vmem, ⟨3, _⟩ => ⟨S1x1536x64, .f32⟩
  | .local _ .vmem, ⟨4, _⟩ => ⟨S1x1536x64, .f32⟩
  | .local _ .vmem, ⟨5, _⟩ => ⟨S1x1536x64, .f32⟩
  | .local _ .vmem, ⟨6, _⟩ => ⟨S1x1536x64, .f32⟩
  | _, _ => ⟨S2x12x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1536x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1536x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1536x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1536x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1536x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1536x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1536x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallIdeal.lean ====
variable {F : FTy → Type} [FloatOps F] [Named F]
def κ : String → Option EReal := fun
  | "one_over_1_minus_b1_pow" => some ((8388608 / 5463681 : ℝ) : EReal)
  | "one_over_1_minus_b2_pow" => some ((268435456 / 2672307 : ℝ) : EReal)
  | _ => none
-- ==== AdamSmallRefIdeal.lean ====
abbrev S2x12x64x64 : Shape := ⟨4, ![2, 12, 64, 64]⟩
abbrev S_ : Shape := ⟨0, ![]⟩
abbrev S1x1536x64 : Shape := ⟨3, ![1, 1536, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x12x64x64, .f32⟩
  | .hbm, ⟨1, _⟩ => ⟨S2x12x64x64, .f32⟩
  | .hbm, ⟨2, _⟩ => ⟨S2x12x64x64, .f32⟩
  | .hbm, ⟨3, _⟩ => ⟨S2x12x64x64, .f32⟩
  | .hbm, ⟨4, _⟩ => ⟨S_, .f32⟩
  | .hbm, ⟨5, _⟩ => ⟨S2x12x64x64, .f32⟩
  | .hbm, ⟨6, _⟩ => ⟨S2x12x64x64, .f32⟩
  | .hbm, ⟨7, _⟩ => ⟨S_, .f32⟩
  | .hbm, ⟨8, _⟩ => ⟨S2x12x64x64, .f32⟩
  | .hbm, ⟨9, _⟩ => ⟨S2x12x64x64, .f32⟩
  | .hbm, ⟨10, _⟩ => ⟨S2x12x64x64, .f32⟩
  | .hbm, ⟨11, _⟩ => ⟨S_, .f32⟩
  | .hbm, ⟨12, _⟩ => ⟨S2x12x64x64, .f32⟩
  | .hbm, ⟨13, _⟩ => ⟨S2x12x64x64, .f32⟩
  | .hbm, ⟨14, _⟩ => ⟨S2x12x64x64, .f32⟩
  | .hbm, ⟨15, _⟩ => ⟨S_, .f32⟩
  | .hbm, ⟨16, _⟩ => ⟨S2x12x64x64, .f32⟩
  | .hbm, ⟨17, _⟩ => ⟨S2x12x64x64, .f32⟩
  | .hbm, ⟨18, _⟩ => ⟨S2x12x64x64, .f32⟩
  | .hbm, ⟨19, _⟩ => ⟨S_, .f32⟩
  | .hbm, ⟨20, _⟩ => ⟨S2x12x64x64, .f32⟩
  | .hbm, ⟨21, _⟩ => ⟨S2x12x64x64, .f32⟩
  | .hbm, ⟨22, _⟩ => ⟨S_, .f32⟩
  | .hbm, ⟨23, _⟩ => ⟨S2x12x64x64, .f32⟩
  | .hbm, ⟨24, _⟩ => ⟨S2x12x64x64, .f32⟩
  | .hbm, ⟨25, _⟩ => ⟨S2x12x64x64, .f32⟩
  | .hbm, ⟨26, _⟩ => ⟨S_, .f32⟩
  | .hbm, ⟨27, _⟩ => ⟨S2x12x64x64, .f32⟩
  | .hbm, ⟨28, _⟩ => ⟨S2x12x64x64, .f32⟩
  | .hbm, ⟨29, _⟩ => ⟨S2x12x64x64, .f32⟩
  | .hbm, ⟨30, _⟩ => ⟨S_, .f32⟩
  | .hbm, ⟨31, _⟩ => ⟨S2x12x64x64, .f32⟩
  | .hbm, ⟨32, _⟩ => ⟨S2x12x64x64, .f32⟩
  | .hbm, ⟨33, _⟩ => ⟨S2x12x64x64, .f32⟩
  | .hbm, ⟨34, _⟩ => ⟨S_, .f32⟩
  | .hbm, ⟨35, _⟩ => ⟨S2x12x64x64, .f32⟩
  | .hbm, ⟨36, _⟩ => ⟨S2x12x64x64, .f32⟩
  | .hbm, ⟨37, _⟩ => ⟨S1x1536x64, .f32⟩
  | .hbm, ⟨38, _⟩ => ⟨S1x1536x64, .f32⟩
  | .hbm, ⟨39, _⟩ => ⟨S1x1536x64, .f32⟩
  | _, _ => ⟨S2x12x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLayer.lean ====
abbrev S4x1024x1408 : Shape := ⟨3, ![4, 1024, 1408]⟩
abbrev S1x1024x1408 : Shape := ⟨3, ![1, 1024, 1408]⟩
abbrev S1x256x1408 : Shape := ⟨3, ![1, 256, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S1x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLayerIdeal.lean ====
variable {F : FTy → Type} [FloatOps F] [Named F]
def κ : String → Option EReal := fun
  | "one_over_1_minus_b1_pow" => some ((8388608 / 5463681 : ℝ) : EReal)
  | "one_over_1_minus_b2_pow" => some ((268435456 / 2672307 : ℝ) : EReal)
  | _ => none
-- ==== AdamLayerRefIdeal.lean ====
abbrev S4x1024x1408 : Shape := ⟨3, ![4, 1024, 1408]⟩
abbrev S1x1024x1408 : Shape := ⟨3, ![1, 1024, 1408]⟩
abbrev S_ : Shape := ⟨0, ![]⟩
abbrev S2x1024x1408 : Shape := ⟨3, ![2, 1024, 1408]⟩

abbrev nBuf : Space → Nat
  | .hbm => 56
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S1x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S_, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S_, .f32⟩
  | .hbm, ⟨19, _⟩ => ⟨S1x1024x1408, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S_, .f32⟩
  | .hbm, ⟨30, _⟩ => ⟨S1x1024x1408, .f32⟩
  | .hbm, ⟨31, _⟩ => ⟨S1x1024x1408, .f32⟩
  | .hbm, ⟨32, _⟩ => ⟨S1x1024x1408, .f32⟩
  | .hbm, ⟨33, _⟩ => ⟨S_, .f32⟩
  | .hbm, ⟨34, _⟩ => ⟨S1x1024x1408, .f32⟩
  | .hbm, ⟨35, _⟩ => ⟨S1x1024x1408, .f32⟩
  | .hbm, ⟨36, _⟩ => ⟨S1x1024x1408, .f32⟩
  | .hbm, ⟨37, _⟩ => ⟨S_, .f32⟩
  | .hbm, ⟨38, _⟩ => ⟨S1x1024x1408, .f32⟩
  | .hbm, ⟨39, _⟩ => ⟨S1x1024x1408, .f32⟩
  | .hbm, ⟨40, _⟩ => ⟨S1x1024x1408, .f32⟩
  | .hbm, ⟨41, _⟩ => ⟨S_, .f32⟩
  | .hbm, ⟨42, _⟩ => ⟨S1x1024x1408, .f32⟩
  | .hbm, ⟨43, _⟩ => ⟨S1x1024x1408, .f32⟩
  | .hbm, ⟨44, _⟩ => ⟨S2x1024x1408, .f32⟩
  | .hbm, ⟨45, _⟩ => ⟨S1x1024x1408, .f32⟩
  | .hbm, ⟨46, _⟩ => ⟨S4x1024x1408, .f32⟩
  | .hbm, ⟨47, _⟩ => ⟨S2x1024x1408, .f32⟩
  | .hbm, ⟨48, _⟩ => ⟨S1x1024x1408, .f32⟩
  | .hbm, ⟨49, _⟩ => ⟨S4x1024x1408, .f32⟩
  | .hbm, ⟨50, _⟩ => ⟨S2x1024x1408, .f32⟩
  | .hbm, ⟨51, _⟩ => ⟨S1x1024x1408, .f32⟩
  | .hbm, ⟨52, _⟩ => ⟨S4x1024x1408, .f32⟩
  | .hbm, ⟨53, _⟩ => ⟨S2x1024x1408, .f32⟩
  | .hbm, ⟨54, _⟩ => ⟨S1x1024x1408, .f32⟩
  | .hbm, ⟨55, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== RsPair.lean ====
abbrev S2 : Shape := ⟨1, ![2]⟩
abbrev S4x1x1024x1408 : Shape := ⟨4, ![4, 1, 1024, 1408]⟩
abbrev S4x1x512x1408 : Shape := ⟨4, ![4, 1, 512, 1408]⟩
abbrev S1x512x1408 : Shape := ⟨3, ![1, 512, 1408]⟩
abbrev S1x1x512x1408 : Shape := ⟨4, ![1, 1, 512, 1408]⟩
abbrev S1 : Shape := ⟨1, ![1]⟩
abbrev S512x1408 : Shape := ⟨2, ![512, 1408]⟩

abbrev nBuf : Space → Nat
  | .hbm => 4
  | .vmem => 7
  | .smem => 1
  | _ => 0

abbrev bufTy : (tb : Table) → Fin (tcTables nBuf tb) → BufTy
  | .hbm, ⟨0, _⟩ => ⟨S4x1x1024x1408, .f32⟩
  | .hbm, ⟨1, _⟩ => ⟨S4x1x512x1408, .f32⟩
  | .hbm, ⟨2, _⟩ => ⟨S1x512x1408, .f32⟩
  | .hbm, ⟨3, _⟩ => ⟨S4x1x512x1408, .bf16⟩
  | .local _ .vmem, ⟨0, _⟩ => ⟨S1x1x512x1408, .f32⟩
  | .local _ .vmem, ⟨1, _⟩ => ⟨S1x1x512x1408, .f32⟩
  | .local _ .vmem, ⟨2, _⟩ => ⟨S1x1x512x1408, .f32⟩
  | .local _ .vmem, ⟨3, _⟩ => ⟨S1x1x512x1408, .f32⟩
  | .local _ .vmem, ⟨4, _⟩ => ⟨S1x512x1408, .f32⟩
  | .local _ .vmem, ⟨5, _⟩ => ⟨S1x1x512x1408, .bf16⟩
  | .local _ .vmem, ⟨6, _⟩ => ⟨S1x1x512x1408, .bf16⟩
  | .local _ .smem, ⟨0, _⟩ => ⟨S2, .i32⟩
  | _, _ => ⟨S4x1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v9 : BitVec 32) : BitVec 1 :=
  let arg0 : BitVec 32 := BitVec.ofNat 32 (i 0).val
  let v10 : BitVec 1 := Scalar.cmpi .eq arg0 v9
  let v11 : BitVec 32 := Scalar.extui v10
  let c0_i32 : BitVec 32 := 0#32
  let v12 : BitVec 1 := Scalar.cmpi .ne v11 c0_i32
  v12

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RsPairRefIdeal.lean ====
abbrev S2 : Shape := ⟨1, ![2]⟩
abbrev S4x1x1024x1408 : Shape := ⟨4, ![4, 1, 1024, 1408]⟩
abbrev S4x1x512x1408 : Shape := ⟨4, ![4, 1, 512, 1408]⟩
abbrev S1 : Shape := ⟨1, ![1]⟩
abbrev S_ : Shape := ⟨0, ![]⟩
abbrev S1x1x512x1408 : Shape := ⟨4, ![1, 1, 512, 1408]⟩
abbrev S1x512x1408 : Shape := ⟨3, ![1, 512, 1408]⟩

abbrev nBuf : Space → Nat
  | .hbm => 35
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1x1024x1408, .f32⟩
  | .hbm, ⟨2, _⟩ => ⟨S4x1x512x1408, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x512x1408, .f32⟩
  | .hbm, ⟨8, _⟩ => ⟨S4x1x512x1408, .f32⟩
  | .hbm, ⟨9, _⟩ => ⟨S4x1x512x1408, .f32⟩
  | .hbm, ⟨10, _⟩ => ⟨S4x1x512x1408, .f32⟩
  | .hbm, ⟨11, _⟩ => ⟨S1x1x512x1408, .f32⟩
  | .hbm, ⟨12, _⟩ => ⟨S1x512x1408, .f32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1x1x512x1408, .f32⟩
  | .hbm, ⟨18, _⟩ => ⟨S1x512x1408, .f32⟩
  | .hbm, ⟨19, _⟩ => ⟨S1x512x1408, .f32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S1x1x512x1408, .f32⟩
  | .hbm, ⟨25, _⟩ => ⟨S1x512x1408, .f32⟩
  | .hbm, ⟨26, _⟩ => ⟨S1x512x1408, .f32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S1x1x512x1408, .f32⟩
  | .hbm, ⟨32, _⟩ => ⟨S1x512x1408, .f32⟩
  | .hbm, ⟨33, _⟩ => ⟨S1x512x1408, .f32⟩
  | .hbm, ⟨34, _⟩ => ⟨S4x1x512x1408, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Sums.lean ====
module

public import Idealize.ShloMosaic.Lib.Pointwise

/-! Sums the references take over sequences and tokens, and their re-indexing by the tokens of all sequences. -/

@[expose] public section

namespace Cert.Sums

open Idealize.ShloMosaic

variable {n0 n1 n2 : Nat} {t : Shape}

theorem lt_outer (h : (⟨3, ![n0, n1, n2]⟩ : Shape).ReducesTo [0, 1] t) : 0 < t.rank := by
  have := h.1
  have e : t.rank = 1 := this
  omega

theorem size_outer (h : (⟨3, ![n0, n1, n2]⟩ : Shape).ReducesTo [0, 1] t) : t.size ⟨0, lt_outer h⟩ = n2 :=
  h.2 ⟨0, lt_outer h⟩

/-- The entries a sum over the two outer axes adds at `j`: every pair of outer coordinates, with `j`'s own last one. -/
theorem fiber_outer (h : (⟨3, ![n0, n1, n2]⟩ : Shape).ReducesTo [0, 1] t) (j : t.Idx) (i : (⟨3, ![n0, n1, n2]⟩ : Shape).Idx) :
    h.drop i = j ↔ ∃ k : Fin n0 × Fin n1,
      ix3 k.1 k.2 ⟨(j ⟨0, lt_outer h⟩).val, Shape.coordLt (j ⟨0, lt_outer h⟩) (size_outer h)⟩ = i := by
  constructor
  · rintro rfl
    refine ⟨(i 0, i 1), ?_⟩
    funext a
    match a with
    | ⟨0, _⟩ => rfl
    | ⟨1, _⟩ => rfl
    | ⟨2, _⟩ => rfl
  · rintro ⟨k, rfl⟩
    funext b
    apply Fin.ext
    match b with
    | ⟨0, _⟩ => rfl
    | ⟨_ + 1, hb⟩ => exact absurd hb (by have : t.rank = 1 := h.1; omega)

/-- The host's sum over the two outer axes of a rank 3 array. -/
@[pointwise] theorem hostReduceAdd_outer (h : (⟨3, ![n0, n1, n2]⟩ : Shape).ReducesTo [0, 1] t)
    (v : (⟨3, ![n0, n1, n2]⟩ : Shape).Idx → EReal) (init : EReal) (j : t.Idx) :
    Ideal.hostReduceAdd h v init j = init + ∑ k0 : Fin n0, ∑ k1 : Fin n1,
      v (ix3 k0 k1 ⟨(j ⟨0, lt_outer h⟩).val, Shape.coordLt (j ⟨0, lt_outer h⟩) (size_outer h)⟩) := by
  refine congrArg (init + ·) ((Finset.sum_filter_eq_sum_of_fiber _
    (fun k : Fin n0 × Fin n1 => ix3 k.1 k.2 ⟨(j ⟨0, lt_outer h⟩).val, Shape.coordLt (j ⟨0, lt_outer h⟩) (size_outer h)⟩)
    (fun _ _ e => Prod.ext (congrFun e 0) (congrFun e 1)) (fiber_outer h j) v).trans ?_)
  simp only [Fintype.sum_prod_type]

end Cert.Sums
-- ==== Proof.MemNormValue.lean ====
module

public import proofs.«01_k».proof.Proof.Gen.MemNormIdeal.Value
public import proofs.«01_k».proof.Proof.Gen.MemNormRefIdeal.Run
public import Idealize.ShloMosaic.Lib.Pipeline.ValueKit
public import Idealize.ShloMosaic.Lib.Pointwise
public import proofs.«01_k».proof.Proof.Sums

/-! The memory norm's scale gradient: the launch's one block is the whole array, and the sum over its 512 rows is the
reference's sum over sequences and tokens. -/

@[expose] public section

set_option maxRecDepth 16384

noncomputable section

namespace Cert.MemNormRefIdeal.Value

open Cert.MemNormRefIdeal Cert.MemNormRefIdeal.Gen Idealize.ShloMosaic

/-- Result 0 of the reference over its arguments. -/
abbrev REF0 {F : FTy → Type} [FloatOps F] (A0 : FVec F S2x256x1024 .f32) (A2 : FVec F S2x256x1024 .f32) : FVec F S1x1024 .f32 :=
  shapeCast _ (Host.reduceAdd (shapeCast _ (Host.reduceAdd (mulf (mulf A0 (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf A0 A0) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) A2) (constant S_ .f32 0x00000000#32) reducesTo_S2x256x1024_S1024_d0_1 h_S_) shapeCasts_S1024_S1x1x1024) (constant S_ .f32 0x00000000#32) reducesTo_S1x1x1024_S1024_d0_1 h_S_) shapeCasts_S1024_S1x1024

end Cert.MemNormRefIdeal.Value

namespace Cert.MemNormIdeal.Value

open Cert.MemNormIdeal Cert.MemNormIdeal.Gen Idealize.ShloMosaic Idealize.ShloMosaic.TcCoe Idealize.SL.Sem
open Idealize.ShloMosaic.Pipeline (Dat)

variable (m : (ℓ : Loc nD τ sig) → Buf (Elt Ideal) ℓ)

theorem V_v0 (c : Dev nD) : V m c main_v0
    = (shapeCast S512x1024 (m ((c : Thread nD τ).loc main_arg0)) shapeCasts_S2x256x1024_S512x1024 : FVec Ideal S512x1024 .f32) := by
  entry_read; rfl

theorem V_v1 (c : Dev nD) : V m c main_v1
    = (shapeCast S512x1024 (m ((c : Thread nD τ).loc main_arg2)) shapeCasts_S2x256x1024_S512x1024 : FVec Ideal S512x1024 .f32) := by
  entry_read; rfl

theorem idx : ∀ t : Fin cfg0.N, win0_0.index t = ![0, 0] ∧ win0_1.index t = ![0, 0] :=
  (by decide +kernel : ∀ t : Fin grid0.N, _)

/-- After the launch the result array is the body's sum over its whole operands, started at zero. -/
theorem final (c : Dev nD) : (dats m 0 c).arrAt 3 (cfgs 0).N
    = k0_pay2 (F := Ideal) (shapeCast S512x1024 (m ((c : Thread nD τ).loc main_arg2)) shapeCasts_S2x256x1024_S512x1024 : FVec Ideal S512x1024 .f32)
      (shapeCast S512x1024 (m ((c : Thread nD τ).loc main_arg0)) shapeCasts_S2x256x1024_S512x1024 : FVec Ideal S512x1024 .f32)
       (k0_pay1 (F := Ideal)) := by
  refine (dats m 0 c).arrAt_eq_of_after_last 3 t0_0 (by decide +kernel) _ fun j => ?_
  blk_simp
  rw [after0_3]
  simp only [outsAt0]
  frame_out
  have h0 : iblk m c 0 t0_0 = V m c main_v1 := by blk_ext! [iblk, idx t0_0]
  have h1 : iblk m c 1 t0_0 = V m c main_v0 := by blk_ext! [iblk, idx t0_0]
  rw [h0, h1, V_v0, V_v1]

/-- The body's sum over 512 rows is the reference's sum over sequences and tokens. -/
theorem pay (X D : FVec Ideal S2x256x1024 .f32) :
    k0_pay2 (F := Ideal) (shapeCast S512x1024 D shapeCasts_S2x256x1024_S512x1024 : FVec Ideal S512x1024 .f32)
      (shapeCast S512x1024 X shapeCasts_S2x256x1024_S512x1024 : FVec Ideal S512x1024 .f32) (k0_pay1 (F := Ideal))
    = MemNormRefIdeal.Value.REF0 X D := by
  funext j
  pointwise [k0_pay2, k0_pay1, MemNormRefIdeal.Value.REF0]
  rw [Fin.sum_univ_tiles 2 256 rfl]
  simp only [Fin.sum_univ_one, Finset.univ_unique, Finset.sum_const, Finset.card_singleton, one_smul]
  refine Finset.sum_congr rfl fun b _ => Finset.sum_congr rfl fun t _ => ?_
  have hb : (⟨(b.val * 256 + t.val) / 256, by omega⟩ : Fin 2) = b := Fin.ext (by simp only; omega)
  have ht : (⟨(b.val * 256 + t.val) % 256, by omega⟩ : Fin 256) = t := Fin.ext (by simp only; omega)
  simp only [hb, ht]
  exact mul_comm _ _

end Cert.MemNormIdeal.Value
-- ==== Proof.MemNormClaims.lean ====
/- The claims about the backward pass of the memory's normalisation. -/
module

public import proofs.«01_k».proof.Defs
public import proofs.«01_k».proof.Proof.MemNormValue
public import proofs.«01_k».proof.Proof.Gen.MemNorm
public import proofs.«01_k».proof.Proof.Gen.MemNorm.Frame
public import Idealize.ShloMosaic.Lib.Claim
public import Idealize.ShloMosaic.Adequacy
public import Idealize.ShloMosaic.Init

@[expose] public section

noncomputable section

namespace Cert.Proof

open Idealize.ShloMosaic Idealize.SL.Sem

theorem memNorm_reference : Cert.quiescent_MemNormRefIdeal := fun m ρ _ =>
  (θ_run Cert.MemNormRefIdeal.defs _ _).mono (fun r h => ⟨fun c => (h c).2, sem_eq_zero_of_no_sems (by decide) r.2⟩)
    (Cert.MemNormRefIdeal.Value.run (F := Ideal) m ρ)

theorem memNorm_algebraic : Cert.algebraic_MemNormIdeal_MemNormRefIdeal := by
  pair_intro
  · run_from Cert.MemNormIdeal.Gen.run_main m g
  · run_from Cert.MemNormRefIdeal.Value.run m' g'
    exact ((Cert.MemNormIdeal.Value.final m c).trans (Cert.MemNormIdeal.Value.pay _ _)).symm

end Cert.Proof
-- ==== Proof.Reals.lean ====
module

public import Idealize.ShloMosaic.Lib.Pointwise

/-! Extended reals that are real numbers: sums, products, quotients and exponentials of real numbers, computed in the
extended reals, are the real ones. -/

@[expose] public section

namespace Cert.Reals

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- An extended real whose absolute value is below the infinite one is a real number. -/
theorem of_abs_lt {x : EReal} (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- A family of real numbers among the extended reals. -/
theorem choose {ι : Type*} {f : ι → EReal} (h : ∀ i, ∃ r : ℝ, f i = r) : ∃ g : ι → ℝ, f = fun i => (g i : EReal) := by
  choose g hg using h
  exact ⟨g, funext hg⟩

/-- The greatest of finitely many (at least one) real numbers is a real number. -/
theorem fold_max_coe {n : ℕ} (f : Fin (n + 1) → ℝ) :
    ∃ M : ℝ, Finset.fold max (⊥ : EReal) (fun i => (f i : EReal)) Finset.univ = M := by
  have key : ∀ s : Finset (Fin (n + 1)), (s = ∅ ∧ Finset.fold max (⊥ : EReal) (fun i => (f i : EReal)) s = ⊥)
      ∨ ∃ M : ℝ, Finset.fold max (⊥ : EReal) (fun i => (f i : EReal)) s = M := by
    intro s
    classical
    induction s using Finset.induction_on with
    | empty => exact Or.inl ⟨rfl, Finset.fold_empty⟩
    | insert a s ha ih =>
      refine Or.inr ?_
      rw [Finset.fold_insert ha]
      rcases ih with ⟨_, h⟩ | ⟨M, h⟩
      · exact ⟨f a, by rw [h, max_eq_left bot_le]⟩
      · exact ⟨max (f a) M, by rw [h, max_coe]⟩
  rcases key Finset.univ with ⟨h, _⟩ | h
  · exact absurd h (Finset.univ_nonempty.ne_empty)
  · exact h

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

theorem ofBits_eighth : Ideal.ofBits .f32 1040187392#32 = (((1 : ℝ) / 8 : ℝ) : EReal) := by
  simp [Ideal.ofBits, Ideal.ieee, -EReal.coe_mul]; norm_num

end Cert.Reals
-- ==== Proof.Softmax.lean ====
module

public import proofs.«01_k».proof.Proof.Reals

/-! The gradient of a row's normalised exponentials, over the extended reals: written with the quotients differentiated
one by one it is `p * (dp - sum of dp * p)`, wherever the row's scores and the cotangent are real numbers. -/

@[expose] public section

namespace Cert.Softmax

open Idealize.ShloMosaic Cert.Reals

/-- The row's greatest score. -/
noncomputable def smax {n : ℕ} (s : Fin n → EReal) : EReal :=
  Finset.fold max (Ideal.ofBits .f32 4286578688#32) s Finset.univ

/-- The exponential of a score less the row's greatest. -/
noncomputable def num {n : ℕ} (s : Fin n → EReal) (i : Fin n) : EReal := Ideal.exp (s i - smax s)

theorem num_of_bound {n : ℕ} {s : Fin n → EReal} {x : EReal} (hx : x = smax s) (i : Fin n) :
    Ideal.exp (s i - max (Ideal.ofBits .f32 4286578688#32) x) = num s i := by
  rw [ofBits_neg_inf, max_eq_right bot_le, hx, num]

/-- The row's probabilities. -/
noncomputable def prob {n : ℕ} (s : Fin n → EReal) (i : Fin n) : EReal := Ideal.div (num s i) (∑ x, num s x)

/-- The scores' cotangent before the scale. -/
noncomputable def dscore {n : ℕ} (s dp : Fin n → EReal) (i : Fin n) : EReal :=
  prob s i * (dp i - ∑ x, dp x * prob s x)

/-- The quotient rule's form of the scores' cotangent is the usual one: `e` the exponentials, `Z` what they are divided
by, `d` the probabilities' cotangent. -/
theorem quotient_rule {n : ℕ} (e d : Fin n → ℝ) {Z : ℝ} (hZ : Z ≠ 0) (i : Fin n) :
    (Ideal.div (d i : EReal) Z + -∑ x, (d x : EReal) * Ideal.div 1 ((Z : EReal) * Z) * e x) * e i
    = Ideal.div (e i : EReal) Z * (d i - ∑ x, (d x : EReal) * Ideal.div (e x : EReal) Z) := by
  have h1 : (1 : EReal) = ((1 : ℝ) : EReal) := rfl
  simp only [h1, ← EReal.coe_mul, div_coe_coe _ hZ, div_coe_coe _ (mul_ne_zero hZ hZ), coe_sum, ← EReal.coe_neg,
    ← EReal.coe_add, ← EReal.coe_sub]
  rw [EReal.coe_eq_coe_iff]
  have h2 : ∑ x, d x * (1 / (Z * Z)) * e x = (∑ x, d x * e x) / (Z * Z) := by
    rw [Finset.sum_div]; exact Finset.sum_congr rfl fun x _ => by field_simp
  have h3 : ∑ x, d x * (e x / Z) = (∑ x, d x * e x) / Z := by
    rw [Finset.sum_div]; exact Finset.sum_congr rfl fun x _ => by field_simp
  rw [h2, h3]
  field_simp
  ring

/-- A row of real scores has real exponentials with a positive sum. -/
theorem num_real {n : ℕ} (s : Fin (n + 1) → ℝ) : ∃ e : Fin (n + 1) → ℝ, (∀ i, 0 < e i)
    ∧ ∀ i, num (fun x => (s x : EReal)) i = e i := by
  obtain ⟨M, hM⟩ := fold_max_coe s
  refine ⟨fun i => Real.exp (s i - M), fun i => Real.exp_pos _, fun i => ?_⟩
  rw [num, smax, ofBits_neg_inf, hM, ← EReal.coe_sub, Ideal.exp_coe]

theorem dscore_eq {n : ℕ} {s dp : Fin (n + 1) → EReal} (hs : ∀ i, ∃ r : ℝ, s i = r) (hd : ∀ i, ∃ r : ℝ, dp i = r)
    (i : Fin (n + 1)) :
    (Ideal.div (dp i) (∑ x, num s x) + -∑ x, dp x * Ideal.div 1 ((∑ x, num s x) * ∑ x, num s x) * num s x) * num s i
    = dscore s dp i := by
  obtain ⟨s, rfl⟩ := choose hs
  obtain ⟨d, rfl⟩ := choose hd
  obtain ⟨e, he, hn⟩ := num_real s
  simp only [dscore, prob, hn, coe_sum]
  exact quotient_rule e d (Finset.sum_pos (fun i _ => he i) Finset.univ_nonempty).ne' i

end Cert.Softmax
-- ==== Proof.MemAttnBlock.lean ====
module

public import proofs.«01_k».proof.Proof.Gen.MemAttnIdeal.Value
public import Idealize.ShloMosaic.Lib.Pipeline.ValueKit
public import Idealize.ShloMosaic.Lib.Pointwise
public import proofs.«01_k».proof.Proof.Softmax

/-! What one block of the memory attention's gradient computes: per head the row's probabilities, the scores' cotangent
and its products with keys and queries. -/

@[expose] public section

set_option maxRecDepth 16384

noncomputable section

namespace Cert.MemAttnIdeal.Value

open Cert.Softmax Cert.MemAttnIdeal Cert.MemAttnIdeal.Gen Idealize.ShloMosaic Idealize.ShloMosaic.TcCoe Idealize.SL.Sem
open Idealize.ShloMosaic.Pipeline (Dat)

/-- The scale of the scores. -/
abbrev C : EReal := Ideal.ofBits .f32 1040187392#32

/-- A row of one head's scores. -/
def hs (q : FVec Ideal S512x64 .f32) (k : FVec Ideal S256x64 .f32) (r : Fin 512) (j : Fin 256) : EReal :=
  (∑ d : Fin 64, q (ix2 r d) * k (ix2 j d)) * C

/-- A row of one head's cotangent of the probabilities. -/
def hdp (o : FVec Ideal S512x64 .bf16) (v : FVec Ideal S256x64 .f32) (r : Fin 512) (j : Fin 256) : EReal :=
  ∑ d : Fin 64, o (ix2 r d) * v (ix2 j d)

variable (q : FVec Ideal S512x64 .f32) (k v : FVec Ideal S256x64 .f32) (o : FVec Ideal S512x64 .bf16) (r : Fin 512) (j : Fin 256)

theorem P16 : k0_pay16 (F := Ideal) (k0_pay14 q k) (k0_pay15 q k) (ix2 r j) = prob (hs q k r) j := by
  unfold hs; pointwise [k0_pay16, k0_pay14, k0_pay15, k0_pay6, k0_pay10]; simp only [prob, num, smax]
theorem P17 : k0_pay17 (F := Ideal) (k0_pay7 q) (k0_pay11 k) (ix2 r j) = prob (hs q k r) j := by
  unfold hs; pointwise [k0_pay17, k0_pay7, k0_pay11]; simp only [prob, num, smax]
theorem P18 : k0_pay18 (F := Ideal) (k0_pay8 q) (k0_pay12 k) (ix2 r j) = prob (hs q k r) j := by
  unfold hs; pointwise [k0_pay18, k0_pay8, k0_pay12]; simp only [prob, num, smax]
theorem P19 : k0_pay19 (F := Ideal) (k0_pay9 q) (k0_pay13 k) (ix2 r j) = prob (hs q k r) j := by
  unfold hs; pointwise [k0_pay19, k0_pay9, k0_pay13]; simp only [prob, num, smax]

theorem D21 : k0_pay21 (F := Ideal) o (k0_pay16 (k0_pay14 q k) (k0_pay15 q k)) (k0_pay20 v) (ix2 r j) = dscore (hs q k r) (hdp o v r) j * C := by
  unfold dscore hdp; pointwise [k0_pay21, k0_pay20]; simp only [P16]
theorem D22 : k0_pay22 (F := Ideal) o (k0_pay17 (k0_pay7 q) (k0_pay11 k)) v (ix2 r j) = dscore (hs q k r) (hdp o v r) j * C := by
  unfold dscore hdp; pointwise [k0_pay22]; simp only [P17]
theorem D23 : k0_pay23 (F := Ideal) o (k0_pay18 (k0_pay8 q) (k0_pay12 k)) v (ix2 r j) = dscore (hs q k r) (hdp o v r) j * C := by
  unfold dscore hdp; pointwise [k0_pay23]; simp only [P18]
theorem D24 : k0_pay1 (F := Ideal) (k0_pay24 (F := Ideal) o (k0_pay19 (k0_pay9 q) (k0_pay13 k)) v) (ix2 r j) = dscore (hs q k r) (hdp o v r) j * C := by
  unfold dscore hdp; pointwise [k0_pay1, k0_pay24]; simp only [P19]

variable (Bq : FVec Ideal S512x256 .f32) (Bm : FVec Ideal S256x512 .f32) (Bo : FVec Ideal S512x256 .bf16)

/-- A block's scores of head `h`. -/
def bs (h : Fin 4) (r : Fin 512) (j : Fin 256) : EReal :=
  (∑ d : Fin 64, Bq (ix2 r ⟨h.val * 64 + d.val, by omega⟩) * Bm (ix2 j ⟨h.val * 64 + d.val, by omega⟩)) * C

/-- A block's cotangent of the probabilities of head `h`. -/
def bdp (h : Fin 4) (r : Fin 512) (j : Fin 256) : EReal :=
  ∑ d : Fin 64, Bo (ix2 r ⟨h.val * 64 + d.val, by omega⟩) * Bm (ix2 j ⟨256 + (h.val * 64 + d.val), by omega⟩)

/-- A block's cotangent of the scores of head `h`. -/
def bds (h : Fin 4) (r : Fin 512) (j : Fin 256) : EReal := dscore (bs Bq Bm h r) (bdp Bm Bo h r) j * C

/-- The 64 lanes of the queries from `a` on. -/
abbrev lq (B : FVec Ideal S512x256 .f32) (a : Nat) (i : ∀ b, ![0, a] b + ![512, 64] b ≤ S512x256.size b) : FVec Ideal S512x64 .f32 :=
  View.ld (Val := Elt Ideal) (e' := .f32) B (Rect.unit ![0, a] ![512, 64] i)
/-- The 64 lanes of the output's cotangent from `a` on. -/
abbrev lo (B : FVec Ideal S512x256 .bf16) (a : Nat) (i : ∀ b, ![0, a] b + ![512, 64] b ≤ S512x256.size b) : FVec Ideal S512x64 .bf16 :=
  View.ld (Val := Elt Ideal) (e' := .bf16) B (Rect.unit ![0, a] ![512, 64] i)
/-- The 64 lanes of the memory from `a` on. -/
abbrev lm (B : FVec Ideal S256x512 .f32) (a : Nat) (i : ∀ b, ![0, a] b + ![256, 64] b ≤ S256x512.size b) : FVec Ideal S256x64 .f32 :=
  View.ld (Val := Elt Ideal) (e' := .f32) B (Rect.unit ![0, a] ![256, 64] i)

theorem lq_apply (B : FVec Ideal S512x256 .f32) (a : Nat) (i) (r : Fin 512) (d : Fin 64) :
    lq B a i (ix2 r d) = B (ix2 r ⟨a + d.val, by have h : a + 64 ≤ 256 := i 1; omega⟩) := by
  refine congrArg B (funext fun b => Fin.ext ?_)
  match b with
  | ⟨0, _⟩ => simp [Rect.unit]
  | ⟨1, _⟩ => simp [Rect.unit]
theorem lo_apply (B : FVec Ideal S512x256 .bf16) (a : Nat) (i) (r : Fin 512) (d : Fin 64) :
    lo B a i (ix2 r d) = B (ix2 r ⟨a + d.val, by have h : a + 64 ≤ 256 := i 1; omega⟩) := by
  refine congrArg B (funext fun b => Fin.ext ?_)
  match b with
  | ⟨0, _⟩ => simp [Rect.unit]
  | ⟨1, _⟩ => simp [Rect.unit]
theorem lm_apply (B : FVec Ideal S256x512 .f32) (a : Nat) (i) (r : Fin 256) (d : Fin 64) :
    lm B a i (ix2 r d) = B (ix2 r ⟨a + d.val, by have h : a + 64 ≤ 512 := i 1; omega⟩) := by
  refine congrArg B (funext fun b => Fin.ext ?_)
  match b with
  | ⟨0, _⟩ => simp [Rect.unit]
  | ⟨1, _⟩ => simp [Rect.unit]

theorem hs_lanes (h : Fin 4) (a : Nat) (e : a = h.val * 64) (i i') (r : Fin 512) : hs (lq Bq a i) (lm Bm a i') r = bs Bq Bm h r := by
  subst e
  exact funext fun j => congrArg (· * C) (Finset.sum_congr rfl fun d _ => congrArg₂ _ (lq_apply ..) (lm_apply ..))
theorem hdp_lanes (h : Fin 4) (a a' : Nat) (e : a = h.val * 64) (e' : a' = 256 + h.val * 64) (i i') (r : Fin 512) :
    hdp (lo Bo a i) (lm Bm a' i') r = bdp Bm Bo h r := by
  subst e e'
  refine funext fun j => Finset.sum_congr rfl fun d _ => congrArg₂ _ (lo_apply ..) ((lm_apply ..).trans ?_)
  simp only [Nat.add_assoc]

theorem ds_lanes (h : Fin 4) (a a' : Nat) (e : a = h.val * 64) (e' : a' = 256 + h.val * 64) {i i1 i2 i3} {r : Fin 512} {j : Fin 256} {x : EReal}
    (hx : x = dscore (hs (lq Bq a i) (lm Bm a i1) r) (hdp (lo Bo a i2) (lm Bm a' i3) r) j * C) : x = bds Bq Bm Bo h r j := by
  rw [hx, hs_lanes Bq Bm h a e, hdp_lanes Bm Bo h a a' e e', bds]
theorem p_lanes (h : Fin 4) (a : Nat) (e : a = h.val * 64) {i i'} {r : Fin 512} {j : Fin 256} {x : EReal}
    (hx : x = prob (hs (lq Bq a i) (lm Bm a i') r) j) : x = prob (bs Bq Bm h r) j := by
  rw [hx, hs_lanes Bq Bm h a e]

/-- The block's store into the queries' cotangent. -/
abbrev BLK3 : FVec Ideal S512x256 .bf16 :=
  k0_pay3 (k0_pay10 (lm Bm 0 inb_S256x512_S256x64_0_0)) (k0_pay11 (lm Bm 64 inb_S256x512_S256x64_0_64))
    (k0_pay12 (lm Bm 128 inb_S256x512_S256x64_0_128)) (k0_pay13 (lm Bm 192 inb_S256x512_S256x64_0_192))
    (k0_pay21 (lo Bo 0 inb_S512x256_S512x64_0_0) (k0_pay16 (k0_pay14 (lq Bq 0 inb_S512x256_S512x64_0_0) (lm Bm 0 inb_S256x512_S256x64_0_0))
      (k0_pay15 (lq Bq 0 inb_S512x256_S512x64_0_0) (lm Bm 0 inb_S256x512_S256x64_0_0))) (k0_pay20 (lm Bm 256 inb_S256x512_S256x64_0_256)))
    (k0_pay22 (lo Bo 64 inb_S512x256_S512x64_0_64) (k0_pay17 (k0_pay7 (lq Bq 64 inb_S512x256_S512x64_0_64)) (k0_pay11 (lm Bm 64 inb_S256x512_S256x64_0_64)))
      (lm Bm 320 inb_S256x512_S256x64_0_320))
    (k0_pay23 (lo Bo 128 inb_S512x256_S512x64_0_128) (k0_pay18 (k0_pay8 (lq Bq 128 inb_S512x256_S512x64_0_128)) (k0_pay12 (lm Bm 128 inb_S256x512_S256x64_0_128)))
      (lm Bm 384 inb_S256x512_S256x64_0_384))
    (k0_pay1 (k0_pay24 (lo Bo 192 inb_S512x256_S512x64_0_192) (k0_pay19 (k0_pay9 (lq Bq 192 inb_S512x256_S512x64_0_192)) (k0_pay13 (lm Bm 192 inb_S256x512_S256x64_0_192)))
      (lm Bm 448 inb_S256x512_S256x64_0_448)))

/-- The block's store into the memory's cotangent over what stands there. -/
abbrev BLK4 (acc : FVec Ideal S256x512 .f32) : FVec Ideal S256x512 .f32 :=
  k0_pay4 (k0_pay6 (lq Bq 0 inb_S512x256_S512x64_0_0)) (k0_pay7 (lq Bq 64 inb_S512x256_S512x64_0_64))
    (k0_pay8 (lq Bq 128 inb_S512x256_S512x64_0_128)) (k0_pay9 (lq Bq 192 inb_S512x256_S512x64_0_192))
    (lo Bo 64 inb_S512x256_S512x64_0_64) (lo Bo 128 inb_S512x256_S512x64_0_128) (lo Bo 192 inb_S512x256_S512x64_0_192)
    (k0_pay17 (k0_pay7 (lq Bq 64 inb_S512x256_S512x64_0_64)) (k0_pay11 (lm Bm 64 inb_S256x512_S256x64_0_64)))
    (k0_pay18 (k0_pay8 (lq Bq 128 inb_S512x256_S512x64_0_128)) (k0_pay12 (lm Bm 128 inb_S256x512_S256x64_0_128)))
    (k0_pay19 (k0_pay9 (lq Bq 192 inb_S512x256_S512x64_0_192)) (k0_pay13 (lm Bm 192 inb_S256x512_S256x64_0_192)))
    (k0_pay21 (lo Bo 0 inb_S512x256_S512x64_0_0) (k0_pay16 (k0_pay14 (lq Bq 0 inb_S512x256_S512x64_0_0) (lm Bm 0 inb_S256x512_S256x64_0_0))
      (k0_pay15 (lq Bq 0 inb_S512x256_S512x64_0_0) (lm Bm 0 inb_S256x512_S256x64_0_0))) (k0_pay20 (lm Bm 256 inb_S256x512_S256x64_0_256)))
    (k0_pay22 (lo Bo 64 inb_S512x256_S512x64_0_64) (k0_pay17 (k0_pay7 (lq Bq 64 inb_S512x256_S512x64_0_64)) (k0_pay11 (lm Bm 64 inb_S256x512_S256x64_0_64)))
      (lm Bm 320 inb_S256x512_S256x64_0_320))
    (k0_pay23 (lo Bo 128 inb_S512x256_S512x64_0_128) (k0_pay18 (k0_pay8 (lq Bq 128 inb_S512x256_S512x64_0_128)) (k0_pay12 (lm Bm 128 inb_S256x512_S256x64_0_128)))
      (lm Bm 384 inb_S256x512_S256x64_0_384))
    (k0_pay1 (k0_pay24 (lo Bo 192 inb_S512x256_S512x64_0_192) (k0_pay19 (k0_pay9 (lq Bq 192 inb_S512x256_S512x64_0_192)) (k0_pay13 (lm Bm 192 inb_S256x512_S256x64_0_192)))
      (lm Bm 448 inb_S256x512_S256x64_0_448)))
    (k0_pay2 (lo Bo 0 inb_S512x256_S512x64_0_0) (k0_pay16 (k0_pay14 (lq Bq 0 inb_S512x256_S512x64_0_0) (lm Bm 0 inb_S256x512_S256x64_0_0))
      (k0_pay15 (lq Bq 0 inb_S512x256_S512x64_0_0) (lm Bm 0 inb_S256x512_S256x64_0_0))))
    acc

/-- The store joins the four heads' products along the lanes. -/
theorem pay3 (k1 k2 k3 k4 : FVec Ideal S256x64 .bf16) (d1 d2 d3 d4 : FVec Ideal S512x256 .bf16) (r : Fin 512) (h : Fin 4) (d : Fin 64) :
    k0_pay3 (F := Ideal) k1 k2 k3 k4 d1 d2 d3 d4 (ix2 r ⟨h.val * 64 + d.val, by omega⟩)
    = ∑ j : Fin 256, (![d1, d2, d3, d4] h) (ix2 r j) * (![k1, k2, k3, k4] h) (ix2 j d) := by
  have hd := d.isLt
  pointwise [k0_pay3]
  match h with
  | 0 => simp
  | 1 => simp
  | 2 => simp [show ¬ 128 + d.val < 64 by omega, show ¬ 128 + d.val - 64 < 64 by omega, show 128 + d.val - 64 - 64 = d.val by omega]
  | 3 => simp [show ¬ 192 + d.val < 64 by omega, show ¬ 192 + d.val - 64 < 64 by omega, show ¬ 192 + d.val - 64 - 64 < 64 by omega, show 192 + d.val - 64 - 64 - 64 = d.val by omega]

/-- The memory's cotangent joins the heads' keys, then their values. -/
theorem pay4_keys (q1 q2 q3 q4 : FVec Ideal S512x64 .bf16) (o2 o3 o4 : FVec Ideal S512x64 .bf16) (p2 p3 p4 : FVec Ideal S512x256 .f32)
    (d1 d2 d3 d4 : FVec Ideal S512x256 .bf16) (v1 : FVec Ideal S256x64 .f32) (acc : FVec Ideal S256x512 .f32) (j : Fin 256) (h : Fin 4) (d : Fin 64) :
    k0_pay4 (F := Ideal) q1 q2 q3 q4 o2 o3 o4 p2 p3 p4 d1 d2 d3 d4 v1 acc (ix2 j ⟨h.val * 64 + d.val, by omega⟩)
    = acc (ix2 j ⟨h.val * 64 + d.val, by omega⟩)
      + ∑ r : Fin 512, (![d1, d2, d3, d4] h) (ix2 r j) * (![q1, q2, q3, q4] h) (ix2 r d) := by
  have hd := d.isLt
  pointwise [k0_pay4]
  congr 1
  match h with
  | 0 => simp
  | 1 => simp
  | 2 => simp [show ¬ 128 + d.val < 64 by omega, show ¬ 128 + d.val - 64 < 64 by omega, show 128 + d.val - 64 - 64 = d.val by omega]
  | 3 => simp [show ¬ 192 + d.val < 64 by omega, show ¬ 192 + d.val - 64 < 64 by omega, show ¬ 192 + d.val - 64 - 64 < 64 by omega, show 192 + d.val - 64 - 64 - 64 = d.val by omega]

theorem pay4_values (q1 q2 q3 q4 : FVec Ideal S512x64 .bf16) (o1 o2 o3 o4 : FVec Ideal S512x64 .bf16) (p1 p2 p3 p4 : FVec Ideal S512x256 .f32)
    (d1 d2 d3 d4 : FVec Ideal S512x256 .bf16) (acc : FVec Ideal S256x512 .f32) (j : Fin 256) (h : Fin 4) (d : Fin 64) :
    k0_pay4 (F := Ideal) q1 q2 q3 q4 o2 o3 o4 p2 p3 p4 d1 d2 d3 d4 (k0_pay2 o1 p1) acc (ix2 j ⟨256 + (h.val * 64 + d.val), by omega⟩)
    = acc (ix2 j ⟨256 + (h.val * 64 + d.val), by omega⟩)
      + ∑ r : Fin 512, (![p1, p2, p3, p4] h) (ix2 r j) * (![o1, o2, o3, o4] h) (ix2 r d) := by
  have hd := d.isLt
  pointwise [k0_pay4, k0_pay2]
  congr 1
  simp only [show ∀ x, ¬ 256 + x < 64 by omega, show ∀ x, ¬ 256 + x - 64 < 64 by omega, show ∀ x, ¬ 256 + x - 64 - 64 < 64 by omega,
    show ∀ x, ¬ 256 + x - 64 - 64 - 64 < 64 by omega, show ∀ x, 256 + x - 64 - 64 - 64 - 64 = x by omega, dif_neg, not_false_eq_true]
  match h with
  | 0 => simp
  | 1 => simp
  | 2 => simp [show ¬ 128 + d.val < 64 by omega, show ¬ 128 + d.val - 64 < 64 by omega, show 128 + d.val - 64 - 64 = d.val by omega]
  | 3 => simp [show ¬ 192 + d.val < 64 by omega, show ¬ 192 + d.val - 64 < 64 by omega, show ¬ 192 + d.val - 64 - 64 < 64 by omega, show 192 + d.val - 64 - 64 - 64 = d.val by omega]

/-- A rounding of loaded lanes changes nothing over the reals. -/
theorem BLK3_apply (r : Fin 512) (h : Fin 4) (d : Fin 64) : BLK3 Bq Bm Bo (ix2 r ⟨h.val * 64 + d.val, by omega⟩)
    = ∑ j : Fin 256, bds Bq Bm Bo h r j * Bm (ix2 j ⟨h.val * 64 + d.val, by omega⟩) := by
  refine (pay3 ..).trans (Finset.sum_congr rfl fun j _ => ?_)
  match h with
  | 0 => exact congrArg₂ _ (ds_lanes _ _ _ 0 0 256 rfl rfl (D21 ..)) (lm_apply ..)
  | 1 => exact congrArg₂ _ (ds_lanes _ _ _ 1 64 320 rfl rfl (D22 ..)) (lm_apply ..)
  | 2 => exact congrArg₂ _ (ds_lanes _ _ _ 2 128 384 rfl rfl (D23 ..)) (lm_apply ..)
  | 3 => exact congrArg₂ _ (ds_lanes _ _ _ 3 192 448 rfl rfl (D24 ..)) (lm_apply ..)

theorem BLK4_keys (acc) (j : Fin 256) (h : Fin 4) (d : Fin 64) : BLK4 Bq Bm Bo acc (ix2 j ⟨h.val * 64 + d.val, by omega⟩)
    = acc (ix2 j ⟨h.val * 64 + d.val, by omega⟩)
      + ∑ r : Fin 512, bds Bq Bm Bo h r j * Bq (ix2 r ⟨h.val * 64 + d.val, by omega⟩) := by
  refine (pay4_keys ..).trans (congrArg _ (Finset.sum_congr rfl fun r _ => ?_))
  match h with
  | 0 => exact congrArg₂ _ (ds_lanes _ _ _ 0 0 256 rfl rfl (D21 ..)) (lq_apply ..)
  | 1 => exact congrArg₂ _ (ds_lanes _ _ _ 1 64 320 rfl rfl (D22 ..)) (lq_apply ..)
  | 2 => exact congrArg₂ _ (ds_lanes _ _ _ 2 128 384 rfl rfl (D23 ..)) (lq_apply ..)
  | 3 => exact congrArg₂ _ (ds_lanes _ _ _ 3 192 448 rfl rfl (D24 ..)) (lq_apply ..)

theorem BLK4_values (acc) (j : Fin 256) (h : Fin 4) (d : Fin 64) : BLK4 Bq Bm Bo acc (ix2 j ⟨256 + (h.val * 64 + d.val), by omega⟩)
    = acc (ix2 j ⟨256 + (h.val * 64 + d.val), by omega⟩)
      + ∑ r : Fin 512, prob (bs Bq Bm h r) j * Bo (ix2 r ⟨h.val * 64 + d.val, by omega⟩) := by
  refine (pay4_values ..).trans (congrArg _ (Finset.sum_congr rfl fun r _ => ?_))
  match h with
  | 0 => exact congrArg₂ _ (p_lanes _ _ 0 0 rfl (P16 ..)) (lo_apply ..)
  | 1 => exact congrArg₂ _ (p_lanes _ _ 1 64 rfl (P17 ..)) (lo_apply ..)
  | 2 => exact congrArg₂ _ (p_lanes _ _ 2 128 rfl (P18 ..)) (lo_apply ..)
  | 3 => exact congrArg₂ _ (p_lanes _ _ 3 192 rfl (P19 ..)) (lo_apply ..)

end Cert.MemAttnIdeal.Value
-- ==== Proof.MemAttnRef.lean ====
module

public import proofs.«01_k».proof.Proof.Gen.MemAttnRefIdeal.Run
public import Idealize.ShloMosaic.Lib.Pointwise
public import proofs.«01_k».proof.Proof.Softmax

/-! The reference of the memory attention's gradient, array by array. -/

@[expose] public section

set_option maxRecDepth 16384

noncomputable section

namespace Cert.MemAttnRefIdeal.Value

open Cert.Softmax Cert.MemAttnRefIdeal Cert.MemAttnRefIdeal.Gen Idealize.ShloMosaic Idealize.ShloMosaic.TcCoe Idealize.SL.Sem

/-- The queries by batch, token, head and lane. -/
def QR (A0 : FVec Ideal S4096x1024 .f32) : FVec Ideal S2x2048x4x64 .f32 :=
  shapeCast _ (shapeCast S2x2048x256 (extractStridedSlice S4096x256 ![0, 768] A0 slices_S4096x1024_S4096x256_0_768) shapeCasts_S4096x256_S2x2048x256) shapeCasts_S2x2048x256_S2x2048x4x64

/-- The memory's keys by batch, slot, head and lane. -/
def KR (A1 : FVec Ideal S512x512 .f32) : FVec Ideal S2x256x4x64 .f32 :=
  shapeCast _ (extractStridedSlice S2x256x1x4x64 ![0, 0, 0, 0, 0] (shapeCast _ A1 shapeCasts_S512x512_S2x256x2x4x64) slices_S2x256x2x4x64_S2x256x1x4x64_0_0_0_0_0) shapeCasts_S2x256x1x4x64_S2x256x4x64

/-- The memory's values by batch, slot, head and lane. -/
def VR (A1 : FVec Ideal S512x512 .f32) : FVec Ideal S2x256x4x64 .f32 :=
  shapeCast _ (extractStridedSlice S2x256x1x4x64 ![0, 0, 1, 0, 0] (shapeCast _ A1 shapeCasts_S512x512_S2x256x2x4x64) slices_S2x256x2x4x64_S2x256x1x4x64_0_0_1_0_0) shapeCasts_S2x256x1x4x64_S2x256x4x64

/-- The output's cotangent by batch, head, lane and token. -/
def DOR (A2 : FVec Ideal S4096x1024 .bf16) : FVec Ideal S2x4x64x2048 .f32 :=
  transpose S2x4x64x2048 [0, 2, 3, 1] (shapeCast S2x2048x4x64 (shapeCast S2x2048x256 (extf .f32 (extractStridedSlice S4096x256 ![0, 768] A2 slices_S4096x1024_S4096x256_0_768) bitsLt_bf16_f32) shapeCasts_S4096x256_S2x2048x256) shapeCasts_S2x2048x256_S2x2048x4x64) transposes_S2x2048x4x64_S2x4x64x2048_0_2_3_1

/-- The scores: the scaled products of queries and keys. -/
def SR (A0 : FVec Ideal S4096x1024 .f32) (A1 : FVec Ideal S512x512 .f32) : FVec Ideal S2x4x2048x256 .f32 :=
  mulf (Host.dotGeneral dot_S2x2048x4x64_S2x256x4x64_S2x4x2048x256_3_3_1_1_02_02 none (QR A0) (KR A1)) (broadcastInDim S2x4x2048x256 ![] bcast_S_S2x4x2048x256 (constant S_ .f32 0x3E000000#32))

/-- The probabilities' cotangent. -/
def DPR (A2 : FVec Ideal S4096x1024 .bf16) (A1 : FVec Ideal S512x512 .f32) : FVec Ideal S2x4x2048x256 .f32 :=
  Host.dotGeneral dot_S2x4x64x2048_S2x256x4x64_S2x4x2048x256_2_3_3_1_01_02 none (DOR A2) (VR A1)

/-- The rows' greatest scores. -/
def MR (s : FVec Ideal S2x4x2048x256 .f32) : FVec Ideal S2x4x2048 .f32 :=
  Host.reduce FloatOps.maximumf s (constant S_ .f32 0xFF800000#32) reducesTo_S2x4x2048x256_S2x4x2048_d3 h_S_

/-- The exponentials of the scores less a bound on each row. -/
def EMR (s : FVec Ideal S2x4x2048x256 .f32) (M : FVec Ideal S2x4x2048 .f32) : FVec Ideal S2x4x2048x256 .f32 :=
  Host.exp (subf s (broadcastInDim S2x4x2048x256 ![0, 1, 2, 3] bcast_S2x4x2048x1_S2x4x2048x256_0_1_2_3 (broadcastInDim S2x4x2048x1 ![0, 1, 2] bcast_S2x4x2048_S2x4x2048x1_0_1_2 (maximumf (broadcastInDim S2x4x2048 ![] bcast_S_S2x4x2048 (constant S_ .f32 0xFF800000#32)) M))))

/-- The exponentials of the scores less their row's greatest. -/
def ER (s : FVec Ideal S2x4x2048x256 .f32) : FVec Ideal S2x4x2048x256 .f32 := EMR s (MR s)

/-- The rows' sums of exponentials. -/
def ZR (e : FVec Ideal S2x4x2048x256 .f32) : FVec Ideal S2x4x2048x1 .f32 :=
  broadcastInDim S2x4x2048x1 ![0, 1, 2] bcast_S2x4x2048_S2x4x2048x1_0_1_2 (Host.reduceAdd e (constant S_ .f32 0x00000000#32) reducesTo_S2x4x2048x256_S2x4x2048_d3 h_S_)

/-- The probabilities. -/
def PR (e : FVec Ideal S2x4x2048x256 .f32) : FVec Ideal S2x4x2048x256 .f32 :=
  Host.divf e (broadcastInDim S2x4x2048x256 ![0, 1, 2, 3] bcast_S2x4x2048x1_S2x4x2048x256_0_1_2_3 (ZR e))

/-- The scores' cotangent, of the exponentials and the probabilities' cotangent. -/
def DSR (e dp : FVec Ideal S2x4x2048x256 .f32) : FVec Ideal S2x4x2048x256 .f32 :=
  mulf (mulf (addf (Host.divf dp (broadcastInDim S2x4x2048x256 ![0, 1, 2, 3] bcast_S2x4x2048x1_S2x4x2048x256_0_1_2_3 (ZR e))) (broadcastInDim S2x4x2048x256 ![0, 1, 2] bcast_S2x4x2048_S2x4x2048x256_0_1_2 (Host.reduceAdd (Host.negf (shapeCast _ (Host.reduceAdd (mulf (mulf dp (broadcastInDim S2x4x2048x256 ![0, 1, 2, 3] bcast_S2x4x2048x1_S2x4x2048x256_0_1_2_3 (Host.divf (broadcastInDim S2x4x2048x1 ![] bcast_S_S2x4x2048x1 (constant S_ .f32 0x3F800000#32)) (mulf (ZR e) (ZR e))))) e) (constant S_ .f32 0x00000000#32) reducesTo_S2x4x2048x256_S2x4x2048_d3 h_S_) shapeCasts_S2x4x2048_S2x4x2048x1)) (constant S_ .f32 0x00000000#32) reducesTo_S2x4x2048x1_S2x4x2048_d3 h_S_))) e) (broadcastInDim S2x4x2048x256 ![] bcast_S_S2x4x2048x256 (constant S_ .f32 0x3E000000#32))

/-- The queries' cotangent, of the scores' and the keys. -/
def DQR (ds : FVec Ideal S2x4x2048x256 .f32) (k : FVec Ideal S2x256x4x64 .f32) : FVec Ideal S4096x256 .f32 :=
  shapeCast _ (shapeCast S2x2048x256 (transpose S2x2048x4x64 [0, 2, 1, 3] (Host.dotGeneral dot_S2x4x2048x256_S2x256x4x64_S2x4x2048x64_3_1_2_3_01_02 none ds k) transposes_S2x4x2048x64_S2x2048x4x64_0_2_1_3) shapeCasts_S2x2048x4x64_S2x2048x256) shapeCasts_S2x2048x256_S4096x256

/-- The memory's cotangent, of the probabilities, the scores' cotangent, the queries and the output's cotangent. -/
def DKVR (p ds : FVec Ideal S2x4x2048x256 .f32) (q : FVec Ideal S2x2048x4x64 .f32) (d : FVec Ideal S2x4x64x2048 .f32) : FVec Ideal S512x512 .f32 :=
  shapeCast _ (addf (pad S2x256x2x4x64 ![0, 0, 1, 0, 0] ![0, 0, 0, 0, 0] ![0, 0, 0, 0, 0] (broadcastInDim S2x256x1x4x64 ![0, 1, 3, 4] bcast_S2x256x4x64_S2x256x1x4x64_0_1_3_4 (transpose S2x256x4x64 [0, 3, 1, 2] (Host.dotGeneral dot_S2x4x64x2048_S2x4x2048x256_S2x4x64x256_3_2_2_3_01_01 none d p) transposes_S2x4x64x256_S2x256x4x64_0_3_1_2)) (constant S_ .f32 0x00000000#32) pads_S2x256x1x4x64_S2x256x2x4x64_000_000_100_000_000 h_S_) (pad S2x256x2x4x64 ![0, 0, 0, 0, 0] ![0, 0, 1, 0, 0] ![0, 0, 0, 0, 0] (broadcastInDim S2x256x1x4x64 ![0, 1, 3, 4] bcast_S2x256x4x64_S2x256x1x4x64_0_1_3_4 (transpose S2x256x4x64 [0, 2, 1, 3] (Host.dotGeneral dot_S2x4x2048x256_S2x2048x4x64_S2x4x256x64_2_1_3_3_01_02 none ds q) transposes_S2x4x256x64_S2x256x4x64_0_2_1_3)) (constant S_ .f32 0x00000000#32) pads_S2x256x1x4x64_S2x256x2x4x64_000_000_010_000_000 h_S_)) shapeCasts_S2x256x2x4x64_S512x512

variable (m : (ℓ : Loc nD τ sig) → Buf (Elt Ideal) ℓ) (c : Dev nD)

/-- The reference's result 1, of its arguments. -/
theorem res1 : res_main_v74 m c = DKVR (PR (ER (SR (m ((c : Thread nD τ).loc main_arg0)) (m ((c : Thread nD τ).loc main_arg1)))))
    (DSR (ER (SR (m ((c : Thread nD τ).loc main_arg0)) (m ((c : Thread nD τ).loc main_arg1)))) (DPR (m ((c : Thread nD τ).loc main_arg2)) (m ((c : Thread nD τ).loc main_arg1))))
    (QR (m ((c : Thread nD τ).loc main_arg0))) (DOR (m ((c : Thread nD τ).loc main_arg2))) := by
  rfl

/-- The reference's result 0, of its arguments. -/
theorem res0 : res_main_v78 m c = concatenate S4096x1024 1 [⟨S4096x768, (extractStridedSlice S4096x768 ![0, 0] (m ((c : Thread nD τ).loc main_arg3)) slices_S4096x1024_S4096x768_0_0)⟩,
    ⟨S4096x256, (truncf .bf16 (DQR
      (DSR (ER (SR (m ((c : Thread nD τ).loc main_arg0)) (m ((c : Thread nD τ).loc main_arg1)))) (DPR (m ((c : Thread nD τ).loc main_arg2)) (m ((c : Thread nD τ).loc main_arg1))))
      (KR (m ((c : Thread nD τ).loc main_arg1)))) bitsLt_bf16_f32)⟩] concatenates_S4096x768_S4096x256_S4096x1024_d1 := by
  rfl

/-- A score, of the arguments. -/
theorem SR_apply (A0 A1) (b : Fin 2) (h : Fin 4) (t : Fin 2048) (j : Fin 256) : SR A0 A1 (ix4 b h t j)
    = (∑ x : Fin 64, A0 (ix2 ⟨b.val * 2048 + t.val, by omega⟩ ⟨768 + (h.val * 64 + x.val), by omega⟩)
        * A1 (ix2 ⟨b.val * 256 + j.val, by omega⟩ ⟨h.val * 64 + x.val, by omega⟩)) * Ideal.ofBits .f32 1040187392#32 := by
  pointwise [SR, QR, KR]

/-- A probability's cotangent, of the arguments. -/
theorem DPR_apply (A2 A1) (b : Fin 2) (h : Fin 4) (t : Fin 2048) (j : Fin 256) : DPR A2 A1 (ix4 b h t j)
    = ∑ x : Fin 64, A2 (ix2 ⟨b.val * 2048 + t.val, by omega⟩ ⟨768 + (h.val * 64 + x.val), by omega⟩)
        * A1 (ix2 ⟨b.val * 256 + j.val, by omega⟩ ⟨256 + (h.val * 64 + x.val), by omega⟩) := by
  pointwise [DPR, DOR, VR]
  simp only [Nat.add_assoc]

/-- A row's greatest score. -/
theorem MR_apply (s : FVec Ideal S2x4x2048x256 .f32) (b : Fin 2) (h : Fin 4) (t : Fin 2048) :
    MR s (ix3 b h t) = smax fun x => s (ix4 b h t x) := by
  unfold MR
  simp only [pointwise]
  rfl

theorem EMR_apply (s : FVec Ideal S2x4x2048x256 .f32) (M : FVec Ideal S2x4x2048 .f32) (j) :
    EMR s M j = Ideal.exp (s j - max (Ideal.ofBits .f32 0xFF800000#32) (M (ix3 (j 0) (j 1) (j 2)))) := by
  pointwise [EMR]

/-- The exponentials of a row. -/
theorem ER_apply (s : FVec Ideal S2x4x2048x256 .f32) (b : Fin 2) (h : Fin 4) (t : Fin 2048) (j : Fin 256) :
    ER s (ix4 b h t j) = num (fun x => s (ix4 b h t x)) j := by
  unfold ER
  rw [EMR_apply]
  exact num_of_bound (s := fun x => s (ix4 b h t x)) (MR_apply s b h t) j

/-- The probabilities of a row. -/
theorem PR_apply (s : FVec Ideal S2x4x2048x256 .f32) (b : Fin 2) (h : Fin 4) (t : Fin 2048) (j : Fin 256) :
    PR (ER s) (ix4 b h t j) = prob (fun x => s (ix4 b h t x)) j := by
  pointwise [PR, ZR]
  simp only [ER_apply]
  rfl

/-- The scores' cotangent, where scores and the probabilities' cotangent are real numbers. -/
theorem DSR_apply (s dp : FVec Ideal S2x4x2048x256 .f32) (hs : ∀ i, ∃ r : ℝ, s i = (r : EReal)) (hd : ∀ i, ∃ r : ℝ, dp i = (r : EReal))
    (b : Fin 2) (h : Fin 4) (t : Fin 2048) (j : Fin 256) : DSR (ER s) dp (ix4 b h t j)
    = dscore (fun x => s (ix4 b h t x)) (fun x => dp (ix4 b h t x)) j * Ideal.ofBits .f32 1040187392#32 := by
  rw [← dscore_eq (fun i => hs _) (fun i => hd _)]
  pointwise [DSR, ZR]
  simp only [ER_apply, Fin.sum_univ_one, Finset.univ_unique, Finset.sum_singleton]

/-- The scores are real numbers where queries and keys are. -/
theorem SR_real {A0 A1} (h0 : ∀ i, ∃ r : ℝ, A0 i = (r : EReal)) (h1 : ∀ i, ∃ r : ℝ, A1 i = (r : EReal)) (i) : ∃ r : ℝ, SR A0 A1 i = (r : EReal) := by
  obtain ⟨a, rfl⟩ := Reals.choose h0
  obtain ⟨a', rfl⟩ := Reals.choose h1
  pointwise [SR, QR, KR]
  simp only [← EReal.coe_mul, Reals.coe_sum, Reals.ofBits_eighth]
  exact ⟨_, rfl⟩

/-- The probabilities' cotangent is real where the output's and the values are. -/
theorem DPR_real {A2 A1} (h2 : ∀ i, ∃ r : ℝ, A2 i = (r : EReal)) (h1 : ∀ i, ∃ r : ℝ, A1 i = (r : EReal)) (i) : ∃ r : ℝ, DPR A2 A1 i = (r : EReal) := by
  obtain ⟨a, rfl⟩ := Reals.choose h2
  obtain ⟨a', rfl⟩ := Reals.choose h1
  pointwise [DPR, DOR, VR]
  simp only [← EReal.coe_mul, Reals.coe_sum]
  exact ⟨_, rfl⟩

end Cert.MemAttnRefIdeal.Value
-- ==== Proof.MemAttnPoint.lean ====
module

public import proofs.«01_k».proof.Proof.MemAttnBlock
public import proofs.«01_k».proof.Proof.MemAttnRef

/-! What the blocks of the memory attention's gradient hold, for arrays whose queries stand in the last 256 of 1024
lanes: the blocks are only known to be the arrays' rows, so the facts serve calls over wider projections too. -/

@[expose] public section

set_option maxRecDepth 16384

noncomputable section

namespace Cert.MemAttnIdeal.Value

open Cert.Softmax Cert.MemAttnIdeal Cert.MemAttnIdeal.Gen Idealize.ShloMosaic Idealize.ShloMosaic.TcCoe Idealize.SL.Sem
open Cert.MemAttnRefIdeal.Value (SR DPR SR_apply DPR_apply)

/-- The scores' cotangent by batch, head, token and memory slot. -/
def DS (a0 : FVec Ideal S4096x1024 .f32) (a1 : FVec Ideal S512x512 .f32) (a2 : FVec Ideal S4096x1024 .bf16)
    (b : Fin 2) (h : Fin 4) (t : Fin 2048) (j : Fin 256) : EReal :=
  dscore (fun x => SR a0 a1 (ix4 b h t x)) (fun x => DPR a2 a1 (ix4 b h t x)) j * C

theorem ix2_ext {n0 n1 : Nat} {a a' : Fin n0} {b b' : Fin n1} (h : a.val = a'.val) (h' : b.val = b'.val) : ix2 a b = ix2 a' b' := by
  rw [Fin.ext h, Fin.ext h']

theorem ix2_eta {n0 n1 : Nat} (y : (⟨2, ![n0, n1]⟩ : Shape).Idx) : y = ix2 (y 0) (y 1) :=
  funext fun a => match a with
    | ⟨0, _⟩ => rfl
    | ⟨1, _⟩ => rfl

/-- Point `t`'s batch. -/
abbrev pb (t : Fin 8) : Fin 2 := ⟨t.val / 4, by omega⟩
/-- Row `r` of point `t`'s block among its batch's tokens. -/
abbrev pt (t : Fin 8) (r : Fin 512) : Fin 2048 := ⟨t.val % 4 * 512 + r.val, by omega⟩

/-- The blocks of queries and of memory at point `t` are the arrays' rows. -/
structure Rows (a0 : FVec Ideal S4096x1024 .f32) (a1 : FVec Ideal S512x512 .f32) (t : Fin 8)
    (Bq : FVec Ideal S512x256 .f32) (Bm : FVec Ideal S256x512 .f32) : Prop where
  q : ∀ (r : Fin 512) (n : Fin 256), Bq (ix2 r n) = a0 (ix2 ⟨t.val * 512 + r.val, by omega⟩ ⟨768 + n.val, by omega⟩)
  mem : ∀ (j : Fin 256) (n : Fin 512), Bm (ix2 j n) = a1 (ix2 ⟨t.val / 4 * 256 + j.val, by omega⟩ n)

/-- The output's cotangent's block at point `t` is the array's rows. -/
def RowsO (a2 : FVec Ideal S4096x1024 .bf16) (t : Fin 8) (Bo : FVec Ideal S512x256 .bf16) : Prop :=
  ∀ (r : Fin 512) (n : Fin 256), Bo (ix2 r n) = a2 (ix2 ⟨t.val * 512 + r.val, by omega⟩ ⟨768 + n.val, by omega⟩)

section

variable {a0 : FVec Ideal S4096x1024 .f32} {a1 : FVec Ideal S512x512 .f32} {a2 : FVec Ideal S4096x1024 .bf16} {t : Fin 8}
  {Bq : FVec Ideal S512x256 .f32} {Bm : FVec Ideal S256x512 .f32} {Bo : FVec Ideal S512x256 .bf16}

theorem bs_eq (H : Rows a0 a1 t Bq Bm) (h : Fin 4) (r : Fin 512) :
    bs Bq Bm h r = fun j => SR a0 a1 (ix4 (pb t) h (pt t r) j) := by
  funext j
  rw [SR_apply]
  exact congrArg (· * C) (Finset.sum_congr rfl fun d _ => congrArg₂ _
    ((H.q ..).trans (congrArg _ (ix2_ext (by simp only; omega) rfl))) ((H.mem ..).trans (congrArg _ (ix2_ext rfl rfl))))

theorem bdp_eq (H : Rows a0 a1 t Bq Bm) (HO : RowsO a2 t Bo) (h : Fin 4) (r : Fin 512) :
    bdp Bm Bo h r = fun j => DPR a2 a1 (ix4 (pb t) h (pt t r) j) := by
  funext j
  rw [DPR_apply]
  exact Finset.sum_congr rfl fun d _ => congrArg₂ _
    ((HO ..).trans (congrArg _ (ix2_ext (by simp only; omega) rfl))) ((H.mem ..).trans (congrArg _ (ix2_ext rfl rfl)))

theorem bds_eq (H : Rows a0 a1 t Bq Bm) (HO : RowsO a2 t Bo) (h : Fin 4) (r : Fin 512) (j : Fin 256) :
    bds Bq Bm Bo h r j = DS a0 a1 a2 (pb t) h (pt t r) j := by
  rw [bds, bs_eq H, bdp_eq H HO, DS]

end

/-- The queries' cotangent at lane `n` of token `i`. -/
def DQ (a0 : FVec Ideal S4096x1024 .f32) (a1 : FVec Ideal S512x512 .f32) (a2 : FVec Ideal S4096x1024 .bf16)
    (i : Fin 4096) (n : Fin 256) : EReal :=
  ∑ j : Fin 256, DS a0 a1 a2 ⟨i.val / 2048, by omega⟩ ⟨n.val / 64, by omega⟩ ⟨i.val % 2048, by omega⟩ j
    * a1 (ix2 ⟨i.val / 2048 * 256 + j.val, by omega⟩ ⟨n.val, by omega⟩)

/-- The memory's cotangent at slot `j`, lane `n`: the keys' lanes first, then the values'. -/
def DKV (a0 : FVec Ideal S4096x1024 .f32) (a1 : FVec Ideal S512x512 .f32) (a2 : FVec Ideal S4096x1024 .bf16)
    (j : Fin 512) (n : Fin 512) : EReal :=
  if n.val < 256 then
    ∑ t : Fin 2048, DS a0 a1 a2 ⟨j.val / 256, by omega⟩ ⟨n.val % 256 / 64, by omega⟩ t ⟨j.val % 256, by omega⟩
      * a0 (ix2 ⟨j.val / 256 * 2048 + t.val, by omega⟩ ⟨768 + n.val % 256, by omega⟩)
  else
    ∑ t : Fin 2048, prob (fun x => SR a0 a1 (ix4 ⟨j.val / 256, by omega⟩ ⟨n.val % 256 / 64, by omega⟩ t x)) ⟨j.val % 256, by omega⟩
      * a2 (ix2 ⟨j.val / 256 * 2048 + t.val, by omega⟩ ⟨768 + n.val % 256, by omega⟩)

theorem lanes (n : Fin 256) : ∃ h : Fin 4, ∃ d : Fin 64, n = ⟨h.val * 64 + d.val, by omega⟩ :=
  ⟨⟨n.val / 64, by omega⟩, ⟨n.val % 64, by omega⟩, Fin.ext (by simp only; omega)⟩

/-- A block's queries' cotangent. -/
theorem BLK3_eq {a0 a1 a2 t Bq Bm Bo} (H : Rows a0 a1 t Bq Bm) (HO : RowsO a2 t Bo) (r : Fin 512) (n : Fin 256) :
    BLK3 Bq Bm Bo (ix2 r n) = DQ a0 a1 a2 ⟨t.val * 512 + r.val, by omega⟩ n := by
  obtain ⟨h, d, rfl⟩ := lanes n
  have e1 : (⟨(t.val * 512 + r.val) / 2048, by omega⟩ : Fin 2) = pb t := Fin.ext (by simp only; omega)
  have e2 : (⟨(h.val * 64 + d.val) / 64, by omega⟩ : Fin 4) = h := Fin.ext (by simp only; omega)
  have e3 : (⟨(t.val * 512 + r.val) % 2048, by omega⟩ : Fin 2048) = pt t r := Fin.ext (by simp only; omega)
  refine (BLK3_apply ..).trans (Finset.sum_congr rfl fun j _ => ?_)
  rw [bds_eq H HO]
  simp only [e1, e2, e3]
  exact congrArg _ ((H.mem ..).trans (congrArg _ (ix2_ext (by simp only; omega) rfl)))

/-- What a block adds to the memory's cotangent. -/
def T4 (Bq : FVec Ideal S512x256 .f32) (Bm : FVec Ideal S256x512 .f32) (Bo : FVec Ideal S512x256 .bf16) (j : Fin 256) (n : Fin 512) : EReal :=
  if n.val < 256 then ∑ r : Fin 512, bds Bq Bm Bo ⟨n.val % 256 / 64, by omega⟩ r j * Bq (ix2 r ⟨n.val % 256, by omega⟩)
  else ∑ r : Fin 512, prob (bs Bq Bm ⟨n.val % 256 / 64, by omega⟩ r) j * Bo (ix2 r ⟨n.val % 256, by omega⟩)

theorem BLK4_apply (Bq : FVec Ideal S512x256 .f32) (Bm : FVec Ideal S256x512 .f32) (Bo : FVec Ideal S512x256 .bf16) (acc : FVec Ideal S256x512 .f32)
    (j : Fin 256) (n : Fin 512) : BLK4 Bq Bm Bo acc (ix2 j n) = acc (ix2 j n) + T4 Bq Bm Bo j n := by
  have hm : n.val % 256 < 256 := by omega
  obtain ⟨h, d, hn⟩ := lanes ⟨n.val % 256, hm⟩
  have hn' : n.val % 256 = h.val * 64 + d.val := congrArg Fin.val hn
  have hd : h.val * 64 + d.val < 256 := by omega
  have e1 : (⟨(h.val * 64 + d.val) / 64, by omega⟩ : Fin 4) = h := Fin.ext (by simp only; omega)
  by_cases h2 : n.val < 256
  · have e : n = ⟨h.val * 64 + d.val, by omega⟩ := Fin.ext (by simp only; omega)
    rw [T4, if_pos h2]
    simp only [hn', e1]
    refine (congrArg (fun x => BLK4 Bq Bm Bo acc (ix2 j x)) e).trans ((BLK4_keys Bq Bm Bo acc j h d).trans ?_)
    exact congrArg (fun x => acc (ix2 j x) + _) e.symm
  · have e : n = ⟨256 + (h.val * 64 + d.val), by omega⟩ := Fin.ext (by simp only; omega)
    rw [T4, if_neg h2]
    simp only [hn', e1]
    refine (congrArg (fun x => BLK4 Bq Bm Bo acc (ix2 j x)) e).trans ((BLK4_values Bq Bm Bo acc j h d).trans ?_)
    exact congrArg (fun x => acc (ix2 j x) + _) e.symm

theorem T4_sum {a0 a1 a2} {Bq : Fin 8 → FVec Ideal S512x256 .f32} {Bm : Fin 8 → FVec Ideal S256x512 .f32}
    {Bo : Fin 8 → FVec Ideal S512x256 .bf16} (H : ∀ t, Rows a0 a1 t (Bq t) (Bm t)) (HO : ∀ t, RowsO a2 t (Bo t))
    (t : Fin 8) (j : Fin 256) (n : Fin 512) :
    ∑ s : Fin 4, T4 (Bq ⟨4 * (t.val / 4) + s.val, by omega⟩) (Bm ⟨4 * (t.val / 4) + s.val, by omega⟩)
      (Bo ⟨4 * (t.val / 4) + s.val, by omega⟩) j n
    = DKV a0 a1 a2 ⟨t.val / 4 * 256 + j.val, by omega⟩ n := by
  have e1 : (⟨(t.val / 4 * 256 + j.val) / 256, by omega⟩ : Fin 2) = pb t := Fin.ext (by simp only; omega)
  have e2 : (⟨(t.val / 4 * 256 + j.val) % 256, by omega⟩ : Fin 256) = j := Fin.ext (by simp only; omega)
  have hb (s : Fin 4) : pb ⟨4 * (t.val / 4) + s.val, by omega⟩ = pb t := Fin.ext (by simp only; omega)
  have ht (s : Fin 4) (r : Fin 512) : pt ⟨4 * (t.val / 4) + s.val, by omega⟩ r
      = ⟨s.val * 512 + r.val, by omega⟩ := Fin.ext (by simp only; omega)
  by_cases h2 : n.val < 256
  · simp only [T4, DKV, if_pos h2, e1, e2]
    rw [Fin.sum_univ_tiles 4 512 rfl]
    refine Finset.sum_congr rfl fun s _ => Finset.sum_congr rfl fun r _ => ?_
    refine congrArg₂ _ ((bds_eq (H _) (HO _) ..).trans (by rw [hb, ht])) (((H _).q ..).trans (congrArg _ (ix2_ext ?_ rfl)))
    simp only; omega
  · simp only [T4, DKV, if_neg h2, e1, e2]
    rw [Fin.sum_univ_tiles 4 512 rfl]
    refine Finset.sum_congr rfl fun s _ => Finset.sum_congr rfl fun r _ => ?_
    refine congrArg₂ _ ((congrArg (prob · j) (bs_eq (H _) ..)).trans (by rw [hb, ht])) ((HO _ ..).trans (congrArg _ (ix2_ext ?_ rfl)))
    simp only; omega

theorem zero5 (j) : k0_pay5 (F := Ideal) j = 0 := by pointwise [k0_pay5]

end Cert.MemAttnIdeal.Value
-- ==== Proof.MemAttnArray.lean ====
module

public import proofs.«01_k».proof.Proof.MemAttnPoint

/-! What the memory attention's gradient leaves in its two result arrays. -/

@[expose] public section

set_option maxRecDepth 16384

noncomputable section

namespace Cert.MemAttnIdeal.Value

open Cert.Softmax Cert.MemAttnIdeal Cert.MemAttnIdeal.Gen Idealize.ShloMosaic Idealize.ShloMosaic.TcCoe Idealize.SL.Sem
open Idealize.ShloMosaic.Pipeline (Dat)
open Cert.MemAttnRefIdeal.Value (SR DPR SR_apply DPR_apply)

variable (m : (ℓ : Loc nD τ sig) → Buf (Elt Ideal) ℓ) (c : Dev nD)

abbrev A0 : FVec Ideal S4096x1024 .f32 := m ((c : Thread nD τ).loc main_arg0)
abbrev A1 : FVec Ideal S512x512 .f32 := m ((c : Thread nD τ).loc main_arg1)
abbrev A2 : FVec Ideal S4096x1024 .bf16 := m ((c : Thread nD τ).loc main_arg2)

theorem idx : ∀ t : Fin cfg0.N, win0_0.index t = ![t.val, 3] ∧ win0_1.index t = ![t.val / 4, 0] ∧ win0_2.index t = ![t.val, 3]
    ∧ win0_3.index t = ![t.val, 3] ∧ win0_4.index t = ![t.val / 4, 0] :=
  (by decide +kernel : ∀ t : Fin grid0.N, _)

theorem lt8 (t : Fin cfg0.N) : t.val < 8 := t.isLt

theorem rows (t : Fin cfg0.N) : Rows (A0 m c) (A1 m c) t (iblk m c 0 t) (iblk m c 1 t) where
  q r n := by blk_ext! [iblk, V, idx t]
  mem j n := by blk_ext! [iblk, V, idx t]

theorem rowsO (t : Fin cfg0.N) : RowsO (A2 m c) t (iblk m c 2 t) := fun r n => by blk_ext! [iblk, V, idx t]

theorem emb3 (t : Fin cfg0.N) (y : S512x256.Idx) : (win0_3.blk t).view.emb y
    = ix2 ⟨t.val * 512 + (y 0).val, by have := lt8 t; have h : (y 0).val < 512 := (y 0).isLt; omega⟩
        ⟨768 + (y 1).val, by have h : (y 1).val < 256 := (y 1).isLt; omega⟩ := by
  blk_ext! [idx t]

theorem emb4 (t : Fin cfg0.N) (y : S256x512.Idx) : (win0_4.blk t).view.emb y
    = ix2 ⟨t.val / 4 * 256 + (y 0).val, by have := lt8 t; have h : (y 0).val < 256 := (y 0).isLt; omega⟩
        ⟨(y 1).val, (y 1).isLt⟩ := by
  blk_ext! [idx t]

/-- The queries' cotangent in the array's own lanes. -/
def DQA (a0 : FVec Ideal S4096x1024 .f32) (a1 : FVec Ideal S512x512 .f32) (a2 : FVec Ideal S4096x1024 .bf16)
    (i : S4096x1024.Idx) : EReal := DQ a0 a1 a2 (i 0) ⟨(i 1).val % 256, by omega⟩

theorem block3 (t : Fin cfg0.N) (y : S512x256.Idx) (i : S4096x1024.Idx) (hi : i
    = ix2 ⟨t.val * 512 + (y 0).val, by have := lt8 t; have h : (y 0).val < 512 := (y 0).isLt; omega⟩
        ⟨768 + (y 1).val, by have h : (y 1).val < 256 := (y 1).isLt; omega⟩) :
    BLK3 (iblk m c 0 t) (iblk m c 1 t) (iblk m c 2 t) y = DQA (A0 m c) (A1 m c) (A2 m c) i := by
  subst hi
  have h : (y 1).val < 256 := (y 1).isLt
  have e : (⟨(768 + (y 1).val) % 256, by omega⟩ : Fin 256) = y 1 := Fin.ext (by simp only; omega)
  refine ((congrArg _ (ix2_eta y)).trans (BLK3_eq (rows m c t) (rowsO m c t) (y 0) (y 1))).trans ?_
  exact congrArg (DQ (A0 m c) (A1 m c) (A2 m c) _) e.symm

/-- The first result: the queries' lanes carry their cotangent, the others what was there. -/
theorem final3 : (dats m 0 c).arrAt 3 (cfgs 0).N
    = fun i => if 3 * 256 ≤ (i 1 : ℕ) then DQA (A0 m c) (A1 m c) (A2 m c) i
      else m ((c : Thread nD τ).loc main_arg3) i := by
  have e : V m c main_v0_0 = m ((c : Thread nD τ).loc main_arg3) := by entry_read; rfl
  rw [← e]
  refine (dats m 0 c).arrAt_eq_of_coversWhere 3 _ (fun β => 3 ≤ β 1) (by decide +kernel) (fun t hf y => ?_)
    (fun j => by blk_simp [Pipeline.Window.cell_apply]; omega)
  blk_simp
  rw [after0_3]
  have key : (outsAt0 m c t.val t.isLt).1 = BLK3 (iblk m c 0 t) (iblk m c 1 t) (iblk m c 2 t) := by
    by_cases h : t.val % 4 = 0
    · rw [outsAt0_A m c t h]
      frame_out
    · rw [outsAt0_B m c t h]
      frame_out
  rw [key]
  exact block3 m c t y _ (emb3 t y)

/-- The second result: the memory's cotangent, summed over the batch's four blocks. -/
theorem final4 : (dats m 0 c).arrAt 4 (cfgs 0).N = fun i => DKV (A0 m c) (A1 m c) (A2 m c) (i 0) (i 1) := by
  refine (dats m 0 c).arrAt_eq_of_covers 4 _ (by decide +kernel) fun t hf y => ?_
  blk_simp
  rw [after0_4]
  rw [Pipeline.eq_sum_fin_of_reset_step_apply_of_flush (fun n h => (outsAt0 m c n h).2) 4 (fun _ => 0)
    (fun t j => T4 (iblk m c 0 t) (iblk m c 1 t) (iblk m c 2 t) (j 0) (j 1))
    (fun t h j => by
      rw [outsAt0_A m c t h]
      frame_out
      refine ((congrArg _ (ix2_eta j)).trans (BLK4_apply _ _ _ _ (j 0) (j 1))).trans (congrArg (· + _) (zero5 _)))
    (fun t h j => by
      rw [outsAt0_B m c t h]
      frame_out
      refine ((congrArg _ (ix2_eta j)).trans (BLK4_apply _ _ _ _ (j 0) (j 1))).trans (congrArg (· + _) (congrArg _ (ix2_eta j).symm)))
    t ((flush0_4 t).mp hf) _, zero_add]
  refine (T4_sum (Bq := fun t => iblk m c 0 t) (Bm := fun t => iblk m c 1 t) (Bo := fun t => iblk m c 2 t) (rows m c) (rowsO m c) t (y 0) (y 1)).trans ?_
  exact congrArg (fun i : S512x512.Idx => DKV (A0 m c) (A1 m c) (A2 m c) (i 0) (i 1)) (emb4 t y).symm

end Cert.MemAttnIdeal.Value
-- ==== Proof.MemAttnEq.lean ====
/- The equation of the memory attention's backward call: where its arguments are real numbers, the reference's two
   results are what the call's two arrays hold. -/
module

public import proofs.«01_k».proof.Defs
public import proofs.«01_k».proof.Proof.MemAttnArray
public import proofs.«01_k».proof.Proof.Gen.Pre_finite_mem_attn

@[expose] public section

set_option maxRecDepth 16384

noncomputable section

namespace Cert.MemAttnIdeal.Value

open Cert.MemAttnRefIdeal Cert.MemAttnRefIdeal.Gen Cert.MemAttnRefIdeal.Value Idealize.ShloMosaic Idealize.ShloMosaic.TcCoe Idealize.SL.Sem
open Cert.Softmax

/-- The keys' lanes of the memory's cotangent. -/
theorem DKVR_keys (p s : FVec Ideal S2x4x2048x256 .f32) (q : FVec Ideal S4096x1024 .f32) (d : FVec Ideal S4096x1024 .bf16)
    (j : Fin 512) (n : Fin 512) (h : n.val < 256) : DKVR p s (QR q) (DOR d) (ix2 j n)
    = ∑ t : Fin 2048, s (ix4 ⟨j.val / 256, by omega⟩ ⟨n.val % 256 / 64, by omega⟩ t ⟨j.val % 256, by omega⟩)
      * q (ix2 ⟨j.val / 256 * 2048 + t.val, by omega⟩ ⟨768 + n.val % 256, by omega⟩) := by
  have e : n.val / 64 % 4 = n.val % 256 / 64 := by omega
  have e' : n.val % 256 / 64 * 64 + n.val % 64 = n.val % 256 := by omega
  have c1 : ¬ (1 ≤ n.val / 256 ∧ n.val / 256 - 1 < 1) := by omega
  have c2 : j.val / 256 < 2 ∧ j.val % 256 < 256 ∧ n.val / 256 < 1 ∧ n.val % 256 / 64 < 4 ∧ n.val % 64 < 64 := by omega
  pointwise [DKVR, QR, DOR]
  simp only [e, e', c1, c2, and_false, false_and, and_true, true_and, dif_neg, not_false_eq_true, zero_add, dif_pos]

/-- The values' lanes of the memory's cotangent. -/
theorem DKVR_values (p s : FVec Ideal S2x4x2048x256 .f32) (q : FVec Ideal S4096x1024 .f32) (d : FVec Ideal S4096x1024 .bf16)
    (j : Fin 512) (n : Fin 512) (h : ¬ n.val < 256) : DKVR p s (QR q) (DOR d) (ix2 j n)
    = ∑ t : Fin 2048, p (ix4 ⟨j.val / 256, by omega⟩ ⟨n.val % 256 / 64, by omega⟩ t ⟨j.val % 256, by omega⟩)
      * d (ix2 ⟨j.val / 256 * 2048 + t.val, by omega⟩ ⟨768 + n.val % 256, by omega⟩) := by
  have e : n.val / 64 % 4 = n.val % 256 / 64 := by omega
  have e' : n.val % 256 / 64 * 64 + n.val % 64 = n.val % 256 := by omega
  have c1 : ¬ (n.val / 256 < 1) := by omega
  have c2 : j.val / 256 < 2 ∧ j.val % 256 < 256 ∧ (1 ≤ n.val / 256 ∧ n.val / 256 - 1 < 1) ∧ n.val % 256 / 64 < 4 ∧ n.val % 64 < 64 := by omega
  pointwise [DKVR, QR, DOR]
  simp only [e, e', c1, c2, and_false, false_and, and_true, true_and, dif_neg, not_false_eq_true, add_zero, dif_pos]
  exact Finset.sum_congr rfl fun t _ => mul_comm _ _

variable {a0 : FVec Ideal S4096x1024 .f32} {a1 : FVec Ideal S512x512 .f32} {a2 : FVec Ideal S4096x1024 .bf16} (a3 : FVec Ideal S4096x1024 .bf16)
  (h0 : ∀ i, ∃ r : ℝ, a0 i = (r : EReal)) (h1 : ∀ i, ∃ r : ℝ, a1 i = (r : EReal)) (h2 : ∀ i, ∃ r : ℝ, a2 i = (r : EReal))

include h0 h1 h2

theorem DSR_eq (b : Fin 2) (h : Fin 4) (t : Fin 2048) (j : Fin 256) :
    DSR (ER (SR a0 a1)) (DPR a2 a1) (ix4 b h t j) = DS a0 a1 a2 b h t j :=
  DSR_apply _ _ (SR_real h0 h1) (DPR_real h2 h1) b h t j

/-- The queries' cotangent. -/
theorem DQR_eq (i : Fin 4096) (n : Fin 256) : DQR (DSR (ER (SR a0 a1)) (DPR a2 a1)) (KR a1) (ix2 i n) = DQ a0 a1 a2 i n := by
  generalize hs : DSR (ER (SR a0 a1)) (DPR a2 a1) = s
  pointwise [DQR, KR]
  subst hs
  refine Finset.sum_congr rfl fun j _ => congrArg₂ _ (DSR_eq h0 h1 h2 ..) (congrArg a1 (ix2_ext rfl ?_))
  simp only; omega

/-- The reference's first result: the other lanes are untouched. -/
theorem first_eq (i : S4096x1024.Idx) : concatenate S4096x1024 1 [⟨S4096x768, (extractStridedSlice S4096x768 ![0, 0] a3 slices_S4096x1024_S4096x768_0_0)⟩,
    ⟨S4096x256, (truncf .bf16 (DQR (DSR (ER (SR a0 a1)) (DPR a2 a1)) (KR a1)) bitsLt_bf16_f32)⟩] concatenates_S4096x768_S4096x256_S4096x1024_d1 i
    = if 3 * 256 ≤ (i 1 : ℕ) then DQA a0 a1 a2 i else a3 i := by
  generalize hs : DQR (DSR (ER (SR a0 a1)) (DPR a2 a1)) (KR a1) = s
  pointwise
  subst hs
  by_cases h : (i 1 : ℕ) < 768
  · rw [dif_pos h, if_neg (by omega)]
  · rw [dif_neg h]
    refine Eq.trans ?_ (if_pos (by omega)).symm
    refine (DQR_eq h0 h1 h2 _ _).trans (congrArg (DQ a0 a1 a2 (i 0)) (Fin.ext ?_))
    have h' : (i 1 : ℕ) < 1024 := (i 1).isLt
    simp only; omega

/-- The reference's second result. -/
theorem second_eq (j : Fin 512) (n : Fin 512) : DKVR (PR (ER (SR a0 a1))) (DSR (ER (SR a0 a1)) (DPR a2 a1)) (QR a0) (DOR a2) (ix2 j n)
    = DKV a0 a1 a2 j n := by
  unfold DKV
  by_cases h : n.val < 256
  · rw [if_pos h]
    refine (DKVR_keys _ _ a0 a2 j n h).trans (Finset.sum_congr rfl fun t _ => congrArg (· * _) ?_)
    exact DSR_eq h0 h1 h2 ..
  · rw [if_neg h]
    refine (DKVR_values _ _ a0 a2 j n h).trans (Finset.sum_congr rfl fun t _ => congrArg (· * _) ?_)
    exact PR_apply ..

omit h0 h1 h2 in
/-- What the precondition says of the three arguments it reads. -/
theorem real_of_pre {m : (ℓ : Loc Cert.MemAttnIdeal.nD Cert.MemAttnIdeal.τ Cert.MemAttnIdeal.sig) → Buf (Elt Ideal) ℓ}
    (h : Cert.Pre_MemAttnIdeal_finite_mem_attn m) (c : Dev Cert.MemAttnIdeal.nD) :
    (∀ i, ∃ r : ℝ, A0 m c i = (r : EReal)) ∧ (∀ i, ∃ r : ℝ, A1 m c i = (r : EReal)) ∧ (∀ i, ∃ r : ℝ, A2 m c i = (r : EReal)) := by
  have h := h c
  refine ⟨fun i => Reals.of_abs_lt ?_, fun i => Reals.of_abs_lt ?_, fun i => Reals.of_abs_lt ?_⟩
  · have e := congrFun h.1 i
    simp only [Cert.Pre_finite_mem_attn.fn, pointwise, Reals.ofBits_inf] at e
    exact e
  · have e := congrFun h.2.1 i
    simp only [Cert.Pre_finite_mem_attn.fn, pointwise, Reals.ofBits_inf] at e
    exact e
  · have e := congrFun h.2.2 i
    simp only [Cert.Pre_finite_mem_attn.fn, pointwise, Reals.ofBits_inf] at e
    exact e

end Cert.MemAttnIdeal.Value
-- ==== Proof.MemAttnClaims.lean ====
/- The claims about the memory attention's backward call. -/
module

public import proofs.«01_k».proof.Proof.MemAttnEq
public import proofs.«01_k».proof.Proof.Gen.MemAttn
public import proofs.«01_k».proof.Proof.Gen.MemAttn.Frame
public import Idealize.ShloMosaic.Lib.Claim
public import Idealize.ShloMosaic.Adequacy
public import Idealize.ShloMosaic.Init

@[expose] public section

noncomputable section

namespace Cert.Proof

open Idealize.ShloMosaic Idealize.SL.Sem

theorem memAttn_reference : Cert.quiescent_MemAttnRefIdeal := fun m ρ _ =>
  (θ_run Cert.MemAttnRefIdeal.defs _ _).mono (fun r h => ⟨fun c => (h c).2.2, sem_eq_zero_of_no_sems (by decide) r.2⟩)
    (Cert.MemAttnRefIdeal.Value.run (F := Ideal) m ρ)

theorem memAttn_algebraic : Cert.algebraic_MemAttnIdeal_MemAttnRefIdeal_pre_finite_mem_attn := by
  pair_intro
  · run_from Cert.MemAttnIdeal.Value.run_blocks m g
  · run_from Cert.MemAttnRefIdeal.Value.run m' g'
    · obtain ⟨h0, h1, h2⟩ := Cert.MemAttnIdeal.Value.real_of_pre hpre c
      rw [Cert.MemAttnRefIdeal.Value.res0, (hagree c).1, (hagree c).2.1, (hagree c).2.2.1, (hagree c).2.2.2, Cert.MemAttnIdeal.Value.final3]
      exact funext (Cert.MemAttnIdeal.Value.first_eq _ h0 h1 h2)
    · obtain ⟨h0, h1, h2⟩ := Cert.MemAttnIdeal.Value.real_of_pre hpre c
      rw [Cert.MemAttnRefIdeal.Value.res1, (hagree c).1, (hagree c).2.1, (hagree c).2.2.1, Cert.MemAttnIdeal.Value.final4]
      exact funext fun i => (congrArg _ (Cert.MemAttnIdeal.Value.ix2_eta i)).trans (Cert.MemAttnIdeal.Value.second_eq h0 h1 h2 (i 0) (i 1))

end Cert.Proof
-- ==== Proof.DkvCombineArray.lean ====
/- What the call that sums the key and value gradients leaves in its result array: at every token the two columns' own
   parts and, but in a sequence's last block, the two columns' parts from the next block. -/
module

public import proofs.«01_k».proof.Proof.Gen.DkvCombineIdeal.Value
public import Idealize.ShloMosaic.Lib.Pipeline.ValueKit
public import Idealize.ShloMosaic.Lib.Pointwise

@[expose] public section

set_option maxRecDepth 16384

noncomputable section

namespace Cert.DkvCombineIdeal.Value

open Cert.DkvCombineIdeal Cert.DkvCombineIdeal.Gen Idealize.ShloMosaic Idealize.ShloMosaic.TcCoe Idealize.SL.Sem
open Idealize.ShloMosaic.Pipeline (Dat)

/-- Whether a token's block is followed by another of its sequence. -/
abbrev more (i : Fin 4096) : Prop := i.val / 128 % 16 < 15

/-- The token a block on. -/
abbrev next (i : Fin 4096) (h : more i) : Fin 4096 := ⟨i.val + 128, by have := i.isLt; unfold more at h; omega⟩

/-- The result. -/
def SUM (c0 c1 p0 p1 : FVec Ideal S4096x512 .f32) (i : Fin 4096) (n : Fin 512) : EReal :=
  c0 (ix2 i n) + c1 (ix2 i n) + if h : more i then p0 (ix2 (next i h) n) + p1 (ix2 (next i h) n) else 0

theorem pay1 (i : grid0.Coords) (c0 c1 p0 p1 : FVec Ideal S128x512 .f32) (r : Fin 128) (n : Fin 512) : k0_pay1 (F := Ideal) i c0 c1 p0 p1 (ix2 r n)
    = c0 (ix2 r n) + c1 (ix2 r n) + if (i 1).val < 15 then p0 (ix2 r n) + p1 (ix2 r n) else 0 := by
  have hi : (i 1).val < 16 := (i 1).isLt
  have e : Scalar.cmpi .slt (BitVec.ofNat 32 (i 1).val) 15#32 = if (i 1).val < 15 then 1#1 else 0#1 := by
    generalize (i 1).val = k at hi
    revert k
    decide
  pointwise [k0_pay1]
  rw [e]
  by_cases h : (i 1).val < 15
  · simp [h, Scalar.select]
  · simp [h, Scalar.select]

variable (m : (ℓ : Loc nD τ sig) → Buf (Elt Ideal) ℓ) (c : Dev nD)

theorem lt32 (t : Fin cfg0.N) : t.val < 32 := t.isLt

theorem idx : ∀ t : Fin cfg0.N, win0_0.index t = ![t.val, 0] ∧ win0_1.index t = ![t.val, 0]
    ∧ win0_2.index t = ![t.val / 16 * 16 + min (t.val % 16 + 1) 15, 0] ∧ win0_3.index t = ![t.val / 16 * 16 + min (t.val % 16 + 1) 15, 0]
    ∧ win0_4.index t = ![t.val, 0] :=
  (by decide +kernel : ∀ t : Fin grid0.N, _)
theorem coord : ∀ t : Fin grid0.N, (grid0.coords t 1).val = t.val % 16 := by decide +kernel

/-- Row `r` of point `t`'s block, and of the block after it. -/
abbrev tok (t : Fin cfg0.N) (r : Fin 128) : Fin 4096 := ⟨t.val * 128 + r.val, by have := lt32 t; omega⟩
abbrev tok' (t : Fin cfg0.N) (r : Fin 128) : Fin 4096 := ⟨(t.val / 16 * 16 + min (t.val % 16 + 1) 15) * 128 + r.val, by have := lt32 t; omega⟩

/-- The call's arguments. -/
abbrev B0 : FVec Ideal S4096x512 .f32 := m ((c.tc : Thread nD τ).loc main_arg0)
abbrev B1 : FVec Ideal S4096x512 .f32 := m ((c.tc : Thread nD τ).loc main_arg1)
abbrev B2 : FVec Ideal S4096x512 .f32 := m ((c.tc : Thread nD τ).loc main_arg2)
abbrev B3 : FVec Ideal S4096x512 .f32 := m ((c.tc : Thread nD τ).loc main_arg3)

theorem blk0 (t : Fin cfg0.N) (r : Fin 128) (n : Fin 512) : (iblk m c 0 t : FVec Ideal S128x512 .f32) (ix2 r n) = B0 m c (ix2 (tok t r) n) := by
  blk_ext! [iblk, V, idx t]
theorem blk1 (t : Fin cfg0.N) (r : Fin 128) (n : Fin 512) : (iblk m c 1 t : FVec Ideal S128x512 .f32) (ix2 r n) = B1 m c (ix2 (tok t r) n) := by
  blk_ext! [iblk, V, idx t]
theorem blk2 (t : Fin cfg0.N) (r : Fin 128) (n : Fin 512) : (iblk m c 2 t : FVec Ideal S128x512 .f32) (ix2 r n) = B2 m c (ix2 (tok' t r) n) := by
  blk_ext! [iblk, V, idx t]
theorem blk3 (t : Fin cfg0.N) (r : Fin 128) (n : Fin 512) : (iblk m c 3 t : FVec Ideal S128x512 .f32) (ix2 r n) = B3 m c (ix2 (tok' t r) n) := by
  blk_ext! [iblk, V, idx t]

/-- The call's result array. -/
def OUT (i : S4096x512.Idx) : EReal := SUM (B0 m c) (B1 m c) (B2 m c) (B3 m c) (i 0) (i 1)

theorem emb4 (t : Fin cfg0.N) (y : S128x512.Idx) : (win0_4.blk t).view.emb y = ix2 (tok t (y 0)) (y 1) := by blk_ext! [idx t]

theorem block (t : Fin cfg0.N) (r : Fin 128) (n : Fin 512) :
    k0_pay1 (F := Ideal) (grid0.coords t) (iblk m c 0 t) (iblk m c 1 t) (iblk m c 2 t) (iblk m c 3 t) (ix2 r n)
      = SUM (B0 m c) (B1 m c) (B2 m c) (B3 m c) (tok t r) n := by
  have ht := lt32 t
  refine (pay1 (grid0.coords t) (iblk m c 0 t) (iblk m c 1 t) (iblk m c 2 t) (iblk m c 3 t) r n).trans ?_
  rw [blk0, blk1, blk2, blk3, coord t]
  unfold SUM
  by_cases h : t.val % 16 < 15
  · have h' : more (tok t r) := by unfold more; simp only; omega
    have e : tok' t r = next (tok t r) h' := Fin.ext (by simp only; omega)
    rw [if_pos h, dif_pos h', e]
  · have h' : ¬ more (tok t r) := by unfold more; simp only; omega
    rw [if_neg h, dif_neg h']

theorem block4 (t : Fin cfg0.N) (y : S128x512.Idx) (i : S4096x512.Idx) (hi : i = ix2 (tok t (y 0)) (y 1)) :
    k0_pay1 (F := Ideal) (grid0.coords t) (iblk m c 0 t) (iblk m c 1 t) (iblk m c 2 t) (iblk m c 3 t) y = OUT m c i := by
  subst hi
  exact (congrArg _ (ix2_eta y).symm).trans (block m c t (y 0) (y 1))

theorem final4 : (dats m 0 c).arrAt 4 (cfgs 0).N = OUT m c := by
  refine (dats m 0 c).arrAt_eq_of_covers 4 _ (by decide +kernel) fun t hf y => ?_
  blk_simp
  rw [after0_4]
  have key : out0_4 (grid0.coords t) (iblk m c 0 t) (iblk m c 1 t) (iblk m c 2 t) (iblk m c 3 t)
      = k0_pay1 (F := Ideal) (grid0.coords t) (iblk m c 0 t) (iblk m c 1 t) (iblk m c 2 t) (iblk m c 3 t) := by frame_out
  rw [key]
  exact block4 m c t y _ (emb4 t y)

end Cert.DkvCombineIdeal.Value
-- ==== Proof.DkvCombineRef.lean ====
/- The reference of the summed key and value gradients, array by array. -/
module

public import proofs.«01_k».proof.Proof.Gen.DkvCombineRefIdeal.Run
public import Idealize.ShloMosaic.Lib.Pointwise

@[expose] public section

set_option maxRecDepth 16384

noncomputable section

namespace Cert.DkvCombineRefIdeal.Value

open Cert.DkvCombineRefIdeal Cert.DkvCombineRefIdeal.Gen Idealize.ShloMosaic Idealize.ShloMosaic.TcCoe Idealize.SL.Sem

/-- A query block's key gradients from one column: its previous block's, then its own. -/
def CATK (x : FVec Ideal S4096x512 .f32) (y : FVec Ideal S4096x512 .f32) : FVec Ideal S2x16x256x4x64 .f32 :=
  concatenate S2x16x256x4x64 2 [⟨S2x16x128x4x64, (shapeCast S2x16x128x4x64 (extractStridedSlice S2x16x128x1x4x64 ![0, 0, 0, 0, 0, 0] (shapeCast S2x16x128x2x4x64 x shapeCasts_S4096x512_S2x16x128x2x4x64) slices_S2x16x128x2x4x64_S2x16x128x1x4x64_0_0_0_0_0_0) shapeCasts_S2x16x128x1x4x64_S2x16x128x4x64)⟩, ⟨S2x16x128x4x64, (shapeCast S2x16x128x4x64 (extractStridedSlice S2x16x128x1x4x64 ![0, 0, 0, 0, 0, 0] (shapeCast S2x16x128x2x4x64 y shapeCasts_S4096x512_S2x16x128x2x4x64) slices_S2x16x128x2x4x64_S2x16x128x1x4x64_0_0_0_0_0_0) shapeCasts_S2x16x128x1x4x64_S2x16x128x4x64)⟩] concatenates_S2x16x128x4x64_S2x16x128x4x64_S2x16x256x4x64_d2

/-- A query block's value gradients from one column: its previous block's, then its own. -/
def CATV (x : FVec Ideal S4096x512 .f32) (y : FVec Ideal S4096x512 .f32) : FVec Ideal S2x16x256x4x64 .f32 :=
  concatenate S2x16x256x4x64 2 [⟨S2x16x128x4x64, (shapeCast S2x16x128x4x64 (extractStridedSlice S2x16x128x1x4x64 ![0, 0, 0, 1, 0, 0] (shapeCast S2x16x128x2x4x64 x shapeCasts_S4096x512_S2x16x128x2x4x64) slices_S2x16x128x2x4x64_S2x16x128x1x4x64_0_0_0_1_0_0) shapeCasts_S2x16x128x1x4x64_S2x16x128x4x64)⟩, ⟨S2x16x128x4x64, (shapeCast S2x16x128x4x64 (extractStridedSlice S2x16x128x1x4x64 ![0, 0, 0, 1, 0, 0] (shapeCast S2x16x128x2x4x64 y shapeCasts_S4096x512_S2x16x128x2x4x64) slices_S2x16x128x2x4x64_S2x16x128x1x4x64_0_0_0_1_0_0) shapeCasts_S2x16x128x1x4x64_S2x16x128x4x64)⟩] concatenates_S2x16x128x4x64_S2x16x128x4x64_S2x16x256x4x64_d2

/-- The keys' half: a block's own part and the next block's. -/
def KEYS (x : FVec Ideal S2x16x256x4x64 .f32) : FVec Ideal S2x2048x2x4x64 .f32 :=
  pad S2x2048x2x4x64 ![0, 0, 0, 0, 0] ![0, 0, 1, 0, 0] ![0, 0, 0, 0, 0] (broadcastInDim S2x2048x1x4x64 ![0, 1, 3, 4] bcast_S2x2048x4x64_S2x2048x1x4x64_0_1_3_4 (shapeCast S2x2048x4x64 (addf (extractStridedSlice S2x16x128x4x64 ![0, 0, 128, 0, 0] x slices_S2x16x256x4x64_S2x16x128x4x64_0_0_128_0_0) (pad S2x16x128x4x64 ![0, 0, 0, 0, 0] ![0, 1, 0, 0, 0] ![0, 0, 0, 0, 0] (extractStridedSlice S2x15x128x4x64 ![0, 1, 0, 0, 0] (extractStridedSlice S2x16x128x4x64 ![0, 0, 0, 0, 0] x slices_S2x16x256x4x64_S2x16x128x4x64_0_0_0_0_0) slices_S2x16x128x4x64_S2x15x128x4x64_0_1_0_0_0) (constant S_ .f32 0x00000000#32) pads_S2x15x128x4x64_S2x16x128x4x64_000_010_000_000_000 h_S_)) shapeCasts_S2x16x128x4x64_S2x2048x4x64)) (constant S_ .f32 0x00000000#32) pads_S2x2048x1x4x64_S2x2048x2x4x64_000_000_010_000_000 h_S_

/-- The values' half: a block's own part and the next block's. -/
def VALS (x : FVec Ideal S2x16x256x4x64 .f32) : FVec Ideal S2x2048x2x4x64 .f32 :=
  pad S2x2048x2x4x64 ![0, 0, 1, 0, 0] ![0, 0, 0, 0, 0] ![0, 0, 0, 0, 0] (broadcastInDim S2x2048x1x4x64 ![0, 1, 3, 4] bcast_S2x2048x4x64_S2x2048x1x4x64_0_1_3_4 (shapeCast S2x2048x4x64 (addf (extractStridedSlice S2x16x128x4x64 ![0, 0, 128, 0, 0] x slices_S2x16x256x4x64_S2x16x128x4x64_0_0_128_0_0) (pad S2x16x128x4x64 ![0, 0, 0, 0, 0] ![0, 1, 0, 0, 0] ![0, 0, 0, 0, 0] (extractStridedSlice S2x15x128x4x64 ![0, 1, 0, 0, 0] (extractStridedSlice S2x16x128x4x64 ![0, 0, 0, 0, 0] x slices_S2x16x256x4x64_S2x16x128x4x64_0_0_0_0_0) slices_S2x16x128x4x64_S2x15x128x4x64_0_1_0_0_0) (constant S_ .f32 0x00000000#32) pads_S2x15x128x4x64_S2x16x128x4x64_000_010_000_000_000 h_S_)) shapeCasts_S2x16x128x4x64_S2x2048x4x64)) (constant S_ .f32 0x00000000#32) pads_S2x2048x1x4x64_S2x2048x2x4x64_000_000_100_000_000 h_S_

/-- The result, by tokens. -/
def OUTR (x : FVec Ideal S2x2048x2x4x64 .f32) (y : FVec Ideal S2x2048x2x4x64 .f32) : FVec Ideal S4096x512 .bf16 :=
  truncf .bf16 (shapeCast S4096x512 (addf x y) shapeCasts_S2x2048x2x4x64_S4096x512) bitsLt_bf16_f32

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v70) = OUTR (VALS (addf (CATV (A2 m c) (A0 m c)) (CATV (A3 m c) (A1 m c)))) (KEYS (addf (CATK (A2 m c) (A0 m c)) (CATK (A3 m c) (A1 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (run (F := Ideal) m ρ)

end Cert.DkvCombineRefIdeal.Value
-- ==== Proof.Index.lean ====
/- Small facts about two-dimensional indices. -/
module

public import Idealize.ShloMosaic.Lib.Pointwise

@[expose] public section

namespace Cert.Index

open Idealize.ShloMosaic

theorem ix2_ext {n0 n1 : Nat} {a a' : Fin n0} {b b' : Fin n1} (h : a.val = a'.val) (h' : b.val = b'.val) : ix2 a b = ix2 a' b' := by
  rw [Fin.ext h, Fin.ext h']

theorem ix3_ext {n0 n1 n2 : Nat} {a a' : Fin n0} {b b' : Fin n1} {d d' : Fin n2} (h : a.val = a'.val) (h' : b.val = b'.val)
    (h'' : d.val = d'.val) : ix3 a b d = ix3 a' b' d' := by
  rw [Fin.ext h, Fin.ext h', Fin.ext h'']

end Cert.Index
-- ==== Proof.DkvCombineEq.lean ====
/- The equation of the summed key and value gradients: the reference's result is what the call's array holds. -/
module

public import proofs.«01_k».proof.Proof.DkvCombineArray
public import proofs.«01_k».proof.Proof.DkvCombineRef
public import proofs.«01_k».proof.Proof.Index

@[expose] public section

set_option maxRecDepth 16384

noncomputable section

namespace Cert.DkvCombineIdeal.Value

open Cert.DkvCombineRefIdeal Cert.DkvCombineRefIdeal.Gen Cert.DkvCombineRefIdeal.Value Idealize.ShloMosaic Idealize.ShloMosaic.TcCoe Idealize.SL.Sem
open Cert.Index

/-- Sequence `b`'s block `k`, row `r`, and head `h`'s lane `d` of the keys (`0`) or the values (`1`). -/
abbrev row (b : Fin 2) (k : Fin 16) (r : Fin 128) : Fin 4096 := ⟨(b.val * 16 + k.val) * 128 + r.val, by omega⟩
abbrev lane (j : Fin 2) (h : Fin 4) (d : Fin 64) : Fin 512 := ⟨j.val * 256 + h.val * 64 + d.val, by omega⟩

section
variable (x y : FVec Ideal S4096x512 .f32) (b : Fin 2) (k : Fin 16) (r : Fin 128) (h : Fin 4) (d : Fin 64)

theorem CATK_prev (q : Fin 256) (hq : q.val = r.val) : CATK x y (ix5 b k q h d) = x (ix2 (row b k r) (lane 0 h d)) := by
  have hr := r.isLt
  pointwise [CATK]
  rw [dif_pos (by omega)]
  exact congrArg x (ix2_ext (by simp only; omega) (by simp only [Fin.val_zero]; omega))
theorem CATK_own (q : Fin 256) (hq : q.val = 128 + r.val) : CATK x y (ix5 b k q h d) = y (ix2 (row b k r) (lane 0 h d)) := by
  have hr := r.isLt
  pointwise [CATK]
  rw [dif_neg (by omega)]
  exact congrArg y (ix2_ext (by simp only; omega) (by simp only [Fin.val_zero]; omega))
theorem CATV_prev (q : Fin 256) (hq : q.val = r.val) : CATV x y (ix5 b k q h d) = x (ix2 (row b k r) (lane 1 h d)) := by
  have hr := r.isLt
  pointwise [CATV]
  rw [dif_pos (by omega)]
  exact congrArg x (ix2_ext (by simp only; omega) (by simp only [Fin.val_one]))
theorem CATV_own (q : Fin 256) (hq : q.val = 128 + r.val) : CATV x y (ix5 b k q h d) = y (ix2 (row b k r) (lane 1 h d)) := by
  have hr := r.isLt
  pointwise [CATV]
  rw [dif_neg (by omega)]
  exact congrArg y (ix2_ext (by simp only; omega) (by simp only [Fin.val_one]))
end

section
variable (w : FVec Ideal S2x16x256x4x64 .f32) (b : Fin 2) (s : Fin 2048) (h : Fin 4) (d : Fin 64)

/-- A block's own part and, but in a sequence's last block, the next block's. -/
def HALF : EReal := w (ix5 b ⟨s.val / 128, by omega⟩ ⟨128 + s.val % 128, by omega⟩ h d)
  + if g : s.val / 128 < 15 then w (ix5 b ⟨1 + s.val / 128, by omega⟩ ⟨s.val % 128, by omega⟩ h d) else 0

theorem KEYS_apply (j : Fin 2) : KEYS w (ix5 b s j h d) = if j.val < 1 then HALF w b s h d else 0 := by
  have e : s.val % 128 < 128 := Nat.mod_lt _ (by norm_num)
  pointwise [KEYS]
  simp only [e, and_true]
  rfl
theorem VALS_apply (j : Fin 2) : VALS w (ix5 b s j h d) = if 1 ≤ j.val ∧ j.val - 1 < 1 then HALF w b s h d else 0 := by
  have e : s.val % 128 < 128 := Nat.mod_lt _ (by norm_num)
  pointwise [VALS]
  simp only [e, and_true]
  rfl
end

/-- A half's entry, where the array's blocks are the two columns' own and previous blocks. -/
theorem HALF_eq (w : FVec Ideal S2x16x256x4x64 .f32) (c0 c1 p0 p1 : FVec Ideal S4096x512 .f32) (h : Fin 4) (d : Fin 64) (i : Fin 4096) (n : Fin 512)
    (hp : ∀ b k r q, q.val = r.val → w (ix5 b k q h d) = p0 (ix2 (row b k r) n) + p1 (ix2 (row b k r) n))
    (ho : ∀ b k r q, q.val = 128 + r.val → w (ix5 b k q h d) = c0 (ix2 (row b k r) n) + c1 (ix2 (row b k r) n)) :
    HALF w ⟨i.val / 2048, by omega⟩ ⟨i.val % 2048, by omega⟩ h d = SUM c0 c1 p0 p1 i n := by
  have e : row ⟨i.val / 2048, by omega⟩ ⟨i.val % 2048 / 128, by omega⟩ ⟨i.val % 2048 % 128, by omega⟩ = i := Fin.ext (by simp only; omega)
  unfold HALF SUM
  rw [ho _ _ ⟨i.val % 2048 % 128, by omega⟩ _ rfl, e]
  refine congrArg₂ (· + ·) rfl ?_
  by_cases g : i.val % 2048 / 128 < 15
  · have g' : more i := by unfold more; omega
    have e' : row ⟨i.val / 2048, by omega⟩ ⟨1 + i.val % 2048 / 128, by omega⟩ ⟨i.val % 2048 % 128, by omega⟩ = next i g' :=
      Fin.ext (by simp only; omega)
    rw [dif_pos g, dif_pos g', hp _ _ ⟨i.val % 2048 % 128, by omega⟩ _ rfl, e']
  · have g' : ¬ more i := by unfold more; omega
    rw [dif_neg g, dif_neg g']

theorem OUTR_apply (v k : FVec Ideal S2x2048x2x4x64 .f32) (i : Fin 4096) (n : Fin 512) : OUTR v k (ix2 i n)
    = v (ix5 ⟨i.val / 2048, by omega⟩ ⟨i.val % 2048, by omega⟩ ⟨n.val / 256, by omega⟩ ⟨n.val / 64 % 4, by omega⟩ ⟨n.val % 64, by omega⟩)
      + k (ix5 ⟨i.val / 2048, by omega⟩ ⟨i.val % 2048, by omega⟩ ⟨n.val / 256, by omega⟩ ⟨n.val / 64 % 4, by omega⟩ ⟨n.val % 64, by omega⟩) := by
  pointwise [OUTR]

/-- The reference's result. -/
theorem result_eq (c0 c1 p0 p1 : FVec Ideal S4096x512 .f32) (i : Fin 4096) (n : Fin 512) :
    OUTR (VALS (addf (CATV p0 c0) (CATV p1 c1))) (KEYS (addf (CATK p0 c0) (CATK p1 c1))) (ix2 i n) = SUM c0 c1 p0 p1 i n := by
  rw [OUTR_apply, VALS_apply, KEYS_apply]
  by_cases h : n.val < 256
  · have c : n.val / 256 < 1 := by omega
    have c' : ¬ (1 ≤ n.val / 256 ∧ n.val / 256 - 1 < 1) := by omega
    have e : lane 0 ⟨n.val / 64 % 4, by omega⟩ ⟨n.val % 64, by omega⟩ = n := Fin.ext (by simp only [Fin.val_zero]; omega)
    rw [if_pos c, if_neg c', zero_add]
    refine HALF_eq _ c0 c1 p0 p1 _ _ i n (fun b k r q hq => ?_) (fun b k r q hq => ?_)
    · exact congrArg₂ (· + ·) ((CATK_prev p0 c0 b k r _ _ q hq).trans (by rw [e])) ((CATK_prev p1 c1 b k r _ _ q hq).trans (by rw [e]))
    · exact congrArg₂ (· + ·) ((CATK_own p0 c0 b k r _ _ q hq).trans (by rw [e])) ((CATK_own p1 c1 b k r _ _ q hq).trans (by rw [e]))
  · have c : ¬ n.val / 256 < 1 := by omega
    have c' : 1 ≤ n.val / 256 ∧ n.val / 256 - 1 < 1 := by omega
    have e : lane 1 ⟨n.val / 64 % 4, by omega⟩ ⟨n.val % 64, by omega⟩ = n := Fin.ext (by simp only [Fin.val_one]; omega)
    rw [if_neg c, if_pos c', add_zero]
    refine HALF_eq _ c0 c1 p0 p1 _ _ i n (fun b k r q hq => ?_) (fun b k r q hq => ?_)
    · exact congrArg₂ (· + ·) ((CATV_prev p0 c0 b k r _ _ q hq).trans (by rw [e])) ((CATV_prev p1 c1 b k r _ _ q hq).trans (by rw [e]))
    · exact congrArg₂ (· + ·) ((CATV_own p0 c0 b k r _ _ q hq).trans (by rw [e])) ((CATV_own p1 c1 b k r _ _ q hq).trans (by rw [e]))

/-- The reference's result over the call's arguments is the call's array. -/
theorem OUT_eq (m : (ℓ : Loc Cert.DkvCombineIdeal.nD Cert.DkvCombineIdeal.τ Cert.DkvCombineIdeal.sig) → Buf (Elt Ideal) ℓ) (c : Dev Cert.DkvCombineIdeal.nD) :
    OUTR (VALS (addf (CATV (B2 m c) (B0 m c)) (CATV (B3 m c) (B1 m c)))) (KEYS (addf (CATK (B2 m c) (B0 m c)) (CATK (B3 m c) (B1 m c)))) = OUT m c :=
  funext fun i => (congrArg _ (ix2_eta i).symm).trans (result_eq (B0 m c) (B1 m c) (B2 m c) (B3 m c) (i 0) (i 1))

end Cert.DkvCombineIdeal.Value
-- ==== Proof.DkvCombineClaims.lean ====
/- The claims about the call that sums the key and value gradients. -/
module

public import proofs.«01_k».proof.Defs
public import proofs.«01_k».proof.Proof.DkvCombineEq
public import proofs.«01_k».proof.Proof.Gen.DkvCombine
public import proofs.«01_k».proof.Proof.Gen.DkvCombine.Frame
public import Idealize.ShloMosaic.Lib.Claim
public import Idealize.ShloMosaic.Adequacy
public import Idealize.ShloMosaic.Init

@[expose] public section

noncomputable section

namespace Cert.Proof

open Idealize.ShloMosaic Idealize.SL.Sem

theorem dkvCombine_reference : Cert.quiescent_DkvCombineRefIdeal := fun m ρ _ =>
  (θ_run Cert.DkvCombineRefIdeal.defs _ _).mono (fun r h => ⟨fun c => (h c).2, sem_eq_zero_of_no_sems (by decide) r.2⟩)
    (Cert.DkvCombineRefIdeal.Value.run (F := Ideal) m ρ)

theorem dkvCombine_algebraic : Cert.algebraic_DkvCombineIdeal_DkvCombineRefIdeal := by
  pair_intro
  · run_from Cert.DkvCombineIdeal.Value.run_blocks m g
  · run_from Cert.DkvCombineRefIdeal.Value.run_defs m' g'
    rw [Cert.DkvCombineIdeal.Value.final4, ← Cert.DkvCombineIdeal.Value.OUT_eq]

end Cert.Proof
-- ==== Proof.Norm.lean ====
/- The root-mean-square norm of a row of 1024 entries and its gradient, over the extended reals: the gradient written by
   hand and the one the chain rule writes are equal where the row and the incoming gradient are real numbers. -/
module

public import proofs.«01_k».proof.Proof.Reals

@[expose] public section

noncomputable section

namespace Cert.Norm

open Idealize.ShloMosaic

/-- The row's length. -/
abbrev K : EReal := Ideal.ofBits .f32 0x44800000#32

theorem K_eq : K = ((1024 : ℝ) : EReal) := by
  simp [K, Ideal.ofBits, Ideal.ieee, -EReal.coe_mul]; norm_num

/-- What is added to the mean square. -/
abbrev eps : EReal := Ideal.ofBits .f32 0x358637BD#32

theorem eps_eq : ∃ e : ℝ, 0 < e ∧ eps = (e : EReal) := by
  refine ⟨(8796093 : ℝ) / 2 ^ 43, by positivity, ?_⟩
  simp [eps, Ideal.ofBits, Ideal.ieee, -EReal.coe_mul]; norm_num

/-- Minus a half. -/
abbrev mhalf : EReal := Ideal.ofBits .f32 0xBF000000#32

theorem mhalf_eq : mhalf = ((-(1 / 2) : ℝ) : EReal) := by
  simp [mhalf, Ideal.ofBits, Ideal.ieee, -EReal.coe_mul]; norm_num

variable {n : ℕ}

/-- The mean square, and what is added to it. -/
def msq (x : Fin n → EReal) : EReal := Ideal.div (∑ i, x i * x i) K + eps

/-- The inverse of the row's root mean square. -/
def rinv (x : Fin n → EReal) : EReal := Ideal.rsqrt (msq x)

/-- The gradient written by hand. -/
def hand (g x : Fin n → EReal) (i : Fin n) : EReal :=
  rinv x * (g i - x i * rinv x * Ideal.div (∑ j, g j * (x j * rinv x)) K)

/-- The gradient through the mean square. -/
def through (g x : Fin n → EReal) : EReal :=
  Ideal.div ((∑ j, x j * g j) * (mhalf * Ideal.div (rinv x) (msq x))) K

/-- The gradient by the chain rule. -/
def chain (g x : Fin n → EReal) (i : Fin n) : EReal := g i * rinv x + x i * through g x + through g x * x i

theorem msq_real (x : Fin n → ℝ) : ∃ M : ℝ, 0 < M ∧ msq (fun i => (x i : EReal)) = (M : EReal) := by
  obtain ⟨e, he, h⟩ := eps_eq
  refine ⟨(∑ i, x i * x i) / 1024 + e, add_pos_of_nonneg_of_pos (div_nonneg (Finset.sum_nonneg fun i _ => mul_self_nonneg _) (by norm_num)) he, ?_⟩
  simp only [msq, h, K_eq, ← EReal.coe_mul, Reals.coe_sum]
  rw [Reals.div_coe_coe _ (by norm_num), EReal.coe_add]

theorem rinv_real (x : Fin n → ℝ) : ∃ r M : ℝ, 0 < M ∧ r * r = M⁻¹ ∧ msq (fun i => (x i : EReal)) = (M : EReal)
    ∧ rinv (fun i => (x i : EReal)) = (r : EReal) := by
  obtain ⟨M, hM, h⟩ := msq_real x
  refine ⟨(Real.sqrt M)⁻¹, M, hM, ?_, h, ?_⟩
  · rw [← mul_inv, Real.mul_self_sqrt hM.le]
  · rw [rinv, h, Ideal.rsqrt_coe, if_neg hM.le.not_gt, if_neg hM.ne']

theorem rinv_is_real {x : Fin n → EReal} (hx : ∀ i, ∃ r : ℝ, x i = (r : EReal)) : ∃ r : ℝ, rinv x = (r : EReal) := by
  obtain ⟨a, rfl⟩ := Reals.choose hx
  obtain ⟨r, _, _, _, _, h⟩ := rinv_real a
  exact ⟨r, h⟩

/-- The two gradients are equal on real numbers. -/
theorem hand_eq {g x : Fin n → EReal} (hg : ∀ i, ∃ r : ℝ, g i = (r : EReal)) (hx : ∀ i, ∃ r : ℝ, x i = (r : EReal)) (i : Fin n) :
    hand g x i = chain g x i := by
  obtain ⟨a, rfl⟩ := Reals.choose hx
  obtain ⟨b, rfl⟩ := Reals.choose hg
  obtain ⟨r, M, hM, hr, h1, h2⟩ := rinv_real a
  have e : ∑ j, b j * (a j * r) = (∑ j, a j * b j) * r := by
    rw [Finset.sum_mul]
    exact Finset.sum_congr rfl fun j _ => by ring
  simp only [hand, chain, through, h1, h2, K_eq, mhalf_eq, ← EReal.coe_mul, Reals.coe_sum, Reals.div_coe_coe _ hM.ne',
    Reals.div_coe_coe _ (show (1024 : ℝ) ≠ 0 by norm_num), ← EReal.coe_sub, ← EReal.coe_add]
  rw [e]
  refine congrArg _ ?_
  have h3 : r / M = r * (r * r) := by rw [hr, div_eq_mul_inv]
  rw [h3]
  ring

end Cert.Norm
-- ==== Proof.LossArray.lean ====
/- What the loss call leaves in its four result arrays. -/
module

public import proofs.«01_k».proof.Proof.Gen.LossIdeal.Value
public import Idealize.ShloMosaic.Lib.Pipeline.ValueKit
public import Idealize.ShloMosaic.Lib.Pointwise
public import proofs.«01_k».proof.Proof.Norm
public import proofs.«01_k».proof.Proof.Index

@[expose] public section

set_option maxRecDepth 16384

noncomputable section

namespace Cert.LossIdeal.Value

open Cert.Norm Cert.Index Cert.LossIdeal Cert.LossIdeal.Gen Idealize.ShloMosaic Idealize.ShloMosaic.TcCoe Idealize.SL.Sem
open Idealize.ShloMosaic.Pipeline (Dat)

/-- One over the number of features. -/
abbrev C : EReal := Ideal.ofBits .f32 0x3A800000#32

section
variable {n : ℕ} (x : FVec Ideal ⟨2, ![n, 1024]⟩ .f32) (y : FVec Ideal ⟨2, ![n, 1024]⟩ .bf16) (g : FVec Ideal S1x1024 .f32) (t : FVec Ideal ⟨2, ![n, 1024]⟩ .f32)

/-- The branch's row of token `i`. -/
def row (i : Fin n) (k : Fin 1024) : EReal := y (ix2 i k)
/-- The prediction's error. -/
def err (i : Fin n) (k : Fin 1024) : EReal := x (ix2 i k) + row y i k * rinv (row y i) * g (ix2 0 k) - t (ix2 i k)
/-- The loss's gradient in the prediction. -/
def dx (i : Fin n) (k : Fin 1024) : EReal := err x y g t i k * C
/-- The gradient in the branch. -/
def dy (i : Fin n) (k : Fin 1024) : EReal := hand (fun k => dx x y g t i k * g (ix2 0 k)) (row y i) k
/-- A token's part of the scale's gradient. -/
def dg (i : Fin n) (k : Fin 1024) : EReal := dx x y g t i k * (row y i k * rinv (row y i))
end

/-- The branch's gradient, of any row and incoming gradient. -/
theorem pay3_any (y d : FVec Ideal S512x1024 .f32) (g : FVec Ideal S1x1024 .f32) (r : Fin 512) (k : Fin 1024) :
    k0_pay3 (F := Ideal) y d g (ix2 r k) = hand (fun k => d (ix2 r k) * g (ix2 0 k)) (fun k => y (ix2 r k)) k := by
  pointwise [k0_pay3, k0_pay2, k0_pay1]
  rfl

section
variable (x : FVec Ideal S512x1024 .f32) (y : FVec Ideal S512x1024 .bf16) (g : FVec Ideal S1x1024 .f32) (t : FVec Ideal S512x1024 .f32)
  (acc : FVec Ideal S1x1024 .f32) (r : Fin 512) (k : Fin 1024)

theorem pay8 : k0_pay8 (F := Ideal) y x g t (ix2 r k) = err x y g t r k := by
  pointwise [k0_pay8, k0_pay7]
  rfl
theorem pay7 : k0_pay7 (F := Ideal) y (ix2 r k) = y (ix2 r k) := by pointwise [k0_pay7]
theorem pay9 : k0_pay9 (F := Ideal) y x g t (ix2 r k) = dx x y g t r k := by
  pointwise [k0_pay9]
  rw [pay8]
  rfl
theorem pay2 : k0_pay2 (F := Ideal) (k0_pay7 (F := Ideal) y) (ix2 r k) = row y r k * rinv (row y r) := by
  pointwise [k0_pay2, k0_pay1, k0_pay7]
  rfl
theorem pay3 : k0_pay3 (F := Ideal) (k0_pay7 (F := Ideal) y) (k0_pay9 (F := Ideal) y x g t) g (ix2 r k) = dy x y g t r k := by
  refine (pay3_any _ _ g r k).trans ?_
  simp only [pay9, pay7]
  rfl
theorem pay4 : k0_pay4 (F := Ideal) (k0_pay7 (F := Ideal) y) (k0_pay9 (F := Ideal) y x g t) acc (ix2 0 k) = acc (ix2 0 k) + ∑ r, dg x y g t r k := by
  pointwise [k0_pay4]
  simp only [pay2, pay9]
  rfl
theorem pay10 : k0_pay10 (F := Ideal) y x g t acc (ix2 0 k) = acc (ix2 0 k) + ∑ r, err x y g t r k * err x y g t r k := by
  pointwise [k0_pay10]
  simp only [pay8]
end

theorem pay5 (j) : k0_pay5 (F := Ideal) j = 0 := by pointwise [k0_pay5]
theorem pay6 (j) : k0_pay6 (F := Ideal) j = 0 := by pointwise [k0_pay6]

variable (m : (ℓ : Loc nD τ sig) → Buf (Elt Ideal) ℓ) (c : Dev nD)

/-- The call's arguments: the arrays by tokens, the scale as a row. -/
def X : FVec Ideal S4096x1024 .f32 := shapeCast S4096x1024 (m ((c : Thread nD τ).loc main_arg0) : FVec Ideal S2x2048x1024 .f32) shapeCasts_S2x2048x1024_S4096x1024
def Y : FVec Ideal S4096x1024 .bf16 := shapeCast S4096x1024 (m ((c : Thread nD τ).loc main_arg1) : FVec Ideal S2x2048x1024 .bf16) shapeCasts_S2x2048x1024_S4096x1024
def G : FVec Ideal S1x1024 .f32 := shapeCast S1x1024 (m ((c : Thread nD τ).loc main_arg2) : FVec Ideal S1024 .f32) shapeCasts_S1024_S1x1024
def T : FVec Ideal S4096x1024 .f32 := shapeCast S4096x1024 (m ((c : Thread nD τ).loc main_arg3) : FVec Ideal S2x2048x1024 .f32) shapeCasts_S2x2048x1024_S4096x1024

theorem V0 : V m c main_v0 = X m c := by entry_read; rfl
theorem V1 : V m c main_v1 = Y m c := by entry_read; rfl
theorem V2 : V m c main_v2 = G m c := by entry_read; rfl
theorem V3 : V m c main_v3 = T m c := by entry_read; rfl

theorem lt8 (t : Fin cfg0.N) : t.val < 8 := t.isLt

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0] ∧ win0_7.index t = ![0, 0] :=
  (by decide +kernel : ∀ t : Fin grid0.N, _)

/-- Row `r` of point `t`'s block. -/
abbrev tok (t : Fin cfg0.N) (r : Fin 512) : Fin 4096 := ⟨t.val * 512 + r.val, by have := lt8 t; omega⟩

theorem blk0 (t : Fin cfg0.N) (r : Fin 512) (k : Fin 1024) : (iblk m c 0 t : FVec Ideal S512x1024 .f32) (ix2 r k) = X m c (ix2 (tok t r) k) := by
  rw [← V0]; blk_ext! [iblk, idx t]
theorem blk1 (t : Fin cfg0.N) (r : Fin 512) (k : Fin 1024) : (iblk m c 1 t : FVec Ideal S512x1024 .bf16) (ix2 r k) = Y m c (ix2 (tok t r) k) := by
  rw [← V1]; blk_ext! [iblk, idx t]
theorem blk2 (t : Fin cfg0.N) (k : Fin 1024) : (iblk m c 2 t : FVec Ideal S1x1024 .f32) (ix2 0 k) = G m c (ix2 0 k) := by
  rw [← V2]; blk_ext! [iblk, idx t]
theorem blk3 (t : Fin cfg0.N) (r : Fin 512) (k : Fin 1024) : (iblk m c 3 t : FVec Ideal S512x1024 .f32) (ix2 r k) = T m c (ix2 (tok t r) k) := by
  rw [← V3]; blk_ext! [iblk, idx t]

theorem row_eq (t : Fin cfg0.N) (r : Fin 512) : row (iblk m c 1 t) r = row (Y m c) (tok t r) := funext fun k => blk1 m c t r k
theorem err_eq (t : Fin cfg0.N) (r : Fin 512) (k : Fin 1024) : err (iblk m c 0 t) (iblk m c 1 t) (iblk m c 2 t) (iblk m c 3 t) r k
    = err (X m c) (Y m c) (G m c) (T m c) (tok t r) k := by
  unfold err
  rw [row_eq, blk0, blk2, blk3]
theorem dx_eq (t : Fin cfg0.N) (r : Fin 512) (k : Fin 1024) : dx (iblk m c 0 t) (iblk m c 1 t) (iblk m c 2 t) (iblk m c 3 t) r k
    = dx (X m c) (Y m c) (G m c) (T m c) (tok t r) k := by
  unfold dx
  rw [err_eq]
theorem dy_eq (t : Fin cfg0.N) (r : Fin 512) (k : Fin 1024) : dy (iblk m c 0 t) (iblk m c 1 t) (iblk m c 2 t) (iblk m c 3 t) r k
    = dy (X m c) (Y m c) (G m c) (T m c) (tok t r) k := by
  unfold dy
  simp only [dx_eq, row_eq, blk2]
theorem dg_eq (t : Fin cfg0.N) (r : Fin 512) (k : Fin 1024) : dg (iblk m c 0 t) (iblk m c 1 t) (iblk m c 2 t) (iblk m c 3 t) r k
    = dg (X m c) (Y m c) (G m c) (T m c) (tok t r) k := by
  unfold dg
  rw [dx_eq, row_eq]

/-- The four results. -/
def DX (i : S4096x1024.Idx) : EReal := dx (X m c) (Y m c) (G m c) (T m c) (i 0) (i 1)
def SQ (j : S1x1024.Idx) : EReal := ∑ i, err (X m c) (Y m c) (G m c) (T m c) i (j 1) * err (X m c) (Y m c) (G m c) (T m c) i (j 1)
def DY (i : S4096x1024.Idx) : EReal := dy (X m c) (Y m c) (G m c) (T m c) (i 0) (i 1)
def DG (j : S1x1024.Idx) : EReal := ∑ i, dg (X m c) (Y m c) (G m c) (T m c) i (j 1)

theorem emb4 (t : Fin cfg0.N) (y : S512x1024.Idx) : (win0_4.blk t).view.emb y = ix2 (tok t (y 0)) (y 1) := by blk_ext! [idx t]
theorem emb6 (t : Fin cfg0.N) (y : S512x1024.Idx) : (win0_6.blk t).view.emb y = ix2 (tok t (y 0)) (y 1) := by blk_ext! [idx t]
theorem emb5 (t : Fin cfg0.N) (y : S1x1024.Idx) : (win0_5.blk t).view.emb y = y := by blk_ext! [idx t]
theorem emb7 (t : Fin cfg0.N) (y : S1x1024.Idx) : (win0_7.blk t).view.emb y = y := by blk_ext! [idx t]

theorem block4 (t : Fin cfg0.N) (y : S512x1024.Idx) (i : S4096x1024.Idx) (hi : i = ix2 (tok t (y 0)) (y 1)) :
    k0_pay9 (F := Ideal) (iblk m c 1 t) (iblk m c 0 t) (iblk m c 2 t) (iblk m c 3 t) y = DX m c i := by
  subst hi
  exact (congrArg _ (ix2_eta y).symm).trans ((pay9 _ _ _ _ (y 0) (y 1)).trans (dx_eq m c t (y 0) (y 1)))
theorem block6 (t : Fin cfg0.N) (y : S512x1024.Idx) (i : S4096x1024.Idx) (hi : i = ix2 (tok t (y 0)) (y 1)) :
    k0_pay3 (F := Ideal) (k0_pay7 (iblk m c 1 t)) (k0_pay9 (iblk m c 1 t) (iblk m c 0 t) (iblk m c 2 t) (iblk m c 3 t)) (iblk m c 2 t) y = DY m c i := by
  subst hi
  exact (congrArg _ (ix2_eta y).symm).trans ((pay3 _ _ _ _ (y 0) (y 1)).trans (dy_eq m c t (y 0) (y 1)))

/-- The loss's gradient in the prediction. -/
theorem final4 : (dats m 0 c).arrAt 4 (cfgs 0).N = DX m c := by
  refine (dats m 0 c).arrAt_eq_of_covers 4 _ (by decide +kernel) fun t hf y => ?_
  blk_simp
  rw [after0_4]
  have key : (outsAt0 m c t.val t.isLt).1 = k0_pay9 (iblk m c 1 t) (iblk m c 0 t) (iblk m c 2 t) (iblk m c 3 t) := by
    by_cases h : t.val % 8 = 0
    · rw [outsAt0_A m c t h]
      frame_out
    · rw [outsAt0_B m c t h]
      frame_out
  rw [key]
  exact block4 m c t y _ (emb4 t y)

/-- The gradient in the branch. -/
theorem final6 : (dats m 0 c).arrAt 6 (cfgs 0).N = DY m c := by
  refine (dats m 0 c).arrAt_eq_of_covers 6 _ (by decide +kernel) fun t hf y => ?_
  blk_simp
  rw [after0_6]
  have key : (outsAt0 m c t.val t.isLt).2.2.1 = k0_pay3 (k0_pay7 (iblk m c 1 t)) (k0_pay9 (iblk m c 1 t) (iblk m c 0 t) (iblk m c 2 t) (iblk m c 3 t)) (iblk m c 2 t) := by
    by_cases h : t.val % 8 = 0
    · rw [outsAt0_A m c t h]
      frame_out
    · rw [outsAt0_B m c t h]
      frame_out
  rw [key]
  exact block6 m c t y _ (emb6 t y)

theorem one_eta (j : S1x1024.Idx) : j = ix2 0 (j 1) :=
  (ix2_eta j).symm.trans (ix2_ext (by have h : (j 0).val < 1 := (j 0).isLt; show (j 0).val = 0; omega) rfl)

theorem run_tok (t : Fin cfg0.N) (hr : t.val % 8 = 8 - 1) (s : Fin 8) (r : Fin 512) :
    tok ⟨8 * (t.val / 8) + s.val, Pipeline.run_point_lt_of_flush t hr s⟩ r = ⟨s.val * 512 + r.val, by omega⟩ :=
  Fin.ext (by have := lt8 t; simp only; omega)

/-- A block's part of the squared errors' sum, and of the scale's gradient. -/
def sq (t : Fin cfg0.N) (k : Fin 1024) : EReal :=
  ∑ r, err (iblk m c 0 t) (iblk m c 1 t) (iblk m c 2 t) (iblk m c 3 t) r k * err (iblk m c 0 t) (iblk m c 1 t) (iblk m c 2 t) (iblk m c 3 t) r k
def dgs (t : Fin cfg0.N) (k : Fin 1024) : EReal := ∑ r, dg (iblk m c 0 t) (iblk m c 1 t) (iblk m c 2 t) (iblk m c 3 t) r k

theorem step10 (t : Fin cfg0.N) (acc : FVec Ideal S1x1024 .f32) (k : Fin 1024) :
    k0_pay10 (F := Ideal) (iblk m c 1 t) (iblk m c 0 t) (iblk m c 2 t) (iblk m c 3 t) acc (ix2 0 k) = acc (ix2 0 k) + sq m c t k :=
  pay10 (iblk m c 0 t) (iblk m c 1 t) (iblk m c 2 t) (iblk m c 3 t) acc k
theorem step4 (t : Fin cfg0.N) (acc : FVec Ideal S1x1024 .f32) (k : Fin 1024) :
    k0_pay4 (F := Ideal) (k0_pay7 (iblk m c 1 t)) (k0_pay9 (iblk m c 1 t) (iblk m c 0 t) (iblk m c 2 t) (iblk m c 3 t)) acc (ix2 0 k)
      = acc (ix2 0 k) + dgs m c t k :=
  pay4 (iblk m c 0 t) (iblk m c 1 t) (iblk m c 2 t) (iblk m c 3 t) acc k

/-- A sum that starts at zero at the row's every entry, or goes on from what it held. -/
theorem start {f : FVec Ideal S1x1024 .f32 → FVec Ideal S1x1024 .f32} {q : Fin 1024 → EReal} {z : FVec Ideal S1x1024 .f32} (hz : ∀ j, z j = 0)
    (h : ∀ acc k, f acc (ix2 0 k) = acc (ix2 0 k) + q k) (j : S1x1024.Idx) : f z j = 0 + q (j 1) := by
  obtain ⟨k, rfl⟩ : ∃ k : Fin 1024, j = ix2 0 k := ⟨j 1, one_eta j⟩
  rw [h, hz]
  rfl
theorem go {f : FVec Ideal S1x1024 .f32 → FVec Ideal S1x1024 .f32} {q : Fin 1024 → EReal} {z : FVec Ideal S1x1024 .f32}
    (h : ∀ acc k, f acc (ix2 0 k) = acc (ix2 0 k) + q k) (j : S1x1024.Idx) : f z j = z j + q (j 1) := by
  obtain ⟨k, rfl⟩ : ∃ k : Fin 1024, j = ix2 0 k := ⟨j 1, one_eta j⟩
  rw [h]
  rfl

/-- A sum over all the tokens, a block of 512 at a time. -/
theorem sum_tok (t : Fin cfg0.N) (hr : t.val % 8 = 8 - 1) (g : Fin 4096 → EReal) :
    ∑ s : Fin 8, ∑ r : Fin 512, g (tok ⟨8 * (t.val / 8) + s.val, Pipeline.run_point_lt_of_flush t hr s⟩ r) = ∑ n, g n := by
  refine Eq.trans ?_ (Fin.sum_univ_tiles 8 512 rfl g).symm
  exact Finset.sum_congr rfl fun s _ => Finset.sum_congr rfl fun r _ => congrArg g (run_tok t hr s r)

theorem sq_eq (t : Fin cfg0.N) (k : Fin 1024) :
    sq m c t k = ∑ r, err (X m c) (Y m c) (G m c) (T m c) (tok t r) k * err (X m c) (Y m c) (G m c) (T m c) (tok t r) k := by
  unfold sq
  exact Finset.sum_congr rfl fun r _ => by rw [err_eq]
theorem dgs_eq (t : Fin cfg0.N) (k : Fin 1024) :
    dgs m c t k = ∑ r, dg (X m c) (Y m c) (G m c) (T m c) (tok t r) k := by
  unfold dgs
  exact Finset.sum_congr rfl fun r _ => by rw [dg_eq]

def SQK (k : Fin 1024) : EReal := ∑ n : Fin 4096, err (X m c) (Y m c) (G m c) (T m c) n k * err (X m c) (Y m c) (G m c) (T m c) n k
def DGK (k : Fin 1024) : EReal := ∑ n : Fin 4096, dg (X m c) (Y m c) (G m c) (T m c) n k

theorem sq_sum (t : Fin cfg0.N) (hr : t.val % 8 = 8 - 1) (k : Fin 1024) :
    ∑ s : Fin 8, sq m c ⟨8 * (t.val / 8) + s.val, Pipeline.run_point_lt_of_flush t hr s⟩ k = SQK m c k := by
  unfold SQK
  rw [← sum_tok t hr]
  exact Finset.sum_congr rfl fun s _ => sq_eq m c _ k
theorem dg_sum (t : Fin cfg0.N) (hr : t.val % 8 = 8 - 1) (k : Fin 1024) :
    ∑ s : Fin 8, dgs m c ⟨8 * (t.val / 8) + s.val, Pipeline.run_point_lt_of_flush t hr s⟩ k = DGK m c k := by
  unfold DGK
  rw [← sum_tok t hr]
  exact Finset.sum_congr rfl fun s _ => dgs_eq m c _ k
theorem SQK_eq (i j : S1x1024.Idx) (h : i = j) : SQK m c (j 1) = SQ m c i := by subst h; rfl
theorem DGK_eq (i j : S1x1024.Idx) (h : i = j) : DGK m c (j 1) = DG m c i := by subst h; rfl

/-- The squared errors' sum. -/
theorem final5 : (dats m 0 c).arrAt 5 (cfgs 0).N = SQ m c := by
  refine (dats m 0 c).arrAt_eq_of_covers 5 _ (by decide +kernel) fun t hf y => ?_
  blk_simp
  rw [after0_5]
  have hr := (flush0_5 t).mp hf
  rw [Pipeline.eq_sum_fin_of_reset_step_apply_of_flush (fun n h => (outsAt0 m c n h).2.1) 8 (fun _ => 0)
    (fun t j => sq m c t (j 1))
    (fun t h j => by
      rw [outsAt0_A m c t h]
      frame_out
      exact start pay5 (step10 m c t) j)
    (fun t h j => by
      rw [outsAt0_B m c t h]
      frame_out
      exact go (step10 m c t) j)
    t hr _, zero_add]
  exact (sq_sum m c t hr (y 1)).trans (SQK_eq m c _ _ (emb5 t y))

/-- The scale's gradient. -/
theorem final7 : (dats m 0 c).arrAt 7 (cfgs 0).N = DG m c := by
  refine (dats m 0 c).arrAt_eq_of_covers 7 _ (by decide +kernel) fun t hf y => ?_
  blk_simp
  rw [after0_7]
  have hr := (flush0_7 t).mp hf
  rw [Pipeline.eq_sum_fin_of_reset_step_apply_of_flush (fun n h => (outsAt0 m c n h).2.2.2) 8 (fun _ => 0)
    (fun t j => dgs m c t (j 1))
    (fun t h j => by
      rw [outsAt0_A m c t h]
      frame_out
      exact start pay6 (step4 m c t) j)
    (fun t h j => by
      rw [outsAt0_B m c t h]
      frame_out
      exact go (step4 m c t) j)
    t hr _, zero_add]
  exact (dg_sum m c t hr (y 1)).trans (DGK_eq m c _ _ (emb7 t y))

end Cert.LossIdeal.Value
-- ==== Proof.LossRef.lean ====
/- The reference of the loss and its gradient, array by array. -/
module

public import proofs.«01_k».proof.Proof.Gen.LossRefIdeal.Run
public import Idealize.ShloMosaic.Lib.Pointwise
public import proofs.«01_k».proof.Proof.Norm
public import proofs.«01_k».proof.Proof.Sums

@[expose] public section

set_option maxRecDepth 16384

noncomputable section

namespace Cert.LossRefIdeal.Value

open Cert.LossRefIdeal Cert.LossRefIdeal.Gen Idealize.ShloMosaic Idealize.ShloMosaic.TcCoe Idealize.SL.Sem

/-- A token's mean square, and what is added to it. -/
def MSR (x : FVec Ideal S2x2048x1024 .bf16) : FVec Ideal S2x2048x1 .f32 :=
  addf (Host.divf (broadcastInDim S2x2048x1 ![0, 1] bcast_S2x2048_S2x2048x1_0_1 (Host.reduceAdd (mulf (extf .f32 x bitsLt_bf16_f32) (extf .f32 x bitsLt_bf16_f32)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The inverse of a token's root mean square. -/
def RIR (x : FVec Ideal S2x2048x1024 .bf16) : FVec Ideal S2x2048x1 .f32 :=
  Host.rsqrt (MSR x)

/-- The prediction's error. -/
def ERRR (x : FVec Ideal S2x2048x1024 .f32) (y : FVec Ideal S2x2048x1024 .bf16) (z : FVec Ideal S1024 .f32) (w : FVec Ideal S2x2048x1024 .f32) : FVec Ideal S2x2048x1024 .f32 :=
  subf (addf x (mulf (mulf (extf .f32 y bitsLt_bf16_f32) (broadcastInDim S2x2048x1024 ![0, 1, 2] bcast_S2x2048x1_S2x2048x1024_0_1_2 (RIR y))) (broadcastInDim S2x2048x1024 ![0, 1, 2] bcast_S1x1x1024_S2x2048x1024_0_1_2 (broadcastInDim S1x1x1024 ![2] bcast_S1024_S1x1x1024_2 z)))) w

/-- The loss's gradient in the prediction. -/
def DXR (x : FVec Ideal S2x2048x1024 .f32) : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) x)

/-- The gradient in the normalised row. -/
def GR (x : FVec Ideal S2x2048x1024 .f32) (y : FVec Ideal S1024 .f32) : FVec Ideal S2x2048x1024 .f32 :=
  mulf x (broadcastInDim S2x2048x1024 ![0, 1, 2] bcast_S1x1x1024_S2x2048x1024_0_1_2 (broadcastInDim S1x1x1024 ![2] bcast_S1024_S1x1x1024_2 y))

/-- The first result, by tokens. -/
def DXO (x : FVec Ideal S2x2048x1024 .f32) : FVec Ideal S4096x1024 .f32 :=
  shapeCast S4096x1024 x shapeCasts_S2x2048x1024_S4096x1024

/-- The squared errors' sum over the tokens. -/
def SQR (x : FVec Ideal S2x2048x1024 .f32) : FVec Ideal S1x1024 .f32 :=
  shapeCast S1x1024 (Host.reduceAdd (mulf x x) (constant S_ .f32 0x00000000#32) reducesTo_S2x2048x1024_S1024_d0_1 h_S_) shapeCasts_S1024_S1x1024

/-- The gradient through the mean square, for a token. -/
def TRR (x : FVec Ideal S2x2048x1024 .bf16) (y : FVec Ideal S2x2048x1024 .f32) : FVec Ideal S2x2048 .f32 :=
  Host.reduceAdd (Host.divf (mulf (shapeCast S2x2048x1 (Host.reduceAdd (mulf (extf .f32 x bitsLt_bf16_f32) y) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (RIR x) (MSR x)))) (broadcastInDim S2x2048x1 ![] bcast_S_S2x2048x1 (constant S_ .f32 0x44800000#32))) (constant S_ .f32 0x00000000#32) reducesTo_S2x2048x1_S2x2048_d2 h_S_

/-- The gradient in the residual branch. -/
def DYR (x : FVec Ideal S2x2048x1024 .bf16) (y : FVec Ideal S2x2048x1024 .f32) : FVec Ideal S4096x1024 .bf16 :=
  shapeCast S4096x1024 (truncf .bf16 (addf (addf (mulf y (broadcastInDim S2x2048x1024 ![0, 1, 2] bcast_S2x2048x1_S2x2048x1024_0_1_2 (RIR x))) (mulf (extf .f32 x bitsLt_bf16_f32) (broadcastInDim S2x2048x1024 ![0, 1] bcast_S2x2048_S2x2048x1024_0_1 (TRR x y)))) (mulf (broadcastInDim S2x2048x1024 ![0, 1] bcast_S2x2048_S2x2048x1024_0_1 (TRR x y)) (extf .f32 x bitsLt_bf16_f32))) bitsLt_bf16_f32) shapeCasts_S2x2048x1024_S4096x1024

/-- The gradient in the norm's scale. -/
def DGR (x : FVec Ideal S2x2048x1024 .bf16) (y : FVec Ideal S2x2048x1024 .f32) : FVec Ideal S1x1024 .f32 :=
  shapeCast S1x1024 (Host.reduceAdd (shapeCast S1x1x1024 (Host.reduceAdd (mulf (mulf (extf .f32 x bitsLt_bf16_f32) (broadcastInDim S2x2048x1024 ![0, 1, 2] bcast_S2x2048x1_S2x2048x1024_0_1_2 (RIR x))) y) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v54) = DXO (DXR (ERRR (A0 m c) (A1 m c) (A2 m c) (A3 m c)))
      ∧ r.2.mem ((c.tc : Thread nD τ).loc main_v55) = SQR (ERRR (A0 m c) (A1 m c) (A2 m c) (A3 m c))
      ∧ r.2.mem ((c.tc : Thread nD τ).loc main_v57) = DYR (A1 m c) (GR (DXR (ERRR (A0 m c) (A1 m c) (A2 m c) (A3 m c))) (A2 m c))
      ∧ r.2.mem ((c.tc : Thread nD τ).loc main_v58) = DGR (A1 m c) (DXR (ERRR (A0 m c) (A1 m c) (A2 m c) (A3 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (run (F := Ideal) m ρ)

end Cert.LossRefIdeal.Value
-- ==== Proof.LossEq.lean ====
/- The equation of the loss and its gradient: where the arguments are real numbers, the reference's four results are what
   the call's four arrays hold. -/
module

public import proofs.«01_k».proof.Defs
public import proofs.«01_k».proof.Proof.LossArray
public import proofs.«01_k».proof.Proof.LossRef
public import proofs.«01_k».proof.Proof.Gen.Pre_finite_loss

@[expose] public section

set_option maxRecDepth 16384

noncomputable section

namespace Cert.LossIdeal.Value

open Cert.LossRefIdeal Cert.LossRefIdeal.Gen Cert.LossRefIdeal.Value Idealize.ShloMosaic Idealize.ShloMosaic.TcCoe Idealize.SL.Sem
open Cert.Norm Cert.Index

/-- Token `s` of sequence `b`, and its place among all the tokens. -/
abbrev tk (b : Fin 2) (s : Fin 2048) : Fin 4096 := ⟨b.val * 2048 + s.val, by omega⟩
theorem tk_eta (n : Fin 4096) : tk ⟨n.val / 2048, by omega⟩ ⟨n.val % 2048, by omega⟩ = n := Fin.ext (by simp only; omega)

/-- An array by sequences and tokens, and by tokens alone. -/
abbrev flat {φ : FTy} (a : FVec Ideal S2x2048x1024 φ) : FVec Ideal S4096x1024 φ := shapeCast S4096x1024 a shapeCasts_S2x2048x1024_S4096x1024
/-- A scale as a row. -/
abbrev line (a : FVec Ideal S1024 .f32) : FVec Ideal S1x1024 .f32 := shapeCast S1x1024 a shapeCasts_S1024_S1x1024

theorem flat_tk {φ : FTy} (a : FVec Ideal S2x2048x1024 φ) (b : Fin 2) (s : Fin 2048) (k : Fin 1024) : flat a (ix2 (tk b s) k) = a (ix3 b s k) := by
  pointwise
  exact congrArg a (ix3_ext (by simp only; omega) (by simp only; omega) rfl)
theorem flat_apply {φ : FTy} (a : FVec Ideal S2x2048x1024 φ) (n : Fin 4096) (k : Fin 1024) :
    flat a (ix2 n k) = a (ix3 ⟨n.val / 2048, by omega⟩ ⟨n.val % 2048, by omega⟩ k) := by pointwise
theorem line_apply (a : FVec Ideal S1024 .f32) (k : Fin 1024) : line a (ix2 0 k) = a (ix1 k) := by pointwise

/-- A sum over sequences and their tokens is one over all the tokens. -/
theorem sum_tk (g : Fin 4096 → EReal) : ∑ b : Fin 2, ∑ s : Fin 2048, g (tk b s) = ∑ n, g n := (Fin.sum_univ_tiles 2 2048 rfl g).symm

/-! The reference's arrays, entry by entry. -/

theorem MSR_apply (y : FVec Ideal S2x2048x1024 .bf16) (b : Fin 2) (s : Fin 2048) : MSR y (ix3 b s 0) = msq (fun k => y (ix3 b s k)) := by
  pointwise [MSR]
  rfl
theorem RIR_apply (y : FVec Ideal S2x2048x1024 .bf16) (b : Fin 2) (s : Fin 2048) : RIR y (ix3 b s 0) = rinv (fun k => y (ix3 b s k)) := by
  pointwise [RIR]
  rw [MSR_apply]
  rfl
theorem row_tk (y : FVec Ideal S2x2048x1024 .bf16) (b : Fin 2) (s : Fin 2048) : row (flat y) (tk b s) = fun k => y (ix3 b s k) :=
  funext fun k => flat_tk y b s k

variable (a0 : FVec Ideal S2x2048x1024 .f32) (a1 : FVec Ideal S2x2048x1024 .bf16) (a2 : FVec Ideal S1024 .f32) (a3 : FVec Ideal S2x2048x1024 .f32)

theorem ERRR_apply (b : Fin 2) (s : Fin 2048) (k : Fin 1024) :
    ERRR a0 a1 a2 a3 (ix3 b s k) = err (flat a0) (flat a1) (line a2) (flat a3) (tk b s) k := by
  have e : ERRR a0 a1 a2 a3 (ix3 b s k) = a0 (ix3 b s k) + a1 (ix3 b s k) * RIR a1 (ix3 b s 0) * a2 (ix1 k) - a3 (ix3 b s k) := by
    generalize hr : RIR a1 = r
    pointwise [ERRR]
    rw [hr]
  rw [e, RIR_apply, ← row_tk]
  unfold err
  rw [flat_tk, flat_tk, line_apply]
  exact congrArg (fun z => a0 (ix3 b s k) + z * _ * _ - _) (flat_tk a1 b s k).symm

theorem half_eq : Ideal.ofBits .f32 0x3F000000#32 = (((1 : ℝ) / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem C_eq : C = (((1 : ℝ) / 1024 : ℝ) : EReal) := by
  simp [C, Ideal.ofBits, Ideal.ieee, -EReal.coe_mul]; norm_num

/-- Half the mean square's derivative: a half times one over the number of features times twice the error. -/
theorem DXR_apply (x : FVec Ideal S2x2048x1024 .f32) (i : S2x2048x1024.Idx) : DXR x i = x i * C := by
  pointwise [DXR]
  show Ideal.div (Ideal.ofBits .f32 0x3F000000#32) K * (Ideal.ofBits .f32 0x40000000#32 * x i) = x i * C
  rw [half_eq, two_eq, C_eq, K_eq, Reals.div_coe_coe _ (by norm_num), ← mul_assoc, ← EReal.coe_mul, mul_comm]
  norm_num

theorem dx_tk (b : Fin 2) (s : Fin 2048) (k : Fin 1024) :
    DXR (ERRR a0 a1 a2 a3) (ix3 b s k) = dx (flat a0) (flat a1) (line a2) (flat a3) (tk b s) k := by
  rw [DXR_apply, ERRR_apply]
  rfl

theorem first_eq (n : Fin 4096) (k : Fin 1024) :
    DXO (DXR (ERRR a0 a1 a2 a3)) (ix2 n k) = dx (flat a0) (flat a1) (line a2) (flat a3) n k := by
  have e : DXO (DXR (ERRR a0 a1 a2 a3)) (ix2 n k) = DXR (ERRR a0 a1 a2 a3) (ix3 ⟨n.val / 2048, by omega⟩ ⟨n.val % 2048, by omega⟩ k) :=
    flat_apply _ n k
  rw [e, dx_tk, tk_eta]

theorem second_eq (k : Fin 1024) : SQR (ERRR a0 a1 a2 a3) (ix2 0 k)
    = ∑ n, err (flat a0) (flat a1) (line a2) (flat a3) n k * err (flat a0) (flat a1) (line a2) (flat a3) n k := by
  have e (x : FVec Ideal S2x2048x1024 .f32) : SQR x (ix2 0 k) = ∑ b, ∑ s, x (ix3 b s k) * x (ix3 b s k) := by
    pointwise [SQR]
  rw [e, ← sum_tk]
  exact Finset.sum_congr rfl fun b _ => Finset.sum_congr rfl fun s _ => by rw [ERRR_apply]

theorem fourth_eq (k : Fin 1024) : DGR a1 (DXR (ERRR a0 a1 a2 a3)) (ix2 0 k)
    = ∑ n, dg (flat a0) (flat a1) (line a2) (flat a3) n k := by
  have e (x : FVec Ideal S2x2048x1024 .f32) : DGR a1 x (ix2 0 k) = ∑ b, ∑ s, a1 (ix3 b s k) * RIR a1 (ix3 b s 0) * x (ix3 b s k) := by
    generalize hr : RIR a1 = r
    pointwise [DGR]
    rw [hr]
    simp only [Finset.univ_unique, Finset.sum_singleton]
  rw [e, ← sum_tk]
  refine Finset.sum_congr rfl fun b _ => Finset.sum_congr rfl fun s _ => ?_
  rw [dx_tk, RIR_apply, ← row_tk, mul_comm]
  exact congrArg (fun z => _ * (z * _)) (flat_tk a1 b s k).symm

theorem TRR_apply (g : FVec Ideal S2x2048x1024 .f32) (b : Fin 2) (s : Fin 2048) :
    TRR a1 g (ix2 b s) = through (fun k => g (ix3 b s k)) (fun k => a1 (ix3 b s k)) := by
  have h := RIR_apply a1 b s
  have h' := MSR_apply a1 b s
  generalize hr : RIR a1 = r at h
  generalize hM : MSR a1 = M at h'
  pointwise [TRR]
  rw [hr, hM]
  simp only [Finset.univ_unique, Finset.sum_singleton]
  unfold through
  rw [← h, ← h']
  rfl

/-- The branch's gradient, of any gradient in the normalised row. -/
theorem DYR_apply (g : FVec Ideal S2x2048x1024 .f32) (b : Fin 2) (s : Fin 2048) (n : Fin 4096) (hn : n = tk b s) (k : Fin 1024) :
    DYR a1 g (ix2 n k) = chain (fun k => g (ix3 b s k)) (fun k => a1 (ix3 b s k)) k := by
  have hb : (⟨n.val / 2048, by omega⟩ : Fin 2) = b := Fin.ext (by subst hn; simp only; omega)
  have hs : (⟨n.val % 2048, by omega⟩ : Fin 2048) = s := Fin.ext (by subst hn; simp only; omega)
  have h := RIR_apply a1 b s
  have h' := TRR_apply a1 g b s
  generalize hr : RIR a1 = r at h
  generalize hT : TRR a1 g = T at h'
  pointwise [DYR]
  rw [hr, hT]
  simp only [hb, hs]
  rw [h, h']
  rfl

theorem real_err (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (b : Fin 2) (s : Fin 2048) (k : Fin 1024) :
    ∃ r : ℝ, DXR (ERRR a0 a1 a2 a3) (ix3 b s k) = (r : EReal) := by
  rw [DXR_apply, ERRR_apply]
  unfold err
  rw [flat_tk, flat_tk, line_apply, row_tk]
  obtain ⟨w, hw⟩ := rinv_is_real fun k => h1 (ix3 b s k)
  obtain ⟨x, hx⟩ := h0 (ix3 b s k)
  obtain ⟨y, hy⟩ := h1 (ix3 b s k)
  obtain ⟨g, hg⟩ := h2 (ix1 k)
  obtain ⟨t, ht⟩ := h3 (ix3 b s k)
  rw [hw, hx, hg, ht, C_eq]
  simp only [hy]
  exact ⟨(x + y * w * g - t) * (1 / 1024), by simp only [EReal.coe_mul, EReal.coe_add, EReal.coe_sub]⟩

theorem third_eq (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (n : Fin 4096) (k : Fin 1024) :
    DYR a1 (GR (DXR (ERRR a0 a1 a2 a3)) a2) (ix2 n k) = dy (flat a0) (flat a1) (line a2) (flat a3) n k := by
  rw [DYR_apply a1 _ _ _ n (tk_eta n).symm]
  have e (x : FVec Ideal S2x2048x1024 .f32) (b : Fin 2) (s : Fin 2048) (k : Fin 1024) : GR x a2 (ix3 b s k) = x (ix3 b s k) * a2 (ix1 k) := by
    pointwise [GR]
  rw [← hand_eq (fun k => ?_) (fun k => h1 _)]
  · simp only [e, dx_tk, tk_eta]
    unfold dy
    rw [← row_tk, tk_eta]
    simp only [line_apply]
  · rw [e]
    obtain ⟨x, hx⟩ := real_err a0 a1 a2 a3 h0 h1 h2 h3 ⟨n.val / 2048, by omega⟩ ⟨n.val % 2048, by omega⟩ k
    obtain ⟨g, hg⟩ := h2 (ix1 k)
    exact ⟨x * g, by rw [hx, hg, EReal.coe_mul]⟩

section
variable (m : (ℓ : Loc Cert.LossIdeal.nD Cert.LossIdeal.τ Cert.LossIdeal.sig) → Buf (Elt Ideal) ℓ) (c : Dev Cert.LossIdeal.nD)

/-- The call's arguments. -/
abbrev B0 : FVec Ideal S2x2048x1024 .f32 := m ((c.tc : Thread _ _).loc Cert.LossIdeal.main_arg0)
abbrev B1 : FVec Ideal S2x2048x1024 .bf16 := m ((c.tc : Thread _ _).loc Cert.LossIdeal.main_arg1)
abbrev B2 : FVec Ideal S1024 .f32 := m ((c.tc : Thread _ _).loc Cert.LossIdeal.main_arg2)
abbrev B3 : FVec Ideal S2x2048x1024 .f32 := m ((c.tc : Thread _ _).loc Cert.LossIdeal.main_arg3)

/-- What the precondition says of the arguments. -/
theorem real_of_pre (h : Cert.Pre_LossIdeal_finite_loss m) :
    (∀ i, ∃ r : ℝ, B0 m c i = (r : EReal)) ∧ (∀ i, ∃ r : ℝ, B1 m c i = (r : EReal)) ∧ (∀ i, ∃ r : ℝ, B2 m c i = (r : EReal))
      ∧ (∀ i, ∃ r : ℝ, B3 m c i = (r : EReal)) := by
  have h := h c
  refine ⟨fun i => Reals.of_abs_lt ?_, fun i => Reals.of_abs_lt ?_, fun i => Reals.of_abs_lt ?_, fun i => Reals.of_abs_lt ?_⟩
  · have e := congrFun h.1 i
    simp only [Cert.Pre_finite_loss.fn, pointwise, Reals.ofBits_inf] at e
    exact e
  · have e := congrFun h.2.1 i
    simp only [Cert.Pre_finite_loss.fn, pointwise, Reals.ofBits_inf] at e
    exact e
  · have e := congrFun h.2.2.1 i
    simp only [Cert.Pre_finite_loss.fn, pointwise, Reals.ofBits_inf] at e
    exact e
  · have e := congrFun h.2.2.2 i
    simp only [Cert.Pre_finite_loss.fn, pointwise, Reals.ofBits_inf] at e
    exact e

/-! The reference's four results over the call's arguments are the call's four arrays. -/

theorem DX_eq : DXO (DXR (ERRR (B0 m c) (B1 m c) (B2 m c) (B3 m c))) = DX m c :=
  funext fun i => (congrArg _ (ix2_eta i).symm).trans (first_eq (B0 m c) (B1 m c) (B2 m c) (B3 m c) (i 0) (i 1))
theorem SQ_eq : SQR (ERRR (B0 m c) (B1 m c) (B2 m c) (B3 m c)) = SQ m c :=
  funext fun i => (congrArg _ (one_eta i)).trans (second_eq (B0 m c) (B1 m c) (B2 m c) (B3 m c) (i 1))
theorem DY_eq (h : Cert.Pre_LossIdeal_finite_loss m) : DYR (B1 m c) (GR (DXR (ERRR (B0 m c) (B1 m c) (B2 m c) (B3 m c))) (B2 m c)) = DY m c := by
  obtain ⟨h0, h1, h2, h3⟩ := real_of_pre m c h
  exact funext fun i => (congrArg _ (ix2_eta i).symm).trans (third_eq (B0 m c) (B1 m c) (B2 m c) (B3 m c) h0 h1 h2 h3 (i 0) (i 1))
theorem DG_eq : DGR (B1 m c) (DXR (ERRR (B0 m c) (B1 m c) (B2 m c) (B3 m c))) = DG m c :=
  funext fun i => (congrArg _ (one_eta i)).trans (fourth_eq (B0 m c) (B1 m c) (B2 m c) (B3 m c) (i 1))

end

end Cert.LossIdeal.Value
-- ==== Proof.LossClaims.lean ====
/- The claims about the loss call. -/
module

public import proofs.«01_k».proof.Proof.LossEq
public import proofs.«01_k».proof.Proof.Gen.Loss
public import proofs.«01_k».proof.Proof.Gen.Loss.Frame
public import Idealize.ShloMosaic.Lib.Claim
public import Idealize.ShloMosaic.Adequacy
public import Idealize.ShloMosaic.Init

@[expose] public section

noncomputable section

namespace Cert.Proof

open Idealize.ShloMosaic Idealize.SL.Sem

theorem loss_reference : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem loss_algebraic : Cert.algebraic_LossIdeal_LossRefIdeal_pre_finite_loss := by
  pair_intro
  · run_from Cert.LossIdeal.Value.run_blocks m g
  · run_from Cert.LossRefIdeal.Value.run_defs m' g'
    · rw [Cert.LossIdeal.Value.final4, ← Cert.LossIdeal.Value.DX_eq]
    · rw [Cert.LossIdeal.Value.final5, ← Cert.LossIdeal.Value.SQ_eq]
    · rw [Cert.LossIdeal.Value.final6, ← Cert.LossIdeal.Value.DY_eq m c hpre]
    · rw [Cert.LossIdeal.Value.final7, ← Cert.LossIdeal.Value.DG_eq]

end Cert.Proof
-- ==== Proof.Sink.lean ====
module

public import proofs.«01_k».proof.Proof.Softmax

/-! A row of masked scores normalised together with a sink: the gradient in the scores and in the sink, over the extended
reals. A masked score is minus infinity; what is taken from the scores before the exponential is the greater of the greatest
score and the sink, and nothing of the gradient goes through it. -/

@[expose] public section

namespace Cert.Sink

open Idealize.ShloMosaic Cert.Reals

variable {n : ℕ}

/-- What is taken from a row's scores. -/
noncomputable def top (s : Fin n → EReal) (t : EReal) : EReal :=
  max (Finset.fold max (Ideal.ofBits .f32 4286578688#32) s Finset.univ) t
/-- A score's exponential. -/
noncomputable def ex (s : Fin n → EReal) (t : EReal) (i : Fin n) : EReal := Ideal.exp (s i - top s t)
/-- The sink's exponential. -/
noncomputable def exs (s : Fin n → EReal) (t : EReal) : EReal := Ideal.exp (t - top s t)
/-- What the exponentials are divided by. -/
noncomputable def den (s : Fin n → EReal) (t : EReal) : EReal := ∑ x, ex s t x + exs s t
/-- A key's probability. -/
noncomputable def prob (s : Fin n → EReal) (t : EReal) (i : Fin n) : EReal := ex s t i * Ideal.div 1 (den s t)
/-- The sink's probability. -/
noncomputable def probs (s : Fin n → EReal) (t : EReal) : EReal := exs s t * Ideal.div 1 (den s t)
/-- The probabilities' cotangent, weighted by them. -/
noncomputable def rsum (s : Fin n → EReal) (t : EReal) (d : Fin n → EReal) : EReal := ∑ x, d x * prob s t x
/-- The scores' cotangent. -/
noncomputable def dsc (s : Fin n → EReal) (t : EReal) (d : Fin n → EReal) (i : Fin n) : EReal :=
  prob s t i * (d i - rsum s t d)
/-- The sink's cotangent. -/
noncomputable def dsk (s : Fin n → EReal) (t : EReal) (d : Fin n → EReal) : EReal := (0 - probs s t) * rsum s t d

/-- Minus infinity or a real number. -/
abbrev Score (x : EReal) : Prop := x = ⊥ ∨ ∃ r : ℝ, x = (r : EReal)

theorem top_real {s : Fin n → EReal} {t : EReal} (hs : ∀ i, Score (s i)) (ht : ∃ r : ℝ, t = (r : EReal)) :
    ∃ M : ℝ, top s t = (M : EReal) := by
  obtain ⟨r, rfl⟩ := ht
  refine ⟨(top s r).toReal, (EReal.coe_toReal (ne_of_lt ?_) (ne_of_gt ?_)).symm⟩
  · refine max_lt ((Finset.fold_max_lt _).mpr ⟨by rw [ofBits_neg_inf]; exact bot_lt_top, fun i _ => ?_⟩) (EReal.coe_lt_top r)
    rcases hs i with h | ⟨a, h⟩ <;> rw [h]
    · exact bot_lt_top
    · exact EReal.coe_lt_top a
  · exact lt_of_lt_of_le (EReal.bot_lt_coe r) (le_max_right _ _)

theorem ex_masked {s : Fin n → EReal} {t : EReal} (hs : ∀ i, Score (s i)) (ht : ∃ r : ℝ, t = (r : EReal)) {i : Fin n}
    (h : s i = ⊥) : ex s t i = 0 := by
  obtain ⟨M, hM⟩ := top_real hs ht
  rw [ex, hM, h, EReal.bot_sub]
  rfl

theorem prob_masked {s : Fin n → EReal} {t : EReal} (hs : ∀ i, Score (s i)) (ht : ∃ r : ℝ, t = (r : EReal)) {i : Fin n}
    (h : s i = ⊥) : prob s t i = 0 := by
  rw [prob, ex_masked hs ht h, zero_mul]

/-- Where a key is masked its cotangent counts for nothing. -/
theorem rsum_congr {s : Fin n → EReal} {t : EReal} (hs : ∀ i, Score (s i)) (ht : ∃ r : ℝ, t = (r : EReal))
    {d d' : Fin n → EReal} (h : ∀ i, s i = ⊥ ∨ d i = d' i) : rsum s t d = rsum s t d' := by
  refine Finset.sum_congr rfl fun i _ => ?_
  rcases h i with h | h
  · rw [prob_masked hs ht h, mul_zero, mul_zero]
  · rw [h]

theorem dsc_congr {s : Fin n → EReal} {t : EReal} (hs : ∀ i, Score (s i)) (ht : ∃ r : ℝ, t = (r : EReal))
    {d d' : Fin n → EReal} (h : ∀ i, s i = ⊥ ∨ d i = d' i) (i : Fin n) : dsc s t d i = dsc s t d' i := by
  rw [dsc, dsc, rsum_congr hs ht h]
  rcases h i with h | h
  · rw [prob_masked hs ht h, zero_mul, zero_mul]
  · rw [h]

theorem dsc_masked {s : Fin n → EReal} {t : EReal} (hs : ∀ i, Score (s i)) (ht : ∃ r : ℝ, t = (r : EReal))
    (d : Fin n → EReal) {i : Fin n} (h : s i = ⊥) : dsc s t d i = 0 := by
  rw [dsc, prob_masked hs ht h, zero_mul]

/-- The exponentials are real, and what they are divided by is positive. -/
theorem reals {s : Fin n → EReal} {t : EReal} (hs : ∀ i, Score (s i)) (ht : ∃ r : ℝ, t = (r : EReal)) :
    ∃ e : Fin n → ℝ, ∃ f : ℝ, 0 < ∑ x, e x + f ∧ (∀ i, ex s t i = (e i : EReal)) ∧ exs s t = (f : EReal) := by
  obtain ⟨M, hM⟩ := top_real hs ht
  have h : ∀ i, ∃ r : ℝ, 0 ≤ r ∧ ex s t i = (r : EReal) := fun i => by
    rcases hs i with h | ⟨a, h⟩
    · exact ⟨0, le_refl _, ex_masked hs ht h⟩
    · exact ⟨Real.exp (a - M), (Real.exp_pos _).le, by rw [ex, hM, h, ← EReal.coe_sub, Ideal.exp_coe]⟩
  obtain ⟨r, rfl⟩ := ht
  exact ⟨fun i => (h i).choose, Real.exp (r - M), add_pos_of_nonneg_of_pos (Finset.sum_nonneg fun i _ => (h i).choose_spec.1) (Real.exp_pos _),
    fun i => (h i).choose_spec.2, by rw [exs, hM, ← EReal.coe_sub, Ideal.exp_coe]⟩

theorem ex_div {e Z : ℝ} (hZ : Z ≠ 0) : (e : EReal) * Ideal.div 1 (Z : EReal) = Ideal.div (e : EReal) Z := by
  have h1 : (1 : EReal) = ((1 : ℝ) : EReal) := rfl
  rw [h1, div_coe_coe _ hZ, div_coe_coe _ hZ, ← EReal.coe_mul, mul_one_div]

/-- The divisor's cotangent. -/
noncomputable def nden (s : Fin n → EReal) (t : EReal) (d : Fin n → EReal) : EReal :=
  -∑ x, d x * Ideal.div 1 (den s t * den s t) * ex s t x
/-- The scores' cotangent with the quotients differentiated one by one. -/
noncomputable def hand (s : Fin n → EReal) (t : EReal) (d : Fin n → EReal) (i : Fin n) : EReal :=
  (Ideal.div (d i) (den s t) + nden s t d) * ex s t i

section
variable {s d : Fin n → EReal} {t : EReal} (hs : ∀ i, Score (s i)) (ht : ∃ r : ℝ, t = (r : EReal)) (hd : ∀ i, ∃ r : ℝ, d i = (r : EReal))
include hs ht

theorem prob_eq (i : Fin n) : Ideal.div (ex s t i) (den s t) = prob s t i := by
  obtain ⟨e, f, hZ, he, hf⟩ := reals hs ht
  rw [prob, den]
  simp only [he, hf, coe_sum, ← EReal.coe_add]
  exact (ex_div hZ.ne').symm

include hd

theorem hand_eq (i : Fin n) : hand s t d i = dsc s t d i := by
  obtain ⟨e, f, hZ, he, hf⟩ := reals hs ht
  obtain ⟨d, rfl⟩ := choose hd
  rw [hand, dsc, rsum, nden]
  simp only [prob, den, he, hf, coe_sum, ← EReal.coe_add, ex_div hZ.ne']
  exact Softmax.quotient_rule e d hZ.ne' i

theorem nden_sink : nden s t d * exs s t = dsk s t d := by
  obtain ⟨e, f, hZ, he, hf⟩ := reals hs ht
  obtain ⟨d, rfl⟩ := choose hd
  have h1 : (1 : EReal) = ((1 : ℝ) : EReal) := rfl
  have h0 : (0 : EReal) = ((0 : ℝ) : EReal) := rfl
  rw [dsk, rsum, nden, probs]
  simp only [prob, den, he, hf, coe_sum, ← EReal.coe_add, ← EReal.coe_mul, h1, h0, div_coe_coe _ hZ.ne',
    div_coe_coe _ (mul_ne_zero hZ.ne' hZ.ne'), ← EReal.coe_neg, ← EReal.coe_sub]
  rw [EReal.coe_eq_coe_iff]
  generalize hz : ∑ x, e x + f = Z at hZ ⊢
  have hz := hZ.ne'
  have h2 : ∑ x, d x * (1 / (Z * Z)) * e x = (∑ x, d x * e x) / (Z * Z) := by
    rw [Finset.sum_div]; exact Finset.sum_congr rfl fun x _ => by field_simp
  have h3 : ∑ x, d x * (e x * (1 / Z)) = (∑ x, d x * e x) / Z := by
    rw [Finset.sum_div]; exact Finset.sum_congr rfl fun x _ => by field_simp
  rw [h2, h3]
  field_simp
  ring

/-- Nothing goes through what is taken from the scores. -/
theorem through_top : -(nden s t d * exs s t) + ∑ x, -hand s t d x = 0 := by
  obtain ⟨e, f, hZ, he, hf⟩ := reals hs ht
  obtain ⟨d, rfl⟩ := choose hd
  have h1 : (1 : EReal) = ((1 : ℝ) : EReal) := rfl
  have h0 : (0 : EReal) = ((0 : ℝ) : EReal) := rfl
  simp only [hand, nden, den, he, hf, coe_sum, ← EReal.coe_add, ← EReal.coe_mul, h1, h0, div_coe_coe _ hZ.ne',
    div_coe_coe _ (mul_ne_zero hZ.ne' hZ.ne'), ← EReal.coe_neg]
  rw [EReal.coe_eq_coe_iff]
  have hz : ∑ x, e x + f ≠ 0 := hZ.ne'
  generalize hZ' : ∑ x, e x + f = Z at hz ⊢
  have h2 : ∑ x, d x * (1 / (Z * Z)) * e x = (∑ x, d x * e x) / (Z * Z) := by
    rw [Finset.sum_div]; exact Finset.sum_congr rfl fun x _ => by field_simp
  rw [h2]
  generalize hS : ∑ x, d x * e x = S
  have h4 : ∑ x, -((d x / Z + -(S / (Z * Z))) * e x) = -(S / Z) + S / (Z * Z) * ∑ x, e x := by
    have h5 : S / Z = ∑ x, d x * e x / Z := by rw [← hS, Finset.sum_div]
    rw [h5, Finset.mul_sum, ← Finset.sum_neg_distrib, ← Finset.sum_add_distrib]
    exact Finset.sum_congr rfl fun x _ => by ring
  rw [h4, eq_sub_of_add_eq hZ']
  field_simp
  ring
end

end Cert.Sink
-- ==== Proof.SwaBlock.lean ====
module

public import proofs.«01_k».proof.Proof.Gen.SwaIdeal.Frame
public import Idealize.ShloMosaic.Lib.Pipeline.ValueKit
public import Idealize.ShloMosaic.Lib.Pointwise
public import proofs.«01_k».proof.Proof.Sink

/-! What one block of the sliding window attention's gradient computes, stated once for every head: the scores, their
softmax with the sink, the probabilities' and the scores' cotangents and the products with queries, keys and values. The
block's four results are these, head by head. -/

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

/-- The heads' slopes. -/
def slope : Fin 12 → BitVec 32 := fun
  | 0 => 0x3F000000#32 | 1 => 0x3E800000#32 | 2 => 0x3E000000#32 | 3 => 0x3D800000#32 | 4 => 0x3D000000#32 | 5 => 0x3C800000#32 | 6 => 0x3C000000#32 | 7 => 0x3B800000#32
  | 8 => 0x3F3504F3#32 | 9 => 0x3EB504F3#32 | 10 => 0x3E3504F3#32 | 11 => 0x3DB504F3#32

theorem inb_head (h : Fin 12) : ∀ a, (![0, 64 * h.val] : Fin 2 → Nat) a + S128x64.size a ≤ S128x768.size a := by
  intro a; match a with
  | 0 => simp
  | 1 => show 64 * h.val + 64 ≤ 768; omega

theorem inb_sink (h : Fin 12) : ∀ a, (![h.val] : Fin 1 → Nat) a + S1.size a ≤ S12.size a := by
  intro a; match a with
  | 0 => show h.val + 1 ≤ 12; omega

theorem slices_group (h : Fin 12) : S256x256.Slices ![0, 64 * (h.val / 3)] S256x64 := by
  revert h; decide

/-- A head's lanes. -/
abbrev lanes {e : EltTy} (x : Vec Ideal S128x768 e) (h : Fin 12) : Vec Ideal S128x64 e :=
  View.ld (Val := Elt Ideal) (e' := e) x (Rect.unit ![0, 64 * h.val] ![128, 64] (inb_head h))

/-- The keys' lanes of a block. -/
abbrev kLanes (x : Vec Ideal S128x512 .f32) : Vec Ideal S128x256 .f32 :=
  View.ld (Val := Elt Ideal) (e' := .f32) x (Rect.unit ![0, 0] ![128, 256] inb_S128x512_S128x256_0_0)

/-- The values' lanes of a block. -/
abbrev vLanes (x : Vec Ideal S128x512 .f32) : Vec Ideal S128x256 .f32 :=
  View.ld (Val := Elt Ideal) (e' := .f32) x (Rect.unit ![0, 256] ![128, 256] inb_S128x512_S128x256_0_256)

section
variable (i : grid0.Coords) (sk : Vec Ideal S12 .f32) (q : Vec Ideal S128x768 .f32) (kp ko : Vec Ideal S128x512 .f32) (o : Vec Ideal S128x768 .bf16) (h : Fin 12)

/-- The head's sink. -/
def hSink : Elt Ideal .f32 :=
  View.ld (Val := Elt Ideal) (e' := .f32) sk (Rect.unit ![h.val] ![1] (inb_sink h)) (Shape.Idx.first (Nat.lt_of_lt_of_eq Nat.one_pos numel1_S1.symm))
/-- The head's queries. -/
def hQ : FVec Ideal S128x64 .bf16 := truncf .bf16 (lanes q h) bitsLt_bf16_f32
/-- The head's keys. -/
def hK : FVec Ideal S256x64 .bf16 := extractStridedSlice S256x64 ![0, 64 * (h.val / 3)] (k0_pay5 (kLanes kp) (kLanes ko)) (slices_group h)
/-- The head's values. -/
def hV : FVec Ideal S256x64 .bf16 := extractStridedSlice S256x64 ![0, 64 * (h.val / 3)] (k0_pay6 (vLanes kp) (vLanes ko)) (slices_group h)
/-- The head's products of queries and keys. -/
def hQK : FVec Ideal S128x256 .f32 := matmul (φ₁ := .bf16) (φ₂ := .bf16) dot_S128x64_S256x64_S128x256_1_1_0_0_n_n none (hQ q h) (hK kp ko h) (constant S128x256 .f32 0x00000000#32)
/-- The probabilities' cotangent. -/
def hDP : FVec Ideal S128x256 .f32 := matmul (φ₁ := .bf16) (φ₂ := .bf16) dot_S128x64_S256x64_S128x256_1_1_0_0_n_n none (lanes o h : FVec Ideal S128x64 .bf16) (hV kp ko h) (constant S128x256 .f32 0x00000000#32)
/-- The head's scores, minus infinity where masked. -/
def hS : FVec Ideal S128x256 .f32 :=
  select (k0_pay3 i) (subf (mulf (hQK q kp ko h) (broadcast S128x256 (Scalar.ofBits .f32 0x3E000000#32 : Ideal .f32)))
    (mulf (broadcast S128x256 (Scalar.ofBits .f32 (slope h) : Ideal .f32)) k0_pay4)) (broadcast S128x256 (Scalar.ofBits .f32 0xFF800000#32 : Ideal .f32))
/-- What is taken from a row's scores. -/
def hTop : FVec Ideal S128x1 .f32 :=
  maximumf (shapeCast S128x1 (multiReduction .maximumf [1] S128 (hS i q kp ko h) 0xFF800000#32 reduces_S128x256_S128 (.inl rfl) rfl) shapeCasts_S128_S128x1)
    (broadcast S128x1 (hSink sk h))
/-- The exponentials. -/
def hE : FVec Ideal S128x256 .f32 := exp (subf (hS i q kp ko h) (broadcastTo S128x256 (hTop i sk q kp ko h) broadcasts_S128x1_S128x256))
/-- The sink's exponential. -/
def hES : FVec Ideal S128x1 .f32 := exp (subf (broadcast S128x1 (hSink sk h)) (hTop i sk q kp ko h))
/-- The inverse of the row's sum. -/
def hI : FVec Ideal S128x1 .f32 :=
  divf (broadcast S128x1 (Scalar.ofBits .f32 0x3F800000#32 : Ideal .f32))
    (addf (shapeCast S128x1 (multiReduction .add [1] S128 (hE i sk q kp ko h) 0x00000000#32 reduces_S128x256_S128 (.inl rfl) rfl) shapeCasts_S128_S128x1) (hES i sk q kp ko h))
/-- The probabilities. -/
def hP : FVec Ideal S128x256 .f32 := mulf (hE i sk q kp ko h) (broadcastTo S128x256 (hI i sk q kp ko h) broadcasts_S128x1_S128x256)
/-- The sink's probability. -/
def hPS : FVec Ideal S128x1 .f32 := mulf (hES i sk q kp ko h) (hI i sk q kp ko h)
/-- The row's sum of cotangents and probabilities. -/
def hR : FVec Ideal S128x1 .f32 :=
  shapeCast S128x1 (multiReduction .add [1] S128 (mulf (hDP kp ko o h) (hP i sk q kp ko h)) 0x00000000#32 reduces_S128x256_S128 (.inl rfl) rfl) shapeCasts_S128_S128x1
/-- The scores' cotangent. -/
def hDS : FVec Ideal S128x256 .bf16 :=
  truncf .bf16 (mulf (mulf (hP i sk q kp ko h) (subf (hDP kp ko o h) (broadcastTo S128x256 (hR i sk q kp ko o h) broadcasts_S128x1_S128x256)))
    (broadcast S128x256 (Scalar.ofBits .f32 0x3E000000#32 : Ideal .f32))) bitsLt_bf16_f32
/-- The queries' cotangent. -/
def hDQ : FVec Ideal S128x64 .f32 := matmul (φ₁ := .bf16) (φ₂ := .bf16) dot_S128x256_S256x64_S128x64_1_0_0_1_n_n none (hDS i sk q kp ko o h) (hK kp ko h) (constant S128x64 .f32 0x00000000#32)
/-- The head's part of the keys' cotangent. -/
def hDK : FVec Ideal S256x64 .f32 := matmul (φ₁ := .bf16) (φ₂ := .bf16) dot_S128x256_S128x64_S256x64_0_0_1_1_n_n none (hDS i sk q kp ko o h) (hQ q h) (constant S256x64 .f32 0x00000000#32)
/-- The head's part of the values' cotangent. -/
def hDV : FVec Ideal S256x64 .f32 := matmul (φ₁ := .bf16) (φ₂ := .bf16) dot_S128x256_S128x64_S256x64_0_0_1_1_n_n none (truncf .bf16 (hP i sk q kp ko h) bitsLt_bf16_f32) (lanes o h : FVec Ideal S128x64 .bf16) (constant S256x64 .f32 0x00000000#32)
/-- The head's part of the sinks' cotangent, in the head's lane. -/
def hDT : FVec Ideal S8x128 .f32 :=
  select (cmpi .eq (iota .tc S8x128 32 [1] iota_S8x128_d1_w32) (broadcast S8x128 (BitVec.ofNat 32 h.val)))
    (broadcastTo S8x128 (shapeCast S1x1 (shapeCast S1x1 (multiReduction .add [0] S1 (mulf (subf (broadcast S128x1 (Scalar.ofBits .f32 0x00000000#32 : Ideal .f32)) (hPS i sk q kp ko h)) (hR i sk q kp ko o h))
      0x00000000#32 reduces_S128x1_S1 (.inl rfl) rfl) shapeCasts_S1_S1x1) shapeCasts_S1x1_S1x1) broadcasts_S1x1_S8x128)
    (broadcast S8x128 (Scalar.ofBits .f32 0x00000000#32 : Ideal .f32))

/-- The three heads of a group, summed. -/
def tri (f : Fin 12 → FVec Ideal S256x64 .f32) (g : Fin 4) : FVec Ideal S256x64 .f32 :=
  addf (addf (f ⟨3 * g.val, by omega⟩) (f ⟨3 * g.val + 1, by omega⟩)) (f ⟨3 * g.val + 2, by omega⟩)

/-- The queries' cotangent, head beside head. -/
def BQ : FVec Ideal S128x768 .bf16 :=
  truncf .bf16 (concatenate S128x768 1 [⟨S128x64, hDQ i sk q kp ko o 0⟩, ⟨S128x64, hDQ i sk q kp ko o 1⟩, ⟨S128x64, hDQ i sk q kp ko o 2⟩, ⟨S128x64, hDQ i sk q kp ko o 3⟩, ⟨S128x64, hDQ i sk q kp ko o 4⟩, ⟨S128x64, hDQ i sk q kp ko o 5⟩, ⟨S128x64, hDQ i sk q kp ko o 6⟩, ⟨S128x64, hDQ i sk q kp ko o 7⟩, ⟨S128x64, hDQ i sk q kp ko o 8⟩, ⟨S128x64, hDQ i sk q kp ko o 9⟩, ⟨S128x64, hDQ i sk q kp ko o 10⟩, ⟨S128x64, hDQ i sk q kp ko o 11⟩] concatenates_S128x64_S128x64_S128x64_S128x64_S128x64_S128x64_S128x64_S128x64_S128x64_S128x64_S128x64_S128x64_S128x768_d1) bitsLt_bf16_f32
/-- The keys' and the values' cotangents, group beside group. -/
def BKV : FVec Ideal S256x512 .f32 :=
  concatenate S256x512 1 [⟨S256x64, tri (hDK i sk q kp ko o) 0⟩, ⟨S256x64, tri (hDK i sk q kp ko o) 1⟩, ⟨S256x64, tri (hDK i sk q kp ko o) 2⟩, ⟨S256x64, tri (hDK i sk q kp ko o) 3⟩, ⟨S256x64, tri (hDV i sk q kp ko o) 0⟩, ⟨S256x64, tri (hDV i sk q kp ko o) 1⟩, ⟨S256x64, tri (hDV i sk q kp ko o) 2⟩, ⟨S256x64, tri (hDV i sk q kp ko o) 3⟩] concatenates_S256x64_S256x64_S256x64_S256x64_S256x64_S256x64_S256x64_S256x64_S256x512_d1
/-- The sinks' cotangent, lane by lane, onto what is there. -/
def BT (acc : FVec Ideal S8x128 .f32) : FVec Ideal S8x128 .f32 :=
  addf (shapeCast S8x128 acc shapeCasts_S8x128_S8x128) (addf (addf (addf (addf (addf (addf (addf (addf (addf (addf (addf (addf (broadcast S8x128 (Scalar.ofBits .f32 0x00000000#32 : Ideal .f32)) (hDT i sk q kp ko o 0)) (hDT i sk q kp ko o 1)) (hDT i sk q kp ko o 2)) (hDT i sk q kp ko o 3)) (hDT i sk q kp ko o 4)) (hDT i sk q kp ko o 5)) (hDT i sk q kp ko o 6)) (hDT i sk q kp ko o 7)) (hDT i sk q kp ko o 8)) (hDT i sk q kp ko o 9)) (hDT i sk q kp ko o 10)) (hDT i sk q kp ko o 11))
end

section
variable (m : (ℓ : Loc nD τ sig) → Buf (Elt Ideal) ℓ) (c : Dev nD) (t : Fin cfg0.N)

/-- A position's block of the queries' cotangent. -/
abbrev BLK5 : FVec Ideal S128x768 .bf16 := BQ (grid0.coords t) (iblk m c 0 t) (X0_1 m c t) (iblk m c 2 t) (iblk m c 3 t) (X0_4 m c t)
/-- A position's keys' and values' cotangents: first the block before, then its own. -/
abbrev BLKKV : FVec Ideal S256x512 .f32 := BKV (grid0.coords t) (iblk m c 0 t) (X0_1 m c t) (iblk m c 2 t) (iblk m c 3 t) (X0_4 m c t)
/-- A position's sinks' cotangent. -/
abbrev BLK8 (acc : FVec Ideal S8x128 .f32) : FVec Ideal S8x128 .f32 := BT (grid0.coords t) (iblk m c 0 t) (X0_1 m c t) (iblk m c 2 t) (iblk m c 3 t) (X0_4 m c t) acc

theorem first_5 (h : t.val % 32 = 0) : (outsAt0 m c t.val t.isLt).1 = BLK5 m c t := by
  rw [outsAt0_A m c t h]; frame_out; rfl
theorem later_5 (h : ¬ t.val % 32 = 0) : (outsAt0 m c t.val t.isLt).1 = BLK5 m c t := by
  rw [outsAt0_B m c t h]; frame_out; rfl
theorem first_6 (h : t.val % 32 = 0) : (outsAt0 m c t.val t.isLt).2.1 = k0_pay212 (BLKKV m c t) := by
  rw [outsAt0_A m c t h]; frame_out; rfl
theorem later_6 (h : ¬ t.val % 32 = 0) : (outsAt0 m c t.val t.isLt).2.1 = k0_pay212 (BLKKV m c t) := by
  rw [outsAt0_B m c t h]; frame_out; rfl
theorem first_7 (h : t.val % 32 = 0) : (outsAt0 m c t.val t.isLt).2.2.1 = k0_pay211 (BLKKV m c t) := by
  rw [outsAt0_A m c t h]; frame_out; rfl
theorem later_7 (h : ¬ t.val % 32 = 0) : (outsAt0 m c t.val t.isLt).2.2.1 = k0_pay211 (BLKKV m c t) := by
  rw [outsAt0_B m c t h]; frame_out; rfl
theorem first_8 (h : t.val % 32 = 0) : (outsAt0 m c t.val t.isLt).2.2.2 = BLK8 m c t k0_pay1 := by
  rw [outsAt0_A m c t h]; frame_out; rfl
theorem later_8 (h : ¬ t.val % 32 = 0) : (outsAt0 m c t.val t.isLt).2.2.2 = BLK8 m c t (outsAt0 m c (t.val - 1) (Nat.lt_of_le_of_lt (Nat.sub_le _ _) t.isLt)).2.2.2 := by
  rw [outsAt0_B m c t h]; frame_out; rfl

end
end Cert.SwaIdeal.Value
-- ==== Proof.SwaHead.lean ====
module

public import proofs.«01_k».proof.Proof.SwaBlock

/-! The block's quantities, entry by entry: a head's row is a softmax with a sink. -/

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

/-- The scale of the scores. -/
abbrev C : EReal := Ideal.ofBits .f32 1040187392#32

section
variable (i : grid0.Coords) (sk : Vec Ideal S12 .f32) (q : Vec Ideal S128x768 .f32) (kp ko : Vec Ideal S128x512 .f32) (o : Vec Ideal S128x768 .bf16)
  (h : Fin 12) (r : Fin 128) (j : Fin 256) (u : Fin 64)

theorem lanes_apply {e : EltTy} (x : Vec Ideal S128x768 e) : lanes x h (ix2 r u) = x (ix2 r ⟨64 * h.val + u.val, by omega⟩) := by
  refine congrArg x (funext fun b => Fin.ext ?_)
  match b with
  | ⟨0, _⟩ => simp [Rect.unit]
  | ⟨1, _⟩ => simp [Rect.unit]

theorem hSink_eq : hSink sk h = sk (ix1 h) := by
  refine congrArg sk (funext fun b => Fin.ext ?_)
  match b with
  | ⟨0, _⟩ => simp [Rect.unit, Shape.Idx.first]

theorem kLanes_apply (x : Vec Ideal S128x512 .f32) (e : Fin 256) : kLanes x (ix2 r e) = x (ix2 r ⟨e.val, by omega⟩) := by
  refine congrArg x (funext fun b => Fin.ext ?_)
  match b with
  | ⟨0, _⟩ => simp [Rect.unit]
  | ⟨1, _⟩ => simp [Rect.unit]

theorem vLanes_apply (x : Vec Ideal S128x512 .f32) (e : Fin 256) : vLanes x (ix2 r e) = x (ix2 r ⟨256 + e.val, by omega⟩) := by
  refine congrArg x (funext fun b => Fin.ext ?_)
  match b with
  | ⟨0, _⟩ => simp [Rect.unit]
  | ⟨1, _⟩ => simp [Rect.unit]

/-- Two blocks of keys or values, one after the other. -/
def two (x y : Vec Ideal S128x512 .f32) (j : Fin 256) (e : Fin 512) : EReal :=
  if p : j.val < 128 then x (ix2 ⟨j.val, p⟩ e) else y (ix2 ⟨j.val - 128, by omega⟩ e)

theorem hK_apply : hK kp ko h (ix2 j u) = two kp ko j ⟨64 * (h.val / 3) + u.val, by omega⟩ := by
  have h5 (a b : FVec Ideal S128x256 .f32) (e : Fin 256) : k0_pay5 (F := Ideal) a b (ix2 j e)
      = if p : j.val < 128 then a (ix2 ⟨j.val, p⟩ e) else b (ix2 ⟨j.val - 128, by omega⟩ e) := by
    pointwise [k0_pay5]
  pointwise [hK]
  rw [h5, two]
  split <;> exact kLanes_apply ..

theorem hV_apply : hV kp ko h (ix2 j u) = two kp ko j ⟨256 + (64 * (h.val / 3) + u.val), by omega⟩ := by
  have h5 (a b : FVec Ideal S128x256 .f32) (e : Fin 256) : k0_pay6 (F := Ideal) a b (ix2 j e)
      = if p : j.val < 128 then a (ix2 ⟨j.val, p⟩ e) else b (ix2 ⟨j.val - 128, by omega⟩ e) := by
    pointwise [k0_pay6]
  pointwise [hV]
  rw [h5, two]
  split <;> exact vLanes_apply ..

theorem hQ_apply : hQ q h (ix2 r u) = q (ix2 r ⟨64 * h.val + u.val, by omega⟩) := by
  rw [← lanes_apply h r u q]
  pointwise [hQ]

theorem hQK_apply : hQK q kp ko h (ix2 r j) = ∑ u : Fin 64, hQ q h (ix2 r u) * hK kp ko h (ix2 j u) := by
  pointwise [hQK]
theorem hDP_apply : hDP kp ko o h (ix2 r j) = ∑ u : Fin 64, lanes o h (ix2 r u) * hV kp ko h (ix2 j u) := by
  pointwise [hDP]

/-- A row's scores. -/
abbrev rowS (r : Fin 128) : Fin 256 → EReal := fun j => hS i q kp ko h (ix2 r j)
/-- A row's cotangent of the probabilities. -/
abbrev rowD (r : Fin 128) : Fin 256 → EReal := fun j => hDP kp ko o h (ix2 r j)

theorem hTop_apply : hTop i sk q kp ko h (ix2 r 0) = Sink.top (rowS i q kp ko h r) (hSink sk h) := by
  pointwise [hTop]
  rfl
theorem hE_apply : hE i sk q kp ko h (ix2 r j) = Sink.ex (rowS i q kp ko h r) (hSink sk h) j := by
  pointwise [hE]
  rw [hTop_apply]; rfl
theorem hES_apply : hES i sk q kp ko h (ix2 r 0) = Sink.exs (rowS i q kp ko h r) (hSink sk h) := by
  pointwise [hES]
  rw [hTop_apply]; rfl
theorem hI_apply : hI i sk q kp ko h (ix2 r 0) = Ideal.div 1 (Sink.den (rowS i q kp ko h r) (hSink sk h)) := by
  pointwise [hI]
  simp only [hES_apply, hE_apply]; rfl
theorem hP_apply : hP i sk q kp ko h (ix2 r j) = Sink.prob (rowS i q kp ko h r) (hSink sk h) j := by
  pointwise [hP]
  rw [hE_apply, hI_apply]; rfl
theorem hPS_apply : hPS i sk q kp ko h (ix2 r 0) = Sink.probs (rowS i q kp ko h r) (hSink sk h) := by
  pointwise [hPS]
  rw [hES_apply, hI_apply]; rfl
theorem hR_apply : hR i sk q kp ko o h (ix2 r 0) = Sink.rsum (rowS i q kp ko h r) (hSink sk h) (rowD kp ko o h r) := by
  pointwise [hR]
  simp only [hP_apply]; rfl
theorem hDS_apply : hDS i sk q kp ko o h (ix2 r j) = Sink.dsc (rowS i q kp ko h r) (hSink sk h) (rowD kp ko o h r) j * C := by
  pointwise [hDS]
  rw [hP_apply, hR_apply]; rfl
theorem hDQ_apply : hDQ i sk q kp ko o h (ix2 r u) = ∑ j : Fin 256, hDS i sk q kp ko o h (ix2 r j) * hK kp ko h (ix2 j u) := by
  pointwise [hDQ]
theorem hDK_apply : hDK i sk q kp ko o h (ix2 j u) = ∑ r : Fin 128, hDS i sk q kp ko o h (ix2 r j) * hQ q h (ix2 r u) := by
  pointwise [hDK]
theorem hDV_apply : hDV i sk q kp ko o h (ix2 j u) = ∑ r : Fin 128, hP i sk q kp ko h (ix2 r j) * lanes o h (ix2 r u) := by
  pointwise [hDV]

theorem hDT_apply (l : Fin 128) : hDT i sk q kp ko o h (ix2 0 l)
    = if l.val = h.val then ∑ r : Fin 128, Sink.dsk (rowS i q kp ko h r) (hSink sk h) (rowD kp ko o h r) else 0 := by
  have hl := l.isLt
  have hh := h.isLt
  pointwise [hDT]
  simp only [hPS_apply, hR_apply]
  by_cases e : l.val = h.val
  · simp [e, Scalar.select, IntOp.cmpi, Sink.dsk]
  · have : ¬ BitVec.ofNat 32 l.val = BitVec.ofNat 32 h.val := fun e' => e (by
      have := congrArg BitVec.toNat e'
      simpa [Nat.mod_eq_of_lt (show l.val < 4294967296 by omega), Nat.mod_eq_of_lt (show h.val < 4294967296 by omega)] using this)
    simp [e, Scalar.select, IntOp.cmpi, beq_eq_false_iff_ne.mpr this]

/-- Pieces of 64 lanes beside each other: a lane lies in the piece of its number over 64. -/
theorem lane_go (f : ℕ → Fin 64 → EReal) (k x : ℕ) (rest : ¬ x < 64 → EReal)
    (hr : ∀ p, rest p = f (k + 1 + (x - 64) / 64) ⟨(x - 64) % 64, Nat.mod_lt _ (by decide)⟩) :
    (if p : x < 64 then f k ⟨x, p⟩ else rest p) = f (k + x / 64) ⟨x % 64, Nat.mod_lt _ (by decide)⟩ := by
  split
  · exact congrArg₂ f (by omega) (Fin.ext (by show x = x % 64; omega))
  · exact (hr _).trans (congrArg₂ f (by omega) (Fin.ext (by show (x - 64) % 64 = x % 64; omega)))
/-- The last piece. -/
theorem lane_last (f : ℕ → Fin 64 → EReal) (k x : ℕ) (p : x < 64) : f k ⟨x, p⟩ = f (k + x / 64) ⟨x % 64, Nat.mod_lt _ (by decide)⟩ :=
  congrArg₂ f (by omega) (Fin.ext (by show x = x % 64; omega))

/-- Twelve heads beside each other. -/
theorem cat_heads (f : Fin 12 → FVec Ideal S128x64 .f32) :
    (truncf .bf16 (concatenate S128x768 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩, ⟨S128x64, f 8⟩, ⟨S128x64, f 9⟩, ⟨S128x64, f 10⟩, ⟨S128x64, f 11⟩] concatenates_S128x64_S128x64_S128x64_S128x64_S128x64_S128x64_S128x64_S128x64_S128x64_S128x64_S128x64_S128x64_S128x768_d1) bitsLt_bf16_f32 : FVec Ideal S128x768 .bf16)
      (ix2 r ⟨64 * h.val + u.val, by omega⟩) = f h (ix2 r u) := by
  have hd := u.isLt
  have hh := h.isLt
  pointwise
  have e (x : ℕ) (hx : x < 768) := fun g : ℕ → Fin 64 → EReal => lane_go g 0 x _ fun _ => lane_go g 1 _ _ fun _ => lane_go g 2 _ _ fun _ =>
    lane_go g 3 _ _ fun _ => lane_go g 4 _ _ fun _ => lane_go g 5 _ _ fun _ => lane_go g 6 _ _ fun _ => lane_go g 7 _ _ fun _ => lane_go g 8 _ _ fun _ =>
    lane_go g 9 _ _ fun _ => lane_go g 10 _ _ fun _ => lane_last g 11 _ (by omega)
  refine (e _ (by omega) (fun n b => f (Fin.ofNat 12 n) (ix2 r b))).trans ?_
  exact congrArg₂ (fun a b => f a (ix2 r b)) (Fin.ext (by show (0 + (64 * h.val + u.val) / 64) % 12 = h.val; omega))
    (Fin.ext (by show (64 * h.val + u.val) % 64 = u.val; omega))

theorem BQ_apply : BQ i sk q kp ko o (ix2 r ⟨64 * h.val + u.val, by omega⟩) = hDQ i sk q kp ko o h (ix2 r u) :=
  cat_heads h r u (hDQ i sk q kp ko o)

theorem BK_apply (g : Fin 4) : BKV i sk q kp ko o (ix2 j ⟨64 * g.val + u.val, by omega⟩) = tri (hDK i sk q kp ko o) g (ix2 j u) := by
  have hd := u.isLt
  have hh := g.isLt
  pointwise [BKV]
  split_ifs <;> first | (exfalso; omega) | exact congrArg₂ (fun a b => tri (hDK i sk q kp ko o) a (ix2 j b)) (Fin.ext (by simp; omega)) (Fin.ext (by simp; omega))
theorem BV_apply (g : Fin 4) : BKV i sk q kp ko o (ix2 j ⟨256 + (64 * g.val + u.val), by omega⟩) = tri (hDV i sk q kp ko o) g (ix2 j u) := by
  have hd := u.isLt
  have hh := g.isLt
  pointwise [BKV]
  split_ifs <;> first | (exfalso; omega) | exact congrArg₂ (fun a b => tri (hDV i sk q kp ko o) a (ix2 j b)) (Fin.ext (by simp; omega)) (Fin.ext (by simp; omega))

/-- Among the heads' lanes only the head's own counts. -/
theorem own_lane (f : Fin 12 → EReal) (h : Fin 12) : ∑ k : Fin 12, (if h.val = k.val then f k else 0) = f h :=
  (Finset.sum_congr rfl fun k _ => if_congr (Fin.ext_iff (a := h) (b := k)).symm rfl rfl).trans (by simp)
/-- The heads' sum, written out. -/
theorem heads (f : Fin 12 → EReal) : f 0 + f 1 + f 2 + f 3 + f 4 + f 5 + f 6 + f 7 + f 8 + f 9 + f 10 + f 11 = ∑ k : Fin 12, f k := by
  simp only [Fin.sum_univ_castSucc, Fin.sum_univ_zero, zero_add]
  rfl

theorem BT_apply (acc : FVec Ideal S8x128 .f32) : BT i sk q kp ko o acc (ix2 0 ⟨h.val, by omega⟩)
    = acc (ix2 0 ⟨h.val, by omega⟩) + ∑ r : Fin 128, Sink.dsk (rowS i q kp ko h r) (hSink sk h) (rowD kp ko o h r) := by
  pointwise [BT]
  simp only [hDT_apply]
  exact congrArg _ ((heads fun k => if h.val = k.val then ∑ r : Fin 128, Sink.dsk (rowS i q kp ko k r) (hSink sk k) (rowD kp ko o k r) else 0).trans
    (own_lane (fun k => ∑ r : Fin 128, Sink.dsk (rowS i q kp ko k r) (hSink sk k) (rowD kp ko o k r)) h))

/-- Whether a row of a block looks at a key of its two blocks. -/
def sees (n : ℕ) (r : Fin 128) (j : Fin 256) : BitVec 1 :=
  IntOp.andi
    (IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32))
    (IntOp.ori (Scalar.cmpi .sgt (BitVec.ofNat 32 n) 0#32) (IntOp.cmpi .sge (BitVec.ofNat 32 j.val) 128#32))
/-- How far back a key lies. -/
def back (r : Fin 128) (j : Fin 256) : EReal :=
  FloatOps.sitofp (F := Ideal) .f32 (IntOp.subi (IntOp.addi (BitVec.ofNat 32 r.val) 128#32) (BitVec.ofNat 32 j.val))

/-- The score of a row and a key. -/
theorem hS_apply : hS i q kp ko h (ix2 r j)
    = Scalar.select (sees (i 1).val r j) (hQK q kp ko h (ix2 r j) * C - Ideal.ofBits .f32 (slope h) * back r j) (Ideal.ofBits .f32 4286578688#32) := by
  pointwise [hS, k0_pay3, k0_pay4, k0_pay2]
  rfl
end
end Cert.SwaIdeal.Value
-- ==== Proof.SwaArray.lean ====
module

public import proofs.«01_k».proof.Proof.SwaHead
public import proofs.«01_k».proof.Proof.Index

/-! The arrays the sliding window attention's gradient leaves, as its blocks say them: where a block's rows stand in its
array, what each block reads, and what the four result arrays hold once every block is done. -/

@[expose] public section

set_option maxRecDepth 16384

noncomputable section

namespace Cert.SwaIdeal.Value

open Cert.Index Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The call's arguments: the projection, the keys and values, the sinks, the cotangent. -/
abbrev B0 : FVec Ideal S4096x1024 .f32 := m ((c.tc : Thread nD τ).loc main_arg0)
abbrev B1 : FVec Ideal S4096x512 .f32 := m ((c.tc : Thread nD τ).loc main_arg1)
abbrev B2 : FVec Ideal S12 .f32 := m ((c.tc : Thread nD τ).loc main_arg2)
abbrev B3 : FVec Ideal S4096x1024 .bf16 := m ((c.tc : Thread nD τ).loc main_arg3)

theorem lt32 (t : Fin cfg0.N) : t.val < 32 := t.isLt

theorem idx : ∀ t : Fin cfg0.N, win0_0.index t = ![0] ∧ win0_1.index t = ![t.val, 0] ∧ win0_2.index t = ![16 * (t.val / 16) + (t.val % 16 - 1), 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] :=
  (by decide +kernel : ∀ t : Fin grid0.N, _)

theorem coord1 : ∀ t : Fin cfg0.N, (grid0.coords t 1).val = t.val % 16 := (by decide +kernel : ∀ t : Fin grid0.N, _)

/-- Row `r` of point `t`'s block, and of the block before it in its sequence. -/
abbrev tok (t : Fin cfg0.N) (r : Fin 128) : Fin 4096 := ⟨128 * t.val + r.val, by have := lt32 t; omega⟩
abbrev tokP (t : Fin cfg0.N) (r : Fin 128) : Fin 4096 := ⟨128 * (16 * (t.val / 16) + (t.val % 16 - 1)) + r.val, by have := lt32 t; omega⟩

theorem blk0 (t : Fin cfg0.N) (h : Fin 12) : (iblk m c 0 t : FVec Ideal S12 .f32) (ix1 h) = B2 m c (ix1 h) := by
  blk_ext! [iblk, V, idx t]
theorem blk1 (t : Fin cfg0.N) (r : Fin 128) (e : Fin 768) : (X0_1 m c t : FVec Ideal S128x768 .f32) (ix2 r e) = B0 m c (ix2 (tok t r) ⟨e.val, by omega⟩) := by
  unfold X0_1 Pipeline.Window.fill
  rw [dif_pos (moved0_1 t _)]
  blk_ext! [iblk, V, idx t]
theorem blk2 (t : Fin cfg0.N) (r : Fin 128) (e : Fin 512) : (iblk m c 2 t : FVec Ideal S128x512 .f32) (ix2 r e) = B1 m c (ix2 (tokP t r) e) := by
  blk_ext! [iblk, V, idx t]
theorem blk3 (t : Fin cfg0.N) (r : Fin 128) (e : Fin 512) : (iblk m c 3 t : FVec Ideal S128x512 .f32) (ix2 r e) = B1 m c (ix2 (tok t r) e) := by
  blk_ext! [iblk, V, idx t]
theorem blk4 (t : Fin cfg0.N) (r : Fin 128) (e : Fin 768) : (X0_4 m c t : FVec Ideal S128x768 .bf16) (ix2 r e) = B3 m c (ix2 (tok t r) ⟨e.val, by omega⟩) := by
  unfold X0_4 Pipeline.Window.fill
  rw [dif_pos (moved0_4 t _)]
  blk_ext! [iblk, V, idx t]

/-- A place of the queries' block, as one of the whole block: nothing is cut. -/
abbrev in5 (t : Fin cfg0.N) (y : (win0_5.xblock (grid0.coords t)).Idx) : S128x768.Idx := win0_5.xinj (grid0.coords t) y
theorem emb5 (t : Fin cfg0.N) (y : (win0_5.xblock (grid0.coords t)).Idx) :
    (win0_5.blk t).view.emb y = ix2 (tok t (in5 t y 0)) ⟨(in5 t y 1).val, by have h : (in5 t y 1).val < 768 := (in5 t y 1).isLt; omega⟩ := by
  blk_ext! [idx t]
theorem emb6 (t : Fin cfg0.N) (y : S128x512.Idx) : (win0_6.blk t).view.emb y = ix2 (tok t (y 0)) (y 1) := by blk_ext! [idx t]
theorem emb7 (t : Fin cfg0.N) (y : S128x512.Idx) : (win0_7.blk t).view.emb y = ix2 (tok t (y 0)) (y 1) := by blk_ext! [idx t]
theorem emb8 (t : Fin cfg0.N) (y : S8x128.Idx) : (win0_8.blk t).view.emb y = y := by blk_ext! [idx t]

theorem key5 (t : Fin cfg0.N) : (outsAt0 m c t.val t.isLt).1 = BLK5 m c t := by
  by_cases h : t.val % 32 = 0
  · exact first_5 m c t h
  · exact later_5 m c t h
theorem key6 (t : Fin cfg0.N) : (outsAt0 m c t.val t.isLt).2.1 = k0_pay212 (BLKKV m c t) := by
  by_cases h : t.val % 32 = 0
  · exact first_6 m c t h
  · exact later_6 m c t h
theorem key7 (t : Fin cfg0.N) : (outsAt0 m c t.val t.isLt).2.2.1 = k0_pay211 (BLKKV m c t) := by
  by_cases h : t.val % 32 = 0
  · exact first_7 m c t h
  · exact later_7 m c t h

theorem own_half (x : FVec Ideal S256x512 .f32) (r : Fin 128) (e : Fin 512) : k0_pay212 (F := Ideal) x (ix2 r e) = x (ix2 ⟨128 + r.val, by omega⟩ e) := by
  pointwise [k0_pay212]
theorem prev_half (x : FVec Ideal S256x512 .f32) (r : Fin 128) (e : Fin 512) : k0_pay211 (F := Ideal) x (ix2 r e) = x (ix2 ⟨r.val, by omega⟩ e) := by
  pointwise [k0_pay211]

/-- The point whose block holds row `i`, and the row's place in it. -/
abbrev pt (i : Fin 4096) : Fin cfg0.N := ⟨i.val / 128, by show _ < 32; omega⟩
abbrev at_ (i : Fin 4096) : Fin 128 := ⟨i.val % 128, Nat.mod_lt _ (by omega)⟩

/-- The queries' cotangent on the lanes the call writes. -/
def W5 (i : S4096x1024.Idx) : EReal := if p : (i 1).val < 768 then BLK5 m c (pt (i 0)) (ix2 (at_ (i 0)) ⟨(i 1).val, p⟩) else 0
/-- The own keys' and values' cotangents, and those of the block before. -/
def W6 (i : S4096x512.Idx) : EReal := BLKKV m c (pt (i 0)) (ix2 ⟨128 + (at_ (i 0)).val, by omega⟩ (i 1))
def W7 (i : S4096x512.Idx) : EReal := BLKKV m c (pt (i 0)) (ix2 ⟨(at_ (i 0)).val, by omega⟩ (i 1))
/-- The sinks' cotangent. -/
def W8 (j : S8x128.Idx) : EReal := ∑ p : Fin cfg0.N, BLK8 m c p k0_pay1 j

theorem pt_tok (t : Fin cfg0.N) (r : Fin 128) : pt (tok t r) = t := Fin.ext (by show (128 * t.val + r.val) / 128 = t.val; omega)
theorem at_tok (t : Fin cfg0.N) (r : Fin 128) : at_ (tok t r) = r := Fin.ext (by show (128 * t.val + r.val) % 128 = r.val; omega)

theorem W5_tok (t : Fin cfg0.N) (r : Fin 128) (e : Fin 768) : W5 m c (ix2 (tok t r) ⟨e.val, by omega⟩) = BLK5 m c t (ix2 r e) := by
  unfold W5
  refine (dif_pos e.isLt).trans ?_
  show BLK5 m c (pt (tok t r)) (ix2 (at_ (tok t r)) e) = _
  rw [pt_tok, at_tok]
theorem W6_tok (t : Fin cfg0.N) (r : Fin 128) (e : Fin 512) : W6 m c (ix2 (tok t r) e) = BLKKV m c t (ix2 ⟨128 + r.val, by omega⟩ e) := by
  unfold W6
  exact congrArg₂ (fun p (a : Fin 128) => BLKKV m c p (ix2 ⟨128 + a.val, by omega⟩ e)) (pt_tok t r) (at_tok t r)
theorem W7_tok (t : Fin cfg0.N) (r : Fin 128) (e : Fin 512) : W7 m c (ix2 (tok t r) e) = BLKKV m c t (ix2 ⟨r.val, by omega⟩ e) := by
  unfold W7
  exact congrArg₂ (fun p (a : Fin 128) => BLKKV m c p (ix2 ⟨a.val, by omega⟩ e)) (pt_tok t r) (at_tok t r)

theorem block5 (t : Fin cfg0.N) (y : S128x768.Idx) (i : S4096x1024.Idx)
    (hi : i = ix2 (tok t (y 0)) ⟨(y 1).val, by have h : (y 1).val < 768 := (y 1).isLt; omega⟩) : BLK5 m c t y = W5 m c i := by
  subst hi
  exact (congrArg _ (ix2_eta y).symm).trans (W5_tok m c t (y 0) (y 1)).symm
theorem block6 (t : Fin cfg0.N) (y : S128x512.Idx) (i : S4096x512.Idx) (hi : i = ix2 (tok t (y 0)) (y 1)) :
    k0_pay212 (F := Ideal) (BLKKV m c t) y = W6 m c i := by
  subst hi
  exact (congrArg _ (ix2_eta y).symm).trans ((own_half _ (y 0) (y 1)).trans (W6_tok m c t (y 0) (y 1)).symm)
theorem block7 (t : Fin cfg0.N) (y : S128x512.Idx) (i : S4096x512.Idx) (hi : i = ix2 (tok t (y 0)) (y 1)) :
    k0_pay211 (F := Ideal) (BLKKV m c t) y = W7 m c i := by
  subst hi
  exact (congrArg _ (ix2_eta y).symm).trans ((prev_half _ (y 0) (y 1)).trans (W7_tok m c t (y 0) (y 1)).symm)

theorem final5 : (dats m 0 c).arrAt 5 (cfgs 0).N = fun i => if (i 1).val < 768 then W5 m c i else (dats m 0 c).A 5 i := by
  refine (dats m 0 c).arrAt_eq_of_coversWhere 5 _ (fun β => β 1 = 0) (by decide +kernel) (fun t hf y => ?_)
    (fun j => by blk_simp [Pipeline.Window.cell_apply]; omega)
  blk_simp
  rw [after0_5, key5]
  exact block5 m c t (in5 t y) _ (emb5 t y)
theorem final6 : (dats m 0 c).arrAt 6 (cfgs 0).N = W6 m c := by
  refine (dats m 0 c).arrAt_eq_of_covers 6 _ (by decide +kernel) fun t hf y => ?_
  blk_simp
  rw [after0_6, key6]
  exact block6 m c t y _ (emb6 t y)
theorem final7 : (dats m 0 c).arrAt 7 (cfgs 0).N = W7 m c := by
  refine (dats m 0 c).arrAt_eq_of_covers 7 _ (by decide +kernel) fun t hf y => ?_
  blk_simp
  rw [after0_7, key7]
  exact block7 m c t y _ (emb7 t y)

theorem zero8 (j : S8x128.Idx) : k0_pay1 (F := Ideal) j = 0 := by pointwise [k0_pay1]
/-- A block adds its own part to what it finds. -/
theorem BT_add (i : grid0.Coords) (sk : Vec Ideal S12 .f32) (q : Vec Ideal S128x768 .f32) (kp ko : Vec Ideal S128x512 .f32) (o : Vec Ideal S128x768 .bf16)
    (acc : FVec Ideal S8x128 .f32) (j : S8x128.Idx) : BT i sk q kp ko o acc j = acc j + BT i sk q kp ko o k0_pay1 j := by
  have h (f : FVec Ideal S8x128 .f32) (a : FVec Ideal S8x128 .f32) : addf (shapeCast S8x128 a shapeCasts_S8x128_S8x128) f j = a j + f j := by
    rw [shapeCast_self]; rfl
  unfold BT
  rw [h, h, zero8, zero_add]

theorem W8_eq (i j : S8x128.Idx) (h : i = j) : W8 m c j = W8 m c i := by subst h; rfl
theorem run_pt (t : Fin cfg0.N) (hr : t.val % 32 = 32 - 1) (j : S8x128.Idx) :
    ∑ s : Fin 32, BLK8 m c ⟨32 * (t.val / 32) + s.val, Pipeline.run_point_lt_of_flush t hr s⟩ k0_pay1 j = W8 m c j := by
  unfold W8
  refine Finset.sum_congr rfl fun s _ => ?_
  have e : (⟨32 * (t.val / 32) + s.val, Pipeline.run_point_lt_of_flush t hr s⟩ : Fin cfg0.N) = s := Fin.ext (by have := lt32 t; simp only; omega)
  rw [e]

theorem final8 : (dats m 0 c).arrAt 8 (cfgs 0).N = W8 m c := by
  refine (dats m 0 c).arrAt_eq_of_covers 8 _ (by decide +kernel) fun t hf y => ?_
  blk_simp
  rw [after0_8]
  have hr := (flush0_8 t).mp hf
  rw [Pipeline.eq_sum_fin_of_reset_step_apply_of_flush (fun n h => (outsAt0 m c n h).2.2.2) 32 (fun _ => 0)
    (fun t j => BLK8 m c t k0_pay1 j)
    (fun t h j => by rw [first_8 m c t h, zero_add])
    (fun t h j => by rw [later_8 m c t h]; exact BT_add _ _ _ _ _ _ _ j)
    t hr _, zero_add]
  exact (run_pt m c t hr y).trans (W8_eq m c _ _ (emb8 t y))

end Cert.SwaIdeal.Value
-- ==== Proof.SwaRef.lean ====
/- The reference sliding-window attention's gradient, taken apart. -/
module

public import proofs.«01_k».proof.Proof.Gen.SwaRefIdeal.Run
public import Idealize.ShloMosaic.Lib.Pointwise

@[expose] public section

set_option maxRecDepth 16384

noncomputable section

namespace Cert.SwaRefIdeal.Value

open Cert.SwaRefIdeal Cert.SwaRefIdeal.Gen Idealize.ShloMosaic Idealize.ShloMosaic.StableHlo Idealize.ShloMosaic.TcCoe Idealize.SL.Sem

/-- The queries by batch, block, row, group, head of the group and lane. -/
def QR (x : FVec Ideal S4096x1024 .f32) : FVec Ideal S2x16x128x4x3x64 .f32 :=
  shapeCast S2x16x128x4x3x64 (shapeCast S2x2048x12x64 (extractStridedSlice S4096x768 ![0, 0] x slices_S4096x1024_S4096x768_0_0) shapeCasts_S4096x768_S2x2048x12x64) shapeCasts_S2x2048x12x64_S2x16x128x4x3x64

/-- The keys of each block with those of the block before it. -/
def KR (x : FVec Ideal S4096x512 .f32) : FVec Ideal S2x16x256x4x64 .f32 :=
  concatenate S2x16x256x4x64 2 [⟨S2x16x128x4x64, (concatenate S2x16x128x4x64 1 [⟨S2x1x128x4x64, (broadcastInDim S2x1x128x4x64 ![] bcast_S_S2x1x128x4x64 (constant S_ .f32 0x00000000#32))⟩, ⟨S2x15x128x4x64, (extractStridedSlice S2x15x128x4x64 ![0, 0, 0, 0, 0] (shapeCast S2x16x128x4x64 (shapeCast S2x2048x4x64 (extractStridedSlice S2x2048x1x4x64 ![0, 0, 0, 0, 0] (shapeCast S2x2048x2x4x64 x shapeCasts_S4096x512_S2x2048x2x4x64) slices_S2x2048x2x4x64_S2x2048x1x4x64_0_0_0_0_0) shapeCasts_S2x2048x1x4x64_S2x2048x4x64) shapeCasts_S2x2048x4x64_S2x16x128x4x64) slices_S2x16x128x4x64_S2x15x128x4x64_0_0_0_0_0)⟩] concatenates_S2x1x128x4x64_S2x15x128x4x64_S2x16x128x4x64_d1)⟩, ⟨S2x16x128x4x64, (shapeCast S2x16x128x4x64 (shapeCast S2x2048x4x64 (extractStridedSlice S2x2048x1x4x64 ![0, 0, 0, 0, 0] (shapeCast S2x2048x2x4x64 x shapeCasts_S4096x512_S2x2048x2x4x64) slices_S2x2048x2x4x64_S2x2048x1x4x64_0_0_0_0_0) shapeCasts_S2x2048x1x4x64_S2x2048x4x64) shapeCasts_S2x2048x4x64_S2x16x128x4x64)⟩] concatenates_S2x16x128x4x64_S2x16x128x4x64_S2x16x256x4x64_d2

/-- The values of each block with those of the block before it. -/
def VR (x : FVec Ideal S4096x512 .f32) : FVec Ideal S2x16x256x4x64 .f32 :=
  concatenate S2x16x256x4x64 2 [⟨S2x16x128x4x64, (concatenate S2x16x128x4x64 1 [⟨S2x1x128x4x64, (broadcastInDim S2x1x128x4x64 ![] bcast_S_S2x1x128x4x64 (constant S_ .f32 0x00000000#32))⟩, ⟨S2x15x128x4x64, (extractStridedSlice S2x15x128x4x64 ![0, 0, 0, 0, 0] (shapeCast S2x16x128x4x64 (shapeCast S2x2048x4x64 (extractStridedSlice S2x2048x1x4x64 ![0, 0, 1, 0, 0] (shapeCast S2x2048x2x4x64 x shapeCasts_S4096x512_S2x2048x2x4x64) slices_S2x2048x2x4x64_S2x2048x1x4x64_0_0_1_0_0) shapeCasts_S2x2048x1x4x64_S2x2048x4x64) shapeCasts_S2x2048x4x64_S2x16x128x4x64) slices_S2x16x128x4x64_S2x15x128x4x64_0_0_0_0_0)⟩] concatenates_S2x1x128x4x64_S2x15x128x4x64_S2x16x128x4x64_d1)⟩, ⟨S2x16x128x4x64, (shapeCast S2x16x128x4x64 (shapeCast S2x2048x4x64 (extractStridedSlice S2x2048x1x4x64 ![0, 0, 1, 0, 0] (shapeCast S2x2048x2x4x64 x shapeCasts_S4096x512_S2x2048x2x4x64) slices_S2x2048x2x4x64_S2x2048x1x4x64_0_0_1_0_0) shapeCasts_S2x2048x1x4x64_S2x2048x4x64) shapeCasts_S2x2048x4x64_S2x16x128x4x64)⟩] concatenates_S2x16x128x4x64_S2x16x128x4x64_S2x16x256x4x64_d2

/-- The result's cotangent. -/
def DOR (x : FVec Ideal S4096x1024 .bf16) : FVec Ideal S2x16x4x64x3x128 .f32 :=
  transpose S2x16x4x64x3x128 [0, 1, 3, 5, 4, 2] (shapeCast S2x16x128x4x3x64 (shapeCast S2x2048x768 (extf .f32 (extractStridedSlice S4096x768 ![0, 0] x slices_S4096x1024_S4096x768_0_0) bitsLt_bf16_f32) shapeCasts_S4096x768_S2x2048x768) shapeCasts_S2x2048x768_S2x16x128x4x3x64) transposes_S2x16x128x4x3x64_S2x16x4x64x3x128_0_1_3_5_4_2

/-- The sinks. -/
def SKR (x : FVec Ideal S12 .f32) : FVec Ideal S1x1x4x3x1x1 .f32 :=
  shapeCast S1x1x4x3x1x1 x shapeCasts_S12_S1x1x4x3x1x1

/-- Which keys a row of a block sees. -/
def MASKR  : IVec S2x16x4x3x128x256 1 :=
  broadcastInDim S2x16x4x3x128x256 ![0, 1, 2, 3, 4, 5] bcast_S1x16x1x1x128x256_S2x16x4x3x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 ((iotaInDim S128 32 0))) (broadcastInDim S128x1 ![] bcast_S_S128x1 ((constantI S_ 32 128#32))))) (broadcastInDim S128x256 ![0, 1] bcast_S1x256_S128x256_0_1 (broadcastInDim S1x256 ![1] bcast_S256_S1x256_1 ((iotaInDim S256 32 0))))) (broadcastInDim S128x256 ![] bcast_S_S128x256 ((constantI S_ 32 0#32)))) (cmpi .slt (subi (broadcastInDim S128x256 ![0, 1] bcast_S128x1_S128x256_0_1 (addi (broadcastInDim S128x1 ![0] bcast_S128_S128x1_0 ((iotaInDim S128 32 0))) (broadcastInDim S128x1 ![] bcast_S_S128x1 ((constantI S_ 32 128#32))))) (broadcastInDim S128x256 ![0, 1] bcast_S1x256_S128x256_0_1 (broadcastInDim S1x256 ![1] bcast_S256_S1x256_1 ((iotaInDim S256 32 0))))) (broadcastInDim S128x256 ![] bcast_S_S128x256 ((constantI S_ 32 128#32))))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 ((iotaInDim S16 32 0))) (broadcastInDim S16x1x1 ![] bcast_S_S16x1x1 ((constantI S_ 32 0#32))))) (broadcastInDim S16x1x256 ![0, 1, 2] bcast_S1x1x256_S16x1x256_0_1_2 (cmpi .sge (broadcastInDim S1x1x256 ![1, 2] bcast_S1x256_S1x1x256_1_2 (broadcastInDim S1x256 ![1] bcast_S256_S1x256_1 ((iotaInDim S256 32 0)))) (broadcastInDim S1x1x256 ![] bcast_S_S1x1x256 ((constantI S_ 32 128#32)))))))))

/-- The scores, masked. -/
def SR (x : FVec Ideal S2x16x128x4x3x64 .f32) (y : FVec Ideal S2x16x256x4x64 .f32) (z : IVec S2x16x4x3x128x256 1) : FVec Ideal S2x16x4x3x128x256 .f32 :=
  select z (addf (mulf (transpose S2x16x4x3x128x256 [0, 1, 2, 5, 4, 3] (Host.dotGeneral dot_S2x16x256x4x64_S2x16x128x4x3x64_S2x16x4x256x128x3_4_5_2_24_013_013 none y x) transposes_S2x16x4x256x128x3_S2x16x4x3x128x256_0_1_2_5_4_3) (broadcastInDim S2x16x4x3x128x256 ![] bcast_S_S2x16x4x3x128x256 (constant S_ .f32 0x3E000000#32))) (broadcastInDim S2x16x4x3x128x256 ![0, 1, 2, 3, 4, 5] bcast_S1x1x4x3x128x256_S2x16x4x3x128x256_0_1_2_3_4_5 (broadcastInDim S1x1x4x3x128x256 ![2, 3, 4, 5] bcast_S4x3x128x256_S1x1x4x3x128x256_2_3_4_5 (mulf (broadcastInDim S4x3x128x256 ![0, 1, 2, 3] bcast_S4x3x1x1_S4x3x128x256_0_1_2_3 (Host.negf (shapeCast S4x3x1x1 ((fun i => FloatOps.ofBits .f32 (lit0 (S12.rowMajor i)))) shapeCasts_S12_S4x3x1x1))) (broadcastInDim S4x3x128x256 ![0, 1, 2, 3] bcast_S1x1x128x256_S4x3x128x256_0_1_2_3 (broadcastInDim S1x1x128x256 ![2, 3] bcast_S128x256_S1x1x128x256_2_3 (sitofp .f32 (subi (broadcastInDim S128x256 ![0, 1] bcast_S128x1_S128x256_0_1 (addi (broadcastInDim S128x1 ![0] bcast_S128_S128x1_0 ((iotaInDim S128 32 0))) (broadcastInDim S128x1 ![] bcast_S_S128x1 ((constantI S_ 32 128#32))))) (broadcastInDim S128x256 ![0, 1] bcast_S1x256_S128x256_0_1 (broadcastInDim S1x256 ![1] bcast_S256_S1x256_1 ((iotaInDim S256 32 0)))))))))))) (broadcastInDim S2x16x4x3x128x256 ![] bcast_S_S2x16x4x3x128x256 (id (constant S_ .f32 0xFF800000#32)))

/-- A row's greatest score. -/
def MR (x : FVec Ideal S2x16x4x3x128x256 .f32) : FVec Ideal S2x16x4x3x128 .f32 :=
  Host.reduce FloatOps.maximumf x (constant S_ .f32 0xFF800000#32) reducesTo_S2x16x4x3x128x256_S2x16x4x3x128_d5 h_S_

/-- What is taken from a row's scores. -/
def MMR (x : FVec Ideal S2x16x4x3x128 .f32) (y : FVec Ideal S1x1x4x3x1x1 .f32) : FVec Ideal S2x16x4x3x128x1 .f32 :=
  maximumf (broadcastInDim S2x16x4x3x128x1 ![0, 1, 2, 3, 4] bcast_S2x16x4x3x128_S2x16x4x3x128x1_0_1_2_3_4 x) (broadcastInDim S2x16x4x3x128x1 ![0, 1, 2, 3, 4, 5] bcast_S1x1x4x3x1x1_S2x16x4x3x128x1_0_1_2_3_4_5 y)

/-- The exponentials. -/
def ER (x : FVec Ideal S2x16x4x3x128x256 .f32) (y : FVec Ideal S2x16x4x3x128x1 .f32) : FVec Ideal S2x16x4x3x128x256 .f32 :=
  Host.exp (subf x (broadcastInDim S2x16x4x3x128x256 ![0, 1, 2, 3, 4, 5] bcast_S2x16x4x3x128x1_S2x16x4x3x128x256_0_1_2_3_4_5 y))

/-- The sink's exponential. -/
def FR (x : FVec Ideal S1x1x4x3x1x1 .f32) (y : FVec Ideal S2x16x4x3x128x1 .f32) : FVec Ideal S2x16x4x3x128x1 .f32 :=
  Host.exp (subf (broadcastInDim S2x16x4x3x128x1 ![0, 1, 2, 3, 4, 5] bcast_S1x1x4x3x1x1_S2x16x4x3x128x1_0_1_2_3_4_5 x) y)

/-- What the exponentials are divided by. -/
def ZR (x : FVec Ideal S2x16x4x3x128x256 .f32) (y : FVec Ideal S2x16x4x3x128x1 .f32) : FVec Ideal S2x16x4x3x128x1 .f32 :=
  addf (broadcastInDim S2x16x4x3x128x1 ![0, 1, 2, 3, 4] bcast_S2x16x4x3x128_S2x16x4x3x128x1_0_1_2_3_4 (Host.reduceAdd x (constant S_ .f32 0x00000000#32) reducesTo_S2x16x4x3x128x256_S2x16x4x3x128_d5 h_S_)) y

/-- The probabilities. -/
def PR (x : FVec Ideal S2x16x4x3x128x256 .f32) (y : FVec Ideal S2x16x4x3x128x1 .f32) : FVec Ideal S2x16x4x3x128x256 .f32 :=
  Host.divf x (broadcastInDim S2x16x4x3x128x256 ![0, 1, 2, 3, 4, 5] bcast_S2x16x4x3x128x1_S2x16x4x3x128x256_0_1_2_3_4_5 y)

/-- The probabilities' cotangent. -/
def DPR (x : FVec Ideal S2x16x4x64x3x128 .f32) (y : FVec Ideal S2x16x256x4x64 .f32) : FVec Ideal S2x16x4x3x128x256 .f32 :=
  Host.dotGeneral dot_S2x16x4x64x3x128_S2x16x256x4x64_S2x16x4x3x128x256_3_4_45_2_012_013 none x y

/-- The divisor's cotangent. -/
def NR (x : FVec Ideal S2x16x4x3x128x256 .f32) (y : FVec Ideal S2x16x4x3x128x1 .f32) (z : FVec Ideal S2x16x4x3x128x256 .f32) : FVec Ideal S2x16x4x3x128x1 .f32 :=
  Host.negf (shapeCast S2x16x4x3x128x1 (Host.reduceAdd (mulf (mulf x (broadcastInDim S2x16x4x3x128x256 ![0, 1, 2, 3, 4, 5] bcast_S2x16x4x3x128x1_S2x16x4x3x128x256_0_1_2_3_4_5 (Host.divf (broadcastInDim S2x16x4x3x128x1 ![] bcast_S_S2x16x4x3x128x1 (constant S_ .f32 0x3F800000#32)) (mulf y y)))) z) (constant S_ .f32 0x00000000#32) reducesTo_S2x16x4x3x128x256_S2x16x4x3x128_d5 h_S_) shapeCasts_S2x16x4x3x128_S2x16x4x3x128x1)

/-- The scores' cotangent but for the greatest score's part. -/
def GR (x : FVec Ideal S2x16x4x3x128x256 .f32) (y : FVec Ideal S2x16x4x3x128x1 .f32) (z : FVec Ideal S2x16x4x3x128x1 .f32) (w : FVec Ideal S2x16x4x3x128x256 .f32) : FVec Ideal S2x16x4x3x128x256 .f32 :=
  mulf (addf (Host.divf x (broadcastInDim S2x16x4x3x128x256 ![0, 1, 2, 3, 4, 5] bcast_S2x16x4x3x128x1_S2x16x4x3x128x256_0_1_2_3_4_5 y)) (broadcastInDim S2x16x4x3x128x256 ![0, 1, 2, 3, 4] bcast_S2x16x4x3x128_S2x16x4x3x128x256_0_1_2_3_4 (Host.reduceAdd z (constant S_ .f32 0x00000000#32) reducesTo_S2x16x4x3x128x1_S2x16x4x3x128_d5 h_S_))) w

/-- The cotangent of what is taken from a row's scores. -/
def DMR (x : FVec Ideal S2x16x4x3x128x1 .f32) (y : FVec Ideal S2x16x4x3x128x1 .f32) (z : FVec Ideal S2x16x4x3x128x256 .f32) : FVec Ideal S2x16x4x3x128x1 .f32 :=
  addf (Host.negf (mulf x y)) (shapeCast S2x16x4x3x128x1 (Host.reduceAdd (Host.negf z) (constant S_ .f32 0x00000000#32) reducesTo_S2x16x4x3x128x256_S2x16x4x3x128_d5 h_S_) shapeCasts_S2x16x4x3x128_S2x16x4x3x128x1)

/-- Which scores are the greatest. -/
def HITR (x : FVec Ideal S2x16x4x3x128x256 .f32) (y : FVec Ideal S2x16x4x3x128 .f32) : FVec Ideal S2x16x4x3x128x256 .f32 :=
  uitofp .f32 (cmpf .oeq x (broadcastInDim S2x16x4x3x128x256 ![0, 1, 2, 3, 4, 5] bcast_S2x16x4x3x128x1_S2x16x4x3x128x256_0_1_2_3_4_5 (shapeCast S2x16x4x3x128x1 y shapeCasts_S2x16x4x3x128_S2x16x4x3x128x1)))

/-- The part of that cotangent that goes to the greatest score. -/
def W1R (x : FVec Ideal S2x16x4x3x128 .f32) (y : FVec Ideal S1x1x4x3x1x1 .f32) : FVec Ideal S2x16x4x3x128x1 .f32 :=
  select (cmpf .ogt (broadcastInDim S2x16x4x3x128x1 ![0, 1, 2, 3, 4] bcast_S2x16x4x3x128_S2x16x4x3x128x1_0_1_2_3_4 x) (broadcastInDim S2x16x4x3x128x1 ![0, 1, 2, 3, 4, 5] bcast_S1x1x4x3x1x1_S2x16x4x3x128x1_0_1_2_3_4_5 y)) (broadcastInDim S2x16x4x3x128x1 ![] bcast_S_S2x16x4x3x128x1 (constant S_ .f32 0x3F800000#32)) (select (cmpf .oeq (broadcastInDim S2x16x4x3x128x1 ![0, 1, 2, 3, 4] bcast_S2x16x4x3x128_S2x16x4x3x128x1_0_1_2_3_4 x) (broadcastInDim S2x16x4x3x128x1 ![0, 1, 2, 3, 4, 5] bcast_S1x1x4x3x1x1_S2x16x4x3x128x1_0_1_2_3_4_5 y)) (broadcastInDim S2x16x4x3x128x1 ![] bcast_S_S2x16x4x3x128x1 (constant S_ .f32 0x3F000000#32)) (broadcastInDim S2x16x4x3x128x1 ![] bcast_S_S2x16x4x3x128x1 (constant S_ .f32 0x00000000#32)))

/-- The part of that cotangent that goes to the sink. -/
def W2R (x : FVec Ideal S2x16x4x3x128 .f32) (y : FVec Ideal S1x1x4x3x1x1 .f32) : FVec Ideal S2x16x4x3x128x1 .f32 :=
  select (cmpf .ogt (broadcastInDim S2x16x4x3x128x1 ![0, 1, 2, 3, 4, 5] bcast_S1x1x4x3x1x1_S2x16x4x3x128x1_0_1_2_3_4_5 y) (broadcastInDim S2x16x4x3x128x1 ![0, 1, 2, 3, 4] bcast_S2x16x4x3x128_S2x16x4x3x128x1_0_1_2_3_4 x)) (broadcastInDim S2x16x4x3x128x1 ![] bcast_S_S2x16x4x3x128x1 (constant S_ .f32 0x3F800000#32)) (select (cmpf .oeq (broadcastInDim S2x16x4x3x128x1 ![0, 1, 2, 3, 4, 5] bcast_S1x1x4x3x1x1_S2x16x4x3x128x1_0_1_2_3_4_5 y) (broadcastInDim S2x16x4x3x128x1 ![0, 1, 2, 3, 4] bcast_S2x16x4x3x128_S2x16x4x3x128x1_0_1_2_3_4 x)) (broadcastInDim S2x16x4x3x128x1 ![] bcast_S_S2x16x4x3x128x1 (constant S_ .f32 0x3F000000#32)) (broadcastInDim S2x16x4x3x128x1 ![] bcast_S_S2x16x4x3x128x1 (constant S_ .f32 0x00000000#32)))

/-- The scores' cotangent before the scale's turn. -/
def DSR (x : IVec S2x16x4x3x128x256 1) (y : FVec Ideal S2x16x4x3x128x256 .f32) (z : FVec Ideal S2x16x4x3x128x1 .f32) (w : FVec Ideal S2x16x4x3x128x1 .f32) (u : FVec Ideal S2x16x4x3x128x256 .f32) : FVec Ideal S2x16x4x3x128x256 .f32 :=
  mulf (select x (addf y (mulf (broadcastInDim S2x16x4x3x128x256 ![0, 1, 2, 3, 4] bcast_S2x16x4x3x128_S2x16x4x3x128x256_0_1_2_3_4 (Host.divf (Host.reduceAdd (mulf z w) (constant S_ .f32 0x00000000#32) reducesTo_S2x16x4x3x128x1_S2x16x4x3x128_d5 h_S_) (Host.reduceAdd u (constant S_ .f32 0x00000000#32) reducesTo_S2x16x4x3x128x256_S2x16x4x3x128_d5 h_S_))) u)) (broadcastInDim S2x16x4x3x128x256 ![] bcast_S_S2x16x4x3x128x256 (constant S_ .f32 0x00000000#32))) (broadcastInDim S2x16x4x3x128x256 ![] bcast_S_S2x16x4x3x128x256 (constant S_ .f32 0x3E000000#32))

/-- The sinks' cotangent. -/
def DSKR (x : FVec Ideal S2x16x4x3x128x1 .f32) (y : FVec Ideal S2x16x4x3x128x1 .f32) (z : FVec Ideal S2x16x4x3x128x1 .f32) (w : FVec Ideal S2x16x4x3x128x1 .f32) : FVec Ideal S12 .f32 :=
  shapeCast S12 (addf (shapeCast S1x1x4x3x1x1 (Host.reduceAdd (mulf x y) (constant S_ .f32 0x00000000#32) reducesTo_S2x16x4x3x128x1_S4x3x1_d0_1_4 h_S_) shapeCasts_S4x3x1_S1x1x4x3x1x1) (shapeCast S1x1x4x3x1x1 (Host.reduceAdd (mulf z w) (constant S_ .f32 0x00000000#32) reducesTo_S2x16x4x3x128x1_S4x3x1_d0_1_4 h_S_) shapeCasts_S4x3x1_S1x1x4x3x1x1)) shapeCasts_S1x1x4x3x1x1_S12

/-- The queries' cotangent. -/
def DQR (x : FVec Ideal S2x16x4x3x128x256 .f32) (y : FVec Ideal S2x16x256x4x64 .f32) : FVec Ideal S4096x768 .bf16 :=
  truncf .bf16 (shapeCast S4096x768 (shapeCast S2x2048x12x64 (transpose S2x16x128x4x3x64 [0, 1, 3, 2, 4, 5] (Host.dotGeneral dot_S2x16x4x256x128x3_S2x16x256x4x64_S2x16x4x128x3x64_3_2_45_4_012_013 none (transpose S2x16x4x256x128x3 [0, 1, 2, 5, 4, 3] x transposes_S2x16x4x3x128x256_S2x16x4x256x128x3_0_1_2_5_4_3) y) transposes_S2x16x4x128x3x64_S2x16x128x4x3x64_0_1_3_2_4_5) shapeCasts_S2x16x128x4x3x64_S2x2048x12x64) shapeCasts_S2x2048x12x64_S4096x768) bitsLt_bf16_f32

/-- The keys' cotangent, by block. -/
def DKR (x : FVec Ideal S2x16x4x3x128x256 .f32) (y : FVec Ideal S2x16x128x4x3x64 .f32) : FVec Ideal S2x16x256x256 .f32 :=
  shapeCast S2x16x256x256 (transpose S2x16x256x4x64 [0, 1, 3, 2, 4] (Host.dotGeneral dot_S2x16x4x256x128x3_S2x16x128x4x3x64_S2x16x4x256x64_45_24_3_5_012_013 none (transpose S2x16x4x256x128x3 [0, 1, 2, 5, 4, 3] x transposes_S2x16x4x3x128x256_S2x16x4x256x128x3_0_1_2_5_4_3) y) transposes_S2x16x4x256x64_S2x16x256x4x64_0_1_3_2_4) shapeCasts_S2x16x256x4x64_S2x16x256x256

/-- The values' cotangent, by block. -/
def DVR (x : FVec Ideal S2x16x4x64x3x128 .f32) (y : FVec Ideal S2x16x4x3x128x256 .f32) : FVec Ideal S2x16x256x256 .f32 :=
  shapeCast S2x16x256x256 (transpose S2x16x256x4x64 [0, 1, 4, 2, 3] (Host.dotGeneral dot_S2x16x4x64x3x128_S2x16x4x3x128x256_S2x16x4x64x256_45_34_3_5_012_012 none x y) transposes_S2x16x4x64x256_S2x16x256x4x64_0_1_4_2_3) shapeCasts_S2x16x256x4x64_S2x16x256x256

/-- Keys' and values' cotangent in the own block. -/
def OWNR (x : FVec Ideal S2x16x256x256 .f32) (y : FVec Ideal S2x16x256x256 .f32) : FVec Ideal S4096x512 .f32 :=
  shapeCast S4096x512 (extractStridedSlice S2x16x128x512 ![0, 0, 128, 0] (concatenate S2x16x256x512 3 [⟨S2x16x256x256, x⟩, ⟨S2x16x256x256, y⟩] concatenates_S2x16x256x256_S2x16x256x256_S2x16x256x512_d3) slices_S2x16x256x512_S2x16x128x512_0_0_128_0) shapeCasts_S2x16x128x512_S4096x512

/-- Keys' and values' cotangent in the block before. -/
def PREVR (x : FVec Ideal S2x16x256x256 .f32) (y : FVec Ideal S2x16x256x256 .f32) : FVec Ideal S4096x512 .f32 :=
  shapeCast S4096x512 (extractStridedSlice S2x16x128x512 ![0, 0, 0, 0] (concatenate S2x16x256x512 3 [⟨S2x16x256x256, x⟩, ⟨S2x16x256x256, y⟩] concatenates_S2x16x256x256_S2x16x256x256_S2x16x256x512_d3) slices_S2x16x256x512_S2x16x128x512_0_0_0_0) shapeCasts_S2x16x128x512_S4096x512

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)

/-- The queries of the run. -/
def QM : FVec Ideal S2x16x128x4x3x64 .f32 := QR (A0 m c)
/-- Its keys. -/
def KM : FVec Ideal S2x16x256x4x64 .f32 := KR (A1 m c)
/-- Its values. -/
def VM : FVec Ideal S2x16x256x4x64 .f32 := VR (A1 m c)
/-- Its cotangent of the result. -/
def OM : FVec Ideal S2x16x4x64x3x128 .f32 := DOR (A3 m c)
/-- Its sinks. -/
def TM : FVec Ideal S1x1x4x3x1x1 .f32 := SKR (A2 m c)
/-- Its scores. -/
def SM : FVec Ideal S2x16x4x3x128x256 .f32 := SR (QM m c) (KM m c) MASKR
/-- Its rows' greatest scores. -/
def GM : FVec Ideal S2x16x4x3x128 .f32 := MR (SM m c)
/-- What it takes from a row's scores. -/
def BM : FVec Ideal S2x16x4x3x128x1 .f32 := MMR (GM m c) (TM m c)
/-- Its exponentials. -/
def EM : FVec Ideal S2x16x4x3x128x256 .f32 := ER (SM m c) (BM m c)
/-- Its sinks' exponentials. -/
def FM : FVec Ideal S2x16x4x3x128x1 .f32 := FR (TM m c) (BM m c)
/-- Its divisors. -/
def ZM : FVec Ideal S2x16x4x3x128x1 .f32 := ZR (EM m c) (FM m c)
/-- Its probabilities. -/
def PM : FVec Ideal S2x16x4x3x128x256 .f32 := PR (EM m c) (ZM m c)
/-- Its probabilities' cotangent. -/
def DPM : FVec Ideal S2x16x4x3x128x256 .f32 := DPR (OM m c) (VM m c)
/-- Its divisors' cotangent. -/
def NM : FVec Ideal S2x16x4x3x128x1 .f32 := NR (DPM m c) (ZM m c) (EM m c)
/-- Its scores' cotangent but for the greatest score's part. -/
def HM : FVec Ideal S2x16x4x3x128x256 .f32 := GR (DPM m c) (ZM m c) (NM m c) (EM m c)
/-- Its cotangent of what is taken from the scores. -/
def CM : FVec Ideal S2x16x4x3x128x1 .f32 := DMR (NM m c) (FM m c) (HM m c)
/-- Its hits. -/
def IM : FVec Ideal S2x16x4x3x128x256 .f32 := HITR (SM m c) (GM m c)
/-- Its scores' cotangent. -/
def DM : FVec Ideal S2x16x4x3x128x256 .f32 := DSR MASKR (HM m c) (CM m c) (W1R (GM m c) (TM m c)) (IM m c)

theorem e_MASKR : res_main_v66_1 (launchContents m c) = MASKR := rfl
theorem e_QM : res_main_v22 (launchContents m c) = QM m c := rfl
theorem e_KM : res_main_v10 (launchContents m c) = KM m c := rfl
theorem e_VM : res_main_v18 (launchContents m c) = VM m c := rfl
theorem e_OM : res_main_v113 (launchContents m c) = OM m c := rfl
theorem e_TM : res_main_v67 (launchContents m c) = TM m c := rfl
theorem e_SM : res_main_v66_0 (launchContents m c) = SM m c := by
  unfold res_main_v66_0 SM; rw [e_QM, e_KM, e_MASKR]; rfl
theorem e_GM : res_main_v68 (launchContents m c) = GM m c := by
  unfold res_main_v68 GM; rw [e_SM]; rfl
theorem e_BM : res_main_v76 (launchContents m c) = BM m c := by
  unfold res_main_v76 res_main_v74 BM; rw [e_GM, e_TM]; rfl
theorem e_EM : res_main_v97 (launchContents m c) = EM m c := by
  unfold res_main_v97 EM; rw [e_SM, e_BM]; rfl
theorem e_FM : res_main_v102 (launchContents m c) = FM m c := by
  unfold res_main_v102 FM; rw [e_TM, e_BM]; rfl
theorem e_ZM : res_main_v103 (launchContents m c) = ZM m c := by
  unfold res_main_v103 ZM; rw [e_EM, e_FM]; rfl
theorem e_PM : res_main_v105 (launchContents m c) = PM m c := by
  unfold res_main_v105 PM; rw [e_EM, e_ZM]; rfl
theorem e_DPM : res_main_v114 (launchContents m c) = DPM m c := by
  unfold res_main_v114 DPM; rw [e_OM, e_VM]; rfl
theorem e_NM : res_main_v122 (launchContents m c) = NM m c := by
  unfold res_main_v122 NM; rw [e_DPM, e_ZM, e_EM]; rfl
theorem e_HM : res_main_v132 (launchContents m c) = HM m c := by
  unfold res_main_v132 HM; rw [e_DPM, e_ZM, e_NM, e_EM]; rfl
theorem e_CM : res_main_v136 (launchContents m c) = CM m c := by
  unfold res_main_v136 res_main_v125 CM; rw [e_NM, e_FM, e_HM]; rfl
theorem e_IM : res_main_v72 (launchContents m c) = IM m c := by
  unfold res_main_v72 IM; rw [e_SM, e_GM]; rfl
theorem e_DM : res_main_v151 (launchContents m c) = transpose S2x16x4x256x128x3 [0, 1, 2, 5, 4, 3] (DM m c) transposes_S2x16x4x3x128x256_S2x16x4x256x128x3_0_1_2_5_4_3 := by
  unfold res_main_v151 res_main_v74 DM W1R; rw [e_MASKR, e_HM, e_CM, e_GM, e_TM, e_IM]; rfl

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v161) = DQR (DM m c) (KM m c)
      ∧ r.2.mem ((c.tc : Thread nD τ).loc main_v163) = OWNR (DKR (DM m c) (QM m c)) (DVR (OM m c) (PM m c))
      ∧ r.2.mem ((c.tc : Thread nD τ).loc main_v165) = PREVR (DKR (DM m c) (QM m c)) (DVR (OM m c) (PM m c))
      ∧ r.2.mem ((c.tc : Thread nD τ).loc main_v147) = DSKR (NM m c) (FM m c) (CM m c) (W2R (GM m c) (TM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_,
    (h c).2.2.2.2⟩) (run (F := Ideal) m ρ)
  · rw [e_DM, e_KM]; rfl
  · unfold res_main_v159; rw [e_DM, e_QM, e_OM, e_PM]; rfl
  · unfold res_main_v159; rw [e_DM, e_QM, e_OM, e_PM]; rfl
  · unfold res_main_v125 res_main_v74; rw [e_NM, e_FM, e_CM, e_GM, e_TM]; rfl

end Cert.SwaRefIdeal.Value
-- ==== Proof.SwaEntry.lean ====
module

public import proofs.«01_k».proof.Proof.SwaRef
public import proofs.«01_k».proof.Proof.Sink
public import proofs.«01_k».proof.Proof.Index

/-! The reference's arrays, entry by entry. -/

@[expose] public section

set_option maxRecDepth 16384

noncomputable section

namespace Cert.SwaRefIdeal.Value

open Cert.SwaRefIdeal Cert.SwaRefIdeal.Gen Idealize.ShloMosaic Idealize.ShloMosaic.TcCoe Idealize.SL.Sem

section
variable (t : Fin 32) (b : Fin 2) (n : Fin 16) (g : Fin 4) (k : Fin 3) (r : Fin 128) (j : Fin 256) (u : Fin 64)

/-- Indices of six axes agree where their coordinates do. -/
theorem ix6_ext {n0 n1 n2 n3 n4 n5 : ℕ} {x y : (⟨6, ![n0, n1, n2, n3, n4, n5]⟩ : Shape).Idx} (h0 : (x 0).val = (y 0).val) (h1 : (x 1).val = (y 1).val)
    (h2 : (x 2).val = (y 2).val) (h3 : (x 3).val = (y 3).val) (h4 : (x 4).val = (y 4).val) (h5 : (x 5).val = (y 5).val) : x = y := by
  refine funext fun a => Fin.ext ?_
  match a with
  | ⟨0, _⟩ => exact h0
  | ⟨1, _⟩ => exact h1
  | ⟨2, _⟩ => exact h2
  | ⟨3, _⟩ => exact h3
  | ⟨4, _⟩ => exact h4
  | ⟨5, _⟩ => exact h5

theorem red_keys : S2x16x4x3x128x256.Reduces [5] S2x16x4x3x128 := by decide
theorem red_one : S2x16x4x3x128x1.Reduces [5] S2x16x4x3x128 := by decide

theorem lift_keys : red_keys.lift (ix5 b n g k r) j = ix6 b n g k r j :=
  ix6_ext rfl rfl rfl rfl rfl rfl
theorem lift_one (z : Fin 1) : red_one.lift (ix5 b n g k r) z = ix6 b n g k r z :=
  ix6_ext rfl rfl rfl rfl rfl rfl

/-- A sum over a row's keys. -/
theorem sum_keys (x : FVec Ideal S2x16x4x3x128x256 .f32) :
    Ideal.hostReduceAdd reducesTo_S2x16x4x3x128x256_S2x16x4x3x128_d5 x 0 (ix5 b n g k r) = ∑ j : Fin 256, x (ix6 b n g k r j) := by
  refine (zero_add _).trans ((red_keys.sum_filter_drop_single x (ix5 b n g k r)).trans (Finset.sum_congr rfl fun j _ => ?_))
  exact congrArg x (lift_keys b n g k r j)
/-- A sum over one. -/
theorem sum_one (x : FVec Ideal S2x16x4x3x128x1 .f32) :
    Ideal.hostReduceAdd reducesTo_S2x16x4x3x128x1_S2x16x4x3x128_d5 x 0 (ix5 b n g k r) = x (ix6 b n g k r 0) := by
  refine (zero_add _).trans ((red_one.sum_filter_drop_single x (ix5 b n g k r)).trans ?_)
  exact (Fin.sum_univ_one _).trans (congrArg x (lift_one b n g k r 0))
/-- The greatest of a row's keys. -/
theorem MR_apply (x : FVec Ideal S2x16x4x3x128x256 .f32) :
    MR x (ix5 b n g k r) = Finset.fold max (Ideal.ofBits .f32 4286578688#32) (fun j : Fin 256 => x (ix6 b n g k r j)) Finset.univ := by
  refine (Host.reduce_eq_fold_single _ x _ reducesTo_S2x16x4x3x128x256_S2x16x4x3x128_d5 red_keys h_S_ (ix5 b n g k r)).trans ?_
  exact congrArg (fun f : Fin 256 → EReal => Finset.fold max (Ideal.ofBits .f32 4286578688#32) f Finset.univ) (funext fun j => congrArg x (lift_keys b n g k r j))

/-- A sum over blocks and rows. -/
theorem sum_rows (x : FVec Ideal S2x16x4x3x128x1 .f32) :
    Ideal.hostReduceAdd reducesTo_S2x16x4x3x128x1_S4x3x1_d0_1_4 x 0 (ix3 g k 0)
      = ∑ b : Fin 2, ∑ n : Fin 16, ∑ r : Fin 128, x (ix6 b n g k r 0) := by
  refine (zero_add _).trans ?_
  rw [← Finset.sum_product', ← Finset.sum_product']
  refine Finset.sum_nbij' (fun i => ((i 0, i 1), i 4)) (fun p => ix6 p.1.1 p.1.2 g k p.2 0) ?_ ?_ ?_ ?_ ?_
  · exact fun _ _ => Finset.mem_univ _
  · refine fun p _ => Finset.mem_filter.2 ⟨Finset.mem_univ _, funext fun a => Fin.ext ?_⟩
    match a with
    | ⟨0, _⟩ => rfl
    | ⟨1, _⟩ => rfl
    | ⟨2, _⟩ => rfl
  · exact fun i hi => ix6_ext rfl rfl (congrArg Fin.val (congrFun (Finset.mem_filter.1 hi).2 0)).symm
      (congrArg Fin.val (congrFun (Finset.mem_filter.1 hi).2 1)).symm rfl (by have := (i 5).isLt; show 0 = (i 5).val; have h : (i 5).val < 1 := this; omega)
  · exact fun _ _ => rfl
  · exact fun i hi => congrArg x (ix6_ext rfl rfl (congrArg Fin.val (congrFun (Finset.mem_filter.1 hi).2 0))
      (congrArg Fin.val (congrFun (Finset.mem_filter.1 hi).2 1)) rfl (by have := (i 5).isLt; show (i 5).val = 0; have h : (i 5).val < 1 := this; omega))

theorem QR_apply (x : FVec Ideal S4096x1024 .f32) :
    QR x (ix6 b n r g k u) = x (ix2 ⟨b.val * 2048 + n.val * 128 + r.val, by omega⟩ ⟨g.val * 192 + k.val * 64 + u.val, by omega⟩) := by
  pointwise [QR]
theorem DOR_apply (x : FVec Ideal S4096x1024 .bf16) :
    DOR x (ix6 b n g u k r) = x (ix2 ⟨b.val * 2048 + n.val * 128 + r.val, by omega⟩ ⟨g.val * 192 + k.val * 64 + u.val, by omega⟩) := by
  pointwise [DOR]
theorem KR_apply (x : FVec Ideal S4096x512 .f32) : KR x (ix5 b n j g u)
    = if h : j.val < 128 then if h : n.val < 1 then 0 else x (ix2 ⟨b.val * 2048 + ((n.val - 1) * 128 + j.val), by omega⟩ ⟨g.val * 64 + u.val, by omega⟩)
      else x (ix2 ⟨b.val * 2048 + (n.val * 128 + (j.val - 128)), by omega⟩ ⟨g.val * 64 + u.val, by omega⟩) := by
  pointwise [KR]
theorem VR_apply (x : FVec Ideal S4096x512 .f32) : VR x (ix5 b n j g u)
    = if h : j.val < 128 then if h : n.val < 1 then 0 else x (ix2 ⟨b.val * 2048 + ((n.val - 1) * 128 + j.val), by omega⟩ ⟨256 + g.val * 64 + u.val, by omega⟩)
      else x (ix2 ⟨b.val * 2048 + (n.val * 128 + (j.val - 128)), by omega⟩ ⟨256 + g.val * 64 + u.val, by omega⟩) := by
  pointwise [VR]
theorem SKR_apply (x : FVec Ideal S12 .f32) : SKR x (ix6 0 0 g k 0 0) = x (ix1 ⟨g.val * 3 + k.val, by omega⟩) := by
  pointwise [SKR]

/-- Whether a row of a block looks at a key. -/
abbrev seesR : BitVec 1 :=
  IntOp.andi
    (IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32))
    (IntOp.ori (IntOp.cmpi .sgt (BitVec.ofNat 32 n.val) 0#32) (IntOp.cmpi .sge (BitVec.ofNat 32 j.val) 128#32))
theorem MASKR_apply : MASKR (ix6 b n g k r j) = seesR n r j := by
  pointwise [MASKR]
theorem line (a : Fin 12) : S12.rowMajor (ix1 a) = a := by fin_cases a <;> rfl

theorem SR_apply (q : FVec Ideal S2x16x128x4x3x64 .f32) (y : FVec Ideal S2x16x256x4x64 .f32) (z : IVec S2x16x4x3x128x256 1) : SR q y z (ix6 b n g k r j)
    = Scalar.select (z (ix6 b n g k r j))
      ((∑ u : Fin 64, y (ix5 b n j g u) * q (ix6 b n r g k u)) * Ideal.ofBits .f32 1040187392#32
        + -Ideal.ofBits .f32 (lit0 ⟨g.val * 3 + k.val, by omega⟩)
          * FloatOps.sitofp (F := Ideal) .f32 (IntOp.subi (IntOp.addi (BitVec.ofNat 32 r.val) 128#32) (BitVec.ofNat 32 j.val)))
      (Ideal.ofBits .f32 4286578688#32) := by
  pointwise [SR]
  rw [line]
  rfl

theorem MMR_apply (q : FVec Ideal S2x16x4x3x128 .f32) (y : FVec Ideal S1x1x4x3x1x1 .f32) :
    MMR q y (ix6 b n g k r 0) = max (q (ix5 b n g k r)) (y (ix6 0 0 g k 0 0)) := by
  pointwise [MMR]
theorem ER_apply (q : FVec Ideal S2x16x4x3x128x256 .f32) (y : FVec Ideal S2x16x4x3x128x1 .f32) :
    ER q y (ix6 b n g k r j) = Ideal.exp (q (ix6 b n g k r j) - y (ix6 b n g k r 0)) := by
  pointwise [ER]
theorem FR_apply (q : FVec Ideal S1x1x4x3x1x1 .f32) (y : FVec Ideal S2x16x4x3x128x1 .f32) :
    FR q y (ix6 b n g k r 0) = Ideal.exp (q (ix6 0 0 g k 0 0) - y (ix6 b n g k r 0)) := by
  pointwise [FR]
theorem ZR_apply (q : FVec Ideal S2x16x4x3x128x256 .f32) (y : FVec Ideal S2x16x4x3x128x1 .f32) :
    ZR q y (ix6 b n g k r 0) = ∑ j : Fin 256, q (ix6 b n g k r j) + y (ix6 b n g k r 0) := by
  pointwise [ZR]
  rw [sum_keys]
theorem PR_apply (q : FVec Ideal S2x16x4x3x128x256 .f32) (y : FVec Ideal S2x16x4x3x128x1 .f32) :
    PR q y (ix6 b n g k r j) = Ideal.div (q (ix6 b n g k r j)) (y (ix6 b n g k r 0)) := by
  pointwise [PR]
theorem DPR_apply (q : FVec Ideal S2x16x4x64x3x128 .f32) (y : FVec Ideal S2x16x256x4x64 .f32) :
    DPR q y (ix6 b n g k r j) = ∑ u : Fin 64, q (ix6 b n g u k r) * y (ix5 b n j g u) := by
  pointwise [DPR]
theorem NR_apply (q : FVec Ideal S2x16x4x3x128x256 .f32) (y : FVec Ideal S2x16x4x3x128x1 .f32) (z : FVec Ideal S2x16x4x3x128x256 .f32) :
    NR q y z (ix6 b n g k r 0)
      = -∑ j : Fin 256, q (ix6 b n g k r j) * Ideal.div 1 (y (ix6 b n g k r 0) * y (ix6 b n g k r 0)) * z (ix6 b n g k r j) := by
  pointwise [NR]
  rw [sum_keys]
  pointwise
theorem GR_apply (q : FVec Ideal S2x16x4x3x128x256 .f32) (y z : FVec Ideal S2x16x4x3x128x1 .f32) (w : FVec Ideal S2x16x4x3x128x256 .f32) :
    GR q y z w (ix6 b n g k r j)
      = (Ideal.div (q (ix6 b n g k r j)) (y (ix6 b n g k r 0)) + z (ix6 b n g k r 0)) * w (ix6 b n g k r j) := by
  pointwise [GR]
  rw [sum_one]
theorem DMR_apply (q y : FVec Ideal S2x16x4x3x128x1 .f32) (z : FVec Ideal S2x16x4x3x128x256 .f32) :
    DMR q y z (ix6 b n g k r 0) = -(q (ix6 b n g k r 0) * y (ix6 b n g k r 0)) + ∑ j : Fin 256, -z (ix6 b n g k r j) := by
  pointwise [DMR]
  rw [sum_keys]
  pointwise
theorem DSR_apply (q : IVec S2x16x4x3x128x256 1) (y : FVec Ideal S2x16x4x3x128x256 .f32) (z w : FVec Ideal S2x16x4x3x128x1 .f32) (v : FVec Ideal S2x16x4x3x128x256 .f32) :
    DSR q y z w v (ix6 b n g k r j)
      = Scalar.select (q (ix6 b n g k r j))
      ((y (ix6 b n g k r j) + Ideal.div (z (ix6 b n g k r 0) * w (ix6 b n g k r 0)) (∑ j : Fin 256, v (ix6 b n g k r j)) * v (ix6 b n g k r j)) * Ideal.ofBits .f32 1040187392#32) 0 := by
  pointwise [DSR]
  rw [sum_one, sum_keys]
  pointwise
theorem DQR_apply (q : FVec Ideal S2x16x4x3x128x256 .f32) (y : FVec Ideal S2x16x256x4x64 .f32) :
    DQR q y (ix2 ⟨128 * (16 * b.val + n.val) + r.val, by omega⟩ ⟨64 * (3 * g.val + k.val) + u.val, by omega⟩)
      = ∑ j : Fin 256, q (ix6 b n g k r j) * y (ix5 b n j g u) := by
  pointwise [DQR]
theorem DKR_apply (q : FVec Ideal S2x16x4x3x128x256 .f32) (y : FVec Ideal S2x16x128x4x3x64 .f32) :
    DKR q y (ix4 b n j ⟨64 * g.val + u.val, by omega⟩)
      = ∑ r : Fin 128, ∑ k : Fin 3, q (ix6 b n g k r j) * y (ix6 b n r g k u) := by
  pointwise [DKR]
theorem DVR_apply (q : FVec Ideal S2x16x4x64x3x128 .f32) (y : FVec Ideal S2x16x4x3x128x256 .f32) :
    DVR q y (ix4 b n j ⟨64 * g.val + u.val, by omega⟩)
      = ∑ k : Fin 3, ∑ r : Fin 128, q (ix6 b n g u k r) * y (ix6 b n g k r j) := by
  pointwise [DVR]
theorem OWNR_apply (q y : FVec Ideal S2x16x256x256 .f32) (e : Fin 512) : OWNR q y (ix2 ⟨128 * (16 * b.val + n.val) + r.val, by omega⟩ e)
    = if h : e.val < 256 then q (ix4 b n ⟨128 + r.val, by omega⟩ ⟨e.val, h⟩) else y (ix4 b n ⟨128 + r.val, by omega⟩ ⟨e.val - 256, by omega⟩) := by
  pointwise [OWNR]
theorem PREVR_apply (q y : FVec Ideal S2x16x256x256 .f32) (e : Fin 512) : PREVR q y (ix2 ⟨128 * (16 * b.val + n.val) + r.val, by omega⟩ e)
    = if h : e.val < 256 then q (ix4 b n ⟨r.val, by omega⟩ ⟨e.val, h⟩) else y (ix4 b n ⟨r.val, by omega⟩ ⟨e.val - 256, by omega⟩) := by
  pointwise [PREVR]
theorem DSKR_apply (q y z w : FVec Ideal S2x16x4x3x128x1 .f32) :
    DSKR q y z w (ix1 ⟨3 * g.val + k.val, by omega⟩)
      = ∑ b : Fin 2, ∑ n : Fin 16, ∑ r : Fin 128, q (ix6 b n g k r 0) * y (ix6 b n g k r 0)
        + ∑ b : Fin 2, ∑ n : Fin 16, ∑ r : Fin 128, z (ix6 b n g k r 0) * w (ix6 b n g k r 0) := by
  pointwise [DSKR]
  rw [sum_rows, sum_rows]
  pointwise
end

end Cert.SwaRefIdeal.Value
-- ==== Proof.SwaRow.lean ====
module

public import proofs.«01_k».proof.Proof.SwaEntry

/-! The reference's run, row by row: a softmax with a sink, and its gradient where scores, sinks and cotangents are real. -/

@[expose] public section

set_option maxRecDepth 16384

noncomputable section

namespace Cert.SwaRefIdeal.Value

open Cert.SwaRefIdeal Cert.SwaRefIdeal.Gen Idealize.ShloMosaic Idealize.ShloMosaic.TcCoe Idealize.SL.Sem

section
variable (m : (ℓ : Loc nD τ sig) → Buf (Elt Ideal) ℓ) (c : Dev nD)
variable (b : Fin 2) (n : Fin 16) (g : Fin 4) (k : Fin 3) (r : Fin 128) (j : Fin 256) (u : Fin 64)

/-- A row's scores. -/
def sR : Fin 256 → EReal := fun j => SM m c (ix6 b n g k r j)
/-- A head's sink. -/
def tR : EReal := TM m c (ix6 0 0 g k 0 0)
/-- A row's cotangent of the probabilities. -/
def dR : Fin 256 → EReal := fun j => DPM m c (ix6 b n g k r j)

theorem BM_apply : BM m c (ix6 b n g k r 0) = Sink.top (sR m c b n g k r) (tR m c g k) := by
  unfold BM GM; rw [MMR_apply, MR_apply]; rfl
theorem EM_apply : EM m c (ix6 b n g k r j) = Sink.ex (sR m c b n g k r) (tR m c g k) j := by
  unfold EM; rw [ER_apply, BM_apply]; rfl
theorem FM_apply : FM m c (ix6 b n g k r 0) = Sink.exs (sR m c b n g k r) (tR m c g k) := by
  unfold FM; rw [FR_apply, BM_apply]; rfl
theorem ZM_apply : ZM m c (ix6 b n g k r 0) = Sink.den (sR m c b n g k r) (tR m c g k) := by
  unfold ZM; rw [ZR_apply, FM_apply]; simp only [EM_apply]; rfl
theorem PM_apply : PM m c (ix6 b n g k r j) = Ideal.div (Sink.ex (sR m c b n g k r) (tR m c g k) j) (Sink.den (sR m c b n g k r) (tR m c g k)) := by
  unfold PM; rw [PR_apply, EM_apply, ZM_apply]
theorem NM_apply : NM m c (ix6 b n g k r 0) = Sink.nden (sR m c b n g k r) (tR m c g k) (dR m c b n g k r) := by
  unfold NM; rw [NR_apply, ZM_apply]; simp only [EM_apply]; rfl
theorem HM_apply : HM m c (ix6 b n g k r j) = Sink.hand (sR m c b n g k r) (tR m c g k) (dR m c b n g k r) j := by
  unfold HM; rw [GR_apply, ZM_apply, NM_apply, EM_apply]; rfl
theorem CM_apply : CM m c (ix6 b n g k r 0) = -(Sink.nden (sR m c b n g k r) (tR m c g k) (dR m c b n g k r) * Sink.exs (sR m c b n g k r) (tR m c g k))
    + ∑ j : Fin 256, -Sink.hand (sR m c b n g k r) (tR m c g k) (dR m c b n g k r) j := by
  unfold CM; rw [DMR_apply, NM_apply, FM_apply]; simp only [HM_apply]

/-- A share of nothing is nothing. -/
theorem through_zero (v : EReal) (f : Fin 256 → EReal) (hf : ∀ j, 0 ≤ f j) (j : Fin 256) : Ideal.div (0 * v) (∑ j, f j) * f j = 0 := by
  rw [zero_mul]
  by_cases h : ∑ j, f j = 0
  · rw [(Finset.sum_eq_zero_iff_of_nonneg fun j _ => hf j).mp h j (Finset.mem_univ j), mul_zero]
  · simp [Ideal.div, h]
theorem IM_nonneg (j : Fin 256) : 0 ≤ IM m c (ix6 b n g k r j) := by
  unfold IM
  generalize SM m c = s
  generalize GM m c = w
  pointwise [HITR]
  exact EReal.coe_nonneg.mpr (Nat.cast_nonneg _)

variable (hs : ∀ j, Sink.Score (sR m c b n g k r j)) (ht : ∃ x : ℝ, tR m c g k = (x : EReal)) (hd : ∀ j, ∃ x : ℝ, dR m c b n g k r j = (x : EReal))
include hs ht

theorem PM_eq : PM m c (ix6 b n g k r j) = Sink.prob (sR m c b n g k r) (tR m c g k) j := by
  rw [PM_apply, Sink.prob_eq hs ht]
include hd
theorem CM_eq : CM m c (ix6 b n g k r 0) = 0 := by
  rw [CM_apply, Sink.through_top hs ht hd]
theorem DM_eq (hm : seesR n r j = 1#1 ∨ sR m c b n g k r j = ⊥) :
    DM m c (ix6 b n g k r j) = Sink.dsc (sR m c b n g k r) (tR m c g k) (dR m c b n g k r) j * Ideal.ofBits .f32 1040187392#32 := by
  unfold DM
  rw [DSR_apply, CM_eq m c b n g k r hs ht hd, HM_apply, MASKR_apply, Sink.hand_eq hs ht hd]
  rw [through_zero _ (fun j => IM m c (ix6 b n g k r j)) (IM_nonneg m c b n g k r), add_zero]
  rcases hm with h | h
  · rw [h]; rfl
  · rw [Sink.dsc_masked hs ht _ h, zero_mul]
    unfold Scalar.select; split <;> rfl
theorem sink_eq : NM m c (ix6 b n g k r 0) * FM m c (ix6 b n g k r 0)
    = Sink.dsk (sR m c b n g k r) (tR m c g k) (dR m c b n g k r) := by
  rw [NM_apply, FM_apply, Sink.nden_sink hs ht hd]
end
end Cert.SwaRefIdeal.Value
-- ==== Proof.SwaMeet.lean ====
module

public import proofs.«01_k».proof.Proof.SwaArray
public import proofs.«01_k».proof.Proof.SwaRow
public import proofs.«01_k».proof.Proof.Reals

/-! Block and reference meet, entry by entry: the rows of scores and of the probabilities' cotangent a block forms are the
reference's, but where a key is masked, and there neither counts. -/

@[expose] public section

set_option maxRecDepth 16384

noncomputable section

namespace Cert.SwaIdeal.Value

open Cert.Index Cert.SwaIdeal Cert.SwaIdeal.Gen Idealize.ShloMosaic Idealize.ShloMosaic.TcCoe Idealize.SL.Sem
open Cert.SwaRefIdeal.Value

variable {m : (ℓ : Loc nD τ sig) → Buf (Elt Ideal) ℓ} {c : Dev nD}
  {m' : (ℓ : Loc Cert.SwaRefIdeal.nD Cert.SwaRefIdeal.τ Cert.SwaRefIdeal.sig) → Buf (Elt Ideal) ℓ} {c' : Dev Cert.SwaRefIdeal.nD}

/-- The point of a sequence's block, and a group's head. -/
abbrev pnt (b : Fin 2) (n : Fin 16) : Fin cfg0.N := ⟨16 * b.val + n.val, by show _ < 32; omega⟩
abbrev hd (g : Fin 4) (k : Fin 3) : Fin 12 := ⟨3 * g.val + k.val, by omega⟩

/-- The two programs have the same arguments. -/
structure Same (m : (ℓ : Loc nD τ sig) → Buf (Elt Ideal) ℓ) (c : Dev nD)
    (m' : (ℓ : Loc Cert.SwaRefIdeal.nD Cert.SwaRefIdeal.τ Cert.SwaRefIdeal.sig) → Buf (Elt Ideal) ℓ) (c' : Dev Cert.SwaRefIdeal.nD) : Prop where
  e0 : A0 m' c' = B0 m c
  e1 : A1 m' c' = B1 m c
  e2 : A2 m' c' = B2 m c
  e3 : A3 m' c' = B3 m c
  r0 : ∀ i, ∃ x : ℝ, B0 m c i = (x : EReal)
  r1 : ∀ i, ∃ x : ℝ, B1 m c i = (x : EReal)
  r2 : ∀ i, ∃ x : ℝ, B2 m c i = (x : EReal)
  r3 : ∀ i, ∃ x : ℝ, B3 m c i = (x : EReal)

variable (H : Same m c m' c') (b : Fin 2) (n : Fin 16) (g : Fin 4) (k : Fin 3) (r : Fin 128) (j : Fin 256) (u : Fin 64)

theorem slope_eq : ∀ (g : Fin 4) (k : Fin 3), slope (hd g k) = Cert.SwaRefIdeal.lit0 ⟨g.val * 3 + k.val, by omega⟩ := by decide +kernel

theorem far : ∀ j : Fin 256, j.val < 128 → IntOp.cmpi .sge (BitVec.ofNat 32 j.val) 128#32 = 0#1 := by decide +kernel
theorem unseen (hj : j.val < 128) (hn : n.val < 1) : seesR n r j = 0#1 := by
  have e : n.val = 0 := by omega
  unfold seesR
  rw [far j hj, e]
  show IntOp.andi _ (0#1) = 0#1
  simp [IntOp.andi]
theorem sees_eq : sees (grid0.coords (pnt b n) 1).val r j = seesR n r j := by
  have e : (grid0.coords (pnt b n) 1).val = n.val := (coord1 (pnt b n)).trans (by show (16 * b.val + n.val) % 16 = n.val; omega)
  rw [e]; rfl

include H

theorem q_eq : hQ (X0_1 m c (pnt b n)) (hd g k) (ix2 r u) = QM m' c' (ix6 b n r g k u) := by
  rw [hQ_apply]
  refine (blk1 m c (pnt b n) r ⟨64 * (hd g k).val + u.val, by omega⟩).trans ?_
  unfold QM
  rw [QR_apply, H.e0]
  exact congrArg (B0 m c) (ix2_ext (by simp only; omega) (by simp only; omega))
theorem o_eq : lanes (X0_4 m c (pnt b n)) (hd g k) (ix2 r u) = OM m' c' (ix6 b n g u k r) := by
  rw [lanes_apply]
  refine (blk4 m c (pnt b n) r ⟨64 * (hd g k).val + u.val, by omega⟩).trans ?_
  unfold OM
  rw [DOR_apply, H.e3]
  exact congrArg (B3 m c) (ix2_ext (by simp only; omega) (by simp only; omega))
theorem k_eq (hm : ¬ (j.val < 128 ∧ n.val < 1)) : hK (iblk m c 2 (pnt b n)) (iblk m c 3 (pnt b n)) (hd g k) (ix2 j u) = KM m' c' (ix5 b n j g u) := by
  rw [hK_apply]
  unfold KM two
  rw [KR_apply, H.e1]
  by_cases hj : j.val < 128
  · have hn : ¬ n.val < 1 := fun h => hm ⟨hj, h⟩
    rw [dif_pos hj, dif_pos hj, dif_neg hn]
    refine (blk2 m c (pnt b n) ⟨j.val, hj⟩ _).trans (congrArg (B1 m c) (ix2_ext ?_ ?_))
    · simp only; omega
    · simp only; omega
  · rw [dif_neg hj, dif_neg hj]
    refine (blk3 m c (pnt b n) ⟨j.val - 128, by omega⟩ _).trans (congrArg (B1 m c) (ix2_ext ?_ ?_))
    · simp only; omega
    · simp only; omega
theorem v_eq (hm : ¬ (j.val < 128 ∧ n.val < 1)) : hV (iblk m c 2 (pnt b n)) (iblk m c 3 (pnt b n)) (hd g k) (ix2 j u) = VM m' c' (ix5 b n j g u) := by
  rw [hV_apply]
  unfold VM two
  rw [VR_apply, H.e1]
  by_cases hj : j.val < 128
  · have hn : ¬ n.val < 1 := fun h => hm ⟨hj, h⟩
    rw [dif_pos hj, dif_pos hj, dif_neg hn]
    refine (blk2 m c (pnt b n) ⟨j.val, hj⟩ _).trans (congrArg (B1 m c) (ix2_ext ?_ ?_))
    · simp only; omega
    · simp only; omega
  · rw [dif_neg hj, dif_neg hj]
    refine (blk3 m c (pnt b n) ⟨j.val - 128, by omega⟩ _).trans (congrArg (B1 m c) (ix2_ext ?_ ?_))
    · simp only; omega
    · simp only; omega
theorem t_eq : hSink (iblk m c 0 (pnt b n)) (hd g k) = tR m' c' g k := by
  rw [hSink_eq]
  refine (blk0 m c (pnt b n) (hd g k)).trans ?_
  unfold tR TM
  rw [SKR_apply, H.e2]
  exact congrArg (fun a => B2 m c (ix1 a)) (Fin.ext (by simp only; omega))

omit H in
theorem sR_apply : sR m' c' b n g k r j = Scalar.select (seesR n r j)
    ((∑ u : Fin 64, KM m' c' (ix5 b n j g u) * QM m' c' (ix6 b n r g k u)) * C
      + -Ideal.ofBits .f32 (Cert.SwaRefIdeal.lit0 ⟨g.val * 3 + k.val, by omega⟩) * back r j) (Ideal.ofBits .f32 4286578688#32) := by
  unfold sR SM
  rw [SR_apply, MASKR_apply]; rfl
omit H in
theorem dR_apply : dR m' c' b n g k r j = ∑ u : Fin 64, OM m' c' (ix6 b n g u k r) * VM m' c' (ix5 b n j g u) := by
  unfold dR DPM
  rw [DPR_apply]
omit H in
theorem masked (hj : j.val < 128) (hn : n.val < 1) : sR m' c' b n g k r j = ⊥ := by
  rw [sR_apply, unseen n r j hj hn]
  exact Reals.ofBits_neg_inf

theorem s_eq : rowS (grid0.coords (pnt b n)) (X0_1 m c (pnt b n)) (iblk m c 2 (pnt b n)) (iblk m c 3 (pnt b n)) (hd g k) r j = sR m' c' b n g k r j := by
  show hS _ _ _ _ _ (ix2 r j) = _
  rw [hS_apply, sR_apply, sees_eq, slope_eq]
  by_cases hm : j.val < 128 ∧ n.val < 1
  · rw [unseen n r j hm.1 hm.2]; rfl
  · refine congrArg (fun z => Scalar.select (seesR n r j) z _) ?_
    rw [hQK_apply, sub_eq_add_neg, EReal.neg_mul]
    refine congrArg (fun z => z * C + _) (Finset.sum_congr rfl fun u _ => ?_)
    rw [q_eq H, k_eq H b n g k j u hm, mul_comm]
theorem d_eq : sR m' c' b n g k r j = ⊥
    ∨ rowD (iblk m c 2 (pnt b n)) (iblk m c 3 (pnt b n)) (X0_4 m c (pnt b n)) (hd g k) r j = dR m' c' b n g k r j := by
  by_cases hm : j.val < 128 ∧ n.val < 1
  · exact .inl (masked b n g k r j hm.1 hm.2)
  · refine .inr ?_
    show hDP _ _ _ _ (ix2 r j) = _
    rw [hDP_apply, dR_apply]
    refine Finset.sum_congr rfl fun u _ => ?_
    rw [o_eq H, v_eq H b n g k j u hm]

theorem QM_real (i) (hi : i = ix6 b n r g k u) : ∃ x : ℝ, QM m' c' i = (x : EReal) := by
  subst hi; unfold QM; rw [QR_apply, H.e0]; exact H.r0 _
theorem KM_real : ∃ x : ℝ, KM m' c' (ix5 b n j g u) = (x : EReal) := by
  unfold KM; rw [KR_apply, H.e1]
  split_ifs
  · exact ⟨0, rfl⟩
  · exact H.r1 _
  · exact H.r1 _
theorem VM_real : ∃ x : ℝ, VM m' c' (ix5 b n j g u) = (x : EReal) := by
  unfold VM; rw [VR_apply, H.e1]
  split_ifs
  · exact ⟨0, rfl⟩
  · exact H.r1 _
  · exact H.r1 _
theorem OM_real : ∃ x : ℝ, OM m' c' (ix6 b n g u k r) = (x : EReal) := by
  unfold OM; rw [DOR_apply, H.e3]; exact H.r3 _

theorem dR_real : ∃ x : ℝ, dR m' c' b n g k r j = (x : EReal) := by
  rw [dR_apply]
  choose f hf using fun u => OM_real H b n g k r u
  choose f' hf' using fun u => VM_real H b n g j u
  simp only [hf, hf', ← EReal.coe_mul, Reals.coe_sum]
  exact ⟨_, rfl⟩
theorem tR_real : ∃ x : ℝ, tR m' c' g k = (x : EReal) := by
  unfold tR TM; rw [SKR_apply, H.e2]; exact H.r2 _
omit H in
theorem slope_real : ∀ h : Fin 12, ∃ x : ℝ, Ideal.ofBits .f32 (Cert.SwaRefIdeal.lit0 h) = (x : EReal) := by
  intro h
  fin_cases h <;> exact ⟨_, by simp [Ideal.ofBits, Ideal.ieee, -EReal.coe_mul]; rfl⟩
theorem sR_score : Sink.Score (sR m' c' b n g k r j) := by
  rw [sR_apply]
  unfold Scalar.select
  split
  · refine .inr ?_
    choose f hf using fun u => KM_real H b n g j u
    choose f' hf' using fun u => QM_real H b n g k r u _ rfl
    obtain ⟨w, hw⟩ := slope_real ⟨g.val * 3 + k.val, by omega⟩
    have hb : ∃ y : ℝ, back r j = (y : EReal) := ⟨_, rfl⟩
    obtain ⟨y, hy⟩ := hb
    simp only [hf, hf', hw, hy, C, Reals.ofBits_eighth, ← EReal.coe_mul, ← EReal.coe_neg, ← EReal.coe_add, Reals.coe_sum]
    exact ⟨_, rfl⟩
  · exact .inl Reals.ofBits_neg_inf

end Cert.SwaIdeal.Value
-- ==== Proof.SwaEq.lean ====
module

public import proofs.«01_k».proof.Proof.SwaMeet

/-! The blocks' results are the reference's: the queries', the keys', the values' and the sinks' cotangents. -/

@[expose] public section

set_option maxRecDepth 16384

noncomputable section

namespace Cert.SwaIdeal.Value

open Cert.Index Cert.SwaIdeal Cert.SwaIdeal.Gen Idealize.ShloMosaic Idealize.ShloMosaic.TcCoe Idealize.SL.Sem
open Cert.SwaRefIdeal.Value

variable {m : (ℓ : Loc nD τ sig) → Buf (Elt Ideal) ℓ} {c : Dev nD}
  {m' : (ℓ : Loc Cert.SwaRefIdeal.nD Cert.SwaRefIdeal.τ Cert.SwaRefIdeal.sig) → Buf (Elt Ideal) ℓ} {c' : Dev Cert.SwaRefIdeal.nD}
  (H : Same m c m' c') (b : Fin 2) (n : Fin 16) (g : Fin 4) (k : Fin 3) (r : Fin 128) (j : Fin 256) (u : Fin 64)
include H

theorem rows_eq : rowS (grid0.coords (pnt b n)) (X0_1 m c (pnt b n)) (iblk m c 2 (pnt b n)) (iblk m c 3 (pnt b n)) (hd g k) r = sR m' c' b n g k r :=
  funext fun j => s_eq H b n g k r j

theorem p_eq : hP (grid0.coords (pnt b n)) (iblk m c 0 (pnt b n)) (X0_1 m c (pnt b n)) (iblk m c 2 (pnt b n)) (iblk m c 3 (pnt b n)) (hd g k) (ix2 r j)
    = PM m' c' (ix6 b n g k r j) := by
  rw [hP_apply, rows_eq H, t_eq H, PM_eq m' c' b n g k r j (fun j => sR_score H b n g k r j) (tR_real H g k)]

theorem seen_or : seesR n r j = 1#1 ∨ sR m' c' b n g k r j = ⊥ := by
  by_cases h : seesR n r j = 1#1
  · exact .inl h
  · refine .inr ?_
    rw [sR_apply]
    unfold Scalar.select
    exact (if_neg h).trans Reals.ofBits_neg_inf

theorem ds_eq : hDS (grid0.coords (pnt b n)) (iblk m c 0 (pnt b n)) (X0_1 m c (pnt b n)) (iblk m c 2 (pnt b n)) (iblk m c 3 (pnt b n)) (X0_4 m c (pnt b n)) (hd g k) (ix2 r j)
    = DM m' c' (ix6 b n g k r j) := by
  have hs := fun j => sR_score H b n g k r j
  have ht := tR_real H g k
  rw [hDS_apply, rows_eq H, t_eq H, DM_eq m' c' b n g k r j hs ht (fun j => dR_real H b n g k r j) (seen_or H b n g k r j),
    Sink.dsc_congr hs ht (fun j => d_eq H b n g k r j)]

theorem dsk_eq : Sink.dsk (rowS (grid0.coords (pnt b n)) (X0_1 m c (pnt b n)) (iblk m c 2 (pnt b n)) (iblk m c 3 (pnt b n)) (hd g k) r)
      (hSink (iblk m c 0 (pnt b n)) (hd g k)) (rowD (iblk m c 2 (pnt b n)) (iblk m c 3 (pnt b n)) (X0_4 m c (pnt b n)) (hd g k) r)
    = NM m' c' (ix6 b n g k r 0) * FM m' c' (ix6 b n g k r 0) := by
  have hs := fun j => sR_score H b n g k r j
  have ht := tR_real H g k
  rw [rows_eq H, t_eq H, sink_eq m' c' b n g k r hs ht (fun j => dR_real H b n g k r j)]
  unfold Sink.dsk
  rw [Sink.rsum_congr hs ht (fun j => d_eq H b n g k r j)]

/-- Where a key stands outside the sequence its score's cotangent is nothing. -/
theorem DM_masked (hj : j.val < 128) (hn : n.val < 1) : DM m' c' (ix6 b n g k r j) = 0 := by
  have hs := fun j => sR_score H b n g k r j
  have ht := tR_real H g k
  rw [DM_eq m' c' b n g k r j hs ht (fun j => dR_real H b n g k r j) (seen_or H b n g k r j), Sink.dsc_masked hs ht _ (masked b n g k r j hj hn), zero_mul]

/-- The queries' cotangent. -/
theorem dq_eq : BLK5 m c (pnt b n) (ix2 r ⟨64 * (hd g k).val + u.val, by omega⟩)
    = DQR (DM m' c') (KM m' c') (ix2 ⟨128 * (16 * b.val + n.val) + r.val, by omega⟩ ⟨64 * (3 * g.val + k.val) + u.val, by omega⟩) := by
  refine (BQ_apply _ _ _ _ _ _ (hd g k) r u).trans ?_
  rw [hDQ_apply, DQR_apply]
  refine Finset.sum_congr rfl fun j _ => ?_
  rw [ds_eq H]
  by_cases hm : j.val < 128 ∧ n.val < 1
  · rw [DM_masked H b n g k r j hm.1 hm.2, zero_mul, zero_mul]
  · rw [k_eq H b n g k j u hm]

omit H in
theorem tri_apply (f : Fin 12 → FVec Ideal S256x64 .f32) (i) : tri f g i = ∑ k : Fin 3, f (hd g k) i := by
  rw [Fin.sum_univ_three]; rfl

/-- The keys' cotangent, the block's own and the one before it. -/
theorem dk_eq : BLKKV m c (pnt b n) (ix2 j ⟨64 * g.val + u.val, by omega⟩)
    = DKR (DM m' c') (QM m' c') (ix4 b n j ⟨64 * g.val + u.val, by omega⟩) := by
  refine (BK_apply _ _ _ _ _ _ j u g).trans ?_
  rw [tri_apply, DKR_apply, Finset.sum_comm]
  refine Finset.sum_congr rfl fun k _ => ?_
  rw [hDK_apply]
  exact Finset.sum_congr rfl fun r _ => congrArg₂ (· * ·) (ds_eq H b n g k r j) (q_eq H b n g k r u)
/-- The values' cotangent, the block's own and the one before it. -/
theorem dv_eq : BLKKV m c (pnt b n) (ix2 j ⟨256 + (64 * g.val + u.val), by omega⟩)
    = DVR (OM m' c') (PM m' c') (ix4 b n j ⟨64 * g.val + u.val, by omega⟩) := by
  refine (BV_apply _ _ _ _ _ _ j u g).trans ?_
  rw [tri_apply, DVR_apply]
  refine Finset.sum_congr rfl fun k _ => ?_
  rw [hDV_apply]
  exact Finset.sum_congr rfl fun r _ => (congrArg₂ (· * ·) (p_eq H b n g k r j) (o_eq H b n g k r u)).trans (mul_comm _ _)

/-- A block's keys and values, at any lane of a row. -/
theorem kv_eq (e : Fin 512) : BLKKV m c (pnt b n) (ix2 j e)
    = if h : e.val < 256 then DKR (DM m' c') (QM m' c') (ix4 b n j ⟨e.val, h⟩) else DVR (OM m' c') (PM m' c') (ix4 b n j ⟨e.val - 256, by omega⟩) := by
  by_cases h : e.val < 256
  · rw [dif_pos h]
    have e1 : e = ⟨64 * (e.val / 64) + e.val % 64, by omega⟩ := Fin.ext (by simp only; omega)
    have e2 : (⟨e.val, h⟩ : Fin 256) = ⟨64 * (e.val / 64) + e.val % 64, by omega⟩ := Fin.ext (by simp only; omega)
    rw [e2]
    exact (congrArg (fun e => BLKKV m c (pnt b n) (ix2 j e)) e1).trans (dk_eq H b n ⟨e.val / 64, by omega⟩ j ⟨e.val % 64, by omega⟩)
  · rw [dif_neg h]
    have e1 : e = ⟨256 + (64 * ((e.val - 256) / 64) + (e.val - 256) % 64), by omega⟩ := Fin.ext (by simp only; omega)
    have e2 : (⟨e.val - 256, by omega⟩ : Fin 256) = ⟨64 * ((e.val - 256) / 64) + (e.val - 256) % 64, by omega⟩ := Fin.ext (by simp only; omega)
    rw [e2]
    exact (congrArg (fun e => BLKKV m c (pnt b n) (ix2 j e)) e1).trans (dv_eq H b n ⟨(e.val - 256) / 64, by omega⟩ j ⟨(e.val - 256) % 64, by omega⟩)

omit H in
theorem row_eq (i : Fin 4096) : ∃ (b : Fin 2) (n : Fin 16) (r : Fin 128), i = ⟨128 * (16 * b.val + n.val) + r.val, by omega⟩ :=
  ⟨⟨i.val / 2048, by omega⟩, ⟨i.val / 128 % 16, by omega⟩, ⟨i.val % 128, by omega⟩, Fin.ext (by simp only; omega)⟩
omit H in
theorem lane_eq (e : Fin 768) : ∃ (g : Fin 4) (k : Fin 3) (u : Fin 64), e = ⟨64 * (3 * g.val + k.val) + u.val, by omega⟩ :=
  ⟨⟨e.val / 192, by omega⟩, ⟨e.val / 64 % 3, by omega⟩, ⟨e.val % 64, by omega⟩, Fin.ext (by simp only; omega)⟩

/-- The first result, on the lanes the call writes. -/
theorem result5 (i : Fin 4096) (e : Fin 768) : W5 m c (ix2 i ⟨e.val, by omega⟩) = DQR (DM m' c') (KM m' c') (ix2 i e) := by
  obtain ⟨b, n, r, rfl⟩ := row_eq i
  obtain ⟨g, k, u, rfl⟩ := lane_eq e
  exact (W5_tok m c (pnt b n) r ⟨64 * (3 * g.val + k.val) + u.val, by omega⟩).trans (dq_eq H b n g k r u)
/-- The second and the third. -/
theorem result6 : W6 m c = OWNR (DKR (DM m' c') (QM m' c')) (DVR (OM m' c') (PM m' c')) := by
  funext i
  rw [← ix2_eta i]
  generalize (i 0) = i0
  generalize (i 1) = e
  obtain ⟨b, n, r, rfl⟩ := row_eq i0
  exact (W6_tok m c (pnt b n) r e).trans ((kv_eq H b n ⟨128 + r.val, by omega⟩ e).trans (OWNR_apply b n r _ _ e).symm)
theorem result7 : W7 m c = PREVR (DKR (DM m' c') (QM m' c')) (DVR (OM m' c') (PM m' c')) := by
  funext i
  rw [← ix2_eta i]
  generalize (i 0) = i0
  generalize (i 1) = e
  obtain ⟨b, n, r, rfl⟩ := row_eq i0
  exact (W7_tok m c (pnt b n) r e).trans ((kv_eq H b n ⟨r.val, by omega⟩ e).trans (PREVR_apply b n r _ _ e).symm)

omit H in
/-- A sum over the positions is one over sequences and blocks. -/
theorem sum_pnt (f : Fin cfg0.N → EReal) : ∑ p, f p = ∑ b : Fin 2, ∑ n : Fin 16, f (pnt b n) := by
  refine (Fin.sum_univ_tiles 2 16 rfl f).trans ?_
  exact Finset.sum_congr rfl fun b _ => Finset.sum_congr rfl fun n _ => congrArg f (Fin.ext (by show b.val * 16 + n.val = 16 * b.val + n.val; omega))

/-- The fourth. -/
theorem result8 (h : Fin 12) : W8 m c (ix2 0 ⟨h.val, by omega⟩) = DSKR (NM m' c') (FM m' c') (CM m' c') (W2R (GM m' c') (TM m' c')) (ix1 h) := by
  obtain ⟨g, k, rfl⟩ : ∃ (g : Fin 4) (k : Fin 3), h = ⟨3 * g.val + k.val, by omega⟩ :=
    ⟨⟨h.val / 3, by omega⟩, ⟨h.val % 3, by omega⟩, Fin.ext (by simp only; omega)⟩
  unfold W8
  rw [sum_pnt, DSKR_apply]
  have z : ∑ b : Fin 2, ∑ n : Fin 16, ∑ r : Fin 128, CM m' c' (ix6 b n g k r 0) * W2R (GM m' c') (TM m' c') (ix6 b n g k r 0) = 0 :=
    Finset.sum_eq_zero fun b _ => Finset.sum_eq_zero fun n _ => Finset.sum_eq_zero fun r _ => by
      rw [CM_eq m' c' b n g k r (fun j => sR_score H b n g k r j) (tR_real H g k) (fun j => dR_real H b n g k r j), zero_mul]
  rw [z, add_zero]
  refine Finset.sum_congr rfl fun b _ => Finset.sum_congr rfl fun n _ => ?_
  refine (BT_apply _ _ _ _ _ _ (hd g k) _).trans ?_
  rw [zero8, zero_add]
  exact Finset.sum_congr rfl fun r _ => dsk_eq H b n g k r

end Cert.SwaIdeal.Value
-- ==== Proof.SwaTail.lean ====
module

public import proofs.«01_k».proof.Proof.SwaArray
public import Idealize.ShloMosaic.Lib.Claim

/-! What the lines after the call leave: the lanes the call wrote, and the sinks' cotangent as a line. -/

@[expose] public section

set_option maxRecDepth 16384

noncomputable section

namespace Cert.SwaIdeal.Value

open Cert.SwaIdeal Cert.SwaIdeal.Gen Idealize.ShloMosaic Idealize.ShloMosaic.TcCoe Idealize.SL.Sem

variable (m : (ℓ : Loc nD τ sig) → Buf (Elt Ideal) ℓ) (c : Dev nD)

/-- A window's array when the lines begin. -/
theorem begins (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  (dats m 0 c).withArrays_arrAt sharedIn0 (V0 m c) (A_eq m c) w

theorem tail1 : Pipeline.afterTail₀ cfgs (dats m) 0 (V0 m) [hostOps1] c main_v1
    = extractStridedSlice S4096x768 ![0, 0] ((dats m 0 c).arrAt 5 (cfgs 0).N : FVec Ideal S4096x1024 .bf16) slices_S4096x1024_S4096x768_0_0 := by
  unfold Pipeline.afterTail₀
  simp only [List.flatten_cons, List.flatten_nil, List.append_nil]
  after_results
  exact congrArg (fun x : FVec Ideal S4096x1024 .bf16 => extractStridedSlice S4096x768 ![0, 0] x slices_S4096x1024_S4096x768_0_0) (begins m c 5)

theorem tail3 : Pipeline.afterTail₀ cfgs (dats m) 0 (V0 m) [hostOps1] c main_v3
    = shapeCast S12 (extractStridedSlice S1x12 ![0, 0] ((dats m 0 c).arrAt 8 (cfgs 0).N : FVec Ideal S8x128 .f32) slices_S8x128_S1x12_0_0) shapeCasts_S1x12_S12 := by
  unfold Pipeline.afterTail₀
  simp only [List.flatten_cons, List.flatten_nil, List.append_nil]
  after_results
  exact congrArg (fun x : FVec Ideal S8x128 .f32 => shapeCast S12 (extractStridedSlice S1x12 ![0, 0] x slices_S8x128_S1x12_0_0) shapeCasts_S1x12_S12) (begins m c 8)

/-- The first result: the lanes the call wrote. -/
theorem first_at (i : Fin 4096) (e : Fin 768) : Pipeline.afterTail₀ cfgs (dats m) 0 (V0 m) [hostOps1] c main_v1 (ix2 i e) = W5 m c (ix2 i ⟨e.val, by omega⟩) := by
  rw [tail1, final5]
  generalize hw : W5 m c = w
  generalize (dats m 0 c).A 5 = a
  have key (x : FVec Ideal S4096x1024 .bf16) : extractStridedSlice S4096x768 ![0, 0] x slices_S4096x1024_S4096x768_0_0 (ix2 i e) = x (ix2 i ⟨e.val, by omega⟩) := by
    pointwise
  exact (key _).trans (if_pos e.isLt)
/-- The fourth: the first row's first lanes. -/
theorem fourth_at (h : Fin 12) : Pipeline.afterTail₀ cfgs (dats m) 0 (V0 m) [hostOps1] c main_v3 (ix1 h) = W8 m c (ix2 0 ⟨h.val, by omega⟩) := by
  rw [tail3, final8]
  generalize hw : W8 m c = w
  have key (x : FVec Ideal S8x128 .f32) : shapeCast S12 (extractStridedSlice S1x12 ![0, 0] x slices_S8x128_S1x12_0_0) shapeCasts_S1x12_S12 (ix1 h)
      = x (ix2 0 ⟨h.val, by omega⟩) := by
    pointwise
  exact key _

end Cert.SwaIdeal.Value
-- ==== Proof.SwaClaims.lean ====
/- The claims about the sliding window attention's gradient. -/
module

public import proofs.«01_k».proof.Defs
public import proofs.«01_k».proof.Proof.SwaEq
public import proofs.«01_k».proof.Proof.SwaTail
public import proofs.«01_k».proof.Proof.Gen.Swa
public import proofs.«01_k».proof.Proof.Gen.Pre_finite_swa
public import proofs.«01_k».proof.Proof.Gen.SwaIdeal.Frame
public import proofs.«01_k».proof.Proof.Gen.SwaRefIdeal.Run
public import Idealize.ShloMosaic.Lib.Claim
public import Idealize.ShloMosaic.Adequacy
public import Idealize.ShloMosaic.Init

@[expose] public section

noncomputable section

namespace Cert.Proof

open Idealize.ShloMosaic Idealize.SL.Sem

theorem swa_reference : Cert.quiescent_SwaRefIdeal := fun m ρ _ =>
  (θ_run Cert.SwaRefIdeal.defs _ _).mono (fun r h => ⟨fun c => (h c).2.2.2.2, sem_eq_zero_of_no_sems (by decide) r.2⟩)
    (Cert.SwaRefIdeal.Value.run_defs m ρ)

/-- What the precondition says of the arguments, and that the two programs share them. -/
theorem swa_same {m : (ℓ : Loc Cert.SwaIdeal.nD Cert.SwaIdeal.τ Cert.SwaIdeal.sig) → Buf (Elt Ideal) ℓ}
    {m' : (ℓ : Loc Cert.SwaRefIdeal.nD Cert.SwaRefIdeal.τ Cert.SwaRefIdeal.sig) → Buf (Elt Ideal) ℓ}
    (hpre : Cert.Pre_SwaIdeal_finite_swa m) (c : Dev Cert.SwaIdeal.nD)
    (h : Cert.SwaRefIdeal.Value.A0 m' c = Cert.SwaIdeal.Value.B0 m c ∧ Cert.SwaRefIdeal.Value.A1 m' c = Cert.SwaIdeal.Value.B1 m c
      ∧ Cert.SwaRefIdeal.Value.A2 m' c = Cert.SwaIdeal.Value.B2 m c ∧ Cert.SwaRefIdeal.Value.A3 m' c = Cert.SwaIdeal.Value.B3 m c) :
    Cert.SwaIdeal.Value.Same m c m' c := by
  have p := hpre c
  refine ⟨h.1, h.2.1, h.2.2.1, h.2.2.2, fun i => Reals.of_abs_lt ?_, fun i => Reals.of_abs_lt ?_, fun i => Reals.of_abs_lt ?_, fun i => Reals.of_abs_lt ?_⟩
  · have e := congrFun p.1 i
    simp only [Cert.Pre_finite_swa.fn, pointwise, Reals.ofBits_inf] at e
    exact e
  · have e := congrFun p.2.1 i
    simp only [Cert.Pre_finite_swa.fn, pointwise, Reals.ofBits_inf] at e
    exact e
  · have e := congrFun p.2.2.1 i
    simp only [Cert.Pre_finite_swa.fn, pointwise, Reals.ofBits_inf] at e
    exact e
  · have e := congrFun p.2.2.2 i
    simp only [Cert.Pre_finite_swa.fn, pointwise, Reals.ofBits_inf] at e
    exact e

theorem swa_algebraic : Cert.algebraic_SwaIdeal_SwaRefIdeal_pre_finite_swa := by
  pair_intro
  · run_from Cert.SwaIdeal.Gen.run_main m g
  · run_from Cert.SwaRefIdeal.Value.run_defs m' g'
    · funext i
      rw [← ix2_eta i]
      exact ((Cert.SwaIdeal.Value.first_at m c (i 0) (i 1)).trans (Cert.SwaIdeal.Value.result5 (swa_same hpre c (hagree c)) (i 0) (i 1))).symm
    · exact ((Cert.SwaIdeal.Value.final6 m c).trans (Cert.SwaIdeal.Value.result6 (swa_same hpre c (hagree c)))).symm
    · exact ((Cert.SwaIdeal.Value.final7 m c).trans (Cert.SwaIdeal.Value.result7 (swa_same hpre c (hagree c)))).symm
    · funext i
      rw [← ix1_eta i]
      exact ((Cert.SwaIdeal.Value.fourth_at m c (i 0)).trans (Cert.SwaIdeal.Value.result8 (swa_same hpre c (hagree c)) (i 0))).symm

end Cert.Proof
-- ==== Proof.Resid2Ref.lean ====
/- The reference of a residual and the two norms that read it, array by array. -/
module

public import proofs.«01_k».proof.Proof.Gen.Resid2RefIdeal.Run
public import Idealize.ShloMosaic.Lib.Pointwise
public import proofs.«01_k».proof.Proof.Norm
public import proofs.«01_k».proof.Proof.Sums

@[expose] public section

set_option maxRecDepth 16384

noncomputable section

namespace Cert.Resid2RefIdeal.Value

open Cert.Resid2RefIdeal Cert.Resid2RefIdeal.Gen Idealize.ShloMosaic Idealize.ShloMosaic.TcCoe Idealize.SL.Sem

/-- A bf16 array as f32. -/
def EXT (x : FVec Ideal S2x2048x1024 .bf16) : FVec Ideal S2x2048x1024 .f32 :=
  extf .f32 x bitsLt_bf16_f32

/-- A token's mean square, and what is added to it. -/
def MSR (x : FVec Ideal S2x2048x1024 .f32) : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The inverse of a token's root mean square. -/
def RIR (x : FVec Ideal S2x2048x1024 .f32) : FVec Ideal S2x2048x1 .f32 :=
  Host.rsqrt (MSR x)

/-- The residual stream after the branch's normalised output is added. -/
def X1 (x : FVec Ideal S2x2048x1024 .f32) (y : FVec Ideal S2x2048x1024 .f32) (z : FVec Ideal S1024 .f32) : FVec Ideal S2x2048x1024 .f32 :=
  addf x (mulf (mulf y (broadcastInDim S2x2048x1024 ![0, 1, 2] bcast_S2x2048x1_S2x2048x1024_0_1_2 (RIR y))) (broadcastInDim S2x2048x1024 ![0, 1, 2] bcast_S1x1x1024_S2x2048x1024_0_1_2 (broadcastInDim S1x1x1024 ![2] bcast_S1024_S1x1x1024_2 z)))

/-- The gradient in the normalised row. -/
def GR (x : FVec Ideal S2x2048x1024 .f32) (y : FVec Ideal S1024 .f32) : FVec Ideal S2x2048x1024 .f32 :=
  mulf x (broadcastInDim S2x2048x1024 ![0, 1, 2] bcast_S1x1x1024_S2x2048x1024_0_1_2 (broadcastInDim S1x1x1024 ![2] bcast_S1024_S1x1x1024_2 y))

/-- The gradient through the mean square, for a token. -/
def TRR (x : FVec Ideal S2x2048x1024 .f32) (y : FVec Ideal S2x2048x1024 .f32) : FVec Ideal S2x2048 .f32 :=
  Host.reduceAdd (Host.divf (mulf (shapeCast S2x2048x1 (Host.reduceAdd (mulf x y) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (RIR x) (MSR x)))) (broadcastInDim S2x2048x1 ![] bcast_S_S2x2048x1 (constant S_ .f32 0x44800000#32))) (constant S_ .f32 0x00000000#32) reducesTo_S2x2048x1_S2x2048_d2 h_S_

/-- A gradient with the one through a norm added to it. -/
def ACC (x : FVec Ideal S2x2048x1024 .f32) (y : FVec Ideal S2x2048x1024 .f32) (z : FVec Ideal S2x2048x1024 .f32) : FVec Ideal S2x2048x1024 .f32 :=
  addf (addf (addf x (mulf z (broadcastInDim S2x2048x1024 ![0, 1, 2] bcast_S2x2048x1_S2x2048x1024_0_1_2 (RIR y)))) (mulf y (broadcastInDim S2x2048x1024 ![0, 1] bcast_S2x2048_S2x2048x1024_0_1 (TRR y z)))) (mulf (broadcastInDim S2x2048x1024 ![0, 1] bcast_S2x2048_S2x2048x1024_0_1 (TRR y z)) y)

/-- The same array. -/
def SAME (x : FVec Ideal S2x2048x1024 .f32) : FVec Ideal S2x2048x1024 .f32 :=
  shapeCast S2x2048x1024 x shapeCasts_S2x2048x1024_S2x2048x1024

/-- An array by tokens. -/
def FLAT (x : FVec Ideal S2x2048x1024 .f32) : FVec Ideal S4096x1024 .f32 :=
  shapeCast S4096x1024 x shapeCasts_S2x2048x1024_S4096x1024

/-- The gradient in the branch's output, by tokens. -/
def DYR (x : FVec Ideal S2x2048x1024 .f32) (y : FVec Ideal S2x2048x1024 .f32) : FVec Ideal S4096x1024 .bf16 :=
  shapeCast S4096x1024 (truncf .bf16 (addf (addf (mulf y (broadcastInDim S2x2048x1024 ![0, 1, 2] bcast_S2x2048x1_S2x2048x1024_0_1_2 (RIR x))) (mulf x (broadcastInDim S2x2048x1024 ![0, 1] bcast_S2x2048_S2x2048x1024_0_1 (TRR x y)))) (mulf (broadcastInDim S2x2048x1024 ![0, 1] bcast_S2x2048_S2x2048x1024_0_1 (TRR x y)) x)) bitsLt_bf16_f32) shapeCasts_S2x2048x1024_S4096x1024

/-- The gradient in a norm's scale. -/
def DGR (x : FVec Ideal S2x2048x1024 .f32) (y : FVec Ideal S2x2048x1024 .f32) : FVec Ideal S1x1024 .f32 :=
  shapeCast S1x1024 (Host.reduceAdd (shapeCast S1x1x1024 (Host.reduceAdd (mulf (mulf x (broadcastInDim S2x2048x1024 ![0, 1, 2] bcast_S2x2048x1_S2x2048x1024_0_1_2 (RIR x))) y) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)
abbrev A4 : Buf (Elt Ideal) ((c.tc : Thread nD τ).loc main_arg4) := m ((c.tc : Thread nD τ).loc main_arg4)
abbrev A5 : Buf (Elt Ideal) ((c.tc : Thread nD τ).loc main_arg5) := m ((c.tc : Thread nD τ).loc main_arg5)
abbrev A6 : Buf (Elt Ideal) ((c.tc : Thread nD τ).loc main_arg6) := m ((c.tc : Thread nD τ).loc main_arg6)
abbrev A7 : Buf (Elt Ideal) ((c.tc : Thread nD τ).loc main_arg7) := m ((c.tc : Thread nD τ).loc main_arg7)

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v115) = FLAT (ACC (ACC (A5 m c) (X1 (A0 m c) (EXT (A1 m c)) (A2 m c)) (GR (EXT (A7 m c)) (A4 m c))) (X1 (A0 m c) (EXT (A1 m c)) (A2 m c)) (GR (EXT (A6 m c)) (A3 m c)))
      ∧ r.2.mem ((c.tc : Thread nD τ).loc main_v117) = DYR (EXT (A1 m c)) (GR (SAME (ACC (ACC (A5 m c) (X1 (A0 m c) (EXT (A1 m c)) (A2 m c)) (GR (EXT (A7 m c)) (A4 m c))) (X1 (A0 m c) (EXT (A1 m c)) (A2 m c)) (GR (EXT (A6 m c)) (A3 m c)))) (A2 m c))
      ∧ r.2.mem ((c.tc : Thread nD τ).loc main_v118) = DGR (X1 (A0 m c) (EXT (A1 m c)) (A2 m c)) (EXT (A6 m c))
      ∧ r.2.mem ((c.tc : Thread nD τ).loc main_v119) = DGR (X1 (A0 m c) (EXT (A1 m c)) (A2 m c)) (EXT (A7 m c))
      ∧ r.2.mem ((c.tc : Thread nD τ).loc main_v120) = DGR (EXT (A1 m c)) (SAME (ACC (ACC (A5 m c) (X1 (A0 m c) (EXT (A1 m c)) (A2 m c)) (GR (EXT (A7 m c)) (A4 m c))) (X1 (A0 m c) (EXT (A1 m c)) (A2 m c)) (GR (EXT (A6 m c)) (A3 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (run (F := Ideal) m ρ)

end Cert.Resid2RefIdeal.Value
-- ==== Proof.NormHost.lean ====
/- The reference's norms of a residual stream, entry by entry, and what a call over the stream's tokens computes: the two
   gradients are equal where the stream and the incoming gradients are real numbers. -/
module

public import proofs.«01_k».proof.Proof.Resid2Ref
public import proofs.«01_k».proof.Proof.LossEq

@[expose] public section

set_option maxRecDepth 16384

noncomputable section

namespace Cert.Norm

open Cert.Resid2RefIdeal Cert.Resid2RefIdeal.Gen Cert.Resid2RefIdeal.Value Idealize.ShloMosaic Idealize.ShloMosaic.TcCoe Idealize.SL.Sem
open Cert.Index
open Cert.LossIdeal.Value (tk tk_eta flat line flat_tk flat_apply line_apply sum_tk)

/-- An array of rows as a function of the row and the feature, and a scale as one of the feature. -/
def of {n : ℕ} {φ : FTy} (a : FVec Ideal ⟨2, ![n, 1024]⟩ φ) (i : Fin n) (k : Fin 1024) : EReal := a (ix2 i k)
def ofg (g : FVec Ideal ⟨2, ![1, 1024]⟩ .f32) (k : Fin 1024) : EReal := g (ix2 0 k)

section
variable {n : ℕ} (a d x : Fin n → Fin 1024 → EReal) (g : Fin 1024 → EReal)
/-- The gradient in a norm's input. -/
def back (i : Fin n) (k : Fin 1024) : EReal := hand (fun k => d i k * g k) (x i) k
/-- A gradient with the one through a norm added to it. -/
def thru (i : Fin n) (k : Fin 1024) : EReal := a i k + back d x g i k
/-- A row's part of the gradient in a norm's scale, and the gradient. -/
def part (i : Fin n) (k : Fin 1024) : EReal := d i k * (x i k * rinv (x i))
def scale (k : Fin 1024) : EReal := ∑ i, part d x i k
/-- The stream after a branch's normalised output is added to it. -/
def stream (i : Fin n) (k : Fin 1024) : EReal := a i k + x i k * rinv (x i) * g k

theorem hand_is_real {m : ℕ} {d x : Fin m → EReal} (hd : ∀ k, ∃ r : ℝ, d k = (r : EReal)) (hx : ∀ k, ∃ r : ℝ, x k = (r : EReal)) (k : Fin m) :
    ∃ r : ℝ, hand d x k = (r : EReal) := by
  obtain ⟨w, hw⟩ := rinv_is_real hx
  obtain ⟨a, rfl⟩ := Reals.choose hx
  obtain ⟨b, rfl⟩ := Reals.choose hd
  unfold hand
  rw [hw, K_eq]
  simp only [← EReal.coe_mul, Reals.coe_sum, Reals.div_coe_coe _ (show (1024 : ℝ) ≠ 0 by norm_num), ← EReal.coe_sub]
  exact ⟨_, rfl⟩

variable {a d x g}
theorem thru_is_real (ha : ∀ i k, ∃ r : ℝ, a i k = (r : EReal)) (hd : ∀ i k, ∃ r : ℝ, d i k = (r : EReal)) (hx : ∀ i k, ∃ r : ℝ, x i k = (r : EReal))
    (hg : ∀ k, ∃ r : ℝ, g k = (r : EReal)) (i : Fin n) (k : Fin 1024) : ∃ r : ℝ, thru a d x g i k = (r : EReal) := by
  obtain ⟨p, hp⟩ := ha i k
  obtain ⟨q, hq⟩ : ∃ r : ℝ, back d x g i k = (r : EReal) := by
    refine hand_is_real (fun k => ?_) (hx i) k
    obtain ⟨u, hu⟩ := hd i k
    obtain ⟨v, hv⟩ := hg k
    exact ⟨u * v, by rw [hu, hv, EReal.coe_mul]⟩
  exact ⟨p + q, by unfold thru; rw [hp, hq, EReal.coe_add]⟩
theorem stream_is_real (ha : ∀ i k, ∃ r : ℝ, a i k = (r : EReal)) (hx : ∀ i k, ∃ r : ℝ, x i k = (r : EReal))
    (hg : ∀ k, ∃ r : ℝ, g k = (r : EReal)) (i : Fin n) (k : Fin 1024) : ∃ r : ℝ, stream a x g i k = (r : EReal) := by
  obtain ⟨p, hp⟩ := ha i k
  obtain ⟨w, hw⟩ := rinv_is_real (hx i)
  obtain ⟨q, hq⟩ := hx i k
  obtain ⟨v, hv⟩ := hg k
  exact ⟨p + q * w * v, by unfold stream; rw [hp, hw, hq, hv]; simp only [EReal.coe_mul, EReal.coe_add]⟩
end

/-! The reference's arrays. -/

variable (a x d : FVec Ideal S2x2048x1024 .f32) (y : FVec Ideal S2x2048x1024 .bf16) (g : FVec Ideal S1024 .f32) (b : Fin 2) (s : Fin 2048) (k : Fin 1024)

/-- An array of a sequence's tokens, by tokens. -/
abbrev fl {φ : FTy} (a : FVec Ideal S2x2048x1024 φ) : Fin 4096 → Fin 1024 → EReal := of (flat a)
abbrev ln (g : FVec Ideal S1024 .f32) : Fin 1024 → EReal := ofg (line g)

theorem fl_tk {φ : FTy} (a : FVec Ideal S2x2048x1024 φ) : fl a (tk b s) k = a (ix3 b s k) := flat_tk a b s k
theorem fl_row {φ : FTy} (a : FVec Ideal S2x2048x1024 φ) : fl a (tk b s) = fun k => a (ix3 b s k) := funext fun k => flat_tk a b s k
theorem ln_eq : ln g k = g (ix1 k) := line_apply g k
theorem fl_real {φ : FTy} {a : FVec Ideal S2x2048x1024 φ} (h : ∀ i, ∃ r : ℝ, a i = (r : EReal)) (i : Fin 4096) (k : Fin 1024) : ∃ r : ℝ, fl a i k = (r : EReal) := by
  obtain ⟨r, hr⟩ := h (ix3 ⟨i.val / 2048, by omega⟩ ⟨i.val % 2048, by omega⟩ k)
  exact ⟨r, (flat_apply a i k).trans hr⟩
theorem ln_real {g : FVec Ideal S1024 .f32} (h : ∀ i, ∃ r : ℝ, g i = (r : EReal)) (k : Fin 1024) : ∃ r : ℝ, ln g k = (r : EReal) := by
  obtain ⟨r, hr⟩ := h (ix1 k)
  exact ⟨r, (ln_eq g k).trans hr⟩

theorem EXT_apply (i : S2x2048x1024.Idx) : EXT y i = y i := by pointwise [EXT]
theorem fl_EXT : fl (EXT y) = fl y := by
  funext n k
  exact (flat_apply _ n k).trans ((EXT_apply y _).trans (flat_apply y n k).symm)
theorem SAME_eq : SAME a = a := by
  funext i
  have e (a : FVec Ideal S2x2048x1024 .f32) (b : Fin 2) (s : Fin 2048) (k : Fin 1024) : SAME a (ix3 b s k) = a (ix3 b s k) := by
    pointwise [SAME]
  have hi : i = ix3 (i 0) (i 1) (i 2) := by
    funext q
    fin_cases q <;> rfl
  rw [hi]
  exact e a _ _ _

theorem MSR_apply : MSR x (ix3 b s 0) = msq (fun k => x (ix3 b s k)) := by
  pointwise [MSR]
  rfl
theorem RIR_apply : RIR x (ix3 b s 0) = rinv (fun k => x (ix3 b s k)) := by
  pointwise [RIR]
  rw [MSR_apply]
  rfl
theorem TRR_apply : TRR x d (ix2 b s) = through (fun k => d (ix3 b s k)) (fun k => x (ix3 b s k)) := by
  have h := RIR_apply x b s
  have h' := MSR_apply x b s
  generalize hr : RIR x = r at h
  generalize hM : MSR x = M at h'
  pointwise [TRR]
  rw [hr, hM]
  simp only [Finset.univ_unique, Finset.sum_singleton]
  unfold through
  rw [← h, ← h']
  rfl
theorem ACC_apply : ACC a x d (ix3 b s k) = a (ix3 b s k) + chain (fun k => d (ix3 b s k)) (fun k => x (ix3 b s k)) k := by
  have h := RIR_apply x b s
  have h' := TRR_apply x d b s
  generalize hr : RIR x = r at h
  generalize hT : TRR x d = T at h'
  pointwise [ACC]
  rw [hr, hT]
  unfold chain
  rw [h, h', add_assoc, add_assoc, add_assoc]
theorem DYR_apply (n : Fin 4096) (hn : n = tk b s) : DYR x d (ix2 n k) = chain (fun k => d (ix3 b s k)) (fun k => x (ix3 b s k)) k := by
  have hb : (⟨n.val / 2048, by omega⟩ : Fin 2) = b := Fin.ext (by subst hn; simp only; omega)
  have hs : (⟨n.val % 2048, by omega⟩ : Fin 2048) = s := Fin.ext (by subst hn; simp only; omega)
  have h := RIR_apply x b s
  have h' := TRR_apply x d b s
  generalize hr : RIR x = r at h
  generalize hT : TRR x d = T at h'
  pointwise [DYR]
  rw [hr, hT]
  simp only [hb, hs]
  rw [h, h']
  rfl
theorem DGR_apply : DGR x d (ix2 0 k) = ∑ b, ∑ s, x (ix3 b s k) * rinv (fun k => x (ix3 b s k)) * d (ix3 b s k) := by
  have e : DGR x d (ix2 0 k) = ∑ b, ∑ s, x (ix3 b s k) * RIR x (ix3 b s 0) * d (ix3 b s k) := by
    generalize hr : RIR x = r
    pointwise [DGR]
    rw [hr]
    simp only [Finset.univ_unique, Finset.sum_singleton]
  rw [e]
  simp only [RIR_apply]
theorem GR_apply : GR d g (ix3 b s k) = d (ix3 b s k) * g (ix1 k) := by pointwise [GR]
theorem X1_apply : X1 a x g (ix3 b s k) = a (ix3 b s k) + x (ix3 b s k) * rinv (fun k => x (ix3 b s k)) * g (ix1 k) := by
  have h := RIR_apply x b s
  generalize hr : RIR x = r at h
  pointwise [X1]
  rw [hr, h]

/-! The reference's arrays are the functions above. -/

variable {a x d g}

theorem fl_ext {a : FVec Ideal S2x2048x1024 .f32} {f : Fin 4096 → Fin 1024 → EReal} (h : ∀ b s k, a (ix3 b s k) = f (tk b s) k) : fl a = f := by
  funext n k
  rw [← tk_eta n]
  exact (fl_tk _ _ _ a).trans (h _ _ k)
theorem fl_X1 : fl (X1 a x g) = stream (fl a) (fl x) (ln g) := by
  refine fl_ext fun b s k => ?_
  rw [X1_apply]
  unfold stream
  rw [fl_tk, fl_row, ln_eq]
theorem fl_ACC (hx : ∀ i k, ∃ r : ℝ, fl x i k = (r : EReal)) (hd : ∀ i k, ∃ r : ℝ, fl d i k = (r : EReal)) (hg : ∀ k, ∃ r : ℝ, ln g k = (r : EReal)) :
    fl (ACC a x (GR d g)) = thru (fl a) (fl d) (fl x) (ln g) := by
  refine fl_ext fun b s k => ?_
  rw [ACC_apply]
  unfold thru back
  rw [fl_tk, hand_eq, fl_row]
  · simp only [GR_apply, fl_row, ln_eq]
  · intro k
    obtain ⟨u, hu⟩ := hd (tk b s) k
    obtain ⟨v, hv⟩ := hg k
    exact ⟨u * v, by rw [hu, hv, EReal.coe_mul]⟩
  · exact hx _
theorem DYR_eq (hx : ∀ i k, ∃ r : ℝ, fl x i k = (r : EReal)) (hd : ∀ i k, ∃ r : ℝ, fl d i k = (r : EReal)) (hg : ∀ k, ∃ r : ℝ, ln g k = (r : EReal))
    (n : Fin 4096) (k : Fin 1024) : DYR x (GR d g) (ix2 n k) = back (fl d) (fl x) (ln g) n k := by
  obtain ⟨b, s, rfl⟩ : ∃ b s, n = tk b s := ⟨_, _, (tk_eta n).symm⟩
  rw [DYR_apply x _ b s k _ rfl]
  unfold back
  rw [hand_eq, fl_row]
  · simp only [GR_apply, fl_row, ln_eq]
  · intro k
    obtain ⟨u, hu⟩ := hd (tk b s) k
    obtain ⟨v, hv⟩ := hg k
    exact ⟨u * v, by rw [hu, hv, EReal.coe_mul]⟩
  · exact hx _
theorem DGR_eq (k : Fin 1024) : DGR x d (ix2 0 k) = scale (fl d) (fl x) k := by
  rw [DGR_apply]
  unfold scale
  rw [← sum_tk]
  refine Finset.sum_congr rfl fun b _ => Finset.sum_congr rfl fun s _ => ?_
  unfold part
  rw [fl_tk, fl_row, mul_comm]
theorem FLAT_eq (n : Fin 4096) (k : Fin 1024) : FLAT a (ix2 n k) = fl a n k := rfl

end Cert.Norm
-- ==== Proof.NormBlock.lean ====
/- The blocks of tokens a call over the residual stream works through, and a scale's gradient summed over them. -/
module

public import proofs.«01_k».proof.Proof.NormHost

@[expose] public section

set_option maxRecDepth 16384

noncomputable section

namespace Cert.Norm

open Cert.Index Idealize.ShloMosaic

/-- Row `r` of block `n`. -/
abbrev tok (n : ℕ) (h : n < 8) (r : Fin 512) : Fin 4096 := ⟨n * 512 + r.val, by omega⟩
/-- The rows of a block. -/
abbrev rows (a : Fin 4096 → Fin 1024 → EReal) (n : ℕ) (h : n < 8) : Fin 512 → Fin 1024 → EReal := fun r => a (tok n h r)

theorem scale_rows (d x : Fin 4096 → Fin 1024 → EReal) (p : Fin 8 → ℕ) (h : ∀ s, p s < 8) (hp : ∀ s, p s = s.val) (k : Fin 1024) :
    ∑ s, scale (rows d (p s) (h s)) (rows x (p s) (h s)) k = scale d x k := by
  unfold scale
  refine Eq.trans ?_ (Fin.sum_univ_tiles 8 512 rfl fun n => part d x n k).symm
  refine Finset.sum_congr rfl fun s _ => Finset.sum_congr rfl fun r _ => ?_
  have e : tok (p s) (h s) r = ⟨s.val * 512 + r.val, by omega⟩ := Fin.ext (by simp only [hp s])
  exact congrArg (fun n => part d x n k) e

theorem run_point {n : ℕ} (hn : n < 8) (hr : n % 8 = 8 - 1) (s : ℕ) : 8 * (n / 8) + s = s := by omega

theorem of_ext {n : ℕ} {φ : FTy} {a : FVec Ideal ⟨2, ![n, 1024]⟩ φ} {f : Fin n → Fin 1024 → EReal} (h : ∀ r k, a (ix2 r k) = f r k) : of a = f :=
  funext fun r => funext fun k => h r k

/-- An array of 4096 rows from its entries, and a row of 1024. -/
def arr (f : Fin 4096 → Fin 1024 → EReal) (i : Shape.Idx ⟨2, ![4096, 1024]⟩) : EReal := f (i 0) (i 1)
def arr1 (f : Fin 1024 → EReal) (i : Shape.Idx ⟨2, ![1, 1024]⟩) : EReal := f (i 1)

theorem arr_at {f : Fin 4096 → Fin 1024 → EReal} {n : ℕ} {h : n < 8} {φ : FTy} {a : FVec Ideal ⟨2, ![512, 1024]⟩ φ} (ha : of a = rows f n h)
    (y : Shape.Idx ⟨2, ![512, 1024]⟩) (i : Shape.Idx ⟨2, ![4096, 1024]⟩) (hi : i = ix2 (tok n h (y 0)) (y 1)) : a y = arr f i := by
  subst hi
  exact (congrArg a (ix2_eta y).symm).trans (congrFun (congrFun ha (y 0)) (y 1))
theorem arr1_at (f : Fin 1024 → EReal) (i j : Shape.Idx ⟨2, ![1, 1024]⟩) (h : i = j) : f (j 1) = arr1 f i := by subst h; rfl
theorem arr_eq {f : Fin 4096 → Fin 1024 → EReal} {φ : FTy} {a : FVec Ideal ⟨2, ![4096, 1024]⟩ φ} (h : ∀ n k, a (ix2 n k) = f n k) : a = arr f :=
  funext fun i => (congrArg a (ix2_eta i).symm).trans (h (i 0) (i 1))
theorem arr1_eq {f : Fin 1024 → EReal} {φ : FTy} {a : FVec Ideal ⟨2, ![1, 1024]⟩ φ} (h : ∀ k, a (ix2 0 k) = f k) : a = arr1 f :=
  funext fun i => (congrArg a (Cert.LossIdeal.Value.one_eta i)).trans (h (i 1))

end Cert.Norm
-- ==== Proof.Resid2Array.lean ====
/- What the call over a residual and two norms leaves in its five result arrays. -/
module

public import proofs.«01_k».proof.Proof.Gen.Resid2Ideal.Value
public import Idealize.ShloMosaic.Lib.Pipeline.ValueKit
public import proofs.«01_k».proof.Proof.NormBlock

@[expose] public section

set_option maxRecDepth 16384

noncomputable section

namespace Cert.Resid2Ideal.Value

open Cert.Norm Cert.Index Cert.Resid2Ideal Cert.Resid2Ideal.Gen Idealize.ShloMosaic Idealize.ShloMosaic.TcCoe Idealize.SL.Sem
open Idealize.ShloMosaic.Pipeline (Dat)
open Cert.LossIdeal.Value (flat line start go one_eta)
open Cert.Resid2RefIdeal.Value (EXT X1)

section
variable (a x v : FVec Ideal S512x1024 .f32) (d y : FVec Ideal S512x1024 .bf16) (g : FVec Ideal S1x1024 .f32) (acc : FVec Ideal S1x1024 .f32) (k : Fin 1024)

theorem pay14 : of (k0_pay14 (F := Ideal) a x d g) = thru (of a) (of d) (of x) (ofg g) := by
  refine of_ext fun r k => ?_
  pointwise [k0_pay14, k0_pay12, k0_pay11, k0_pay10, k0_pay9]
  rfl
theorem pay20 : of (k0_pay20 (F := Ideal) (k0_pay9 x) v d g) = thru (of v) (of d) (of x) (ofg g) := by
  refine of_ext fun r k => ?_
  pointwise [k0_pay20, k0_pay19, k0_pay18, k0_pay17, k0_pay9]
  rfl
theorem pay4 : of (k0_pay4 (F := Ideal) v y g) = back (of v) (of y) (ofg g) := by
  refine of_ext fun r k => ?_
  pointwise [k0_pay4, k0_pay3, k0_pay2, k0_pay1]
  rfl
theorem pay5 : k0_pay5 (F := Ideal) v y acc (ix2 0 k) = acc (ix2 0 k) + scale (of v) (of y) k := by
  pointwise [k0_pay5, k0_pay3, k0_pay2, k0_pay1]
  rfl
theorem pay16 : k0_pay16 (F := Ideal) (k0_pay13 x d) (k0_pay15 acc) (ix2 0 k) = acc (ix2 0 k) + scale (of d) (of x) k := by
  pointwise [k0_pay16, k0_pay15, k0_pay13, k0_pay12, k0_pay11, k0_pay10, k0_pay9]
  rfl
theorem pay21 : k0_pay21 (F := Ideal) (k0_pay9 x) d acc (ix2 0 k) = acc (ix2 0 k) + scale (of d) (of x) k := by
  pointwise [k0_pay21, k0_pay19, k0_pay18, k0_pay17, k0_pay9]
  rfl
end

theorem pay6 (j) : k0_pay6 (F := Ideal) j = 0 := by pointwise [k0_pay6]
theorem pay7 (j) : k0_pay7 (F := Ideal) j = 0 := by pointwise [k0_pay7]
theorem pay8 (j) : k0_pay8 (F := Ideal) j = 0 := by pointwise [k0_pay8]

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.Resid2Ideal.main_arg0)
abbrev B1 : FVec Ideal S2x2048x1024 .bf16 := m ((c.tc : Thread _ _).loc Cert.Resid2Ideal.main_arg1)
abbrev B2 : FVec Ideal S1024 .f32 := m ((c.tc : Thread _ _).loc Cert.Resid2Ideal.main_arg2)
abbrev B3 : FVec Ideal S1024 .f32 := m ((c.tc : Thread _ _).loc Cert.Resid2Ideal.main_arg3)
abbrev B4 : FVec Ideal S1024 .f32 := m ((c.tc : Thread _ _).loc Cert.Resid2Ideal.main_arg4)
abbrev B5 : FVec Ideal S2x2048x1024 .f32 := m ((c.tc : Thread _ _).loc Cert.Resid2Ideal.main_arg5)
abbrev B6 : FVec Ideal S2x2048x1024 .bf16 := m ((c.tc : Thread _ _).loc Cert.Resid2Ideal.main_arg6)
abbrev B7 : FVec Ideal S2x2048x1024 .bf16 := m ((c.tc : Thread _ _).loc Cert.Resid2Ideal.main_arg7)

/-- The residual stream the norms read. -/
abbrev XS : FVec Ideal S2x2048x1024 .f32 := X1 (B0 m c) (EXT (B1 m c)) (B2 m c)

theorem V15 : V m c main_v15 = flat (B5 m c) := by entry_read; rfl
theorem V16 : V m c main_v16 = flat (B6 m c) := by entry_read; rfl
theorem V17 : V m c main_v17 = flat (B7 m c) := by entry_read; rfl
theorem V18 : V m c main_v18 = flat (XS m c) := by entry_read; rfl
theorem V19 : V m c main_v19 = line (B3 m c) := by entry_read; rfl
theorem V20 : V m c main_v20 = line (B4 m c) := by entry_read; rfl
theorem V21 : V m c main_v21 = flat (B1 m c) := by entry_read; rfl
theorem V22 : V m c main_v22 = line (B2 m c) := by entry_read; rfl

theorem lt8 : t.val < 8 := t.isLt

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![0, 0]
    ∧ win0_8.index t = ![t.val, 0] ∧ win0_9.index t = ![t.val, 0] ∧ win0_10.index t = ![0, 0] ∧ win0_11.index t = ![0, 0] ∧ win0_12.index t = ![0, 0] :=
  (by decide +kernel : ∀ t : Fin grid0.N, _)

theorem blk0 : of (φ := .f32) (iblk m c 0 t) = rows (fl (B5 m c)) t.val (lt8 t) := by
  refine of_ext fun r k => ?_
  unfold rows fl of
  rw [← V15]; blk_ext! [iblk, idx t]
theorem blk1 : of (φ := .bf16) (iblk m c 1 t) = rows (fl (B6 m c)) t.val (lt8 t) := by
  refine of_ext fun r k => ?_
  unfold rows fl of
  rw [← V16]; blk_ext! [iblk, idx t]
theorem blk2 : of (φ := .bf16) (iblk m c 2 t) = rows (fl (B7 m c)) t.val (lt8 t) := by
  refine of_ext fun r k => ?_
  unfold rows fl of
  rw [← V17]; blk_ext! [iblk, idx t]
theorem blk3 : of (φ := .f32) (iblk m c 3 t) = rows (fl (XS m c)) t.val (lt8 t) := by
  refine of_ext fun r k => ?_
  unfold rows fl of
  rw [← V18]; blk_ext! [iblk, idx t]
theorem blk4 : ofg (iblk m c 4 t : FVec Ideal S1x1024 .f32) = ln (B3 m c) := by
  funext k
  unfold ln ofg
  rw [← V19]; blk_ext! [iblk, idx t]
theorem blk5 : ofg (iblk m c 5 t : FVec Ideal S1x1024 .f32) = ln (B4 m c) := by
  funext k
  unfold ln ofg
  rw [← V20]; blk_ext! [iblk, idx t]
theorem blk6 : of (φ := .bf16) (iblk m c 6 t) = rows (fl (B1 m c)) t.val (lt8 t) := by
  refine of_ext fun r k => ?_
  unfold rows fl of
  rw [← V21]; blk_ext! [iblk, idx t]
theorem blk7 : ofg (iblk m c 7 t : FVec Ideal S1x1024 .f32) = ln (B2 m c) := by
  funext k
  unfold ln ofg
  rw [← V22]; blk_ext! [iblk, idx t]

theorem emb8 (y : S512x1024.Idx) : (win0_8.blk t).view.emb y = ix2 (tok t.val (lt8 t) (y 0)) (y 1) := by blk_ext! [idx t]
theorem emb9 (y : S512x1024.Idx) : (win0_9.blk t).view.emb y = ix2 (tok t.val (lt8 t) (y 0)) (y 1) := by blk_ext! [idx t]
theorem emb10 (y : S1x1024.Idx) : (win0_10.blk t).view.emb y = y := by blk_ext! [idx t]
theorem emb11 (y : S1x1024.Idx) : (win0_11.blk t).view.emb y = y := by blk_ext! [idx t]
theorem emb12 (y : S1x1024.Idx) : (win0_12.blk t).view.emb y = y := by blk_ext! [idx t]

/-- The gradient in the stream after the first norm, and after both. -/
def U1 : Fin 4096 → Fin 1024 → EReal := thru (fl (B5 m c)) (fl (B6 m c)) (fl (XS m c)) (ln (B3 m c))
def U2 : Fin 4096 → Fin 1024 → EReal := thru (U1 m c) (fl (B7 m c)) (fl (XS m c)) (ln (B4 m c))

/-- A block's gradient in the stream after both norms. -/
abbrev G2 : FVec Ideal S512x1024 .f32 :=
  k0_pay20 (F := Ideal) (k0_pay9 (iblk m c 3 t)) (k0_pay14 (iblk m c 0 t) (iblk m c 3 t) (iblk m c 1 t) (iblk m c 4 t)) (iblk m c 2 t) (iblk m c 5 t)

theorem g2 : of (G2 m c t) = rows (U2 m c) t.val (lt8 t) := by
  rw [pay20, pay14, blk0, blk1, blk2, blk3, blk4, blk5]
  rfl
theorem dy : of (k0_pay4 (F := Ideal) (G2 m c t) (iblk m c 6 t) (iblk m c 7 t)) = rows (back (U2 m c) (fl (B1 m c)) (ln (B2 m c))) t.val (lt8 t) := by
  rw [pay4, g2, blk6, blk7]
  rfl

/-- The five results. -/
def R8 : S4096x1024.Idx → EReal := arr (U2 m c)
def R9 : S4096x1024.Idx → EReal := arr (back (U2 m c) (fl (B1 m c)) (ln (B2 m c)))
def R10 : S1x1024.Idx → EReal := arr1 (scale (fl (B6 m c)) (fl (XS m c)))
def R11 : S1x1024.Idx → EReal := arr1 (scale (fl (B7 m c)) (fl (XS m c)))
def R12 : S1x1024.Idx → EReal := arr1 (scale (U2 m c) (fl (B1 m c)))

theorem final8 : (dats m 0 c).arrAt 8 (cfgs 0).N = R8 m c := by
  refine (dats m 0 c).arrAt_eq_of_covers 8 _ (by decide +kernel) fun t hf y => ?_
  blk_simp
  rw [after0_8]
  have key : (outsAt0 m c t.val t.isLt).1 = G2 m c t := by
    by_cases h : t.val % 8 = 0
    · rw [outsAt0_A m c t h]
      frame_out
    · rw [outsAt0_B m c t h]
      frame_out
  rw [key]
  exact arr_at (g2 m c t) y _ (emb8 t y)
theorem final9 : (dats m 0 c).arrAt 9 (cfgs 0).N = R9 m c := by
  refine (dats m 0 c).arrAt_eq_of_covers 9 _ (by decide +kernel) fun t hf y => ?_
  blk_simp
  rw [after0_9]
  have key : (outsAt0 m c t.val t.isLt).2.1 = k0_pay4 (F := Ideal) (G2 m c t) (iblk m c 6 t) (iblk m c 7 t) := by
    by_cases h : t.val % 8 = 0
    · rw [outsAt0_A m c t h]
      frame_out
    · rw [outsAt0_B m c t h]
      frame_out
  rw [key]
  exact arr_at (dy m c t) y _ (emb9 t y)

theorem step10 (acc : FVec Ideal S1x1024 .f32) (k : Fin 1024) :
    k0_pay16 (F := Ideal) (k0_pay13 (iblk m c 3 t) (iblk m c 1 t)) (k0_pay15 acc) (ix2 0 k)
      = acc (ix2 0 k) + scale (rows (fl (B6 m c)) t.val (lt8 t)) (rows (fl (XS m c)) t.val (lt8 t)) k := by
  rw [← blk1, ← blk3]
  exact pay16 _ _ _ _
theorem step11 (acc : FVec Ideal S1x1024 .f32) (k : Fin 1024) :
    k0_pay21 (F := Ideal) (k0_pay9 (iblk m c 3 t)) (iblk m c 2 t) acc (ix2 0 k)
      = acc (ix2 0 k) + scale (rows (fl (B7 m c)) t.val (lt8 t)) (rows (fl (XS m c)) t.val (lt8 t)) k := by
  rw [← blk2, ← blk3]
  exact pay21 _ _ _ _
theorem step12 (acc : FVec Ideal S1x1024 .f32) (k : Fin 1024) :
    k0_pay5 (F := Ideal) (G2 m c t) (iblk m c 6 t) acc (ix2 0 k)
      = acc (ix2 0 k) + scale (rows (U2 m c) t.val (lt8 t)) (rows (fl (B1 m c)) t.val (lt8 t)) k := by
  rw [← g2, ← blk6]
  exact pay5 _ _ _ _

theorem final10 : (dats m 0 c).arrAt 10 (cfgs 0).N = R10 m c := by
  refine (dats m 0 c).arrAt_eq_of_covers 10 _ (by decide +kernel) fun t hf y => ?_
  blk_simp
  rw [after0_10]
  have hr := (flush0_10 t).mp hf
  rw [Pipeline.eq_sum_fin_of_reset_step_apply_of_flush (fun n h => (outsAt0 m c n h).2.2.1) 8 (fun _ => 0)
    (fun t j => scale (rows (fl (B6 m c)) t.val (lt8 t)) (rows (fl (XS m c)) t.val (lt8 t)) (j 1))
    (fun t h j => by
      rw [outsAt0_A m c t h]
      frame_out
      exact start pay6 (step10 m c t) j)
    (fun t h j => by
      rw [outsAt0_B m c t h]
      frame_out
      exact go (step10 m c t) j)
    t hr _, zero_add]
  exact (scale_rows _ _ _ (fun _ => lt8 _) (fun s => run_point (lt8 t) hr s.val) (y 1)).trans (arr1_at _ _ _ (emb10 t y))
theorem final11 : (dats m 0 c).arrAt 11 (cfgs 0).N = R11 m c := by
  refine (dats m 0 c).arrAt_eq_of_covers 11 _ (by decide +kernel) fun t hf y => ?_
  blk_simp
  rw [after0_11]
  have hr := (flush0_11 t).mp hf
  rw [Pipeline.eq_sum_fin_of_reset_step_apply_of_flush (fun n h => (outsAt0 m c n h).2.2.2.1) 8 (fun _ => 0)
    (fun t j => scale (rows (fl (B7 m c)) t.val (lt8 t)) (rows (fl (XS m c)) t.val (lt8 t)) (j 1))
    (fun t h j => by
      rw [outsAt0_A m c t h]
      frame_out
      exact start pay7 (step11 m c t) j)
    (fun t h j => by
      rw [outsAt0_B m c t h]
      frame_out
      exact go (step11 m c t) j)
    t hr _, zero_add]
  exact (scale_rows _ _ _ (fun _ => lt8 _) (fun s => run_point (lt8 t) hr s.val) (y 1)).trans (arr1_at _ _ _ (emb11 t y))
theorem final12 : (dats m 0 c).arrAt 12 (cfgs 0).N = R12 m c := by
  refine (dats m 0 c).arrAt_eq_of_covers 12 _ (by decide +kernel) fun t hf y => ?_
  blk_simp
  rw [after0_12]
  have hr := (flush0_12 t).mp hf
  rw [Pipeline.eq_sum_fin_of_reset_step_apply_of_flush (fun n h => (outsAt0 m c n h).2.2.2.2) 8 (fun _ => 0)
    (fun t j => scale (rows (U2 m c) t.val (lt8 t)) (rows (fl (B1 m c)) t.val (lt8 t)) (j 1))
    (fun t h j => by
      rw [outsAt0_A m c t h]
      frame_out
      exact start pay8 (step12 m c t) j)
    (fun t h j => by
      rw [outsAt0_B m c t h]
      frame_out
      exact go (step12 m c t) j)
    t hr _, zero_add]
  exact (scale_rows _ _ _ (fun _ => lt8 _) (fun s => run_point (lt8 t) hr s.val) (y 1)).trans (arr1_at _ _ _ (emb12 t y))

end Cert.Resid2Ideal.Value
-- ==== Proof.Resid2Eq.lean ====
/- The five results of the call over a residual and two norms are the reference's. -/
module

public import proofs.«01_k».proof.Proof.Resid2Array
public import proofs.«01_k».proof.Proof.Gen.Pre_finite_resid2
public import proofs.«01_k».proof.Defs

@[expose] public section

set_option maxRecDepth 16384

noncomputable section

namespace Cert.Resid2Ideal.Value

open Cert.Norm Cert.Index Cert.Resid2Ideal Cert.Resid2Ideal.Gen Idealize.ShloMosaic Idealize.ShloMosaic.TcCoe Idealize.SL.Sem
open Cert.Resid2RefIdeal.Value (EXT X1 ACC GR SAME FLAT DYR DGR)

variable (m : (ℓ : Loc nD τ sig) → Buf (Elt Ideal) ℓ) (c : Dev nD)

/-- What the precondition says of the arguments. -/
theorem real_of_pre (h : Cert.Pre_Resid2Ideal_finite_resid2 m) :
    (∀ i, ∃ r : ℝ, B0 m c i = (r : EReal)) ∧ (∀ i, ∃ r : ℝ, B1 m c i = (r : EReal)) ∧ (∀ i, ∃ r : ℝ, B2 m c i = (r : EReal))
      ∧ (∀ i, ∃ r : ℝ, B3 m c i = (r : EReal)) ∧ (∀ i, ∃ r : ℝ, B4 m c i = (r : EReal)) ∧ (∀ i, ∃ r : ℝ, B5 m c i = (r : EReal))
      ∧ (∀ i, ∃ r : ℝ, B6 m c i = (r : EReal)) ∧ (∀ i, ∃ r : ℝ, B7 m c i = (r : EReal)) := by
  have h := h c
  refine ⟨fun i => Reals.of_abs_lt ?_, fun i => Reals.of_abs_lt ?_, fun i => Reals.of_abs_lt ?_, fun i => Reals.of_abs_lt ?_,
    fun i => Reals.of_abs_lt ?_, fun i => Reals.of_abs_lt ?_, fun i => Reals.of_abs_lt ?_, fun i => Reals.of_abs_lt ?_⟩
  · have e := congrFun h.1 i
    simp only [Cert.Pre_finite_resid2.fn, Cert.Pre_finite_resid2.fn_part1, pointwise, Reals.ofBits_inf] at e
    exact e
  · have e := congrFun h.2.1 i
    simp only [Cert.Pre_finite_resid2.fn, Cert.Pre_finite_resid2.fn_part1, pointwise, Reals.ofBits_inf] at e
    exact e
  · have e := congrFun h.2.2.1 i
    simp only [Cert.Pre_finite_resid2.fn, Cert.Pre_finite_resid2.fn_part1, pointwise, Reals.ofBits_inf] at e
    exact e
  · have e := congrFun h.2.2.2.1 i
    simp only [Cert.Pre_finite_resid2.fn, Cert.Pre_finite_resid2.fn_part1, pointwise, Reals.ofBits_inf] at e
    exact e
  · have e := congrFun h.2.2.2.2.1 i
    simp only [Cert.Pre_finite_resid2.fn, Cert.Pre_finite_resid2.fn_part1, pointwise, Reals.ofBits_inf] at e
    exact e
  · have e := congrFun h.2.2.2.2.2.1 i
    simp only [Cert.Pre_finite_resid2.fn, Cert.Pre_finite_resid2.fn_part1, pointwise, Reals.ofBits_inf] at e
    exact e
  · have e := congrFun h.2.2.2.2.2.2.1 i
    simp only [Cert.Pre_finite_resid2.fn, Cert.Pre_finite_resid2.fn_part1, pointwise, Reals.ofBits_inf] at e
    exact e
  · have e := congrFun h.2.2.2.2.2.2.2 i
    simp only [Cert.Pre_finite_resid2.fn, Cert.Pre_finite_resid2.fn_part1, pointwise, Reals.ofBits_inf] at e
    exact e

theorem xs_real (h : Cert.Pre_Resid2Ideal_finite_resid2 m) (i k) : ∃ r : ℝ, fl (XS m c) i k = (r : EReal) := by
  obtain ⟨h0, h1, h2, -⟩ := real_of_pre m c h
  unfold XS
  rw [fl_X1, fl_EXT]
  exact stream_is_real (fl_real h0) (fl_real h1) (ln_real h2) i k

/-- The reference's gradient in the stream. -/
abbrev GS : FVec Ideal S2x2048x1024 .f32 := ACC (ACC (B5 m c) (XS m c) (GR (EXT (B7 m c)) (B4 m c))) (XS m c) (GR (EXT (B6 m c)) (B3 m c))

/-- The two norms' gradients are added in either order. -/
theorem GS_eq (h : Cert.Pre_Resid2Ideal_finite_resid2 m) : fl (GS m c) = U2 m c := by
  obtain ⟨-, -, -, h3, h4, -, h6, h7⟩ := real_of_pre m c h
  have hx := xs_real m c h
  unfold GS
  rw [fl_ACC hx (by rw [fl_EXT]; exact fl_real h6) (ln_real h3), fl_ACC hx (by rw [fl_EXT]; exact fl_real h7) (ln_real h4), fl_EXT, fl_EXT]
  funext i k
  unfold U2 U1 thru
  exact add_right_comm _ _ _
theorem U2_real (h : Cert.Pre_Resid2Ideal_finite_resid2 m) (i k) : ∃ r : ℝ, U2 m c i k = (r : EReal) := by
  obtain ⟨-, -, -, h3, h4, h5, h6, h7⟩ := real_of_pre m c h
  have hx := xs_real m c h
  exact thru_is_real (thru_is_real (fl_real h5) (fl_real h6) hx (ln_real h3)) (fl_real h7) hx (ln_real h4) i k

/-! The reference's five results over the call's arguments are the call's five arrays. -/

theorem R8_eq (h : Cert.Pre_Resid2Ideal_finite_resid2 m) : FLAT (GS m c) = R8 m c :=
  arr_eq fun n k => (FLAT_eq n k).trans (congrFun (congrFun (GS_eq m c h) n) k)
theorem R9_eq (h : Cert.Pre_Resid2Ideal_finite_resid2 m) : DYR (EXT (B1 m c)) (GR (SAME (GS m c)) (B2 m c)) = R9 m c := by
  obtain ⟨-, h1, h2, -⟩ := real_of_pre m c h
  refine arr_eq fun n k => ?_
  rw [SAME_eq, DYR_eq (by rw [fl_EXT]; exact fl_real h1) (by rw [GS_eq m c h]; exact U2_real m c h) (ln_real h2), GS_eq m c h, fl_EXT]
theorem R10_eq : DGR (XS m c) (EXT (B6 m c)) = R10 m c := arr1_eq fun k => by rw [DGR_eq, fl_EXT]
theorem R11_eq : DGR (XS m c) (EXT (B7 m c)) = R11 m c := arr1_eq fun k => by rw [DGR_eq, fl_EXT]
theorem R12_eq (h : Cert.Pre_Resid2Ideal_finite_resid2 m) : DGR (EXT (B1 m c)) (SAME (GS m c)) = R12 m c :=
  arr1_eq fun k => by rw [DGR_eq, SAME_eq, GS_eq m c h, fl_EXT]

end Cert.Resid2Ideal.Value
-- ==== Proof.Resid2Claims.lean ====
/- The claims about the call over a residual and two norms. -/
module

public import proofs.«01_k».proof.Proof.Resid2Eq
public import proofs.«01_k».proof.Proof.Gen.Resid2
public import proofs.«01_k».proof.Proof.Gen.Resid2.Frame
public import Idealize.ShloMosaic.Lib.Claim
public import Idealize.ShloMosaic.Adequacy
public import Idealize.ShloMosaic.Init

@[expose] public section

noncomputable section

namespace Cert.Proof

open Idealize.ShloMosaic Idealize.SL.Sem

theorem resid2_reference : Cert.quiescent_Resid2RefIdeal := fun m ρ _ =>
  (θ_run Cert.Resid2RefIdeal.defs _ _).mono (fun r h => ⟨fun c => (h c).2.2.2.2.2, sem_eq_zero_of_no_sems (by decide) r.2⟩)
    (Cert.Resid2RefIdeal.Value.run (F := Ideal) m ρ)

theorem resid2_algebraic : Cert.algebraic_Resid2Ideal_Resid2RefIdeal_pre_finite_resid2 := by
  pair_intro
  · run_from Cert.Resid2Ideal.Value.run_blocks m g
  · run_from Cert.Resid2RefIdeal.Value.run_defs m' g'
    · rw [Cert.Resid2Ideal.Value.final8, ← Cert.Resid2Ideal.Value.R8_eq m c hpre]
    · rw [Cert.Resid2Ideal.Value.final9, ← Cert.Resid2Ideal.Value.R9_eq m c hpre]
    · rw [Cert.Resid2Ideal.Value.final10, ← Cert.Resid2Ideal.Value.R10_eq m c]
    · rw [Cert.Resid2Ideal.Value.final11, ← Cert.Resid2Ideal.Value.R11_eq m c]
    · rw [Cert.Resid2Ideal.Value.final12, ← Cert.Resid2Ideal.Value.R12_eq m c hpre]

end Cert.Proof
-- ==== Proof.MixResidArray.lean ====
/- What the call over a residual and one norm leaves in its four result arrays. -/
module

public import proofs.«01_k».proof.Proof.Gen.MixResidIdeal.Value
public import Idealize.ShloMosaic.Lib.Pipeline.ValueKit
public import proofs.«01_k».proof.Proof.NormBlock

@[expose] public section

set_option maxRecDepth 16384

noncomputable section

namespace Cert.MixResidIdeal.Value

open Cert.Norm Cert.Index Cert.MixResidIdeal Cert.MixResidIdeal.Gen Idealize.ShloMosaic Idealize.ShloMosaic.TcCoe Idealize.SL.Sem
open Idealize.ShloMosaic.Pipeline (Dat)
open Cert.LossIdeal.Value (flat line start go one_eta)
open Cert.Resid2RefIdeal.Value (EXT X1)

section
variable (a x v : FVec Ideal S512x1024 .f32) (d y : FVec Ideal S512x1024 .bf16) (g : FVec Ideal S1x1024 .f32) (acc : FVec Ideal S1x1024 .f32) (k : Fin 1024)

theorem pay8 : of (k0_pay8 (F := Ideal) a x d g) = thru (of a) (of d) (of x) (ofg g) := by
  refine of_ext fun r k => ?_
  pointwise [k0_pay8, k0_pay6, k0_pay5, k0_pay4, k0_pay3]
  rfl
theorem pay14 : of (k0_pay14 (F := Ideal) v y g) = back (of v) (of y) (ofg g) := by
  refine of_ext fun r k => ?_
  pointwise [k0_pay14, k0_pay13, k0_pay12, k0_pay11]
  rfl
theorem pay15 : k0_pay15 (F := Ideal) v y acc (ix2 0 k) = acc (ix2 0 k) + scale (of v) (of y) k := by
  pointwise [k0_pay15, k0_pay13, k0_pay12, k0_pay11]
  rfl
theorem pay10 : k0_pay10 (F := Ideal) (k0_pay7 x d) (k0_pay9 acc) (ix2 0 k) = acc (ix2 0 k) + scale (of d) (of x) k := by
  pointwise [k0_pay10, k0_pay9, k0_pay7, k0_pay6, k0_pay5, k0_pay4, k0_pay3]
  rfl
end

theorem pay1 (j) : k0_pay1 (F := Ideal) j = 0 := by pointwise [k0_pay1]
theorem pay2 (j) : k0_pay2 (F := Ideal) j = 0 := by pointwise [k0_pay2]

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.MixResidIdeal.main_arg0)
abbrev B1 : FVec Ideal S2x2048x1024 .bf16 := m ((c.tc : Thread _ _).loc Cert.MixResidIdeal.main_arg1)
abbrev B2 : FVec Ideal S1024 .f32 := m ((c.tc : Thread _ _).loc Cert.MixResidIdeal.main_arg2)
abbrev B3 : FVec Ideal S1024 .f32 := m ((c.tc : Thread _ _).loc Cert.MixResidIdeal.main_arg3)
abbrev B4 : FVec Ideal S2x2048x1024 .f32 := m ((c.tc : Thread _ _).loc Cert.MixResidIdeal.main_arg4)
abbrev B5 : FVec Ideal S2x2048x1024 .bf16 := m ((c.tc : Thread _ _).loc Cert.MixResidIdeal.main_arg5)

/-- The residual stream the norm reads. -/
abbrev XS : FVec Ideal S2x2048x1024 .f32 := X1 (B0 m c) (EXT (B1 m c)) (B2 m c)

theorem V15 : V m c main_v15 = flat (B4 m c) := by entry_read; rfl
theorem V16 : V m c main_v16 = flat (B5 m c) := by entry_read; rfl
theorem V17 : V m c main_v17 = flat (XS m c) := by entry_read; rfl
theorem V18 : V m c main_v18 = line (B3 m c) := by entry_read; rfl
theorem V19 : V m c main_v19 = flat (B1 m c) := by entry_read; rfl
theorem V20 : V m c main_v20 = line (B2 m c) := by entry_read; rfl

theorem lt8 : t.val < 8 := t.isLt

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0]
    ∧ win0_6.index t = ![t.val, 0] ∧ win0_7.index t = ![t.val, 0] ∧ win0_8.index t = ![0, 0] ∧ win0_9.index t = ![0, 0] :=
  (by decide +kernel : ∀ t : Fin grid0.N, _)

theorem blk0 : of (φ := .f32) (iblk m c 0 t) = rows (fl (B4 m c)) t.val (lt8 t) := by
  refine of_ext fun r k => ?_
  unfold rows fl of
  rw [← V15]; blk_ext! [iblk, idx t]
theorem blk1 : of (φ := .bf16) (iblk m c 1 t) = rows (fl (B5 m c)) t.val (lt8 t) := by
  refine of_ext fun r k => ?_
  unfold rows fl of
  rw [← V16]; blk_ext! [iblk, idx t]
theorem blk2 : of (φ := .f32) (iblk m c 2 t) = rows (fl (XS m c)) t.val (lt8 t) := by
  refine of_ext fun r k => ?_
  unfold rows fl of
  rw [← V17]; blk_ext! [iblk, idx t]
theorem blk3 : ofg (iblk m c 3 t : FVec Ideal S1x1024 .f32) = ln (B3 m c) := by
  funext k
  unfold ln ofg
  rw [← V18]; blk_ext! [iblk, idx t]
theorem blk4 : of (φ := .bf16) (iblk m c 4 t) = rows (fl (B1 m c)) t.val (lt8 t) := by
  refine of_ext fun r k => ?_
  unfold rows fl of
  rw [← V19]; blk_ext! [iblk, idx t]
theorem blk5 : ofg (iblk m c 5 t : FVec Ideal S1x1024 .f32) = ln (B2 m c) := by
  funext k
  unfold ln ofg
  rw [← V20]; blk_ext! [iblk, idx t]

theorem emb6 (y : S512x1024.Idx) : (win0_6.blk t).view.emb y = ix2 (tok t.val (lt8 t) (y 0)) (y 1) := by blk_ext! [idx t]
theorem emb7 (y : S512x1024.Idx) : (win0_7.blk t).view.emb y = ix2 (tok t.val (lt8 t) (y 0)) (y 1) := by blk_ext! [idx t]
theorem emb8 (y : S1x1024.Idx) : (win0_8.blk t).view.emb y = y := by blk_ext! [idx t]
theorem emb9 (y : S1x1024.Idx) : (win0_9.blk t).view.emb y = y := by blk_ext! [idx t]

/-- The gradient in the stream. -/
def U : Fin 4096 → Fin 1024 → EReal := thru (fl (B4 m c)) (fl (B5 m c)) (fl (XS m c)) (ln (B3 m c))

/-- A block's gradient in the stream. -/
abbrev G1 : FVec Ideal S512x1024 .f32 := k0_pay8 (F := Ideal) (iblk m c 0 t) (iblk m c 2 t) (iblk m c 1 t) (iblk m c 3 t)

theorem g1 : of (G1 m c t) = rows (U m c) t.val (lt8 t) := by
  rw [pay8, blk0, blk1, blk2, blk3]
  rfl
theorem dy : of (k0_pay14 (F := Ideal) (G1 m c t) (iblk m c 4 t) (iblk m c 5 t)) = rows (back (U m c) (fl (B1 m c)) (ln (B2 m c))) t.val (lt8 t) := by
  rw [pay14, g1, blk4, blk5]
  rfl

/-- The four results. -/
def R6 : S4096x1024.Idx → EReal := arr (U m c)
def R7 : S4096x1024.Idx → EReal := arr (back (U m c) (fl (B1 m c)) (ln (B2 m c)))
def R8 : S1x1024.Idx → EReal := arr1 (scale (fl (B5 m c)) (fl (XS m c)))
def R9 : S1x1024.Idx → EReal := arr1 (scale (U m c) (fl (B1 m c)))

theorem final6 : (dats m 0 c).arrAt 6 (cfgs 0).N = R6 m c := by
  refine (dats m 0 c).arrAt_eq_of_covers 6 _ (by decide +kernel) fun t hf y => ?_
  blk_simp
  rw [after0_6]
  have key : (outsAt0 m c t.val t.isLt).1 = G1 m c t := by
    by_cases h : t.val % 8 = 0
    · rw [outsAt0_A m c t h]
      frame_out
    · rw [outsAt0_B m c t h]
      frame_out
  rw [key]
  exact arr_at (g1 m c t) y _ (emb6 t y)
theorem final7 : (dats m 0 c).arrAt 7 (cfgs 0).N = R7 m c := by
  refine (dats m 0 c).arrAt_eq_of_covers 7 _ (by decide +kernel) fun t hf y => ?_
  blk_simp
  rw [after0_7]
  have key : (outsAt0 m c t.val t.isLt).2.1 = k0_pay14 (F := Ideal) (G1 m c t) (iblk m c 4 t) (iblk m c 5 t) := by
    by_cases h : t.val % 8 = 0
    · rw [outsAt0_A m c t h]
      frame_out
    · rw [outsAt0_B m c t h]
      frame_out
  rw [key]
  exact arr_at (dy m c t) y _ (emb7 t y)

theorem step8 (acc : FVec Ideal S1x1024 .f32) (k : Fin 1024) :
    k0_pay10 (F := Ideal) (k0_pay7 (iblk m c 2 t) (iblk m c 1 t)) (k0_pay9 acc) (ix2 0 k)
      = acc (ix2 0 k) + scale (rows (fl (B5 m c)) t.val (lt8 t)) (rows (fl (XS m c)) t.val (lt8 t)) k := by
  rw [← blk1, ← blk2]
  exact pay10 _ _ _ _
theorem step9 (acc : FVec Ideal S1x1024 .f32) (k : Fin 1024) :
    k0_pay15 (F := Ideal) (G1 m c t) (iblk m c 4 t) acc (ix2 0 k)
      = acc (ix2 0 k) + scale (rows (U m c) t.val (lt8 t)) (rows (fl (B1 m c)) t.val (lt8 t)) k := by
  rw [← g1, ← blk4]
  exact pay15 _ _ _ _

theorem final8 : (dats m 0 c).arrAt 8 (cfgs 0).N = R8 m c := by
  refine (dats m 0 c).arrAt_eq_of_covers 8 _ (by decide +kernel) fun t hf y => ?_
  blk_simp
  rw [after0_8]
  have hr := (flush0_8 t).mp hf
  rw [Pipeline.eq_sum_fin_of_reset_step_apply_of_flush (fun n h => (outsAt0 m c n h).2.2.1) 8 (fun _ => 0)
    (fun t j => scale (rows (fl (B5 m c)) t.val (lt8 t)) (rows (fl (XS m c)) t.val (lt8 t)) (j 1))
    (fun t h j => by
      rw [outsAt0_A m c t h]
      frame_out
      exact start pay1 (step8 m c t) j)
    (fun t h j => by
      rw [outsAt0_B m c t h]
      frame_out
      exact go (step8 m c t) j)
    t hr _, zero_add]
  exact (scale_rows _ _ _ (fun _ => lt8 _) (fun s => run_point (lt8 t) hr s.val) (y 1)).trans (arr1_at _ _ _ (emb8 t y))
theorem final9 : (dats m 0 c).arrAt 9 (cfgs 0).N = R9 m c := by
  refine (dats m 0 c).arrAt_eq_of_covers 9 _ (by decide +kernel) fun t hf y => ?_
  blk_simp
  rw [after0_9]
  have hr := (flush0_9 t).mp hf
  rw [Pipeline.eq_sum_fin_of_reset_step_apply_of_flush (fun n h => (outsAt0 m c n h).2.2.2) 8 (fun _ => 0)
    (fun t j => scale (rows (U m c) t.val (lt8 t)) (rows (fl (B1 m c)) t.val (lt8 t)) (j 1))
    (fun t h j => by
      rw [outsAt0_A m c t h]
      frame_out
      exact start pay2 (step9 m c t) j)
    (fun t h j => by
      rw [outsAt0_B m c t h]
      frame_out
      exact go (step9 m c t) j)
    t hr _, zero_add]
  exact (scale_rows _ _ _ (fun _ => lt8 _) (fun s => run_point (lt8 t) hr s.val) (y 1)).trans (arr1_at _ _ _ (emb9 t y))

end Cert.MixResidIdeal.Value
-- ==== Proof.MixResidEq.lean ====
/- The reference of a residual and one norm, and that its four results are the call's. -/
module

public import proofs.«01_k».proof.Proof.MixResidArray
public import proofs.«01_k».proof.Proof.Gen.MixResidRefIdeal.Run
public import proofs.«01_k».proof.Proof.Gen.Pre_finite_mix_resid
public import proofs.«01_k».proof.Defs

@[expose] public section

set_option maxRecDepth 16384

noncomputable section

namespace Cert.MixResidRefIdeal.Value

open Cert.MixResidRefIdeal Cert.MixResidRefIdeal.Gen Idealize.ShloMosaic Idealize.ShloMosaic.TcCoe Idealize.SL.Sem
open Cert.Resid2RefIdeal.Value (EXT X1 ACC GR SAME FLAT DYR DGR)

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)
abbrev A4 : Buf (Elt Ideal) ((c.tc : Thread nD τ).loc main_arg4) := m ((c.tc : Thread nD τ).loc main_arg4)
abbrev A5 : Buf (Elt Ideal) ((c.tc : Thread nD τ).loc main_arg5) := m ((c.tc : Thread nD τ).loc main_arg5)

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v77) = FLAT (ACC (A4 m c) (X1 (A0 m c) (EXT (A1 m c)) (A2 m c)) (GR (EXT (A5 m c)) (A3 m c)))
      ∧ r.2.mem ((c.tc : Thread nD τ).loc main_v79) = DYR (EXT (A1 m c)) (GR (SAME (ACC (A4 m c) (X1 (A0 m c) (EXT (A1 m c)) (A2 m c)) (GR (EXT (A5 m c)) (A3 m c)))) (A2 m c))
      ∧ r.2.mem ((c.tc : Thread nD τ).loc main_v80) = DGR (X1 (A0 m c) (EXT (A1 m c)) (A2 m c)) (EXT (A5 m c))
      ∧ r.2.mem ((c.tc : Thread nD τ).loc main_v81) = DGR (EXT (A1 m c)) (SAME (ACC (A4 m c) (X1 (A0 m c) (EXT (A1 m c)) (A2 m c)) (GR (EXT (A5 m c)) (A3 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (run (F := Ideal) m ρ)

end Cert.MixResidRefIdeal.Value

namespace Cert.MixResidIdeal.Value

open Cert.Norm Cert.Index Cert.MixResidIdeal Cert.MixResidIdeal.Gen Idealize.ShloMosaic Idealize.ShloMosaic.TcCoe Idealize.SL.Sem
open Cert.Resid2RefIdeal.Value (EXT X1 ACC GR SAME FLAT DYR DGR)

variable (m : (ℓ : Loc nD τ sig) → Buf (Elt Ideal) ℓ) (c : Dev nD)

/-- What the precondition says of the arguments. -/
theorem real_of_pre (h : Cert.Pre_MixResidIdeal_finite_mix_resid m) :
    (∀ i, ∃ r : ℝ, B0 m c i = (r : EReal)) ∧ (∀ i, ∃ r : ℝ, B1 m c i = (r : EReal)) ∧ (∀ i, ∃ r : ℝ, B2 m c i = (r : EReal)) ∧ (∀ i, ∃ r : ℝ, B3 m c i = (r : EReal)) ∧ (∀ i, ∃ r : ℝ, B4 m c i = (r : EReal)) ∧ (∀ i, ∃ r : ℝ, B5 m c i = (r : EReal)) := by
  have h := h c
  refine ⟨fun i => Reals.of_abs_lt ?_, fun i => Reals.of_abs_lt ?_, fun i => Reals.of_abs_lt ?_, fun i => Reals.of_abs_lt ?_, fun i => Reals.of_abs_lt ?_, fun i => Reals.of_abs_lt ?_⟩
  · have e := congrFun h.1 i
    simp only [Cert.Pre_finite_mix_resid.fn, Cert.Pre_finite_mix_resid.fn_part1, pointwise, Reals.ofBits_inf] at e
    exact e
  · have e := congrFun h.2.1 i
    simp only [Cert.Pre_finite_mix_resid.fn, Cert.Pre_finite_mix_resid.fn_part1, pointwise, Reals.ofBits_inf] at e
    exact e
  · have e := congrFun h.2.2.1 i
    simp only [Cert.Pre_finite_mix_resid.fn, Cert.Pre_finite_mix_resid.fn_part1, pointwise, Reals.ofBits_inf] at e
    exact e
  · have e := congrFun h.2.2.2.1 i
    simp only [Cert.Pre_finite_mix_resid.fn, Cert.Pre_finite_mix_resid.fn_part1, pointwise, Reals.ofBits_inf] at e
    exact e
  · have e := congrFun h.2.2.2.2.1 i
    simp only [Cert.Pre_finite_mix_resid.fn, Cert.Pre_finite_mix_resid.fn_part1, pointwise, Reals.ofBits_inf] at e
    exact e
  · have e := congrFun h.2.2.2.2.2 i
    simp only [Cert.Pre_finite_mix_resid.fn, Cert.Pre_finite_mix_resid.fn_part1, pointwise, Reals.ofBits_inf] at e
    exact e

theorem xs_real (h : Cert.Pre_MixResidIdeal_finite_mix_resid m) (i k) : ∃ r : ℝ, fl (XS m c) i k = (r : EReal) := by
  obtain ⟨h0, h1, h2, -⟩ := real_of_pre m c h
  unfold XS
  rw [fl_X1, fl_EXT]
  exact stream_is_real (fl_real h0) (fl_real h1) (ln_real h2) i k

/-- The reference's gradient in the stream. -/
abbrev GS : FVec Ideal S2x2048x1024 .f32 := ACC (B4 m c) (XS m c) (GR (EXT (B5 m c)) (B3 m c))

theorem GS_eq (h : Cert.Pre_MixResidIdeal_finite_mix_resid m) : fl (GS m c) = U m c := by
  obtain ⟨-, -, -, h3, -, h5⟩ := real_of_pre m c h
  unfold GS
  rw [fl_ACC (xs_real m c h) (by rw [fl_EXT]; exact fl_real h5) (ln_real h3), fl_EXT]
  rfl
theorem U_real (h : Cert.Pre_MixResidIdeal_finite_mix_resid m) (i k) : ∃ r : ℝ, U m c i k = (r : EReal) := by
  obtain ⟨-, -, -, h3, h4, h5⟩ := real_of_pre m c h
  exact thru_is_real (fl_real h4) (fl_real h5) (xs_real m c h) (ln_real h3) i k

/-! The reference's four results over the call's arguments are the call's four arrays. -/

theorem R6_eq (h : Cert.Pre_MixResidIdeal_finite_mix_resid m) : FLAT (GS m c) = R6 m c :=
  arr_eq fun n k => (FLAT_eq n k).trans (congrFun (congrFun (GS_eq m c h) n) k)
theorem R7_eq (h : Cert.Pre_MixResidIdeal_finite_mix_resid m) : DYR (EXT (B1 m c)) (GR (SAME (GS m c)) (B2 m c)) = R7 m c := by
  obtain ⟨-, h1, h2, -⟩ := real_of_pre m c h
  refine arr_eq fun n k => ?_
  rw [SAME_eq, DYR_eq (by rw [fl_EXT]; exact fl_real h1) (by rw [GS_eq m c h]; exact U_real m c h) (ln_real h2), GS_eq m c h, fl_EXT]
theorem R8_eq : DGR (XS m c) (EXT (B5 m c)) = R8 m c := arr1_eq fun k => by rw [DGR_eq, fl_EXT]
theorem R9_eq (h : Cert.Pre_MixResidIdeal_finite_mix_resid m) : DGR (EXT (B1 m c)) (SAME (GS m c)) = R9 m c :=
  arr1_eq fun k => by rw [DGR_eq, SAME_eq, GS_eq m c h, fl_EXT]

end Cert.MixResidIdeal.Value
-- ==== Proof.MixResidClaims.lean ====
/- The claims about the call over a residual and one norm. -/
module

public import proofs.«01_k».proof.Proof.MixResidEq
public import proofs.«01_k».proof.Proof.Gen.MixResid
public import proofs.«01_k».proof.Proof.Gen.MixResid.Frame
public import Idealize.ShloMosaic.Lib.Claim
public import Idealize.ShloMosaic.Adequacy
public import Idealize.ShloMosaic.Init

@[expose] public section

noncomputable section

namespace Cert.Proof

open Idealize.ShloMosaic Idealize.SL.Sem

theorem mixResid_reference : Cert.quiescent_MixResidRefIdeal := fun m ρ _ =>
  (θ_run Cert.MixResidRefIdeal.defs _ _).mono (fun r h => ⟨fun c => (h c).2.2.2.2, sem_eq_zero_of_no_sems (by decide) r.2⟩)
    (Cert.MixResidRefIdeal.Value.run (F := Ideal) m ρ)

theorem mixResid_algebraic : Cert.algebraic_MixResidIdeal_MixResidRefIdeal_pre_finite_mix_resid := by
  pair_intro
  · run_from Cert.MixResidIdeal.Value.run_blocks m g
  · run_from Cert.MixResidRefIdeal.Value.run_defs m' g'
    · rw [Cert.MixResidIdeal.Value.final6, ← Cert.MixResidIdeal.Value.R6_eq m c hpre]
    · rw [Cert.MixResidIdeal.Value.final7, ← Cert.MixResidIdeal.Value.R7_eq m c hpre]
    · rw [Cert.MixResidIdeal.Value.final8, ← Cert.MixResidIdeal.Value.R8_eq m c]
    · rw [Cert.MixResidIdeal.Value.final9, ← Cert.MixResidIdeal.Value.R9_eq m c hpre]

end Cert.Proof
-- ==== Proof.InNormArray.lean ====
/- What the call over the first norm leaves in its two result arrays. -/
module

public import proofs.«01_k».proof.Proof.Gen.InNormIdeal.Value
public import Idealize.ShloMosaic.Lib.Pipeline.ValueKit
public import proofs.«01_k».proof.Proof.NormBlock

@[expose] public section

set_option maxRecDepth 16384

noncomputable section

namespace Cert.InNormIdeal.Value

open Cert.Norm Cert.Index Cert.InNormIdeal Cert.InNormIdeal.Gen Idealize.ShloMosaic Idealize.ShloMosaic.TcCoe Idealize.SL.Sem
open Idealize.ShloMosaic.Pipeline (Dat)
open Cert.LossIdeal.Value (flat line start go one_eta)

section
variable (a x : FVec Ideal S512x1024 .f32) (d : FVec Ideal S512x1024 .bf16) (g : FVec Ideal S1x1024 .f32) (acc : FVec Ideal S1x1024 .f32) (k : Fin 1024)

theorem pay8 : of (k0_pay8 (F := Ideal) a x d g) = thru (of a) (of d) (of x) (ofg g) := by
  refine of_ext fun r k => ?_
  pointwise [k0_pay8, k0_pay6, k0_pay5, k0_pay4, k0_pay3]
  rfl
theorem pay1 : k0_pay1 (F := Ideal) (k0_pay7 x d) (k0_pay9 acc) (ix2 0 k) = acc (ix2 0 k) + scale (of d) (of x) k := by
  pointwise [k0_pay1, k0_pay9, k0_pay7, k0_pay6, k0_pay5, k0_pay4, k0_pay3]
  rfl
end

theorem pay2 (j) : k0_pay2 (F := Ideal) j = 0 := by pointwise [k0_pay2]

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.InNormIdeal.main_arg0)
abbrev B1 : FVec Ideal S1024 .f32 := m ((c.tc : Thread _ _).loc Cert.InNormIdeal.main_arg1)
abbrev B2 : FVec Ideal S2x2048x1024 .f32 := m ((c.tc : Thread _ _).loc Cert.InNormIdeal.main_arg2)
abbrev B3 : FVec Ideal S2x2048x1024 .bf16 := m ((c.tc : Thread _ _).loc Cert.InNormIdeal.main_arg3)

theorem V0 : V m c main_v0 = flat (B2 m c) := by entry_read; rfl
theorem V1 : V m c main_v1 = flat (B3 m c) := by entry_read; rfl
theorem V2 : V m c main_v2 = flat (B0 m c) := by entry_read; rfl
theorem V3 : V m c main_v3 = line (B1 m c) := by entry_read; rfl

theorem lt8 : t.val < 8 := t.isLt

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem blk0 : of (φ := .f32) (iblk m c 0 t) = rows (fl (B2 m c)) t.val (lt8 t) := by
  refine of_ext fun r k => ?_
  unfold rows fl of
  rw [← V0]; blk_ext! [iblk, idx t]
theorem blk1 : of (φ := .bf16) (iblk m c 1 t) = rows (fl (B3 m c)) t.val (lt8 t) := by
  refine of_ext fun r k => ?_
  unfold rows fl of
  rw [← V1]; blk_ext! [iblk, idx t]
theorem blk2 : of (φ := .f32) (iblk m c 2 t) = rows (fl (B0 m c)) t.val (lt8 t) := by
  refine of_ext fun r k => ?_
  unfold rows fl of
  rw [← V2]; blk_ext! [iblk, idx t]
theorem blk3 : ofg (iblk m c 3 t : FVec Ideal S1x1024 .f32) = ln (B1 m c) := by
  funext k
  unfold ln ofg
  rw [← V3]; blk_ext! [iblk, idx t]

theorem emb4 (y : S512x1024.Idx) : (win0_4.blk t).view.emb y = ix2 (tok t.val (lt8 t) (y 0)) (y 1) := by blk_ext! [idx t]
theorem emb5 (y : S1x1024.Idx) : (win0_5.blk t).view.emb y = y := by blk_ext! [idx t]

/-- The gradient in the stream. -/
def U : Fin 4096 → Fin 1024 → EReal := thru (fl (B2 m c)) (fl (B3 m c)) (fl (B0 m c)) (ln (B1 m c))

/-- A block's gradient in the stream. -/
abbrev G1 : FVec Ideal S512x1024 .f32 := k0_pay8 (F := Ideal) (iblk m c 0 t) (iblk m c 2 t) (iblk m c 1 t) (iblk m c 3 t)

theorem g1 : of (G1 m c t) = rows (U m c) t.val (lt8 t) := by
  rw [pay8, blk0, blk1, blk2, blk3]
  rfl

/-- The two results. -/
def R4 : S4096x1024.Idx → EReal := arr (U m c)
def R5 : S1x1024.Idx → EReal := arr1 (scale (fl (B3 m c)) (fl (B0 m c)))

theorem final4 : (dats m 0 c).arrAt 4 (cfgs 0).N = R4 m c := by
  refine (dats m 0 c).arrAt_eq_of_covers 4 _ (by decide +kernel) fun t hf y => ?_
  blk_simp
  rw [after0_4]
  have key : (outsAt0 m c t.val t.isLt).1 = G1 m c t := by
    by_cases h : t.val % 8 = 0
    · rw [outsAt0_A m c t h]
      frame_out
    · rw [outsAt0_B m c t h]
      frame_out
  rw [key]
  exact arr_at (g1 m c t) y _ (emb4 t y)

theorem step5 (acc : FVec Ideal S1x1024 .f32) (k : Fin 1024) :
    k0_pay1 (F := Ideal) (k0_pay7 (iblk m c 2 t) (iblk m c 1 t)) (k0_pay9 acc) (ix2 0 k)
      = acc (ix2 0 k) + scale (rows (fl (B3 m c)) t.val (lt8 t)) (rows (fl (B0 m c)) t.val (lt8 t)) k := by
  rw [← blk1, ← blk2]
  exact pay1 _ _ _ _

theorem final5 : (dats m 0 c).arrAt 5 (cfgs 0).N = R5 m c := by
  refine (dats m 0 c).arrAt_eq_of_covers 5 _ (by decide +kernel) fun t hf y => ?_
  blk_simp
  rw [after0_5]
  have hr := (flush0_5 t).mp hf
  rw [Pipeline.eq_sum_fin_of_reset_step_apply_of_flush (fun n h => (outsAt0 m c n h).2) 8 (fun _ => 0)
    (fun t j => scale (rows (fl (B3 m c)) t.val (lt8 t)) (rows (fl (B0 m c)) t.val (lt8 t)) (j 1))
    (fun t h j => by
      rw [outsAt0_A m c t h]
      frame_out
      exact start pay2 (step5 m c t) j)
    (fun t h j => by
      rw [outsAt0_B m c t h]
      frame_out
      exact go (step5 m c t) j)
    t hr _, zero_add]
  exact (scale_rows _ _ _ (fun _ => lt8 _) (fun s => run_point (lt8 t) hr s.val) (y 1)).trans (arr1_at _ _ _ (emb5 t y))

end Cert.InNormIdeal.Value
-- ==== Proof.InNormEq.lean ====
/- The reference of the first norm and the stream around it, and that its two results are the call's. -/
module

public import proofs.«01_k».proof.Proof.InNormArray
public import proofs.«01_k».proof.Proof.Gen.InNormRefIdeal.Run
public import proofs.«01_k».proof.Proof.Gen.Pre_finite_in_norm
public import proofs.«01_k».proof.Defs

@[expose] public section

set_option maxRecDepth 16384

noncomputable section

namespace Cert.InNormRefIdeal.Value

open Cert.InNormRefIdeal Cert.InNormRefIdeal.Gen Idealize.ShloMosaic Idealize.ShloMosaic.TcCoe Idealize.SL.Sem
open Cert.Resid2RefIdeal.Value (EXT X1 ACC GR SAME FLAT DYR DGR)

variable (m : (ℓ : Loc nD τ sig) → Buf (Elt Ideal) ℓ) (c : Dev nD)

abbrev A0 : Buf (Elt Ideal) ((c.tc : Thread nD τ).loc main_arg0) := m ((c.tc : Thread nD τ).loc main_arg0)
abbrev A1 : Buf (Elt Ideal) ((c.tc : Thread nD τ).loc main_arg1) := m ((c.tc : Thread nD τ).loc main_arg1)
abbrev A2 : Buf (Elt Ideal) ((c.tc : Thread nD τ).loc main_arg2) := m ((c.tc : Thread nD τ).loc main_arg2)
abbrev A3 : Buf (Elt Ideal) ((c.tc : Thread nD τ).loc main_arg3) := m ((c.tc : Thread nD τ).loc main_arg3)

/-- The reference's run, its results by their definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v38) = FLAT (ACC (A2 m c) (A0 m c) (GR (EXT (A3 m c)) (A1 m c)))
      ∧ r.2.mem ((c.tc : Thread nD τ).loc main_v39) = DGR (A0 m c) (EXT (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (run (F := Ideal) m ρ)

end Cert.InNormRefIdeal.Value

namespace Cert.InNormIdeal.Value

open Cert.Norm Cert.Index Cert.InNormIdeal Cert.InNormIdeal.Gen Idealize.ShloMosaic Idealize.ShloMosaic.TcCoe Idealize.SL.Sem
open Cert.Resid2RefIdeal.Value (EXT X1 ACC GR SAME FLAT DYR DGR)

variable (m : (ℓ : Loc nD τ sig) → Buf (Elt Ideal) ℓ) (c : Dev nD)

/-- What the precondition says of the arguments. -/
theorem real_of_pre (h : Cert.Pre_InNormIdeal_finite_in_norm m) :
    (∀ i, ∃ r : ℝ, B0 m c i = (r : EReal)) ∧ (∀ i, ∃ r : ℝ, B1 m c i = (r : EReal)) ∧ (∀ i, ∃ r : ℝ, B2 m c i = (r : EReal)) ∧ (∀ i, ∃ r : ℝ, B3 m c i = (r : EReal)) := by
  have h := h c
  refine ⟨fun i => Reals.of_abs_lt ?_, fun i => Reals.of_abs_lt ?_, fun i => Reals.of_abs_lt ?_, fun i => Reals.of_abs_lt ?_⟩
  · have e := congrFun h.1 i
    simp only [Cert.Pre_finite_in_norm.fn, pointwise, Reals.ofBits_inf] at e
    exact e
  · have e := congrFun h.2.1 i
    simp only [Cert.Pre_finite_in_norm.fn, pointwise, Reals.ofBits_inf] at e
    exact e
  · have e := congrFun h.2.2.1 i
    simp only [Cert.Pre_finite_in_norm.fn, pointwise, Reals.ofBits_inf] at e
    exact e
  · have e := congrFun h.2.2.2 i
    simp only [Cert.Pre_finite_in_norm.fn, pointwise, Reals.ofBits_inf] at e
    exact e

/-! The reference's two results over the call's arguments are the call's two arrays. -/

theorem R4_eq (h : Cert.Pre_InNormIdeal_finite_in_norm m) : FLAT (ACC (B2 m c) (B0 m c) (GR (EXT (B3 m c)) (B1 m c))) = R4 m c := by
  obtain ⟨h0, h1, -, h3⟩ := real_of_pre m c h
  refine arr_eq fun n k => ?_
  rw [FLAT_eq, fl_ACC (fl_real h0) (by rw [fl_EXT]; exact fl_real h3) (ln_real h1), fl_EXT]
  rfl
theorem R5_eq : DGR (B0 m c) (EXT (B3 m c)) = R5 m c := arr1_eq fun k => by rw [DGR_eq, fl_EXT]

end Cert.InNormIdeal.Value
-- ==== Proof.InNormClaims.lean ====
/- The claims about the call over the first norm. -/
module

public import proofs.«01_k».proof.Proof.InNormEq
public import proofs.«01_k».proof.Proof.Gen.InNorm
public import proofs.«01_k».proof.Proof.Gen.InNorm.Frame
public import Idealize.ShloMosaic.Lib.Claim
public import Idealize.ShloMosaic.Adequacy
public import Idealize.ShloMosaic.Init

@[expose] public section

noncomputable section

namespace Cert.Proof

open Idealize.ShloMosaic Idealize.SL.Sem

theorem inNorm_reference : Cert.quiescent_InNormRefIdeal := fun m ρ _ =>
  (θ_run Cert.InNormRefIdeal.defs _ _).mono (fun r h => ⟨fun c => (h c).2.2, sem_eq_zero_of_no_sems (by decide) r.2⟩)
    (Cert.InNormRefIdeal.Value.run (F := Ideal) m ρ)

theorem inNorm_algebraic : Cert.algebraic_InNormIdeal_InNormRefIdeal_pre_finite_in_norm := by
  pair_intro
  · run_from Cert.InNormIdeal.Value.run_blocks m g
  · run_from Cert.InNormRefIdeal.Value.run_defs m' g'
    · rw [Cert.InNormIdeal.Value.final4, ← Cert.InNormIdeal.Value.R4_eq m c hpre]
    · rw [Cert.InNormIdeal.Value.final5, ← Cert.InNormIdeal.Value.R5_eq m c]

end Cert.Proof
-- ==== Proof.MemAttnAArray.lean ====
module

public import proofs.«01_k».proof.Proof.MemAttnPoint
public import proofs.«01_k».proof.Proof.Gen.MemAttnAIdeal.Value

/-! What the memory attention's gradient leaves in its two result arrays, over the wider projection of the recurrent layers. -/

@[expose] public section

set_option maxRecDepth 16384

noncomputable section

namespace Cert.MemAttnAIdeal.Value

open Cert.Softmax Cert.MemAttnAIdeal Cert.MemAttnAIdeal.Gen Idealize.ShloMosaic Idealize.ShloMosaic.TcCoe Idealize.SL.Sem
open Idealize.ShloMosaic.Pipeline (Dat)
open Cert.MemAttnRefIdeal.Value (SR DPR SR_apply DPR_apply)
open Cert.MemAttnIdeal.Value (Rows RowsO DQ DKV BLK3 BLK4 BLK3_eq BLK4_apply T4 T4_sum zero5)

variable (m : (ℓ : Loc nD τ sig) → Buf (Elt Ideal) ℓ) (c : Dev nD)

/-- The projection's last 1024 lanes: the queries are the last 256 of them. -/
def last (a : FVec Ideal S4096x1792 .f32) : FVec Ideal S4096x1024 .f32 := fun i => a (ix2 (i 0) ⟨768 + (i 1).val, by
  have h : (i 1).val < 1024 := (i 1).isLt
  omega⟩)

abbrev A0 : FVec Ideal S4096x1024 .f32 := last (m ((c : Thread nD τ).loc main_arg0))
abbrev A1 : FVec Ideal S512x512 .f32 := m ((c : Thread nD τ).loc main_arg1)
abbrev A2 : FVec Ideal S4096x1024 .bf16 := m ((c : Thread nD τ).loc main_arg2)

theorem idx : ∀ t : Fin cfg0.N, win0_0.index t = ![t.val, 6] ∧ win0_1.index t = ![t.val / 4, 0] ∧ win0_2.index t = ![t.val, 3]
    ∧ win0_3.index t = ![t.val, 6] ∧ win0_4.index t = ![t.val / 4, 0] :=
  (by decide +kernel : ∀ t : Fin grid0.N, _)

theorem lt8 (t : Fin cfg0.N) : t.val < 8 := t.isLt

theorem rows (t : Fin cfg0.N) : Rows (A0 m c) (A1 m c) t (iblk m c 0 t) (iblk m c 1 t) where
  q r n := by blk_ext! [iblk, V, idx t]
  mem j n := by blk_ext! [iblk, V, idx t]

theorem rowsO (t : Fin cfg0.N) : RowsO (A2 m c) t (iblk m c 2 t) := fun r n => by blk_ext! [iblk, V, idx t]

theorem emb3 (t : Fin cfg0.N) (y : S512x256.Idx) : (win0_3.blk t).view.emb y
    = ix2 ⟨t.val * 512 + (y 0).val, by have := lt8 t; have h : (y 0).val < 512 := (y 0).isLt; omega⟩
        ⟨1536 + (y 1).val, by have h : (y 1).val < 256 := (y 1).isLt; omega⟩ := by
  blk_ext! [idx t]

theorem emb4 (t : Fin cfg0.N) (y : S256x512.Idx) : (win0_4.blk t).view.emb y
    = ix2 ⟨t.val / 4 * 256 + (y 0).val, by have := lt8 t; have h : (y 0).val < 256 := (y 0).isLt; omega⟩
        ⟨(y 1).val, (y 1).isLt⟩ := by
  blk_ext! [idx t]

/-- The queries' cotangent in the array's own lanes. -/
def DQA (a0 : FVec Ideal S4096x1024 .f32) (a1 : FVec Ideal S512x512 .f32) (a2 : FVec Ideal S4096x1024 .bf16)
    (i : S4096x1792.Idx) : EReal := DQ a0 a1 a2 (i 0) ⟨(i 1).val % 256, by omega⟩

theorem block3 (t : Fin cfg0.N) (y : S512x256.Idx) (i : S4096x1792.Idx) (hi : i
    = ix2 ⟨t.val * 512 + (y 0).val, by have := lt8 t; have h : (y 0).val < 512 := (y 0).isLt; omega⟩
        ⟨1536 + (y 1).val, by have h : (y 1).val < 256 := (y 1).isLt; omega⟩) :
    BLK3 (iblk m c 0 t) (iblk m c 1 t) (iblk m c 2 t) y = DQA (A0 m c) (A1 m c) (A2 m c) i := by
  subst hi
  have h : (y 1).val < 256 := (y 1).isLt
  have e : (⟨(1536 + (y 1).val) % 256, by omega⟩ : Fin 256) = y 1 := Fin.ext (by simp only; omega)
  refine ((congrArg _ (Cert.MemAttnIdeal.Value.ix2_eta y)).trans (BLK3_eq (rows m c t) (rowsO m c t) (y 0) (y 1))).trans ?_
  exact congrArg (DQ (A0 m c) (A1 m c) (A2 m c) _) e.symm

/-- The first result: the queries' lanes carry their cotangent, the others what was there. -/
theorem final3 : (dats m 0 c).arrAt 3 (cfgs 0).N
    = fun i => if 6 * 256 ≤ (i 1 : ℕ) then DQA (A0 m c) (A1 m c) (A2 m c) i
      else m ((c : Thread nD τ).loc main_arg3) i := by
  have e : V m c main_v0_0 = m ((c : Thread nD τ).loc main_arg3) := by entry_read; rfl
  rw [← e]
  refine (dats m 0 c).arrAt_eq_of_coversWhere 3 _ (fun β => 6 ≤ β 1) (by decide +kernel) (fun t hf y => ?_)
    (fun j => by blk_simp [Pipeline.Window.cell_apply]; omega)
  blk_simp
  rw [after0_3]
  have key : (outsAt0 m c t.val t.isLt).1 = BLK3 (iblk m c 0 t) (iblk m c 1 t) (iblk m c 2 t) := by
    by_cases h : t.val % 4 = 0
    · rw [outsAt0_A m c t h]
      frame_out
      rfl
    · rw [outsAt0_B m c t h]
      frame_out
      rfl
  rw [key]
  exact block3 m c t y _ (emb3 t y)

/-- The second result: the memory's cotangent, summed over the batch's four blocks. -/
theorem final4 : (dats m 0 c).arrAt 4 (cfgs 0).N = fun i => DKV (A0 m c) (A1 m c) (A2 m c) (i 0) (i 1) := by
  refine (dats m 0 c).arrAt_eq_of_covers 4 _ (by decide +kernel) fun t hf y => ?_
  blk_simp
  rw [after0_4]
  rw [Pipeline.eq_sum_fin_of_reset_step_apply_of_flush (fun n h => (outsAt0 m c n h).2) 4 (fun _ => 0)
    (fun t j => T4 (iblk m c 0 t) (iblk m c 1 t) (iblk m c 2 t) (j 0) (j 1))
    (fun t h j => by
      rw [outsAt0_A m c t h]
      frame_out
      refine Eq.trans (b := BLK4 (iblk m c 0 t) (iblk m c 1 t) (iblk m c 2 t) (k0_pay5 (F := Ideal)) j) rfl ?_
      refine ((congrArg _ (Cert.MemAttnIdeal.Value.ix2_eta j)).trans (BLK4_apply _ _ _ _ (j 0) (j 1))).trans (congrArg (· + _) (zero5 _)))
    (fun t h j => by
      rw [outsAt0_B m c t h]
      frame_out
      refine Eq.trans (b := BLK4 (iblk m c 0 t) (iblk m c 1 t) (iblk m c 2 t) _ j) rfl ?_
      refine ((congrArg _ (Cert.MemAttnIdeal.Value.ix2_eta j)).trans (BLK4_apply _ _ _ _ (j 0) (j 1))).trans (congrArg (· + _) (congrArg _ (Cert.MemAttnIdeal.Value.ix2_eta j).symm)))
    t ((flush0_4 t).mp hf) _, zero_add]
  refine (T4_sum (Bq := fun t => iblk m c 0 t) (Bm := fun t => iblk m c 1 t) (Bo := fun t => iblk m c 2 t) (rows m c) (rowsO m c) t (y 0) (y 1)).trans ?_
  exact congrArg (fun i : S512x512.Idx => DKV (A0 m c) (A1 m c) (A2 m c) (i 0) (i 1)) (emb4 t y).symm

end Cert.MemAttnAIdeal.Value
-- ==== Proof.MemAttnAEq.lean ====
/- The equation of the memory attention's backward call in the recurrent layers: where its arguments are real numbers,
   the reference's two results are what the call's two arrays hold. -/
module

public import proofs.«01_k».proof.Defs
public import proofs.«01_k».proof.Proof.MemAttnEq
public import proofs.«01_k».proof.Proof.MemAttnAArray
public import proofs.«01_k».proof.Proof.Gen.MemAttnARefIdeal.Run
public import proofs.«01_k».proof.Proof.Gen.Pre_finite_mem_attn_a

@[expose] public section

set_option maxRecDepth 16384

noncomputable section

namespace Cert.MemAttnAIdeal.Value

open Cert.MemAttnARefIdeal Cert.MemAttnARefIdeal.Gen Cert.MemAttnARefIdeal.Value Idealize.ShloMosaic Idealize.ShloMosaic.TcCoe Idealize.SL.Sem
open Cert.MemAttnRefIdeal.Value (QR KR DOR SR DPR ER PR DSR DQR DKVR)

/-- The scores, of the lanes that hold the queries. -/
def S (x : FVec Ideal S4096x256 .f32) (a1 : FVec Ideal S512x512 .f32) : FVec Ideal S2x4x2048x256 .f32 :=
  mulf (Host.dotGeneral dot_S2x2048x4x64_S2x256x4x64_S2x4x2048x256_3_3_1_1_02_02 none
    (shapeCast _ (shapeCast S2x2048x256 x shapeCasts_S4096x256_S2x2048x256) shapeCasts_S2x2048x256_S2x2048x4x64) (KR a1))
    (broadcastInDim S2x4x2048x256 ![] bcast_S_S2x4x2048x256 (constant S_ .f32 0x3E000000#32))

/-- The queries' lanes are the last of the last 1024. -/
theorem lanes_last (a : FVec Ideal S4096x1792 .f32) : extractStridedSlice S4096x256 ![0, 1536] a slices_S4096x1792_S4096x256_0_1536
    = extractStridedSlice S4096x256 ![0, 768] (last a) slices_S4096x1024_S4096x256_0_768 := by
  funext i
  refine congrArg a (funext fun b => Fin.ext ?_)
  match b with
  | ⟨0, _⟩ => rfl
  | ⟨1, _⟩ => show _ = 768 + _; simp [← Nat.add_assoc]

section

variable (m : (ℓ : Loc Cert.MemAttnARefIdeal.nD Cert.MemAttnARefIdeal.τ Cert.MemAttnARefIdeal.sig) → Buf (Elt Ideal) ℓ) (c : Dev Cert.MemAttnARefIdeal.nD)

/-- The projection, the memory, the output's cotangent and the projection's. -/
abbrev RA0 : FVec Ideal S4096x1792 .f32 := m ((c.tc : Thread _ _).loc Cert.MemAttnARefIdeal.main_arg0)
abbrev RA1 : FVec Ideal S512x512 .f32 := m ((c.tc : Thread _ _).loc Cert.MemAttnARefIdeal.main_arg1)
abbrev RA2 : FVec Ideal S4096x1024 .bf16 := m ((c.tc : Thread _ _).loc Cert.MemAttnARefIdeal.main_arg2)
abbrev RA3 : FVec Ideal S4096x1792 .bf16 := m ((c.tc : Thread _ _).loc Cert.MemAttnARefIdeal.main_arg3)

/-- The two results, of the lanes that hold the queries. -/
def G0 (x : FVec Ideal S4096x256 .f32) (a1 : FVec Ideal S512x512 .f32) (a2 : FVec Ideal S4096x1024 .bf16) (a3 : FVec Ideal S4096x1792 .bf16) :
    FVec Ideal S4096x1792 .bf16 :=
  concatenate S4096x1792 1 [⟨S4096x1536, (extractStridedSlice S4096x1536 ![0, 0] a3 slices_S4096x1792_S4096x1536_0_0)⟩,
    ⟨S4096x256, (truncf .bf16 (DQR (DSR (ER (S x a1)) (DPR a2 a1)) (KR a1)) bitsLt_bf16_f32)⟩] concatenates_S4096x1536_S4096x256_S4096x1792_d1
def G1 (x : FVec Ideal S4096x256 .f32) (a1 : FVec Ideal S512x512 .f32) (a2 : FVec Ideal S4096x1024 .bf16) : FVec Ideal S512x512 .f32 :=
  DKVR (PR (ER (S x a1))) (DSR (ER (S x a1)) (DPR a2 a1))
    (shapeCast _ (shapeCast S2x2048x256 x shapeCasts_S4096x256_S2x2048x256) shapeCasts_S2x2048x256_S2x2048x4x64) (DOR a2)

theorem run1 : res_main_v74 m c = G1 (extractStridedSlice S4096x256 ![0, 1536] (RA0 m c) slices_S4096x1792_S4096x256_0_1536) (RA1 m c) (RA2 m c) := by
  rfl
theorem run0 : res_main_v78 m c = G0 (extractStridedSlice S4096x256 ![0, 1536] (RA0 m c) slices_S4096x1792_S4096x256_0_1536) (RA1 m c) (RA2 m c) (RA3 m c) := by
  rfl
theorem G1_last (a0 : FVec Ideal S4096x1792 .f32) (a1 a2) : G1 (extractStridedSlice S4096x256 ![0, 768] (last a0) slices_S4096x1024_S4096x256_0_768) a1 a2
    = DKVR (PR (ER (SR (last a0) a1))) (DSR (ER (SR (last a0) a1)) (DPR a2 a1)) (QR (last a0)) (DOR a2) := by
  rfl
theorem G0_last (a0 : FVec Ideal S4096x1792 .f32) (a1 a2) (a3 : FVec Ideal S4096x1792 .bf16) :
    G0 (extractStridedSlice S4096x256 ![0, 768] (last a0) slices_S4096x1024_S4096x256_0_768) a1 a2 a3
    = concatenate S4096x1792 1 [⟨S4096x1536, (extractStridedSlice S4096x1536 ![0, 0] a3 slices_S4096x1792_S4096x1536_0_0)⟩,
    ⟨S4096x256, (truncf .bf16 (DQR (DSR (ER (SR (last a0) a1)) (DPR a2 a1)) (KR a1)) bitsLt_bf16_f32)⟩]
    concatenates_S4096x1536_S4096x256_S4096x1792_d1 := by
  rfl

/-- The reference's second result, of its arguments. -/
theorem ref1 : res_main_v74 m c = DKVR (PR (ER (SR (last (RA0 m c)) (RA1 m c)))) (DSR (ER (SR (last (RA0 m c)) (RA1 m c))) (DPR (RA2 m c) (RA1 m c)))
    (QR (last (RA0 m c))) (DOR (RA2 m c)) := by
  rw [run1, lanes_last, G1_last]

/-- The reference's first result, of its arguments. -/
theorem ref0 : res_main_v78 m c = concatenate S4096x1792 1 [⟨S4096x1536, (extractStridedSlice S4096x1536 ![0, 0] (RA3 m c) slices_S4096x1792_S4096x1536_0_0)⟩,
    ⟨S4096x256, (truncf .bf16 (DQR (DSR (ER (SR (last (RA0 m c)) (RA1 m c))) (DPR (RA2 m c) (RA1 m c))) (KR (RA1 m c))) bitsLt_bf16_f32)⟩]
    concatenates_S4096x1536_S4096x256_S4096x1792_d1 := by
  rw [run0, lanes_last, G0_last]

end

/-- The reference's first result: the other lanes are untouched. -/
theorem first_eq {a0 : FVec Ideal S4096x1024 .f32} {a1 : FVec Ideal S512x512 .f32} {a2 : FVec Ideal S4096x1024 .bf16} (a3 : FVec Ideal S4096x1792 .bf16)
    (h0 : ∀ i, ∃ r : ℝ, a0 i = (r : EReal)) (h1 : ∀ i, ∃ r : ℝ, a1 i = (r : EReal)) (h2 : ∀ i, ∃ r : ℝ, a2 i = (r : EReal))
    (i : S4096x1792.Idx) : concatenate S4096x1792 1 [⟨S4096x1536, (extractStridedSlice S4096x1536 ![0, 0] a3 slices_S4096x1792_S4096x1536_0_0)⟩,
    ⟨S4096x256, (truncf .bf16 (DQR (DSR (ER (SR a0 a1)) (DPR a2 a1)) (KR a1)) bitsLt_bf16_f32)⟩] concatenates_S4096x1536_S4096x256_S4096x1792_d1 i
    = if 6 * 256 ≤ (i 1 : ℕ) then DQA a0 a1 a2 i else a3 i := by
  generalize hs : DQR (DSR (ER (SR a0 a1)) (DPR a2 a1)) (KR a1) = s
  pointwise
  subst hs
  by_cases h : (i 1 : ℕ) < 1536
  · rw [dif_pos h, if_neg (by omega)]
  · rw [dif_neg h]
    refine Eq.trans ?_ (if_pos (by omega)).symm
    refine (Cert.MemAttnIdeal.Value.DQR_eq h0 h1 h2 _ _).trans (congrArg (Cert.MemAttnIdeal.Value.DQ a0 a1 a2 (i 0)) (Fin.ext ?_))
    have h' : (i 1 : ℕ) < 1792 := (i 1).isLt
    simp only; omega

/-- What the precondition says of the three arguments it reads. -/
theorem real_of_pre {m : (ℓ : Loc Cert.MemAttnAIdeal.nD Cert.MemAttnAIdeal.τ Cert.MemAttnAIdeal.sig) → Buf (Elt Ideal) ℓ}
    (h : Cert.Pre_MemAttnAIdeal_finite_mem_attn_a m) (c : Dev Cert.MemAttnAIdeal.nD) :
    (∀ i, ∃ r : ℝ, A0 m c i = (r : EReal)) ∧ (∀ i, ∃ r : ℝ, A1 m c i = (r : EReal)) ∧ (∀ i, ∃ r : ℝ, A2 m c i = (r : EReal)) := by
  have h := h c
  refine ⟨fun i => Reals.of_abs_lt ?_, fun i => Reals.of_abs_lt ?_, fun i => Reals.of_abs_lt ?_⟩
  · have e := congrFun h.1 (ix2 (i 0) ⟨768 + (i 1).val, by have h : (i 1).val < 1024 := (i 1).isLt; omega⟩)
    simp only [Cert.Pre_finite_mem_attn_a.fn, pointwise, Reals.ofBits_inf] at e
    exact e
  · have e := congrFun h.2.1 i
    simp only [Cert.Pre_finite_mem_attn_a.fn, pointwise, Reals.ofBits_inf] at e
    exact e
  · have e := congrFun h.2.2 i
    simp only [Cert.Pre_finite_mem_attn_a.fn, pointwise, Reals.ofBits_inf] at e
    exact e

end Cert.MemAttnAIdeal.Value
-- ==== Proof.MemAttnAClaims.lean ====
/- The claims about the memory attention's backward call in the recurrent layers. -/
module

public import proofs.«01_k».proof.Proof.MemAttnAEq
public import proofs.«01_k».proof.Proof.Gen.MemAttnA
public import proofs.«01_k».proof.Proof.Gen.MemAttnA.Frame
public import Idealize.ShloMosaic.Lib.Claim
public import Idealize.ShloMosaic.Adequacy
public import Idealize.ShloMosaic.Init

@[expose] public section

noncomputable section

namespace Cert.Proof

open Idealize.ShloMosaic Idealize.SL.Sem

theorem memAttnA_reference : Cert.quiescent_MemAttnARefIdeal := fun m ρ _ =>
  (θ_run Cert.MemAttnARefIdeal.defs _ _).mono (fun r h => ⟨fun c => (h c).2.2, sem_eq_zero_of_no_sems (by decide) r.2⟩)
    (Cert.MemAttnARefIdeal.Value.run (F := Ideal) m ρ)

theorem memAttnA_algebraic : Cert.algebraic_MemAttnAIdeal_MemAttnARefIdeal_pre_finite_mem_attn_a := by
  pair_intro
  · run_from Cert.MemAttnAIdeal.Value.run_blocks m g
  · run_from Cert.MemAttnARefIdeal.Value.run m' g'
    · obtain ⟨h0, h1, h2⟩ := Cert.MemAttnAIdeal.Value.real_of_pre hpre c
      rw [Cert.MemAttnAIdeal.Value.ref0]
      unfold Cert.MemAttnAIdeal.Value.RA0 Cert.MemAttnAIdeal.Value.RA1 Cert.MemAttnAIdeal.Value.RA2 Cert.MemAttnAIdeal.Value.RA3
      rw [(hagree c).1, (hagree c).2.1, (hagree c).2.2.1, (hagree c).2.2.2, Cert.MemAttnAIdeal.Value.final3]
      exact funext (Cert.MemAttnAIdeal.Value.first_eq _ h0 h1 h2)
    · obtain ⟨h0, h1, h2⟩ := Cert.MemAttnAIdeal.Value.real_of_pre hpre c
      rw [Cert.MemAttnAIdeal.Value.ref1]
      unfold Cert.MemAttnAIdeal.Value.RA0 Cert.MemAttnAIdeal.Value.RA1 Cert.MemAttnAIdeal.Value.RA2
      rw [(hagree c).1, (hagree c).2.1, (hagree c).2.2.1, Cert.MemAttnAIdeal.Value.final4]
      exact funext fun i => (congrArg _ (Cert.MemAttnIdeal.Value.ix2_eta i)).trans (Cert.MemAttnIdeal.Value.second_eq h0 h1 h2 (i 0) (i 1))

end Cert.Proof
-- ==== Proof.Ffn.lean ====
/- The gated feed-forward's shifts along the sequence, its three-tap convolution, and its gate, as functions of one
   channel's values along a sequence of 2048 tokens. -/
module

public import proofs.«01_k».proof.Proof.Reals
public import proofs.«01_k».proof.Proof.Index

@[expose] public section

set_option maxRecDepth 16384

noncomputable section

namespace Cert.Ffn

open Idealize.ShloMosaic

/-- One channel along a sequence. -/
abbrev Col := Fin 2048 → EReal

/-- The channel `n` tokens earlier, zero before the sequence begins. -/
def dn (n : ℕ) (x : Col) : Col := fun s => if n ≤ s.val then x ⟨s.val - n, by omega⟩ else 0
/-- The channel `n` tokens later, zero after the sequence ends. -/
def up (n : ℕ) (x : Col) : Col := fun s => if h : s.val + n < 2048 then x ⟨s.val + n, h⟩ else 0

/-- The causal convolution with three taps and a bias. -/
def conv (w : Fin 3 → EReal) (b : EReal) (x : Col) : Col := fun s => w 0 * dn 2 x s + w 1 * dn 1 x s + w 2 * x s + b
/-- Its derivative in the input, applied to a cotangent. -/
def dconv (w : Fin 3 → EReal) (d : Col) : Col := fun s => w 2 * d s + w 1 * up 1 d s + w 0 * up 2 d s
/-- Its derivative in the taps, applied to a cotangent. -/
def dtap (x d : Col) : Fin 3 → EReal
  | 0 => ∑ s, x s * up 2 d s
  | 1 => ∑ s, x s * up 1 d s
  | 2 => ∑ s, x s * d s

theorem up_sum (n : ℕ) (x d : Col) : ∑ s, x s * up n d s = ∑ s, d s * dn n x s := by
  have l : ∀ s, x s * up n d s = if h : s.val + n < 2048 then x s * d ⟨s.val + n, h⟩ else 0 := fun s => by
    unfold up; split
    · rfl
    · exact mul_zero _
  have r : ∀ s, d s * dn n x s = if n ≤ s.val then d s * x ⟨s.val - n, by omega⟩ else 0 := fun s => by
    unfold dn; split
    · rfl
    · exact mul_zero _
  rw [Finset.sum_congr rfl fun s _ => l s, Finset.sum_congr rfl fun s _ => r s]
  refine Finset.sum_bij_ne_zero (fun s _ h => ⟨s.val + n, by by_contra q; exact h (dif_neg q)⟩) (fun _ _ _ => Finset.mem_univ _)
    (fun a _ _ b _ _ e => Fin.ext (by have := congrArg Fin.val e; simpa using this))
    (fun s _ h => ?_) (fun s _ h => ?_)
  · have q : n ≤ s.val := by by_contra q; exact h (if_neg q)
    have e : (⟨s.val - n + n, by omega⟩ : Fin 2048) = s := Fin.ext (by simp; omega)
    refine ⟨⟨s.val - n, by omega⟩, Finset.mem_univ _, ?_, e⟩
    rw [dif_pos (by simp; omega)]
    rw [if_pos q] at h
    refine fun z => h ?_
    rw [mul_comm]
    exact (congrArg (fun t => x _ * d t) e.symm).trans z
  · have q : s.val + n < 2048 := by by_contra q; exact h (dif_neg q)
    rw [dif_pos q, if_pos (by simp), mul_comm]
    exact congrArg (fun t => d _ * x t) (Fin.ext (by simp))

theorem ofBits_half : Ideal.ofBits .f32 1056964608#32 = (((1 / 2 : ℝ)) : EReal) := by
  simp [Ideal.ofBits, Ideal.ieee, -EReal.coe_mul]; norm_num

/-- The constant of the gate's tanh. -/
abbrev kr : ℝ := 6693141 / 8388608
/-- The literal of its cube. -/
abbrev cr : ℝ := 12003091 / 268435456

theorem ofBits_k : Ideal.ofBits .f32 1061962282#32 = ((kr : ℝ) : EReal) := by
  simp [Ideal.ofBits, Ideal.ieee, -EReal.coe_mul]; norm_num [kr]
theorem ofBits_2k : Ideal.ofBits .f32 1070350890#32 = ((2 * kr : ℝ) : EReal) := by
  simp [Ideal.ofBits, Ideal.ieee, -EReal.coe_mul]; norm_num [kr]
theorem ofBits_c : Ideal.ofBits .f32 1027024659#32 = ((cr : ℝ) : EReal) := by
  simp [Ideal.ofBits, Ideal.ieee, -EReal.coe_mul]; norm_num [cr]
theorem ofBits_three : Ideal.ofBits .f32 1077936128#32 = ((3 : ℝ) : EReal) := by
  simp [Ideal.ofBits, Ideal.ieee, -EReal.coe_mul]; norm_num

/-- The gate's factor at `x`: half of one plus the tanh. -/
def sg (x : EReal) : EReal :=
  (((1 / 2 : ℝ)) : EReal) * Ideal.tanh (x * ((kr : EReal) + ((80338380498831 / 2251799813685248 : ℝ) : EReal) * (x * x))) + (((1 / 2 : ℝ)) : EReal)
/-- The gate. -/
def gl (x : EReal) : EReal := x * sg x
/-- The gate's derivative. -/
def dgl (x : EReal) : EReal :=
  sg x * ((x * (1 - sg x)) * (((241015141496493 / 1125899906842624 : ℝ) : EReal) * (x * x) + ((2 * kr : ℝ) : EReal)) + 1)

end Cert.Ffn
-- ==== Proof.FfnBlock.lean ====
/- What the gated feed-forward's bodies compute on a block: one sequence of 2048 tokens by 256 channels. -/
module

public import proofs.«01_k».proof.Proof.Ffn
public import proofs.«01_k».proof.Proof.Gen.FfnActIdeal.Skeleton
public import Idealize.ShloMosaic.Lib.Pointwise
public import Idealize.ShloMosaic.Lib.KernelVsHost

@[expose] public section

set_option maxRecDepth 16384

noncomputable section

namespace Cert.FfnActIdeal.Value

open Cert.FfnActIdeal Cert.FfnActIdeal.Gen Cert.Ffn Idealize.ShloMosaic

/-- Channel `c` of a block. -/
abbrev col (x : FVec Ideal S2048x256 .f32) (c : Fin 256) : Col := fun s => x (ix2 s c)

/-- A block moved down by `sb` rows, the first of its rows cleared. -/
def DOWN (sb : BitVec 32) (x : FVec Ideal S2048x256 .f32) : FVec Ideal S2048x256 .f32 :=
  concatenate S2048x256 0 [⟨S8x256, select (cmpi .sge (iota .tc S8x256 32 [0] iota_S8x256_d0_w32) (broadcast S8x256 sb))
      (extractStridedSlice S8x256 ![0, 0] (dynamicRotate 0 sb none x rotates_S2048x256_d0) slices_S2048x256_o0_0_S8x256)
      (broadcast S8x256 (Scalar.ofBits .f32 0x00000000#32))⟩,
    ⟨S2040x256, extractStridedSlice S2040x256 ![8, 0] (dynamicRotate 0 sb none x rotates_S2048x256_d0) slices_S2048x256_o8_0_S2040x256⟩]
    concatenates_S8x256_S2040x256_S2048x256_d0

theorem sge_small : ∀ (s : Fin 8) (n : Fin 9), IntOp.cmpi .sge (BitVec.ofNat 32 s.val) (BitVec.ofNat 32 n.val) = if n.val ≤ s.val then 1#1 else 0#1 := by
  decide +kernel
theorem slt_small : ∀ (s : Fin 8) (n : Fin 9), IntOp.cmpi .slt (BitVec.ofNat 32 s.val) (BitVec.ofNat 32 n.val) = if s.val < n.val then 1#1 else 0#1 := by
  decide +kernel

theorem DOWN_apply (n : ℕ) (hn : n ≤ 8) (x : FVec Ideal S2048x256 .f32) (s : Fin 2048) (c : Fin 256) :
    DOWN (BitVec.ofNat 32 n) x (ix2 s c) = dn n (col x c) s := by
  unfold DOWN dn col
  pointwise
  have e : (BitVec.ofNat 32 n).toNat = n := by rw [BitVec.toNat_ofNat]; omega
  by_cases h : s.val < 8
  · rw [dif_pos h, sge_small ⟨s.val, h⟩ ⟨n, by omega⟩]
    by_cases q : n ≤ s.val
    · simp only [q, if_true, Scalar.select]
      exact congrArg (fun i => x (ix2 i c)) (Fin.ext (by simp only [e]; omega))
    · simp [q, Scalar.select]
  · rw [dif_neg h]
    refine Eq.trans ?_ (if_pos (by omega : n ≤ s.val)).symm
    exact congrArg (fun i => x (ix2 i c)) (Fin.ext (by simp only [e]; omega))

/-- A block moved up by `n` rows: rotated by `sb = 2048 - n`, the last `n` of its rows cleared (`kb = 8 - n`). -/
def UP (sb kb : BitVec 32) (x : FVec Ideal S2048x256 .f32) : FVec Ideal S2048x256 .f32 :=
  concatenate S2048x256 0 [⟨S2040x256, extractStridedSlice S2040x256 ![0, 0] (dynamicRotate 0 sb none x rotates_S2048x256_d0) slices_S2048x256_o0_0_S2040x256⟩,
    ⟨S8x256, select (cmpi .slt (iota .tc S8x256 32 [0] iota_S8x256_d0_w32) (broadcast S8x256 kb))
      (extractStridedSlice S8x256 ![2040, 0] (dynamicRotate 0 sb none x rotates_S2048x256_d0) slices_S2048x256_o2040_0_S8x256)
      (broadcast S8x256 (Scalar.ofBits .f32 0x00000000#32))⟩]
    concatenates_S2040x256_S8x256_S2048x256_d0

theorem UP_apply (n : ℕ) (hn : n ≤ 8) (x : FVec Ideal S2048x256 .f32) (s : Fin 2048) (c : Fin 256) :
    UP (BitVec.ofNat 32 (2048 - n)) (BitVec.ofNat 32 (8 - n)) x (ix2 s c) = up n (col x c) s := by
  unfold UP up col
  pointwise
  have e : (BitVec.ofNat 32 (2048 - n)).toNat = 2048 - n := by rw [BitVec.toNat_ofNat]; omega
  by_cases h : s.val < 2040
  · rw [dif_pos h, dif_pos (by omega)]
    exact congrArg (fun i => x (ix2 i c)) (Fin.ext (by simp only [e]; omega))
  · rw [dif_neg h, slt_small ⟨s.val - 2040, by omega⟩ ⟨8 - n, by omega⟩]
    by_cases q : s.val + n < 2048
    · simp only [show s.val - 2040 < 8 - n by omega, q, if_true, dif_pos, Scalar.select]
      exact congrArg (fun i => x (ix2 i c)) (Fin.ext (by simp only [e]; omega))
    · simp [q, show ¬ s.val - 2040 < 8 - n by omega, Scalar.select]

/-- A block is the three taps' rows, one channel of them. -/
abbrev tap (w : FVec Ideal S3x256 .f32) (c : Fin 256) : Fin 3 → EReal := fun j => w (ix2 j c)
/-- The taps of one channel, read row by row. -/
abbrev taps (w0 w1 w2 : FVec Ideal S1x256 .f32) (c : Fin 256) : Fin 3 → EReal := fun | 0 => w0 (ix2 0 c) | 1 => w1 (ix2 0 c) | 2 => w2 (ix2 0 c)

/-- The convolution of a block. -/
def CONV (x : FVec Ideal S2048x256 .f32) (w0 w1 w2 b : FVec Ideal S1x256 .f32) : FVec Ideal S2048x256 .f32 :=
  addf (addf (addf (mulf (broadcastTo S2048x256 w0 broadcasts_S1x256_S2048x256) (DOWN 2#32 x)) (mulf (broadcastTo S2048x256 w1 broadcasts_S1x256_S2048x256) (DOWN 1#32 x)))
    (mulf (broadcastTo S2048x256 w2 broadcasts_S1x256_S2048x256) x)) (broadcastTo S2048x256 (shapeCast S1x256 b shapeCasts_S1x256_S1x256) broadcasts_S1x256_S2048x256)

theorem CONV_apply (x : FVec Ideal S2048x256 .f32) (w0 w1 w2 b : FVec Ideal S1x256 .f32) (s : Fin 2048) (c : Fin 256) :
    CONV x w0 w1 w2 b (ix2 s c) = conv (taps w0 w1 w2 c) (b (ix2 0 c)) (col x c) s := by
  unfold CONV conv
  have e2 := DOWN_apply 2 (by decide) x s c
  have e1 := DOWN_apply 1 (by decide) x s c
  pointwise [e1, e2]

theorem pay5_eq (x : FVec Ideal S2048x256 .bf16) (w0 w1 w2 b : FVec Ideal S1x256 .f32) :
    k0_pay5 (F := Ideal) x w0 w1 w2 b = CONV (extf .f32 x bitsLt_bf16_f32) w0 w1 w2 b := rfl
theorem pay7_eq (x : FVec Ideal S2048x256 .f32) (w0 w1 w2 b : FVec Ideal S1x256 .f32) :
    k0_pay7 (F := Ideal) x w0 w1 w2 b = CONV x w0 w1 w2 b := rfl

/-- The derivative of the convolution of a block, applied to a cotangent. -/
def DCONV (d : FVec Ideal S2048x256 .f32) (w0 w1 w2 : FVec Ideal S1x256 .f32) : FVec Ideal S2048x256 .f32 :=
  addf (addf (mulf (broadcastTo S2048x256 w2 broadcasts_S1x256_S2048x256) d) (mulf (broadcastTo S2048x256 w1 broadcasts_S1x256_S2048x256) (UP 2047#32 7#32 d)))
    (mulf (broadcastTo S2048x256 w0 broadcasts_S1x256_S2048x256) (UP 2046#32 6#32 d))

theorem DCONV_apply (d : FVec Ideal S2048x256 .f32) (w0 w1 w2 : FVec Ideal S1x256 .f32) (s : Fin 2048) (c : Fin 256) :
    DCONV d w0 w1 w2 (ix2 s c) = dconv (taps w0 w1 w2 c) (col d c) s := by
  unfold DCONV dconv
  have e2 := UP_apply 2 (by decide) d s c
  have e1 := UP_apply 1 (by decide) d s c
  pointwise [e1, e2]

theorem pay15_eq (da u : FVec Ideal S2048x256 .bf16) (w0 w1 w2 : FVec Ideal S1x256 .f32) :
    k1_pay15 (F := Ideal) (k1_pay13 da u) (k1_pay14 da u w2 w1) w0
      = truncf .bf16 (DCONV (k1_pay10 da u) w0 w1 w2) bitsLt_bf16_f32 := rfl
theorem pay25_eq (d : FVec Ideal S2048x256 .f32) (w0 w1 w2 : FVec Ideal S1x256 .f32) :
    k1_pay25 (F := Ideal) d w2 w1 w0 = truncf .bf16 (DCONV d w0 w1 w2) bitsLt_bf16_f32 := rfl

/-- A row to which a block's column sums are added. -/
def ADDS (r : FVec Ideal S1x256 .f32) (x : FVec Ideal S2048x256 .f32) : FVec Ideal S1x256 .f32 :=
  addf (shapeCast S1x256 r shapeCasts_S1x256_S1x256)
    (shapeCast S1x256 (multiReduction .add [0] S256 x 0x00000000#32 reduces_S2048x256_S256 (.inl rfl) rfl) shapeCasts_S256_S1x256)

theorem ADDS_apply (r : FVec Ideal S1x256 .f32) (x : FVec Ideal S2048x256 .f32) (c : Fin 256) :
    ADDS r x (ix2 0 c) = r (ix2 0 c) + ∑ s, x (ix2 s c) := by
  unfold ADDS
  pointwise

theorem pay9_apply (x : FVec Ideal S2048x256 .f32) (s : Fin 2048) (c : Fin 256) :
    k0_pay9 (F := Ideal) x (ix2 s c) = sg (x (ix2 s c)) := by
  unfold sg
  pointwise [k0_pay9, k0_pay8, Named.named, κ, Option.getD_some, ofBits_half, ofBits_k]

theorem pay1_apply (x : FVec Ideal S2048x256 .f32) (s : Fin 2048) (c : Fin 256) :
    k0_pay1 (F := Ideal) x (k0_pay9 x) (ix2 s c) = gl (x (ix2 s c)) := by
  have e := pay9_apply x s c
  unfold gl
  pointwise [k0_pay1, e]

theorem pay2_apply (x v : FVec Ideal S2048x256 .f32) (s : Fin 2048) (c : Fin 256) :
    k0_pay2 (F := Ideal) x v (k0_pay8 x) (k0_pay9 x) (Named.named κ "gelu_6kc" 0x3E5B33B6#32) (ix2 s c)
      = v (ix2 s c) * dgl (x (ix2 s c)) := by
  have e := pay9_apply x s c
  unfold dgl
  pointwise [k0_pay2, k0_pay8, e, Named.named, κ, Option.getD_some, Ideal.ofBits_one_f32, ofBits_2k]

theorem pay3_apply (x : FVec Ideal S2048x256 .f32) (s : Fin 2048) (c : Fin 256) :
    k0_pay3 (F := Ideal) x (k0_pay9 x) (ix2 s c) = gl (x (ix2 s c)) := by
  have e := pay1_apply x s c
  pointwise [k0_pay3, e]

theorem pay4_apply (x v : FVec Ideal S2048x256 .f32) (s : Fin 2048) (c : Fin 256) :
    k0_pay4 (F := Ideal) x v (k0_pay9 x) (ix2 s c) = gl (x (ix2 s c)) * v (ix2 s c) := by
  have e := pay1_apply x s c
  pointwise [k0_pay4, e]

end Cert.FfnActIdeal.Value
-- ==== Proof.FfnActGate.lean ====
/- What the forward call of the gated feed-forward leaves in the two arrays its backward call reads: the gate, and the
   value times the gate's derivative. -/
module

public import proofs.«01_k».proof.Proof.FfnBlock
public import proofs.«01_k».proof.Proof.Gen.FfnActIdeal.Frame
public import Idealize.ShloMosaic.Lib.Pipeline.ValueKit

@[expose] public section

set_option maxRecDepth 16384

noncomputable section

namespace Cert.Ffn

open Idealize.ShloMosaic

/-- Token `s` of sequence `b`. -/
abbrev tok (b : ℕ) (h : b < 2) (s : Fin 2048) : Fin 4096 := ⟨b * 2048 + s.val, by omega⟩
/-- Channel `r` of tile `j`, and the value channel that belongs to it. -/
abbrev lo (j : ℕ) (h : j < 11) (r : Fin 256) : Fin 5632 := ⟨j * 256 + r.val, by omega⟩
abbrev hi (j : ℕ) (h : j < 11) (r : Fin 256) : Fin 5632 := ⟨2816 + (j * 256 + r.val), by omega⟩
abbrev half (j : ℕ) (h : j < 11) (r : Fin 256) : Fin 2816 := ⟨j * 256 + r.val, by omega⟩
abbrev gk (k : Fin 2816) : Fin 5632 := ⟨k.val, by omega⟩
abbrev vk (k : Fin 2816) : Fin 5632 := ⟨2816 + k.val, by omega⟩

section
variable (x : Fin 4096 → Fin 5632 → EReal) (w : Fin 3 → Fin 5632 → EReal) (e : Fin 5632 → EReal)

/-- The convolved channel `k` of sequence `b`. -/
def cv (b : ℕ) (h : b < 2) (k : Fin 5632) : Col := conv (w · k) (e k) fun s => x (tok b h s) k

/-- What the backward call reads: the value times the gate's derivative, and the gate. -/
def UG (b : ℕ) (h : b < 2) (k : Fin 2816) : Col := fun s => cv x w e b h (vk k) s * dgl (cv x w e b h (gk k) s)
def UV (b : ℕ) (h : b < 2) (k : Fin 2816) : Col := fun s => gl (cv x w e b h (gk k) s)
end

/-- An array of tokens and channels from its columns. -/
def spread (f : (b : ℕ) → b < 2 → Fin 2816 → Col) : (⟨2, ![4096, 2816]⟩ : Shape).Idx → EReal := fun i =>
  f ((i 0).val / 2048) (by have := (i 0).isLt; simp at this; omega) (i 1) ⟨(i 0).val % 2048, by omega⟩

theorem spread_at (f : (b : ℕ) → b < 2 → Fin 2816 → Col) (b : ℕ) (h : b < 2) (s : Fin 2048) (k : Fin 2816) :
    spread f (ix2 (tok b h s) k) = f b h k s := by
  have hb : (b * 2048 + s.val) / 2048 = b := by omega
  have hs : (⟨(b * 2048 + s.val) % 2048, by omega⟩ : Fin 2048) = s := Fin.ext (by simp only; omega)
  show f ((b * 2048 + s.val) / 2048) _ k ⟨(b * 2048 + s.val) % 2048, _⟩ = _
  rw [hs]
  congr 1

/-- A block of the array is the columns it holds. -/
theorem spread_blk (f : (b : ℕ) → b < 2 → Fin 2816 → Col) (v : (⟨2, ![2048, 256]⟩ : Shape).Idx → EReal) {b j : ℕ} (h : b < 2) (hj : j < 11)
    (hv : ∀ s r, v (ix2 s r) = f b h (half j hj r) s) (y : (⟨2, ![2048, 256]⟩ : Shape).Idx) (i : (⟨2, ![4096, 2816]⟩ : Shape).Idx)
    (hi : i = ix2 (tok b h (y 0)) (half j hj (y 1))) : v y = spread f i := by
  refine (congrArg v (ix2_eta y).symm).trans ?_
  rw [hi]
  exact (hv _ _).trans (spread_at f b h (y 0) (half j hj (y 1))).symm

end Cert.Ffn

namespace Cert.FfnActIdeal.Value

open Cert.Index Cert.FfnActIdeal Cert.FfnActIdeal.Gen Cert.Ffn Idealize.ShloMosaic Idealize.ShloMosaic.TcCoe Idealize.SL.Sem Idealize.ShloMosaic.StableHlo
open Idealize.ShloMosaic.Pipeline (Dat)

section
variable (x0 x1 : FVec Ideal S2048x256 .bf16) (x2 x3 : FVec Ideal S3x256 .f32) (x4 x5 : FVec Ideal S1x256 .f32) (s : Fin 2048) (r : Fin 256)

/-- The convolved gate and value channels of a block. -/
abbrev cg : Col := conv (tap x2 r) (x4 (ix2 0 r)) fun s => x0 (ix2 s r)

theorem taps_ld (x : FVec Ideal S3x256 .f32) (r : Fin 256) :
    taps (View.ld (Val := Elt Ideal) (e' := .f32) x r0_1) (View.ld (Val := Elt Ideal) (e' := .f32) x r0_2) (View.ld (Val := Elt Ideal) (e' := .f32) x r0_3) r = tap x r := by
  funext j
  fin_cases j <;> exact congrArg x (funext fun b => Fin.ext (by fin_cases b <;> simp [ix2]))
theorem row_ld (x : FVec Ideal S1x256 .f32) (r : Fin 256) : (View.ld (Val := Elt Ideal) (e' := .f32) x r0_4 : FVec Ideal S1x256 .f32) (ix2 0 r) = x (ix2 0 r) :=
  congrArg x (funext fun b => Fin.ext (by fin_cases b <;> simp [ix2]))
theorem blk_ld (x : FVec Ideal S2048x256 .bf16) (s : Fin 2048) (r : Fin 256) : (View.ld (Val := Elt Ideal) (e' := .bf16) x r0_0 : FVec Ideal S2048x256 .bf16) (ix2 s r) = x (ix2 s r) :=
  congrArg x (funext fun b => Fin.ext (by fin_cases b <;> simp [ix2]))

theorem pay10 : k0_pay10 (F := Ideal) x0 x1 x2 x3 x4 x5 (ix2 s r) = cg x0 x2 x4 r s := by
  unfold k0_pay10
  rw [pay5_eq, CONV_apply, taps_ld, row_ld]
  refine congrArg (fun f => conv _ _ f s) (funext fun s => ?_)
  exact blk_ld x0 s r
theorem pay11 : k0_pay11 (F := Ideal) x0 x1 x2 x3 x4 x5 (ix2 s r) = cg x1 x3 x5 r s := by
  unfold k0_pay11
  rw [pay7_eq, CONV_apply, taps_ld, row_ld]
  refine congrArg (fun f => conv _ _ f s) (funext fun s => ?_)
  exact blk_ld x1 s r

theorem out7 : out0_7 (F := Ideal) x0 x1 x2 x3 x4 x5 (ix2 s r) = cg x1 x3 x5 r s * dgl (cg x0 x2 x4 r s) := by
  frame_out
  rw [← pay10 x0 x1 x2 x3 x4 x5, ← pay11 x0 x1 x2 x3 x4 x5]
  exact pay2_apply ..
theorem out8 : out0_8 (F := Ideal) x0 x1 x2 x3 x4 x5 (ix2 s r) = gl (cg x0 x2 x4 r s) := by
  frame_out
  rw [← pay10 x0 x1 x2 x3 x4 x5]
  exact pay3_apply ..
end

variable (m : (ℓ : Loc nD τ sig) → Buf (Elt Ideal) ℓ) (ρ : Dev nD → PrngReg) (c : Dev nD)

/-- The arguments: the projected tokens, the taps, the bias, the cotangent of the activation. -/
abbrev A0 : FVec Ideal S4096x5632 .bf16 := m ((c.tc : Thread _ _).loc Cert.FfnActIdeal.main_arg0)
abbrev A1 : FVec Ideal S3x5632 .f32 := m ((c.tc : Thread _ _).loc Cert.FfnActIdeal.main_arg1)
abbrev A2 : FVec Ideal S5632 .f32 := m ((c.tc : Thread _ _).loc Cert.FfnActIdeal.main_arg2)
abbrev A3 : FVec Ideal S4096x2816 .bf16 := m ((c.tc : Thread _ _).loc Cert.FfnActIdeal.main_arg3)
abbrev xs : Fin 4096 → Fin 5632 → EReal := fun n k => A0 m c (ix2 n k)
abbrev ws : Fin 3 → Fin 5632 → EReal := fun j k => A1 m c (ix2 j k)
abbrev es : Fin 5632 → EReal := fun k => A2 m c (ix1 k)

theorem W0' : V1 m ρ c main_arg0 = A0 m c := W1_args m ρ c main_arg0 (by decide)
theorem W1' : V1 m ρ c main_arg1 = A1 m c := W1_args m ρ c main_arg1 (by decide)
theorem W2' (k : Fin 5632) : (V1 m ρ c main_v0 : FVec Ideal S1x5632 .f32) (ix2 0 k) = es m c k := by
  have e : (V1 m ρ c main_v0 : FVec Ideal S1x5632 .f32) = shapeCast S1x5632 (A2 m c) shapeCasts_S5632_S1x5632 := by
    show StableHlo.after hostOps0 (W0 m ρ c) (Proc.devRef .tc main_v0) = _
    after_results
    rfl
  rw [e]; pointwise

variable (t : Fin cfg0.N)
theorem t22 : t.val < 22 := t.isLt

theorem idx0 : ∀ t : Fin cfg0.N, win0_0.index t = ![t.val / 11, t.val % 11] ∧ win0_1.index t = ![t.val / 11, 11 + t.val % 11] ∧ win0_2.index t = ![0, t.val % 11]
    ∧ win0_3.index t = ![0, 11 + t.val % 11] ∧ win0_4.index t = ![0, t.val % 11] ∧ win0_5.index t = ![0, 11 + t.val % 11] ∧ win0_7.index t = ![t.val / 11, t.val % 11]
    ∧ win0_8.index t = ![t.val / 11, t.val % 11] :=
  (by decide +kernel : ∀ t : Fin grid0.N, _)

theorem bt : t.val / 11 < 2 := by have := t22 t; omega
theorem jt : t.val % 11 < 11 := by omega

section
variable (s : Fin 2048) (r : Fin 256)
theorem blk0 : (iblk0 (V1 m ρ) c 0 t : FVec Ideal S2048x256 .bf16) (ix2 s r) = xs m c (tok (t.val / 11) (bt t) s) (lo (t.val % 11) (jt t) r) := by
  unfold xs; rw [← W0' m ρ]; blk_ext! [iblk0, idx0 t]
theorem blk1 : (iblk0 (V1 m ρ) c 1 t : FVec Ideal S2048x256 .bf16) (ix2 s r) = xs m c (tok (t.val / 11) (bt t) s) (hi (t.val % 11) (jt t) r) := by
  unfold xs; rw [← W0' m ρ]; blk_ext! [iblk0, idx0 t]
theorem blk2 (j : Fin 3) : (iblk0 (V1 m ρ) c 2 t : FVec Ideal S3x256 .f32) (ix2 j r) = ws m c j (lo (t.val % 11) (jt t) r) := by
  unfold ws; rw [← W1' m ρ]; blk_ext! [iblk0, idx0 t]
theorem blk3 (j : Fin 3) : (iblk0 (V1 m ρ) c 3 t : FVec Ideal S3x256 .f32) (ix2 j r) = ws m c j (hi (t.val % 11) (jt t) r) := by
  unfold ws; rw [← W1' m ρ]; blk_ext! [iblk0, idx0 t]
theorem blk4 : (iblk0 (V1 m ρ) c 4 t : FVec Ideal S1x256 .f32) (ix2 0 r) = es m c (lo (t.val % 11) (jt t) r) := by
  rw [← W2' m ρ]; blk_ext! [iblk0, idx0 t]
theorem blk5 : (iblk0 (V1 m ρ) c 5 t : FVec Ideal S1x256 .f32) (ix2 0 r) = es m c (hi (t.val % 11) (jt t) r) := by
  rw [← W2' m ρ]; blk_ext! [iblk0, idx0 t]

theorem cgv : cg (iblk0 (V1 m ρ) c 0 t) (iblk0 (V1 m ρ) c 2 t) (iblk0 (V1 m ρ) c 4 t) r = cv (xs m c) (ws m c) (es m c) (t.val / 11) (bt t) (lo (t.val % 11) (jt t) r) := by
  unfold cg cv tap
  simp only [blk0, blk2, blk4]
theorem cvv : cg (iblk0 (V1 m ρ) c 1 t) (iblk0 (V1 m ρ) c 3 t) (iblk0 (V1 m ρ) c 5 t) r = cv (xs m c) (ws m c) (es m c) (t.val / 11) (bt t) (hi (t.val % 11) (jt t) r) := by
  unfold cg cv tap
  simp only [blk1, blk3, blk5]

theorem emb7 (y : S2048x256.Idx) : (win0_7.blk t).view.emb y = ix2 (tok (t.val / 11) (bt t) (y 0)) (half (t.val % 11) (jt t) (y 1)) := by blk_ext! [idx0 t]
theorem emb8 (y : S2048x256.Idx) : (win0_8.blk t).view.emb y = ix2 (tok (t.val / 11) (bt t) (y 0)) (half (t.val % 11) (jt t) (y 1)) := by blk_ext! [idx0 t]
end

/-- What the backward call reads. -/
def G7 : S4096x2816.Idx → EReal := spread (UG (xs m c) (ws m c) (es m c))
def G8 : S4096x2816.Idx → EReal := spread (UV (xs m c) (ws m c) (es m c))

theorem arr7 : (dat0 (V1 m ρ) c).arrAt 7 cfg0.N = G7 m c := by
  refine (dat0 (V1 m ρ) c).arrAt_eq_of_covers 7 _ (by decide +kernel) fun t hf y => ?_
  blk_simp
  rw [after0_7]
  exact spread_blk _ _ (bt t) (jt t) (fun s r => by rw [out7, cgv, cvv]; rfl) y _ (emb7 t y)
theorem arr8 : (dat0 (V1 m ρ) c).arrAt 8 cfg0.N = G8 m c := by
  refine (dat0 (V1 m ρ) c).arrAt_eq_of_covers 8 _ (by decide +kernel) fun t hf y => ?_
  blk_simp
  rw [after0_8]
  exact spread_blk _ _ (bt t) (jt t) (fun s r => by rw [out8, cgv]; rfl) y _ (emb8 t y)

end Cert.FfnActIdeal.Value
-- ==== Proof.FfnActGrad.lean ====
/- What the backward call of the gated feed-forward leaves in its result arrays: the gradients in the projected gate and
   value, in the taps, and in the bias. -/
module

public import proofs.«01_k».proof.Proof.FfnActGate

@[expose] public section

set_option maxRecDepth 16384

noncomputable section

namespace Cert.FfnActIdeal.Value

open Cert.Index Cert.FfnActIdeal Cert.FfnActIdeal.Gen Cert.Ffn Idealize.ShloMosaic Idealize.ShloMosaic.TcCoe Idealize.SL.Sem Idealize.ShloMosaic.StableHlo
open Idealize.ShloMosaic.Pipeline (Dat)

section
variable {e' : EltTy} (L : List (View.Piece (Elt Ideal) S3x256 .f32)) (w : FVec Ideal S1x256 .f32) (r : Fin 256)

/-- A row of the taps' block. -/
abbrev R0 : Rect S3x256 := Rect.unit (s := S3x256) ![0, 0] ![1, 256] inb_S3x256_S1x256_0_0
abbrev R1 : Rect S3x256 := Rect.unit (s := S3x256) ![1, 0] ![1, 256] inb_S3x256_S1x256_1_0
abbrev R2 : Rect S3x256 := Rect.unit (s := S3x256) ![2, 0] ![1, 256] inb_S3x256_S1x256_2_0
abbrev RR : Rect S3x256 := Rect.unit (s := S3x256) ![0, 0] ![3, 256] inb_S3x256_S3x256_0_0

theorem emb_row0 : R0.emb (ix2 (0 : Fin 1) r) = (ix2 (0 : Fin 3) r : S3x256.Idx) := funext fun b => Fin.ext (by fin_cases b <;> simp [ix2])
theorem emb_row1 : R1.emb (ix2 (0 : Fin 1) r) = (ix2 (1 : Fin 3) r : S3x256.Idx) := funext fun b => Fin.ext (by fin_cases b <;> simp [ix2])
theorem emb_row2 : R2.emb (ix2 (0 : Fin 1) r) = (ix2 (2 : Fin 3) r : S3x256.Idx) := funext fun b => Fin.ext (by fin_cases b <;> simp [ix2])
theorem emb_all (j : Fin 3) : RR.emb (ix2 j r) = (ix2 j r : S3x256.Idx) := funext fun b => Fin.ext (by fin_cases b <;> simp [ix2])

theorem on0 : View.canon (⟨R0, w⟩ :: L) (ix2 (0 : Fin 3) r) = w (ix2 0 r) :=
  (congrArg (View.canon _) (emb_row0 r).symm).trans (View.canon_cons_emb R0 w L _)
theorem on1 : View.canon (⟨R1, w⟩ :: L) (ix2 (1 : Fin 3) r) = w (ix2 0 r) :=
  (congrArg (View.canon _) (emb_row1 r).symm).trans (View.canon_cons_emb R1 w L _)
theorem on2 : View.canon (⟨R2, w⟩ :: L) (ix2 (2 : Fin 3) r) = w (ix2 0 r) :=
  (congrArg (View.canon _) (emb_row2 r).symm).trans (View.canon_cons_emb R2 w L _)
theorem onall (z : FVec Ideal S3x256 .f32) (j : Fin 3) : View.canon (⟨RR, z⟩ :: L) (ix2 j r) = z (ix2 j r) :=
  (congrArg (View.canon _) (emb_all r j).symm).trans (View.canon_cons_emb RR z L _)
theorem off0 (j : Fin 3) (h : j.val ≠ 0) : View.canon (⟨R0, w⟩ :: L) (ix2 j r) = View.canon L (ix2 j r) := by
  refine View.canon_cons_of_not_mem _ L fun hm => ?_
  obtain ⟨i, hi, he⟩ := (LoadRect.mem_set _).mp hm (0 : Fin 2)
  have hi1 : i < 1 := hi
  have he' : j.val = 0 + 1 * i := he
  omega
theorem off1 (j : Fin 3) (h : j.val ≠ 1) : View.canon (⟨R1, w⟩ :: L) (ix2 j r) = View.canon L (ix2 j r) := by
  refine View.canon_cons_of_not_mem _ L fun hm => ?_
  obtain ⟨i, hi, he⟩ := (LoadRect.mem_set _).mp hm (0 : Fin 2)
  have hi1 : i < 1 := hi
  have he' : j.val = 1 + 1 * i := he
  omega
theorem off2 (j : Fin 3) (h : j.val ≠ 2) : View.canon (⟨R2, w⟩ :: L) (ix2 j r) = View.canon L (ix2 j r) := by
  refine View.canon_cons_of_not_mem _ L fun hm => ?_
  obtain ⟨i, hi, he⟩ := (LoadRect.mem_set _).mp hm (0 : Fin 2)
  have hi1 : i < 1 := hi
  have he' : j.val = 2 + 1 * i := he
  omega
theorem rc0 {sp : Space} (v : View sig .tc sp S3x256 .f32) : (v.readCov (Val := Elt Ideal) L R0.toLoadRect : FVec Ideal S1x256 .f32) (ix2 0 r) = View.canon L (ix2 (0 : Fin 3) r) := by
  rw [View.readCov_eq_canon']
  exact congrArg (View.canon L) (emb_row0 r)
theorem rc1 {sp : Space} (v : View sig .tc sp S3x256 .f32) : (v.readCov (Val := Elt Ideal) L R1.toLoadRect : FVec Ideal S1x256 .f32) (ix2 0 r) = View.canon L (ix2 (1 : Fin 3) r) := by
  rw [View.readCov_eq_canon']
  exact congrArg (View.canon L) (emb_row1 r)
theorem rc2 {sp : Space} (v : View sig .tc sp S3x256 .f32) : (v.readCov (Val := Elt Ideal) L R2.toLoadRect : FVec Ideal S1x256 .f32) (ix2 0 r) = View.canon L (ix2 (2 : Fin 3) r) := by
  rw [View.readCov_eq_canon']
  exact congrArg (View.canon L) (emb_row2 r)
end

section
variable (M0 M1 M2 : FVec Ideal S2048x256 .f32) (r : Fin 256)

/-- The column sums of the three rows' blocks. -/
def sums : Fin 3 → EReal
  | 0 => ∑ s, M0 (ix2 s r)
  | 1 => ∑ s, M1 (ix2 s r)
  | 2 => ∑ s, M2 (ix2 s r)

/-- Three rows, each with a block's column sums added to what the row held. -/
theorem tapsB (old : FVec Ideal S3x256 .f32) (j : Fin 3) :
    View.canon (Val := Elt Ideal) (s := S3x256) (e := .f32) [⟨R2, ADDS (View.ld (Val := Elt Ideal) (e' := .f32) old R2) M2⟩, ⟨R1, ADDS (View.ld (Val := Elt Ideal) (e' := .f32) old R1) M1⟩,
      ⟨R0, ADDS (View.ld (Val := Elt Ideal) (e' := .f32) old R0) M0⟩] (ix2 j r) = old (ix2 j r) + sums M0 M1 M2 r j := by
  match j with
  | 0 =>
    refine (off2 _ _ r 0 (by decide)).trans ((off1 _ _ r 0 (by decide)).trans ((on0 _ _ r).trans ((ADDS_apply _ _ r).trans ?_)))
    exact congrArg (fun i => old i + _) (emb_row0 r)
  | 1 =>
    refine (off2 _ _ r 1 (by decide)).trans ((on1 _ _ r).trans ((ADDS_apply _ _ r).trans ?_))
    exact congrArg (fun i => old i + _) (emb_row1 r)
  | 2 =>
    refine (on2 _ _ r).trans ((ADDS_apply _ _ r).trans ?_)
    exact congrArg (fun i => old i + _) (emb_row2 r)

/-- The same over rows just cleared. -/
theorem tapsA {sp : Space} (v : View sig .tc sp S3x256 .f32) (z : FVec Ideal S3x256 .f32) (hz : ∀ j, z j = 0) (j : Fin 3)
    (A1 A2 A3 : FVec Ideal S1x256 .f32) (h1 : A1 = ADDS (v.readCov (Val := Elt Ideal) [⟨RR, z⟩] R0.toLoadRect) M0)
    (h2 : A2 = ADDS (v.readCov (Val := Elt Ideal) [⟨R0, A1⟩, ⟨RR, z⟩] R1.toLoadRect) M1)
    (h3 : A3 = ADDS (v.readCov (Val := Elt Ideal) [⟨R1, A2⟩, ⟨R0, A1⟩, ⟨RR, z⟩] R2.toLoadRect) M2) :
    View.canon (Val := Elt Ideal) (s := S3x256) (e := .f32) [⟨R2, A3⟩, ⟨R1, A2⟩, ⟨R0, A1⟩, ⟨RR, z⟩] (ix2 j r) = sums M0 M1 M2 r j := by
  match j with
  | 0 =>
    refine (off2 _ _ r 0 (by decide)).trans ((off1 _ _ r 0 (by decide)).trans ((on0 _ _ r).trans ?_))
    rw [h1, ADDS_apply, rc0, onall, hz, zero_add]
    rfl
  | 1 =>
    refine (off2 _ _ r 1 (by decide)).trans ((on1 _ _ r).trans ?_)
    rw [h2, ADDS_apply, rc1, off0 _ _ r 1 (by decide), onall, hz, zero_add]
    rfl
  | 2 =>
    refine (on2 _ _ r).trans ?_
    rw [h3, ADDS_apply, rc2, off1 _ _ r 2 (by decide), off0 _ _ r 2 (by decide), onall, hz, zero_add]
    rfl
end

theorem zero5 (j) : k1_pay5 (F := Ideal) j = 0 := by pointwise [k1_pay5]
theorem zero6 (j) : k1_pay6 (F := Ideal) j = 0 := by pointwise [k1_pay6]
theorem zero7 (j) : k1_pay7 (F := Ideal) j = 0 := by pointwise [k1_pay7]
theorem zero8 (j) : k1_pay8 (F := Ideal) j = 0 := by pointwise [k1_pay8]

section
variable (V : (c : Dev nD) → (b : Ref sig .tc) → Buf (Elt Ideal) ((c : Thread nD τ).loc b)) (c : Dev nD) (t : Fin cfg1.N) (s : Fin 2048) (r : Fin 256)

/-- The cotangents of the convolved gate and value of a point's block. -/
abbrev dG : FVec Ideal S2048x256 .f32 := k1_pay10 (iblk1 V c 4 t) (iblk1 V c 2 t)
abbrev dV : FVec Ideal S2048x256 .f32 := k1_pay11 (iblk1 V c 4 t) (iblk1 V c 3 t)
/-- The projected gate and value of a point's block. -/
abbrev xG : FVec Ideal S2048x256 .f32 := extf .f32 (iblk1 V c 0 t : FVec Ideal S2048x256 .bf16) bitsLt_bf16_f32
abbrev xV : FVec Ideal S2048x256 .f32 := extf .f32 (iblk1 V c 1 t : FVec Ideal S2048x256 .bf16) bitsLt_bf16_f32
/-- A product of a block with a cotangent moved up. -/
abbrev M0 (x d : FVec Ideal S2048x256 .f32) : FVec Ideal S2048x256 .f32 := mulf x (UP 2046#32 6#32 d)
abbrev M1 (x d : FVec Ideal S2048x256 .f32) : FVec Ideal S2048x256 .f32 := mulf x (UP 2047#32 7#32 d)
abbrev M2 (x d : FVec Ideal S2048x256 .f32) : FVec Ideal S2048x256 .f32 := mulf x d

theorem sums_eq (x d : FVec Ideal S2048x256 .f32) (j : Fin 3) : sums (M0 x d) (M1 x d) (M2 x d) r j = dtap (col x r) (col d r) j := by
  match j with
  | 0 => exact Finset.sum_congr rfl fun s _ => congrArg (x (ix2 s r) * ·) (UP_apply 2 (by decide) d s r)
  | 1 => exact Finset.sum_congr rfl fun s _ => congrArg (x (ix2 s r) * ·) (UP_apply 1 (by decide) d s r)
  | 2 => rfl

theorem p7 : (outsAt1 V c t.val t.isLt).1 (ix2 s r) = dconv (tap (iblk1 V c 5 t) r) (col (dG V c t) r) s := by
  have key : (outsAt1 V c t.val t.isLt).1 = k1_pay15 (k1_pay13 (iblk1 V c 4 t) (iblk1 V c 2 t)) (k1_pay14 (iblk1 V c 4 t) (iblk1 V c 2 t)
        (View.ld (iblk1 V c 5 t) R2) (View.ld (iblk1 V c 5 t) R1)) (View.ld (iblk1 V c 5 t) R0) := by
    by_cases h : t.val % 2 = 0
    · rw [outsAt1_A V c t h]
      frame_out
      rfl
    · rw [outsAt1_B V c t h]
      frame_out
      rfl
  rw [key, pay15_eq]
  refine (DCONV_apply _ _ _ _ s r).trans ?_
  rw [show taps (View.ld (iblk1 V c 5 t) R0) (View.ld (iblk1 V c 5 t) R1) (View.ld (iblk1 V c 5 t) R2) r = _ from taps_ld (iblk1 V c 5 t) r]
theorem p8 : (outsAt1 V c t.val t.isLt).2.1 (ix2 s r) = dconv (tap (iblk1 V c 6 t) r) (col (dV V c t) r) s := by
  have key : (outsAt1 V c t.val t.isLt).2.1 = k1_pay25 (dV V c t) (View.ld (iblk1 V c 6 t) R2) (View.ld (iblk1 V c 6 t) R1) (View.ld (iblk1 V c 6 t) R0) := by
    by_cases h : t.val % 2 = 0
    · rw [outsAt1_A V c t h]
      frame_out
      rfl
    · rw [outsAt1_B V c t h]
      frame_out
      rfl
  rw [key, pay25_eq]
  refine (DCONV_apply _ _ _ _ s r).trans ?_
  rw [show taps (View.ld (iblk1 V c 6 t) R0) (View.ld (iblk1 V c 6 t) R1) (View.ld (iblk1 V c 6 t) R2) r = _ from taps_ld (iblk1 V c 6 t) r]

theorem p9A (h : t.val % 2 = 0) (j : Fin 3) : (outsAt1 V c t.val t.isLt).2.2.1 (ix2 j r) = dtap (col (xG V c t) r) (col (dG V c t) r) j := by
  rw [outsAt1_A V c t h]
  frame_out
  exact (tapsA (M0 (xG V c t) (dG V c t)) (M1 (xG V c t) (dG V c t)) (M2 (xG V c t) (dG V c t)) r (ms1_9 t).view k1_pay5 zero5 j _ _ _ rfl rfl rfl).trans (sums_eq ..)
theorem p9B (h : ¬ t.val % 2 = 0) (j : Fin 3) : (outsAt1 V c t.val t.isLt).2.2.1 (ix2 j r)
    = (outsAt1 V c (t.val - 1) (Nat.lt_of_le_of_lt (Nat.sub_le _ _) t.isLt)).2.2.1 (ix2 j r) + dtap (col (xG V c t) r) (col (dG V c t) r) j := by
  rw [outsAt1_B V c t h]
  frame_out
  exact (tapsB (M0 (xG V c t) (dG V c t)) (M1 (xG V c t) (dG V c t)) (M2 (xG V c t) (dG V c t)) r _ j).trans (congrArg (_ + ·) (sums_eq ..))
theorem p10A (h : t.val % 2 = 0) (j : Fin 3) : (outsAt1 V c t.val t.isLt).2.2.2.1 (ix2 j r) = dtap (col (xV V c t) r) (col (dV V c t) r) j := by
  rw [outsAt1_A V c t h]
  frame_out
  exact (tapsA (M0 (xV V c t) (dV V c t)) (M1 (xV V c t) (dV V c t)) (M2 (xV V c t) (dV V c t)) r (ms1_10 t).view k1_pay6 zero6 j _ _ _ rfl rfl rfl).trans (sums_eq ..)
theorem p10B (h : ¬ t.val % 2 = 0) (j : Fin 3) : (outsAt1 V c t.val t.isLt).2.2.2.1 (ix2 j r)
    = (outsAt1 V c (t.val - 1) (Nat.lt_of_le_of_lt (Nat.sub_le _ _) t.isLt)).2.2.2.1 (ix2 j r) + dtap (col (xV V c t) r) (col (dV V c t) r) j := by
  rw [outsAt1_B V c t h]
  frame_out
  exact (tapsB (M0 (xV V c t) (dV V c t)) (M1 (xV V c t) (dV V c t)) (M2 (xV V c t) (dV V c t)) r _ j).trans (congrArg (_ + ·) (sums_eq ..))
theorem p11A (h : t.val % 2 = 0) : (outsAt1 V c t.val t.isLt).2.2.2.2.1 (ix2 0 r) = ∑ s, dG V c t (ix2 s r) := by
  rw [outsAt1_A V c t h]
  frame_out
  refine Eq.trans (b := ADDS k1_pay7 (dG V c t) (ix2 0 r)) rfl ((ADDS_apply ..).trans ?_)
  rw [zero7, zero_add]
theorem p11B (h : ¬ t.val % 2 = 0) : (outsAt1 V c t.val t.isLt).2.2.2.2.1 (ix2 0 r)
    = (outsAt1 V c (t.val - 1) (Nat.lt_of_le_of_lt (Nat.sub_le _ _) t.isLt)).2.2.2.2.1 (ix2 0 r) + ∑ s, dG V c t (ix2 s r) := by
  rw [outsAt1_B V c t h]
  frame_out
  exact ADDS_apply ..
theorem p12A (h : t.val % 2 = 0) : (outsAt1 V c t.val t.isLt).2.2.2.2.2 (ix2 0 r) = ∑ s, dV V c t (ix2 s r) := by
  rw [outsAt1_A V c t h]
  frame_out
  refine Eq.trans (b := ADDS k1_pay8 (dV V c t) (ix2 0 r)) rfl ((ADDS_apply ..).trans ?_)
  rw [zero8, zero_add]
theorem p12B (h : ¬ t.val % 2 = 0) : (outsAt1 V c t.val t.isLt).2.2.2.2.2 (ix2 0 r)
    = (outsAt1 V c (t.val - 1) (Nat.lt_of_le_of_lt (Nat.sub_le _ _) t.isLt)).2.2.2.2.2 (ix2 0 r) + ∑ s, dV V c t (ix2 s r) := by
  rw [outsAt1_B V c t h]
  frame_out
  exact ADDS_apply ..
end

end Cert.FfnActIdeal.Value
-- ==== Proof.FfnActArray.lean ====
/- The result arrays of the gated feed-forward's backward call, as functions of its arguments. -/
module

public import proofs.«01_k».proof.Proof.FfnActGrad

@[expose] public section

set_option maxRecDepth 16384

noncomputable section

namespace Cert.Ffn

open Idealize.ShloMosaic

section
variable (x : Fin 4096 → Fin 5632 → EReal) (w : Fin 3 → Fin 5632 → EReal) (e : Fin 5632 → EReal) (d : Fin 4096 → Fin 2816 → EReal)

/-- The cotangents of the convolved gate and value. -/
def DG (b : ℕ) (h : b < 2) (k : Fin 2816) : Col := fun s => d (tok b h s) k * UG x w e b h k s
def DV (b : ℕ) (h : b < 2) (k : Fin 2816) : Col := fun s => d (tok b h s) k * UV x w e b h k s

/-- The gradients in the projected gate and value. -/
def DUG (b : ℕ) (h : b < 2) (k : Fin 2816) : Col := dconv (w · (gk k)) (DG x w e d b h k)
def DUV (b : ℕ) (h : b < 2) (k : Fin 2816) : Col := dconv (w · (vk k)) (DV x w e d b h k)

/-- One sequence's part of the gradients in the taps and in the bias. -/
def pwg (b : ℕ) (h : b < 2) (j : Fin 3) (k : Fin 2816) : EReal := dtap (fun s => x (tok b h s) (gk k)) (DG x w e d b h k) j
def pwv (b : ℕ) (h : b < 2) (j : Fin 3) (k : Fin 2816) : EReal := dtap (fun s => x (tok b h s) (vk k)) (DV x w e d b h k) j
def pbg (b : ℕ) (h : b < 2) (k : Fin 2816) : EReal := ∑ s, DG x w e d b h k s
def pbv (b : ℕ) (h : b < 2) (k : Fin 2816) : EReal := ∑ s, DV x w e d b h k s
end

/-- An array of rows and channels from its entries. -/
def rowed {n : ℕ} (f : Fin n → Fin 2816 → EReal) : (⟨2, ![n, 2816]⟩ : Shape).Idx → EReal := fun i => f (i 0) (i 1)

theorem rowed_blk {n : ℕ} (f : Fin n → Fin 2816 → EReal) (v : (⟨2, ![n, 256]⟩ : Shape).Idx → EReal) {j : ℕ} (hj : j < 11)
    (hv : ∀ a r, v (ix2 a r) = f a (half j hj r)) (y : (⟨2, ![n, 256]⟩ : Shape).Idx) (i : (⟨2, ![n, 2816]⟩ : Shape).Idx)
    (hi : i = ix2 (y 0) (half j hj (y 1))) : v y = rowed f i := by
  refine (congrArg v (ix2_eta y).symm).trans ?_
  rw [hi]
  exact hv _ _

end Cert.Ffn

namespace Cert.FfnActIdeal.Value

open Cert.Index Cert.FfnActIdeal Cert.FfnActIdeal.Gen Cert.Ffn Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

abbrev ds : Fin 4096 → Fin 2816 → EReal := fun n k => A3 m c (ix2 n k)

theorem V0' : V2 m ρ c main_arg0 = A0 m c := W2_args m ρ c main_arg0 (by decide)
theorem V1' : V2 m ρ c main_arg1 = A1 m c := W2_args m ρ c main_arg1 (by decide)
theorem V3' : V2 m ρ c main_arg3 = A3 m c := W2_args m ρ c main_arg3 (by decide)
theorem VG : V2 m ρ c main_v1_1 = G7 m c := (W2_arr m ρ c 7).trans (arr7 m ρ c)
theorem VV : V2 m ρ c main_v1_2 = G8 m c := (W2_arr m ρ c 8).trans (arr8 m ρ c)

variable (t : Fin cfg1.N)
theorem u22 : t.val < 22 := t.isLt
theorem bu : t.val % 2 < 2 := by omega
theorem ju : t.val / 2 < 11 := by have := u22 t; omega

theorem idx1 : ∀ t : Fin cfg1.N, win1_0.index t = ![t.val % 2, t.val / 2] ∧ win1_1.index t = ![t.val % 2, 11 + t.val / 2] ∧ win1_2.index t = ![t.val % 2, t.val / 2]
    ∧ win1_3.index t = ![t.val % 2, t.val / 2] ∧ win1_4.index t = ![t.val % 2, t.val / 2] ∧ win1_5.index t = ![0, t.val / 2] ∧ win1_6.index t = ![0, 11 + t.val / 2]
    ∧ win1_7.index t = ![t.val % 2, t.val / 2] ∧ win1_8.index t = ![t.val % 2, t.val / 2] ∧ win1_9.index t = ![0, t.val / 2] ∧ win1_10.index t = ![0, t.val / 2]
    ∧ win1_11.index t = ![0, t.val / 2] ∧ win1_12.index t = ![0, t.val / 2] :=
  (by decide +kernel : ∀ t : Fin grid1.N, _)

section
variable (s : Fin 2048) (r : Fin 256)
theorem blkx : xG (V2 m ρ) c t (ix2 s r) = xs m c (tok (t.val % 2) (bu t) s) (gk (half (t.val / 2) (ju t) r)) := by
  unfold xs; rw [← V0' m ρ]; show iblk1 (V2 m ρ) c 0 t (ix2 s r) = _; blk_ext! [iblk1, idx1 t]
theorem blkv : xV (V2 m ρ) c t (ix2 s r) = xs m c (tok (t.val % 2) (bu t) s) (vk (half (t.val / 2) (ju t) r)) := by
  unfold xs; rw [← V0' m ρ]; show iblk1 (V2 m ρ) c 1 t (ix2 s r) = _; blk_ext! [iblk1, idx1 t]
theorem blkg : (iblk1 (V2 m ρ) c 2 t : FVec Ideal S2048x256 .bf16) (ix2 s r) = UG (xs m c) (ws m c) (es m c) (t.val % 2) (bu t) (half (t.val / 2) (ju t) r) s := by
  refine Eq.trans ?_ (spread_at _ _ _ _ _)
  show _ = G7 m c _
  rw [← VG m ρ]; blk_ext! [iblk1, idx1 t]
theorem blkh : (iblk1 (V2 m ρ) c 3 t : FVec Ideal S2048x256 .bf16) (ix2 s r) = UV (xs m c) (ws m c) (es m c) (t.val % 2) (bu t) (half (t.val / 2) (ju t) r) s := by
  refine Eq.trans ?_ (spread_at _ _ _ _ _)
  show _ = G8 m c _
  rw [← VV m ρ]; blk_ext! [iblk1, idx1 t]
theorem blkd : (iblk1 (V2 m ρ) c 4 t : FVec Ideal S2048x256 .bf16) (ix2 s r) = ds m c (tok (t.val % 2) (bu t) s) (half (t.val / 2) (ju t) r) := by
  unfold ds; rw [← V3' m ρ]; blk_ext! [iblk1, idx1 t]
theorem blkw (j : Fin 3) : (iblk1 (V2 m ρ) c 5 t : FVec Ideal S3x256 .f32) (ix2 j r) = ws m c j (gk (half (t.val / 2) (ju t) r)) := by
  unfold ws; rw [← V1' m ρ]; blk_ext! [iblk1, idx1 t]
theorem blku (j : Fin 3) : (iblk1 (V2 m ρ) c 6 t : FVec Ideal S3x256 .f32) (ix2 j r) = ws m c j (vk (half (t.val / 2) (ju t) r)) := by
  unfold ws; rw [← V1' m ρ]; blk_ext! [iblk1, idx1 t]

theorem dG_eq : dG (V2 m ρ) c t (ix2 s r) = DG (xs m c) (ws m c) (es m c) (ds m c) (t.val % 2) (bu t) (half (t.val / 2) (ju t) r) s := by
  refine Eq.trans (b := (show EReal from (iblk1 (V2 m ρ) c 4 t) (ix2 s r)) * (show EReal from (iblk1 (V2 m ρ) c 2 t) (ix2 s r))) ?_ ?_
  · pointwise [dG, k1_pay10, k1_pay9]
  · exact congrArg₂ (· * ·) (blkd m ρ c t s r) (blkg m ρ c t s r)
theorem dV_eq : dV (V2 m ρ) c t (ix2 s r) = DV (xs m c) (ws m c) (es m c) (ds m c) (t.val % 2) (bu t) (half (t.val / 2) (ju t) r) s := by
  refine Eq.trans (b := (show EReal from (iblk1 (V2 m ρ) c 4 t) (ix2 s r)) * (show EReal from (iblk1 (V2 m ρ) c 3 t) (ix2 s r))) ?_ ?_
  · pointwise [dV, k1_pay11, k1_pay9]
  · exact congrArg₂ (· * ·) (blkd m ρ c t s r) (blkh m ρ c t s r)
end

section
variable (r : Fin 256)
theorem col_dG : col (dG (V2 m ρ) c t) r = DG (xs m c) (ws m c) (es m c) (ds m c) (t.val % 2) (bu t) (half (t.val / 2) (ju t) r) := funext fun s => dG_eq m ρ c t s r
theorem col_dV : col (dV (V2 m ρ) c t) r = DV (xs m c) (ws m c) (es m c) (ds m c) (t.val % 2) (bu t) (half (t.val / 2) (ju t) r) := funext fun s => dV_eq m ρ c t s r
theorem tapG : tap (iblk1 (V2 m ρ) c 5 t) r = (ws m c · (gk (half (t.val / 2) (ju t) r))) := funext fun j => blkw m ρ c t r j
theorem tapV : tap (iblk1 (V2 m ρ) c 6 t) r = (ws m c · (vk (half (t.val / 2) (ju t) r))) := funext fun j => blku m ρ c t r j

theorem part9 (j : Fin 3) : dtap (col (xG (V2 m ρ) c t) r) (col (dG (V2 m ρ) c t) r) j = pwg (xs m c) (ws m c) (es m c) (ds m c) (t.val % 2) (bu t) j (half (t.val / 2) (ju t) r) := by
  rw [col_dG, show col (xG (V2 m ρ) c t) r = _ from funext fun s => blkx m ρ c t s r]; rfl
theorem part10 (j : Fin 3) : dtap (col (xV (V2 m ρ) c t) r) (col (dV (V2 m ρ) c t) r) j = pwv (xs m c) (ws m c) (es m c) (ds m c) (t.val % 2) (bu t) j (half (t.val / 2) (ju t) r) := by
  rw [col_dV, show col (xV (V2 m ρ) c t) r = _ from funext fun s => blkv m ρ c t s r]; rfl
theorem part11 : ∑ s, dG (V2 m ρ) c t (ix2 s r) = pbg (xs m c) (ws m c) (es m c) (ds m c) (t.val % 2) (bu t) (half (t.val / 2) (ju t) r) :=
  Finset.sum_congr rfl fun s _ => dG_eq m ρ c t s r
theorem part12 : ∑ s, dV (V2 m ρ) c t (ix2 s r) = pbv (xs m c) (ws m c) (es m c) (ds m c) (t.val % 2) (bu t) (half (t.val / 2) (ju t) r) :=
  Finset.sum_congr rfl fun s _ => dV_eq m ρ c t s r
end

theorem em7 (y : S2048x256.Idx) : (win1_7.blk t).view.emb y = ix2 (tok (t.val % 2) (bu t) (y 0)) (half (t.val / 2) (ju t) (y 1)) := by blk_ext! [idx1 t]
theorem em8 (y : S2048x256.Idx) : (win1_8.blk t).view.emb y = ix2 (tok (t.val % 2) (bu t) (y 0)) (half (t.val / 2) (ju t) (y 1)) := by blk_ext! [idx1 t]
theorem em9 (y : S3x256.Idx) : (win1_9.blk t).view.emb y = ix2 (y 0) (half (t.val / 2) (ju t) (y 1)) := by blk_ext! [idx1 t]
theorem em10 (y : S3x256.Idx) : (win1_10.blk t).view.emb y = ix2 (y 0) (half (t.val / 2) (ju t) (y 1)) := by blk_ext! [idx1 t]
theorem em11 (y : S1x256.Idx) : (win1_11.blk t).view.emb y = ix2 (y 0) (half (t.val / 2) (ju t) (y 1)) := by blk_ext! [idx1 t]
theorem em12 (y : S1x256.Idx) : (win1_12.blk t).view.emb y = ix2 (y 0) (half (t.val / 2) (ju t) (y 1)) := by blk_ext! [idx1 t]

/-- The results. -/
def F7 : S4096x2816.Idx → EReal := spread (DUG (xs m c) (ws m c) (es m c) (ds m c))
def F8 : S4096x2816.Idx → EReal := spread (DUV (xs m c) (ws m c) (es m c) (ds m c))
def F9 : S3x2816.Idx → EReal := rowed fun j k => ∑ b : Fin 2, pwg (xs m c) (ws m c) (es m c) (ds m c) b.val b.isLt j k
def F10 : S3x2816.Idx → EReal := rowed fun j k => ∑ b : Fin 2, pwv (xs m c) (ws m c) (es m c) (ds m c) b.val b.isLt j k
def F11 : S1x2816.Idx → EReal := rowed fun _ k => ∑ b : Fin 2, pbg (xs m c) (ws m c) (es m c) (ds m c) b.val b.isLt k
def F12 : S1x2816.Idx → EReal := rowed fun _ k => ∑ b : Fin 2, pbv (xs m c) (ws m c) (es m c) (ds m c) b.val b.isLt k

theorem fin7 : (dat1 (V2 m ρ) c).arrAt 7 cfg1.N = F7 m c := by
  refine (dat1 (V2 m ρ) c).arrAt_eq_of_covers 7 _ (by decide +kernel) fun t hf y => ?_
  blk_simp
  rw [after1_7]
  exact spread_blk _ _ (bu t) (ju t) (fun s r => by rw [p7, col_dG, tapG]; rfl) y _ (em7 t y)
theorem fin8 : (dat1 (V2 m ρ) c).arrAt 8 cfg1.N = F8 m c := by
  refine (dat1 (V2 m ρ) c).arrAt_eq_of_covers 8 _ (by decide +kernel) fun t hf y => ?_
  blk_simp
  rw [after1_8]
  exact spread_blk _ _ (bu t) (ju t) (fun s r => by rw [p8, col_dV, tapV]; rfl) y _ (em8 t y)

/-- The point before an odd one. -/
abbrev pr : Fin cfg1.N := ⟨t.val - 1, Nat.lt_of_le_of_lt (Nat.sub_le _ _) t.isLt⟩

/-- The two sequences' parts, met at an odd point and at the one before, add up to the sum over both. -/
theorem two (f : (b : ℕ) → b < 2 → Fin 2816 → EReal) (t : Fin cfg1.N) (h : t.val % 2 = 2 - 1) (r : Fin 256) :
    f ((pr t).val % 2) (bu (pr t)) (half ((pr t).val / 2) (ju (pr t)) r) + f (t.val % 2) (bu t) (half (t.val / 2) (ju t) r)
      = ∑ b : Fin 2, f b.val b.isLt (half (t.val / 2) (ju t) r) := by
  have e : half ((pr t).val / 2) (ju (pr t)) r = half (t.val / 2) (ju t) r := Fin.ext (by simp only; omega)
  have a : ∀ {b b' : ℕ} (q : b < 2) (q' : b' < 2) (k), b = b' → f b q k = f b' q' k := by rintro b b' q q' k rfl; rfl
  rw [Fin.sum_univ_two, e, a (bu (pr t)) (0 : Fin 2).isLt _ (by simp only [Fin.val_zero]; omega), a (bu t) (1 : Fin 2).isLt _ (by simp only [Fin.val_one]; omega)]

theorem fin9 : (dat1 (V2 m ρ) c).arrAt 9 cfg1.N = F9 m c := by
  refine (dat1 (V2 m ρ) c).arrAt_eq_of_covers 9 _ (by decide +kernel) fun t hf y => ?_
  blk_simp
  rw [after1_9]
  have hr := (flush1_9 t).mp hf
  refine rowed_blk _ _ (ju t) (fun j r => ?_) y _ (em9 t y)
  rw [p9B _ _ _ _ (by omega), p9A (V2 m ρ) c (pr t) r (by simp only; omega), part9, part9]
  exact two (fun b h k => pwg (xs m c) (ws m c) (es m c) (ds m c) b h j k) t hr r
theorem fin10 : (dat1 (V2 m ρ) c).arrAt 10 cfg1.N = F10 m c := by
  refine (dat1 (V2 m ρ) c).arrAt_eq_of_covers 10 _ (by decide +kernel) fun t hf y => ?_
  blk_simp
  rw [after1_10]
  have hr := (flush1_10 t).mp hf
  refine rowed_blk _ _ (ju t) (fun j r => ?_) y _ (em10 t y)
  rw [p10B _ _ _ _ (by omega), p10A (V2 m ρ) c (pr t) r (by simp only; omega), part10, part10]
  exact two (fun b h k => pwv (xs m c) (ws m c) (es m c) (ds m c) b h j k) t hr r
theorem fin11 : (dat1 (V2 m ρ) c).arrAt 11 cfg1.N = F11 m c := by
  refine (dat1 (V2 m ρ) c).arrAt_eq_of_covers 11 _ (by decide +kernel) fun t hf y => ?_
  blk_simp
  rw [after1_11]
  have hr := (flush1_11 t).mp hf
  refine rowed_blk _ _ (ju t) (fun j r => ?_) y _ (em11 t y)
  rw [show j = 0 from Fin.ext (by omega), p11B _ _ _ _ (by omega), p11A (V2 m ρ) c (pr t) r (by simp only; omega), part11, part11]
  exact two (fun b h k => pbg (xs m c) (ws m c) (es m c) (ds m c) b h k) t hr r
theorem fin12 : (dat1 (V2 m ρ) c).arrAt 12 cfg1.N = F12 m c := by
  refine (dat1 (V2 m ρ) c).arrAt_eq_of_covers 12 _ (by decide +kernel) fun t hf y => ?_
  blk_simp
  rw [after1_12]
  have hr := (flush1_12 t).mp hf
  refine rowed_blk _ _ (ju t) (fun j r => ?_) y _ (em12 t y)
  rw [show j = 0 from Fin.ext (by omega), p12B _ _ _ _ (by omega), p12A (V2 m ρ) c (pr t) r (by simp only; omega), part12, part12]
  exact two (fun b h k => pbv (xs m c) (ws m c) (es m c) (ds m c) b h k) t hr r

end Cert.FfnActIdeal.Value
-- ==== Proof.FfnActRef.lean ====
/- What the reference of the gated feed-forward's backward pass computes, entry by entry. -/
module

public import proofs.«01_k».proof.Proof.FfnActArray
public import proofs.«01_k».proof.Proof.Gen.FfnActRefIdeal.Run
public import proofs.«01_k».proof.Proof.Sums

@[expose] public section

set_option maxRecDepth 16384

noncomputable section

namespace Cert.Ffn

open Idealize.ShloMosaic

/-- The gate's tanh, the gate's factor, and the derivative as the reference composes it. -/
def th (g : EReal) : EReal := Ideal.tanh ((kr : EReal) * (g + (cr : EReal) * (g * g * g)))
def hg (g : EReal) : EReal := ((1 / 2 : ℝ) : EReal) * (1 + th g)
def kq (g p : EReal) : EReal := (kr : EReal) * (((1 / 2 : ℝ) : EReal) * (g * p) * ((1 + th g) * (1 - th g)))
def GR (g v d : EReal) : EReal :=
  d * v * hg g + kq g (d * v) + (cr : EReal) * kq g (d * v) * (((3 : ℝ) : EReal) * (g * g))
def VR (g d : EReal) : EReal := g * hg g * d

end Cert.Ffn

namespace Cert.FfnActRefIdeal.Value

open Cert.FfnActRefIdeal Cert.FfnActRefIdeal.Gen Cert.Ffn Idealize.ShloMosaic Idealize.ShloMosaic.TcCoe Idealize.SL.Sem

variable (V : Valuation τ sig (Elt Ideal))

abbrev X : FVec Ideal S4096x5632 .bf16 := V (Proc.devRef .tc main_arg0)
abbrev W : FVec Ideal S3x5632 .f32 := V (Proc.devRef .tc main_arg1)
abbrev E : FVec Ideal S5632 .f32 := V (Proc.devRef .tc main_arg2)
abbrev D : FVec Ideal S4096x2816 .bf16 := V (Proc.devRef .tc main_arg3)

abbrev xr : Fin 4096 → Fin 5632 → EReal := fun n k => X V (ix2 n k)
abbrev wr : Fin 3 → Fin 5632 → EReal := fun j k => W V (ix2 j k)
abbrev er : Fin 5632 → EReal := fun k => E V (ix1 k)
abbrev dr : Fin 4096 → Fin 2816 → EReal := fun n k => D V (ix2 n k)
/-- Channel `k` of sequence `b`. -/
abbrev xc (b : Fin 2) (k : Fin 5632) : Col := fun s => xr V (tok b.val b.isLt s) k

variable (b : Fin 2) (s : Fin 2048)

theorem v3_at (n : Fin 2050) (k : Fin 5632) : (res_main_v3 V : FVec Ideal S2x2050x5632 .f32) (ix3 b n k)
    = if h : 2 ≤ n.val then xc V b k ⟨n.val - 2, by omega⟩ else 0 := by
  pointwise [res_main_v3]
  split
  · rw [dif_neg (by omega)]
  · rw [dif_pos (by omega)]

theorem v7_at (k : Fin 5632) : (res_main_v7 V : FVec Ideal S2x2048x5632 .f32) (ix3 b s k) = dn 2 (xc V b k) s := by
  have e := v3_at V b ⟨s.val, by omega⟩ k
  unfold dn
  pointwise [res_main_v7, e]
  by_cases h : 2 ≤ s.val
  · exact (dif_pos h).trans (if_pos h).symm
  · exact (dif_neg h).trans (if_neg h).symm
theorem v15_at (k : Fin 5632) : (res_main_v15 V : FVec Ideal S2x2048x5632 .f32) (ix3 b s k) = dn 1 (xc V b k) s := by
  have e := v3_at V b ⟨1 + s.val, by omega⟩ k
  unfold dn
  pointwise [res_main_v15]
  rw [e]
  by_cases h : 1 ≤ s.val
  · exact ((dif_pos (by simp only; omega)).trans (congrArg (xc V b k) (Fin.ext (by simp only; omega)))).trans (if_pos h).symm
  · exact (dif_neg (by simp only; omega)).trans (if_neg h).symm
theorem v22_at (k : Fin 5632) : (res_main_v22 V : FVec Ideal S2x2048x5632 .f32) (ix3 b s k) = xc V b k s := by
  have e := v3_at V b ⟨2 + s.val, by omega⟩ k
  pointwise [res_main_v22]
  rw [e]
  exact (dif_pos (by simp only; omega)).trans (congrArg (xc V b k) (Fin.ext (by simp only; omega)))

theorem v8_at (k : Fin 5632) : (res_main_v8 V : FVec Ideal S1x1x5632 .f32) (ix3 0 0 k) = wr V 0 k := by pointwise [res_main_v8]
theorem v16_at (k : Fin 5632) : (res_main_v16 V : FVec Ideal S1x1x5632 .f32) (ix3 0 0 k) = wr V 1 k := by pointwise [res_main_v16]
theorem v23_at (k : Fin 5632) : (res_main_v23 V : FVec Ideal S1x1x5632 .f32) (ix3 0 0 k) = wr V 2 k := by pointwise [res_main_v23]

theorem v29_at (k : Fin 5632) : (res_main_v29 V : FVec Ideal S2x2048x5632 .f32) (ix3 b s k) = cv (xr V) (wr V) (er V) b.val b.isLt k s := by
  have e0 := v8_at V k
  have e1 := v16_at V k
  have e2 := v23_at V k
  have e3 := v7_at V b s k
  have e4 := v15_at V b s k
  have e5 := v22_at V b s k
  unfold cv conv
  pointwise [res_main_v29, e0, e1, e2, e3, e4, e5]

theorem v30_at (k : Fin 2816) : (res_main_v30 V : FVec Ideal S2x2048x2816 .f32) (ix3 b s k) = cv (xr V) (wr V) (er V) b.val b.isLt (gk k) s := by
  have e := v29_at V b s (gk k)
  pointwise [res_main_v30, e]
theorem v31_at (k : Fin 2816) : (res_main_v31 V : FVec Ideal S2x2048x2816 .f32) (ix3 b s k) = cv (xr V) (wr V) (er V) b.val b.isLt (vk k) s := by
  have e := v29_at V b s (vk k)
  pointwise [res_main_v31, e]

section
variable (k : Fin 2816)
abbrev gr : EReal := cv (xr V) (wr V) (er V) b.val b.isLt (gk k) s
abbrev vr : EReal := cv (xr V) (wr V) (er V) b.val b.isLt (vk k) s

theorem v42_at : (res_main_v42 V : FVec Ideal S2x2048x2816 .f32) (ix3 b s k) = th (gr V b s k) := by
  have e := v30_at V b s k
  unfold th
  pointwise [res_main_v42, e, ofBits_k, ofBits_c]
theorem v51_at : (res_main_v51 V : FVec Ideal S2x2048x2816 .f32) (ix3 b s k) = hg (gr V b s k) := by
  have e := v42_at V b s k
  unfold hg
  pointwise [res_main_v51, e, ofBits_half, Ideal.ofBits_one_f32]
theorem v52_at : (res_main_v52 V : FVec Ideal S2x2048x2816 .f32) (ix3 b s k) = gr V b s k * hg (gr V b s k) := by
  have e := v51_at V b s k
  have e' := v30_at V b s k
  pointwise [res_main_v52, e, e']
theorem v55_at : (res_main_v55 V : FVec Ideal S2x2048x2816 .f32) (ix3 b s k) = dr V (tok b.val b.isLt s) k := by
  pointwise [res_main_v55]
theorem v57_at : (res_main_v57 V : FVec Ideal S2x2048x2816 .f32) (ix3 b s k) = dr V (tok b.val b.isLt s) k * vr V b s k := by
  have e := v55_at V b s k
  have e' := v31_at V b s k
  pointwise [res_main_v57, e, e']
theorem v64_at : (res_main_v64 V : FVec Ideal S2x2048x2816 .f32) (ix3 b s k) = kq (gr V b s k) (dr V (tok b.val b.isLt s) k * vr V b s k) := by
  have e := v57_at V b s k
  have e' := v42_at V b s k
  have e'' := v30_at V b s k
  unfold kq
  pointwise [res_main_v64, e, e', e'', ofBits_k, ofBits_half, Ideal.ofBits_one_f32]

/-- The cotangents of the convolved gate and value. -/
theorem v70_gate : (res_main_v70 V : FVec Ideal S2x2048x5632 .f32) (ix3 b s (gk k)) = GR (gr V b s k) (vr V b s k) (dr V (tok b.val b.isLt s) k) := by
  have e := v57_at V b s k
  have e' := v64_at V b s k
  have e'' := v30_at V b s k
  have e''' := v51_at V b s k
  have hk : k.val < 2816 := k.isLt
  unfold GR
  pointwise [res_main_v70, e, e', e'', e''', ofBits_c, ofBits_three]
theorem v70_value : (res_main_v70 V : FVec Ideal S2x2048x5632 .f32) (ix3 b s (vk k)) = VR (gr V b s k) (dr V (tok b.val b.isLt s) k) := by
  have e := v52_at V b s k
  have e' := v55_at V b s k
  have hk : k.val < 2816 := k.isLt
  unfold VR
  pointwise [res_main_v70, e, e']
end

/-- The cotangent of the convolution's channel `k`. -/
def du (k : Fin 5632) : Col := fun s => (res_main_v70 V : FVec Ideal S2x2048x5632 .f32) (ix3 b s k)

theorem v101_at (k : Fin 5632) : (res_main_v101 V : FVec Ideal S2x2050x5632 .f32) (ix3 b ⟨2 + s.val, by omega⟩ k) = dconv (wr V · k) (du V b k) s := by
  have e0 := v8_at V k
  have e1 := v16_at V k
  have e2 := v23_at V k
  unfold dconv up du
  pointwise [res_main_v101, e0, e1, e2]
  refine congrArg₂ (· + ·) (congrArg₂ (· + ·) rfl ?_) ?_
  · by_cases h : s.val + 1 < 2048
    · rw [dif_pos h]
      refine (dif_pos (by omega)).trans (congrArg (wr V 1 k * ·) (congrArg (fun n => (res_main_v70 V : FVec Ideal S2x2048x5632 .f32) (ix3 b n k)) (Fin.ext (by simp only; omega))))
    · rw [dif_neg h, mul_zero]
      exact dif_neg (by omega)
  · by_cases h : s.val + 2 < 2048
    · rw [dif_pos h]
      refine (dif_pos (by omega)).trans (congrArg (wr V 0 k * ·) (congrArg (fun n => (res_main_v70 V : FVec Ideal S2x2048x5632 .f32) (ix3 b n k)) (Fin.ext (by simp only; omega))))
    · rw [dif_neg h, mul_zero]
      exact dif_neg (by omega)

theorem v108_at (k : Fin 5632) : (res_main_v108 V : FVec Ideal S4096x5632 .bf16) (ix2 (tok b.val b.isLt s) k) = dconv (wr V · k) (du V b k) s := by
  have e := v101_at V b s k
  pointwise [res_main_v108]
  refine Eq.trans (congrArg (res_main_v101 V : FVec Ideal S2x2050x5632 .f32) ?_) e
  exact congrArg₂ (fun p q => ix3 p q k) (Fin.ext (by simp only; omega)) (Fin.ext (by simp only; omega))

/-- The sum over sequences and tokens of the cotangents against what a tap read. -/
def TAP (y : FVec Ideal S2x2048x5632 .f32) : FVec Ideal S1x5632 .f32 :=
  broadcastInDim S1x5632 ![1] bcast_S5632_S1x5632_1 (Host.reduceAdd (shapeCast S1x1x5632 (Host.reduceAdd (mulf (res_main_v70 V) y) (constant S_ .f32 0x00000000#32) reducesTo_S2x2048x5632_S5632_d0_1 h_S_) shapeCasts_S5632_S1x1x5632) (constant S_ .f32 0x00000000#32) reducesTo_S1x1x5632_S5632_d0_1 h_S_)

theorem TAP_at (y : FVec Ideal S2x2048x5632 .f32) (k : Fin 5632) : TAP V y (ix2 0 k) = ∑ b : Fin 2, ∑ s : Fin 2048, du V b k s * y (ix3 b s k) := by
  unfold du
  pointwise [TAP]
  simp only [Finset.univ_unique, Finset.sum_singleton, zero_add]

/-- The gradient in the taps. -/
def DW : FVec Ideal S3x5632 .f32 :=
  addf (addf (pad S3x5632 ![2, 0] ![0, 0] ![0, 0] (TAP V (res_main_v22 V)) (constant S_ .f32 0x00000000#32) pads_S1x5632_S3x5632_200_000 h_S_) (pad S3x5632 ![1, 0] ![1, 0] ![0, 0] (TAP V (res_main_v15 V)) (constant S_ .f32 0x00000000#32) pads_S1x5632_S3x5632_110_000 h_S_)) (pad S3x5632 ![0, 0] ![2, 0] ![0, 0] (TAP V (res_main_v7 V)) (constant S_ .f32 0x00000000#32) pads_S1x5632_S3x5632_020_000 h_S_)

theorem DW_rows (k : Fin 5632) : DW V (ix2 0 k) = TAP V (res_main_v7 V) (ix2 0 k) ∧ DW V (ix2 1 k) = TAP V (res_main_v15 V) (ix2 0 k)
    ∧ DW V (ix2 2 k) = TAP V (res_main_v22 V) (ix2 0 k) := by
  refine ⟨?_, ?_, ?_⟩ <;> pointwise [DW]

theorem DW_at (j : Fin 3) (k : Fin 5632) : DW V (ix2 j k) = ∑ b : Fin 2, dtap (xc V b k) (du V b k) j := by
  match j with
  | 0 =>
    refine (DW_rows V k).1.trans ((TAP_at V _ k).trans (Finset.sum_congr rfl fun b _ => ?_))
    exact (Finset.sum_congr rfl fun s _ => congrArg (du V b k s * ·) (v7_at V b s k)).trans (up_sum _ _ _).symm
  | 1 =>
    refine (DW_rows V k).2.1.trans ((TAP_at V _ k).trans (Finset.sum_congr rfl fun b _ => ?_))
    exact (Finset.sum_congr rfl fun s _ => congrArg (du V b k s * ·) (v15_at V b s k)).trans (up_sum _ _ _).symm
  | 2 =>
    refine (DW_rows V k).2.2.trans ((TAP_at V _ k).trans (Finset.sum_congr rfl fun b _ => ?_))
    exact Finset.sum_congr rfl fun s _ => (congrArg (du V b k s * ·) (v22_at V b s k)).trans (mul_comm _ _)

/-- The gradient in the bias. -/
def DB : FVec Ideal S1x5632 .f32 :=
  shapeCast S1x5632 (Host.reduceAdd (shapeCast S1x1x5632 (Host.reduceAdd (res_main_v70 V) (constant S_ .f32 0x00000000#32) reducesTo_S2x2048x5632_S5632_d0_1 h_S_) shapeCasts_S5632_S1x1x5632) (constant S_ .f32 0x00000000#32) reducesTo_S1x1x5632_S5632_d0_1 h_S_) shapeCasts_S5632_S1x5632

theorem DB_at (k : Fin 5632) : DB V (ix2 0 k) = ∑ b : Fin 2, ∑ s : Fin 2048, du V b k s := by
  unfold du
  pointwise [DB]
  simp only [Finset.univ_unique, Finset.sum_singleton, zero_add]

/-- The two halves of the gradient in the projections. -/
def HG : FVec Ideal S4096x2816 .bf16 := extractStridedSlice S4096x2816 ![0, 0] (res_main_v108 V : FVec Ideal S4096x5632 .bf16) slices_S4096x5632_S4096x2816_0_0
def HV : FVec Ideal S4096x2816 .bf16 := extractStridedSlice S4096x2816 ![0, 2816] (res_main_v108 V : FVec Ideal S4096x5632 .bf16) slices_S4096x5632_S4096x2816_0_2816

theorem HG_at (k : Fin 2816) : HG V (ix2 (tok b.val b.isLt s) k) = dconv (wr V · (gk k)) (du V b (gk k)) s := by
  refine Eq.trans ?_ (v108_at V b s (gk k))
  pointwise [HG]
theorem HV_at (k : Fin 2816) : HV V (ix2 (tok b.val b.isLt s) k) = dconv (wr V · (vk k)) (du V b (vk k)) s := by
  refine Eq.trans ?_ (v108_at V b s (vk k))
  pointwise [HV]

end Cert.FfnActRefIdeal.Value
-- ==== Proof.FfnActRun.lean ====
/- The whole program of the gated feed-forward's backward call: its four results, as functions of its arguments. -/
module

public import proofs.«01_k».proof.Proof.FfnActArray

@[expose] public section

set_option maxRecDepth 16384

noncomputable section

namespace Cert.FfnActIdeal.Value

open Cert.FfnActIdeal Cert.FfnActIdeal.Gen Cert.Ffn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) (c : Dev nD)

/-- The results the backward call wrote, when the last lines begin. -/
theorem res7 : W3 m ρ c (Proc.devRef .tc main_v2_0) = F7 m c := (W3_arr m ρ c 7).trans (fin7 m ρ c)
theorem res8 : W3 m ρ c (Proc.devRef .tc main_v2_1) = F8 m c := (W3_arr m ρ c 8).trans (fin8 m ρ c)
theorem res9 : W3 m ρ c (Proc.devRef .tc main_v2_2) = F9 m c := (W3_arr m ρ c 9).trans (fin9 m ρ c)
theorem res10 : W3 m ρ c (Proc.devRef .tc main_v2_3) = F10 m c := (W3_arr m ρ c 10).trans (fin10 m ρ c)
theorem res11 : W3 m ρ c (Proc.devRef .tc main_v2_4) = F11 m c := (W3_arr m ρ c 11).trans (fin11 m ρ c)
theorem res12 : W3 m ρ c (Proc.devRef .tc main_v2_5) = F12 m c := (W3_arr m ρ c 12).trans (fin12 m ρ c)

/-- The gate's and the value's halves side by side. -/
def side3 (x y : FVec Ideal S3x2816 .f32) : FVec Ideal S3x5632 .f32 :=
  concatenate S3x5632 1 [⟨S3x2816, x⟩, ⟨S3x2816, y⟩] concatenates_S3x2816_S3x2816_S3x5632_d1
def side1 (x y : FVec Ideal S1x2816 .f32) : FVec Ideal S1x5632 .f32 :=
  concatenate S1x5632 1 [⟨S1x2816, x⟩, ⟨S1x2816, y⟩] concatenates_S1x2816_S1x2816_S1x5632_d1

theorem end0 : W4 m ρ c (Proc.devRef .tc main_v2_0) = F7 m c := (W4_of m ρ c main_v2_0 (by decide)).trans (res7 m ρ c)
theorem end1 : W4 m ρ c (Proc.devRef .tc main_v2_1) = F8 m c := (W4_of m ρ c main_v2_1 (by decide)).trans (res8 m ρ c)
theorem end2 : W4 m ρ c (Proc.devRef .tc main_v3) = side3 (F9 m c) (F10 m c) := by
  have e : W4 m ρ c (Proc.devRef .tc main_v3) = side3 (W3 m ρ c (Proc.devRef .tc main_v2_2)) (W3 m ρ c (Proc.devRef .tc main_v2_3)) := by
    show StableHlo.after hostOps2 (W3 m ρ c) (Proc.devRef .tc main_v3) = _
    after_results
    rfl
  rw [e, res9, res10]
theorem end3 : W4 m ρ c (Proc.devRef .tc main_v4) = side1 (F11 m c) (F12 m c) := by
  have e : W4 m ρ c (Proc.devRef .tc main_v4) = side1 (W3 m ρ c (Proc.devRef .tc main_v2_4)) (W3 m ρ c (Proc.devRef .tc main_v2_5)) := by
    show StableHlo.after hostOps2 (W3 m ρ c) (Proc.devRef .tc main_v4) = _
    after_results
    rfl
  rw [e, res11, res12]

/-- Every execution ends with the four results. -/
theorem run_blocks : θ_run defs (onTc (τ := τ) (main (F := Ideal))) ⟨m, fun _ => 0, ρ⟩ fun r => ∀ c : Dev nD,
      r.2.mem ((c : Thread nD τ).loc main_v2_0) = F7 m c
      ∧ r.2.mem ((c : Thread nD τ).loc main_v2_1) = F8 m c
      ∧ r.2.mem ((c : Thread nD τ).loc main_v3) = side3 (F9 m c) (F10 m c)
      ∧ r.2.mem ((c : Thread nD τ).loc main_v4) = side1 (F11 m c) (F12 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v2_0 (by decide))).trans (end0 m ρ c),
       (h c _ (mem_uc main_v2_1 (by decide))).trans (end1 m ρ c),
       (h c _ (mem_uc main_v3 (by decide))).trans (end2 m ρ c),
       (h c _ (mem_uc main_v4 (by decide))).trans (end3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.FfnActIdeal.Value
-- ==== Proof.FfnActEq.lean ====
/- The four results of the gated feed-forward's backward call are the reference's. -/
module

public import proofs.«01_k».proof.Proof.FfnActRef
public import proofs.«01_k».proof.Proof.FfnActRun
public import proofs.«01_k».proof.Proof.Reals
public import proofs.«01_k».proof.Proof.Gen.Pre_finite_ffn_act
public import proofs.«01_k».proof.Defs

@[expose] public section

set_option maxRecDepth 16384

noncomputable section

namespace Cert.Ffn

open Idealize.ShloMosaic

/-- Both spellings of the tanh's argument. -/
theorem arg_eq (g : ℝ) : g * (kr + 80338380498831 / 2251799813685248 * (g * g)) = kr * (g + cr * (g * g * g)) := by
  norm_num [kr, cr]; ring

/-- The gate's factor at a real number, in both spellings. -/
theorem factor (g : ℝ) : ∃ t : ℝ, th (g : EReal) = t ∧ sg (g : EReal) = ((1 / 2 * t + 1 / 2 : ℝ) : EReal) := by
  refine ⟨Real.tanh (kr * (g + cr * (g * g * g))), ?_, ?_⟩
  · unfold th
    simp only [← EReal.coe_mul, ← EReal.coe_add, Ideal.tanh_coe]
  · unfold sg
    simp only [← EReal.coe_mul, ← EReal.coe_add, Ideal.tanh_coe, arg_eq]

/-- The gate's derivative is what the reference composes. -/
theorem GR_eq {g v d : EReal} (hg' : ∃ r : ℝ, g = r) (hv : ∃ r : ℝ, v = r) (hd : ∃ r : ℝ, d = r) : GR g v d = d * (v * dgl g) := by
  obtain ⟨g, rfl⟩ := hg'
  obtain ⟨v, rfl⟩ := hv
  obtain ⟨d, rfl⟩ := hd
  obtain ⟨t, h, h'⟩ := factor g
  unfold GR kq hg dgl
  rw [h, h', ← EReal.coe_one]
  simp only [← EReal.coe_mul, ← EReal.coe_add, ← EReal.coe_sub]
  refine congrArg _ ?_
  norm_num [kr, cr]
  ring

/-- So is the gate. -/
theorem VR_eq {g d : EReal} (hg' : ∃ r : ℝ, g = r) (hd : ∃ r : ℝ, d = r) : VR g d = d * gl g := by
  obtain ⟨g, rfl⟩ := hg'
  obtain ⟨d, rfl⟩ := hd
  obtain ⟨t, h, h'⟩ := factor g
  unfold VR hg gl
  rw [h, h', ← EReal.coe_one]
  simp only [← EReal.coe_mul, ← EReal.coe_add]
  refine congrArg _ ?_
  ring

theorem dn_real {n : ℕ} {x : Col} (hx : ∀ s, ∃ r : ℝ, x s = r) (s) : ∃ r : ℝ, dn n x s = r := by
  unfold dn
  split
  · exact hx _
  · exact ⟨0, rfl⟩

theorem cv_real {x : Fin 4096 → Fin 5632 → EReal} {w : Fin 3 → Fin 5632 → EReal} {e : Fin 5632 → EReal} (hx : ∀ n k, ∃ r : ℝ, x n k = r)
    (hw : ∀ j k, ∃ r : ℝ, w j k = r) (he : ∀ k, ∃ r : ℝ, e k = r) (b : ℕ) (h : b < 2) (k s) : ∃ r : ℝ, cv x w e b h k s = r := by
  obtain ⟨a, ha⟩ := dn_real (n := 2) (fun s => hx (tok b h s) k) s
  obtain ⟨a', ha'⟩ := dn_real (n := 1) (fun s => hx (tok b h s) k) s
  obtain ⟨a'', ha''⟩ := hx (tok b h s) k
  obtain ⟨w0, h0⟩ := hw 0 k
  obtain ⟨w1, h1⟩ := hw 1 k
  obtain ⟨w2, h2⟩ := hw 2 k
  obtain ⟨e0, he⟩ := he k
  unfold cv conv
  dsimp only
  rw [ha, ha', ha'', h0, h1, h2, he]
  simp only [← EReal.coe_mul, ← EReal.coe_add]
  exact ⟨_, rfl⟩

/-- Two arrays of one row with the same entries. -/
theorem row_eq {f g : (⟨2, ![1, 5632]⟩ : Shape).Idx → EReal} (h : ∀ k : Fin 5632, f (ix2 0 k) = g (ix2 0 k)) : f = g := by
  funext i
  have e : i = ix2 (0 : Fin 1) (i 1) := (ix2_eta i).symm.trans (congrArg (fun j : Fin 1 => ix2 j (i 1)) (Subsingleton.elim (α := Fin 1) _ _))
  exact (congrArg f e).trans ((h _).trans (congrArg g e).symm)

/-- Two arrays with the same columns. -/
theorem spread_eq (f : (b : ℕ) → b < 2 → Fin 2816 → Col) (v : (⟨2, ![4096, 2816]⟩ : Shape).Idx → EReal)
    (hv : ∀ (b : Fin 2) s k, v (ix2 (tok b.val b.isLt s) k) = f b.val b.isLt k s) : v = spread f := by
  funext i
  have h0 : (i 0).val < 4096 := (i 0).isLt
  have e : i = ix2 (tok ((i 0).val / 2048) (by omega) ⟨(i 0).val % 2048, by omega⟩) (i 1) := by
    refine (ix2_eta i).symm.trans (congrArg (fun n => ix2 n (i 1)) (Fin.ext ?_))
    show (i 0).val = (i 0).val / 2048 * 2048 + (i 0).val % 2048
    omega
  exact (congrArg v e).trans (hv ⟨(i 0).val / 2048, by omega⟩ ⟨(i 0).val % 2048, by omega⟩ (i 1))

end Cert.Ffn

namespace Cert.FfnActIdeal.Value

open Cert.Ffn Cert.FfnActIdeal Cert.FfnActIdeal.Gen Idealize.ShloMosaic Idealize.ShloMosaic.TcCoe Idealize.SL.Sem
open Cert.FfnActRefIdeal.Value (X W E D du v70_gate v70_value HG HG_at HV HV_at DW DW_at DB DB_at)

variable (m : (ℓ : Loc nD τ sig) → Buf (Elt Ideal) ℓ) (c : Dev nD)

/-- What the precondition says of the arguments. -/
theorem real_of_pre (h : Cert.Pre_FfnActIdeal_finite_ffn_act m) :
    (∀ i, ∃ r : ℝ, A0 m c i = (r : EReal)) ∧ (∀ i, ∃ r : ℝ, A1 m c i = (r : EReal)) ∧ (∀ i, ∃ r : ℝ, A2 m c i = (r : EReal))
      ∧ (∀ i, ∃ r : ℝ, A3 m c i = (r : EReal)) := by
  have h := h c
  refine ⟨fun i => Reals.of_abs_lt ?_, fun i => Reals.of_abs_lt ?_, fun i => Reals.of_abs_lt ?_, fun i => Reals.of_abs_lt ?_⟩
  · have e := congrFun h.1 i
    simp only [Cert.Pre_finite_ffn_act.fn, pointwise, Reals.ofBits_inf] at e
    exact e
  · have e := congrFun h.2.1 i
    simp only [Cert.Pre_finite_ffn_act.fn, pointwise, Reals.ofBits_inf] at e
    exact e
  · have e := congrFun h.2.2.1 i
    simp only [Cert.Pre_finite_ffn_act.fn, pointwise, Reals.ofBits_inf] at e
    exact e
  · have e := congrFun h.2.2.2 i
    simp only [Cert.Pre_finite_ffn_act.fn, pointwise, Reals.ofBits_inf] at e
    exact e

variable (V : Valuation Cert.FfnActRefIdeal.τ Cert.FfnActRefIdeal.sig (Elt Ideal))

/-- The reference's arguments are the call's. -/
def Same : Prop := X V = A0 m c ∧ W V = A1 m c ∧ E V = A2 m c ∧ D V = A3 m c

variable {m c V} (hs : Same m c V) (h : Cert.Pre_FfnActIdeal_finite_ffn_act m)
include hs

theorem xr_eq : Cert.FfnActRefIdeal.Value.xr V = xs m c := funext fun n => funext fun k => congrFun hs.1 (ix2 n k)
theorem wr_eq : Cert.FfnActRefIdeal.Value.wr V = ws m c := funext fun n => funext fun k => congrFun hs.2.1 (ix2 n k)
theorem er_eq : Cert.FfnActRefIdeal.Value.er V = es m c := funext fun k => congrFun hs.2.2.1 (ix1 k)
theorem dr_eq : Cert.FfnActRefIdeal.Value.dr V = ds m c := funext fun n => funext fun k => congrFun hs.2.2.2 (ix2 n k)

include h

theorem du_gate (b : Fin 2) (k : Fin 2816) : du V b (gk k) = DG (xs m c) (ws m c) (es m c) (ds m c) b.val b.isLt k := by
  obtain ⟨h0, h1, h2, h3⟩ := real_of_pre m c h
  funext s
  unfold du
  rw [v70_gate]
  unfold Cert.FfnActRefIdeal.Value.gr Cert.FfnActRefIdeal.Value.vr
  rw [xr_eq hs, wr_eq hs, er_eq hs, dr_eq hs]
  exact GR_eq (cv_real (fun _ _ => h0 _) (fun _ _ => h1 _) (fun _ => h2 _) _ _ _ _) (cv_real (fun _ _ => h0 _) (fun _ _ => h1 _) (fun _ => h2 _) _ _ _ _) (h3 _)

theorem du_value (b : Fin 2) (k : Fin 2816) : du V b (vk k) = DV (xs m c) (ws m c) (es m c) (ds m c) b.val b.isLt k := by
  obtain ⟨h0, h1, h2, h3⟩ := real_of_pre m c h
  funext s
  unfold du
  rw [v70_value]
  unfold Cert.FfnActRefIdeal.Value.gr
  rw [xr_eq hs, wr_eq hs, er_eq hs, dr_eq hs]
  exact VR_eq (cv_real (fun _ _ => h0 _) (fun _ _ => h1 _) (fun _ => h2 _) _ _ _ _) (h3 _)

theorem HG_eq : HG V = F7 m c :=
  spread_eq _ _ fun b s k => by rw [HG_at, du_gate hs h, wr_eq hs]; rfl
theorem HV_eq : HV V = F8 m c :=
  spread_eq _ _ fun b s k => by rw [HV_at, du_value hs h, wr_eq hs]; rfl

/-- A channel is a gate's or a value's. -/
theorem chan (k : Fin 5632) : (∃ k', k = gk k') ∨ ∃ k', k = vk k' := by
  by_cases q : k.val < 2816
  · exact .inl ⟨⟨k.val, q⟩, rfl⟩
  · exact .inr ⟨⟨k.val - 2816, by omega⟩, Fin.ext (by simp only; omega)⟩

omit hs h in
theorem side3_gate (x y : FVec Ideal S3x2816 .f32) (j : Fin 3) (k : Fin 2816) : side3 x y (ix2 j (gk k)) = x (ix2 j k) := by
  have hk : k.val < 2816 := k.isLt
  pointwise [side3]
omit hs h in
theorem side3_value (x y : FVec Ideal S3x2816 .f32) (j : Fin 3) (k : Fin 2816) : side3 x y (ix2 j (vk k)) = y (ix2 j k) := by
  have hk : k.val < 2816 := k.isLt
  pointwise [side3]
omit hs h in
theorem side1_gate (x y : FVec Ideal S1x2816 .f32) (k : Fin 2816) : side1 x y (ix2 0 (gk k)) = x (ix2 0 k) := by
  have hk : k.val < 2816 := k.isLt
  pointwise [side1]
omit hs h in
theorem side1_value (x y : FVec Ideal S1x2816 .f32) (k : Fin 2816) : side1 x y (ix2 0 (vk k)) = y (ix2 0 k) := by
  have hk : k.val < 2816 := k.isLt
  pointwise [side1]

omit hs h in
theorem F9_at (j : Fin 3) (k : Fin 2816) : F9 m c (ix2 j k) = ∑ b : Fin 2, pwg (xs m c) (ws m c) (es m c) (ds m c) b.val b.isLt j k := rfl
omit hs h in
theorem F10_at (j : Fin 3) (k : Fin 2816) : F10 m c (ix2 j k) = ∑ b : Fin 2, pwv (xs m c) (ws m c) (es m c) (ds m c) b.val b.isLt j k := rfl
omit hs h in
theorem F11_at (k : Fin 2816) : F11 m c (ix2 0 k) = ∑ b : Fin 2, pbg (xs m c) (ws m c) (es m c) (ds m c) b.val b.isLt k := rfl
omit hs h in
theorem F12_at (k : Fin 2816) : F12 m c (ix2 0 k) = ∑ b : Fin 2, pbv (xs m c) (ws m c) (es m c) (ds m c) b.val b.isLt k := rfl

theorem DW_eq : DW V = side3 (F9 m c) (F10 m c) := by
  funext i
  rw [← Idealize.ShloMosaic.ix2_eta i]
  generalize hj : i 0 = j
  generalize hk : i 1 = k
  refine (DW_at V j k).trans ?_
  rcases chan hs h k with ⟨k, rfl⟩ | ⟨k, rfl⟩
  · refine Eq.trans ?_ ((side3_gate _ _ j k).trans (F9_at j k)).symm
    refine Finset.sum_congr rfl fun b _ => ?_
    rw [du_gate hs h]
    exact congrArg (fun x : Fin 4096 → Fin 5632 → EReal => dtap (fun s => x (tok b.val b.isLt s) (gk k)) (DG (xs m c) (ws m c) (es m c) (ds m c) b.val b.isLt k) j) (xr_eq hs)
  · refine Eq.trans ?_ ((side3_value _ _ j k).trans (F10_at j k)).symm
    refine Finset.sum_congr rfl fun b _ => ?_
    rw [du_value hs h]
    exact congrArg (fun x : Fin 4096 → Fin 5632 → EReal => dtap (fun s => x (tok b.val b.isLt s) (vk k)) (DV (xs m c) (ws m c) (es m c) (ds m c) b.val b.isLt k) j) (xr_eq hs)

theorem DB_eq : DB V = side1 (F11 m c) (F12 m c) := by
  refine row_eq fun k => ?_
  refine (DB_at V k).trans ?_
  rcases chan hs h k with ⟨k, rfl⟩ | ⟨k, rfl⟩
  · refine Eq.trans ?_ ((side1_gate _ _ k).trans (F11_at k)).symm
    refine Finset.sum_congr rfl fun b _ => ?_
    rw [du_gate hs h]
    rfl
  · refine Eq.trans ?_ ((side1_value _ _ k).trans (F12_at k)).symm
    refine Finset.sum_congr rfl fun b _ => ?_
    rw [du_value hs h]
    rfl

end Cert.FfnActIdeal.Value
-- ==== Proof.FfnActClaims.lean ====
/- The claims about the gated feed-forward's backward call. -/
module

public import proofs.«01_k».proof.Proof.FfnActEq
public import proofs.«01_k».proof.Proof.Gen.FfnAct
public import proofs.«01_k».proof.Proof.Gen.FfnAct.Frame
public import Idealize.ShloMosaic.Lib.Claim
public import Idealize.ShloMosaic.Adequacy
public import Idealize.ShloMosaic.Init

@[expose] public section

set_option maxRecDepth 16384

noncomputable section

namespace Cert.FfnActRefIdeal.Value

open Cert.FfnActRefIdeal Cert.FfnActRefIdeal.Gen Idealize.ShloMosaic Idealize.ShloMosaic.TcCoe Idealize.SL.Sem Idealize.ShloMosaic.StableHlo

/-- The reference ends with its four results. -/
theorem run_defs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = HG (launchContents m c)
      ∧ r.2.mem ((c.tc : Thread nD τ).loc main_v110) = HV (launchContents m c)
      ∧ r.2.mem ((c.tc : Thread nD τ).loc main_v104) = DW (launchContents m c)
      ∧ r.2.mem ((c.tc : Thread nD τ).loc main_v111) = DB (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => h c) (run (F := Ideal) m ρ)

end Cert.FfnActRefIdeal.Value

namespace Cert.Proof

open Idealize.ShloMosaic Idealize.SL.Sem Idealize.ShloMosaic.StableHlo

theorem ffnAct_reference : Cert.quiescent_FfnActRefIdeal := fun m ρ _ =>
  (θ_run Cert.FfnActRefIdeal.defs _ _).mono (fun r h => ⟨fun c => (h c).2.2.2.2, sem_eq_zero_of_no_sems (by decide) r.2⟩)
    (Cert.FfnActRefIdeal.Value.run (F := Ideal) m ρ)

theorem ffnAct_algebraic : Cert.algebraic_FfnActIdeal_FfnActRefIdeal_pre_finite_ffn_act := by
  pair_intro
  · run_from Cert.FfnActIdeal.Value.run_blocks m g
  · run_from Cert.FfnActRefIdeal.Value.run_defs m' g'
    · exact Cert.FfnActIdeal.Value.HG_eq ⟨(hagree c).1, (hagree c).2.1, (hagree c).2.2.1, (hagree c).2.2.2⟩ hpre
    · exact Cert.FfnActIdeal.Value.HV_eq ⟨(hagree c).1, (hagree c).2.1, (hagree c).2.2.1, (hagree c).2.2.2⟩ hpre
    · exact Cert.FfnActIdeal.Value.DW_eq ⟨(hagree c).1, (hagree c).2.1, (hagree c).2.2.1, (hagree c).2.2.2⟩ hpre
    · exact Cert.FfnActIdeal.Value.DB_eq ⟨(hagree c).1, (hagree c).2.1, (hagree c).2.2.1, (hagree c).2.2.2⟩ hpre

/-- The two named literals are the table's values. -/
theorem ffnAct_preserves : Cert.preserves_FfnAct_FfnActIdeal :=
  ⟨IdealRules.named_const.statement _ _ _ _ _ rfl, IdealRules.named_const.statement _ _ _ _ _ rfl⟩

end Cert.Proof
-- ==== Proof.SwaStore.lean ====
module

public import proofs.«01_k».proof.Proof.SwaEq

/-! A store of the sliding window attention's gradient that holds given queries, keys, values and sinks: what is proved of
the probabilities there serves the attention itself. -/

@[expose] public section

set_option maxRecDepth 16384

noncomputable section

namespace Cert.SwaRefIdeal.Value

open Cert.SwaRefIdeal Cert.SwaRefIdeal.Gen Idealize.ShloMosaic Idealize.ShloMosaic.TcCoe Idealize.SL.Sem

variable (c : Dev nD) (a0 : FVec Ideal S4096x1024 .f32) (a1 : FVec Ideal S4096x512 .f32) (a2 : FVec Ideal S12 .f32)

/-- The store with these arguments, the cotangent zero. -/
def store : (ℓ : Loc nD τ sig) → Buf (Elt Ideal) ℓ :=
  Function.update (Function.update (Function.update (Function.update (fun _ _ => default) ((c.tc : Thread nD τ).loc main_arg3) (fun _ => (0 : EReal)))
    ((c.tc : Thread nD τ).loc main_arg2) a2) ((c.tc : Thread nD τ).loc main_arg1) a1) ((c.tc : Thread nD τ).loc main_arg0) a0

theorem A0_store : A0 (store c a0 a1 a2) c = a0 := Function.update_self ..
theorem A1_store : A1 (store c a0 a1 a2) c = a1 :=
  (Function.update_of_ne (by revert c; decide) ..).trans (Function.update_self ..)
theorem A2_store : A2 (store c a0 a1 a2) c = a2 :=
  (Function.update_of_ne (by revert c; decide) ..).trans ((Function.update_of_ne (by revert c; decide) ..).trans (Function.update_self ..))
theorem A3_store : A3 (store c a0 a1 a2) c = fun _ => (0 : EReal) :=
  (Function.update_of_ne (by revert c; decide) ..).trans ((Function.update_of_ne (by revert c; decide) ..).trans
    ((Function.update_of_ne (by revert c; decide) ..).trans (Function.update_self ..)))

end Cert.SwaRefIdeal.Value

namespace Cert.SwaIdeal.Value

open Cert.Index Cert.SwaIdeal Cert.SwaIdeal.Gen Idealize.ShloMosaic Idealize.ShloMosaic.TcCoe Idealize.SL.Sem
open Cert.SwaRefIdeal.Value (A0_store A1_store A2_store A3_store PM VM)

variable (c : Dev nD) (a0 : FVec Ideal S4096x1024 .f32) (a1 : FVec Ideal S4096x512 .f32) (a2 : FVec Ideal S12 .f32)

/-- The store with these arguments, the cotangent zero. -/
def store : (ℓ : Loc nD τ sig) → Buf (Elt Ideal) ℓ :=
  Function.update (Function.update (Function.update (Function.update (fun _ _ => default) ((c.tc : Thread nD τ).loc main_arg3) (fun _ => (0 : EReal)))
    ((c.tc : Thread nD τ).loc main_arg2) a2) ((c.tc : Thread nD τ).loc main_arg1) a1) ((c.tc : Thread nD τ).loc main_arg0) a0

theorem B0_store : B0 (store c a0 a1 a2) c = a0 := Function.update_self ..
theorem B1_store : B1 (store c a0 a1 a2) c = a1 :=
  (Function.update_of_ne (by revert c; decide) ..).trans (Function.update_self ..)
theorem B2_store : B2 (store c a0 a1 a2) c = a2 :=
  (Function.update_of_ne (by revert c; decide) ..).trans ((Function.update_of_ne (by revert c; decide) ..).trans (Function.update_self ..))
theorem B3_store : B3 (store c a0 a1 a2) c = fun _ => (0 : EReal) :=
  (Function.update_of_ne (by revert c; decide) ..).trans ((Function.update_of_ne (by revert c; decide) ..).trans
    ((Function.update_of_ne (by revert c; decide) ..).trans (Function.update_self ..)))

/-- Both programs of the gradient at these arguments. -/
theorem same_store (c' : Dev Cert.SwaRefIdeal.nD) (h0 : ∀ i, ∃ x : ℝ, a0 i = (x : EReal)) (h1 : ∀ i, ∃ x : ℝ, a1 i = (x : EReal))
    (h2 : ∀ i, ∃ x : ℝ, a2 i = (x : EReal)) :
    Same (store c a0 a1 a2) c (Cert.SwaRefIdeal.Value.store c' a0 a1 a2) c' where
  e0 := (A0_store ..).trans (B0_store ..).symm
  e1 := (A1_store ..).trans (B1_store ..).symm
  e2 := (A2_store ..).trans (B2_store ..).symm
  e3 := (A3_store ..).trans (B3_store ..).symm
  r0 := by rw [B0_store]; exact h0
  r1 := by rw [B1_store]; exact h1
  r2 := by rw [B2_store]; exact h2
  r3 := by rw [B3_store]; exact fun _ => ⟨0, rfl⟩

section
variable (i : grid0.Coords) (sk : Vec Ideal S12 .f32) (q : Vec Ideal S128x768 .f32) (kp ko : Vec Ideal S128x512 .f32)
  (h : Fin 12) (r : Fin 128) (j : Fin 256) (u : Fin 64)

/-- The head's output. -/
def hO : FVec Ideal S128x64 .f32 := matmul (φ₁ := .bf16) (φ₂ := .bf16) dot_S128x256_S256x64_S128x64_1_0_0_1_n_n none
  (truncf .bf16 (hP i sk q kp ko h) bitsLt_bf16_f32) (hV kp ko h) (constant S128x64 .f32 0x00000000#32)

/-- The block's outputs, head beside head. -/
def BO : FVec Ideal S128x768 .bf16 :=
  truncf .bf16 (concatenate S128x768 1 [⟨S128x64, hO i sk q kp ko 0⟩, ⟨S128x64, hO i sk q kp ko 1⟩, ⟨S128x64, hO i sk q kp ko 2⟩, ⟨S128x64, hO i sk q kp ko 3⟩, ⟨S128x64, hO i sk q kp ko 4⟩, ⟨S128x64, hO i sk q kp ko 5⟩,
    ⟨S128x64, hO i sk q kp ko 6⟩, ⟨S128x64, hO i sk q kp ko 7⟩, ⟨S128x64, hO i sk q kp ko 8⟩, ⟨S128x64, hO i sk q kp ko 9⟩, ⟨S128x64, hO i sk q kp ko 10⟩, ⟨S128x64, hO i sk q kp ko 11⟩]
    concatenates_S128x64_S128x64_S128x64_S128x64_S128x64_S128x64_S128x64_S128x64_S128x64_S128x64_S128x64_S128x64_S128x768_d1) bitsLt_bf16_f32

theorem hO_apply : hO i sk q kp ko h (ix2 r u) = ∑ j : Fin 256, hP i sk q kp ko h (ix2 r j) * hV kp ko h (ix2 j u) := by
  pointwise [hO]

theorem BO_apply : BO i sk q kp ko (ix2 r ⟨64 * h.val + u.val, by omega⟩) = ∑ j : Fin 256, hP i sk q kp ko h (ix2 r j) * hV kp ko h (ix2 j u) :=
  (cat_heads h r u (hO i sk q kp ko)).trans (hO_apply ..)
end

variable {m : (ℓ : Loc nD τ sig) → Buf (Elt Ideal) ℓ} {c : Dev nD}
  {m' : (ℓ : Loc Cert.SwaRefIdeal.nD Cert.SwaRefIdeal.τ Cert.SwaRefIdeal.sig) → Buf (Elt Ideal) ℓ} {c' : Dev Cert.SwaRefIdeal.nD}

/-- A block's outputs are the reference's probabilities times its values. -/
theorem o_of (H : Same m c m' c') (b : Fin 2) (n : Fin 16) (g : Fin 4) (k : Fin 3) (r : Fin 128) (u : Fin 64) :
    BO (grid0.coords (pnt b n)) (iblk m c 0 (pnt b n)) (X0_1 m c (pnt b n)) (iblk m c 2 (pnt b n)) (iblk m c 3 (pnt b n)) (ix2 r ⟨64 * (hd g k).val + u.val, by omega⟩)
    = ∑ j : Fin 256, PM m' c' (ix6 b n g k r j) * VM m' c' (ix5 b n j g u) := by
  refine (BO_apply ..).trans (Finset.sum_congr rfl fun j _ => ?_)
  by_cases hm : j.val < 128 ∧ n.val < 1
  · have hs := fun j => sR_score H b n g k r j
    have ht := tR_real H g k
    have z : PM m' c' (ix6 b n g k r j) = 0 := by
      rw [Cert.SwaRefIdeal.Value.PM_eq m' c' b n g k r j hs ht, Sink.prob_masked hs ht (masked b n g k r j hm.1 hm.2)]
    rw [p_eq H, z, zero_mul, zero_mul]
  · rw [p_eq H, v_eq H b n g k j u hm]

end Cert.SwaIdeal.Value
-- ==== Proof.SwaFwdRef.lean ====
module

public import proofs.«01_k».proof.Proof.SwaStore
public import proofs.«01_k».proof.Proof.Gen.SwaFwdRefIdeal.Run

/-! The reference of the sliding window attention: the gradient's probabilities times the values. -/

@[expose] public section

set_option maxRecDepth 16384

noncomputable section

namespace Cert.SwaRefIdeal.Value

open Cert.SwaRefIdeal Cert.SwaRefIdeal.Gen Idealize.ShloMosaic Idealize.ShloMosaic.TcCoe Idealize.SL.Sem

/-- The probabilities, of the scores, their greatest and the sinks. -/
def PFR (s : FVec Ideal S2x16x4x3x128x256 .f32) (g : FVec Ideal S2x16x4x3x128 .f32) (t : FVec Ideal S1x1x4x3x1x1 .f32) : FVec Ideal S2x16x4x3x128x256 .f32 :=
  PR (ER s (MMR g t)) (ZR (ER s (MMR g t)) (FR t (MMR g t)))

/-- The probabilities, of the arguments. -/
def PF (a0 : FVec Ideal S4096x1024 .f32) (a1 : FVec Ideal S4096x512 .f32) (a2 : FVec Ideal S12 .f32) : FVec Ideal S2x16x4x3x128x256 .f32 :=
  PFR (SR (QR a0) (KR a1) MASKR) (MR (SR (QR a0) (KR a1) MASKR)) (SKR a2)

theorem PM_PF (m : (ℓ : Loc nD τ sig) → Buf (Elt Ideal) ℓ) (c : Dev nD) : PM m c = PF (A0 m c) (A1 m c) (A2 m c) := rfl
theorem VM_VR (m : (ℓ : Loc nD τ sig) → Buf (Elt Ideal) ℓ) (c : Dev nD) : VM m c = VR (A1 m c) := rfl

end Cert.SwaRefIdeal.Value

namespace Cert.SwaFwdRefIdeal.Value

open Cert.SwaFwdRefIdeal Cert.SwaFwdRefIdeal.Gen Idealize.ShloMosaic Idealize.ShloMosaic.TcCoe Idealize.SL.Sem
open Cert.SwaRefIdeal.Value (PF VR)

/-- The outputs, of the probabilities and the values. -/
def OFR (p : FVec Ideal S2x16x4x3x128x256 .f32) (v : FVec Ideal S2x16x256x4x64 .f32) : FVec Ideal S4096x768 .bf16 :=
  truncf .bf16 (shapeCast _ (shapeCast _ (transpose S2x16x128x4x3x64 [0, 1, 5, 2, 4, 3] (Host.dotGeneral dot_S2x16x256x4x64_S2x16x4x3x128x256_S2x16x4x64x3x128_2_5_4_34_013_012 none v p) transposes_S2x16x4x64x3x128_S2x16x128x4x3x64_0_1_5_2_4_3) shapeCasts_S2x16x128x4x3x64_S2x2048x768) shapeCasts_S2x2048x768_S4096x768) bitsLt_bf16_f32

variable (m : (ℓ : Loc nD τ sig) → Buf (Elt Ideal) ℓ) (c : Dev nD)

theorem res : res_main_v84 m c = OFR (PF (m ((c.tc : Thread nD τ).loc main_arg0)) (m ((c.tc : Thread nD τ).loc main_arg1)) (m ((c.tc : Thread nD τ).loc main_arg2)))
    (VR (m ((c.tc : Thread nD τ).loc main_arg1))) := by
  rfl

/-- The reference's run, its result by its definitions. -/
theorem run_defs (ρ : Dev nD → PrngReg) : θ_run defs (onTc (τ := τ) (main (F := Ideal))) ⟨m, fun _ => 0, ρ⟩ fun r => ∀ c : Dev nD,
      r.2.mem ((c.tc : Thread nD τ).loc main_v84) = OFR (PF (m ((c.tc : Thread nD τ).loc main_arg0)) (m ((c.tc : Thread nD τ).loc main_arg1))
        (m ((c.tc : Thread nD τ).loc main_arg2))) (VR (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res m c), (h c).2⟩) (run (F := Ideal) m ρ)

theorem OFR_apply (p : FVec Ideal S2x16x4x3x128x256 .f32) (v : FVec Ideal S2x16x256x4x64 .f32) (b : Fin 2) (n : Fin 16) (g : Fin 4) (k : Fin 3) (r : Fin 128) (u : Fin 64) :
    OFR p v (ix2 ⟨128 * (16 * b.val + n.val) + r.val, by omega⟩ ⟨64 * (3 * g.val + k.val) + u.val, by omega⟩)
    = ∑ j : Fin 256, v (ix5 b n j g u) * p (ix6 b n g k r j) := by
  pointwise [OFR]

end Cert.SwaFwdRefIdeal.Value
-- ==== Proof.SwaFwdArray.lean ====
module

public import proofs.«01_k».proof.Proof.SwaFwdRef
public import proofs.«01_k».proof.Proof.Gen.SwaFwdIdeal.Frame
public import Idealize.ShloMosaic.Lib.Claim

/-! What the sliding window attention leaves, and that it is what the reference computes. -/

@[expose] public section

set_option maxRecDepth 16384

noncomputable section

namespace Cert.SwaFwdIdeal.Value

open Cert.Index Cert.SwaFwdIdeal Cert.SwaFwdIdeal.Gen Idealize.ShloMosaic Idealize.ShloMosaic.TcCoe Idealize.SL.Sem
open Idealize.ShloMosaic.Pipeline (Dat)
open Cert.SwaIdeal.Value (BO store B0_store B1_store B2_store same_store o_of pnt hd row_eq lane_eq)
open Cert.SwaRefIdeal.Value (PF VR PM_PF VM_VR A0_store A1_store A2_store)
open Cert.SwaFwdRefIdeal.Value (OFR OFR_apply)

variable (m : (ℓ : Loc nD τ sig) → Buf (Elt Ideal) ℓ) (c : Dev nD)

/-- The call's arguments: the projection, the keys and values, the sinks. -/
abbrev B0 : FVec Ideal S4096x1024 .f32 := m ((c.tc : Thread nD τ).loc main_arg0)
abbrev B1 : FVec Ideal S4096x512 .f32 := m ((c.tc : Thread nD τ).loc main_arg1)
abbrev B2 : FVec Ideal S12 .f32 := m ((c.tc : Thread nD τ).loc main_arg2)

theorem lt32 (t : Fin cfg0.N) : t.val < 32 := t.isLt

theorem idx : ∀ t : Fin cfg0.N, win0_0.index t = ![0] ∧ win0_1.index t = ![t.val, 0] ∧ win0_2.index t = ![16 * (t.val / 16) + (t.val % 16 - 1), 0]
    ∧ win0_3.index t = ![t.val, 0] ∧ win0_4.index t = ![t.val, 0] :=
  (by decide +kernel : ∀ t : Fin grid0.N, _)

/-- Row `r` of point `t`'s block, and of the block before it in its sequence. -/
abbrev tok (t : Fin cfg0.N) (r : Fin 128) : Fin 4096 := ⟨128 * t.val + r.val, by have := lt32 t; omega⟩
abbrev tokP (t : Fin cfg0.N) (r : Fin 128) : Fin 4096 := ⟨128 * (16 * (t.val / 16) + (t.val % 16 - 1)) + r.val, by have := lt32 t; omega⟩

theorem blk0 (t : Fin cfg0.N) (h : Fin 12) : (iblk m c 0 t : FVec Ideal S12 .f32) (ix1 h) = B2 m c (ix1 h) := by
  blk_ext! [iblk, V, idx t]
theorem blk1 (t : Fin cfg0.N) (r : Fin 128) (e : Fin 768) : (X0_1 m c t : FVec Ideal S128x768 .f32) (ix2 r e) = B0 m c (ix2 (tok t r) ⟨e.val, by omega⟩) := by
  unfold X0_1 Pipeline.Window.fill
  rw [dif_pos (moved0_1 t _)]
  blk_ext! [iblk, V, idx t]
theorem blk2 (t : Fin cfg0.N) (r : Fin 128) (e : Fin 512) : (iblk m c 2 t : FVec Ideal S128x512 .f32) (ix2 r e) = B1 m c (ix2 (tokP t r) e) := by
  blk_ext! [iblk, V, idx t]
theorem blk3 (t : Fin cfg0.N) (r : Fin 128) (e : Fin 512) : (iblk m c 3 t : FVec Ideal S128x512 .f32) (ix2 r e) = B1 m c (ix2 (tok t r) e) := by
  blk_ext! [iblk, V, idx t]

/-- The gradient's store at these arguments. -/
abbrev mS : (ℓ : Loc Cert.SwaIdeal.nD Cert.SwaIdeal.τ Cert.SwaIdeal.sig) → Buf (Elt Ideal) ℓ := store c (B0 m c) (B1 m c) (B2 m c)

theorem in0 (t : Fin cfg0.N) : (iblk m c 0 t : FVec Ideal S12 .f32) = (Cert.SwaIdeal.Gen.iblk (mS m c) c 0 t : FVec Ideal S12 .f32) := by
  funext i
  rw [← ix1_eta i]
  exact (blk0 m c t (i 0)).trans ((Cert.SwaIdeal.Value.blk0 (mS m c) c t (i 0)).trans (congrFun (B2_store ..) _)).symm
theorem in1 (t : Fin cfg0.N) : (X0_1 m c t : FVec Ideal S128x768 .f32) = (Cert.SwaIdeal.Gen.X0_1 (mS m c) c t : FVec Ideal S128x768 .f32) := by
  funext i
  rw [← ix2_eta i]
  exact (blk1 m c t (i 0) (i 1)).trans ((Cert.SwaIdeal.Value.blk1 (mS m c) c t (i 0) (i 1)).trans (congrFun (B0_store ..) _)).symm
theorem in2 (t : Fin cfg0.N) : (iblk m c 2 t : FVec Ideal S128x512 .f32) = (Cert.SwaIdeal.Gen.iblk (mS m c) c 2 t : FVec Ideal S128x512 .f32) := by
  funext i
  rw [← ix2_eta i]
  exact (blk2 m c t (i 0) (i 1)).trans ((Cert.SwaIdeal.Value.blk2 (mS m c) c t (i 0) (i 1)).trans (congrFun (B1_store ..) _)).symm
theorem in3 (t : Fin cfg0.N) : (iblk m c 3 t : FVec Ideal S128x512 .f32) = (Cert.SwaIdeal.Gen.iblk (mS m c) c 3 t : FVec Ideal S128x512 .f32) := by
  funext i
  rw [← ix2_eta i]
  exact (blk3 m c t (i 0) (i 1)).trans ((Cert.SwaIdeal.Value.blk3 (mS m c) c t (i 0) (i 1)).trans (congrFun (B1_store ..) _)).symm

/-- A position's block of the outputs. -/
abbrev BLK4 (t : Fin cfg0.N) : FVec Ideal S128x768 .bf16 := BO (grid0.coords t) (iblk m c 0 t) (X0_1 m c t) (iblk m c 2 t) (iblk m c 3 t)

theorem key4 (t : Fin cfg0.N) : outsAt0 m c t = BLK4 m c t := by
  unfold outsAt0; frame_out; rfl

theorem coords_eq (t : Fin cfg0.N) : (grid0.coords t : Cert.SwaIdeal.grid0.Coords) = Cert.SwaIdeal.grid0.coords t := rfl

theorem BO_congr {i i' : Cert.SwaIdeal.grid0.Coords} {s s' : Vec Ideal S12 .f32} {q q' : Vec Ideal S128x768 .f32} {k k' o o' : Vec Ideal S128x512 .f32}
    (ei : i = i') (es : s = s') (eq : q = q') (ek : k = k') (eo : o = o') : BO i s q k o = BO i' s' q' k' o' := by
  subst ei es eq ek eo; rfl

theorem BLK4_eq (t : Fin cfg0.N) : BLK4 m c t = BO (Cert.SwaIdeal.grid0.coords t) (Cert.SwaIdeal.Gen.iblk (mS m c) c 0 t) (Cert.SwaIdeal.Gen.X0_1 (mS m c) c t)
    (Cert.SwaIdeal.Gen.iblk (mS m c) c 2 t) (Cert.SwaIdeal.Gen.iblk (mS m c) c 3 t) :=
  BO_congr (coords_eq t) (in0 m c t) (in1 m c t) (in2 m c t) (in3 m c t)

/-- The point whose block holds row `i`, and the row's place in it. -/
abbrev pt (i : Fin 4096) : Fin cfg0.N := ⟨i.val / 128, by show _ < 32; omega⟩
abbrev at_ (i : Fin 4096) : Fin 128 := ⟨i.val % 128, Nat.mod_lt _ (by omega)⟩

/-- The outputs on the lanes the call writes. -/
def W4 (i : S4096x1024.Idx) : EReal := if p : (i 1).val < 768 then BLK4 m c (pt (i 0)) (ix2 (at_ (i 0)) ⟨(i 1).val, p⟩) else 0

theorem pt_tok (t : Fin cfg0.N) (r : Fin 128) : pt (tok t r) = t := Fin.ext (by show (128 * t.val + r.val) / 128 = t.val; omega)
theorem at_tok (t : Fin cfg0.N) (r : Fin 128) : at_ (tok t r) = r := Fin.ext (by show (128 * t.val + r.val) % 128 = r.val; omega)

theorem W4_tok (t : Fin cfg0.N) (r : Fin 128) (e : Fin 768) : W4 m c (ix2 (tok t r) ⟨e.val, by omega⟩) = BLK4 m c t (ix2 r e) := by
  unfold W4
  refine (dif_pos e.isLt).trans ?_
  show BLK4 m c (pt (tok t r)) (ix2 (at_ (tok t r)) e) = _
  rw [pt_tok, at_tok]

/-- A place of the outputs' block, as one of the whole block: nothing is cut. -/
abbrev in4 (t : Fin cfg0.N) (y : (win0_4.xblock (grid0.coords t)).Idx) : S128x768.Idx := win0_4.xinj (grid0.coords t) y
theorem emb4 (t : Fin cfg0.N) (y : (win0_4.xblock (grid0.coords t)).Idx) :
    (win0_4.blk t).view.emb y = ix2 (tok t (in4 t y 0)) ⟨(in4 t y 1).val, by have h : (in4 t y 1).val < 768 := (in4 t y 1).isLt; omega⟩ := by
  blk_ext! [idx t]

theorem block4 (t : Fin cfg0.N) (y : S128x768.Idx) (i : S4096x1024.Idx)
    (hi : i = ix2 (tok t (y 0)) ⟨(y 1).val, by have h : (y 1).val < 768 := (y 1).isLt; omega⟩) : BLK4 m c t y = W4 m c i := by
  subst hi
  exact (congrArg _ (ix2_eta y).symm).trans (W4_tok m c t (y 0) (y 1)).symm

theorem final4 : (dats m 0 c).arrAt 4 (cfgs 0).N = fun i => if (i 1).val < 768 then W4 m c i else (dats m 0 c).A 4 i := by
  refine (dats m 0 c).arrAt_eq_of_coversWhere 4 _ (fun β => β 1 = 0) (by decide +kernel) (fun t hf y => ?_)
    (fun j => by blk_simp [Pipeline.Window.cell_apply]; omega)
  blk_simp
  rw [after0_4, key4]
  exact block4 m c t (in4 t y) _ (emb4 t y)

/-- A window's array when the lines after the call begin. -/
theorem begins (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  (dats m 0 c).withArrays_arrAt sharedIn0 (V0 m c) (A_eq m c) w

theorem tail1 : Pipeline.afterTail₀ cfgs (dats m) 0 (V0 m) [hostOps1] c main_v1
    = extractStridedSlice S4096x768 ![0, 0] ((dats m 0 c).arrAt 4 (cfgs 0).N : FVec Ideal S4096x1024 .bf16) slices_S4096x1024_S4096x768_0_0 := by
  unfold Pipeline.afterTail₀
  simp only [List.flatten_cons, List.flatten_nil, List.append_nil]
  after_results
  exact congrArg (fun x : FVec Ideal S4096x1024 .bf16 => extractStridedSlice S4096x768 ![0, 0] x slices_S4096x1024_S4096x768_0_0) (begins m c 4)

/-- The result: the lanes the call wrote. -/
theorem first_at (i : Fin 4096) (e : Fin 768) : Pipeline.afterTail₀ cfgs (dats m) 0 (V0 m) [hostOps1] c main_v1 (ix2 i e) = W4 m c (ix2 i ⟨e.val, by omega⟩) := by
  rw [tail1, final4]
  generalize hw : W4 m c = w
  generalize (dats m 0 c).A 4 = a
  have key (x : FVec Ideal S4096x1024 .bf16) : extractStridedSlice S4096x768 ![0, 0] x slices_S4096x1024_S4096x768_0_0 (ix2 i e) = x (ix2 i ⟨e.val, by omega⟩) := by
    pointwise
  exact (key _).trans (if_pos e.isLt)

variable {m c} (h0 : ∀ i, ∃ x : ℝ, B0 m c i = (x : EReal)) (h1 : ∀ i, ∃ x : ℝ, B1 m c i = (x : EReal)) (h2 : ∀ i, ∃ x : ℝ, B2 m c i = (x : EReal))
include h0 h1 h2

/-- It is the reference's. -/
theorem result4 (i : Fin 4096) (e : Fin 768) : W4 m c (ix2 i ⟨e.val, by omega⟩) = OFR (PF (B0 m c) (B1 m c) (B2 m c)) (VR (B1 m c)) (ix2 i e) := by
  obtain ⟨b, n, r, rfl⟩ := row_eq i
  obtain ⟨g, k, u, rfl⟩ := lane_eq e
  rw [OFR_apply]
  refine (W4_tok m c (pnt b n) r ⟨64 * (3 * g.val + k.val) + u.val, by omega⟩).trans ?_
  rw [BLK4_eq]
  refine (o_of (same_store c _ _ _ c h0 h1 h2) b n g k r u).trans ?_
  rw [PM_PF, VM_VR, A0_store, A1_store, A2_store]
  exact Finset.sum_congr rfl fun j _ => mul_comm _ _

end Cert.SwaFwdIdeal.Value
-- ==== Proof.SwaFwdClaims.lean ====
/- The claims about the sliding window attention's forward call. -/
module

public import proofs.«01_k».proof.Defs
public import proofs.«01_k».proof.Proof.SwaFwdArray
public import proofs.«01_k».proof.Proof.Gen.SwaFwd
public import proofs.«01_k».proof.Proof.Gen.SwaFwd.Frame
public import proofs.«01_k».proof.Proof.Gen.Pre_finite_swa_fwd
public import Idealize.ShloMosaic.Lib.Claim
public import Idealize.ShloMosaic.Adequacy
public import Idealize.ShloMosaic.Init

@[expose] public section

noncomputable section

namespace Cert.Proof

open Idealize.ShloMosaic Idealize.SL.Sem

theorem swaFwd_reference : Cert.quiescent_SwaFwdRefIdeal := fun m ρ _ =>
  (θ_run Cert.SwaFwdRefIdeal.defs _ _).mono (fun r h => ⟨fun c => (h c).2, sem_eq_zero_of_no_sems (by decide) r.2⟩)
    (Cert.SwaFwdRefIdeal.Value.run_defs m ρ)

theorem swaFwd_real {m : (ℓ : Loc Cert.SwaFwdIdeal.nD Cert.SwaFwdIdeal.τ Cert.SwaFwdIdeal.sig) → Buf (Elt Ideal) ℓ}
    (hpre : Cert.Pre_SwaFwdIdeal_finite_swa_fwd m) (c : Dev Cert.SwaFwdIdeal.nD) :
    (∀ i, ∃ x : ℝ, Cert.SwaFwdIdeal.Value.B0 m c i = (x : EReal)) ∧ (∀ i, ∃ x : ℝ, Cert.SwaFwdIdeal.Value.B1 m c i = (x : EReal))
      ∧ (∀ i, ∃ x : ℝ, Cert.SwaFwdIdeal.Value.B2 m c i = (x : EReal)) := by
  have p := hpre c
  refine ⟨fun i => Reals.of_abs_lt ?_, fun i => Reals.of_abs_lt ?_, fun i => Reals.of_abs_lt ?_⟩
  · have e := congrFun p.1 i
    simp only [Cert.Pre_finite_swa_fwd.fn, pointwise, Reals.ofBits_inf] at e
    exact e
  · have e := congrFun p.2.1 i
    simp only [Cert.Pre_finite_swa_fwd.fn, pointwise, Reals.ofBits_inf] at e
    exact e
  · have e := congrFun p.2.2 i
    simp only [Cert.Pre_finite_swa_fwd.fn, pointwise, Reals.ofBits_inf] at e
    exact e

theorem swaFwd_algebraic : Cert.algebraic_SwaFwdIdeal_SwaFwdRefIdeal_pre_finite_swa_fwd := by
  pair_intro
  · run_from Cert.SwaFwdIdeal.Gen.run_main m g
  · refine Idealize.ShloMosaic.θ_run_mono (Cert.SwaFwdRefIdeal.Value.run_defs m' g') fun r h c => ⟨(h c).1.trans ?_, (h c).2⟩
    obtain ⟨h0, h1, h2⟩ := swaFwd_real hpre c
    rw [(hagree c).1, (hagree c).2.1, (hagree c).2.2]
    funext i
    rw [← ix2_eta i]
    exact ((Cert.SwaFwdIdeal.Value.first_at m c (i 0) (i 1)).trans (Cert.SwaFwdIdeal.Value.result4 h0 h1 h2 (i 0) (i 1))).symm

end Cert.Proof
-- ==== Proof.MemFwdBlock.lean ====
module

public import proofs.«01_k».proof.Proof.MemAttnPoint
public import proofs.«01_k».proof.Proof.Gen.MemFwdIdeal.Value

/-! What one block of the memory attention computes: per head the rows of probabilities, times the values. -/

@[expose] public section

set_option maxRecDepth 16384

noncomputable section

namespace Cert.MemFwdIdeal.Value

open Cert.Softmax Cert.MemFwdIdeal Cert.MemFwdIdeal.Gen Idealize.ShloMosaic Idealize.ShloMosaic.TcCoe Idealize.SL.Sem
open Idealize.ShloMosaic.Pipeline (Dat)
open Cert.MemAttnIdeal.Value (hs bs C lq lm lm_apply p_lanes bs_eq Rows pb pt lanes)
open Cert.MemAttnRefIdeal.Value (SR SR_apply)

variable (q : FVec Ideal S512x64 .f32) (k v : FVec Ideal S256x64 .f32) (r : Fin 512) (j : Fin 256) (d : Fin 64)

theorem S2 : k0_pay2 (F := Ideal) q k (ix2 r j) = hs q k r j := by
  unfold hs; pointwise [k0_pay2]
theorem S3 : k0_pay3 (F := Ideal) q k (ix2 r j) = hs q k r j := by
  unfold hs; pointwise [k0_pay3]
theorem S4 : k0_pay4 (F := Ideal) q k (ix2 r j) = hs q k r j := by
  unfold hs; pointwise [k0_pay4]
theorem E5 : k0_pay5 (F := Ideal) q k (ix2 r j) = num (hs q k r) j := by
  unfold hs; pointwise [k0_pay5]; simp only [num, smax]

/-- A head's output of its probabilities. -/
def ho (s : Fin 512 → Fin 256 → EReal) (v : FVec Ideal S256x64 .f32) (r : Fin 512) (d : Fin 64) : EReal :=
  ∑ j : Fin 256, prob (s r) j * v (ix2 j d)

theorem O7 : k0_pay7 (F := Ideal) (k0_pay5 q k) v (ix2 r d) = ho (hs q k) v r d := by
  unfold ho; pointwise [k0_pay7]; simp only [E5]; rfl
theorem O8 : k0_pay8 (F := Ideal) (k0_pay2 q k) v (ix2 r d) = ho (hs q k) v r d := by
  unfold ho; pointwise [k0_pay8]; simp only [S2, prob, num, smax]
theorem O9 : k0_pay9 (F := Ideal) (k0_pay3 q k) v (ix2 r d) = ho (hs q k) v r d := by
  unfold ho; pointwise [k0_pay9]; simp only [S3, prob, num, smax]
theorem P6 : k0_pay6 (F := Ideal) (k0_pay4 q k) (ix2 r j) = prob (hs q k r) j := by
  pointwise [k0_pay6]; simp only [S4, prob, num, smax]

/-- The store joins the four heads' outputs along the lanes. -/
theorem pay1 (p : FVec Ideal S512x256 .bf16) (o1 o2 o3 : FVec Ideal S512x64 .f32) (h : Fin 4) :
    k0_pay1 (F := Ideal) p o1 o2 o3 v (ix2 r ⟨h.val * 64 + d.val, by omega⟩)
    = (![o1 (ix2 r d), o2 (ix2 r d), o3 (ix2 r d), ∑ j : Fin 256, p (ix2 r j) * v (ix2 j d)] h : EReal) := by
  have hd := d.isLt
  pointwise [k0_pay1]
  match h with
  | 0 => simp
  | 1 => simp
  | 2 => simp [show ¬ 128 + d.val < 64 by omega, show ¬ 128 + d.val - 64 < 64 by omega, show 128 + d.val - 64 - 64 = d.val by omega]
  | 3 => simp [show ¬ 192 + d.val < 64 by omega, show ¬ 192 + d.val - 64 < 64 by omega, show ¬ 192 + d.val - 64 - 64 < 64 by omega, show 192 + d.val - 64 - 64 - 64 = d.val by omega]

variable (Bq : FVec Ideal S512x256 .f32) (Bm : FVec Ideal S256x512 .f32)

/-- The block's store. -/
abbrev BLKO : FVec Ideal S512x256 .bf16 :=
  k0_pay1 (k0_pay6 (k0_pay4 (lq Bq 192 inb_S512x256_S512x64_0_192) (lm Bm 192 inb_S256x512_S256x64_0_192)))
    (k0_pay7 (k0_pay5 (lq Bq 0 inb_S512x256_S512x64_0_0) (lm Bm 0 inb_S256x512_S256x64_0_0)) (lm Bm 256 inb_S256x512_S256x64_0_256))
    (k0_pay8 (k0_pay2 (lq Bq 64 inb_S512x256_S512x64_0_64) (lm Bm 64 inb_S256x512_S256x64_0_64)) (lm Bm 320 inb_S256x512_S256x64_0_320))
    (k0_pay9 (k0_pay3 (lq Bq 128 inb_S512x256_S512x64_0_128) (lm Bm 128 inb_S256x512_S256x64_0_128)) (lm Bm 384 inb_S256x512_S256x64_0_384))
    (lm Bm 448 inb_S256x512_S256x64_0_448)

theorem ho_lanes (h : Fin 4) (a a' : Nat) (e : a = h.val * 64) (e' : a' = 256 + h.val * 64) (i i' i'') :
    ho (hs (lq Bq a i) (lm Bm a i')) (lm Bm a' i'') r d
    = ∑ j : Fin 256, prob (bs Bq Bm h r) j * Bm (ix2 j ⟨256 + (h.val * 64 + d.val), by omega⟩) := by
  subst e'
  refine Finset.sum_congr rfl fun j _ => congrArg₂ _ (p_lanes Bq Bm h a e rfl) ((lm_apply ..).trans ?_)
  simp only [Nat.add_assoc]

theorem BLKO_apply (h : Fin 4) : BLKO Bq Bm (ix2 r ⟨h.val * 64 + d.val, by omega⟩)
    = ∑ j : Fin 256, prob (bs Bq Bm h r) j * Bm (ix2 j ⟨256 + (h.val * 64 + d.val), by omega⟩) := by
  refine (pay1 ..).trans ?_
  match h with
  | 0 => exact (O7 ..).trans (ho_lanes r d Bq Bm 0 0 256 rfl rfl ..)
  | 1 => exact (O8 ..).trans (ho_lanes r d Bq Bm 1 64 320 rfl rfl ..)
  | 2 => exact (O9 ..).trans (ho_lanes r d Bq Bm 2 128 384 rfl rfl ..)
  | 3 => exact (Finset.sum_congr rfl fun j _ => congrArg (· * _) (P6 ..)).trans (ho_lanes r d Bq Bm 3 192 448 rfl rfl ..)

/-- The memory attention's output at lane `n` of token `i`, the queries in the last 256 of 1024 lanes. -/
def MO (a0 : FVec Ideal S4096x1024 .f32) (a1 : FVec Ideal S512x512 .f32) (i : Fin 4096) (n : Fin 256) : EReal :=
  ∑ j : Fin 256, prob (fun x => SR a0 a1 (ix4 ⟨i.val / 2048, by omega⟩ ⟨n.val / 64, by omega⟩ ⟨i.val % 2048, by omega⟩ x)) j
    * a1 (ix2 ⟨i.val / 2048 * 256 + j.val, by omega⟩ ⟨256 + n.val, by omega⟩)

/-- A block's output. -/
theorem BLKO_eq {a0 a1} {t : Fin 8} {Bq Bm} (H : Rows a0 a1 t Bq Bm) (r : Fin 512) (n : Fin 256) :
    BLKO Bq Bm (ix2 r n) = MO a0 a1 ⟨t.val * 512 + r.val, by omega⟩ n := by
  obtain ⟨h, d, rfl⟩ := lanes n
  have e1 : (⟨(t.val * 512 + r.val) / 2048, by omega⟩ : Fin 2) = pb t := Fin.ext (by simp only; omega)
  have e2 : (⟨(h.val * 64 + d.val) / 64, by omega⟩ : Fin 4) = h := Fin.ext (by simp only; omega)
  have e3 : (⟨(t.val * 512 + r.val) % 2048, by omega⟩ : Fin 2048) = pt t r := Fin.ext (by simp only; omega)
  refine (BLKO_apply ..).trans (Finset.sum_congr rfl fun j _ => ?_)
  rw [bs_eq H]
  simp only [e1, e2, e3]
  exact congrArg _ ((H.mem ..).trans (congrArg _ (Cert.MemAttnIdeal.Value.ix2_ext (by simp only; omega) rfl)))

end Cert.MemFwdIdeal.Value
-- ==== Proof.MemFwdArray.lean ====
module

public import proofs.«01_k».proof.Proof.MemFwdBlock
public import proofs.«01_k».proof.Proof.Gen.MemFwdRefIdeal.Run

/-! What the memory attention leaves in its result array, and what its reference computes. -/

@[expose] public section

set_option maxRecDepth 16384

noncomputable section

namespace Cert.MemFwdIdeal.Value

open Cert.Softmax Cert.MemFwdIdeal Cert.MemFwdIdeal.Gen Idealize.ShloMosaic Idealize.ShloMosaic.TcCoe Idealize.SL.Sem
open Idealize.ShloMosaic.Pipeline (Dat)
open Cert.MemAttnIdeal.Value (Rows)

variable (m : (ℓ : Loc nD τ sig) → Buf (Elt Ideal) ℓ) (c : Dev nD)

abbrev A0 : FVec Ideal S4096x1024 .f32 := m ((c : Thread nD τ).loc main_arg0)
abbrev A1 : FVec Ideal S512x512 .f32 := m ((c : Thread nD τ).loc main_arg1)

theorem idx : ∀ t : Fin cfg0.N, win0_0.index t = ![t.val, 3] ∧ win0_1.index t = ![t.val / 4, 0] ∧ win0_2.index t = ![t.val, 3] :=
  (by decide +kernel : ∀ t : Fin grid0.N, _)

theorem lt8 (t : Fin cfg0.N) : t.val < 8 := t.isLt

theorem rows (t : Fin cfg0.N) : Rows (A0 m c) (A1 m c) t (iblk m c 0 t) (iblk m c 1 t) where
  q r n := by blk_ext! [iblk, V, idx t]
  mem j n := by blk_ext! [iblk, V, idx t]

theorem emb2 (t : Fin cfg0.N) (y : S512x256.Idx) : (win0_2.blk t).view.emb y
    = ix2 ⟨t.val * 512 + (y 0).val, by have := lt8 t; have h : (y 0).val < 512 := (y 0).isLt; omega⟩
        ⟨768 + (y 1).val, by have h : (y 1).val < 256 := (y 1).isLt; omega⟩ := by
  blk_ext! [idx t]

/-- The output in the array's own lanes. -/
def MOA (a0 : FVec Ideal S4096x1024 .f32) (a1 : FVec Ideal S512x512 .f32) (i : S4096x1024.Idx) : EReal :=
  MO a0 a1 (i 0) ⟨(i 1).val % 256, by omega⟩

theorem block2 (t : Fin cfg0.N) (y : S512x256.Idx) (i : S4096x1024.Idx) (hi : i
    = ix2 ⟨t.val * 512 + (y 0).val, by have := lt8 t; have h : (y 0).val < 512 := (y 0).isLt; omega⟩
        ⟨768 + (y 1).val, by have h : (y 1).val < 256 := (y 1).isLt; omega⟩) :
    BLKO (iblk m c 0 t) (iblk m c 1 t) y = MOA (A0 m c) (A1 m c) i := by
  subst hi
  have h : (y 1).val < 256 := (y 1).isLt
  have e : (⟨(768 + (y 1).val) % 256, by omega⟩ : Fin 256) = y 1 := Fin.ext (by simp only; omega)
  refine ((congrArg _ (Cert.MemAttnIdeal.Value.ix2_eta y)).trans (BLKO_eq (rows m c t) (y 0) (y 1))).trans ?_
  exact congrArg (MO (A0 m c) (A1 m c) _) e.symm

/-- The result: the last 256 lanes carry the attention's output, the others what was there. -/
theorem final2 : (dats m 0 c).arrAt 2 (cfgs 0).N
    = fun i => if 3 * 256 ≤ (i 1 : ℕ) then MOA (A0 m c) (A1 m c) i
      else m ((c : Thread nD τ).loc main_arg2) i := by
  have e : V m c main_v0 = m ((c : Thread nD τ).loc main_arg2) := by entry_read; rfl
  rw [← e]
  refine (dats m 0 c).arrAt_eq_of_coversWhere 2 _ (fun β => 3 ≤ β 1) (by decide +kernel) (fun t hf y => ?_)
    (fun j => by blk_simp [Pipeline.Window.cell_apply]; omega)
  blk_simp
  rw [after0_2]
  have key : outsAt0 m c t = BLKO (iblk m c 0 t) (iblk m c 1 t) := by
    unfold outsAt0
    frame_out
  rw [key]
  exact block2 m c t y _ (emb2 t y)

end Cert.MemFwdIdeal.Value

namespace Cert.MemFwdRefIdeal.Value

open Cert.Softmax Cert.MemFwdRefIdeal Cert.MemFwdRefIdeal.Gen Idealize.ShloMosaic Idealize.ShloMosaic.TcCoe Idealize.SL.Sem
open Cert.MemAttnRefIdeal.Value (SR SR_apply ER PR PR_apply VR)
open Cert.MemFwdIdeal.Value (MO MOA)

/-- The scores: the scaled products of queries and keys. -/
def SF (A0 : FVec Ideal S4096x1024 .f32) (A1 : FVec Ideal S512x512 .f32) : FVec Ideal S2x4x2048x256 .f32 :=
  mulf (Host.dotGeneral dot_S2x2048x4x64_S2x256x4x64_S2x4x2048x256_3_3_1_1_02_02 none
    (shapeCast S2x2048x4x64 (extractStridedSlice S4096x256 ![0, 768] A0 slices_S4096x1024_S4096x256_0_768) shapeCasts_S4096x256_S2x2048x4x64)
    (Cert.MemAttnRefIdeal.Value.KR A1)) (broadcastInDim S2x4x2048x256 ![] bcast_S_S2x4x2048x256 (constant S_ .f32 0x3E000000#32))

theorem SF_eq (A0 A1) : SF A0 A1 = SR A0 A1 := by
  funext i
  obtain ⟨b, h, t, j, rfl⟩ : ∃ b h t j, i = ix4 b h t j := ⟨i 0, i 1, i 2, i 3, funext fun a => match a with
    | ⟨0, _⟩ => rfl
    | ⟨1, _⟩ => rfl
    | ⟨2, _⟩ => rfl
    | ⟨3, _⟩ => rfl⟩
  rw [SR_apply]
  pointwise [SF, Cert.MemAttnRefIdeal.Value.KR]

/-- The outputs of the probabilities and the values. -/
def OF (p : FVec Ideal S2x4x2048x256 .f32) (v : FVec Ideal S2x256x4x64 .f32) : FVec Ideal S4096x256 .f32 :=
  shapeCast S4096x256 (shapeCast S2x2048x256 (transpose S2x2048x4x64 [0, 3, 1, 2]
    (Host.dotGeneral dot_S2x256x4x64_S2x4x2048x256_S2x4x64x2048_1_3_3_2_02_01 none v p) transposes_S2x4x64x2048_S2x2048x4x64_0_3_1_2)
    shapeCasts_S2x2048x4x64_S2x2048x256) shapeCasts_S2x2048x256_S4096x256

variable (m : (ℓ : Loc nD τ sig) → Buf (Elt Ideal) ℓ) (c : Dev nD)

/-- The result, of its arguments. -/
def RES (a0 : FVec Ideal S4096x1024 .f32) (a1 : FVec Ideal S512x512 .f32) (a2 : FVec Ideal S4096x1024 .bf16) : FVec Ideal S4096x1024 .bf16 :=
  concatenate S4096x1024 1 [⟨S4096x768, (extractStridedSlice S4096x768 ![0, 0] a2 slices_S4096x1024_S4096x768_0_0)⟩,
    ⟨S4096x256, (truncf .bf16 (OF (PR (ER (SF a0 a1))) (VR a1)) bitsLt_bf16_f32)⟩] concatenates_S4096x768_S4096x256_S4096x1024_d1

theorem res : res_main_v27 m c = RES (m ((c.tc : Thread nD τ).loc main_arg0)) (m ((c.tc : Thread nD τ).loc main_arg1)) (m ((c.tc : Thread nD τ).loc main_arg2)) := by
  rfl

variable (a0 : FVec Ideal S4096x1024 .f32) (a1 : FVec Ideal S512x512 .f32) (a2 : FVec Ideal S4096x1024 .bf16)

theorem OF_eq (i : Fin 4096) (n : Fin 256) : OF (PR (ER (SF a0 a1))) (VR a1) (ix2 i n) = MO a0 a1 i n := by
  rw [SF_eq]
  generalize hp : PR (ER (SR a0 a1)) = p
  pointwise [OF, VR]
  subst hp
  refine Finset.sum_congr rfl fun j _ => (mul_comm _ _).trans (congrArg₂ _ (PR_apply ..) (congrArg a1 (Cert.MemAttnIdeal.Value.ix2_ext rfl ?_)))
  simp only; omega

theorem RES_eq : RES a0 a1 a2 = fun i => if 3 * 256 ≤ (i 1 : ℕ) then MOA a0 a1 i else a2 i := by
  funext i
  unfold RES
  generalize hs : OF (PR (ER (SF a0 a1))) (VR a1) = s
  pointwise
  subst hs
  by_cases h : (i 1 : ℕ) < 768
  · rw [dif_pos h, if_neg (by omega)]
  · rw [dif_neg h]
    refine Eq.trans ?_ (if_pos (by omega)).symm
    refine (OF_eq a0 a1 _ _).trans (congrArg (MO a0 a1 (i 0)) (Fin.ext ?_))
    have h' : (i 1 : ℕ) < 1024 := (i 1).isLt
    simp only; omega

end Cert.MemFwdRefIdeal.Value
-- ==== Proof.MemFwdClaims.lean ====
/- The claims about the memory attention's forward call. -/
module

public import proofs.«01_k».proof.Proof.MemFwdArray
public import proofs.«01_k».proof.Defs
public import proofs.«01_k».proof.Proof.Gen.MemFwd
public import proofs.«01_k».proof.Proof.Gen.MemFwd.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem memFwd_reference : Cert.quiescent_MemFwdRefIdeal := fun m ρ _ =>
  (θ_run Cert.MemFwdRefIdeal.defs _ _).mono (fun r h => ⟨fun c => (h c).2, sem_eq_zero_of_no_sems (by decide) r.2⟩)
    (Cert.MemFwdRefIdeal.Value.run (F := Ideal) m ρ)

theorem memFwd_algebraic : Cert.algebraic_MemFwdIdeal_MemFwdRefIdeal := by
  pair_intro
  · run_from Cert.MemFwdIdeal.Value.run_blocks m g
  · run_from Cert.MemFwdRefIdeal.Value.run m' g'
    · rw [Cert.MemFwdRefIdeal.Value.res, (hagree c).1, (hagree c).2.1, (hagree c).2.2, Cert.MemFwdRefIdeal.Value.RES_eq, Cert.MemFwdIdeal.Value.final2]

end Cert.Proof
-- ==== Proof.MemFwdAArray.lean ====
module

public import proofs.«01_k».proof.Proof.MemFwdArray
public import proofs.«01_k».proof.Proof.MemAttnAArray
public import proofs.«01_k».proof.Proof.Gen.MemFwdAIdeal.Value
public import proofs.«01_k».proof.Proof.Gen.MemFwdARefIdeal.Run

/-! What the memory attention leaves in its result array, and what its reference computes, over the wider projection of the
recurrent layers. -/

@[expose] public section

set_option maxRecDepth 16384

noncomputable section

namespace Cert.MemFwdAIdeal.Value

open Cert.Softmax Cert.MemFwdAIdeal Cert.MemFwdAIdeal.Gen Idealize.ShloMosaic Idealize.ShloMosaic.TcCoe Idealize.SL.Sem
open Idealize.ShloMosaic.Pipeline (Dat)
open Cert.MemAttnIdeal.Value (Rows)
open Cert.MemFwdIdeal.Value (BLKO BLKO_eq MO MOA)

variable (m : (ℓ : Loc nD τ sig) → Buf (Elt Ideal) ℓ) (c : Dev nD)

abbrev A0 : FVec Ideal S4096x1024 .f32 := Cert.MemAttnAIdeal.Value.last (m ((c : Thread nD τ).loc main_arg0))
abbrev A1 : FVec Ideal S512x512 .f32 := m ((c : Thread nD τ).loc main_arg1)

theorem idx : ∀ t : Fin cfg0.N, win0_0.index t = ![t.val, 6] ∧ win0_1.index t = ![t.val / 4, 0] ∧ win0_2.index t = ![t.val, 3] :=
  (by decide +kernel : ∀ t : Fin grid0.N, _)

theorem lt8 (t : Fin cfg0.N) : t.val < 8 := t.isLt

theorem rows (t : Fin cfg0.N) : Rows (A0 m c) (A1 m c) t (iblk m c 0 t) (iblk m c 1 t) where
  q r n := by blk_ext! [iblk, V, idx t]
  mem j n := by blk_ext! [iblk, V, idx t]

theorem emb2 (t : Fin cfg0.N) (y : S512x256.Idx) : (win0_2.blk t).view.emb y
    = ix2 ⟨t.val * 512 + (y 0).val, by have := lt8 t; have h : (y 0).val < 512 := (y 0).isLt; omega⟩
        ⟨768 + (y 1).val, by have h : (y 1).val < 256 := (y 1).isLt; omega⟩ := by
  blk_ext! [idx t]

theorem block2 (t : Fin cfg0.N) (y : S512x256.Idx) (i : S4096x1024.Idx) (hi : i
    = ix2 ⟨t.val * 512 + (y 0).val, by have := lt8 t; have h : (y 0).val < 512 := (y 0).isLt; omega⟩
        ⟨768 + (y 1).val, by have h : (y 1).val < 256 := (y 1).isLt; omega⟩) :
    BLKO (iblk m c 0 t) (iblk m c 1 t) y = MOA (A0 m c) (A1 m c) i := by
  subst hi
  have h : (y 1).val < 256 := (y 1).isLt
  have e : (⟨(768 + (y 1).val) % 256, by omega⟩ : Fin 256) = y 1 := Fin.ext (by simp only; omega)
  refine ((congrArg _ (Cert.MemAttnIdeal.Value.ix2_eta y)).trans (BLKO_eq (rows m c t) (y 0) (y 1))).trans ?_
  exact congrArg (MO (A0 m c) (A1 m c) _) e.symm

/-- The result: the last 256 lanes carry the attention's output, the others what was there. -/
theorem final2 : (dats m 0 c).arrAt 2 (cfgs 0).N
    = fun i => if 3 * 256 ≤ (i 1 : ℕ) then MOA (A0 m c) (A1 m c) i
      else m ((c : Thread nD τ).loc main_arg2) i := by
  have e : V m c main_v0 = m ((c : Thread nD τ).loc main_arg2) := by entry_read; rfl
  rw [← e]
  refine (dats m 0 c).arrAt_eq_of_coversWhere 2 _ (fun β => 3 ≤ β 1) (by decide +kernel) (fun t hf y => ?_)
    (fun j => by blk_simp [Pipeline.Window.cell_apply]; omega)
  blk_simp
  rw [after0_2]
  have key : outsAt0 m c t = BLKO (iblk m c 0 t) (iblk m c 1 t) := by
    unfold outsAt0
    frame_out
    rfl
  rw [key]
  exact block2 m c t y _ (emb2 t y)

end Cert.MemFwdAIdeal.Value

namespace Cert.MemFwdARefIdeal.Value

open Cert.Softmax Cert.MemFwdARefIdeal Cert.MemFwdARefIdeal.Gen Idealize.ShloMosaic Idealize.ShloMosaic.TcCoe Idealize.SL.Sem
open Cert.MemAttnRefIdeal.Value (SR SR_apply ER PR PR_apply VR)
open Cert.MemFwdIdeal.Value (MO MOA)
open Cert.MemFwdRefIdeal.Value (OF OF_eq SF_eq)
open Cert.MemAttnAIdeal.Value (last)

/-- The scores: the scaled products of queries and keys. -/
def SFA (A0 : FVec Ideal S4096x1792 .f32) (A1 : FVec Ideal S512x512 .f32) : FVec Ideal S2x4x2048x256 .f32 :=
  mulf (Host.dotGeneral dot_S2x2048x4x64_S2x256x4x64_S2x4x2048x256_3_3_1_1_02_02 none
    (shapeCast S2x2048x4x64 (extractStridedSlice S4096x256 ![0, 1536] A0 slices_S4096x1792_S4096x256_0_1536) shapeCasts_S4096x256_S2x2048x4x64)
    (Cert.MemAttnRefIdeal.Value.KR A1)) (broadcastInDim S2x4x2048x256 ![] bcast_S_S2x4x2048x256 (constant S_ .f32 0x3E000000#32))

theorem SFA_eq (A0 A1) : SFA A0 A1 = SR (last A0) A1 := by
  funext i
  obtain ⟨b, h, t, j, rfl⟩ : ∃ b h t j, i = ix4 b h t j := ⟨i 0, i 1, i 2, i 3, funext fun a => match a with
    | ⟨0, _⟩ => rfl
    | ⟨1, _⟩ => rfl
    | ⟨2, _⟩ => rfl
    | ⟨3, _⟩ => rfl⟩
  rw [SR_apply]
  pointwise [SFA, Cert.MemAttnRefIdeal.Value.KR]
  unfold last
  refine congrArg (· * _) (Finset.sum_congr rfl fun x _ => congrArg (· * _) (congrArg A0 (Cert.MemAttnIdeal.Value.ix2_ext rfl ?_)))
  show 1536 + (h.val * 64 + x.val) = 768 + (768 + (h.val * 64 + x.val))
  omega

variable (m : (ℓ : Loc nD τ sig) → Buf (Elt Ideal) ℓ) (c : Dev nD)

/-- The result, of its arguments. -/
def RES (a0 : FVec Ideal S4096x1792 .f32) (a1 : FVec Ideal S512x512 .f32) (a2 : FVec Ideal S4096x1024 .bf16) : FVec Ideal S4096x1024 .bf16 :=
  concatenate S4096x1024 1 [⟨S4096x768, (extractStridedSlice S4096x768 ![0, 0] a2 slices_S4096x1024_S4096x768_0_0)⟩,
    ⟨S4096x256, (truncf .bf16 (OF (PR (ER (SFA a0 a1))) (VR a1)) bitsLt_bf16_f32)⟩] concatenates_S4096x768_S4096x256_S4096x1024_d1

theorem res : res_main_v27 m c = RES (m ((c.tc : Thread nD τ).loc main_arg0)) (m ((c.tc : Thread nD τ).loc main_arg1)) (m ((c.tc : Thread nD τ).loc main_arg2)) := by
  rfl

variable (a0 : FVec Ideal S4096x1792 .f32) (a1 : FVec Ideal S512x512 .f32) (a2 : FVec Ideal S4096x1024 .bf16)

theorem RES_eq : RES a0 a1 a2 = fun i => if 3 * 256 ≤ (i 1 : ℕ) then MOA (last a0) a1 i else a2 i := by
  unfold RES
  rw [SFA_eq, ← SF_eq]
  exact Cert.MemFwdRefIdeal.Value.RES_eq (last a0) a1 a2

end Cert.MemFwdARefIdeal.Value
-- ==== Proof.MemFwdAClaims.lean ====
/- The claims about the memory attention's forward call. -/
module

public import proofs.«01_k».proof.Proof.MemFwdAArray
public import proofs.«01_k».proof.Defs
public import proofs.«01_k».proof.Proof.Gen.MemFwdA
public import proofs.«01_k».proof.Proof.Gen.MemFwdA.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem memFwdA_reference : Cert.quiescent_MemFwdARefIdeal := fun m ρ _ =>
  (θ_run Cert.MemFwdARefIdeal.defs _ _).mono (fun r h => ⟨fun c => (h c).2, sem_eq_zero_of_no_sems (by decide) r.2⟩)
    (Cert.MemFwdARefIdeal.Value.run (F := Ideal) m ρ)

theorem memFwdA_algebraic : Cert.algebraic_MemFwdAIdeal_MemFwdARefIdeal := by
  pair_intro
  · run_from Cert.MemFwdAIdeal.Value.run_blocks m g
  · run_from Cert.MemFwdARefIdeal.Value.run m' g'
    · rw [Cert.MemFwdARefIdeal.Value.res, (hagree c).1, (hagree c).2.1, (hagree c).2.2, Cert.MemFwdARefIdeal.Value.RES_eq, Cert.MemFwdAIdeal.Value.final2]

end Cert.Proof
-- ==== Proof.NormPass.lean ====
/- A norm of the residual stream in the forward pass: the reference's array is a function of the tokens' rows. -/
module

public import proofs.«01_k».proof.Proof.NormBlock

@[expose] public section

set_option maxRecDepth 16384

noncomputable section

namespace Cert.Norm

open Cert.Resid2RefIdeal Cert.Resid2RefIdeal.Gen Cert.Resid2RefIdeal.Value Idealize.ShloMosaic Idealize.ShloMosaic.TcCoe Idealize.SL.Sem
open Cert.Index
open Cert.LossIdeal.Value (tk tk_eta flat line flat_tk)

/-- Rows scaled to a root mean square of one, times the norm's scale. -/
def unit {n : ℕ} (x : Fin n → Fin 1024 → EReal) (g : Fin 1024 → EReal) (i : Fin n) (k : Fin 1024) : EReal := x i k * rinv (x i) * g k

variable (x : FVec Ideal S2x2048x1024 .f32) (g : FVec Ideal S1024 .f32)

/-- The reference's norm. -/
def NRM : FVec Ideal S2x2048x1024 .bf16 :=
  truncf .bf16 (mulf (mulf x (broadcastInDim S2x2048x1024 ![0, 1, 2] bcast_S2x2048x1_S2x2048x1024_0_1_2 (RIR x))) (broadcastInDim S2x2048x1024 ![0, 1, 2] bcast_S1x1x1024_S2x2048x1024_0_1_2 (broadcastInDim S1x1x1024 ![2] bcast_S1024_S1x1x1024_2 g))) bitsLt_bf16_f32

theorem NRM_apply (b : Fin 2) (s : Fin 2048) (k : Fin 1024) : NRM x g (ix3 b s k) = x (ix3 b s k) * rinv (fun k => x (ix3 b s k)) * g (ix1 k) := by
  have h := RIR_apply x b s
  generalize hr : RIR x = r at h
  pointwise [NRM]
  rw [hr, h]

theorem fl_NRM : fl (NRM x g) = unit (fl x) (ln g) := by
  funext n k
  obtain ⟨b, s, rfl⟩ : ∃ b s, n = tk b s := ⟨_, _, (tk_eta n).symm⟩
  rw [fl_tk, NRM_apply]
  unfold unit
  rw [fl_tk, fl_row, ln_eq]

/-- An array of a sequence's tokens, by tokens. -/
theorem flat_eq {φ : FTy} {a : FVec Ideal S2x2048x1024 φ} {f : Fin 4096 → Fin 1024 → EReal} (h : fl a = f) : flat a = arr f :=
  arr_eq fun n k => congrFun (congrFun h n) k

theorem unit_rows (x : Fin 4096 → Fin 1024 → EReal) (g : Fin 1024 → EReal) (n : ℕ) (h : n < 8) : unit (rows x n h) g = rows (unit x g) n h := rfl
theorem stream_rows (a x : Fin 4096 → Fin 1024 → EReal) (g : Fin 1024 → EReal) (n : ℕ) (h : n < 8) :
    stream (rows a n h) (rows x n h) g = rows (stream a x g) n h := rfl

end Cert.Norm
-- ==== Proof.NormFwdArray.lean ====
/- What the call over a norm of the stream leaves in its result arrays. -/
module

public import proofs.«01_k».proof.Proof.Gen.NormFwdIdeal.Value
public import Idealize.ShloMosaic.Lib.Pipeline.ValueKit
public import proofs.«01_k».proof.Proof.NormPass

@[expose] public section

set_option maxRecDepth 16384

noncomputable section

namespace Cert.NormFwdIdeal.Value

open Cert.Norm Cert.Index Cert.NormFwdIdeal Cert.NormFwdIdeal.Gen Idealize.ShloMosaic Idealize.ShloMosaic.TcCoe Idealize.SL.Sem
open Idealize.ShloMosaic.Pipeline (Dat)
open Cert.LossIdeal.Value (flat line)

theorem pay1 (x : FVec Ideal S512x1024 .f32) (g : FVec Ideal S1x1024 .f32) : of (k0_pay1 (F := Ideal) x g) = unit (of x) (ofg g) := by
  refine of_ext fun r k => ?_
  pointwise [k0_pay1]
  rfl

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.NormFwdIdeal.main_arg0)
abbrev B1 : FVec Ideal S1024 .f32 := m ((c.tc : Thread _ _).loc Cert.NormFwdIdeal.main_arg1)

theorem V0 : V m c main_v0 = flat (B0 m c) := by entry_read; rfl
theorem V1 : V m c main_v1 = line (B1 m c) := by entry_read; rfl

theorem lt8 : t.val < 8 := t.isLt

theorem idx : ∀ t : Fin cfg0.N, win0_0.index t = ![t.val, 0] ∧ win0_1.index t = ![0, 0] ∧ win0_2.index t = ![t.val, 0] :=
  (by decide +kernel : ∀ t : Fin grid0.N, _)

theorem blk0 : of (φ := .f32) (iblk m c 0 t) = rows (fl (B0 m c)) t.val (lt8 t) := by
  refine of_ext fun r k => ?_
  unfold rows fl of
  rw [← V0]; blk_ext! [iblk, idx t]
theorem blk1 : ofg (iblk m c 1 t : FVec Ideal S1x1024 .f32) = ln (B1 m c) := by
  funext k
  unfold ln ofg
  rw [← V1]; blk_ext! [iblk, idx t]

theorem emb2 (y : S512x1024.Idx) : (win0_2.blk t).view.emb y = ix2 (tok t.val (lt8 t) (y 0)) (y 1) := by blk_ext! [idx t]

/-- The norm of the stream. -/
def R2 : S4096x1024.Idx → EReal := arr (unit (fl (B0 m c)) (ln (B1 m c)))

theorem final2 : (dats m 0 c).arrAt 2 (cfgs 0).N = R2 m c := by
  refine (dats m 0 c).arrAt_eq_of_covers 2 _ (by decide +kernel) fun t hf y => ?_
  blk_simp
  rw [after0_2]
  have key : out0_2 (iblk m c 0 t) (iblk m c 1 t) = k0_pay1 (F := Ideal) (iblk m c 0 t) (iblk m c 1 t) := by frame_out
  rw [key]
  exact arr_at (by rw [pay1, blk0, blk1, unit_rows]) y _ (emb2 t y)

theorem R2_eq : flat (NRM (B0 m c) (B1 m c)) = R2 m c := flat_eq (fl_NRM _ _)

end Cert.NormFwdIdeal.Value
-- ==== Proof.NormFwdClaims.lean ====
/- The claims about the call over a norm of the stream. -/
module

public import proofs.«01_k».proof.Defs
public import proofs.«01_k».proof.Proof.NormFwdArray
public import proofs.«01_k».proof.Proof.Gen.NormFwdRefIdeal.Run
public import proofs.«01_k».proof.Proof.Gen.NormFwd
public import proofs.«01_k».proof.Proof.Gen.NormFwd.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem normFwd_reference : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem normFwd_algebraic : Cert.algebraic_NormFwdIdeal_NormFwdRefIdeal := by
  pair_intro
  · run_from Cert.NormFwdIdeal.Value.run_blocks m g
  · run_from Cert.NormFwdRefIdeal.Value.run m' g'
    · rw [Cert.NormFwdIdeal.Value.final2, ← Cert.NormFwdIdeal.Value.R2_eq m c]
      rfl

end Cert.Proof
-- ==== Proof.ResidFwdArray.lean ====
/- What the call over a residual and a norm leaves in its result arrays. -/
module

public import proofs.«01_k».proof.Proof.Gen.ResidFwdIdeal.Value
public import Idealize.ShloMosaic.Lib.Pipeline.ValueKit
public import proofs.«01_k».proof.Proof.NormPass

@[expose] public section

set_option maxRecDepth 16384

noncomputable section

namespace Cert.ResidFwdIdeal.Value

open Cert.Norm Cert.Index Cert.ResidFwdIdeal Cert.ResidFwdIdeal.Gen Idealize.ShloMosaic Idealize.ShloMosaic.TcCoe Idealize.SL.Sem
open Idealize.ShloMosaic.Pipeline (Dat)
open Cert.LossIdeal.Value (flat line)

section
variable (a : FVec Ideal S512x1024 .f32) (y : FVec Ideal S512x1024 .bf16) (v : FVec Ideal S512x1024 .f32) (p g : FVec Ideal S1x1024 .f32)

theorem pay_stream : of (k0_pay1 (F := Ideal) a y p) = stream (of a) (of y) (ofg p) := by
  refine of_ext fun r k => ?_
  pointwise [k0_pay1]
  rfl
theorem pay_norm : of (k0_pay2 (F := Ideal) a y p g) = unit (of (k0_pay1 (F := Ideal) a y p)) (ofg g) := by
  refine of_ext fun r k => ?_
  unfold k0_pay2
  generalize k0_pay1 (F := Ideal) a y p = v
  pointwise
  rfl
end

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.ResidFwdIdeal.main_arg0)
abbrev B1 : FVec Ideal S2x2048x1024 .bf16 := m ((c.tc : Thread _ _).loc Cert.ResidFwdIdeal.main_arg1)
abbrev B2 : FVec Ideal S1024 .f32 := m ((c.tc : Thread _ _).loc Cert.ResidFwdIdeal.main_arg2)
abbrev B3 : FVec Ideal S1024 .f32 := m ((c.tc : Thread _ _).loc Cert.ResidFwdIdeal.main_arg3)

theorem V0 : V m c main_v0 = flat (B0 m c) := by entry_read; rfl
theorem V1 : V m c main_v1 = flat (B1 m c) := by entry_read; rfl
theorem V2 : V m c main_v2 = line (B2 m c) := by entry_read; rfl
theorem V3 : V m c main_v3 = line (B3 m c) := by entry_read; rfl

theorem lt8 : t.val < 8 := t.isLt

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

theorem blk0 : of (φ := .f32) (iblk m c 0 t) = rows (fl (B0 m c)) t.val (lt8 t) := by
  refine of_ext fun r k => ?_
  unfold rows fl of
  rw [← V0]; blk_ext! [iblk, idx t]
theorem blk1 : of (φ := .bf16) (iblk m c 1 t) = rows (fl (B1 m c)) t.val (lt8 t) := by
  refine of_ext fun r k => ?_
  unfold rows fl of
  rw [← V1]; blk_ext! [iblk, idx t]
theorem blk2 : ofg (iblk m c 2 t : FVec Ideal S1x1024 .f32) = ln (B2 m c) := by
  funext k
  unfold ln ofg
  rw [← V2]; blk_ext! [iblk, idx t]
theorem blk3 : ofg (iblk m c 3 t : FVec Ideal S1x1024 .f32) = ln (B3 m c) := by
  funext k
  unfold ln ofg
  rw [← V3]; blk_ext! [iblk, idx t]

theorem emb4 (y : S512x1024.Idx) : (win0_4.blk t).view.emb y = ix2 (tok t.val (lt8 t) (y 0)) (y 1) := by blk_ext! [idx t]
theorem emb5 (y : S512x1024.Idx) : (win0_5.blk t).view.emb y = ix2 (tok t.val (lt8 t) (y 0)) (y 1) := by blk_ext! [idx t]

theorem stream_blk : of (k0_pay1 (F := Ideal) (iblk m c 0 t) (iblk m c 1 t) (iblk m c 2 t)) = rows (stream (fl (B0 m c)) (fl (B1 m c)) (ln (B2 m c))) t.val (lt8 t) := by
  rw [pay_stream, blk0, blk1, blk2, stream_rows]

/-- The residual stream and its norms. -/
def R4 : S4096x1024.Idx → EReal := arr (stream (fl (B0 m c)) (fl (B1 m c)) (ln (B2 m c)))
def R5 : S4096x1024.Idx → EReal := arr (unit (stream (fl (B0 m c)) (fl (B1 m c)) (ln (B2 m c))) (ln (B3 m c)))

theorem final4 : (dats m 0 c).arrAt 4 (cfgs 0).N = R4 m c := by
  refine (dats m 0 c).arrAt_eq_of_covers 4 _ (by decide +kernel) fun t hf y => ?_
  blk_simp
  rw [after0_4]
  have key : out0_4 (iblk m c 0 t) (iblk m c 1 t) (iblk m c 2 t) (iblk m c 3 t) = k0_pay1 (F := Ideal) (iblk m c 0 t) (iblk m c 1 t) (iblk m c 2 t) := by frame_out
  rw [key]
  exact arr_at (stream_blk m c t) y _ (emb4 t y)
theorem final5 : (dats m 0 c).arrAt 5 (cfgs 0).N = R5 m c := by
  refine (dats m 0 c).arrAt_eq_of_covers 5 _ (by decide +kernel) fun t hf y => ?_
  blk_simp
  rw [after0_5]
  have key : out0_5 (iblk m c 0 t) (iblk m c 1 t) (iblk m c 2 t) (iblk m c 3 t) = k0_pay2 (F := Ideal) (iblk m c 0 t) (iblk m c 1 t) (iblk m c 2 t) (iblk m c 3 t) := by frame_out
  rw [key]
  exact arr_at (by rw [pay_norm, stream_blk, blk3, unit_rows]) y _ (emb5 t y)

/-! The reference's arrays. -/

open Cert.Resid2RefIdeal.Value (EXT X1)

theorem R4_eq : flat (X1 (B0 m c) (EXT (B1 m c)) (B2 m c)) = R4 m c := flat_eq (by rw [fl_X1, fl_EXT])
theorem R5_eq : flat (NRM (X1 (B0 m c) (EXT (B1 m c)) (B2 m c)) (B3 m c)) = R5 m c := flat_eq (by rw [fl_NRM, fl_X1, fl_EXT])

end Cert.ResidFwdIdeal.Value
-- ==== Proof.ResidFwdClaims.lean ====
/- The claims about the call over a residual and a norm. -/
module

public import proofs.«01_k».proof.Defs
public import proofs.«01_k».proof.Proof.ResidFwdArray
public import proofs.«01_k».proof.Proof.Gen.ResidFwdRefIdeal.Run
public import proofs.«01_k».proof.Proof.Gen.ResidFwd
public import proofs.«01_k».proof.Proof.Gen.ResidFwd.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem residFwd_reference : Cert.quiescent_ResidFwdRefIdeal := fun m ρ _ =>
  (θ_run Cert.ResidFwdRefIdeal.defs _ _).mono (fun r h => ⟨fun c => (h c).2.2, sem_eq_zero_of_no_sems (by decide) r.2⟩)
    (Cert.ResidFwdRefIdeal.Value.run (F := Ideal) m ρ)

theorem residFwd_algebraic : Cert.algebraic_ResidFwdIdeal_ResidFwdRefIdeal := by
  pair_intro
  · run_from Cert.ResidFwdIdeal.Value.run_blocks m g
  · run_from Cert.ResidFwdRefIdeal.Value.run m' g'
    · rw [Cert.ResidFwdIdeal.Value.final4, ← Cert.ResidFwdIdeal.Value.R4_eq m c]
      rfl
    · rw [Cert.ResidFwdIdeal.Value.final5, ← Cert.ResidFwdIdeal.Value.R5_eq m c]
      rfl

end Cert.Proof
-- ==== Proof.Resid2FwdArray.lean ====
/- What the call over a residual and two norms in the forward pass leaves in its result arrays. -/
module

public import proofs.«01_k».proof.Proof.Gen.Resid2FwdIdeal.Value
public import Idealize.ShloMosaic.Lib.Pipeline.ValueKit
public import proofs.«01_k».proof.Proof.NormPass

@[expose] public section

set_option maxRecDepth 16384

noncomputable section

namespace Cert.Resid2FwdIdeal.Value

open Cert.Norm Cert.Index Cert.Resid2FwdIdeal Cert.Resid2FwdIdeal.Gen Idealize.ShloMosaic Idealize.ShloMosaic.TcCoe Idealize.SL.Sem
open Idealize.ShloMosaic.Pipeline (Dat)
open Cert.LossIdeal.Value (flat line)

section
variable (a : FVec Ideal S512x1024 .f32) (y : FVec Ideal S512x1024 .bf16) (v : FVec Ideal S512x1024 .f32) (p g : FVec Ideal S1x1024 .f32)

theorem pay_stream : of (k0_pay2 (F := Ideal) a y p) = stream (of a) (of y) (ofg p) := by
  refine of_ext fun r k => ?_
  pointwise [k0_pay2]
  rfl
theorem pay_norm : of (k0_pay3 (F := Ideal) a y p g) = unit (of (k0_pay2 (F := Ideal) a y p)) (ofg g) := by
  refine of_ext fun r k => ?_
  unfold k0_pay3
  generalize k0_pay2 (F := Ideal) a y p = v
  pointwise
  rfl
theorem pay_norm2 : of (k0_pay1 (F := Ideal) v g) = unit (of v) (ofg g) := by
  refine of_ext fun r k => ?_
  pointwise [k0_pay1]
  rfl
end

variable (m : (ℓ : Loc nD τ sig) → Buf (Elt Ideal) ℓ) (c : Dev nD) (t : Fin cfg0.N)

/-- The call's arguments. -/
abbrev B0 : FVec Ideal S2x2048x1024 .f32 := m ((c.tc : Thread _ _).loc Cert.Resid2FwdIdeal.main_arg0)
abbrev B1 : FVec Ideal S2x2048x1024 .bf16 := m ((c.tc : Thread _ _).loc Cert.Resid2FwdIdeal.main_arg1)
abbrev B2 : FVec Ideal S1024 .f32 := m ((c.tc : Thread _ _).loc Cert.Resid2FwdIdeal.main_arg2)
abbrev B3 : FVec Ideal S1024 .f32 := m ((c.tc : Thread _ _).loc Cert.Resid2FwdIdeal.main_arg3)
abbrev B4 : FVec Ideal S1024 .f32 := m ((c.tc : Thread _ _).loc Cert.Resid2FwdIdeal.main_arg4)

theorem V0 : V m c main_v0 = flat (B0 m c) := by entry_read; rfl
theorem V1 : V m c main_v1 = flat (B1 m c) := by entry_read; rfl
theorem V2 : V m c main_v2 = line (B2 m c) := by entry_read; rfl
theorem V3 : V m c main_v3 = line (B3 m c) := by entry_read; rfl
theorem V4 : V m c main_v4 = line (B4 m c) := by entry_read; rfl

theorem lt8 : t.val < 8 := t.isLt

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

theorem blk0 : of (φ := .f32) (iblk m c 0 t) = rows (fl (B0 m c)) t.val (lt8 t) := by
  refine of_ext fun r k => ?_
  unfold rows fl of
  rw [← V0]; blk_ext! [iblk, idx t]
theorem blk1 : of (φ := .bf16) (iblk m c 1 t) = rows (fl (B1 m c)) t.val (lt8 t) := by
  refine of_ext fun r k => ?_
  unfold rows fl of
  rw [← V1]; blk_ext! [iblk, idx t]
theorem blk2 : ofg (iblk m c 2 t : FVec Ideal S1x1024 .f32) = ln (B2 m c) := by
  funext k
  unfold ln ofg
  rw [← V2]; blk_ext! [iblk, idx t]
theorem blk3 : ofg (iblk m c 3 t : FVec Ideal S1x1024 .f32) = ln (B3 m c) := by
  funext k
  unfold ln ofg
  rw [← V3]; blk_ext! [iblk, idx t]
theorem blk4 : ofg (iblk m c 4 t : FVec Ideal S1x1024 .f32) = ln (B4 m c) := by
  funext k
  unfold ln ofg
  rw [← V4]; blk_ext! [iblk, idx t]

theorem emb5 (y : S512x1024.Idx) : (win0_5.blk t).view.emb y = ix2 (tok t.val (lt8 t) (y 0)) (y 1) := by blk_ext! [idx t]
theorem emb6 (y : S512x1024.Idx) : (win0_6.blk t).view.emb y = ix2 (tok t.val (lt8 t) (y 0)) (y 1) := by blk_ext! [idx t]
theorem emb7 (y : S512x1024.Idx) : (win0_7.blk t).view.emb y = ix2 (tok t.val (lt8 t) (y 0)) (y 1) := by blk_ext! [idx t]

theorem stream_blk : of (k0_pay2 (F := Ideal) (iblk m c 0 t) (iblk m c 1 t) (iblk m c 2 t)) = rows (stream (fl (B0 m c)) (fl (B1 m c)) (ln (B2 m c))) t.val (lt8 t) := by
  rw [pay_stream, blk0, blk1, blk2, stream_rows]

/-- The residual stream and its norms. -/
def R5 : S4096x1024.Idx → EReal := arr (stream (fl (B0 m c)) (fl (B1 m c)) (ln (B2 m c)))
def R6 : S4096x1024.Idx → EReal := arr (unit (stream (fl (B0 m c)) (fl (B1 m c)) (ln (B2 m c))) (ln (B3 m c)))
def R7 : S4096x1024.Idx → EReal := arr (unit (stream (fl (B0 m c)) (fl (B1 m c)) (ln (B2 m c))) (ln (B4 m c)))

theorem final5 : (dats m 0 c).arrAt 5 (cfgs 0).N = R5 m c := by
  refine (dats m 0 c).arrAt_eq_of_covers 5 _ (by decide +kernel) fun t hf y => ?_
  blk_simp
  rw [after0_5]
  have key : out0_5 (iblk m c 0 t) (iblk m c 1 t) (iblk m c 2 t) (iblk m c 3 t) (iblk m c 4 t) = k0_pay2 (F := Ideal) (iblk m c 0 t) (iblk m c 1 t) (iblk m c 2 t) := by frame_out
  rw [key]
  exact arr_at (stream_blk m c t) y _ (emb5 t y)
theorem final6 : (dats m 0 c).arrAt 6 (cfgs 0).N = R6 m c := by
  refine (dats m 0 c).arrAt_eq_of_covers 6 _ (by decide +kernel) fun t hf y => ?_
  blk_simp
  rw [after0_6]
  have key : out0_6 (iblk m c 0 t) (iblk m c 1 t) (iblk m c 2 t) (iblk m c 3 t) (iblk m c 4 t) = k0_pay3 (F := Ideal) (iblk m c 0 t) (iblk m c 1 t) (iblk m c 2 t) (iblk m c 3 t) := by frame_out
  rw [key]
  exact arr_at (by rw [pay_norm, stream_blk, blk3, unit_rows]) y _ (emb6 t y)
theorem final7 : (dats m 0 c).arrAt 7 (cfgs 0).N = R7 m c := by
  refine (dats m 0 c).arrAt_eq_of_covers 7 _ (by decide +kernel) fun t hf y => ?_
  blk_simp
  rw [after0_7]
  have key : out0_7 (iblk m c 0 t) (iblk m c 1 t) (iblk m c 2 t) (iblk m c 3 t) (iblk m c 4 t) = k0_pay1 (F := Ideal) (k0_pay2 (F := Ideal) (iblk m c 0 t) (iblk m c 1 t) (iblk m c 2 t)) (iblk m c 4 t) := by frame_out
  rw [key]
  exact arr_at (by rw [pay_norm2, stream_blk, blk4, unit_rows]) y _ (emb7 t y)

/-! The reference's arrays. -/

open Cert.Resid2RefIdeal.Value (EXT X1)

theorem R5_eq : flat (X1 (B0 m c) (EXT (B1 m c)) (B2 m c)) = R5 m c := flat_eq (by rw [fl_X1, fl_EXT])
theorem R6_eq : flat (NRM (X1 (B0 m c) (EXT (B1 m c)) (B2 m c)) (B3 m c)) = R6 m c := flat_eq (by rw [fl_NRM, fl_X1, fl_EXT])
theorem R7_eq : flat (NRM (X1 (B0 m c) (EXT (B1 m c)) (B2 m c)) (B4 m c)) = R7 m c := flat_eq (by rw [fl_NRM, fl_X1, fl_EXT])

end Cert.Resid2FwdIdeal.Value
-- ==== Proof.Resid2FwdClaims.lean ====
/- The claims about the call over a residual and two norms in the forward pass. -/
module

public import proofs.«01_k».proof.Defs
public import proofs.«01_k».proof.Proof.Resid2FwdArray
public import proofs.«01_k».proof.Proof.Gen.Resid2FwdRefIdeal.Run
public import proofs.«01_k».proof.Proof.Gen.Resid2Fwd
public import proofs.«01_k».proof.Proof.Gen.Resid2Fwd.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem resid2Fwd_reference : Cert.quiescent_Resid2FwdRefIdeal := fun m ρ _ =>
  (θ_run Cert.Resid2FwdRefIdeal.defs _ _).mono (fun r h => ⟨fun c => (h c).2.2.2, sem_eq_zero_of_no_sems (by decide) r.2⟩)
    (Cert.Resid2FwdRefIdeal.Value.run (F := Ideal) m ρ)

theorem resid2Fwd_algebraic : Cert.algebraic_Resid2FwdIdeal_Resid2FwdRefIdeal := by
  pair_intro
  · run_from Cert.Resid2FwdIdeal.Value.run_blocks m g
  · run_from Cert.Resid2FwdRefIdeal.Value.run m' g'
    · rw [Cert.Resid2FwdIdeal.Value.final5, ← Cert.Resid2FwdIdeal.Value.R5_eq m c]
      rfl
    · rw [Cert.Resid2FwdIdeal.Value.final6, ← Cert.Resid2FwdIdeal.Value.R6_eq m c]
      rfl
    · rw [Cert.Resid2FwdIdeal.Value.final7, ← Cert.Resid2FwdIdeal.Value.R7_eq m c]
      rfl

end Cert.Proof
-- ==== Proof.FfnFwdRef.lean ====
/- The reference of the gated feed-forward's forward call: its three results, entry by entry. -/
module

public import proofs.«01_k».proof.Proof.FfnActEq
public import proofs.«01_k».proof.Proof.Gen.FfnFwdRefIdeal.Run

@[expose] public section

set_option maxRecDepth 16384

noncomputable section

namespace Cert.FfnFwdRefIdeal.Value

open Cert.FfnFwdRefIdeal Cert.FfnFwdRefIdeal.Gen Cert.Ffn Idealize.ShloMosaic Idealize.ShloMosaic.TcCoe Idealize.SL.Sem

variable (x : FVec Ideal S4096x5632 .bf16) (w : FVec Ideal S3x5632 .f32) (e : FVec Ideal S5632 .f32)

/-- The tokens of each sequence after two rows of zeros. -/
def PADX : FVec Ideal S2x2050x5632 .f32 :=
  concatenate S2x2050x5632 1 [⟨S2x2x5632, (broadcastInDim S2x2x5632 ![] bcast_S_S2x2x5632 (constant S_ .f32 0x00000000#32))⟩, ⟨S2x2048x5632, (shapeCast _ (extf .f32 x bitsLt_bf16_f32) shapeCasts_S4096x5632_S2x2048x5632)⟩] concatenates_S2x2x5632_S2x2048x5632_S2x2050x5632_d1
/-- The convolved channels. -/
def U : FVec Ideal S2x2048x5632 .f32 :=
  addf (addf (addf (addf (broadcastInDim S2x2048x5632 ![] bcast_S_S2x2048x5632 (constant S_ .f32 0x00000000#32)) (mulf (broadcastInDim S2x2048x5632 ![0, 1, 2] bcast_S1x1x5632_S2x2048x5632_0_1_2 (broadcastInDim S1x1x5632 ![2] bcast_S5632_S1x1x5632_2 (shapeCast _ (extractStridedSlice S1x5632 ![0, 0] w slices_S3x5632_S1x5632_0_0) shapeCasts_S1x5632_S5632))) (extractStridedSlice S2x2048x5632 ![0, 0, 0] (PADX x) slices_S2x2050x5632_S2x2048x5632_0_0_0))) (mulf (broadcastInDim S2x2048x5632 ![0, 1, 2] bcast_S1x1x5632_S2x2048x5632_0_1_2 (broadcastInDim S1x1x5632 ![2] bcast_S5632_S1x1x5632_2 (shapeCast _ (extractStridedSlice S1x5632 ![1, 0] w slices_S3x5632_S1x5632_1_0) shapeCasts_S1x5632_S5632))) (extractStridedSlice S2x2048x5632 ![0, 1, 0] (PADX x) slices_S2x2050x5632_S2x2048x5632_0_1_0))) (mulf (broadcastInDim S2x2048x5632 ![0, 1, 2] bcast_S1x1x5632_S2x2048x5632_0_1_2 (broadcastInDim S1x1x5632 ![2] bcast_S5632_S1x1x5632_2 (shapeCast _ (extractStridedSlice S1x5632 ![2, 0] w slices_S3x5632_S1x5632_2_0) shapeCasts_S1x5632_S5632))) (extractStridedSlice S2x2048x5632 ![0, 2, 0] (PADX x) slices_S2x2050x5632_S2x2048x5632_0_2_0))) (broadcastInDim S2x2048x5632 ![0, 1, 2] bcast_S1x1x5632_S2x2048x5632_0_1_2 (broadcastInDim S1x1x5632 ![2] bcast_S5632_S1x1x5632_2 e))
/-- The gate's and the value's channels. -/
def UGATE : FVec Ideal S2x2048x2816 .f32 := extractStridedSlice S2x2048x2816 ![0, 0, 0] (U x w e) slices_S2x2048x5632_S2x2048x2816_0_0_0
def UVAL : FVec Ideal S2x2048x2816 .f32 := extractStridedSlice S2x2048x2816 ![0, 0, 2816] (U x w e) slices_S2x2048x5632_S2x2048x2816_0_0_2816

section
variable (g v : FVec Ideal S2x2048x2816 .f32)
/-- The gate's tanh, and the three results from the gate and the value. -/
def TANH : FVec Ideal S2x2048x2816 .f32 := Host.tanh (mulf (broadcastInDim S2x2048x2816 ![] bcast_S_S2x2048x2816 (constant S_ .f32 0x3F4C422A#32)) (addf g (mulf (broadcastInDim S2x2048x2816 ![] bcast_S_S2x2048x2816 (constant S_ .f32 0x3D372713#32)) (mulf (mulf g g) g))))
def ACT : FVec Ideal S4096x2816 .bf16 := truncf .bf16 (shapeCast S4096x2816 (mulf (mulf g (mulf (broadcastInDim S2x2048x2816 ![] bcast_S_S2x2048x2816 (constant S_ .f32 0x3F000000#32)) (addf (broadcastInDim S2x2048x2816 ![] bcast_S_S2x2048x2816 (constant S_ .f32 0x3F800000#32)) (TANH g)))) v) shapeCasts_S2x2048x2816_S4096x2816) bitsLt_bf16_f32
def SLOPE : FVec Ideal S4096x2816 .bf16 := truncf .bf16 (shapeCast S4096x2816 (addf (addf (mulf v (mulf (broadcastInDim S2x2048x2816 ![] bcast_S_S2x2048x2816 (constant S_ .f32 0x3F000000#32)) (addf (broadcastInDim S2x2048x2816 ![] bcast_S_S2x2048x2816 (constant S_ .f32 0x3F800000#32)) (TANH g)))) (mulf (broadcastInDim S2x2048x2816 ![] bcast_S_S2x2048x2816 (constant S_ .f32 0x3F4C422A#32)) (mulf (mulf (broadcastInDim S2x2048x2816 ![] bcast_S_S2x2048x2816 (constant S_ .f32 0x3F000000#32)) (mulf g v)) (mulf (addf (broadcastInDim S2x2048x2816 ![] bcast_S_S2x2048x2816 (constant S_ .f32 0x3F800000#32)) (TANH g)) (subf (broadcastInDim S2x2048x2816 ![] bcast_S_S2x2048x2816 (constant S_ .f32 0x3F800000#32)) (TANH g)))))) (mulf (mulf (broadcastInDim S2x2048x2816 ![] bcast_S_S2x2048x2816 (constant S_ .f32 0x3D372713#32)) (mulf (broadcastInDim S2x2048x2816 ![] bcast_S_S2x2048x2816 (constant S_ .f32 0x3F4C422A#32)) (mulf (mulf (broadcastInDim S2x2048x2816 ![] bcast_S_S2x2048x2816 (constant S_ .f32 0x3F000000#32)) (mulf g v)) (mulf (addf (broadcastInDim S2x2048x2816 ![] bcast_S_S2x2048x2816 (constant S_ .f32 0x3F800000#32)) (TANH g)) (subf (broadcastInDim S2x2048x2816 ![] bcast_S_S2x2048x2816 (constant S_ .f32 0x3F800000#32)) (TANH g)))))) (mulf (broadcastInDim S2x2048x2816 ![] bcast_S_S2x2048x2816 (constant S_ .f32 0x40400000#32)) (mulf g g)))) shapeCasts_S2x2048x2816_S4096x2816) bitsLt_bf16_f32
def GATE : FVec Ideal S4096x2816 .bf16 := truncf .bf16 (shapeCast S4096x2816 (mulf g (mulf (broadcastInDim S2x2048x2816 ![] bcast_S_S2x2048x2816 (constant S_ .f32 0x3F000000#32)) (addf (broadcastInDim S2x2048x2816 ![] bcast_S_S2x2048x2816 (constant S_ .f32 0x3F800000#32)) (TANH g)))) shapeCasts_S2x2048x2816_S4096x2816) bitsLt_bf16_f32
end

theorem res54 (m : (ℓ : Loc nD τ sig) → Buf (Elt Ideal) ℓ) (c : Dev nD) :
    res_main_v54 m c = ACT (UGATE (m ((c.tc : Thread nD τ).loc main_arg0)) (m ((c.tc : Thread nD τ).loc main_arg1)) (m ((c.tc : Thread nD τ).loc main_arg2))) (UVAL (m ((c.tc : Thread nD τ).loc main_arg0)) (m ((c.tc : Thread nD τ).loc main_arg1)) (m ((c.tc : Thread nD τ).loc main_arg2))) := rfl
theorem res68 (m : (ℓ : Loc nD τ sig) → Buf (Elt Ideal) ℓ) (c : Dev nD) :
    res_main_v68 m c = SLOPE (UGATE (m ((c.tc : Thread nD τ).loc main_arg0)) (m ((c.tc : Thread nD τ).loc main_arg1)) (m ((c.tc : Thread nD τ).loc main_arg2))) (UVAL (m ((c.tc : Thread nD τ).loc main_arg0)) (m ((c.tc : Thread nD τ).loc main_arg1)) (m ((c.tc : Thread nD τ).loc main_arg2))) := rfl
theorem res70 (m : (ℓ : Loc nD τ sig) → Buf (Elt Ideal) ℓ) (c : Dev nD) :
    res_main_v70 m c = GATE (UGATE (m ((c.tc : Thread nD τ).loc main_arg0)) (m ((c.tc : Thread nD τ).loc main_arg1)) (m ((c.tc : Thread nD τ).loc main_arg2))) := rfl

abbrev xr : Fin 4096 → Fin 5632 → EReal := fun n k => x (ix2 n k)
abbrev wr : Fin 3 → Fin 5632 → EReal := fun j k => w (ix2 j k)
abbrev er : Fin 5632 → EReal := fun k => e (ix1 k)
abbrev xc (b : Fin 2) (k : Fin 5632) : Col := fun s => xr x (tok b.val b.isLt s) k

variable (b : Fin 2) (s : Fin 2048)

theorem PADX_at (n : Fin 2050) (k : Fin 5632) : PADX x (ix3 b n k) = if h : 2 ≤ n.val then xc x b k ⟨n.val - 2, by omega⟩ else 0 := by
  pointwise [PADX]
  split
  · rw [dif_neg (by omega)]
  · rw [dif_pos (by omega)]

/-- What the first two taps read, and the third. -/
theorem first_at (k : Fin 5632) : PADX x (ix3 b ⟨s.val, by omega⟩ k) = dn 2 (xc x b k) s := by
  rw [PADX_at]
  unfold dn
  by_cases h : 2 ≤ s.val
  · exact (dif_pos h).trans (if_pos h).symm
  · exact (dif_neg h).trans (if_neg h).symm
theorem second_at (k : Fin 5632) : PADX x (ix3 b ⟨1 + s.val, by omega⟩ k) = dn 1 (xc x b k) s := by
  rw [PADX_at]
  unfold dn
  by_cases h : 1 ≤ s.val
  · exact ((dif_pos (by simp only; omega)).trans (congrArg (xc x b k) (Fin.ext (by simp only; omega)))).trans (if_pos h).symm
  · exact (dif_neg (by simp only; omega)).trans (if_neg h).symm
theorem third_at (k : Fin 5632) : PADX x (ix3 b ⟨2 + s.val, by omega⟩ k) = xc x b k s := by
  rw [PADX_at]
  exact (dif_pos (by simp only; omega)).trans (congrArg (xc x b k) (Fin.ext (by simp only; omega)))

theorem U_at (k : Fin 5632) : U x w e (ix3 b s k) = cv (xr x) (wr w) (er e) b.val b.isLt k s := by
  have e0 := first_at x b s k
  have e1 := second_at x b s k
  have e2 := third_at x b s k
  unfold cv conv
  generalize hp : PADX x = p at e0 e1 e2
  pointwise [U]
  rw [hp, e0, e1, e2]

variable (k : Fin 2816)

theorem UGATE_at : UGATE x w e (ix3 b s k) = cv (xr x) (wr w) (er e) b.val b.isLt (gk k) s := by
  refine Eq.trans ?_ (U_at x w e b s (gk k))
  generalize hu : U x w e = u
  pointwise [UGATE]
  rw [hu]
theorem UVAL_at : UVAL x w e (ix3 b s k) = cv (xr x) (wr w) (er e) b.val b.isLt (vk k) s := by
  refine Eq.trans ?_ (U_at x w e b s (vk k))
  generalize hu : U x w e = u
  pointwise [UVAL]
  rw [hu]

section
variable (g v : FVec Ideal S2x2048x2816 .f32)
theorem TANH_at : TANH g (ix3 b s k) = th (g (ix3 b s k)) := by
  unfold th
  pointwise [TANH, ofBits_k, ofBits_c]

theorem split_tok (n : Fin 4096) (hn : n = tok b.val b.isLt s) : (⟨n.val / 2048, by omega⟩ : Fin 2) = b ∧ (⟨n.val % 2048, by omega⟩ : Fin 2048) = s := by
  subst hn
  exact ⟨Fin.ext (by simp only; omega), Fin.ext (by simp only; omega)⟩

theorem ACT_at (n : Fin 4096) (hn : n = tok b.val b.isLt s) : ACT g v (ix2 n k) = VR (g (ix3 b s k)) (v (ix3 b s k)) := by
  obtain ⟨hb, hs⟩ := split_tok b s n hn
  have et := TANH_at b s k g
  generalize ht : TANH g = t at et
  unfold VR hg
  pointwise [ACT, ofBits_half, Ideal.ofBits_one_f32]
  rw [ht]
  simp only [hb, hs]
  rw [et]
theorem SLOPE_at (n : Fin 4096) (hn : n = tok b.val b.isLt s) : SLOPE g v (ix2 n k) = GR (g (ix3 b s k)) (v (ix3 b s k)) 1 := by
  obtain ⟨hb, hs⟩ := split_tok b s n hn
  have et := TANH_at b s k g
  generalize ht : TANH g = t at et
  unfold GR kq hg
  rw [one_mul]
  pointwise [SLOPE, ofBits_half, ofBits_k, ofBits_c, ofBits_three, Ideal.ofBits_one_f32]
  rw [ht]
  simp only [hb, hs]
  rw [et]
theorem GATE_at (n : Fin 4096) (hn : n = tok b.val b.isLt s) : GATE g (ix2 n k) = VR (g (ix3 b s k)) 1 := by
  obtain ⟨hb, hs⟩ := split_tok b s n hn
  have et := TANH_at b s k g
  generalize ht : TANH g = t at et
  unfold VR hg
  rw [mul_one]
  pointwise [GATE, ofBits_half, Ideal.ofBits_one_f32]
  rw [ht]
  simp only [hb, hs]
  rw [et]
end

end Cert.FfnFwdRefIdeal.Value
-- ==== Proof.FfnFwdArray.lean ====
/- What the gated feed-forward's forward call leaves in its three result arrays: the activation, the value times the gate's
   derivative, and the gate. -/
module

public import proofs.«01_k».proof.Proof.FfnFwdRef
public import proofs.«01_k».proof.Proof.Gen.FfnFwdIdeal.Frame
public import proofs.«01_k».proof.Proof.Gen.Pre_finite_ffn_fwd
public import proofs.«01_k».proof.Defs

@[expose] public section

set_option maxRecDepth 16384

noncomputable section

namespace Cert.FfnFwdIdeal.Value

open Cert.Index Cert.FfnFwdIdeal Cert.FfnFwdIdeal.Gen Cert.Ffn Idealize.ShloMosaic Idealize.ShloMosaic.TcCoe Idealize.SL.Sem
open Idealize.ShloMosaic.Pipeline (Dat)
open Cert.FfnActIdeal.Value (cg tap)

section
variable (x0 x1 : FVec Ideal S2048x256 .bf16) (x2 x3 : FVec Ideal S3x256 .f32) (x4 x5 : FVec Ideal S1x256 .f32) (s : Fin 2048) (r : Fin 256)

theorem out6 : out0_6 (F := Ideal) x0 x1 x2 x3 x4 x5 (ix2 s r) = gl (cg x0 x2 x4 r s) * cg x1 x3 x5 r s := by
  frame_out
  rw [← Cert.FfnActIdeal.Value.pay10 x0 x1 x2 x3 x4 x5, ← Cert.FfnActIdeal.Value.pay11 x0 x1 x2 x3 x4 x5]
  exact Cert.FfnActIdeal.Value.pay4_apply ..
theorem out7 : out0_7 (F := Ideal) x0 x1 x2 x3 x4 x5 (ix2 s r) = cg x1 x3 x5 r s * dgl (cg x0 x2 x4 r s) := by
  frame_out
  rw [← Cert.FfnActIdeal.Value.pay10 x0 x1 x2 x3 x4 x5, ← Cert.FfnActIdeal.Value.pay11 x0 x1 x2 x3 x4 x5]
  exact Cert.FfnActIdeal.Value.pay2_apply ..
theorem out8 : out0_8 (F := Ideal) x0 x1 x2 x3 x4 x5 (ix2 s r) = gl (cg x0 x2 x4 r s) := by
  frame_out
  rw [← Cert.FfnActIdeal.Value.pay10 x0 x1 x2 x3 x4 x5]
  exact Cert.FfnActIdeal.Value.pay3_apply ..
end

variable (m : (ℓ : Loc nD τ sig) → Buf (Elt Ideal) ℓ) (c : Dev nD)

/-- The arguments: the projected tokens, the taps, the bias. -/
abbrev A0 : FVec Ideal S4096x5632 .bf16 := m ((c.tc : Thread _ _).loc Cert.FfnFwdIdeal.main_arg0)
abbrev A1 : FVec Ideal S3x5632 .f32 := m ((c.tc : Thread _ _).loc Cert.FfnFwdIdeal.main_arg1)
abbrev A2 : FVec Ideal S5632 .f32 := m ((c.tc : Thread _ _).loc Cert.FfnFwdIdeal.main_arg2)
abbrev xs : Fin 4096 → Fin 5632 → EReal := fun n k => A0 m c (ix2 n k)
abbrev ws : Fin 3 → Fin 5632 → EReal := fun j k => A1 m c (ix2 j k)
abbrev es : Fin 5632 → EReal := fun k => A2 m c (ix1 k)

theorem E0 : V m c main_arg0 = A0 m c := V_main_arg0 m c
theorem E1 : V m c main_arg1 = A1 m c := V_main_arg1 m c
theorem E2 (k : Fin 5632) : (V m c main_v0 : FVec Ideal S1x5632 .f32) (ix2 0 k) = es m c k := by
  have e : (V m c main_v0 : FVec Ideal S1x5632 .f32) = shapeCast S1x5632 (A2 m c) shapeCasts_S5632_S1x5632 := by entry_read; rfl
  rw [e]; pointwise

variable (t : Fin cfg0.N)
theorem t22 : t.val < 22 := t.isLt

theorem idx0 : ∀ t : Fin cfg0.N, win0_0.index t = ![t.val / 11, t.val % 11] ∧ win0_1.index t = ![t.val / 11, 11 + t.val % 11] ∧ win0_2.index t = ![0, t.val % 11]
    ∧ win0_3.index t = ![0, 11 + t.val % 11] ∧ win0_4.index t = ![0, t.val % 11] ∧ win0_5.index t = ![0, 11 + t.val % 11] ∧ win0_6.index t = ![t.val / 11, t.val % 11]
    ∧ win0_7.index t = ![t.val / 11, t.val % 11] ∧ win0_8.index t = ![t.val / 11, t.val % 11] :=
  (by decide +kernel : ∀ t : Fin grid0.N, _)

theorem bt : t.val / 11 < 2 := by have := t22 t; omega
theorem jt : t.val % 11 < 11 := by omega

section
variable (s : Fin 2048) (r : Fin 256)
theorem blk0 : (iblk m c 0 t : FVec Ideal S2048x256 .bf16) (ix2 s r) = xs m c (tok (t.val / 11) (bt t) s) (lo (t.val % 11) (jt t) r) := by
  unfold xs; rw [← E0 m]; blk_ext! [iblk, idx0 t]
theorem blk1 : (iblk m c 1 t : FVec Ideal S2048x256 .bf16) (ix2 s r) = xs m c (tok (t.val / 11) (bt t) s) (hi (t.val % 11) (jt t) r) := by
  unfold xs; rw [← E0 m]; blk_ext! [iblk, idx0 t]
theorem blk2 (j : Fin 3) : (iblk m c 2 t : FVec Ideal S3x256 .f32) (ix2 j r) = ws m c j (lo (t.val % 11) (jt t) r) := by
  unfold ws; rw [← E1 m]; blk_ext! [iblk, idx0 t]
theorem blk3 (j : Fin 3) : (iblk m c 3 t : FVec Ideal S3x256 .f32) (ix2 j r) = ws m c j (hi (t.val % 11) (jt t) r) := by
  unfold ws; rw [← E1 m]; blk_ext! [iblk, idx0 t]
theorem blk4 : (iblk m c 4 t : FVec Ideal S1x256 .f32) (ix2 0 r) = es m c (lo (t.val % 11) (jt t) r) := by
  rw [← E2 m]; blk_ext! [iblk, idx0 t]
theorem blk5 : (iblk m c 5 t : FVec Ideal S1x256 .f32) (ix2 0 r) = es m c (hi (t.val % 11) (jt t) r) := by
  rw [← E2 m]; blk_ext! [iblk, idx0 t]

theorem cgv : cg (iblk m c 0 t) (iblk m c 2 t) (iblk m c 4 t) r = cv (xs m c) (ws m c) (es m c) (t.val / 11) (bt t) (lo (t.val % 11) (jt t) r) := by
  unfold cg cv tap
  simp only [blk0, blk2, blk4]
theorem cvv : cg (iblk m c 1 t) (iblk m c 3 t) (iblk m c 5 t) r = cv (xs m c) (ws m c) (es m c) (t.val / 11) (bt t) (hi (t.val % 11) (jt t) r) := by
  unfold cg cv tap
  simp only [blk1, blk3, blk5]
end

theorem emb6 (y : S2048x256.Idx) : (win0_6.blk t).view.emb y = ix2 (tok (t.val / 11) (bt t) (y 0)) (half (t.val % 11) (jt t) (y 1)) := by blk_ext! [idx0 t]
theorem emb7 (y : S2048x256.Idx) : (win0_7.blk t).view.emb y = ix2 (tok (t.val / 11) (bt t) (y 0)) (half (t.val % 11) (jt t) (y 1)) := by blk_ext! [idx0 t]
theorem emb8 (y : S2048x256.Idx) : (win0_8.blk t).view.emb y = ix2 (tok (t.val / 11) (bt t) (y 0)) (half (t.val % 11) (jt t) (y 1)) := by blk_ext! [idx0 t]

/-- The activation's columns. -/
def UA (x : Fin 4096 → Fin 5632 → EReal) (w : Fin 3 → Fin 5632 → EReal) (e : Fin 5632 → EReal) (b : ℕ) (h : b < 2) (k : Fin 2816) : Col :=
  fun s => gl (cv x w e b h (gk k) s) * cv x w e b h (vk k) s

/-- The three results. -/
def G6 : S4096x2816.Idx → EReal := spread (UA (xs m c) (ws m c) (es m c))
def G7 : S4096x2816.Idx → EReal := spread (UG (xs m c) (ws m c) (es m c))
def G8 : S4096x2816.Idx → EReal := spread (UV (xs m c) (ws m c) (es m c))

theorem final6 : (dats m 0 c).arrAt 6 (cfgs 0).N = G6 m c := by
  refine (dats m 0 c).arrAt_eq_of_covers 6 _ (by decide +kernel) fun t hf y => ?_
  blk_simp
  rw [after0_6]
  exact spread_blk _ _ (bt t) (jt t) (fun s r => by rw [out6, cgv, cvv]; rfl) y _ (emb6 t y)
theorem final7 : (dats m 0 c).arrAt 7 (cfgs 0).N = G7 m c := by
  refine (dats m 0 c).arrAt_eq_of_covers 7 _ (by decide +kernel) fun t hf y => ?_
  blk_simp
  rw [after0_7]
  exact spread_blk _ _ (bt t) (jt t) (fun s r => by rw [out7, cgv, cvv]; rfl) y _ (emb7 t y)
theorem final8 : (dats m 0 c).arrAt 8 (cfgs 0).N = G8 m c := by
  refine (dats m 0 c).arrAt_eq_of_covers 8 _ (by decide +kernel) fun t hf y => ?_
  blk_simp
  rw [after0_8]
  exact spread_blk _ _ (bt t) (jt t) (fun s r => by rw [out8, cgv]; rfl) y _ (emb8 t y)

/-- Every execution ends with the three results. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = G6 m c
      ∧ r.2.mem ((c.tc : Thread nD τ).loc main_v1_1) = G7 m c
      ∧ r.2.mem ((c.tc : Thread nD τ).loc main_v1_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c |>.1 6).trans (final6 m c), (h.1 c |>.1 7).trans (final7 m c), (h.1 c |>.1 8).trans (final8 m c), h.2 c⟩)
    (θ_run_and (run_main m ρ) (unchanged m ρ))

/-! The reference's results over the call's arguments are the call's three arrays. -/

/-- What the precondition says of the arguments. -/
theorem real_of_pre (h : Cert.Pre_FfnFwdIdeal_finite_ffn_fwd m) :
    (∀ i, ∃ r : ℝ, A0 m c i = (r : EReal)) ∧ (∀ i, ∃ r : ℝ, A1 m c i = (r : EReal)) ∧ (∀ i, ∃ r : ℝ, A2 m c i = (r : EReal)) := by
  have h := h c
  refine ⟨fun i => Reals.of_abs_lt ?_, fun i => Reals.of_abs_lt ?_, fun i => Reals.of_abs_lt ?_⟩
  · have e := congrFun h.1 i
    simp only [Cert.Pre_finite_ffn_fwd.fn, pointwise, Reals.ofBits_inf] at e
    exact e
  · have e := congrFun h.2.1 i
    simp only [Cert.Pre_finite_ffn_fwd.fn, pointwise, Reals.ofBits_inf] at e
    exact e
  · have e := congrFun h.2.2 i
    simp only [Cert.Pre_finite_ffn_fwd.fn, pointwise, Reals.ofBits_inf] at e
    exact e

open Cert.FfnFwdRefIdeal.Value (ACT SLOPE GATE UGATE UVAL ACT_at SLOPE_at GATE_at UGATE_at UVAL_at)

variable (h : Cert.Pre_FfnFwdIdeal_finite_ffn_fwd m)
include h

theorem real_cv (b : ℕ) (hb : b < 2) (k s) : ∃ r : ℝ, cv (xs m c) (ws m c) (es m c) b hb k s = r := by
  obtain ⟨h0, h1, h2⟩ := real_of_pre m c h
  exact cv_real (fun _ _ => h0 _) (fun _ _ => h1 _) (fun _ => h2 _) _ _ _ _

theorem G6_eq : ACT (UGATE (A0 m c) (A1 m c) (A2 m c)) (UVAL (A0 m c) (A1 m c) (A2 m c)) = G6 m c :=
  spread_eq _ _ fun b s k => by
    rw [ACT_at b s k _ _ _ rfl, UGATE_at, UVAL_at, VR_eq (real_cv m c h _ _ _ _) (real_cv m c h _ _ _ _), mul_comm]
    rfl
theorem G7_eq : SLOPE (UGATE (A0 m c) (A1 m c) (A2 m c)) (UVAL (A0 m c) (A1 m c) (A2 m c)) = G7 m c :=
  spread_eq _ _ fun b s k => by
    rw [SLOPE_at b s k _ _ _ rfl, UGATE_at, UVAL_at, GR_eq (real_cv m c h _ _ _ _) (real_cv m c h _ _ _ _) ⟨1, EReal.coe_one.symm⟩, one_mul]
    rfl
theorem G8_eq : GATE (UGATE (A0 m c) (A1 m c) (A2 m c)) = G8 m c :=
  spread_eq _ _ fun b s k => by
    rw [GATE_at b s k _ _ rfl, UGATE_at, VR_eq (real_cv m c h _ _ _ _) ⟨1, EReal.coe_one.symm⟩, one_mul]
    rfl

end Cert.FfnFwdIdeal.Value
-- ==== Proof.FfnFwdClaims.lean ====
/- The claims about the gated feed-forward's forward call. -/
module

public import proofs.«01_k».proof.Proof.FfnFwdArray
public import proofs.«01_k».proof.Proof.Gen.FfnFwd
public import proofs.«01_k».proof.Proof.Gen.FfnFwd.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem ffnFwd_reference : Cert.quiescent_FfnFwdRefIdeal := fun m ρ _ =>
  (θ_run Cert.FfnFwdRefIdeal.defs _ _).mono (fun r h => ⟨fun c => (h c).2.2.2, sem_eq_zero_of_no_sems (by decide) r.2⟩)
    (Cert.FfnFwdRefIdeal.Value.run (F := Ideal) m ρ)

theorem ffnFwd_algebraic : Cert.algebraic_FfnFwdIdeal_FfnFwdRefIdeal_pre_finite_ffn_fwd := by
  pair_intro
  · run_from Cert.FfnFwdIdeal.Value.run_blocks m g
  · run_from Cert.FfnFwdRefIdeal.Value.run m' g'
    · rw [← Cert.FfnFwdIdeal.Value.G6_eq m c hpre, Cert.FfnFwdRefIdeal.Value.res54, (hagree c).1, (hagree c).2.1, (hagree c).2.2]
    · rw [← Cert.FfnFwdIdeal.Value.G7_eq m c hpre, Cert.FfnFwdRefIdeal.Value.res68, (hagree c).1, (hagree c).2.1, (hagree c).2.2]
    · rw [← Cert.FfnFwdIdeal.Value.G8_eq m c hpre, Cert.FfnFwdRefIdeal.Value.res70, (hagree c).1, (hagree c).2.1, (hagree c).2.2]

/-- The two named literals are the table's values. -/
theorem ffnFwd_preserves : Cert.preserves_FfnFwd_FfnFwdIdeal :=
  ⟨IdealRules.named_const.statement _ _ _ _ _ rfl, IdealRules.named_const.statement _ _ _ _ _ rfl⟩

end Cert.Proof
-- ==== Proof.FfnDownArray.lean ====
/- What the feed-forward's second product leaves in its result array, and its reference's result. -/
module

public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise

@[expose] public section

set_option maxRecDepth 16384

noncomputable section

namespace Cert.FfnDownIdeal.Value

open Cert.FfnDownIdeal Cert.FfnDownIdeal.Gen Idealize.ShloMosaic Idealize.ShloMosaic.TcCoe Idealize.SL.Sem
open Idealize.ShloMosaic.Pipeline (Dat)

/-- The product of two arrays. -/
def prod (A : S4096x2816.Idx → EReal) (W : S2816x1024.Idx → EReal) : S4096x1024.Idx → EReal :=
  fun i => ∑ k : Fin 2816, A (ix2 (i 0) k) * W (ix2 k (i 1))

theorem pay (a : FVec Ideal S1024x2816 .bf16) (w : FVec Ideal S1x2816x1024 .bf16) (y : S1024x1024.Idx) :
    k0_pay1 (F := Ideal) a w y = ∑ k : Fin 2816, a (ix2 (y 0) k) * w (ix3 0 k (y 1)) := by
  pointwise [k0_pay1]

variable (m : (ℓ : Loc nD τ sig) → Buf (Elt Ideal) ℓ) (c : Dev nD) (t : Fin cfg0.N)

/-- The call's arguments. -/
abbrev B0 : FVec Ideal S4096x2816 .bf16 := m ((c : Thread nD τ).loc main_arg0)
abbrev B1 : FVec Ideal S2816x1024 .f32 := m ((c : Thread nD τ).loc main_arg1)

theorem V1 (k : Fin 2816) (n : Fin 1024) : V m c main_v1 (ix3 0 k n) = B1 m c (ix2 k n) := by
  entry_read
  pointwise

theorem idx : ∀ t : Fin cfg0.N, win0_0.index t = ![t.val, 0] ∧ win0_1.index t = ![0, 0, 0] ∧ win0_2.index t = ![t.val, 0] :=
  (by decide +kernel : ∀ t : Fin grid0.N, _)

theorem lt4 : t.val < 4 := t.isLt

/-- Row `r` of block `t`. -/
abbrev row (r : Fin 1024) : Fin 4096 := ⟨t.val * 1024 + r.val, by have := lt4 t; omega⟩

theorem blk0 (r : Fin 1024) (k : Fin 2816) : (iblk m c 0 t : FVec Ideal S1024x2816 .bf16) (ix2 r k) = B0 m c (ix2 (row t r) k) := by
  blk_ext! [iblk, V, idx t]

theorem blk1 (k : Fin 2816) (n : Fin 1024) : (iblk m c 1 t : FVec Ideal S1x2816x1024 .bf16) (ix3 0 k n) = B1 m c (ix2 k n) := by
  rw [← V1]; blk_ext! [iblk, idx t]

theorem emb2 (y : S1024x1024.Idx) : (win0_2.blk t).view.emb y = ix2 (row t (y 0)) (y 1) := by blk_ext! [idx t]

theorem final2 : (dats m 0 c).arrAt 2 (cfgs 0).N = prod (B0 m c) (B1 m c) := by
  refine (dats m 0 c).arrAt_eq_of_covers 2 _ (by decide +kernel) fun t hf y => ?_
  blk_simp
  rw [after0_2]
  have key : out0_2 (iblk m c 0 t) (iblk m c 1 t) = k0_pay1 (F := Ideal) (iblk m c 0 t) (iblk m c 1 t) := by frame_out
  rw [key]
  refine (pay _ _ _).trans (Eq.trans ?_ (congrArg (prod (B0 m c) (B1 m c)) (emb2 t y)).symm)
  exact Finset.sum_congr rfl fun k _ => congrArg₂ (· * ·) (blk0 m c t _ k) (blk1 m c t k _)

/-- The reference's result. -/
theorem ref_eq (A : FVec Ideal S4096x2816 .bf16) (W : FVec Ideal S2816x1024 .f32) :
    (truncf .bf16 (Host.dotGeneral Cert.FfnDownRefIdeal.dot_S4096x2816_S2816x1024_S4096x1024_1_0_0_1_n_n none (extf .f32 A bitsLt_bf16_f32) W) bitsLt_bf16_f32 : FVec Ideal S4096x1024 .bf16)
      = prod A W := by
  funext i
  pointwise [prod]

end Cert.FfnDownIdeal.Value
-- ==== Proof.FfnDownClaims.lean ====
module

public import proofs.«01_k».proof.Defs
public import proofs.«01_k».proof.Proof.FfnDownArray
public import proofs.«01_k».proof.Proof.Gen.FfnDown
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem ffnDown_reference : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem ffnDown_algebraic : Cert.algebraic_FfnDownIdeal_FfnDownRefIdeal := by
  pair_intro
  · run_from Cert.FfnDownIdeal.Value.run_blocks m g
  · run_from Cert.FfnDownRefIdeal.Value.run m' g'
    exact (Cert.FfnDownIdeal.Value.ref_eq _ _).trans (Cert.FfnDownIdeal.Value.final2 m c).symm

end Cert.Proof
-- ==== Proof.DActArray.lean ====
/- What the feed-forward's second product leaves as its left factor's gradient, and its reference's result. -/
module

public import proofs.«01_k».proof.Proof.Gen.DActIdeal.Value
public import proofs.«01_k».proof.Proof.Gen.DActRefIdeal.Run
public import Idealize.ShloMosaic.Lib.Pipeline.ValueKit
public import Idealize.ShloMosaic.Lib.Pointwise

@[expose] public section

set_option maxRecDepth 16384

noncomputable section

namespace Cert.DActIdeal.Value

open Cert.DActIdeal Cert.DActIdeal.Gen Idealize.ShloMosaic Idealize.ShloMosaic.TcCoe Idealize.SL.Sem
open Idealize.ShloMosaic.Pipeline (Dat)

/-- The product of an array with the transpose of another. -/
def prod (D : S4096x1024.Idx → EReal) (W : S2816x1024.Idx → EReal) : S4096x2816.Idx → EReal :=
  fun i => ∑ k : Fin 1024, D (ix2 (i 0) k) * W (ix2 (i 1) k)

theorem pay (d : FVec Ideal S1024x1024 .bf16) (w : FVec Ideal S1x2816x1024 .bf16) (y : S1024x2816.Idx) :
    k0_pay1 (F := Ideal) d w y = ∑ k : Fin 1024, d (ix2 (y 0) k) * w (ix3 0 (y 1) k) := by
  pointwise [k0_pay1]

variable (m : (ℓ : Loc nD τ sig) → Buf (Elt Ideal) ℓ) (c : Dev nD) (t : Fin cfg0.N)

/-- The call's arguments. -/
abbrev B0 : FVec Ideal S2816x1024 .f32 := m ((c : Thread nD τ).loc main_arg0)
abbrev B1 : FVec Ideal S4096x1024 .bf16 := m ((c : Thread nD τ).loc main_arg1)

theorem V1 (n : Fin 2816) (k : Fin 1024) : V m c main_v1 (ix3 0 n k) = B0 m c (ix2 n k) := by
  entry_read
  pointwise

theorem idx : ∀ t : Fin cfg0.N, win0_0.index t = ![t.val, 0] ∧ win0_1.index t = ![0, 0, 0] ∧ win0_2.index t = ![t.val, 0] :=
  (by decide +kernel : ∀ t : Fin grid0.N, _)

theorem lt4 : t.val < 4 := t.isLt

/-- Row `r` of block `t`. -/
abbrev row (r : Fin 1024) : Fin 4096 := ⟨t.val * 1024 + r.val, by have := lt4 t; omega⟩

theorem blk0 (r : Fin 1024) (k : Fin 1024) : (iblk m c 0 t : FVec Ideal S1024x1024 .bf16) (ix2 r k) = B1 m c (ix2 (row t r) k) := by
  blk_ext! [iblk, V, idx t]

theorem blk1 (n : Fin 2816) (k : Fin 1024) : (iblk m c 1 t : FVec Ideal S1x2816x1024 .bf16) (ix3 0 n k) = B0 m c (ix2 n k) := by
  rw [← V1]; blk_ext! [iblk, idx t]

theorem emb2 (y : S1024x2816.Idx) : (win0_2.blk t).view.emb y = ix2 (row t (y 0)) (y 1) := by blk_ext! [idx t]

theorem final2 : (dats m 0 c).arrAt 2 (cfgs 0).N = prod (B1 m c) (B0 m c) := by
  refine (dats m 0 c).arrAt_eq_of_covers 2 _ (by decide +kernel) fun t hf y => ?_
  blk_simp
  rw [after0_2]
  have key : out0_2 (iblk m c 0 t) (iblk m c 1 t) = k0_pay1 (F := Ideal) (iblk m c 0 t) (iblk m c 1 t) := by frame_out
  rw [key]
  refine (pay _ _ _).trans (Eq.trans ?_ (congrArg (prod (B1 m c) (B0 m c)) (emb2 t y)).symm)
  exact Finset.sum_congr rfl fun k _ => congrArg₂ (· * ·) (blk0 m c t _ k) (blk1 m c t _ k)

/-- The reference's result. -/
theorem ref_eq (W : FVec Ideal S2816x1024 .f32) (D : FVec Ideal S4096x1024 .bf16) :
    (truncf .bf16 (Host.dotGeneral Cert.DActRefIdeal.dot_S4096x1024_S2816x1024_S4096x2816_1_1_0_0_n_n none (extf .f32 D bitsLt_bf16_f32) W) bitsLt_bf16_f32 : FVec Ideal S4096x2816 .bf16)
      = prod D W := by
  funext i
  pointwise [prod]

end Cert.DActIdeal.Value
-- ==== Proof.DActClaims.lean ====
module

public import proofs.«01_k».proof.Defs
public import proofs.«01_k».proof.Proof.DActArray
public import proofs.«01_k».proof.Proof.Gen.DAct
public import proofs.«01_k».proof.Proof.Gen.DAct.Frame
public import proofs.«01_k».proof.Proof.Gen.DActIdeal.Value
public import proofs.«01_k».proof.Proof.Gen.DActRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem dAct_reference : Cert.quiescent_DActRefIdeal := fun m ρ _ =>
  (θ_run Cert.DActRefIdeal.defs _ _).mono (fun r h => ⟨fun c => (h c).2, sem_eq_zero_of_no_sems (by decide) r.2⟩)
    (Cert.DActRefIdeal.Value.run (F := Ideal) m ρ)

theorem dAct_algebraic : Cert.algebraic_DActIdeal_DActRefIdeal := by
  pair_intro
  · run_from Cert.DActIdeal.Value.run_blocks m g
  · run_from Cert.DActRefIdeal.Value.run m' g'
    exact (Cert.DActIdeal.Value.ref_eq _ _).trans (Cert.DActIdeal.Value.final2 m c).symm

end Cert.Proof
-- ==== Proof.DwDownArray.lean ====
/- What the feed-forward's second product leaves as its weight's gradient, and its reference's result. -/
module

public import proofs.«01_k».proof.Proof.Gen.DwDownIdeal.Value
public import proofs.«01_k».proof.Proof.Gen.DwDownRefIdeal.Run
public import Idealize.ShloMosaic.Lib.Pipeline.ValueKit
public import Idealize.ShloMosaic.Lib.Pointwise

@[expose] public section

set_option maxRecDepth 16384

noncomputable section

namespace Cert.DwDownIdeal.Value

open Cert.DwDownIdeal Cert.DwDownIdeal.Gen Idealize.ShloMosaic Idealize.ShloMosaic.TcCoe Idealize.SL.Sem
open Idealize.ShloMosaic.Pipeline (Dat)

/-- The product of an array's transpose with another, as a layer's slab. -/
def prod (A : S4096x2816.Idx → EReal) (D : S4096x1024.Idx → EReal) : S1x2816x1024.Idx → EReal :=
  fun i => ∑ k : Fin 4096, A (ix2 k (i 1)) * D (ix2 k (i 2))

/-- The product over one block of rows. -/
def part (a : S1024x2816.Idx → EReal) (d : S1024x1024.Idx → EReal) (y : S1x2816x1024.Idx) : EReal :=
  ∑ k : Fin 1024, a (ix2 k (y 1)) * d (ix2 k (y 2))

theorem pay2 (a : FVec Ideal S1024x2816 .bf16) (d : FVec Ideal S1024x1024 .bf16) (y : S1x2816x1024.Idx) :
    k0_pay2 (F := Ideal) a d y = 0 + part a d y := by
  rw [zero_add]
  pointwise [k0_pay2, k0_pay1, part]

theorem pay3 (a : FVec Ideal S1024x2816 .bf16) (d : FVec Ideal S1024x1024 .bf16) (acc : FVec Ideal S1x2816x1024 .f32) (y : S1x2816x1024.Idx) :
    k0_pay3 (F := Ideal) a d acc y = acc y + part a d y := by
  pointwise [k0_pay3, k0_pay1, part]

variable (m : (ℓ : Loc nD τ sig) → Buf (Elt Ideal) ℓ) (c : Dev nD) (t : Fin cfg0.N)

/-- The call's arguments. -/
abbrev B0 : FVec Ideal S4096x2816 .bf16 := m ((c : Thread nD τ).loc main_arg0)
abbrev B1 : FVec Ideal S4096x1024 .bf16 := m ((c : Thread nD τ).loc main_arg1)

theorem idx : ∀ t : Fin cfg0.N, win0_0.index t = ![t.val, 0] ∧ win0_1.index t = ![t.val, 0] ∧ win0_2.index t = ![0, 0, 0] :=
  (by decide +kernel : ∀ t : Fin grid0.N, _)

theorem lt4 : t.val < 4 := t.isLt

/-- Row `r` of block `n`. -/
abbrev row (n : Fin 4) (r : Fin 1024) : Fin 4096 := ⟨n.val * 1024 + r.val, by omega⟩

theorem blk0 (r : Fin 1024) (k : Fin 2816) : (iblk m c 0 t : FVec Ideal S1024x2816 .bf16) (ix2 r k) = B0 m c (ix2 (row ⟨t.val, lt4 t⟩ r) k) := by
  blk_ext! [iblk, V, idx t]

theorem blk1 (r : Fin 1024) (n : Fin 1024) : (iblk m c 1 t : FVec Ideal S1024x1024 .bf16) (ix2 r n) = B1 m c (ix2 (row ⟨t.val, lt4 t⟩ r) n) := by
  blk_ext! [iblk, V, idx t]

theorem emb2 (y : S1x2816x1024.Idx) : (win0_2.blk t).view.emb y = y := by blk_ext! [idx t]

/-- Block `n`'s share of the product. -/
def term (n : Fin 4) (y : S1x2816x1024.Idx) : EReal := ∑ k : Fin 1024, B0 m c (ix2 (row n k) (y 1)) * B1 m c (ix2 (row n k) (y 2))

theorem part_eq (y : S1x2816x1024.Idx) : part (iblk m c 0 t) (iblk m c 1 t) y = term m c ⟨t.val, lt4 t⟩ y :=
  Finset.sum_congr rfl fun k _ => congrArg₂ (· * ·) (blk0 m c t k _) (blk1 m c t k _)

theorem sum_term (y : S1x2816x1024.Idx) : ∑ n : Fin 4, term m c n y = prod (B0 m c) (B1 m c) y := by
  unfold prod
  rw [Fin.sum_univ_tiles 4 1024 rfl]
  rfl

theorem final2 : (dats m 0 c).arrAt 2 (cfgs 0).N = prod (B0 m c) (B1 m c) := by
  refine (dats m 0 c).arrAt_eq_of_covers 2 _ (by decide +kernel) fun t hf y => ?_
  blk_simp
  rw [after0_2]
  have hr := (flush0_2 t).mp hf
  rw [Pipeline.eq_sum_fin_of_reset_step_apply_of_flush (fun n h => outsAt0 m c n h) 4 (fun _ => 0)
    (fun t j => term m c ⟨t.val, lt4 t⟩ j)
    (fun t h j => by
      rw [outsAt0_A m c t h (by have := lt4 t; omega)]
      frame_out
      rw [← part_eq]
      exact pay2 _ _ _)
    (fun t h j => by
      rw [outsAt0_B m c t h (by omega)]
      frame_out
      rw [← part_eq]
      exact pay3 _ _ _ _)
    t hr _, zero_add]
  refine Eq.trans (b := ∑ n : Fin 4, term m c n y) ?_ ((sum_term m c y).trans (congrArg (prod (B0 m c) (B1 m c)) (emb2 t y)).symm)
  exact Finset.sum_congr (M := EReal) rfl fun s _ => congrArg (term m c · y) (Fin.ext (by have := lt4 t; simp only; omega))

/-- The reference's result. -/
theorem ref_eq (A : FVec Ideal S4096x2816 .bf16) (D : FVec Ideal S4096x1024 .bf16) :
    (broadcastInDim S1x2816x1024 ![1, 2] Cert.DwDownRefIdeal.Gen.bcast_S2816x1024_S1x2816x1024_1_2 (transpose S2816x1024 [1, 0]
      (Host.dotGeneral Cert.DwDownRefIdeal.dot_S4096x1024_S4096x2816_S1024x2816_0_0_1_1_n_n none (extf .f32 D Cert.DwDownRefIdeal.Gen.bitsLt_bf16_f32) (extf .f32 A Cert.DwDownRefIdeal.Gen.bitsLt_bf16_f32))
      Cert.DwDownRefIdeal.Gen.transposes_S1024x2816_S2816x1024_1_0) : FVec Ideal S1x2816x1024 .f32) = prod A D := by
  funext i
  pointwise [prod]
  exact Finset.sum_congr rfl fun k _ => mul_comm _ _

end Cert.DwDownIdeal.Value
-- ==== Proof.DwDownClaims.lean ====
module

public import proofs.«01_k».proof.Defs
public import proofs.«01_k».proof.Proof.DwDownArray
public import proofs.«01_k».proof.Proof.Gen.DwDown
public import proofs.«01_k».proof.Proof.Gen.DwDown.Frame
public import proofs.«01_k».proof.Proof.Gen.DwDownIdeal.Value
public import proofs.«01_k».proof.Proof.Gen.DwDownRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem dwDown_reference : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem dwDown_algebraic : Cert.algebraic_DwDownIdeal_DwDownRefIdeal := by
  pair_intro
  · run_from Cert.DwDownIdeal.Value.run_blocks m g
  · run_from Cert.DwDownRefIdeal.Value.run m' g'
    exact (Cert.DwDownIdeal.Value.ref_eq _ _).trans (Cert.DwDownIdeal.Value.final2 m c).symm

end Cert.Proof
-- ==== Proof.FfnUpArray.lean ====
/- What the feed-forward's first product leaves in its result array, and its reference's result. -/
module

public import proofs.«01_k».proof.Proof.Gen.FfnUpIdeal.Value
public import proofs.«01_k».proof.Proof.Gen.FfnUpRefIdeal.Run
public import Idealize.ShloMosaic.Lib.Pipeline.ValueKit
public import Idealize.ShloMosaic.Lib.Pointwise

@[expose] public section

set_option maxRecDepth 16384

noncomputable section

namespace Cert.FfnUpIdeal.Value

open Cert.FfnUpIdeal Cert.FfnUpIdeal.Gen Idealize.ShloMosaic Idealize.ShloMosaic.TcCoe Idealize.SL.Sem
open Idealize.ShloMosaic.Pipeline (Dat)

/-- The product of two arrays. -/
def prod (A : S4096x1024.Idx → EReal) (W : S1024x5632.Idx → EReal) : S4096x5632.Idx → EReal :=
  fun i => ∑ k : Fin 1024, A (ix2 (i 0) k) * W (ix2 k (i 1))

theorem pay (a : FVec Ideal S2048x1024 .bf16) (w : FVec Ideal S1x1x1024x1408 .bf16) (y : S2048x1408.Idx) :
    k0_pay1 (F := Ideal) a w y = ∑ k : Fin 1024, a (ix2 (y 0) k) * w (ix4 0 0 k (y 1)) := by
  pointwise [k0_pay1]

variable (m : (ℓ : Loc nD τ sig) → Buf (Elt Ideal) ℓ) (c : Dev nD) (t : Fin cfg0.N)

/-- The call's arguments. -/
abbrev B0 : FVec Ideal S4096x1024 .bf16 := m ((c : Thread nD τ).loc main_arg0)
abbrev B1 : FVec Ideal S1024x5632 .f32 := m ((c : Thread nD τ).loc main_arg1)

/-- Column `n` of slot `s`. -/
abbrev col (s : Fin 4) (n : Fin 1408) : Fin 5632 := ⟨s.val * 1408 + n.val, by omega⟩

theorem V3 (s : Fin 4) (k : Fin 1024) (n : Fin 1408) : V m c main_v3 (ix4 s 0 k n) = B1 m c (ix2 k (col s n)) := by
  entry_read
  pointwise

theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

theorem lt8 : t.val < 8 := t.isLt

/-- Row `r` of block `t`, and its slot. -/
abbrev row (r : Fin 2048) : Fin 4096 := ⟨t.val / 4 * 2048 + r.val, by have := lt8 t; omega⟩
abbrev slot : Fin 4 := ⟨t.val % 4, by omega⟩

theorem blk0 (r : Fin 2048) (k : Fin 1024) : (iblk m c 0 t : FVec Ideal S2048x1024 .bf16) (ix2 r k) = B0 m c (ix2 (row t r) k) := by
  blk_ext! [iblk, V, idx t]

theorem blk1 (k : Fin 1024) (n : Fin 1408) : (iblk m c 1 t : FVec Ideal S1x1x1024x1408 .bf16) (ix4 0 0 k n) = B1 m c (ix2 k (col (slot t) n)) := by
  rw [← V3]; blk_ext! [iblk, idx t]

theorem emb2 (y : S2048x1408.Idx) : (win0_2.blk t).view.emb y = ix2 (row t (y 0)) (col (slot t) (y 1)) := by blk_ext! [idx t]

theorem final2 : (dats m 0 c).arrAt 2 (cfgs 0).N = prod (B0 m c) (B1 m c) := by
  refine (dats m 0 c).arrAt_eq_of_covers 2 _ (by decide +kernel) fun t hf y => ?_
  blk_simp
  rw [after0_2]
  have key : out0_2 (iblk m c 0 t) (iblk m c 1 t) = k0_pay1 (F := Ideal) (iblk m c 0 t) (iblk m c 1 t) := by frame_out
  rw [key]
  refine (pay _ _ _).trans (Eq.trans ?_ (congrArg (prod (B0 m c) (B1 m c)) (emb2 t y)).symm)
  exact Finset.sum_congr rfl fun k _ => congrArg₂ (· * ·) (blk0 m c t _ k) (blk1 m c t k _)

/-- The reference's result. -/
theorem ref_eq (A : FVec Ideal S4096x1024 .bf16) (W : FVec Ideal S1024x5632 .f32) :
    (truncf .bf16 (Host.dotGeneral Cert.FfnUpRefIdeal.dot_S4096x1024_S1024x5632_S4096x5632_1_0_0_1_n_n none (extf .f32 A bitsLt_bf16_f32) W) bitsLt_bf16_f32 : FVec Ideal S4096x5632 .bf16)
      = prod A W := by
  funext i
  pointwise [prod]

end Cert.FfnUpIdeal.Value
-- ==== Proof.FfnUpClaims.lean ====
module

public import proofs.«01_k».proof.Defs
public import proofs.«01_k».proof.Proof.FfnUpArray
public import proofs.«01_k».proof.Proof.Gen.FfnUp
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem ffnUp_reference : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

theorem ffnUp_algebraic : Cert.algebraic_FfnUpIdeal_FfnUpRefIdeal := by
  pair_intro
  · run_from Cert.FfnUpIdeal.Value.run_blocks m g
  · run_from Cert.FfnUpRefIdeal.Value.run m' g'
    exact (Cert.FfnUpIdeal.Value.ref_eq _ _).trans (Cert.FfnUpIdeal.Value.final2 m c).symm

end Cert.Proof
-- ==== Proof.DH2Array.lean ====
/- What the feed-forward's first product leaves as its left factor's gradient, and its reference's result. -/
module

public import proofs.«01_k».proof.Proof.Gen.DH2Ideal.Value
public import proofs.«01_k».proof.Proof.Gen.DH2RefIdeal.Run
public import Idealize.ShloMosaic.Lib.Pipeline.ValueKit
public import Idealize.ShloMosaic.Lib.Pointwise
public import proofs.«01_k».proof.Proof.Index

@[expose] public section

set_option maxRecDepth 16384

noncomputable section

namespace Cert.DH2Ideal.Value

open Cert.DH2Ideal Cert.DH2Ideal.Gen Idealize.ShloMosaic Idealize.ShloMosaic.TcCoe Idealize.SL.Sem
open Idealize.ShloMosaic.Pipeline (Dat)

/-- The two halves side by side, and their product with the transpose of the weight. -/
def both (G U : S4096x2816.Idx → EReal) (r : Fin 4096) (k : Fin 5632) : EReal :=
  if h : k.val < 2816 then G (ix2 r ⟨k.val, h⟩) else U (ix2 r ⟨k.val - 2816, by omega⟩)
def prod (G U : S4096x2816.Idx → EReal) (W : S1024x5632.Idx → EReal) : S4096x1024.Idx → EReal :=
  fun i => ∑ k : Fin 5632, both G U (i 0) k * W (ix2 (i 1) k)

/-- A product with one slot. -/
def one (v : S512x1408.Idx → EReal) (w : S1x1x1024x1408.Idx → EReal) (y : S512x1024.Idx) : EReal :=
  ∑ k : Fin 1408, v (ix2 (y 0) k) * w (ix4 0 0 (y 1) k)

theorem pay (v0 v1 v2 v3 : FVec Ideal S512x1408 .bf16) (w0 w1 w2 w3 : FVec Ideal S1x1x1024x1408 .bf16) (y : S512x1024.Idx) :
    k0_pay1 (F := Ideal) v0 w0 v1 w1 v2 w2 v3 w3 y = one v0 w0 y + one v1 w1 y + one v2 w2 y + one v3 w3 y := by
  pointwise [k0_pay1, one]

variable (m : (ℓ : Loc nD τ sig) → Buf (Elt Ideal) ℓ) (c : Dev nD) (t : Fin cfg0.N)

/-- The call's arguments. -/
abbrev B0 : FVec Ideal S1024x5632 .f32 := m ((c : Thread nD τ).loc main_arg0)
abbrev B1 : FVec Ideal S4096x2816 .bf16 := m ((c : Thread nD τ).loc main_arg1)
abbrev B2 : FVec Ideal S4096x2816 .bf16 := m ((c : Thread nD τ).loc main_arg2)

/-- Column `n` of slot `s`. -/
abbrev col (s : Fin 4) (n : Fin 1408) : Fin 5632 := ⟨s.val * 1408 + n.val, by omega⟩

theorem V3 (s : Fin 4) (k : Fin 1024) (n : Fin 1408) : V m c main_v3 (ix4 s 0 k n) = B0 m c (ix2 k (col s n)) := by
  entry_read
  pointwise

theorem idx : ∀ t : Fin cfg0.N, win0_0.index t = ![t.val, 0] ∧ win0_1.index t = ![t.val, 0] ∧ win0_2.index t = ![0, 0, 0, 0]
    ∧ win0_3.index t = ![1, 0, 0, 0] ∧ win0_4.index t = ![2, 0, 0, 0] ∧ win0_5.index t = ![3, 0, 0, 0] ∧ win0_6.index t = ![t.val, 0] :=
  (by decide +kernel : ∀ t : Fin grid0.N, _)

theorem lt8 : t.val < 8 := t.isLt

/-- Row `r` of block `t`. -/
abbrev row (r : Fin 512) : Fin 4096 := ⟨t.val * 512 + r.val, by have := lt8 t; omega⟩

theorem blk0 (r : Fin 512) (k : Fin 2816) : (iblk m c 0 t : FVec Ideal S512x2816 .bf16) (ix2 r k) = B1 m c (ix2 (row t r) k) := by
  blk_ext! [iblk, V, idx t]
theorem blk1 (r : Fin 512) (k : Fin 2816) : (iblk m c 1 t : FVec Ideal S512x2816 .bf16) (ix2 r k) = B2 m c (ix2 (row t r) k) := by
  blk_ext! [iblk, V, idx t]
theorem blk2 (k : Fin 1024) (n : Fin 1408) : (iblk m c 2 t : FVec Ideal S1x1x1024x1408 .bf16) (ix4 0 0 k n) = B0 m c (ix2 k (col 0 n)) := by
  rw [← V3]; blk_ext! [iblk, idx t]
theorem blk3 (k : Fin 1024) (n : Fin 1408) : (iblk m c 3 t : FVec Ideal S1x1x1024x1408 .bf16) (ix4 0 0 k n) = B0 m c (ix2 k (col 1 n)) := by
  rw [← V3]; blk_ext! [iblk, idx t]
theorem blk4 (k : Fin 1024) (n : Fin 1408) : (iblk m c 4 t : FVec Ideal S1x1x1024x1408 .bf16) (ix4 0 0 k n) = B0 m c (ix2 k (col 2 n)) := by
  rw [← V3]; blk_ext! [iblk, idx t]
theorem blk5 (k : Fin 1024) (n : Fin 1408) : (iblk m c 5 t : FVec Ideal S1x1x1024x1408 .bf16) (ix4 0 0 k n) = B0 m c (ix2 k (col 3 n)) := by
  rw [← V3]; blk_ext! [iblk, idx t]

theorem emb6 (y : S512x1024.Idx) : (win0_6.blk t).view.emb y = ix2 (row t (y 0)) (y 1) := by blk_ext! [idx t]

/-- A half's two column blocks. -/
theorem left_ld (x : FVec Ideal S512x2816 .bf16) (r : Fin 512) (k : Fin 1408) :
    (View.ld (Val := Elt Ideal) (e' := .bf16) x r0_0 : FVec Ideal S512x1408 .bf16) (ix2 r k) = x (ix2 r ⟨k.val, by omega⟩) :=
  congrArg x (funext fun b => Fin.ext (by fin_cases b <;> simp [ix2]))
theorem right_ld (x : FVec Ideal S512x2816 .bf16) (r : Fin 512) (k : Fin 1408) :
    (View.ld (Val := Elt Ideal) (e' := .bf16) x r0_2 : FVec Ideal S512x1408 .bf16) (ix2 r k) = x (ix2 r ⟨1408 + k.val, by omega⟩) :=
  congrArg x (funext fun b => Fin.ext (by fin_cases b <;> simp [ix2]))

/-- The entries that slot `s` meets. -/
theorem both_left (G U : S4096x2816.Idx → EReal) (r : Fin 4096) (s : Fin 4) (k : Fin 1408) (h : s.val < 2) :
    both G U r (col s k) = G (ix2 r ⟨s.val * 1408 + k.val, by omega⟩) := dif_pos (by simp only; omega)
theorem both_right (G U : S4096x2816.Idx → EReal) (r : Fin 4096) (s : Fin 4) (k : Fin 1408) (h : 2 ≤ s.val) :
    both G U r (col s k) = U (ix2 r ⟨s.val * 1408 + k.val - 2816, by omega⟩) := dif_neg (by simp only; omega)

/-- Slot `s`'s share of the product. -/
def term (s : Fin 4) (i : S4096x1024.Idx) : EReal := ∑ k : Fin 1408, both (B1 m c) (B2 m c) (i 0) (col s k) * B0 m c (ix2 (i 1) (col s k))

theorem sum_term (i : S4096x1024.Idx) : term m c 0 i + term m c 1 i + term m c 2 i + term m c 3 i = prod (B1 m c) (B2 m c) (B0 m c) i := by
  unfold prod
  rw [Fin.sum_univ_tiles 4 1408 rfl, Fin.sum_univ_four]
  rfl

theorem one0 (y : S512x1024.Idx) : one (View.ld (Val := Elt Ideal) (e' := .bf16) (iblk m c 0 t) r0_0) (iblk m c 2 t) y = term m c 0 (ix2 (row t (y 0)) (y 1)) :=
  Finset.sum_congr rfl fun k _ => congrArg₂ (· * ·) (((left_ld _ _ k).trans (blk0 m c t _ _)).trans
    ((congrArg (B1 m c) (Cert.Index.ix2_ext rfl (by simp))).trans (both_left _ _ _ 0 k (by decide)).symm)) (blk2 m c t _ k)
theorem one1 (y : S512x1024.Idx) : one (View.ld (Val := Elt Ideal) (e' := .bf16) (iblk m c 0 t) r0_2) (iblk m c 3 t) y = term m c 1 (ix2 (row t (y 0)) (y 1)) :=
  Finset.sum_congr rfl fun k _ => congrArg₂ (· * ·) (((right_ld _ _ k).trans (blk0 m c t _ _)).trans
    ((congrArg (B1 m c) (Cert.Index.ix2_ext rfl (by simp))).trans (both_left _ _ _ 1 k (by decide)).symm)) (blk3 m c t _ k)
theorem one2 (y : S512x1024.Idx) : one (View.ld (Val := Elt Ideal) (e' := .bf16) (iblk m c 1 t) r0_0) (iblk m c 4 t) y = term m c 2 (ix2 (row t (y 0)) (y 1)) :=
  Finset.sum_congr rfl fun k _ => congrArg₂ (· * ·) (((left_ld _ _ k).trans (blk1 m c t _ _)).trans
    ((congrArg (B2 m c) (Cert.Index.ix2_ext rfl (by simp only [Fin.val_two]; omega))).trans (both_right _ _ _ 2 k (by decide)).symm)) (blk4 m c t _ k)
theorem one3 (y : S512x1024.Idx) : one (View.ld (Val := Elt Ideal) (e' := .bf16) (iblk m c 1 t) r0_2) (iblk m c 5 t) y = term m c 3 (ix2 (row t (y 0)) (y 1)) :=
  Finset.sum_congr rfl fun k _ => congrArg₂ (· * ·) (((right_ld _ _ k).trans (blk1 m c t _ _)).trans
    ((congrArg (B2 m c) (Cert.Index.ix2_ext rfl (by show 1408 + k.val = 3 * 1408 + k.val - 2816; omega))).trans (both_right _ _ _ 3 k (by decide)).symm)) (blk5 m c t _ k)

theorem final6 : (dats m 0 c).arrAt 6 (cfgs 0).N = prod (B1 m c) (B2 m c) (B0 m c) := by
  refine (dats m 0 c).arrAt_eq_of_covers 6 _ (by decide +kernel) fun t hf y => ?_
  blk_simp
  rw [after0_6]
  have key : out0_6 (iblk m c 0 t) (iblk m c 1 t) (iblk m c 2 t) (iblk m c 3 t) (iblk m c 4 t) (iblk m c 5 t)
      = k0_pay1 (F := Ideal) (View.ld (iblk m c 0 t) r0_0) (iblk m c 2 t) (View.ld (iblk m c 0 t) r0_2) (iblk m c 3 t)
        (View.ld (iblk m c 1 t) r0_0) (iblk m c 4 t) (View.ld (iblk m c 1 t) r0_2) (iblk m c 5 t) := by
    frame_out
    rfl
  rw [key]
  refine (pay _ _ _ _ _ _ _ _ _).trans (Eq.trans ?_ (congrArg (prod (B1 m c) (B2 m c) (B0 m c)) (emb6 t y)).symm)
  rw [one0, one1, one2, one3, sum_term]
  rfl

/-- The reference's result. -/
theorem ref_eq (W : FVec Ideal S1024x5632 .f32) (G U : FVec Ideal S4096x2816 .bf16) :
    (truncf .bf16 (Host.dotGeneral Cert.DH2RefIdeal.dot_S4096x5632_S1024x5632_S4096x1024_1_1_0_0_n_n none
      (extf .f32 (concatenate Cert.DH2RefIdeal.S4096x5632 1 [⟨S4096x2816, G⟩, ⟨S4096x2816, U⟩] Cert.DH2RefIdeal.Gen.concatenates_S4096x2816_S4096x2816_S4096x5632_d1) bitsLt_bf16_f32) W) bitsLt_bf16_f32 : FVec Ideal S4096x1024 .bf16)
      = prod G U W := by
  funext i
  pointwise [prod, both]

end Cert.DH2Ideal.Value
-- ==== Proof.DH2Claims.lean ====
module

public import proofs.«01_k».proof.Defs
public import proofs.«01_k».proof.Proof.DH2Array
public import proofs.«01_k».proof.Proof.Gen.DH2
public import proofs.«01_k».proof.Proof.Gen.DH2.Frame
public import proofs.«01_k».proof.Proof.Gen.DH2Ideal.Value
public import proofs.«01_k».proof.Proof.Gen.DH2RefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem dH2_reference : Cert.quiescent_DH2RefIdeal := fun m ρ _ =>
  (θ_run Cert.DH2RefIdeal.defs _ _).mono (fun r h => ⟨fun c => (h c).2, sem_eq_zero_of_no_sems (by decide) r.2⟩)
    (Cert.DH2RefIdeal.Value.run (F := Ideal) m ρ)

theorem dH2_algebraic : Cert.algebraic_DH2Ideal_DH2RefIdeal := by
  pair_intro
  · run_from Cert.DH2Ideal.Value.run_blocks m g
  · run_from Cert.DH2RefIdeal.Value.run m' g'
    refine (Cert.DH2Ideal.Value.ref_eq _ _ _).trans ?_
    rw [(hagree c).2.1, (hagree c).2.2]
    exact (Cert.DH2Ideal.Value.final6 m c).symm

end Cert.Proof
-- ==== Proof.DwUpArray.lean ====
/- What the feed-forward's first product leaves as its weight's gradient, in the value half's two slots, and its reference's result. -/
module

public import proofs.«01_k».proof.Proof.Gen.DwUpIdeal.Value
public import proofs.«01_k».proof.Proof.Gen.DwUpRefIdeal.Run
public import Idealize.ShloMosaic.Lib.Pipeline.ValueKit
public import Idealize.ShloMosaic.Lib.Pointwise
public import proofs.«01_k».proof.Proof.Index

@[expose] public section

set_option maxRecDepth 16384

noncomputable section

namespace Cert.DwUpIdeal.Value

open Cert.DwUpIdeal Cert.DwUpIdeal.Gen Idealize.ShloMosaic Idealize.ShloMosaic.TcCoe Idealize.SL.Sem
open Idealize.ShloMosaic.Pipeline (Dat)

/-- The product of an array's transpose with another, cut by columns into slots 2 and 3. -/
def prod (H : S4096x1024.Idx → EReal) (U : S4096x2816.Idx → EReal) (s : Fin 4) (r : Fin 1024) (n : Fin 1408) : EReal :=
  ∑ k : Fin 4096, H (ix2 k r) * U (ix2 k ⟨(s.val - 2) * 1408 + n.val, by omega⟩)

/-- The result: the first two slots as they were, the product in the others. -/
def slots (H : S4096x1024.Idx → EReal) (U : S4096x2816.Idx → EReal) (O : S4x1x1024x1408.Idx → EReal) : S4x1x1024x1408.Idx → EReal :=
  fun i => if 2 ≤ (i 0 : ℕ) then prod H U (i 0) (i 2) (i 3) else O i

/-- The product over one block of rows. -/
def part (h : S2048x1024.Idx → EReal) (u : S2048x1408.Idx → EReal) (y : S1x1x1024x1408.Idx) : EReal :=
  ∑ k : Fin 2048, h (ix2 k (y 2)) * u (ix2 k (y 3))

theorem pay2 (h : FVec Ideal S2048x1024 .bf16) (u : FVec Ideal S2048x1408 .bf16) (y : S1x1x1024x1408.Idx) :
    k0_pay2 (F := Ideal) h u y = 0 + part h u y := by
  rw [zero_add]
  pointwise [k0_pay2, k0_pay1, part]

theorem pay3 (h : FVec Ideal S2048x1024 .bf16) (u : FVec Ideal S2048x1408 .bf16) (acc : FVec Ideal S1x1x1024x1408 .f32) (y : S1x1x1024x1408.Idx) :
    k0_pay3 (F := Ideal) h u acc y = acc y + part h u y := by
  pointwise [k0_pay3, k0_pay1, part]

variable (m : (ℓ : Loc nD τ sig) → Buf (Elt Ideal) ℓ) (c : Dev nD) (t : Fin cfg0.N)

/-- The call's arguments. -/
abbrev B0 : FVec Ideal S4096x1024 .bf16 := m ((c : Thread nD τ).loc main_arg0)
abbrev B1 : FVec Ideal S4096x2816 .bf16 := m ((c : Thread nD τ).loc main_arg1)
abbrev B2 : FVec Ideal S4x1x1024x1408 .f32 := m ((c : Thread nD τ).loc main_arg2)

theorem idx : ∀ t : Fin cfg0.N, win0_0.index t = ![t.val % 2, 0] ∧ win0_1.index t = ![t.val % 2, t.val / 2]
    ∧ win0_2.index t = ![2 + t.val / 2, 0, 0, 0] :=
  (by decide +kernel : ∀ t : Fin grid0.N, _)

theorem lt4 : t.val < 4 := t.isLt

/-- Row `r` of the rows' block `n`, and column `k` of the columns' block `j`. -/
abbrev row (n : Fin 2) (r : Fin 2048) : Fin 4096 := ⟨n.val * 2048 + r.val, by omega⟩
abbrev col (j : Fin 2) (k : Fin 1408) : Fin 2816 := ⟨j.val * 1408 + k.val, by omega⟩

theorem blk0 (r : Fin 2048) (k : Fin 1024) : (iblk m c 0 t : FVec Ideal S2048x1024 .bf16) (ix2 r k) = B0 m c (ix2 (row ⟨t.val % 2, by omega⟩ r) k) := by
  blk_ext! [iblk, V, idx t]

theorem blk1 (r : Fin 2048) (n : Fin 1408) : (iblk m c 1 t : FVec Ideal S2048x1408 .bf16) (ix2 r n)
    = B1 m c (ix2 (row ⟨t.val % 2, by omega⟩ r) (col ⟨t.val / 2, by have := lt4 t; omega⟩ n)) := by
  blk_ext! [iblk, V, idx t]

theorem emb2 (y : S1x1x1024x1408.Idx) : (win0_2.blk t).view.emb y = ix4 ⟨2 + t.val / 2, by have := lt4 t; omega⟩ 0 (y 2) (y 3) := by blk_ext! [idx t]

/-- The rows' block `n`'s share of the product's columns in block `j`. -/
def term (j n : Fin 2) (y : S1x1x1024x1408.Idx) : EReal := ∑ k : Fin 2048, B0 m c (ix2 (row n k) (y 2)) * B1 m c (ix2 (row n k) (col j (y 3)))

theorem part_eq (y : S1x1x1024x1408.Idx) : part (iblk m c 0 t) (iblk m c 1 t) y = term m c ⟨t.val / 2, by have := lt4 t; omega⟩ ⟨t.val % 2, by omega⟩ y :=
  Finset.sum_congr rfl fun k _ => congrArg₂ (· * ·) (blk0 m c t k _) (blk1 m c t k _)

theorem sum_term (j : Fin 2) (y : S1x1x1024x1408.Idx) : ∑ n : Fin 2, term m c j n y = prod (B0 m c) (B1 m c) ⟨2 + j.val, by omega⟩ (y 2) (y 3) := by
  unfold prod
  rw [Fin.sum_univ_tiles 2 2048 rfl]
  refine Finset.sum_congr rfl fun n _ => Finset.sum_congr rfl fun k _ => congrArg (_ * ·) (congrArg (B1 m c) (Cert.Index.ix2_ext rfl ?_))
  show j.val * 1408 + (y 3).val = (2 + j.val - 2) * 1408 + (y 3).val
  omega

/-- The last point of a slot holds the slot's product. -/
theorem last (hr : t.val % 2 = 2 - 1) (y : S1x1x1024x1408.Idx) : (outsAt0 m c t.val t.isLt : S1x1x1024x1408.Idx → EReal) y
    = prod (B0 m c) (B1 m c) ⟨2 + t.val / 2, by have := lt4 t; omega⟩ (y 2) (y 3) := by
  rw [Pipeline.eq_sum_fin_of_reset_step_apply_of_flush (fun n h => (outsAt0 m c n h : S1x1x1024x1408.Idx → EReal)) 2 (fun _ => 0)
    (fun t j => term m c ⟨t.val / 2, by have := lt4 t; omega⟩ ⟨t.val % 2, by omega⟩ j)
    (fun t h j => by
      rw [outsAt0_A m c t h (by omega)]
      frame_out
      rw [← part_eq]
      exact pay2 _ _ _)
    (fun t h j => by
      rw [outsAt0_B m c t h (by omega)]
      frame_out
      rw [← part_eq]
      exact pay3 _ _ _ _)
    t hr _, zero_add]
  refine Eq.trans ?_ (sum_term m c ⟨t.val / 2, by have := lt4 t; omega⟩ y)
  exact Finset.sum_congr rfl fun s _ => congrArg₂ (fun a b => term m c a b y) (Fin.ext (by simp only; omega)) (Fin.ext (by simp only; omega))

/-- The product over all slots. -/
def all : S4x1x1024x1408.Idx → EReal := fun i => prod (B0 m c) (B1 m c) (i 0) (i 2) (i 3)

theorem final2 : (dats m 0 c).arrAt 2 (cfgs 0).N = slots (B0 m c) (B1 m c) (B2 m c) := by
  have e : V m c main_v0 = B2 m c := by entry_read; rfl
  have e' : slots (B0 m c) (B1 m c) (B2 m c) = fun i => if 2 ≤ (i 0 : ℕ) then all m c i else V m c main_v0 i := by rw [e]; rfl
  rw [e']
  refine (dats m 0 c).arrAt_eq_of_coversWhere 2 (all m c) (fun β => 2 ≤ β 0) (by decide +kernel) (fun t hf y => ?_)
    (fun j => by blk_simp [Pipeline.Window.cell_apply]; omega)
  blk_simp
  rw [after0_2]
  exact (last m c t ((flush0_2 t).mp hf) y).trans (congrArg (all m c) (emb2 t y)).symm

/-- The reference's result. -/
theorem ref_eq (H : FVec Ideal S4096x1024 .bf16) (U : FVec Ideal S4096x2816 .bf16) (O : FVec Ideal S4x1x1024x1408 .f32) :
    (concatenate S4x1x1024x1408 0 [⟨Cert.DwUpRefIdeal.S2x1x1024x1408, (extractStridedSlice Cert.DwUpRefIdeal.S2x1x1024x1408 ![0, 0, 0, 0] O Cert.DwUpRefIdeal.Gen.slices_S4x1x1024x1408_S2x1x1024x1408_0_0_0_0)⟩,
      ⟨Cert.DwUpRefIdeal.S2x1x1024x1408, (broadcastInDim Cert.DwUpRefIdeal.S2x1x1024x1408 ![0, 2, 3] Cert.DwUpRefIdeal.Gen.bcast_S2x1024x1408_S2x1x1024x1408_0_2_3 (transpose Cert.DwUpRefIdeal.S2x1024x1408 [1, 0, 2]
        (shapeCast Cert.DwUpRefIdeal.S1024x2x1408 (transpose Cert.DwUpRefIdeal.S1024x2816 [1, 0] (Host.dotGeneral Cert.DwUpRefIdeal.dot_S4096x2816_S4096x1024_S2816x1024_0_0_1_1_n_n none (extf .f32 U Cert.DwUpRefIdeal.Gen.bitsLt_bf16_f32) (extf .f32 H Cert.DwUpRefIdeal.Gen.bitsLt_bf16_f32))
          Cert.DwUpRefIdeal.Gen.transposes_S2816x1024_S1024x2816_1_0) Cert.DwUpRefIdeal.Gen.shapeCasts_S1024x2816_S1024x2x1408) Cert.DwUpRefIdeal.Gen.transposes_S1024x2x1408_S2x1024x1408_1_0_2))⟩]
      Cert.DwUpRefIdeal.Gen.concatenates_S2x1x1024x1408_S2x1x1024x1408_S4x1x1024x1408_d0 : FVec Ideal S4x1x1024x1408 .f32) = slots H U O := by
  funext i
  have e : ix4 (i 0) (0 : Fin 1) (i 2) (i 3) = i := funext fun a => match a with
    | ⟨0, _⟩ => rfl
    | ⟨1, _⟩ => Subsingleton.elim (α := Fin 1) _ _
    | ⟨2, _⟩ => rfl
    | ⟨3, _⟩ => rfl
  pointwise [slots, prod]
  by_cases h : (i 0 : ℕ) < 2
  · exact (dif_pos h).trans ((congrArg O e).trans (if_neg (by omega)).symm)
  · refine (dif_neg h).trans (Eq.trans ?_ (if_pos (by omega)).symm)
    exact Finset.sum_congr rfl fun k _ => mul_comm _ _

end Cert.DwUpIdeal.Value
-- ==== Proof.DwUpClaims.lean ====
module

public import proofs.«01_k».proof.Defs
public import proofs.«01_k».proof.Proof.DwUpArray
public import proofs.«01_k».proof.Proof.Gen.DwUp
public import proofs.«01_k».proof.Proof.Gen.DwUp.Frame
public import proofs.«01_k».proof.Proof.Gen.DwUpIdeal.Value
public import proofs.«01_k».proof.Proof.Gen.DwUpRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem dwUp_reference : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

theorem dwUp_algebraic : Cert.algebraic_DwUpIdeal_DwUpRefIdeal := by
  pair_intro
  · run_from Cert.DwUpIdeal.Value.run_blocks m g
  · run_from Cert.DwUpRefIdeal.Value.run m' g'
    refine (Cert.DwUpIdeal.Value.ref_eq _ _ _).trans ?_
    rw [(hagree c).2.2]
    exact (Cert.DwUpIdeal.Value.final2 m c).symm

end Cert.Proof
-- ==== Proof.AdamUpdate.lean ====
/- One number of the optimiser's update: the two moments and the step. -/
module

public import Idealize.ShloMosaic.PureOps.Ideal
public import proofs.«01_k».proof.Proof.Reals

@[expose] public section

noncomputable section

namespace Cert.Adam

open Idealize.ShloMosaic

/-- The new first moment of the old one and the gradient. -/
def first (m g : EReal) : EReal := Ideal.ofBits .f32 0x3F666666#32 * m + Ideal.ofBits .f32 0x3DCCCCCD#32 * g

/-- The new second moment of the old one and the gradient. -/
def second (v g : EReal) : EReal := Ideal.ofBits .f32 0x3F7FBE77#32 * v + Ideal.ofBits .f32 0x3A83126F#32 * (g * g)

/-- The step of a weight, of its two new moments over their corrections. -/
def step (a b w : EReal) : EReal :=
  Ideal.ofBits .f32 0xBA83126F#32
    * (Ideal.div a (Ideal.sqrt b + Ideal.ofBits .f32 0x322BCC77#32) + Ideal.ofBits .f32 0x3C23D70A#32 * w)

/-- The two corrections as fractions. -/
theorem ofBits_first : Ideal.ofBits .f32 0x3F26BD02#32 = (((5463681 : ℝ) / 8388608 : ℝ) : EReal) := by
  simp [Ideal.ofBits, Ideal.ieee, -EReal.coe_mul]; norm_num

theorem ofBits_second : Ideal.ofBits .f32 0x3C231ACC#32 = (((2672307 : ℝ) / 268435456 : ℝ) : EReal) := by
  simp [Ideal.ofBits, Ideal.ieee, -EReal.coe_mul]; norm_num

/-- Dividing by a correction multiplies by its inverse. -/
theorem div_first (x : EReal) : Ideal.div x (Ideal.ofBits .f32 0x3F26BD02#32) = x * ((8388608 / 5463681 : ℝ) : EReal) := by
  rw [ofBits_first, Ideal.div_coe (by norm_num)]; norm_num

theorem div_second (x : EReal) : Ideal.div x (Ideal.ofBits .f32 0x3C231ACC#32) = x * ((268435456 / 2672307 : ℝ) : EReal) := by
  rw [ofBits_second, Ideal.div_coe (by norm_num)]; norm_num

end Cert.Adam
-- ==== Proof.AdamSmallArray.lean ====
/- What the optimiser's call for a small weight leaves in its result arrays, and its reference's results. -/
module

public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pointwise
public import proofs.«01_k».proof.Proof.AdamUpdate

@[expose] public section

set_option maxRecDepth 16384

noncomputable section

namespace Cert.AdamSmallIdeal.Value

open Cert.AdamSmallIdeal Cert.AdamSmallIdeal.Gen Idealize.ShloMosaic Idealize.ShloMosaic.TcCoe Idealize.SL.Sem
open Idealize.ShloMosaic.Pipeline (Dat)
open Cert.Adam (first second step)

/-- An argument as one table of rows. -/
def flat (A : S2x12x64x64.Idx → EReal) : S1x1536x64.Idx → EReal :=
  shapeCast S1x1536x64 A Cert.AdamSmallRefIdeal.Gen.shapeCasts_S2x12x64x64_S1x1536x64

/-- The inverses of the two corrections. -/
def inv1 : EReal := ((8388608 / 5463681 : ℝ) : EReal)
def inv2 : EReal := ((268435456 / 2672307 : ℝ) : EReal)

/-- The results, of the weight, its gradient and its two moments. -/
def res5 (g m : S1x1536x64.Idx → EReal) : S1x1536x64.Idx → EReal := fun i => first (m i) (g i)
def res6 (g v : S1x1536x64.Idx → EReal) : S1x1536x64.Idx → EReal := fun i => second (v i) (g i)
def res4 (w g m v : S1x1536x64.Idx → EReal) : S1x1536x64.Idx → EReal :=
  fun i => step (res5 g m i * inv1) (res6 g v i * inv2) (w i)

theorem pay5 (g m : FVec Ideal S1x1536x64 .f32) (y : S1x1536x64.Idx) : k0_pay2 (k0_pay5 (F := Ideal) g m) y = res5 g m y := by
  pointwise [k0_pay2, k0_pay5, k0_pay4, res5, first]

theorem pay6 (g v : FVec Ideal S1x1536x64 .f32) (y : S1x1536x64.Idx) : k0_pay3 (k0_pay6 (F := Ideal) g v) y = res6 g v y := by
  pointwise [k0_pay3, k0_pay6, k0_pay4, res6, second]

theorem pay4 (w g m v : FVec Ideal S1x1536x64 .f32) (y : S1x1536x64.Idx) : k0_pay1 (k0_pay7 (F := Ideal) w g m v) y = res4 w g m v y := by
  pointwise [k0_pay1, k0_pay7, k0_pay6, k0_pay5, k0_pay4, Named.named, κ, Option.getD_some, res4, res5, res6, first, second, step, inv1, inv2]

variable (m : (ℓ : Loc nD τ sig) → Buf (Elt Ideal) ℓ) (c : Dev nD) (t : Fin cfg0.N)

/-- The call's arguments. -/
abbrev B0 : FVec Ideal S2x12x64x64 .f32 := m ((c : Thread nD τ).loc main_arg0)
abbrev B1 : FVec Ideal S2x12x64x64 .f32 := m ((c : Thread nD τ).loc main_arg1)
abbrev B2 : FVec Ideal S2x12x64x64 .f32 := m ((c : Thread nD τ).loc main_arg2)
abbrev B3 : FVec Ideal S2x12x64x64 .f32 := m ((c : Thread nD τ).loc main_arg3)

theorem spread (A : FVec Ideal S2x12x64x64 .f32) : (broadcastInDim S1x1536x64 ![1, 2] bcast_S1536x64_S1x1536x64_1_2
    (shapeCast S1536x64 A shapeCasts_S2x12x64x64_S1536x64) : FVec Ideal S1x1536x64 .f32) = flat A := by
  funext i
  pointwise [flat]

theorem V4 : V m c main_v4 = flat (B0 m c) := by entry_read; exact spread _
theorem V5 : V m c main_v5 = flat (B1 m c) := by entry_read; exact spread _
theorem V6 : V m c main_v6 = flat (B2 m c) := by entry_read; exact spread _
theorem V7 : V m c main_v7 = flat (B3 m c) := by entry_read; exact spread _

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

theorem blk0 : (iblk m c 0 t : FVec Ideal S1x1536x64 .f32) = flat (B0 m c) := by
  funext y; rw [← V4]; blk_ext! [iblk, idx t]
theorem blk1 : (iblk m c 1 t : FVec Ideal S1x1536x64 .f32) = flat (B1 m c) := by
  funext y; rw [← V5]; blk_ext! [iblk, idx t]
theorem blk2 : (iblk m c 2 t : FVec Ideal S1x1536x64 .f32) = flat (B2 m c) := by
  funext y; rw [← V6]; blk_ext! [iblk, idx t]
theorem blk3 : (iblk m c 3 t : FVec Ideal S1x1536x64 .f32) = flat (B3 m c) := by
  funext y; rw [← V7]; blk_ext! [iblk, idx t]

theorem emb4 (y : S1x1536x64.Idx) : (win0_4.blk t).view.emb y = y := by blk_ext! [idx t]
theorem emb5 (y : S1x1536x64.Idx) : (win0_5.blk t).view.emb y = y := by blk_ext! [idx t]
theorem emb6 (y : S1x1536x64.Idx) : (win0_6.blk t).view.emb y = y := by blk_ext! [idx t]

theorem final4 : (dats m 0 c).arrAt 4 (cfgs 0).N = res4 (flat (B0 m c)) (flat (B1 m c)) (flat (B2 m c)) (flat (B3 m c)) := by
  refine (dats m 0 c).arrAt_eq_of_covers 4 _ (by decide +kernel) fun t hf y => ?_
  blk_simp
  rw [after0_4]
  have key : out0_4 (iblk m c 0 t) (iblk m c 1 t) (iblk m c 2 t) (iblk m c 3 t)
      = k0_pay1 (k0_pay7 (F := Ideal) (iblk m c 0 t) (iblk m c 1 t) (iblk m c 2 t) (iblk m c 3 t)) := by frame_out
  rw [key]
  refine (pay4 _ _ _ _ _).trans ?_
  rw [blk0, blk1, blk2, blk3]
  exact (congrArg (res4 _ _ _ _) (emb4 t y)).symm

theorem final5 : (dats m 0 c).arrAt 5 (cfgs 0).N = res5 (flat (B1 m c)) (flat (B2 m c)) := by
  refine (dats m 0 c).arrAt_eq_of_covers 5 _ (by decide +kernel) fun t hf y => ?_
  blk_simp
  rw [after0_5]
  have key : out0_5 (iblk m c 0 t) (iblk m c 1 t) (iblk m c 2 t) (iblk m c 3 t)
      = k0_pay2 (k0_pay5 (F := Ideal) (iblk m c 1 t) (iblk m c 2 t)) := by frame_out
  rw [key]
  refine (pay5 _ _ _).trans ?_
  rw [blk1, blk2]
  exact (congrArg (res5 _ _) (emb5 t y)).symm

theorem final6 : (dats m 0 c).arrAt 6 (cfgs 0).N = res6 (flat (B1 m c)) (flat (B3 m c)) := by
  refine (dats m 0 c).arrAt_eq_of_covers 6 _ (by decide +kernel) fun t hf y => ?_
  blk_simp
  rw [after0_6]
  have key : out0_6 (iblk m c 0 t) (iblk m c 1 t) (iblk m c 2 t) (iblk m c 3 t)
      = k0_pay3 (k0_pay6 (F := Ideal) (iblk m c 1 t) (iblk m c 3 t)) := by frame_out
  rw [key]
  refine (pay6 _ _ _).trans ?_
  rw [blk1, blk3]
  exact (congrArg (res6 _ _) (emb6 t y)).symm

end Cert.AdamSmallIdeal.Value
-- ==== Proof.AdamSmallClaims.lean ====
module

public import proofs.«01_k».proof.Defs
public import proofs.«01_k».proof.Proof.AdamSmallArray
public import proofs.«01_k».proof.Proof.Gen.AdamSmall
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem adamSmall_reference : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

theorem adamSmall_algebraic : Cert.algebraic_AdamSmallIdeal_AdamSmallRefIdeal := by
  pair_intro
  · run_from Cert.AdamSmallIdeal.Value.run_blocks m g
  · run_from Cert.AdamSmallRefIdeal.Value.run m' g'
    · refine Eq.trans ?_ (Cert.AdamSmallIdeal.Value.final4 m c).symm
      funext i
      pointwise [Cert.AdamSmallIdeal.Value.flat, Cert.AdamSmallIdeal.Value.res4, Cert.AdamSmallIdeal.Value.res5,
        Cert.AdamSmallIdeal.Value.res6, Cert.AdamSmallIdeal.Value.inv1, Cert.AdamSmallIdeal.Value.inv2,
        Cert.Adam.first, Cert.Adam.second, Cert.Adam.step, Cert.Adam.div_first, Cert.Adam.div_second]
    · refine Eq.trans ?_ (Cert.AdamSmallIdeal.Value.final5 m c).symm
      funext i
      pointwise [Cert.AdamSmallIdeal.Value.flat, Cert.AdamSmallIdeal.Value.res5, Cert.Adam.first]
    · refine Eq.trans ?_ (Cert.AdamSmallIdeal.Value.final6 m c).symm
      funext i
      pointwise [Cert.AdamSmallIdeal.Value.flat, Cert.AdamSmallIdeal.Value.res6, Cert.Adam.second]

/-- The two named literals are the table's values. -/
theorem adamSmall_preserves : Cert.preserves_AdamSmall_AdamSmallIdeal :=
  ⟨IdealRules.named_const.statement _ _ _ _ _ rfl, IdealRules.named_const.statement _ _ _ _ _ rfl⟩

end Cert.Proof
-- ==== Proof.AdamLayerArray.lean ====
/- What the optimiser's call for one layer of a stacked weight leaves in its result arrays. -/
module

public import proofs.«01_k».proof.Proof.Gen.AdamLayerIdeal.Value
public import Idealize.ShloMosaic.Lib.Pipeline.ValueKit
public import Idealize.ShloMosaic.Lib.Pointwise
public import proofs.«01_k».proof.Proof.AdamUpdate

@[expose] public section

set_option maxRecDepth 16384

noncomputable section

namespace Cert.AdamLayerIdeal.Value

open Cert.AdamLayerIdeal Cert.AdamLayerIdeal.Gen Idealize.ShloMosaic Idealize.ShloMosaic.TcCoe Idealize.SL.Sem
open Idealize.ShloMosaic.Pipeline (Dat)
open Cert.Adam (first second step)

/-- The inverses of the two corrections. -/
def inv1 : EReal := ((8388608 / 5463681 : ℝ) : EReal)
def inv2 : EReal := ((268435456 / 2672307 : ℝ) : EReal)

/-- The step of a weight, of its gradient and its two old moments. -/
def delta (g w m v : EReal) : EReal := step (first m g * inv1) (second v g * inv2) w

/-- An array with its third layer replaced. -/
def layer (f : Fin 1024 → Fin 1408 → EReal) (O : S4x1024x1408.Idx → EReal) : S4x1024x1408.Idx → EReal :=
  fun i => if (i 0 : ℕ) = 2 then f (i 1) (i 2) else O i

theorem pay4 (g : FVec Ideal S1x256x1408 .f32) (y : S1x256x1408.Idx) : k0_pay5 (F := Ideal) g y = g y := by
  pointwise [k0_pay5, k0_pay4]

theorem pay5 (g w m v : FVec Ideal S1x256x1408 .f32) (y : S1x256x1408.Idx) :
    k0_pay1 (k0_pay8 (F := Ideal) g w m v) (k0_pay9 (F := Ideal)) y = delta (g y) (w y) (m y) (v y) := by
  pointwise [k0_pay1, k0_pay8, k0_pay9, k0_pay7, k0_pay6, k0_pay4, Named.named, κ, Option.getD_some, delta, first, second, step, inv1, inv2]

theorem pay6 (g m : FVec Ideal S1x256x1408 .f32) (y : S1x256x1408.Idx) : k0_pay2 (k0_pay6 (F := Ideal) g m) y = first (m y) (g y) := by
  pointwise [k0_pay2, k0_pay6, k0_pay4, first]

theorem pay7 (g v : FVec Ideal S1x256x1408 .f32) (y : S1x256x1408.Idx) : k0_pay3 (k0_pay7 (F := Ideal) g v) y = second (v y) (g y) := by
  pointwise [k0_pay3, k0_pay7, k0_pay4, second]

variable (m : (ℓ : Loc nD τ sig) → Buf (Elt Ideal) ℓ) (c : Dev nD) (t : Fin cfg0.N)

/-- The call's arguments: the stacked weight, the layer's gradient, the stacked moments, and what the results hold. -/
abbrev B0 : FVec Ideal S4x1024x1408 .f32 := m ((c : Thread nD τ).loc main_arg0)
abbrev B1 : FVec Ideal S1x1024x1408 .f32 := m ((c : Thread nD τ).loc main_arg1)
abbrev B2 : FVec Ideal S4x1024x1408 .f32 := m ((c : Thread nD τ).loc main_arg2)
abbrev B3 : FVec Ideal S4x1024x1408 .f32 := m ((c : Thread nD τ).loc main_arg3)
abbrev B4 : FVec Ideal S4x1024x1408 .f32 := m ((c : Thread nD τ).loc main_arg4)
abbrev B5 : FVec Ideal S4x1024x1408 .f32 := m ((c : Thread nD τ).loc main_arg5)
abbrev B6 : FVec Ideal S4x1024x1408 .f32 := m ((c : Thread nD τ).loc main_arg6)
abbrev B7 : FVec Ideal S4x1024x1408 .f32 := m ((c : Thread nD τ).loc main_arg7)

/-- The third layer's numbers. -/
abbrev wt (r : Fin 1024) (n : Fin 1408) : EReal := B0 m c (ix3 2 r n)
abbrev gr (r : Fin 1024) (n : Fin 1408) : EReal := B1 m c (ix3 0 r n)
abbrev mo (r : Fin 1024) (n : Fin 1408) : EReal := B2 m c (ix3 2 r n)
abbrev ve (r : Fin 1024) (n : Fin 1408) : EReal := B3 m c (ix3 2 r n)

theorem idx : ∀ t : Fin cfg0.N, win0_0.index t = ![2, t.val, 0] ∧ win0_1.index t = ![0, t.val, 0] ∧ win0_2.index t = ![2, t.val, 0]
    ∧ win0_3.index t = ![2, t.val, 0] ∧ win0_4.index t = ![2, t.val, 0] ∧ win0_5.index t = ![2, t.val, 0] ∧ win0_6.index t = ![2, t.val, 0]
    ∧ win0_7.index t = ![2, t.val, 0] :=
  (by decide +kernel : ∀ t : Fin grid0.N, _)

theorem lt4 : t.val < 4 := t.isLt

/-- Row `r` of block `t`. -/
abbrev row (r : Fin 256) : Fin 1024 := ⟨t.val * 256 + r.val, by have := lt4 t; omega⟩

theorem blk0 (y : S1x256x1408.Idx) : (iblk m c 0 t : FVec Ideal S1x256x1408 .f32) y = wt m c (row t (y 1)) (y 2) := by
  blk_ext! [iblk, V, idx t]
theorem blk1 (y : S1x256x1408.Idx) : (iblk m c 1 t : FVec Ideal S1x256x1408 .f32) y = gr m c (row t (y 1)) (y 2) := by
  blk_ext! [iblk, V, idx t]
theorem blk2 (y : S1x256x1408.Idx) : (iblk m c 2 t : FVec Ideal S1x256x1408 .f32) y = mo m c (row t (y 1)) (y 2) := by
  blk_ext! [iblk, V, idx t]
theorem blk3 (y : S1x256x1408.Idx) : (iblk m c 3 t : FVec Ideal S1x256x1408 .f32) y = ve m c (row t (y 1)) (y 2) := by
  blk_ext! [iblk, V, idx t]

/-- The new layer over all layers. -/
def over (f : Fin 1024 → Fin 1408 → EReal) : S4x1024x1408.Idx → EReal := fun i => f (i 1) (i 2)

theorem emb4 (y : S1x256x1408.Idx) : (win0_4.blk t).view.emb y = ix3 2 (row t (y 1)) (y 2) := by blk_ext! [idx t]
theorem emb5 (y : S1x256x1408.Idx) : (win0_5.blk t).view.emb y = ix3 2 (row t (y 1)) (y 2) := by blk_ext! [idx t]
theorem emb6 (y : S1x256x1408.Idx) : (win0_6.blk t).view.emb y = ix3 2 (row t (y 1)) (y 2) := by blk_ext! [idx t]
theorem emb7 (y : S1x256x1408.Idx) : (win0_7.blk t).view.emb y = ix3 2 (row t (y 1)) (y 2) := by blk_ext! [idx t]

theorem out4 (y : S1x256x1408.Idx) : ((outsAt0 m c t).1 : FVec Ideal S1x256x1408 .f32) y = over (gr m c) (ix3 2 (row t (y 1)) (y 2)) := by
  have key : (outsAt0 m c t).1 = k0_pay5 (F := Ideal) (iblk m c 1 t) := by
    unfold outsAt0
    frame_out
  rw [key]
  exact (pay4 _ y).trans (blk1 m c t y)

theorem final4 : (dats m 0 c).arrAt 4 (cfgs 0).N = layer (gr m c) (B4 m c) := by
  have e : V m c main_v0_0 = B4 m c := by entry_read; rfl
  have e' : layer (gr m c) (B4 m c) = fun i => if (i 0 : ℕ) = 2 then over (gr m c) i else V m c main_v0_0 i := by rw [e]; rfl
  rw [e']
  refine (dats m 0 c).arrAt_eq_of_coversWhere 4 (over (gr m c)) (fun β => (β 0 : ℕ) = 2) (by decide +kernel) (fun t hf y => ?_)
    (fun j => by blk_simp [Pipeline.Window.cell_apply]; omega)
  blk_simp
  rw [after0_4]
  exact (out4 m c t y).trans (congrArg (over (gr m c)) (emb4 t y)).symm

theorem out5 (y : S1x256x1408.Idx) : ((outsAt0 m c t).2.1 : FVec Ideal S1x256x1408 .f32) y = over (fun r n => delta (gr m c r n) (wt m c r n) (mo m c r n) (ve m c r n)) (ix3 2 (row t (y 1)) (y 2)) := by
  have key : (outsAt0 m c t).2.1 = k0_pay1 (k0_pay8 (F := Ideal) (iblk m c 1 t) (iblk m c 0 t) (iblk m c 2 t) (iblk m c 3 t)) (k0_pay9 (F := Ideal)) := by
    unfold outsAt0
    frame_out
  rw [key]
  exact (pay5 _ _ _ _ y).trans (by rw [blk0, blk1, blk2, blk3]; rfl)

theorem final5 : (dats m 0 c).arrAt 5 (cfgs 0).N = layer (fun r n => delta (gr m c r n) (wt m c r n) (mo m c r n) (ve m c r n)) (B5 m c) := by
  have e : V m c main_v0_1 = B5 m c := by entry_read; rfl
  have e' : layer (fun r n => delta (gr m c r n) (wt m c r n) (mo m c r n) (ve m c r n)) (B5 m c) = fun i => if (i 0 : ℕ) = 2 then over (fun r n => delta (gr m c r n) (wt m c r n) (mo m c r n) (ve m c r n)) i else V m c main_v0_1 i := by rw [e]; rfl
  rw [e']
  refine (dats m 0 c).arrAt_eq_of_coversWhere 5 (over (fun r n => delta (gr m c r n) (wt m c r n) (mo m c r n) (ve m c r n))) (fun β => (β 0 : ℕ) = 2) (by decide +kernel) (fun t hf y => ?_)
    (fun j => by blk_simp [Pipeline.Window.cell_apply]; omega)
  blk_simp
  rw [after0_5]
  exact (out5 m c t y).trans (congrArg (over (fun r n => delta (gr m c r n) (wt m c r n) (mo m c r n) (ve m c r n))) (emb5 t y)).symm

theorem out6 (y : S1x256x1408.Idx) : ((outsAt0 m c t).2.2.1 : FVec Ideal S1x256x1408 .f32) y = over (fun r n => first (mo m c r n) (gr m c r n)) (ix3 2 (row t (y 1)) (y 2)) := by
  have key : (outsAt0 m c t).2.2.1 = k0_pay2 (k0_pay6 (F := Ideal) (iblk m c 1 t) (iblk m c 2 t)) := by
    unfold outsAt0
    frame_out
  rw [key]
  exact (pay6 _ _ y).trans (by rw [blk1, blk2]; rfl)

theorem final6 : (dats m 0 c).arrAt 6 (cfgs 0).N = layer (fun r n => first (mo m c r n) (gr m c r n)) (B6 m c) := by
  have e : V m c main_v0_2 = B6 m c := by entry_read; rfl
  have e' : layer (fun r n => first (mo m c r n) (gr m c r n)) (B6 m c) = fun i => if (i 0 : ℕ) = 2 then over (fun r n => first (mo m c r n) (gr m c r n)) i else V m c main_v0_2 i := by rw [e]; rfl
  rw [e']
  refine (dats m 0 c).arrAt_eq_of_coversWhere 6 (over (fun r n => first (mo m c r n) (gr m c r n))) (fun β => (β 0 : ℕ) = 2) (by decide +kernel) (fun t hf y => ?_)
    (fun j => by blk_simp [Pipeline.Window.cell_apply]; omega)
  blk_simp
  rw [after0_6]
  exact (out6 m c t y).trans (congrArg (over (fun r n => first (mo m c r n) (gr m c r n))) (emb6 t y)).symm

theorem out7 (y : S1x256x1408.Idx) : ((outsAt0 m c t).2.2.2 : FVec Ideal S1x256x1408 .f32) y = over (fun r n => second (ve m c r n) (gr m c r n)) (ix3 2 (row t (y 1)) (y 2)) := by
  have key : (outsAt0 m c t).2.2.2 = k0_pay3 (k0_pay7 (F := Ideal) (iblk m c 1 t) (iblk m c 3 t)) := by
    unfold outsAt0
    frame_out
  rw [key]
  exact (pay7 _ _ y).trans (by rw [blk1, blk3]; rfl)

theorem final7 : (dats m 0 c).arrAt 7 (cfgs 0).N = layer (fun r n => second (ve m c r n) (gr m c r n)) (B7 m c) := by
  have e : V m c main_v0_3 = B7 m c := by entry_read; rfl
  have e' : layer (fun r n => second (ve m c r n) (gr m c r n)) (B7 m c) = fun i => if (i 0 : ℕ) = 2 then over (fun r n => second (ve m c r n) (gr m c r n)) i else V m c main_v0_3 i := by rw [e]; rfl
  rw [e']
  refine (dats m 0 c).arrAt_eq_of_coversWhere 7 (over (fun r n => second (ve m c r n) (gr m c r n))) (fun β => (β 0 : ℕ) = 2) (by decide +kernel) (fun t hf y => ?_)
    (fun j => by blk_simp [Pipeline.Window.cell_apply]; omega)
  blk_simp
  rw [after0_7]
  exact (out7 m c t y).trans (congrArg (over (fun r n => second (ve m c r n) (gr m c r n))) (emb7 t y)).symm

end Cert.AdamLayerIdeal.Value
-- ==== Proof.AdamLayerRef.lean ====
/- What the reference of the optimiser's call for one layer computes: an array with its third layer replaced. -/
module

public import proofs.«01_k».proof.Proof.AdamLayerArray
public import proofs.«01_k».proof.Proof.Gen.AdamLayerRefIdeal.Run

@[expose] public section

set_option maxRecDepth 16384

noncomputable section

namespace Cert.AdamLayerIdeal.Value

open Cert.AdamLayerRefIdeal Cert.AdamLayerRefIdeal.Gen Idealize.ShloMosaic Idealize.SL.Sem

/-- The layers before, a new layer, and the layer after. -/
abbrev joined (O : FVec Ideal S4x1024x1408 .f32) (L : FVec Ideal S1x1024x1408 .f32) : FVec Ideal S4x1024x1408 .f32 :=
  concatenate S4x1024x1408 0 [⟨S2x1024x1408, (extractStridedSlice S2x1024x1408 ![0, 0, 0] O slices_S4x1024x1408_S2x1024x1408_0_0_0 : (⟨S2x1024x1408, .f32⟩ : BufTy).Contents (Elt Ideal))⟩,
    ⟨S1x1024x1408, (L : (⟨S1x1024x1408, .f32⟩ : BufTy).Contents (Elt Ideal))⟩,
    ⟨S1x1024x1408, (extractStridedSlice S1x1024x1408 ![3, 0, 0] O slices_S4x1024x1408_S1x1024x1408_3_0_0 : (⟨S1x1024x1408, .f32⟩ : BufTy).Contents (Elt Ideal))⟩]
    concatenates_S2x1024x1408_S1x1024x1408_S1x1024x1408_S4x1024x1408_d0

theorem joined_eq (O : FVec Ideal S4x1024x1408 .f32) (L : FVec Ideal S1x1024x1408 .f32) (f : Fin 1024 → Fin 1408 → EReal)
    (h : ∀ r n, L (ix3 0 r n) = f r n) : joined O L = layer f O := by
  funext i
  pointwise [layer]
  have hi : (i 0 : ℕ) < 4 := (i 0).isLt
  by_cases h2 : (i 0 : ℕ) < 2
  · exact (dif_pos h2).trans (if_neg (by omega)).symm
  · refine (dif_neg h2).trans ?_
    by_cases h3 : (i 0 : ℕ) - 2 < 1
    · refine (dif_pos h3).trans (Eq.trans ?_ (if_pos (by omega)).symm)
      refine (congrArg L (congrArg (ix3 · (i 1) (i 2)) (Subsingleton.elim (α := Fin 1) _ 0))).trans (h _ _)
    · refine (dif_neg h3).trans (Eq.trans ?_ (if_neg (by omega)).symm)
      refine congrArg O (funext fun a => Fin.ext ?_)
      match a with
      | ⟨0, _⟩ => show 3 + ((i 0 : ℕ) - 2 - 1) = (i 0 : ℕ); omega
      | ⟨1, _⟩ => rfl
      | ⟨2, _⟩ => rfl

end Cert.AdamLayerIdeal.Value
-- ==== Proof.AdamLayerClaims.lean ====
module

public import proofs.«01_k».proof.Defs
public import proofs.«01_k».proof.Proof.AdamLayerRef
public import proofs.«01_k».proof.Proof.Gen.AdamLayer
public import proofs.«01_k».proof.Proof.Gen.AdamLayer.Frame
public import proofs.«01_k».proof.Proof.Gen.AdamLayerIdeal.Value
public import proofs.«01_k».proof.Proof.Gen.AdamLayerRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.AdamLayerIdeal.Value (joined_eq layer gr wt mo ve delta final4 final5 final6 final7 inv1 inv2)

theorem adamLayer_reference : Cert.quiescent_AdamLayerRefIdeal := fun m ρ _ =>
  (θ_run Cert.AdamLayerRefIdeal.defs _ _).mono (fun r h => ⟨fun c => (h c).2.2.2.2, sem_eq_zero_of_no_sems (by decide) r.2⟩)
    (Cert.AdamLayerRefIdeal.Value.run (F := Ideal) m ρ)

theorem adamLayer_algebraic : Cert.algebraic_AdamLayerIdeal_AdamLayerRefIdeal := by
  pair_intro
  · run_from Cert.AdamLayerIdeal.Value.run_blocks m g
  · run_from Cert.AdamLayerRefIdeal.Value.run m' g'
    · refine Eq.trans (joined_eq _ _ (gr m c) fun r n => ?_) (Eq.trans (congrArg (layer (gr m c)) (hagree c).2.2.2.2.1) (final4 m c).symm)
      exact congrFun (hagree c).2.1 _
    · refine Eq.trans (joined_eq _ _ (fun r n => delta (gr m c r n) (wt m c r n) (mo m c r n) (ve m c r n)) fun r n => ?_) (Eq.trans (congrArg (layer (fun r n => delta (gr m c r n) (wt m c r n) (mo m c r n) (ve m c r n))) (hagree c).2.2.2.2.2.1) (final5 m c).symm)
      pointwise [Cert.Adam.first, Cert.Adam.second, Cert.Adam.step, delta, inv1, inv2, Cert.Adam.div_first, Cert.Adam.div_second]
    · refine Eq.trans (joined_eq _ _ (fun r n => Cert.Adam.first (mo m c r n) (gr m c r n)) fun r n => ?_) (Eq.trans (congrArg (layer (fun r n => Cert.Adam.first (mo m c r n) (gr m c r n))) (hagree c).2.2.2.2.2.2.1) (final6 m c).symm)
      rw [(hagree c).2.1, (hagree c).2.2.1]
      pointwise [Cert.Adam.first]
    · refine Eq.trans (joined_eq _ _ (fun r n => Cert.Adam.second (ve m c r n) (gr m c r n)) fun r n => ?_) (Eq.trans (congrArg (layer (fun r n => Cert.Adam.second (ve m c r n) (gr m c r n))) (hagree c).2.2.2.2.2.2.2) (final7 m c).symm)
      rw [(hagree c).2.1, (hagree c).2.2.2.1]
      pointwise [Cert.Adam.second]
/-- The two named literals are the table's values. -/
theorem adamLayer_preserves : Cert.preserves_AdamLayer_AdamLayerIdeal :=
  ⟨IdealRules.named_const.statement _ _ _ _ _ rfl, IdealRules.named_const.statement _ _ _ _ _ rfl⟩

end Cert.Proof
-- ==== Proof.RsPairArray.lean ====
/- What the reduce-scatter's first sum leaves in its result arrays, on the device at the origin. -/
module

public import proofs.«01_k».proof.Proof.Gen.RsPairIdeal.Flash
public import Idealize.ShloMosaic.Lib.Pipeline.ValueKit
public import Idealize.ShloMosaic.Lib.Pointwise

@[expose] public section

set_option maxRecDepth 16384

noncomputable section

namespace Cert.RsPairIdeal.Value

open Cert.RsPairIdeal Cert.RsPairIdeal.Gen Idealize.ShloMosaic Idealize.ShloMosaic.TcCoe Idealize.SL.Sem
open Idealize.ShloMosaic.Pipeline (Dat)

theorem pay2 (g r : FVec Ideal S1x1x512x1408 .f32) (y : S1x1x512x1408.Idx) : k0_pay2 (F := Ideal) g r y = g y + r y := by
  pointwise [k0_pay2, k0_pay1]

theorem pay3 (g r : FVec Ideal S1x1x512x1408 .f32) (y : S1x512x1408.Idx) :
    k0_pay3 (F := Ideal) g r y = g (ix4 0 0 (y 1) (y 2)) + r (ix4 0 0 (y 1) (y 2)) := by
  pointwise [k0_pay3, k0_pay1]

variable (m : (ℓ : Loc nD τ sig) → Buf (Elt Ideal) ℓ) (ρ : Dev nD → PrngReg) (c : Dev nD) (t : Fin (cfgA 0).N)

/-- The call's arguments: this core's gradient and the half its sibling sent. -/
abbrev B1 : FVec Ideal S4x1x1024x1408 .f32 := m ((c : Thread nD τ).loc main_arg1)
abbrev B2 : FVec Ideal S4x1x512x1408 .f32 := m ((c : Thread nD τ).loc main_arg2)

/-- The sum over the pair, of the first half of the rows. -/
def pair (i : S4x1x512x1408.Idx) : EReal := B1 m c (ix4 (i 0) 0 (Fin.castLE (by decide) (i 2 : Fin 512)) (i 3)) + B2 m c i

theorem idx : ∀ t : Fin (cfgA 0).N, ((cfgA 0).win (0 : Fin 4)).index t = ![t.val, 0, 0, 0] ∧ ((cfgA 0).win (1 : Fin 4)).index t = ![t.val, 0, 0, 0]
    ∧ ((cfgA 0).win (2 : Fin 4)).index t = ![0, 0, 0] ∧ ((cfgA 0).win (3 : Fin 4)).index t = ![t.val, 0, 0, 0] :=
  (by decide +kernel : ∀ t : Fin (cfgA 0).N, ((cfgA 0).win (0 : Fin 4)).index t = ![t.val, 0, 0, 0] ∧ ((cfgA 0).win (1 : Fin 4)).index t = ![t.val, 0, 0, 0]
    ∧ ((cfgA 0).win (2 : Fin 4)).index t = ![0, 0, 0] ∧ ((cfgA 0).win (3 : Fin 4)).index t = ![t.val, 0, 0, 0])

/-- Only the first point's sum is stored in the chip's own slot. -/
theorem own : ∀ t : Fin (cfgA 0).N, P0_0 0 t ↔ t.val = 0 := by decide +kernel

theorem last : ∀ t : Fin (cfgA 0).N, ((cfgA 0).win (2 : Fin 4)).flush t = true → t.val = 3 := by decide +kernel

/-- The blocks a point reads. -/
abbrev mine : FVec Ideal S1x1x512x1408 .f32 := iblk 0 m ρ c (0 : Fin 4) t
abbrev sent : FVec Ideal S1x1x512x1408 .f32 := iblk 0 m ρ c (1 : Fin 4) t

/-- The row of the array a block's row is. -/
abbrev place (y : S1x1x512x1408.Idx) : S4x1x512x1408.Idx := ix4 t 0 (y 2) (y 3)

theorem mine_apply (y : S1x1x512x1408.Idx) : mine m ρ c t y = B1 m c (ix4 t 0 (Fin.castLE (by decide) (y 2 : Fin 512)) (y 3)) := by
  unfold mine; blk_ext! [iblk, idx t]; rfl
theorem sent_apply (y : S1x1x512x1408.Idx) : sent m ρ c t y = B2 m c (place t y) := by
  unfold sent; blk_ext! [iblk, idx t] <;> rfl

theorem blocks (y : S1x1x512x1408.Idx) : mine m ρ c t y + sent m ρ c t y = pair m c (place t y) := by
  rw [mine_apply, sent_apply]; rfl

theorem emb3 (y : S1x1x512x1408.Idx) : (((cfgA 0).win (3 : Fin 4)).blk t).view.emb y = place t y := by blk_ext! [idx t] <;> rfl
theorem emb2 (y : S1x512x1408.Idx) : (((cfgA 0).win (2 : Fin 4)).blk t).view.emb y = y := by blk_ext! [idx t]

theorem out3 (y : S1x1x512x1408.Idx) : (traj0 0 m ρ c t.val t.isLt).2 y = pair m c (place t y) := by
  refine Eq.trans ?_ ((pay2 (mine m ρ c t) (sent m ρ c t) y).trans (blocks m ρ c t y))
  rw [traj0_eq]
  by_cases q0 : P0_0 0 t
  · rw [step0_A 0 m ρ c t _ q0]
    frame_out
    rw [View.read_rep, View.read_rep]
  · rw [step0_B 0 m ρ c t _ q0]
    frame_out
    rw [View.read_rep, View.read_rep]

theorem out2 (h : t.val = 0) (y : S1x512x1408.Idx) : (traj0 0 m ρ c t.val t.isLt).1 y = pair m c (ix4 0 0 (y 1) (y 2)) := by
  have e : (ix4 0 0 (y 1) (y 2) : S4x1x512x1408.Idx) = place t (ix4 0 0 (y 1) (y 2)) := by
    have : t = (0 : Fin 4) := Fin.ext h
    rw [this]; rfl
  rw [e]
  refine Eq.trans ?_ ((pay3 (mine m ρ c t) (sent m ρ c t) y).trans (blocks m ρ c t _))
  rw [traj0_eq, step0_A 0 m ρ c t _ ((own t).2 h)]
  frame_out
  rw [View.read_rep, View.read_rep]

/-- After every point the own slot holds the first point's sum: the later points leave it. -/
theorem carried (y : S1x512x1408.Idx) : ∀ (n : ℕ) (h : n < (cfgA 0).N), (traj0 0 m ρ c n h).1 y = pair m c (ix4 0 0 (y 1) (y 2))
  | 0, h => out2 m ρ c ⟨0, h⟩ rfl y
  | n + 1, h => by
    have q0 : ¬P0_0 0 ⟨n + 1, h⟩ := fun q => Nat.succ_ne_zero n ((own _).1 q)
    have e := traj0_eq 0 m ρ c ⟨n + 1, h⟩
    rw [step0_B 0 m ρ c ⟨n + 1, h⟩ _ q0, if_neg (by rw [(sched0_B 0 ⟨n + 1, h⟩ q0).2.1]; decide)] at e
    exact (congrFun (congrArg Prod.fst e) y).trans (carried y n (Nat.lt_of_succ_lt h))

theorem final3 : (dats 0 m ρ 0 c).arrAt (3 : Fin 4) (cfgA 0).N = pair m c := by
  refine (dats 0 m ρ 0 c).arrAt_eq_of_covers (3 : Fin 4) _ (by decide +kernel) fun t hf y => ?_
  rw [emb3]
  blk_simp
  rw [after0_3]
  exact out3 m ρ c t y

theorem final2 : (dats 0 m ρ 0 c).arrAt (2 : Fin 4) (cfgA 0).N = fun i : S1x512x1408.Idx => pair m c (ix4 0 0 (i 1) (i 2)) := by
  refine (dats 0 m ρ 0 c).arrAt_eq_of_covers (2 : Fin 4) _ (by decide +kernel) fun t hf y => ?_
  rw [emb2]
  blk_simp
  rw [after0_2]
  exact carried m ρ c y t.val t.isLt

/-- The run, with both results as the sum over the pair. -/
theorem run_pair (hp : Pinned 0 m) : θ_run (defs (F := Ideal)) (onTc (τ := τ) (main (F := Ideal))) ⟨m, fun _ => 0, ρ⟩ fun r => ∀ c : Dev nD,
    r.2.mem ((c.tc : Thread nD τ).loc main_v0_0) = (fun i : S1x512x1408.Idx => pair m c (ix4 0 0 (i 1) (i 2)))
    ∧ r.2.mem ((c.tc : Thread nD τ).loc main_v0_1) = pair m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).1 (2 : Fin 4)).trans (final2 m ρ c), ((h c).1 (3 : Fin 4)).trans (final3 m ρ c), ((h c).2 0).trans (hp c).symm,
    ((h c).1 (0 : Fin 4)).trans ((dats 0 m ρ 0 c).arrAt_in (0 : Fin 4) rfl _), ((h c).1 (1 : Fin 4)).trans ((dats 0 m ρ 0 c).arrAt_in (1 : Fin 4) rfl _)⟩) (run_main 0 m ρ hp)

end Cert.RsPairIdeal.Value
-- ==== Proof.RsPairClaims.lean ====
module

public import proofs.«01_k».proof.Defs
public import proofs.«01_k».proof.Proof.RsPairArray
public import proofs.«01_k».proof.Proof.Gen.RsPair
public import proofs.«01_k».proof.Proof.Gen.RsPair.Flash
public import proofs.«01_k».proof.Proof.Gen.Pre_at_origin
public import proofs.«01_k».proof.Proof.Gen.RsPairRefIdeal.Run
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Proof

open Idealize.ShloMosaic Idealize.SL.Sem

/-- The precondition says that both words of the position are zero. -/
theorem at_origin_zero {F : FTy → Type} [FloatOps F] (pos : IVec Cert.Pre_at_origin.S2 32) (g : FVec F Cert.Pre_at_origin.S4x1x1024x1408 .f32)
    (r : FVec F Cert.Pre_at_origin.S4x1x512x1408 .f32) (h : Cert.Pre_at_origin.fn (F := F) pos g r = fun _ => 1#1) (x : Cert.Pre_at_origin.S2.Idx) :
    pos x = 0#32 :=
  IntOp.cmpi_eq.mp (congrFun h x)

theorem zeros (x : Cert.Pre_at_origin.S2.Idx) : (([0#32, 0#32] : List (BitVec 32)).getD ((x 0).val) 0#32) = 0#32 :=
  match x 0 with
  | ⟨0, _⟩ => rfl
  | ⟨1, _⟩ => rfl

theorem rsPair_pinned (m : (ℓ : Loc Cert.RsPair.nD Cert.RsPair.τ Cert.RsPair.sig) → Buf (Elt Bits) ℓ) (h : Cert.Pre_RsPair m) :
    Cert.RsPair.Gen.Pinned 0 m := fun c => funext fun x => (at_origin_zero _ _ _ (h c) x).trans (zeros x).symm

theorem rsPairIdeal_pinned (m : (ℓ : Loc Cert.RsPairIdeal.nD Cert.RsPairIdeal.τ Cert.RsPairIdeal.sig) → Buf (Elt Ideal) ℓ) (h : Cert.Pre_RsPairIdeal m) :
    Cert.RsPairIdeal.Gen.Pinned 0 m := fun c => funext fun x => (at_origin_zero _ _ _ (h c) x).trans (zeros x).symm

theorem rsPair_frame : Cert.quiescent_RsPair := fun m ρ h => Cert.RsPair.Gen.frame 0 m ρ (rsPair_pinned m h)

theorem rsPairIdeal_frame : Cert.quiescent_RsPairIdeal := fun m ρ h => Cert.RsPairIdeal.Gen.frame 0 m ρ (rsPairIdeal_pinned m h)

theorem rsPair_reference : Cert.quiescent_RsPairRefIdeal := fun m ρ _ =>
  (θ_run Cert.RsPairRefIdeal.defs _ _).mono (fun r h => ⟨fun c => (h c).2.2, sem_eq_zero_of_no_sems (by decide) r.2⟩)
    (Cert.RsPairRefIdeal.Value.run (F := Ideal) m ρ)

theorem rsPair_algebraic : Cert.algebraic_RsPairIdeal_RsPairRefIdeal := by
  pair_intro
  · run_from Cert.RsPairIdeal.Value.run_pair m g (rsPairIdeal_pinned m hpre)
  · have hz := fun c => at_origin_zero _ _ _ (hpre c)
    run_from Cert.RsPairRefIdeal.Value.run m' g'
    · funext i
      pointwise [Cert.RsPairIdeal.Value.pair, hz]
      rfl
    · funext i
      pointwise [Cert.RsPairIdeal.Value.pair, hz]
      rfl

end Cert.Proof
-- ==== Proof.lean ====
module

public import proofs.«01_k».proof.Defs
public import proofs.«01_k».proof.Proof.Gen.MemNorm
public import proofs.«01_k».proof.Proof.Gen.MemNormIdeal
public import proofs.«01_k».proof.Proof.Gen.MemNormRefIdeal
public import proofs.«01_k».proof.Proof.Gen.MemNorm.Frame
public import proofs.«01_k».proof.Proof.Gen.MemNormIdeal.Frame
public import proofs.«01_k».proof.Proof.MemNormClaims
public import proofs.«01_k».proof.Proof.Gen.MemAttn
public import proofs.«01_k».proof.Proof.Gen.MemAttnIdeal
public import proofs.«01_k».proof.Proof.Gen.MemAttnRefIdeal
public import proofs.«01_k».proof.Proof.Gen.MemAttn.Frame
public import proofs.«01_k».proof.Proof.Gen.MemAttnIdeal.Frame
public import proofs.«01_k».proof.Proof.MemAttnClaims
public import proofs.«01_k».proof.Proof.Gen.DkvCombine
public import proofs.«01_k».proof.Proof.Gen.DkvCombineIdeal
public import proofs.«01_k».proof.Proof.Gen.DkvCombineRefIdeal
public import proofs.«01_k».proof.Proof.Gen.DkvCombine.Frame
public import proofs.«01_k».proof.Proof.Gen.DkvCombineIdeal.Frame
public import proofs.«01_k».proof.Proof.DkvCombineClaims
public import proofs.«01_k».proof.Proof.Gen.Loss
public import proofs.«01_k».proof.Proof.Gen.LossIdeal
public import proofs.«01_k».proof.Proof.Gen.LossRefIdeal
public import proofs.«01_k».proof.Proof.Gen.Loss.Frame
public import proofs.«01_k».proof.Proof.Gen.LossIdeal.Frame
public import proofs.«01_k».proof.Proof.LossClaims
public import proofs.«01_k».proof.Proof.Gen.Swa
public import proofs.«01_k».proof.Proof.Gen.SwaIdeal
public import proofs.«01_k».proof.Proof.Gen.SwaRefIdeal
public import proofs.«01_k».proof.Proof.Gen.Swa.Frame
public import proofs.«01_k».proof.Proof.Gen.SwaIdeal.Frame
public import proofs.«01_k».proof.Proof.SwaClaims
public import proofs.«01_k».proof.Proof.Gen.Resid2
public import proofs.«01_k».proof.Proof.Gen.Resid2Ideal
public import proofs.«01_k».proof.Proof.Gen.Resid2RefIdeal
public import proofs.«01_k».proof.Proof.Gen.Resid2.Frame
public import proofs.«01_k».proof.Proof.Gen.Resid2Ideal.Frame
public import proofs.«01_k».proof.Proof.Resid2Claims
public import proofs.«01_k».proof.Proof.Gen.MixResid
public import proofs.«01_k».proof.Proof.Gen.MixResidIdeal
public import proofs.«01_k».proof.Proof.Gen.MixResidRefIdeal
public import proofs.«01_k».proof.Proof.Gen.MixResid.Frame
public import proofs.«01_k».proof.Proof.Gen.MixResidIdeal.Frame
public import proofs.«01_k».proof.Proof.MixResidClaims
public import proofs.«01_k».proof.Proof.Gen.InNorm
public import proofs.«01_k».proof.Proof.Gen.InNormIdeal
public import proofs.«01_k».proof.Proof.Gen.InNormRefIdeal
public import proofs.«01_k».proof.Proof.Gen.InNorm.Frame
public import proofs.«01_k».proof.Proof.Gen.InNormIdeal.Frame
public import proofs.«01_k».proof.Proof.InNormClaims
public import proofs.«01_k».proof.Proof.Gen.MemAttnA
public import proofs.«01_k».proof.Proof.Gen.MemAttnAIdeal
public import proofs.«01_k».proof.Proof.Gen.MemAttnARefIdeal
public import proofs.«01_k».proof.Proof.Gen.MemAttnA.Frame
public import proofs.«01_k».proof.Proof.Gen.MemAttnAIdeal.Frame
public import proofs.«01_k».proof.Proof.MemAttnAClaims
public import proofs.«01_k».proof.Proof.Gen.FfnAct
public import proofs.«01_k».proof.Proof.Gen.FfnActIdeal
public import proofs.«01_k».proof.Proof.Gen.FfnActRefIdeal
public import proofs.«01_k».proof.Proof.Gen.FfnAct.Frame
public import proofs.«01_k».proof.Proof.Gen.FfnActIdeal.Frame
public import proofs.«01_k».proof.Proof.FfnActClaims
public import proofs.«01_k».proof.Proof.Gen.SwaFwd
public import proofs.«01_k».proof.Proof.Gen.SwaFwdIdeal
public import proofs.«01_k».proof.Proof.Gen.SwaFwdRefIdeal
public import proofs.«01_k».proof.Proof.Gen.SwaFwd.Frame
public import proofs.«01_k».proof.Proof.Gen.SwaFwdIdeal.Frame
public import proofs.«01_k».proof.Proof.SwaFwdClaims
public import proofs.«01_k».proof.Proof.Gen.MemFwd
public import proofs.«01_k».proof.Proof.Gen.MemFwdIdeal
public import proofs.«01_k».proof.Proof.Gen.MemFwdRefIdeal
public import proofs.«01_k».proof.Proof.Gen.MemFwd.Frame
public import proofs.«01_k».proof.Proof.Gen.MemFwdIdeal.Frame
public import proofs.«01_k».proof.Proof.MemFwdClaims
public import proofs.«01_k».proof.Proof.Gen.MemFwdA
public import proofs.«01_k».proof.Proof.Gen.MemFwdAIdeal
public import proofs.«01_k».proof.Proof.Gen.MemFwdARefIdeal
public import proofs.«01_k».proof.Proof.Gen.MemFwdA.Frame
public import proofs.«01_k».proof.Proof.Gen.MemFwdAIdeal.Frame
public import proofs.«01_k».proof.Proof.MemFwdAClaims
public import proofs.«01_k».proof.Proof.Gen.NormFwd
public import proofs.«01_k».proof.Proof.Gen.NormFwdIdeal
public import proofs.«01_k».proof.Proof.Gen.NormFwdRefIdeal
public import proofs.«01_k».proof.Proof.Gen.NormFwd.Frame
public import proofs.«01_k».proof.Proof.Gen.NormFwdIdeal.Frame
public import proofs.«01_k».proof.Proof.NormFwdClaims
public import proofs.«01_k».proof.Proof.Gen.ResidFwd
public import proofs.«01_k».proof.Proof.Gen.ResidFwdIdeal
public import proofs.«01_k».proof.Proof.Gen.ResidFwdRefIdeal
public import proofs.«01_k».proof.Proof.Gen.ResidFwd.Frame
public import proofs.«01_k».proof.Proof.Gen.ResidFwdIdeal.Frame
public import proofs.«01_k».proof.Proof.ResidFwdClaims
public import proofs.«01_k».proof.Proof.Gen.Resid2Fwd
public import proofs.«01_k».proof.Proof.Gen.Resid2FwdIdeal
public import proofs.«01_k».proof.Proof.Gen.Resid2FwdRefIdeal
public import proofs.«01_k».proof.Proof.Gen.Resid2Fwd.Frame
public import proofs.«01_k».proof.Proof.Gen.Resid2FwdIdeal.Frame
public import proofs.«01_k».proof.Proof.Resid2FwdClaims
public import proofs.«01_k».proof.Proof.Gen.FfnFwd
public import proofs.«01_k».proof.Proof.Gen.FfnFwdIdeal
public import proofs.«01_k».proof.Proof.Gen.FfnFwdRefIdeal
public import proofs.«01_k».proof.Proof.Gen.FfnFwd.Frame
public import proofs.«01_k».proof.Proof.Gen.FfnFwdIdeal.Frame
public import proofs.«01_k».proof.Proof.FfnFwdClaims
public import proofs.«01_k».proof.Proof.Gen.FfnDown
public import proofs.«01_k».proof.Proof.Gen.FfnDownIdeal
public import proofs.«01_k».proof.Proof.Gen.FfnDownRefIdeal
public import proofs.«01_k».proof.Proof.Gen.FfnDown.Frame
public import proofs.«01_k».proof.Proof.Gen.FfnDownIdeal.Frame
public import proofs.«01_k».proof.Proof.FfnDownClaims
public import proofs.«01_k».proof.Proof.Gen.DAct
public import proofs.«01_k».proof.Proof.Gen.DActIdeal
public import proofs.«01_k».proof.Proof.Gen.DActRefIdeal
public import proofs.«01_k».proof.Proof.Gen.DAct.Frame
public import proofs.«01_k».proof.Proof.Gen.DActIdeal.Frame
public import proofs.«01_k».proof.Proof.DActClaims
public import proofs.«01_k».proof.Proof.Gen.DwDown
public import proofs.«01_k».proof.Proof.Gen.DwDownIdeal
public import proofs.«01_k».proof.Proof.Gen.DwDownRefIdeal
public import proofs.«01_k».proof.Proof.Gen.DwDown.Frame
public import proofs.«01_k».proof.Proof.Gen.DwDownIdeal.Frame
public import proofs.«01_k».proof.Proof.DwDownClaims
public import proofs.«01_k».proof.Proof.Gen.FfnUp
public import proofs.«01_k».proof.Proof.Gen.FfnUpIdeal
public import proofs.«01_k».proof.Proof.Gen.FfnUpRefIdeal
public import proofs.«01_k».proof.Proof.Gen.FfnUp.Frame
public import proofs.«01_k».proof.Proof.Gen.FfnUpIdeal.Frame
public import proofs.«01_k».proof.Proof.FfnUpClaims
public import proofs.«01_k».proof.Proof.Gen.DH2
public import proofs.«01_k».proof.Proof.Gen.DH2Ideal
public import proofs.«01_k».proof.Proof.Gen.DH2RefIdeal
public import proofs.«01_k».proof.Proof.Gen.DH2.Frame
public import proofs.«01_k».proof.Proof.Gen.DH2Ideal.Frame
public import proofs.«01_k».proof.Proof.DH2Claims
public import proofs.«01_k».proof.Proof.Gen.DwUp
public import proofs.«01_k».proof.Proof.Gen.DwUpIdeal
public import proofs.«01_k».proof.Proof.Gen.DwUpRefIdeal
public import proofs.«01_k».proof.Proof.Gen.DwUp.Frame
public import proofs.«01_k».proof.Proof.Gen.DwUpIdeal.Frame
public import proofs.«01_k».proof.Proof.DwUpClaims
public import proofs.«01_k».proof.Proof.Gen.AdamSmall
public import proofs.«01_k».proof.Proof.Gen.AdamSmallIdeal
public import proofs.«01_k».proof.Proof.Gen.AdamSmallRefIdeal
public import proofs.«01_k».proof.Proof.Gen.AdamSmall.Frame
public import proofs.«01_k».proof.Proof.Gen.AdamSmallIdeal.Frame
public import proofs.«01_k».proof.Proof.AdamSmallClaims
public import proofs.«01_k».proof.Proof.Gen.AdamLayer
public import proofs.«01_k».proof.Proof.Gen.AdamLayerIdeal
public import proofs.«01_k».proof.Proof.Gen.AdamLayerRefIdeal
public import proofs.«01_k».proof.Proof.Gen.AdamLayer.Frame
public import proofs.«01_k».proof.Proof.Gen.AdamLayerIdeal.Frame
public import proofs.«01_k».proof.Proof.AdamLayerClaims
public import proofs.«01_k».proof.Proof.Gen.RsPair
public import proofs.«01_k».proof.Proof.Gen.RsPairIdeal
public import proofs.«01_k».proof.Proof.Gen.RsPairRefIdeal
public import proofs.«01_k».proof.Proof.Gen.RsPair.Flash
public import proofs.«01_k».proof.Proof.Gen.RsPairIdeal.Flash
public import proofs.«01_k».proof.Proof.RsPairClaims
public import proofs.«01_k».proof.Proof.Gen.Pre_finite_mem_attn
public import proofs.«01_k».proof.Proof.Gen.Pre_finite_loss
public import proofs.«01_k».proof.Proof.Gen.Pre_finite_swa
public import proofs.«01_k».proof.Proof.Gen.Pre_finite_resid2
public import proofs.«01_k».proof.Proof.Gen.Pre_finite_mix_resid
public import proofs.«01_k».proof.Proof.Gen.Pre_finite_in_norm
public import proofs.«01_k».proof.Proof.Gen.Pre_finite_mem_attn_a
public import proofs.«01_k».proof.Proof.Gen.Pre_finite_ffn_act
public import proofs.«01_k».proof.Proof.Gen.Pre_finite_swa_fwd
public import proofs.«01_k».proof.Proof.Gen.Pre_finite_ffn_fwd
public import proofs.«01_k».proof.Proof.Gen.Pre_at_origin

@[expose] public section

noncomputable section

namespace Cert.Proof

open Idealize.ShloMosaic Idealize.SL.Sem

theorem claim : Cert.Claim := ⟨Cert.MemNorm.Gen.facts, Cert.MemNormIdeal.Gen.facts, Cert.MemNormRefIdeal.Gen.facts,
  Cert.MemAttn.Gen.facts, Cert.MemAttnIdeal.Gen.facts, Cert.MemAttnRefIdeal.Gen.facts,
  Cert.DkvCombine.Gen.facts, Cert.DkvCombineIdeal.Gen.facts, Cert.DkvCombineRefIdeal.Gen.facts,
  Cert.Loss.Gen.facts, Cert.LossIdeal.Gen.facts, Cert.LossRefIdeal.Gen.facts,
  Cert.Swa.Gen.facts, Cert.SwaIdeal.Gen.facts, Cert.SwaRefIdeal.Gen.facts,
  Cert.Resid2.Gen.facts, Cert.Resid2Ideal.Gen.facts, Cert.Resid2RefIdeal.Gen.facts,
  Cert.MixResid.Gen.facts, Cert.MixResidIdeal.Gen.facts, Cert.MixResidRefIdeal.Gen.facts,
  Cert.InNorm.Gen.facts, Cert.InNormIdeal.Gen.facts, Cert.InNormRefIdeal.Gen.facts,
  Cert.MemAttnA.Gen.facts, Cert.MemAttnAIdeal.Gen.facts, Cert.MemAttnARefIdeal.Gen.facts,
  Cert.FfnAct.Gen.facts, Cert.FfnActIdeal.Gen.facts, Cert.FfnActRefIdeal.Gen.facts,
  Cert.SwaFwd.Gen.facts, Cert.SwaFwdIdeal.Gen.facts, Cert.SwaFwdRefIdeal.Gen.facts,
  Cert.MemFwd.Gen.facts, Cert.MemFwdIdeal.Gen.facts, Cert.MemFwdRefIdeal.Gen.facts,
  Cert.MemFwdA.Gen.facts, Cert.MemFwdAIdeal.Gen.facts, Cert.MemFwdARefIdeal.Gen.facts,
  Cert.NormFwd.Gen.facts, Cert.NormFwdIdeal.Gen.facts, Cert.NormFwdRefIdeal.Gen.facts,
  Cert.ResidFwd.Gen.facts, Cert.ResidFwdIdeal.Gen.facts, Cert.ResidFwdRefIdeal.Gen.facts,
  Cert.Resid2Fwd.Gen.facts, Cert.Resid2FwdIdeal.Gen.facts, Cert.Resid2FwdRefIdeal.Gen.facts,
  Cert.FfnFwd.Gen.facts, Cert.FfnFwdIdeal.Gen.facts, Cert.FfnFwdRefIdeal.Gen.facts,
  Cert.FfnDown.Gen.facts, Cert.FfnDownIdeal.Gen.facts, Cert.FfnDownRefIdeal.Gen.facts,
  Cert.DAct.Gen.facts, Cert.DActIdeal.Gen.facts, Cert.DActRefIdeal.Gen.facts,
  Cert.DwDown.Gen.facts, Cert.DwDownIdeal.Gen.facts, Cert.DwDownRefIdeal.Gen.facts,
  Cert.FfnUp.Gen.facts, Cert.FfnUpIdeal.Gen.facts, Cert.FfnUpRefIdeal.Gen.facts,
  Cert.DH2.Gen.facts, Cert.DH2Ideal.Gen.facts, Cert.DH2RefIdeal.Gen.facts,
  Cert.DwUp.Gen.facts, Cert.DwUpIdeal.Gen.facts, Cert.DwUpRefIdeal.Gen.facts,
  Cert.AdamSmall.Gen.facts, Cert.AdamSmallIdeal.Gen.facts, Cert.AdamSmallRefIdeal.Gen.facts,
  Cert.AdamLayer.Gen.facts, Cert.AdamLayerIdeal.Gen.facts, Cert.AdamLayerRefIdeal.Gen.facts,
  Cert.RsPair.Gen.facts, Cert.RsPairIdeal.Gen.facts, Cert.RsPairRefIdeal.Gen.facts,
  Cert.Pre_finite_mem_attn.Gen.facts, Cert.Pre_finite_loss.Gen.facts, Cert.Pre_finite_swa.Gen.facts,
  Cert.Pre_finite_resid2.Gen.facts, Cert.Pre_finite_mix_resid.Gen.facts, Cert.Pre_finite_in_norm.Gen.facts,
  Cert.Pre_finite_mem_attn_a.Gen.facts, Cert.Pre_finite_ffn_act.Gen.facts, Cert.Pre_finite_swa_fwd.Gen.facts,
  Cert.Pre_finite_ffn_fwd.Gen.facts, Cert.Pre_at_origin.Gen.facts,
  fun m ρ _ => Cert.MemNorm.Gen.frame m ρ, fun m ρ _ => Cert.MemNormIdeal.Gen.frame m ρ, memNorm_reference,
  fun m ρ _ => Cert.MemAttn.Gen.frame m ρ, fun m ρ _ => Cert.MemAttnIdeal.Gen.frame m ρ, fun m ρ _ => Cert.MemAttnIdeal.Gen.frame m ρ, memAttn_reference, fun m ρ _ => memAttn_reference m ρ trivial,
  fun m ρ _ => Cert.DkvCombine.Gen.frame m ρ, fun m ρ _ => Cert.DkvCombineIdeal.Gen.frame m ρ, dkvCombine_reference,
  fun m ρ _ => Cert.Loss.Gen.frame m ρ, fun m ρ _ => Cert.LossIdeal.Gen.frame m ρ, fun m ρ _ => Cert.LossIdeal.Gen.frame m ρ, loss_reference, fun m ρ _ => loss_reference m ρ trivial,
  fun m ρ _ => Cert.Swa.Gen.frame m ρ, fun m ρ _ => Cert.SwaIdeal.Gen.frame m ρ, fun m ρ _ => Cert.SwaIdeal.Gen.frame m ρ, swa_reference, fun m ρ _ => swa_reference m ρ trivial,
  fun m ρ _ => Cert.Resid2.Gen.frame m ρ, fun m ρ _ => Cert.Resid2Ideal.Gen.frame m ρ, fun m ρ _ => Cert.Resid2Ideal.Gen.frame m ρ, resid2_reference, fun m ρ _ => resid2_reference m ρ trivial,
  fun m ρ _ => Cert.MixResid.Gen.frame m ρ, fun m ρ _ => Cert.MixResidIdeal.Gen.frame m ρ, fun m ρ _ => Cert.MixResidIdeal.Gen.frame m ρ, mixResid_reference, fun m ρ _ => mixResid_reference m ρ trivial,
  fun m ρ _ => Cert.InNorm.Gen.frame m ρ, fun m ρ _ => Cert.InNormIdeal.Gen.frame m ρ, fun m ρ _ => Cert.InNormIdeal.Gen.frame m ρ, inNorm_reference, fun m ρ _ => inNorm_reference m ρ trivial,
  fun m ρ _ => Cert.MemAttnA.Gen.frame m ρ, fun m ρ _ => Cert.MemAttnAIdeal.Gen.frame m ρ, fun m ρ _ => Cert.MemAttnAIdeal.Gen.frame m ρ, memAttnA_reference, fun m ρ _ => memAttnA_reference m ρ trivial,
  fun m ρ _ => Cert.FfnAct.Gen.frame m ρ, fun m ρ _ => Cert.FfnActIdeal.Gen.frame m ρ, fun m ρ _ => Cert.FfnActIdeal.Gen.frame m ρ, ffnAct_reference, fun m ρ _ => ffnAct_reference m ρ trivial,
  fun m ρ _ => Cert.SwaFwd.Gen.frame m ρ, fun m ρ _ => Cert.SwaFwdIdeal.Gen.frame m ρ, fun m ρ _ => Cert.SwaFwdIdeal.Gen.frame m ρ, swaFwd_reference, fun m ρ _ => swaFwd_reference m ρ trivial,
  fun m ρ _ => Cert.MemFwd.Gen.frame m ρ, fun m ρ _ => Cert.MemFwdIdeal.Gen.frame m ρ, memFwd_reference,
  fun m ρ _ => Cert.MemFwdA.Gen.frame m ρ, fun m ρ _ => Cert.MemFwdAIdeal.Gen.frame m ρ, memFwdA_reference,
  fun m ρ _ => Cert.NormFwd.Gen.frame m ρ, fun m ρ _ => Cert.NormFwdIdeal.Gen.frame m ρ, normFwd_reference,
  fun m ρ _ => Cert.ResidFwd.Gen.frame m ρ, fun m ρ _ => Cert.ResidFwdIdeal.Gen.frame m ρ, residFwd_reference,
  fun m ρ _ => Cert.Resid2Fwd.Gen.frame m ρ, fun m ρ _ => Cert.Resid2FwdIdeal.Gen.frame m ρ, resid2Fwd_reference,
  fun m ρ _ => Cert.FfnFwd.Gen.frame m ρ, fun m ρ _ => Cert.FfnFwdIdeal.Gen.frame m ρ, fun m ρ _ => Cert.FfnFwdIdeal.Gen.frame m ρ, ffnFwd_reference, fun m ρ _ => ffnFwd_reference m ρ trivial,
  fun m ρ _ => Cert.FfnDown.Gen.frame m ρ, fun m ρ _ => Cert.FfnDownIdeal.Gen.frame m ρ, ffnDown_reference,
  fun m ρ _ => Cert.DAct.Gen.frame m ρ, fun m ρ _ => Cert.DActIdeal.Gen.frame m ρ, dAct_reference,
  fun m ρ _ => Cert.DwDown.Gen.frame m ρ, fun m ρ _ => Cert.DwDownIdeal.Gen.frame m ρ, dwDown_reference,
  fun m ρ _ => Cert.FfnUp.Gen.frame m ρ, fun m ρ _ => Cert.FfnUpIdeal.Gen.frame m ρ, ffnUp_reference,
  fun m ρ _ => Cert.DH2.Gen.frame m ρ, fun m ρ _ => Cert.DH2Ideal.Gen.frame m ρ, dH2_reference,
  fun m ρ _ => Cert.DwUp.Gen.frame m ρ, fun m ρ _ => Cert.DwUpIdeal.Gen.frame m ρ, dwUp_reference,
  fun m ρ _ => Cert.AdamSmall.Gen.frame m ρ, fun m ρ _ => Cert.AdamSmallIdeal.Gen.frame m ρ, adamSmall_reference,
  fun m ρ _ => Cert.AdamLayer.Gen.frame m ρ, fun m ρ _ => Cert.AdamLayerIdeal.Gen.frame m ρ, adamLayer_reference,
  rsPair_frame, rsPairIdeal_frame, rsPair_reference, fun m ρ _ => rsPair_reference m ρ trivial,
  trivial, memNorm_algebraic,
  trivial, memAttn_algebraic,
  trivial, dkvCombine_algebraic,
  trivial, loss_algebraic,
  trivial, swa_algebraic,
  trivial, resid2_algebraic,
  trivial, mixResid_algebraic,
  trivial, inNorm_algebraic,
  trivial, memAttnA_algebraic,
  ffnAct_preserves, ffnAct_algebraic,
  trivial, swaFwd_algebraic,
  trivial, memFwd_algebraic,
  trivial, memFwdA_algebraic,
  trivial, normFwd_algebraic,
  trivial, residFwd_algebraic,
  trivial, resid2Fwd_algebraic,
  ffnFwd_preserves, ffnFwd_algebraic,
  trivial, ffnDown_algebraic,
  trivial, dAct_algebraic,
  trivial, dwDown_algebraic,
  trivial, ffnUp_algebraic,
  trivial, dH2_algebraic,
  trivial, dwUp_algebraic,
  adamSmall_preserves, adamSmall_algebraic,
  adamLayer_preserves, adamLayer_algebraic,
  trivial, rsPair_algebraic⟩

end Cert.Proof

end
